-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_finite2 [hPre_finite2 : Cert.Pre_finite2.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1))) = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_finite2 [hPre_finite2 : Cert.Pre_finite2.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1))) = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Kernel14Ideal_finite14 [hPre_finite14 : Cert.Pre_finite14.Facts] (m : (ℓ : Loc Cert.Kernel14Ideal.nD Cert.Kernel14Ideal.τ Cert.Kernel14Ideal.sig) → Buf (Elt Ideal) ℓ) : Prop :=
  ∀ c : Dev Cert.Kernel14Ideal.nD,
    (Cert.Pre_finite14.fn (F := Ideal) (m ((c.tc : Thread Cert.Kernel14Ideal.nD Cert.Kernel14Ideal.τ).loc Cert.Kernel14Ideal.main_arg0)) (m ((c.tc : Thread Cert.Kernel14Ideal.nD Cert.Kernel14Ideal.τ).loc Cert.Kernel14Ideal.main_arg1)) (m ((c.tc : Thread Cert.Kernel14Ideal.nD Cert.Kernel14Ideal.τ).loc Cert.Kernel14Ideal.main_arg2)) (m ((c.tc : Thread Cert.Kernel14Ideal.nD Cert.Kernel14Ideal.τ).loc Cert.Kernel14Ideal.main_arg3)) (m ((c.tc : Thread Cert.Kernel14Ideal.nD Cert.Kernel14Ideal.τ).loc Cert.Kernel14Ideal.main_arg4))) = (fun _ => 1#1)

def Pre_Reference14Ideal (m : (ℓ : Loc Cert.Reference14Ideal.nD Cert.Reference14Ideal.τ Cert.Reference14Ideal.sig) → Buf (Elt Ideal) ℓ) : Prop :=
  True

def Pre_Reference14Ideal_finite14 [hPre_finite14 : Cert.Pre_finite14.Facts] (m : (ℓ : Loc Cert.Reference14Ideal.nD Cert.Reference14Ideal.τ Cert.Reference14Ideal.sig) → Buf (Elt Ideal) ℓ) : Prop :=
  ∀ c : Dev Cert.Reference14Ideal.nD,
    (Cert.Pre_finite14.fn (F := Ideal) (m ((c.tc : Thread Cert.Reference14Ideal.nD Cert.Reference14Ideal.τ).loc Cert.Reference14Ideal.main_arg0)) (m ((c.tc : Thread Cert.Reference14Ideal.nD Cert.Reference14Ideal.τ).loc Cert.Reference14Ideal.main_arg1)) (m ((c.tc : Thread Cert.Reference14Ideal.nD Cert.Reference14Ideal.τ).loc Cert.Reference14Ideal.main_arg2)) (m ((c.tc : Thread Cert.Reference14Ideal.nD Cert.Reference14Ideal.τ).loc Cert.Reference14Ideal.main_arg3)) (m ((c.tc : Thread Cert.Reference14Ideal.nD Cert.Reference14Ideal.τ).loc Cert.Reference14Ideal.main_arg4))) = (fun _ => 1#1)

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Kernel15Ideal_finite15 [hPre_finite15 : Cert.Pre_finite15.Facts] (m : (ℓ : Loc Cert.Kernel15Ideal.nD Cert.Kernel15Ideal.τ Cert.Kernel15Ideal.sig) → Buf (Elt Ideal) ℓ) : Prop :=
  ∀ c : Dev Cert.Kernel15Ideal.nD,
    (Cert.Pre_finite15.fn (F := Ideal) (m ((c.tc : Thread Cert.Kernel15Ideal.nD Cert.Kernel15Ideal.τ).loc Cert.Kernel15Ideal.main_arg0)) (m ((c.tc : Thread Cert.Kernel15Ideal.nD Cert.Kernel15Ideal.τ).loc Cert.Kernel15Ideal.main_arg1)) (m ((c.tc : Thread Cert.Kernel15Ideal.nD Cert.Kernel15Ideal.τ).loc Cert.Kernel15Ideal.main_arg2)) (m ((c.tc : Thread Cert.Kernel15Ideal.nD Cert.Kernel15Ideal.τ).loc Cert.Kernel15Ideal.main_arg3)) (m ((c.tc : Thread Cert.Kernel15Ideal.nD Cert.Kernel15Ideal.τ).loc Cert.Kernel15Ideal.main_arg4))) = (fun _ => 1#1)

def Pre_Reference15Ideal (m : (ℓ : Loc Cert.Reference15Ideal.nD Cert.Reference15Ideal.τ Cert.Reference15Ideal.sig) → Buf (Elt Ideal) ℓ) : Prop :=
  True

def Pre_Reference15Ideal_finite15 [hPre_finite15 : Cert.Pre_finite15.Facts] (m : (ℓ : Loc Cert.Reference15Ideal.nD Cert.Reference15Ideal.τ Cert.Reference15Ideal.sig) → Buf (Elt Ideal) ℓ) : Prop :=
  ∀ c : Dev Cert.Reference15Ideal.nD,
    (Cert.Pre_finite15.fn (F := Ideal) (m ((c.tc : Thread Cert.Reference15Ideal.nD Cert.Reference15Ideal.τ).loc Cert.Reference15Ideal.main_arg0)) (m ((c.tc : Thread Cert.Reference15Ideal.nD Cert.Reference15Ideal.τ).loc Cert.Reference15Ideal.main_arg1)) (m ((c.tc : Thread Cert.Reference15Ideal.nD Cert.Reference15Ideal.τ).loc Cert.Reference15Ideal.main_arg2)) (m ((c.tc : Thread Cert.Reference15Ideal.nD Cert.Reference15Ideal.τ).loc Cert.Reference15Ideal.main_arg3)) (m ((c.tc : Thread Cert.Reference15Ideal.nD Cert.Reference15Ideal.τ).loc Cert.Reference15Ideal.main_arg4))) = (fun _ => 1#1)

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Kernel16Ideal_finite16 [hPre_finite16 : Cert.Pre_finite16.Facts] (m : (ℓ : Loc Cert.Kernel16Ideal.nD Cert.Kernel16Ideal.τ Cert.Kernel16Ideal.sig) → Buf (Elt Ideal) ℓ) : Prop :=
  ∀ c : Dev Cert.Kernel16Ideal.nD,
    (Cert.Pre_finite16.fn (F := Ideal) (m ((c.tc : Thread Cert.Kernel16Ideal.nD Cert.Kernel16Ideal.τ).loc Cert.Kernel16Ideal.main_arg0)) (m ((c.tc : Thread Cert.Kernel16Ideal.nD Cert.Kernel16Ideal.τ).loc Cert.Kernel16Ideal.main_arg1)) (m ((c.tc : Thread Cert.Kernel16Ideal.nD Cert.Kernel16Ideal.τ).loc Cert.Kernel16Ideal.main_arg2)) (m ((c.tc : Thread Cert.Kernel16Ideal.nD Cert.Kernel16Ideal.τ).loc Cert.Kernel16Ideal.main_arg3)) (m ((c.tc : Thread Cert.Kernel16Ideal.nD Cert.Kernel16Ideal.τ).loc Cert.Kernel16Ideal.main_arg4))) = (fun _ => 1#1)

def Pre_Reference16Ideal (m : (ℓ : Loc Cert.Reference16Ideal.nD Cert.Reference16Ideal.τ Cert.Reference16Ideal.sig) → Buf (Elt Ideal) ℓ) : Prop :=
  True

def Pre_Reference16Ideal_finite16 [hPre_finite16 : Cert.Pre_finite16.Facts] (m : (ℓ : Loc Cert.Reference16Ideal.nD Cert.Reference16Ideal.τ Cert.Reference16Ideal.sig) → Buf (Elt Ideal) ℓ) : Prop :=
  ∀ c : Dev Cert.Reference16Ideal.nD,
    (Cert.Pre_finite16.fn (F := Ideal) (m ((c.tc : Thread Cert.Reference16Ideal.nD Cert.Reference16Ideal.τ).loc Cert.Reference16Ideal.main_arg0)) (m ((c.tc : Thread Cert.Reference16Ideal.nD Cert.Reference16Ideal.τ).loc Cert.Reference16Ideal.main_arg1)) (m ((c.tc : Thread Cert.Reference16Ideal.nD Cert.Reference16Ideal.τ).loc Cert.Reference16Ideal.main_arg2)) (m ((c.tc : Thread Cert.Reference16Ideal.nD Cert.Reference16Ideal.τ).loc Cert.Reference16Ideal.main_arg3)) (m ((c.tc : Thread Cert.Reference16Ideal.nD Cert.Reference16Ideal.τ).loc Cert.Reference16Ideal.main_arg4))) = (fun _ => 1#1)

def Pre_Kernel17 (m : (ℓ : Loc Cert.Kernel17.nD Cert.Kernel17.τ Cert.Kernel17.sig) → Buf (Elt Bits) ℓ) : Prop :=
  True

def Pre_Kernel17Ideal (m : (ℓ : Loc Cert.Kernel17Ideal.nD Cert.Kernel17Ideal.τ Cert.Kernel17Ideal.sig) → Buf (Elt Ideal) ℓ) : Prop :=
  True

def Pre_Reference17Ideal (m : (ℓ : Loc Cert.Reference17Ideal.nD Cert.Reference17Ideal.τ Cert.Reference17Ideal.sig) → Buf (Elt Ideal) ℓ) : Prop :=
  True

def Pre_Kernel18 (m : (ℓ : Loc Cert.Kernel18.nD Cert.Kernel18.τ Cert.Kernel18.sig) → Buf (Elt Bits) ℓ) : Prop :=
  True

def Pre_Kernel18Ideal (m : (ℓ : Loc Cert.Kernel18Ideal.nD Cert.Kernel18Ideal.τ Cert.Kernel18Ideal.sig) → Buf (Elt Ideal) ℓ) : Prop :=
  True

def Pre_Kernel18Ideal_finite18 [hPre_finite18 : Cert.Pre_finite18.Facts] (m : (ℓ : Loc Cert.Kernel18Ideal.nD Cert.Kernel18Ideal.τ Cert.Kernel18Ideal.sig) → Buf (Elt Ideal) ℓ) : Prop :=
  ∀ c : Dev Cert.Kernel18Ideal.nD,
    (Cert.Pre_finite18.fn (F := Ideal) (m ((c.tc : Thread Cert.Kernel18Ideal.nD Cert.Kernel18Ideal.τ).loc Cert.Kernel18Ideal.main_arg0)) (m ((c.tc : Thread Cert.Kernel18Ideal.nD Cert.Kernel18Ideal.τ).loc Cert.Kernel18Ideal.main_arg1)) (m ((c.tc : Thread Cert.Kernel18Ideal.nD Cert.Kernel18Ideal.τ).loc Cert.Kernel18Ideal.main_arg2))) = (fun _ => 1#1)

def Pre_Reference18Ideal (m : (ℓ : Loc Cert.Reference18Ideal.nD Cert.Reference18Ideal.τ Cert.Reference18Ideal.sig) → Buf (Elt Ideal) ℓ) : Prop :=
  True

def Pre_Reference18Ideal_finite18 [hPre_finite18 : Cert.Pre_finite18.Facts] (m : (ℓ : Loc Cert.Reference18Ideal.nD Cert.Reference18Ideal.τ Cert.Reference18Ideal.sig) → Buf (Elt Ideal) ℓ) : Prop :=
  ∀ c : Dev Cert.Reference18Ideal.nD,
    (Cert.Pre_finite18.fn (F := Ideal) (m ((c.tc : Thread Cert.Reference18Ideal.nD Cert.Reference18Ideal.τ).loc Cert.Reference18Ideal.main_arg0)) (m ((c.tc : Thread Cert.Reference18Ideal.nD Cert.Reference18Ideal.τ).loc Cert.Reference18Ideal.main_arg1)) (m ((c.tc : Thread Cert.Reference18Ideal.nD Cert.Reference18Ideal.τ).loc Cert.Reference18Ideal.main_arg2))) = (fun _ => 1#1)

def Pre_Kernel19 (m : (ℓ : Loc Cert.Kernel19.nD Cert.Kernel19.τ Cert.Kernel19.sig) → Buf (Elt Bits) ℓ) : Prop :=
  True

def Pre_Kernel19Ideal (m : (ℓ : Loc Cert.Kernel19Ideal.nD Cert.Kernel19Ideal.τ Cert.Kernel19Ideal.sig) → Buf (Elt Ideal) ℓ) : Prop :=
  True

def Pre_Reference19Ideal (m : (ℓ : Loc Cert.Reference19Ideal.nD Cert.Reference19Ideal.τ Cert.Reference19Ideal.sig) → Buf (Elt Ideal) ℓ) : Prop :=
  True

def Pre_Kernel20 (m : (ℓ : Loc Cert.Kernel20.nD Cert.Kernel20.τ Cert.Kernel20.sig) → Buf (Elt Bits) ℓ) : Prop :=
  True

def Pre_Kernel20Ideal (m : (ℓ : Loc Cert.Kernel20Ideal.nD Cert.Kernel20Ideal.τ Cert.Kernel20Ideal.sig) → Buf (Elt Ideal) ℓ) : Prop :=
  True

def Pre_Kernel20Ideal_finite20 [hPre_finite20 : Cert.Pre_finite20.Facts] (m : (ℓ : Loc Cert.Kernel20Ideal.nD Cert.Kernel20Ideal.τ Cert.Kernel20Ideal.sig) → Buf (Elt Ideal) ℓ) : Prop :=
  ∀ c : Dev Cert.Kernel20Ideal.nD,
    (Cert.Pre_finite20.fn (F := Ideal) (m ((c.tc : Thread Cert.Kernel20Ideal.nD Cert.Kernel20Ideal.τ).loc Cert.Kernel20Ideal.main_arg0)) (m ((c.tc : Thread Cert.Kernel20Ideal.nD Cert.Kernel20Ideal.τ).loc Cert.Kernel20Ideal.main_arg1)) (m ((c.tc : Thread Cert.Kernel20Ideal.nD Cert.Kernel20Ideal.τ).loc Cert.Kernel20Ideal.main_arg2))) = (fun _ => 1#1)

def Pre_Reference20Ideal (m : (ℓ : Loc Cert.Reference20Ideal.nD Cert.Reference20Ideal.τ Cert.Reference20Ideal.sig) → Buf (Elt Ideal) ℓ) : Prop :=
  True

def Pre_Reference20Ideal_finite20 [hPre_finite20 : Cert.Pre_finite20.Facts] (m : (ℓ : Loc Cert.Reference20Ideal.nD Cert.Reference20Ideal.τ Cert.Reference20Ideal.sig) → Buf (Elt Ideal) ℓ) : Prop :=
  ∀ c : Dev Cert.Reference20Ideal.nD,
    (Cert.Pre_finite20.fn (F := Ideal) (m ((c.tc : Thread Cert.Reference20Ideal.nD Cert.Reference20Ideal.τ).loc Cert.Reference20Ideal.main_arg0)) (m ((c.tc : Thread Cert.Reference20Ideal.nD Cert.Reference20Ideal.τ).loc Cert.Reference20Ideal.main_arg1)) (m ((c.tc : Thread Cert.Reference20Ideal.nD Cert.Reference20Ideal.τ).loc Cert.Reference20Ideal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ r.2.sem = fun _ => 0)

def quiescent_Kernel2Ideal_pre_finite2 [hKernel2Ideal : Cert.Kernel2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_finite2 m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1))
      ∧ r.2.sem = fun _ => 0)

def quiescent_Reference2Ideal_pre_finite2 [hReference2Ideal : Cert.Reference2Ideal.Facts] [hPre_finite2 : Cert.Pre_finite2.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_finite2 m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1)
      ∧ r.2.mem ((c.tc : Thread Cert.Kernel13.nD Cert.Kernel13.τ).loc Cert.Kernel13.main_arg2) = m ((c.tc : Thread Cert.Kernel13.nD Cert.Kernel13.τ).loc Cert.Kernel13.main_arg2))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
      ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1)
      ∧ r.2.mem ((c.tc : Thread Cert.Reference13Ideal.nD Cert.Reference13Ideal.τ).loc Cert.Reference13Ideal.main_arg2) = m ((c.tc : Thread Cert.Reference13Ideal.nD Cert.Reference13Ideal.τ).loc Cert.Reference13Ideal.main_arg2))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1)
      ∧ r.2.mem ((c.tc : Thread Cert.Kernel14.nD Cert.Kernel14.τ).loc Cert.Kernel14.main_arg2) = m ((c.tc : Thread Cert.Kernel14.nD Cert.Kernel14.τ).loc Cert.Kernel14.main_arg2)
      ∧ r.2.mem ((c.tc : Thread Cert.Kernel14.nD Cert.Kernel14.τ).loc Cert.Kernel14.main_arg3) = m ((c.tc : Thread Cert.Kernel14.nD Cert.Kernel14.τ).loc Cert.Kernel14.main_arg3)
      ∧ r.2.mem ((c.tc : Thread Cert.Kernel14.nD Cert.Kernel14.τ).loc Cert.Kernel14.main_arg4) = m ((c.tc : Thread Cert.Kernel14.nD Cert.Kernel14.τ).loc Cert.Kernel14.main_arg4))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
      ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
      ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3)
      ∧ r.2.mem ((c.tc : Thread Cert.Kernel14Ideal.nD Cert.Kernel14Ideal.τ).loc Cert.Kernel14Ideal.main_arg4) = m ((c.tc : Thread Cert.Kernel14Ideal.nD Cert.Kernel14Ideal.τ).loc Cert.Kernel14Ideal.main_arg4))
      ∧ r.2.sem = fun _ => 0)

def quiescent_Kernel14Ideal_pre_finite14 [hKernel14Ideal : Cert.Kernel14Ideal.Facts] [hPre_finite14 : Cert.Pre_finite14.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal_finite14 m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
      ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
      ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3)
      ∧ r.2.mem ((c.tc : Thread Cert.Kernel14Ideal.nD Cert.Kernel14Ideal.τ).loc Cert.Kernel14Ideal.main_arg4) = m ((c.tc : Thread Cert.Kernel14Ideal.nD Cert.Kernel14Ideal.τ).loc Cert.Kernel14Ideal.main_arg4))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1)
      ∧ r.2.mem ((c.tc : Thread Cert.Reference14Ideal.nD Cert.Reference14Ideal.τ).loc Cert.Reference14Ideal.main_arg2) = m ((c.tc : Thread Cert.Reference14Ideal.nD Cert.Reference14Ideal.τ).loc Cert.Reference14Ideal.main_arg2)
      ∧ r.2.mem ((c.tc : Thread Cert.Reference14Ideal.nD Cert.Reference14Ideal.τ).loc Cert.Reference14Ideal.main_arg3) = m ((c.tc : Thread Cert.Reference14Ideal.nD Cert.Reference14Ideal.τ).loc Cert.Reference14Ideal.main_arg3)
      ∧ r.2.mem ((c.tc : Thread Cert.Reference14Ideal.nD Cert.Reference14Ideal.τ).loc Cert.Reference14Ideal.main_arg4) = m ((c.tc : Thread Cert.Reference14Ideal.nD Cert.Reference14Ideal.τ).loc Cert.Reference14Ideal.main_arg4))
      ∧ r.2.sem = fun _ => 0)

def quiescent_Reference14Ideal_pre_finite14 [hReference14Ideal : Cert.Reference14Ideal.Facts] [hPre_finite14 : Cert.Pre_finite14.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal_finite14 m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1)
      ∧ r.2.mem ((c.tc : Thread Cert.Reference14Ideal.nD Cert.Reference14Ideal.τ).loc Cert.Reference14Ideal.main_arg2) = m ((c.tc : Thread Cert.Reference14Ideal.nD Cert.Reference14Ideal.τ).loc Cert.Reference14Ideal.main_arg2)
      ∧ r.2.mem ((c.tc : Thread Cert.Reference14Ideal.nD Cert.Reference14Ideal.τ).loc Cert.Reference14Ideal.main_arg3) = m ((c.tc : Thread Cert.Reference14Ideal.nD Cert.Reference14Ideal.τ).loc Cert.Reference14Ideal.main_arg3)
      ∧ r.2.mem ((c.tc : Thread Cert.Reference14Ideal.nD Cert.Reference14Ideal.τ).loc Cert.Reference14Ideal.main_arg4) = m ((c.tc : Thread Cert.Reference14Ideal.nD Cert.Reference14Ideal.τ).loc Cert.Reference14Ideal.main_arg4))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1)
      ∧ r.2.mem ((c.tc : Thread Cert.Kernel15.nD Cert.Kernel15.τ).loc Cert.Kernel15.main_arg2) = m ((c.tc : Thread Cert.Kernel15.nD Cert.Kernel15.τ).loc Cert.Kernel15.main_arg2)
      ∧ r.2.mem ((c.tc : Thread Cert.Kernel15.nD Cert.Kernel15.τ).loc Cert.Kernel15.main_arg3) = m ((c.tc : Thread Cert.Kernel15.nD Cert.Kernel15.τ).loc Cert.Kernel15.main_arg3)
      ∧ r.2.mem ((c.tc : Thread Cert.Kernel15.nD Cert.Kernel15.τ).loc Cert.Kernel15.main_arg4) = m ((c.tc : Thread Cert.Kernel15.nD Cert.Kernel15.τ).loc Cert.Kernel15.main_arg4))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
      ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
      ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3)
      ∧ r.2.mem ((c.tc : Thread Cert.Kernel15Ideal.nD Cert.Kernel15Ideal.τ).loc Cert.Kernel15Ideal.main_arg4) = m ((c.tc : Thread Cert.Kernel15Ideal.nD Cert.Kernel15Ideal.τ).loc Cert.Kernel15Ideal.main_arg4))
      ∧ r.2.sem = fun _ => 0)

def quiescent_Kernel15Ideal_pre_finite15 [hKernel15Ideal : Cert.Kernel15Ideal.Facts] [hPre_finite15 : Cert.Pre_finite15.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal_finite15 m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
      ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
      ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3)
      ∧ r.2.mem ((c.tc : Thread Cert.Kernel15Ideal.nD Cert.Kernel15Ideal.τ).loc Cert.Kernel15Ideal.main_arg4) = m ((c.tc : Thread Cert.Kernel15Ideal.nD Cert.Kernel15Ideal.τ).loc Cert.Kernel15Ideal.main_arg4))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1)
      ∧ r.2.mem ((c.tc : Thread Cert.Reference15Ideal.nD Cert.Reference15Ideal.τ).loc Cert.Reference15Ideal.main_arg2) = m ((c.tc : Thread Cert.Reference15Ideal.nD Cert.Reference15Ideal.τ).loc Cert.Reference15Ideal.main_arg2)
      ∧ r.2.mem ((c.tc : Thread Cert.Reference15Ideal.nD Cert.Reference15Ideal.τ).loc Cert.Reference15Ideal.main_arg3) = m ((c.tc : Thread Cert.Reference15Ideal.nD Cert.Reference15Ideal.τ).loc Cert.Reference15Ideal.main_arg3)
      ∧ r.2.mem ((c.tc : Thread Cert.Reference15Ideal.nD Cert.Reference15Ideal.τ).loc Cert.Reference15Ideal.main_arg4) = m ((c.tc : Thread Cert.Reference15Ideal.nD Cert.Reference15Ideal.τ).loc Cert.Reference15Ideal.main_arg4))
      ∧ r.2.sem = fun _ => 0)

def quiescent_Reference15Ideal_pre_finite15 [hReference15Ideal : Cert.Reference15Ideal.Facts] [hPre_finite15 : Cert.Pre_finite15.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal_finite15 m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1)
      ∧ r.2.mem ((c.tc : Thread Cert.Reference15Ideal.nD Cert.Reference15Ideal.τ).loc Cert.Reference15Ideal.main_arg2) = m ((c.tc : Thread Cert.Reference15Ideal.nD Cert.Reference15Ideal.τ).loc Cert.Reference15Ideal.main_arg2)
      ∧ r.2.mem ((c.tc : Thread Cert.Reference15Ideal.nD Cert.Reference15Ideal.τ).loc Cert.Reference15Ideal.main_arg3) = m ((c.tc : Thread Cert.Reference15Ideal.nD Cert.Reference15Ideal.τ).loc Cert.Reference15Ideal.main_arg3)
      ∧ r.2.mem ((c.tc : Thread Cert.Reference15Ideal.nD Cert.Reference15Ideal.τ).loc Cert.Reference15Ideal.main_arg4) = m ((c.tc : Thread Cert.Reference15Ideal.nD Cert.Reference15Ideal.τ).loc Cert.Reference15Ideal.main_arg4))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1)
      ∧ r.2.mem ((c.tc : Thread Cert.Kernel16.nD Cert.Kernel16.τ).loc Cert.Kernel16.main_arg2) = m ((c.tc : Thread Cert.Kernel16.nD Cert.Kernel16.τ).loc Cert.Kernel16.main_arg2)
      ∧ r.2.mem ((c.tc : Thread Cert.Kernel16.nD Cert.Kernel16.τ).loc Cert.Kernel16.main_arg3) = m ((c.tc : Thread Cert.Kernel16.nD Cert.Kernel16.τ).loc Cert.Kernel16.main_arg3)
      ∧ r.2.mem ((c.tc : Thread Cert.Kernel16.nD Cert.Kernel16.τ).loc Cert.Kernel16.main_arg4) = m ((c.tc : Thread Cert.Kernel16.nD Cert.Kernel16.τ).loc Cert.Kernel16.main_arg4))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
      ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2)
      ∧ r.2.mem ((c.tc : Thread Cert.Kernel16Ideal.nD Cert.Kernel16Ideal.τ).loc Cert.Kernel16Ideal.main_arg3) = m ((c.tc : Thread Cert.Kernel16Ideal.nD Cert.Kernel16Ideal.τ).loc Cert.Kernel16Ideal.main_arg3)
      ∧ r.2.mem ((c.tc : Thread Cert.Kernel16Ideal.nD Cert.Kernel16Ideal.τ).loc Cert.Kernel16Ideal.main_arg4) = m ((c.tc : Thread Cert.Kernel16Ideal.nD Cert.Kernel16Ideal.τ).loc Cert.Kernel16Ideal.main_arg4))
      ∧ r.2.sem = fun _ => 0)

def quiescent_Kernel16Ideal_pre_finite16 [hKernel16Ideal : Cert.Kernel16Ideal.Facts] [hPre_finite16 : Cert.Pre_finite16.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal_finite16 m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
      ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2)
      ∧ r.2.mem ((c.tc : Thread Cert.Kernel16Ideal.nD Cert.Kernel16Ideal.τ).loc Cert.Kernel16Ideal.main_arg3) = m ((c.tc : Thread Cert.Kernel16Ideal.nD Cert.Kernel16Ideal.τ).loc Cert.Kernel16Ideal.main_arg3)
      ∧ r.2.mem ((c.tc : Thread Cert.Kernel16Ideal.nD Cert.Kernel16Ideal.τ).loc Cert.Kernel16Ideal.main_arg4) = m ((c.tc : Thread Cert.Kernel16Ideal.nD Cert.Kernel16Ideal.τ).loc Cert.Kernel16Ideal.main_arg4))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1)
      ∧ r.2.mem ((c.tc : Thread Cert.Reference16Ideal.nD Cert.Reference16Ideal.τ).loc Cert.Reference16Ideal.main_arg2) = m ((c.tc : Thread Cert.Reference16Ideal.nD Cert.Reference16Ideal.τ).loc Cert.Reference16Ideal.main_arg2)
      ∧ r.2.mem ((c.tc : Thread Cert.Reference16Ideal.nD Cert.Reference16Ideal.τ).loc Cert.Reference16Ideal.main_arg3) = m ((c.tc : Thread Cert.Reference16Ideal.nD Cert.Reference16Ideal.τ).loc Cert.Reference16Ideal.main_arg3)
      ∧ r.2.mem ((c.tc : Thread Cert.Reference16Ideal.nD Cert.Reference16Ideal.τ).loc Cert.Reference16Ideal.main_arg4) = m ((c.tc : Thread Cert.Reference16Ideal.nD Cert.Reference16Ideal.τ).loc Cert.Reference16Ideal.main_arg4))
      ∧ r.2.sem = fun _ => 0)

def quiescent_Reference16Ideal_pre_finite16 [hReference16Ideal : Cert.Reference16Ideal.Facts] [hPre_finite16 : Cert.Pre_finite16.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal_finite16 m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1)
      ∧ r.2.mem ((c.tc : Thread Cert.Reference16Ideal.nD Cert.Reference16Ideal.τ).loc Cert.Reference16Ideal.main_arg2) = m ((c.tc : Thread Cert.Reference16Ideal.nD Cert.Reference16Ideal.τ).loc Cert.Reference16Ideal.main_arg2)
      ∧ r.2.mem ((c.tc : Thread Cert.Reference16Ideal.nD Cert.Reference16Ideal.τ).loc Cert.Reference16Ideal.main_arg3) = m ((c.tc : Thread Cert.Reference16Ideal.nD Cert.Reference16Ideal.τ).loc Cert.Reference16Ideal.main_arg3)
      ∧ r.2.mem ((c.tc : Thread Cert.Reference16Ideal.nD Cert.Reference16Ideal.τ).loc Cert.Reference16Ideal.main_arg4) = m ((c.tc : Thread Cert.Reference16Ideal.nD Cert.Reference16Ideal.τ).loc Cert.Reference16Ideal.main_arg4))
      ∧ r.2.sem = fun _ => 0)

def quiescent_Kernel17 [hKernel17 : Cert.Kernel17.Facts] : Prop :=
  ∀ (m : (ℓ : Loc Cert.Kernel17.nD Cert.Kernel17.τ Cert.Kernel17.sig) → Buf (Elt Bits) ℓ) (g : Dev Cert.Kernel17.nD → PrngReg), Pre_Kernel17 m →
    θ_run (Cert.Kernel17.defs (F := Bits)) (onTc (τ := Cert.Kernel17.τ) (Cert.Kernel17.main (F := Bits))) ⟨m, fun _ => 0, g⟩ (fun r => (∀ c : Dev Cert.Kernel17.nD,
      r.2.mem ((c.tc : Thread Cert.Kernel17.nD Cert.Kernel17.τ).loc Cert.Kernel17.main_arg0) = m ((c.tc : Thread Cert.Kernel17.nD Cert.Kernel17.τ).loc Cert.Kernel17.main_arg0)
      ∧ r.2.mem ((c.tc : Thread Cert.Kernel17.nD Cert.Kernel17.τ).loc Cert.Kernel17.main_arg1) = m ((c.tc : Thread Cert.Kernel17.nD Cert.Kernel17.τ).loc Cert.Kernel17.main_arg1))
      ∧ r.2.sem = fun _ => 0)

def quiescent_Kernel17Ideal [hKernel17Ideal : Cert.Kernel17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg), Pre_Kernel17Ideal m →
    θ_run (Cert.Kernel17Ideal.defs (F := Ideal)) (onTc (τ := Cert.Kernel17Ideal.τ) (Cert.Kernel17Ideal.main (F := Ideal))) ⟨m, fun _ => 0, g⟩ (fun r => (∀ c : Dev Cert.Kernel17Ideal.nD,
      r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
      ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1))
      ∧ r.2.sem = fun _ => 0)

def quiescent_Reference17Ideal [hReference17Ideal : Cert.Reference17Ideal.Facts] : Prop :=
  ∀ (m : (ℓ : Loc Cert.Reference17Ideal.nD Cert.Reference17Ideal.τ Cert.Reference17Ideal.sig) → Buf (Elt Ideal) ℓ) (g : Dev Cert.Reference17Ideal.nD → PrngReg), Pre_Reference17Ideal m →
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0)
      ∧ r.2.mem ((c.tc : Thread Cert.Reference17Ideal.nD Cert.Reference17Ideal.τ).loc Cert.Reference17Ideal.main_arg1) = m ((c.tc : Thread Cert.Reference17Ideal.nD Cert.Reference17Ideal.τ).loc Cert.Reference17Ideal.main_arg1))
      ∧ r.2.sem = fun _ => 0)

def quiescent_Kernel18 [hKernel18 : Cert.Kernel18.Facts] : Prop :=
  ∀ (m : (ℓ : Loc Cert.Kernel18.nD Cert.Kernel18.τ Cert.Kernel18.sig) → Buf (Elt Bits) ℓ) (g : Dev Cert.Kernel18.nD → PrngReg), Pre_Kernel18 m →
    θ_run (Cert.Kernel18.defs (F := Bits)) (onTc (τ := Cert.Kernel18.τ) (Cert.Kernel18.main (F := Bits))) ⟨m, fun _ => 0, g⟩ (fun r => (∀ c : Dev Cert.Kernel18.nD,
      r.2.mem ((c.tc : Thread Cert.Kernel18.nD Cert.Kernel18.τ).loc Cert.Kernel18.main_arg0) = m ((c.tc : Thread Cert.Kernel18.nD Cert.Kernel18.τ).loc Cert.Kernel18.main_arg0)
      ∧ r.2.mem ((c.tc : Thread Cert.Kernel18.nD Cert.Kernel18.τ).loc Cert.Kernel18.main_arg1) = m ((c.tc : Thread Cert.Kernel18.nD Cert.Kernel18.τ).loc Cert.Kernel18.main_arg1)
      ∧ r.2.mem ((c.tc : Thread Cert.Kernel18.nD Cert.Kernel18.τ).loc Cert.Kernel18.main_arg2) = m ((c.tc : Thread Cert.Kernel18.nD Cert.Kernel18.τ).loc Cert.Kernel18.main_arg2))
      ∧ r.2.sem = fun _ => 0)

def quiescent_Kernel18Ideal [hKernel18Ideal : Cert.Kernel18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg), Pre_Kernel18Ideal m →
    θ_run (Cert.Kernel18Ideal.defs (F := Ideal)) (onTc (τ := Cert.Kernel18Ideal.τ) (Cert.Kernel18Ideal.main (F := Ideal))) ⟨m, fun _ => 0, g⟩ (fun r => (∀ c : Dev Cert.Kernel18Ideal.nD,
      r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
      ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
      ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2))
      ∧ r.2.sem = fun _ => 0)

def quiescent_Kernel18Ideal_pre_finite18 [hKernel18Ideal : Cert.Kernel18Ideal.Facts] [hPre_finite18 : Cert.Pre_finite18.Facts] : Prop :=
  ∀ (m : (ℓ : Loc Cert.Kernel18Ideal.nD Cert.Kernel18Ideal.τ Cert.Kernel18Ideal.sig) → Buf (Elt Ideal) ℓ) (g : Dev Cert.Kernel18Ideal.nD → PrngReg), Pre_Kernel18Ideal_finite18 m →
    θ_run (Cert.Kernel18Ideal.defs (F := Ideal)) (onTc (τ := Cert.Kernel18Ideal.τ) (Cert.Kernel18Ideal.main (F := Ideal))) ⟨m, fun _ => 0, g⟩ (fun r => (∀ c : Dev Cert.Kernel18Ideal.nD,
      r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
      ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
      ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2))
      ∧ r.2.sem = fun _ => 0)

def quiescent_Reference18Ideal [hReference18Ideal : Cert.Reference18Ideal.Facts] : Prop :=
  ∀ (m : (ℓ : Loc Cert.Reference18Ideal.nD Cert.Reference18Ideal.τ Cert.Reference18Ideal.sig) → Buf (Elt Ideal) ℓ) (g : Dev Cert.Reference18Ideal.nD → PrngReg), Pre_Reference18Ideal m →
    θ_run (Cert.Reference18Ideal.defs (F := Ideal)) (onTc (τ := Cert.Reference18Ideal.τ) (Cert.Reference18Ideal.main (F := Ideal))) ⟨m, fun _ => 0, g⟩ (fun r => (∀ c : Dev Cert.Reference18Ideal.nD,
      r.2.mem ((c.tc : Thread Cert.Reference18Ideal.nD Cert.Reference18Ideal.τ).loc Cert.Reference18Ideal.main_arg0) = m ((c.tc : Thread Cert.Reference18Ideal.nD Cert.Reference18Ideal.τ).loc Cert.Reference18Ideal.main_arg0)
      ∧ r.2.mem ((c.tc : Thread Cert.Reference18Ideal.nD Cert.Reference18Ideal.τ).loc Cert.Reference18Ideal.main_arg1) = m ((c.tc : Thread Cert.Reference18Ideal.nD Cert.Reference18Ideal.τ).loc Cert.Reference18Ideal.main_arg1)
      ∧ r.2.mem ((c.tc : Thread Cert.Reference18Ideal.nD Cert.Reference18Ideal.τ).loc Cert.Reference18Ideal.main_arg2) = m ((c.tc : Thread Cert.Reference18Ideal.nD Cert.Reference18Ideal.τ).loc Cert.Reference18Ideal.main_arg2))
      ∧ r.2.sem = fun _ => 0)

def quiescent_Reference18Ideal_pre_finite18 [hReference18Ideal : Cert.Reference18Ideal.Facts] [hPre_finite18 : Cert.Pre_finite18.Facts] : Prop :=
  ∀ (m : (ℓ : Loc Cert.Reference18Ideal.nD Cert.Reference18Ideal.τ Cert.Reference18Ideal.sig) → Buf (Elt Ideal) ℓ) (g : Dev Cert.Reference18Ideal.nD → PrngReg), Pre_Reference18Ideal_finite18 m →
    θ_run (Cert.Reference18Ideal.defs (F := Ideal)) (onTc (τ := Cert.Reference18Ideal.τ) (Cert.Reference18Ideal.main (F := Ideal))) ⟨m, fun _ => 0, g⟩ (fun r => (∀ c : Dev Cert.Reference18Ideal.nD,
      r.2.mem ((c.tc : Thread Cert.Reference18Ideal.nD Cert.Reference18Ideal.τ).loc Cert.Reference18Ideal.main_arg0) = m ((c.tc : Thread Cert.Reference18Ideal.nD Cert.Reference18Ideal.τ).loc Cert.Reference18Ideal.main_arg0)
      ∧ r.2.mem ((c.tc : Thread Cert.Reference18Ideal.nD Cert.Reference18Ideal.τ).loc Cert.Reference18Ideal.main_arg1) = m ((c.tc : Thread Cert.Reference18Ideal.nD Cert.Reference18Ideal.τ).loc Cert.Reference18Ideal.main_arg1)
      ∧ r.2.mem ((c.tc : Thread Cert.Reference18Ideal.nD Cert.Reference18Ideal.τ).loc Cert.Reference18Ideal.main_arg2) = m ((c.tc : Thread Cert.Reference18Ideal.nD Cert.Reference18Ideal.τ).loc Cert.Reference18Ideal.main_arg2))
      ∧ r.2.sem = fun _ => 0)

def quiescent_Kernel19 [hKernel19 : Cert.Kernel19.Facts] : Prop :=
  ∀ (m : (ℓ : Loc Cert.Kernel19.nD Cert.Kernel19.τ Cert.Kernel19.sig) → Buf (Elt Bits) ℓ) (g : Dev Cert.Kernel19.nD → PrngReg), Pre_Kernel19 m →
    θ_run (Cert.Kernel19.defs (F := Bits)) (onTc (τ := Cert.Kernel19.τ) (Cert.Kernel19.main (F := Bits))) ⟨m, fun _ => 0, g⟩ (fun r => (∀ c : Dev Cert.Kernel19.nD,
      r.2.mem ((c.tc : Thread Cert.Kernel19.nD Cert.Kernel19.τ).loc Cert.Kernel19.main_arg0) = m ((c.tc : Thread Cert.Kernel19.nD Cert.Kernel19.τ).loc Cert.Kernel19.main_arg0)
      ∧ r.2.mem ((c.tc : Thread Cert.Kernel19.nD Cert.Kernel19.τ).loc Cert.Kernel19.main_arg1) = m ((c.tc : Thread Cert.Kernel19.nD Cert.Kernel19.τ).loc Cert.Kernel19.main_arg1)
      ∧ r.2.mem ((c.tc : Thread Cert.Kernel19.nD Cert.Kernel19.τ).loc Cert.Kernel19.main_arg2) = m ((c.tc : Thread Cert.Kernel19.nD Cert.Kernel19.τ).loc Cert.Kernel19.main_arg2)
      ∧ r.2.mem ((c.tc : Thread Cert.Kernel19.nD Cert.Kernel19.τ).loc Cert.Kernel19.main_arg3) = m ((c.tc : Thread Cert.Kernel19.nD Cert.Kernel19.τ).loc Cert.Kernel19.main_arg3))
      ∧ r.2.sem = fun _ => 0)

def quiescent_Kernel19Ideal [hKernel19Ideal : Cert.Kernel19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg), Pre_Kernel19Ideal m →
    θ_run (Cert.Kernel19Ideal.defs (F := Ideal)) (onTc (τ := Cert.Kernel19Ideal.τ) (Cert.Kernel19Ideal.main (F := Ideal))) ⟨m, fun _ => 0, g⟩ (fun r => (∀ c : Dev Cert.Kernel19Ideal.nD,
      r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
      ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
      ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2)
      ∧ r.2.mem ((c.tc : Thread Cert.Kernel19Ideal.nD Cert.Kernel19Ideal.τ).loc Cert.Kernel19Ideal.main_arg3) = m ((c.tc : Thread Cert.Kernel19Ideal.nD Cert.Kernel19Ideal.τ).loc Cert.Kernel19Ideal.main_arg3))
      ∧ r.2.sem = fun _ => 0)

def quiescent_Reference19Ideal [hReference19Ideal : Cert.Reference19Ideal.Facts] : Prop :=
  ∀ (m : (ℓ : Loc Cert.Reference19Ideal.nD Cert.Reference19Ideal.τ Cert.Reference19Ideal.sig) → Buf (Elt Ideal) ℓ) (g : Dev Cert.Reference19Ideal.nD → PrngReg), Pre_Reference19Ideal m →
    θ_run (Cert.Reference19Ideal.defs (F := Ideal)) (onTc (τ := Cert.Reference19Ideal.τ) (Cert.Reference19Ideal.main (F := Ideal))) ⟨m, fun _ => 0, g⟩ (fun r => (∀ c : Dev Cert.Reference19Ideal.nD,
      r.2.mem ((c.tc : Thread Cert.Reference19Ideal.nD Cert.Reference19Ideal.τ).loc Cert.Reference19Ideal.main_arg0) = m ((c.tc : Thread Cert.Reference19Ideal.nD Cert.Reference19Ideal.τ).loc Cert.Reference19Ideal.main_arg0)
      ∧ r.2.mem ((c.tc : Thread Cert.Reference19Ideal.nD Cert.Reference19Ideal.τ).loc Cert.Reference19Ideal.main_arg1) = m ((c.tc : Thread Cert.Reference19Ideal.nD Cert.Reference19Ideal.τ).loc Cert.Reference19Ideal.main_arg1)
      ∧ r.2.mem ((c.tc : Thread Cert.Reference19Ideal.nD Cert.Reference19Ideal.τ).loc Cert.Reference19Ideal.main_arg2) = m ((c.tc : Thread Cert.Reference19Ideal.nD Cert.Reference19Ideal.τ).loc Cert.Reference19Ideal.main_arg2)
      ∧ r.2.mem ((c.tc : Thread Cert.Reference19Ideal.nD Cert.Reference19Ideal.τ).loc Cert.Reference19Ideal.main_arg3) = m ((c.tc : Thread Cert.Reference19Ideal.nD Cert.Reference19Ideal.τ).loc Cert.Reference19Ideal.main_arg3))
      ∧ r.2.sem = fun _ => 0)

def quiescent_Kernel20 [hKernel20 : Cert.Kernel20.Facts] : Prop :=
  ∀ (m : (ℓ : Loc Cert.Kernel20.nD Cert.Kernel20.τ Cert.Kernel20.sig) → Buf (Elt Bits) ℓ) (g : Dev Cert.Kernel20.nD → PrngReg), Pre_Kernel20 m →
    θ_run (Cert.Kernel20.defs (F := Bits)) (onTc (τ := Cert.Kernel20.τ) (Cert.Kernel20.main (F := Bits))) ⟨m, fun _ => 0, g⟩ (fun r => (∀ c : Dev Cert.Kernel20.nD,
      r.2.mem ((c.tc : Thread Cert.Kernel20.nD Cert.Kernel20.τ).loc Cert.Kernel20.main_arg0) = m ((c.tc : Thread Cert.Kernel20.nD Cert.Kernel20.τ).loc Cert.Kernel20.main_arg0)
      ∧ r.2.mem ((c.tc : Thread Cert.Kernel20.nD Cert.Kernel20.τ).loc Cert.Kernel20.main_arg1) = m ((c.tc : Thread Cert.Kernel20.nD Cert.Kernel20.τ).loc Cert.Kernel20.main_arg1)
      ∧ r.2.mem ((c.tc : Thread Cert.Kernel20.nD Cert.Kernel20.τ).loc Cert.Kernel20.main_arg2) = m ((c.tc : Thread Cert.Kernel20.nD Cert.Kernel20.τ).loc Cert.Kernel20.main_arg2))
      ∧ r.2.sem = fun _ => 0)

def quiescent_Kernel20Ideal [hKernel20Ideal : Cert.Kernel20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg), Pre_Kernel20Ideal m →
    θ_run (Cert.Kernel20Ideal.defs (F := Ideal)) (onTc (τ := Cert.Kernel20Ideal.τ) (Cert.Kernel20Ideal.main (F := Ideal))) ⟨m, fun _ => 0, g⟩ (fun r => (∀ c : Dev Cert.Kernel20Ideal.nD,
      r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
      ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
      ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2))
      ∧ r.2.sem = fun _ => 0)

def quiescent_Kernel20Ideal_pre_finite20 [hKernel20Ideal : Cert.Kernel20Ideal.Facts] [hPre_finite20 : Cert.Pre_finite20.Facts] : Prop :=
  ∀ (m : (ℓ : Loc Cert.Kernel20Ideal.nD Cert.Kernel20Ideal.τ Cert.Kernel20Ideal.sig) → Buf (Elt Ideal) ℓ) (g : Dev Cert.Kernel20Ideal.nD → PrngReg), Pre_Kernel20Ideal_finite20 m →
    θ_run (Cert.Kernel20Ideal.defs (F := Ideal)) (onTc (τ := Cert.Kernel20Ideal.τ) (Cert.Kernel20Ideal.main (F := Ideal))) ⟨m, fun _ => 0, g⟩ (fun r => (∀ c : Dev Cert.Kernel20Ideal.nD,
      r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
      ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
      ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2))
      ∧ r.2.sem = fun _ => 0)

def quiescent_Reference20Ideal [hReference20Ideal : Cert.Reference20Ideal.Facts] : Prop :=
  ∀ (m : (ℓ : Loc Cert.Reference20Ideal.nD Cert.Reference20Ideal.τ Cert.Reference20Ideal.sig) → Buf (Elt Ideal) ℓ) (g : Dev Cert.Reference20Ideal.nD → PrngReg), Pre_Reference20Ideal m →
    θ_run (Cert.Reference20Ideal.defs (F := Ideal)) (onTc (τ := Cert.Reference20Ideal.τ) (Cert.Reference20Ideal.main (F := Ideal))) ⟨m, fun _ => 0, g⟩ (fun r => (∀ c : Dev Cert.Reference20Ideal.nD,
      r.2.mem ((c.tc : Thread Cert.Reference20Ideal.nD Cert.Reference20Ideal.τ).loc Cert.Reference20Ideal.main_arg0) = m ((c.tc : Thread Cert.Reference20Ideal.nD Cert.Reference20Ideal.τ).loc Cert.Reference20Ideal.main_arg0)
      ∧ r.2.mem ((c.tc : Thread Cert.Reference20Ideal.nD Cert.Reference20Ideal.τ).loc Cert.Reference20Ideal.main_arg1) = m ((c.tc : Thread Cert.Reference20Ideal.nD Cert.Reference20Ideal.τ).loc Cert.Reference20Ideal.main_arg1)
      ∧ r.2.mem ((c.tc : Thread Cert.Reference20Ideal.nD Cert.Reference20Ideal.τ).loc Cert.Reference20Ideal.main_arg2) = m ((c.tc : Thread Cert.Reference20Ideal.nD Cert.Reference20Ideal.τ).loc Cert.Reference20Ideal.main_arg2))
      ∧ r.2.sem = fun _ => 0)

def quiescent_Reference20Ideal_pre_finite20 [hReference20Ideal : Cert.Reference20Ideal.Facts] [hPre_finite20 : Cert.Pre_finite20.Facts] : Prop :=
  ∀ (m : (ℓ : Loc Cert.Reference20Ideal.nD Cert.Reference20Ideal.τ Cert.Reference20Ideal.sig) → Buf (Elt Ideal) ℓ) (g : Dev Cert.Reference20Ideal.nD → PrngReg), Pre_Reference20Ideal_finite20 m →
    θ_run (Cert.Reference20Ideal.defs (F := Ideal)) (onTc (τ := Cert.Reference20Ideal.τ) (Cert.Reference20Ideal.main (F := Ideal))) ⟨m, fun _ => 0, g⟩ (fun r => (∀ c : Dev Cert.Reference20Ideal.nD,
      r.2.mem ((c.tc : Thread Cert.Reference20Ideal.nD Cert.Reference20Ideal.τ).loc Cert.Reference20Ideal.main_arg0) = m ((c.tc : Thread Cert.Reference20Ideal.nD Cert.Reference20Ideal.τ).loc Cert.Reference20Ideal.main_arg0)
      ∧ r.2.mem ((c.tc : Thread Cert.Reference20Ideal.nD Cert.Reference20Ideal.τ).loc Cert.Reference20Ideal.main_arg1) = m ((c.tc : Thread Cert.Reference20Ideal.nD Cert.Reference20Ideal.τ).loc Cert.Reference20Ideal.main_arg1)
      ∧ r.2.mem ((c.tc : Thread Cert.Reference20Ideal.nD Cert.Reference20Ideal.τ).loc Cert.Reference20Ideal.main_arg2) = m ((c.tc : Thread Cert.Reference20Ideal.nD Cert.Reference20Ideal.τ).loc Cert.Reference20Ideal.main_arg2))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v12) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Kernel2_Kernel2Ideal : Prop :=
  True

def algebraic_Kernel2Ideal_Reference2Ideal_pre_finite2 [hKernel2Ideal : Cert.Kernel2Ideal.Facts] [hReference2Ideal : Cert.Reference2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_finite2 m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)) →
    ∃ (v0 : (c : Dev Cert.Kernel2Ideal.nD) → Buf (Elt Ideal) ((c.tc : Thread Cert.Kernel2Ideal.nD Cert.Kernel2Ideal.τ).loc Cert.Kernel2Ideal.main_v23_0)) (v1 : (c : Dev Cert.Kernel2Ideal.nD) → Buf (Elt Ideal) ((c.tc : Thread Cert.Kernel2Ideal.nD Cert.Kernel2Ideal.τ).loc Cert.Kernel2Ideal.main_v23_1)) (v2 : (c : Dev Cert.Kernel2Ideal.nD) → Buf (Elt Ideal) ((c.tc : Thread Cert.Kernel2Ideal.nD Cert.Kernel2Ideal.τ).loc Cert.Kernel2Ideal.main_v23_2)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v23_0) = v0 c
          ∧ r.2.mem ((c.tc : Thread Cert.Kernel2Ideal.nD Cert.Kernel2Ideal.τ).loc Cert.Kernel2Ideal.main_v23_1) = v1 c
          ∧ r.2.mem ((c.tc : Thread Cert.Kernel2Ideal.nD Cert.Kernel2Ideal.τ).loc Cert.Kernel2Ideal.main_v23_2) = v2 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v52) = v0 c
          ∧ r.2.mem ((c.tc : Thread Cert.Reference2Ideal.nD Cert.Reference2Ideal.τ).loc Cert.Reference2Ideal.main_v54) = v1 c
          ∧ r.2.mem ((c.tc : Thread Cert.Reference2Ideal.nD Cert.Reference2Ideal.τ).loc Cert.Reference2Ideal.main_v56) = v2 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v11) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v0)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v5) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v0)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v7) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v0)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v5) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)) →
    ∃ (v0 : (c : Dev Cert.Kernel7Ideal.nD) → Buf (Elt Ideal) ((c.tc : Thread Cert.Kernel7Ideal.nD Cert.Kernel7Ideal.τ).loc Cert.Kernel7Ideal.main_v0)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v0) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v5) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)) →
    ∃ (v0 : (c : Dev Cert.Kernel8Ideal.nD) → Buf (Elt Ideal) ((c.tc : Thread Cert.Kernel8Ideal.nD Cert.Kernel8Ideal.τ).loc Cert.Kernel8Ideal.main_v0)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v0) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v4) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)) →
    ∃ (v0 : (c : Dev Cert.Kernel9Ideal.nD) → Buf (Elt Ideal) ((c.tc : Thread Cert.Kernel9Ideal.nD Cert.Kernel9Ideal.τ).loc Cert.Kernel9Ideal.main_v0_0)) (v1 : (c : Dev Cert.Kernel9Ideal.nD) → Buf (Elt Ideal) ((c.tc : Thread Cert.Kernel9Ideal.nD Cert.Kernel9Ideal.τ).loc Cert.Kernel9Ideal.main_v0_1)) (v2 : (c : Dev Cert.Kernel9Ideal.nD) → Buf (Elt Ideal) ((c.tc : Thread Cert.Kernel9Ideal.nD Cert.Kernel9Ideal.τ).loc Cert.Kernel9Ideal.main_v0_2)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v0_0) = v0 c
          ∧ r.2.mem ((c.tc : Thread Cert.Kernel9Ideal.nD Cert.Kernel9Ideal.τ).loc Cert.Kernel9Ideal.main_v0_1) = v1 c
          ∧ r.2.mem ((c.tc : Thread Cert.Kernel9Ideal.nD Cert.Kernel9Ideal.τ).loc Cert.Kernel9Ideal.main_v0_2) = v2 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v4) = v0 c
          ∧ r.2.mem ((c.tc : Thread Cert.Reference9Ideal.nD Cert.Reference9Ideal.τ).loc Cert.Reference9Ideal.main_v5) = v1 c
          ∧ r.2.mem ((c.tc : Thread Cert.Reference9Ideal.nD Cert.Reference9Ideal.τ).loc Cert.Reference9Ideal.main_v8) = v2 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)) →
    ∃ (v0 : (c : Dev Cert.Kernel10Ideal.nD) → Buf (Elt Ideal) ((c.tc : Thread Cert.Kernel10Ideal.nD Cert.Kernel10Ideal.τ).loc Cert.Kernel10Ideal.main_v0)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v0) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v3) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)) →
    ∃ (v0 : (c : Dev Cert.Kernel11Ideal.nD) → Buf (Elt Ideal) ((c.tc : Thread Cert.Kernel11Ideal.nD Cert.Kernel11Ideal.τ).loc Cert.Kernel11Ideal.main_v0)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v0) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v2) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)) →
    ∃ (v0 : (c : Dev Cert.Kernel12Ideal.nD) → Buf (Elt Ideal) ((c.tc : Thread Cert.Kernel12Ideal.nD Cert.Kernel12Ideal.τ).loc Cert.Kernel12Ideal.main_v0)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v0) = v0 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v2) = v0 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)
      ∧ m' ((c.tc : Thread Cert.Reference13Ideal.nD Cert.Reference13Ideal.τ).loc Cert.Reference13Ideal.main_arg2) = m ((c.tc : Thread Cert.Kernel13Ideal.nD Cert.Kernel13Ideal.τ).loc Cert.Kernel13Ideal.main_arg2)) →
    ∃ (v0 : (c : Dev Cert.Kernel13Ideal.nD) → Buf (Elt Ideal) ((c.tc : Thread Cert.Kernel13Ideal.nD Cert.Kernel13Ideal.τ).loc Cert.Kernel13Ideal.main_v0)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v0) = v0 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
          ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v3) = v0 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1)
          ∧ r.2.mem ((c.tc : Thread Cert.Reference13Ideal.nD Cert.Reference13Ideal.τ).loc Cert.Reference13Ideal.main_arg2) = m' ((c.tc : Thread Cert.Reference13Ideal.nD Cert.Reference13Ideal.τ).loc Cert.Reference13Ideal.main_arg2))

def preserves_Kernel14_Kernel14Ideal : Prop :=
  True

def algebraic_Kernel14Ideal_Reference14Ideal_pre_finite14 [hKernel14Ideal : Cert.Kernel14Ideal.Facts] [hReference14Ideal : Cert.Reference14Ideal.Facts] [hPre_finite14 : Cert.Pre_finite14.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal_finite14 m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)
      ∧ m' ((c.tc : Thread Cert.Reference14Ideal.nD Cert.Reference14Ideal.τ).loc Cert.Reference14Ideal.main_arg2) = m ((c.tc : Thread Cert.Kernel14Ideal.nD Cert.Kernel14Ideal.τ).loc Cert.Kernel14Ideal.main_arg2)
      ∧ m' ((c.tc : Thread Cert.Reference14Ideal.nD Cert.Reference14Ideal.τ).loc Cert.Reference14Ideal.main_arg3) = m ((c.tc : Thread Cert.Kernel14Ideal.nD Cert.Kernel14Ideal.τ).loc Cert.Kernel14Ideal.main_arg3)
      ∧ m' ((c.tc : Thread Cert.Reference14Ideal.nD Cert.Reference14Ideal.τ).loc Cert.Reference14Ideal.main_arg4) = m ((c.tc : Thread Cert.Kernel14Ideal.nD Cert.Kernel14Ideal.τ).loc Cert.Kernel14Ideal.main_arg4)) →
    ∃ (v0 : (c : Dev Cert.Kernel14Ideal.nD) → Buf (Elt Ideal) ((c.tc : Thread Cert.Kernel14Ideal.nD Cert.Kernel14Ideal.τ).loc Cert.Kernel14Ideal.main_v0_0)) (v1 : (c : Dev Cert.Kernel14Ideal.nD) → Buf (Elt Ideal) ((c.tc : Thread Cert.Kernel14Ideal.nD Cert.Kernel14Ideal.τ).loc Cert.Kernel14Ideal.main_v0_1)) (v2 : (c : Dev Cert.Kernel14Ideal.nD) → Buf (Elt Ideal) ((c.tc : Thread Cert.Kernel14Ideal.nD Cert.Kernel14Ideal.τ).loc Cert.Kernel14Ideal.main_v0_2)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v0_0) = v0 c
          ∧ r.2.mem ((c.tc : Thread Cert.Kernel14Ideal.nD Cert.Kernel14Ideal.τ).loc Cert.Kernel14Ideal.main_v0_1) = v1 c
          ∧ r.2.mem ((c.tc : Thread Cert.Kernel14Ideal.nD Cert.Kernel14Ideal.τ).loc Cert.Kernel14Ideal.main_v0_2) = v2 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
          ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
          ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3)
          ∧ r.2.mem ((c.tc : Thread Cert.Kernel14Ideal.nD Cert.Kernel14Ideal.τ).loc Cert.Kernel14Ideal.main_arg4) = m ((c.tc : Thread Cert.Kernel14Ideal.nD Cert.Kernel14Ideal.τ).loc Cert.Kernel14Ideal.main_arg4))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v44) = v0 c
          ∧ r.2.mem ((c.tc : Thread Cert.Reference14Ideal.nD Cert.Reference14Ideal.τ).loc Cert.Reference14Ideal.main_v45) = v1 c
          ∧ r.2.mem ((c.tc : Thread Cert.Reference14Ideal.nD Cert.Reference14Ideal.τ).loc Cert.Reference14Ideal.main_v27) = v2 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1)
          ∧ r.2.mem ((c.tc : Thread Cert.Reference14Ideal.nD Cert.Reference14Ideal.τ).loc Cert.Reference14Ideal.main_arg2) = m' ((c.tc : Thread Cert.Reference14Ideal.nD Cert.Reference14Ideal.τ).loc Cert.Reference14Ideal.main_arg2)
          ∧ r.2.mem ((c.tc : Thread Cert.Reference14Ideal.nD Cert.Reference14Ideal.τ).loc Cert.Reference14Ideal.main_arg3) = m' ((c.tc : Thread Cert.Reference14Ideal.nD Cert.Reference14Ideal.τ).loc Cert.Reference14Ideal.main_arg3)
          ∧ r.2.mem ((c.tc : Thread Cert.Reference14Ideal.nD Cert.Reference14Ideal.τ).loc Cert.Reference14Ideal.main_arg4) = m' ((c.tc : Thread Cert.Reference14Ideal.nD Cert.Reference14Ideal.τ).loc Cert.Reference14Ideal.main_arg4))

def preserves_Kernel15_Kernel15Ideal : Prop :=
  True

def algebraic_Kernel15Ideal_Reference15Ideal_pre_finite15 [hKernel15Ideal : Cert.Kernel15Ideal.Facts] [hReference15Ideal : Cert.Reference15Ideal.Facts] [hPre_finite15 : Cert.Pre_finite15.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal_finite15 m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)
      ∧ m' ((c.tc : Thread Cert.Reference15Ideal.nD Cert.Reference15Ideal.τ).loc Cert.Reference15Ideal.main_arg2) = m ((c.tc : Thread Cert.Kernel15Ideal.nD Cert.Kernel15Ideal.τ).loc Cert.Kernel15Ideal.main_arg2)
      ∧ m' ((c.tc : Thread Cert.Reference15Ideal.nD Cert.Reference15Ideal.τ).loc Cert.Reference15Ideal.main_arg3) = m ((c.tc : Thread Cert.Kernel15Ideal.nD Cert.Kernel15Ideal.τ).loc Cert.Kernel15Ideal.main_arg3)
      ∧ m' ((c.tc : Thread Cert.Reference15Ideal.nD Cert.Reference15Ideal.τ).loc Cert.Reference15Ideal.main_arg4) = m ((c.tc : Thread Cert.Kernel15Ideal.nD Cert.Kernel15Ideal.τ).loc Cert.Kernel15Ideal.main_arg4)) →
    ∃ (v0 : (c : Dev Cert.Kernel15Ideal.nD) → Buf (Elt Ideal) ((c.tc : Thread Cert.Kernel15Ideal.nD Cert.Kernel15Ideal.τ).loc Cert.Kernel15Ideal.main_v0_0)) (v1 : (c : Dev Cert.Kernel15Ideal.nD) → Buf (Elt Ideal) ((c.tc : Thread Cert.Kernel15Ideal.nD Cert.Kernel15Ideal.τ).loc Cert.Kernel15Ideal.main_v0_1)) (v2 : (c : Dev Cert.Kernel15Ideal.nD) → Buf (Elt Ideal) ((c.tc : Thread Cert.Kernel15Ideal.nD Cert.Kernel15Ideal.τ).loc Cert.Kernel15Ideal.main_v0_2)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v0_0) = v0 c
          ∧ r.2.mem ((c.tc : Thread Cert.Kernel15Ideal.nD Cert.Kernel15Ideal.τ).loc Cert.Kernel15Ideal.main_v0_1) = v1 c
          ∧ r.2.mem ((c.tc : Thread Cert.Kernel15Ideal.nD Cert.Kernel15Ideal.τ).loc Cert.Kernel15Ideal.main_v0_2) = v2 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
          ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
          ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3)
          ∧ r.2.mem ((c.tc : Thread Cert.Kernel15Ideal.nD Cert.Kernel15Ideal.τ).loc Cert.Kernel15Ideal.main_arg4) = m ((c.tc : Thread Cert.Kernel15Ideal.nD Cert.Kernel15Ideal.τ).loc Cert.Kernel15Ideal.main_arg4))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v38) = v0 c
          ∧ r.2.mem ((c.tc : Thread Cert.Reference15Ideal.nD Cert.Reference15Ideal.τ).loc Cert.Reference15Ideal.main_v39) = v1 c
          ∧ r.2.mem ((c.tc : Thread Cert.Reference15Ideal.nD Cert.Reference15Ideal.τ).loc Cert.Reference15Ideal.main_v21) = v2 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1)
          ∧ r.2.mem ((c.tc : Thread Cert.Reference15Ideal.nD Cert.Reference15Ideal.τ).loc Cert.Reference15Ideal.main_arg2) = m' ((c.tc : Thread Cert.Reference15Ideal.nD Cert.Reference15Ideal.τ).loc Cert.Reference15Ideal.main_arg2)
          ∧ r.2.mem ((c.tc : Thread Cert.Reference15Ideal.nD Cert.Reference15Ideal.τ).loc Cert.Reference15Ideal.main_arg3) = m' ((c.tc : Thread Cert.Reference15Ideal.nD Cert.Reference15Ideal.τ).loc Cert.Reference15Ideal.main_arg3)
          ∧ r.2.mem ((c.tc : Thread Cert.Reference15Ideal.nD Cert.Reference15Ideal.τ).loc Cert.Reference15Ideal.main_arg4) = m' ((c.tc : Thread Cert.Reference15Ideal.nD Cert.Reference15Ideal.τ).loc Cert.Reference15Ideal.main_arg4))

def preserves_Kernel16_Kernel16Ideal : Prop :=
  True

def algebraic_Kernel16Ideal_Reference16Ideal_pre_finite16 [hKernel16Ideal : Cert.Kernel16Ideal.Facts] [hReference16Ideal : Cert.Reference16Ideal.Facts] [hPre_finite16 : Cert.Pre_finite16.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal_finite16 m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)
      ∧ m' ((c.tc : Thread Cert.Reference16Ideal.nD Cert.Reference16Ideal.τ).loc Cert.Reference16Ideal.main_arg2) = m ((c.tc : Thread Cert.Kernel16Ideal.nD Cert.Kernel16Ideal.τ).loc Cert.Kernel16Ideal.main_arg2)
      ∧ m' ((c.tc : Thread Cert.Reference16Ideal.nD Cert.Reference16Ideal.τ).loc Cert.Reference16Ideal.main_arg3) = m ((c.tc : Thread Cert.Kernel16Ideal.nD Cert.Kernel16Ideal.τ).loc Cert.Kernel16Ideal.main_arg3)
      ∧ m' ((c.tc : Thread Cert.Reference16Ideal.nD Cert.Reference16Ideal.τ).loc Cert.Reference16Ideal.main_arg4) = m ((c.tc : Thread Cert.Kernel16Ideal.nD Cert.Kernel16Ideal.τ).loc Cert.Kernel16Ideal.main_arg4)) →
    ∃ (v0 : (c : Dev Cert.Kernel16Ideal.nD) → Buf (Elt Ideal) ((c.tc : Thread Cert.Kernel16Ideal.nD Cert.Kernel16Ideal.τ).loc Cert.Kernel16Ideal.main_v0_0)) (v1 : (c : Dev Cert.Kernel16Ideal.nD) → Buf (Elt Ideal) ((c.tc : Thread Cert.Kernel16Ideal.nD Cert.Kernel16Ideal.τ).loc Cert.Kernel16Ideal.main_v0_1)) (v2 : (c : Dev Cert.Kernel16Ideal.nD) → Buf (Elt Ideal) ((c.tc : Thread Cert.Kernel16Ideal.nD Cert.Kernel16Ideal.τ).loc Cert.Kernel16Ideal.main_v0_2)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v0_0) = v0 c
          ∧ r.2.mem ((c.tc : Thread Cert.Kernel16Ideal.nD Cert.Kernel16Ideal.τ).loc Cert.Kernel16Ideal.main_v0_1) = v1 c
          ∧ r.2.mem ((c.tc : Thread Cert.Kernel16Ideal.nD Cert.Kernel16Ideal.τ).loc Cert.Kernel16Ideal.main_v0_2) = v2 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
          ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2)
          ∧ r.2.mem ((c.tc : Thread Cert.Kernel16Ideal.nD Cert.Kernel16Ideal.τ).loc Cert.Kernel16Ideal.main_arg3) = m ((c.tc : Thread Cert.Kernel16Ideal.nD Cert.Kernel16Ideal.τ).loc Cert.Kernel16Ideal.main_arg3)
          ∧ r.2.mem ((c.tc : Thread Cert.Kernel16Ideal.nD Cert.Kernel16Ideal.τ).loc Cert.Kernel16Ideal.main_arg4) = m ((c.tc : Thread Cert.Kernel16Ideal.nD Cert.Kernel16Ideal.τ).loc Cert.Kernel16Ideal.main_arg4))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v38) = v0 c
          ∧ r.2.mem ((c.tc : Thread Cert.Reference16Ideal.nD Cert.Reference16Ideal.τ).loc Cert.Reference16Ideal.main_v39) = v1 c
          ∧ r.2.mem ((c.tc : Thread Cert.Reference16Ideal.nD Cert.Reference16Ideal.τ).loc Cert.Reference16Ideal.main_v21) = v2 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1)
          ∧ r.2.mem ((c.tc : Thread Cert.Reference16Ideal.nD Cert.Reference16Ideal.τ).loc Cert.Reference16Ideal.main_arg2) = m' ((c.tc : Thread Cert.Reference16Ideal.nD Cert.Reference16Ideal.τ).loc Cert.Reference16Ideal.main_arg2)
          ∧ r.2.mem ((c.tc : Thread Cert.Reference16Ideal.nD Cert.Reference16Ideal.τ).loc Cert.Reference16Ideal.main_arg3) = m' ((c.tc : Thread Cert.Reference16Ideal.nD Cert.Reference16Ideal.τ).loc Cert.Reference16Ideal.main_arg3)
          ∧ r.2.mem ((c.tc : Thread Cert.Reference16Ideal.nD Cert.Reference16Ideal.τ).loc Cert.Reference16Ideal.main_arg4) = m' ((c.tc : Thread Cert.Reference16Ideal.nD Cert.Reference16Ideal.τ).loc Cert.Reference16Ideal.main_arg4))

def preserves_Kernel17_Kernel17Ideal : Prop :=
  True

def algebraic_Kernel17Ideal_Reference17Ideal [hKernel17Ideal : Cert.Kernel17Ideal.Facts] [hReference17Ideal : Cert.Reference17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg)
    (m' : (ℓ : Loc Cert.Reference17Ideal.nD Cert.Reference17Ideal.τ Cert.Reference17Ideal.sig) → Buf (Elt Ideal) ℓ) (g' : Dev Cert.Reference17Ideal.nD → PrngReg), Pre_Kernel17Ideal m →
    (∀ c : Dev Cert.Kernel17Ideal.nD,
      m' ((c.tc : Thread Cert.Reference17Ideal.nD Cert.Reference17Ideal.τ).loc Cert.Reference17Ideal.main_arg0) = m ((c.tc : Thread Cert.Kernel17Ideal.nD Cert.Kernel17Ideal.τ).loc Cert.Kernel17Ideal.main_arg0)
      ∧ m' ((c.tc : Thread Cert.Reference17Ideal.nD Cert.Reference17Ideal.τ).loc Cert.Reference17Ideal.main_arg1) = m ((c.tc : Thread Cert.Kernel17Ideal.nD Cert.Kernel17Ideal.τ).loc Cert.Kernel17Ideal.main_arg1)) →
    ∃ (v0 : (c : Dev Cert.Kernel17Ideal.nD) → Buf (Elt Ideal) ((c.tc : Thread Cert.Kernel17Ideal.nD Cert.Kernel17Ideal.τ).loc Cert.Kernel17Ideal.main_v0)),
      θ_run (Cert.Kernel17Ideal.defs (F := Ideal)) (onTc (τ := Cert.Kernel17Ideal.τ) (Cert.Kernel17Ideal.main (F := Ideal))) ⟨m, fun _ => 0, g⟩ (fun r => ∀ c : Dev Cert.Kernel17Ideal.nD,
          r.2.mem ((c.tc : Thread Cert.Kernel17Ideal.nD Cert.Kernel17Ideal.τ).loc Cert.Kernel17Ideal.main_v0) = v0 c
          ∧ r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
          ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1))
      ∧ θ_run (Cert.Reference17Ideal.defs (F := Ideal)) (onTc (τ := Cert.Reference17Ideal.τ) (Cert.Reference17Ideal.main (F := Ideal))) ⟨m', fun _ => 0, g'⟩ (fun r => ∀ c : Dev Cert.Reference17Ideal.nD,
          r.2.mem ((c.tc : Thread Cert.Reference17Ideal.nD Cert.Reference17Ideal.τ).loc Cert.Reference17Ideal.main_v12) = v0 c
          ∧ r.2.mem ((c.tc : Thread Cert.Reference17Ideal.nD Cert.Reference17Ideal.τ).loc Cert.Reference17Ideal.main_arg0) = m' ((c.tc : Thread Cert.Reference17Ideal.nD Cert.Reference17Ideal.τ).loc Cert.Reference17Ideal.main_arg0)
          ∧ r.2.mem ((c.tc : Thread Cert.Reference17Ideal.nD Cert.Reference17Ideal.τ).loc Cert.Reference17Ideal.main_arg1) = m' ((c.tc : Thread Cert.Reference17Ideal.nD Cert.Reference17Ideal.τ).loc Cert.Reference17Ideal.main_arg1))

def preserves_Kernel18_Kernel18Ideal : Prop :=
  True

def algebraic_Kernel18Ideal_Reference18Ideal_pre_finite18 [hKernel18Ideal : Cert.Kernel18Ideal.Facts] [hReference18Ideal : Cert.Reference18Ideal.Facts] [hPre_finite18 : Cert.Pre_finite18.Facts] : Prop :=
  ∀ (m : (ℓ : Loc Cert.Kernel18Ideal.nD Cert.Kernel18Ideal.τ Cert.Kernel18Ideal.sig) → Buf (Elt Ideal) ℓ) (g : Dev Cert.Kernel18Ideal.nD → PrngReg)
    (m' : (ℓ : Loc Cert.Reference18Ideal.nD Cert.Reference18Ideal.τ Cert.Reference18Ideal.sig) → Buf (Elt Ideal) ℓ) (g' : Dev Cert.Reference18Ideal.nD → PrngReg), Pre_Kernel18Ideal_finite18 m →
    (∀ c : Dev Cert.Kernel18Ideal.nD,
      m' ((c.tc : Thread Cert.Reference18Ideal.nD Cert.Reference18Ideal.τ).loc Cert.Reference18Ideal.main_arg0) = m ((c.tc : Thread Cert.Kernel18Ideal.nD Cert.Kernel18Ideal.τ).loc Cert.Kernel18Ideal.main_arg0)
      ∧ m' ((c.tc : Thread Cert.Reference18Ideal.nD Cert.Reference18Ideal.τ).loc Cert.Reference18Ideal.main_arg1) = m ((c.tc : Thread Cert.Kernel18Ideal.nD Cert.Kernel18Ideal.τ).loc Cert.Kernel18Ideal.main_arg1)
      ∧ m' ((c.tc : Thread Cert.Reference18Ideal.nD Cert.Reference18Ideal.τ).loc Cert.Reference18Ideal.main_arg2) = m ((c.tc : Thread Cert.Kernel18Ideal.nD Cert.Kernel18Ideal.τ).loc Cert.Kernel18Ideal.main_arg2)) →
    ∃ (v0 : (c : Dev Cert.Kernel18Ideal.nD) → Buf (Elt Ideal) ((c.tc : Thread Cert.Kernel18Ideal.nD Cert.Kernel18Ideal.τ).loc Cert.Kernel18Ideal.main_v0_0)) (v1 : (c : Dev Cert.Kernel18Ideal.nD) → Buf (Elt Ideal) ((c.tc : Thread Cert.Kernel18Ideal.nD Cert.Kernel18Ideal.τ).loc Cert.Kernel18Ideal.main_v0_1)) (v2 : (c : Dev Cert.Kernel18Ideal.nD) → Buf (Elt Ideal) ((c.tc : Thread Cert.Kernel18Ideal.nD Cert.Kernel18Ideal.τ).loc Cert.Kernel18Ideal.main_v0_2)) (v3 : (c : Dev Cert.Kernel18Ideal.nD) → Buf (Elt Ideal) ((c.tc : Thread Cert.Kernel18Ideal.nD Cert.Kernel18Ideal.τ).loc Cert.Kernel18Ideal.main_v0_3)),
      θ_run (Cert.Kernel18Ideal.defs (F := Ideal)) (onTc (τ := Cert.Kernel18Ideal.τ) (Cert.Kernel18Ideal.main (F := Ideal))) ⟨m, fun _ => 0, g⟩ (fun r => ∀ c : Dev Cert.Kernel18Ideal.nD,
          r.2.mem ((c.tc : Thread Cert.Kernel18Ideal.nD Cert.Kernel18Ideal.τ).loc Cert.Kernel18Ideal.main_v0_0) = v0 c
          ∧ r.2.mem ((c.tc : Thread Cert.Kernel18Ideal.nD Cert.Kernel18Ideal.τ).loc Cert.Kernel18Ideal.main_v0_1) = v1 c
          ∧ r.2.mem ((c.tc : Thread Cert.Kernel18Ideal.nD Cert.Kernel18Ideal.τ).loc Cert.Kernel18Ideal.main_v0_2) = v2 c
          ∧ r.2.mem ((c.tc : Thread Cert.Kernel18Ideal.nD Cert.Kernel18Ideal.τ).loc Cert.Kernel18Ideal.main_v0_3) = v3 c
          ∧ r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
          ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
          ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2))
      ∧ θ_run (Cert.Reference18Ideal.defs (F := Ideal)) (onTc (τ := Cert.Reference18Ideal.τ) (Cert.Reference18Ideal.main (F := Ideal))) ⟨m', fun _ => 0, g'⟩ (fun r => ∀ c : Dev Cert.Reference18Ideal.nD,
          r.2.mem ((c.tc : Thread Cert.Reference18Ideal.nD Cert.Reference18Ideal.τ).loc Cert.Reference18Ideal.main_v49) = v0 c
          ∧ r.2.mem ((c.tc : Thread Cert.Reference18Ideal.nD Cert.Reference18Ideal.τ).loc Cert.Reference18Ideal.main_v48) = v1 c
          ∧ r.2.mem ((c.tc : Thread Cert.Reference18Ideal.nD Cert.Reference18Ideal.τ).loc Cert.Reference18Ideal.main_v50) = v2 c
          ∧ r.2.mem ((c.tc : Thread Cert.Reference18Ideal.nD Cert.Reference18Ideal.τ).loc Cert.Reference18Ideal.main_v32) = v3 c
          ∧ r.2.mem ((c.tc : Thread Cert.Reference18Ideal.nD Cert.Reference18Ideal.τ).loc Cert.Reference18Ideal.main_arg0) = m' ((c.tc : Thread Cert.Reference18Ideal.nD Cert.Reference18Ideal.τ).loc Cert.Reference18Ideal.main_arg0)
          ∧ r.2.mem ((c.tc : Thread Cert.Reference18Ideal.nD Cert.Reference18Ideal.τ).loc Cert.Reference18Ideal.main_arg1) = m' ((c.tc : Thread Cert.Reference18Ideal.nD Cert.Reference18Ideal.τ).loc Cert.Reference18Ideal.main_arg1)
          ∧ r.2.mem ((c.tc : Thread Cert.Reference18Ideal.nD Cert.Reference18Ideal.τ).loc Cert.Reference18Ideal.main_arg2) = m' ((c.tc : Thread Cert.Reference18Ideal.nD Cert.Reference18Ideal.τ).loc Cert.Reference18Ideal.main_arg2))

def preserves_Kernel19_Kernel19Ideal : Prop :=
  True

def algebraic_Kernel19Ideal_Reference19Ideal [hKernel19Ideal : Cert.Kernel19Ideal.Facts] [hReference19Ideal : Cert.Reference19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg)
    (m' : (ℓ : Loc Cert.Reference19Ideal.nD Cert.Reference19Ideal.τ Cert.Reference19Ideal.sig) → Buf (Elt Ideal) ℓ) (g' : Dev Cert.Reference19Ideal.nD → PrngReg), Pre_Kernel19Ideal m →
    (∀ c : Dev Cert.Kernel19Ideal.nD,
      m' ((c.tc : Thread Cert.Reference19Ideal.nD Cert.Reference19Ideal.τ).loc Cert.Reference19Ideal.main_arg0) = m ((c.tc : Thread Cert.Kernel19Ideal.nD Cert.Kernel19Ideal.τ).loc Cert.Kernel19Ideal.main_arg0)
      ∧ m' ((c.tc : Thread Cert.Reference19Ideal.nD Cert.Reference19Ideal.τ).loc Cert.Reference19Ideal.main_arg1) = m ((c.tc : Thread Cert.Kernel19Ideal.nD Cert.Kernel19Ideal.τ).loc Cert.Kernel19Ideal.main_arg1)
      ∧ m' ((c.tc : Thread Cert.Reference19Ideal.nD Cert.Reference19Ideal.τ).loc Cert.Reference19Ideal.main_arg2) = m ((c.tc : Thread Cert.Kernel19Ideal.nD Cert.Kernel19Ideal.τ).loc Cert.Kernel19Ideal.main_arg2)
      ∧ m' ((c.tc : Thread Cert.Reference19Ideal.nD Cert.Reference19Ideal.τ).loc Cert.Reference19Ideal.main_arg3) = m ((c.tc : Thread Cert.Kernel19Ideal.nD Cert.Kernel19Ideal.τ).loc Cert.Kernel19Ideal.main_arg3)) →
    ∃ (v0 : (c : Dev Cert.Kernel19Ideal.nD) → Buf (Elt Ideal) ((c.tc : Thread Cert.Kernel19Ideal.nD Cert.Kernel19Ideal.τ).loc Cert.Kernel19Ideal.main_v0_0)) (v1 : (c : Dev Cert.Kernel19Ideal.nD) → Buf (Elt Ideal) ((c.tc : Thread Cert.Kernel19Ideal.nD Cert.Kernel19Ideal.τ).loc Cert.Kernel19Ideal.main_v0_1)) (v2 : (c : Dev Cert.Kernel19Ideal.nD) → Buf (Elt Ideal) ((c.tc : Thread Cert.Kernel19Ideal.nD Cert.Kernel19Ideal.τ).loc Cert.Kernel19Ideal.main_v0_2)),
      θ_run (Cert.Kernel19Ideal.defs (F := Ideal)) (onTc (τ := Cert.Kernel19Ideal.τ) (Cert.Kernel19Ideal.main (F := Ideal))) ⟨m, fun _ => 0, g⟩ (fun r => ∀ c : Dev Cert.Kernel19Ideal.nD,
          r.2.mem ((c.tc : Thread Cert.Kernel19Ideal.nD Cert.Kernel19Ideal.τ).loc Cert.Kernel19Ideal.main_v0_0) = v0 c
          ∧ r.2.mem ((c.tc : Thread Cert.Kernel19Ideal.nD Cert.Kernel19Ideal.τ).loc Cert.Kernel19Ideal.main_v0_1) = v1 c
          ∧ r.2.mem ((c.tc : Thread Cert.Kernel19Ideal.nD Cert.Kernel19Ideal.τ).loc Cert.Kernel19Ideal.main_v0_2) = v2 c
          ∧ r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
          ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
          ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2)
          ∧ r.2.mem ((c.tc : Thread Cert.Kernel19Ideal.nD Cert.Kernel19Ideal.τ).loc Cert.Kernel19Ideal.main_arg3) = m ((c.tc : Thread Cert.Kernel19Ideal.nD Cert.Kernel19Ideal.τ).loc Cert.Kernel19Ideal.main_arg3))
      ∧ θ_run (Cert.Reference19Ideal.defs (F := Ideal)) (onTc (τ := Cert.Reference19Ideal.τ) (Cert.Reference19Ideal.main (F := Ideal))) ⟨m', fun _ => 0, g'⟩ (fun r => ∀ c : Dev Cert.Reference19Ideal.nD,
          r.2.mem ((c.tc : Thread Cert.Reference19Ideal.nD Cert.Reference19Ideal.τ).loc Cert.Reference19Ideal.main_v23) = v0 c
          ∧ r.2.mem ((c.tc : Thread Cert.Reference19Ideal.nD Cert.Reference19Ideal.τ).loc Cert.Reference19Ideal.main_v4) = v1 c
          ∧ r.2.mem ((c.tc : Thread Cert.Reference19Ideal.nD Cert.Reference19Ideal.τ).loc Cert.Reference19Ideal.main_v10) = v2 c
          ∧ r.2.mem ((c.tc : Thread Cert.Reference19Ideal.nD Cert.Reference19Ideal.τ).loc Cert.Reference19Ideal.main_arg0) = m' ((c.tc : Thread Cert.Reference19Ideal.nD Cert.Reference19Ideal.τ).loc Cert.Reference19Ideal.main_arg0)
          ∧ r.2.mem ((c.tc : Thread Cert.Reference19Ideal.nD Cert.Reference19Ideal.τ).loc Cert.Reference19Ideal.main_arg1) = m' ((c.tc : Thread Cert.Reference19Ideal.nD Cert.Reference19Ideal.τ).loc Cert.Reference19Ideal.main_arg1)
          ∧ r.2.mem ((c.tc : Thread Cert.Reference19Ideal.nD Cert.Reference19Ideal.τ).loc Cert.Reference19Ideal.main_arg2) = m' ((c.tc : Thread Cert.Reference19Ideal.nD Cert.Reference19Ideal.τ).loc Cert.Reference19Ideal.main_arg2)
          ∧ r.2.mem ((c.tc : Thread Cert.Reference19Ideal.nD Cert.Reference19Ideal.τ).loc Cert.Reference19Ideal.main_arg3) = m' ((c.tc : Thread Cert.Reference19Ideal.nD Cert.Reference19Ideal.τ).loc Cert.Reference19Ideal.main_arg3))

def preserves_Kernel20_Kernel20Ideal : Prop :=
  IdealRules.named_const.Statement Cert.Kernel20Ideal.κ "mask" .f32 0xF149F2CA#32 ⊥

def algebraic_Kernel20Ideal_Reference20Ideal_pre_finite20 [hKernel20Ideal : Cert.Kernel20Ideal.Facts] [hReference20Ideal : Cert.Reference20Ideal.Facts] [hPre_finite20 : Cert.Pre_finite20.Facts] : Prop :=
  ∀ (m : (ℓ : Loc Cert.Kernel20Ideal.nD Cert.Kernel20Ideal.τ Cert.Kernel20Ideal.sig) → Buf (Elt Ideal) ℓ) (g : Dev Cert.Kernel20Ideal.nD → PrngReg)
    (m' : (ℓ : Loc Cert.Reference20Ideal.nD Cert.Reference20Ideal.τ Cert.Reference20Ideal.sig) → Buf (Elt Ideal) ℓ) (g' : Dev Cert.Reference20Ideal.nD → PrngReg), Pre_Kernel20Ideal_finite20 m →
    (∀ c : Dev Cert.Kernel20Ideal.nD,
      m' ((c.tc : Thread Cert.Reference20Ideal.nD Cert.Reference20Ideal.τ).loc Cert.Reference20Ideal.main_arg0) = m ((c.tc : Thread Cert.Kernel20Ideal.nD Cert.Kernel20Ideal.τ).loc Cert.Kernel20Ideal.main_arg0)
      ∧ m' ((c.tc : Thread Cert.Reference20Ideal.nD Cert.Reference20Ideal.τ).loc Cert.Reference20Ideal.main_arg1) = m ((c.tc : Thread Cert.Kernel20Ideal.nD Cert.Kernel20Ideal.τ).loc Cert.Kernel20Ideal.main_arg1)
      ∧ m' ((c.tc : Thread Cert.Reference20Ideal.nD Cert.Reference20Ideal.τ).loc Cert.Reference20Ideal.main_arg2) = m ((c.tc : Thread Cert.Kernel20Ideal.nD Cert.Kernel20Ideal.τ).loc Cert.Kernel20Ideal.main_arg2)) →
    ∃ (v0 : (c : Dev Cert.Kernel20Ideal.nD) → Buf (Elt Ideal) ((c.tc : Thread Cert.Kernel20Ideal.nD Cert.Kernel20Ideal.τ).loc Cert.Kernel20Ideal.main_v39_0)) (v1 : (c : Dev Cert.Kernel20Ideal.nD) → Buf (Elt Ideal) ((c.tc : Thread Cert.Kernel20Ideal.nD Cert.Kernel20Ideal.τ).loc Cert.Kernel20Ideal.main_v39_1)) (v2 : (c : Dev Cert.Kernel20Ideal.nD) → Buf (Elt Ideal) ((c.tc : Thread Cert.Kernel20Ideal.nD Cert.Kernel20Ideal.τ).loc Cert.Kernel20Ideal.main_v39_2)) (v3 : (c : Dev Cert.Kernel20Ideal.nD) → Buf (Elt Ideal) ((c.tc : Thread Cert.Kernel20Ideal.nD Cert.Kernel20Ideal.τ).loc Cert.Kernel20Ideal.main_v39_3)) (v4 : (c : Dev Cert.Kernel20Ideal.nD) → Buf (Elt Ideal) ((c.tc : Thread Cert.Kernel20Ideal.nD Cert.Kernel20Ideal.τ).loc Cert.Kernel20Ideal.main_v39_4)),
      θ_run (Cert.Kernel20Ideal.defs (F := Ideal)) (onTc (τ := Cert.Kernel20Ideal.τ) (Cert.Kernel20Ideal.main (F := Ideal))) ⟨m, fun _ => 0, g⟩ (fun r => ∀ c : Dev Cert.Kernel20Ideal.nD,
          r.2.mem ((c.tc : Thread Cert.Kernel20Ideal.nD Cert.Kernel20Ideal.τ).loc Cert.Kernel20Ideal.main_v39_0) = v0 c
          ∧ r.2.mem ((c.tc : Thread Cert.Kernel20Ideal.nD Cert.Kernel20Ideal.τ).loc Cert.Kernel20Ideal.main_v39_1) = v1 c
          ∧ r.2.mem ((c.tc : Thread Cert.Kernel20Ideal.nD Cert.Kernel20Ideal.τ).loc Cert.Kernel20Ideal.main_v39_2) = v2 c
          ∧ r.2.mem ((c.tc : Thread Cert.Kernel20Ideal.nD Cert.Kernel20Ideal.τ).loc Cert.Kernel20Ideal.main_v39_3) = v3 c
          ∧ r.2.mem ((c.tc : Thread Cert.Kernel20Ideal.nD Cert.Kernel20Ideal.τ).loc Cert.Kernel20Ideal.main_v39_4) = v4 c
          ∧ r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
          ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
          ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2))
      ∧ θ_run (Cert.Reference20Ideal.defs (F := Ideal)) (onTc (τ := Cert.Reference20Ideal.τ) (Cert.Reference20Ideal.main (F := Ideal))) ⟨m', fun _ => 0, g'⟩ (fun r => ∀ c : Dev Cert.Reference20Ideal.nD,
          r.2.mem ((c.tc : Thread Cert.Reference20Ideal.nD Cert.Reference20Ideal.τ).loc Cert.Reference20Ideal.main_v85) = v0 c
          ∧ r.2.mem ((c.tc : Thread Cert.Reference20Ideal.nD Cert.Reference20Ideal.τ).loc Cert.Reference20Ideal.main_v87) = v1 c
          ∧ r.2.mem ((c.tc : Thread Cert.Reference20Ideal.nD Cert.Reference20Ideal.τ).loc Cert.Reference20Ideal.main_v89) = v2 c
          ∧ r.2.mem ((c.tc : Thread Cert.Reference20Ideal.nD Cert.Reference20Ideal.τ).loc Cert.Reference20Ideal.main_v90) = v3 c
          ∧ r.2.mem ((c.tc : Thread Cert.Reference20Ideal.nD Cert.Reference20Ideal.τ).loc Cert.Reference20Ideal.main_v91) = v4 c
          ∧ r.2.mem ((c.tc : Thread Cert.Reference20Ideal.nD Cert.Reference20Ideal.τ).loc Cert.Reference20Ideal.main_arg0) = m' ((c.tc : Thread Cert.Reference20Ideal.nD Cert.Reference20Ideal.τ).loc Cert.Reference20Ideal.main_arg0)
          ∧ r.2.mem ((c.tc : Thread Cert.Reference20Ideal.nD Cert.Reference20Ideal.τ).loc Cert.Reference20Ideal.main_arg1) = m' ((c.tc : Thread Cert.Reference20Ideal.nD Cert.Reference20Ideal.τ).loc Cert.Reference20Ideal.main_arg1)
          ∧ r.2.mem ((c.tc : Thread Cert.Reference20Ideal.nD Cert.Reference20Ideal.τ).loc Cert.Reference20Ideal.main_arg2) = m' ((c.tc : Thread Cert.Reference20Ideal.nD Cert.Reference20Ideal.τ).loc Cert.Reference20Ideal.main_arg2))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts) (hKernel17 : Cert.Kernel17.Facts) (hKernel17Ideal : Cert.Kernel17Ideal.Facts) (hReference17Ideal : Cert.Reference17Ideal.Facts) (hKernel18 : Cert.Kernel18.Facts) (hKernel18Ideal : Cert.Kernel18Ideal.Facts) (hReference18Ideal : Cert.Reference18Ideal.Facts) (hKernel19 : Cert.Kernel19.Facts) (hKernel19Ideal : Cert.Kernel19Ideal.Facts) (hReference19Ideal : Cert.Reference19Ideal.Facts) (hKernel20 : Cert.Kernel20.Facts) (hKernel20Ideal : Cert.Kernel20Ideal.Facts) (hReference20Ideal : Cert.Reference20Ideal.Facts) (hPre_finite : Cert.Pre_finite.Facts) (hPre_finite2 : Cert.Pre_finite2.Facts) (hPre_finite14 : Cert.Pre_finite14.Facts) (hPre_finite15 : Cert.Pre_finite15.Facts) (hPre_finite16 : Cert.Pre_finite16.Facts) (hPre_finite18 : Cert.Pre_finite18.Facts) (hPre_finite20 : Cert.Pre_finite20.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Kernel2Ideal_pre_finite2 (hKernel2Ideal := hKernel2Ideal) (hPre_finite2 := hPre_finite2)
    ∧ quiescent_Reference2Ideal (hReference2Ideal := hReference2Ideal)
    ∧ quiescent_Reference2Ideal_pre_finite2 (hReference2Ideal := hReference2Ideal) (hPre_finite2 := hPre_finite2)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Kernel14Ideal_pre_finite14 (hKernel14Ideal := hKernel14Ideal) (hPre_finite14 := hPre_finite14)
    ∧ quiescent_Reference14Ideal (hReference14Ideal := hReference14Ideal)
    ∧ quiescent_Reference14Ideal_pre_finite14 (hReference14Ideal := hReference14Ideal) (hPre_finite14 := hPre_finite14)
    ∧ quiescent_Kernel15 (hKernel15 := hKernel15)
    ∧ quiescent_Kernel15Ideal (hKernel15Ideal := hKernel15Ideal)
    ∧ quiescent_Kernel15Ideal_pre_finite15 (hKernel15Ideal := hKernel15Ideal) (hPre_finite15 := hPre_finite15)
    ∧ quiescent_Reference15Ideal (hReference15Ideal := hReference15Ideal)
    ∧ quiescent_Reference15Ideal_pre_finite15 (hReference15Ideal := hReference15Ideal) (hPre_finite15 := hPre_finite15)
    ∧ quiescent_Kernel16 (hKernel16 := hKernel16)
    ∧ quiescent_Kernel16Ideal (hKernel16Ideal := hKernel16Ideal)
    ∧ quiescent_Kernel16Ideal_pre_finite16 (hKernel16Ideal := hKernel16Ideal) (hPre_finite16 := hPre_finite16)
    ∧ quiescent_Reference16Ideal (hReference16Ideal := hReference16Ideal)
    ∧ quiescent_Reference16Ideal_pre_finite16 (hReference16Ideal := hReference16Ideal) (hPre_finite16 := hPre_finite16)
    ∧ quiescent_Kernel17 (hKernel17 := hKernel17)
    ∧ quiescent_Kernel17Ideal (hKernel17Ideal := hKernel17Ideal)
    ∧ quiescent_Reference17Ideal (hReference17Ideal := hReference17Ideal)
    ∧ quiescent_Kernel18 (hKernel18 := hKernel18)
    ∧ quiescent_Kernel18Ideal (hKernel18Ideal := hKernel18Ideal)
    ∧ quiescent_Kernel18Ideal_pre_finite18 (hKernel18Ideal := hKernel18Ideal) (hPre_finite18 := hPre_finite18)
    ∧ quiescent_Reference18Ideal (hReference18Ideal := hReference18Ideal)
    ∧ quiescent_Reference18Ideal_pre_finite18 (hReference18Ideal := hReference18Ideal) (hPre_finite18 := hPre_finite18)
    ∧ quiescent_Kernel19 (hKernel19 := hKernel19)
    ∧ quiescent_Kernel19Ideal (hKernel19Ideal := hKernel19Ideal)
    ∧ quiescent_Reference19Ideal (hReference19Ideal := hReference19Ideal)
    ∧ quiescent_Kernel20 (hKernel20 := hKernel20)
    ∧ quiescent_Kernel20Ideal (hKernel20Ideal := hKernel20Ideal)
    ∧ quiescent_Kernel20Ideal_pre_finite20 (hKernel20Ideal := hKernel20Ideal) (hPre_finite20 := hPre_finite20)
    ∧ quiescent_Reference20Ideal (hReference20Ideal := hReference20Ideal)
    ∧ quiescent_Reference20Ideal_pre_finite20 (hReference20Ideal := hReference20Ideal) (hPre_finite20 := hPre_finite20)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal_pre_finite2 (hKernel2Ideal := hKernel2Ideal) (hReference2Ideal := hReference2Ideal) (hPre_finite2 := hPre_finite2)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal_pre_finite14 (hKernel14Ideal := hKernel14Ideal) (hReference14Ideal := hReference14Ideal) (hPre_finite14 := hPre_finite14)
    ∧ preserves_Kernel15_Kernel15Ideal
    ∧ algebraic_Kernel15Ideal_Reference15Ideal_pre_finite15 (hKernel15Ideal := hKernel15Ideal) (hReference15Ideal := hReference15Ideal) (hPre_finite15 := hPre_finite15)
    ∧ preserves_Kernel16_Kernel16Ideal
    ∧ algebraic_Kernel16Ideal_Reference16Ideal_pre_finite16 (hKernel16Ideal := hKernel16Ideal) (hReference16Ideal := hReference16Ideal) (hPre_finite16 := hPre_finite16)
    ∧ preserves_Kernel17_Kernel17Ideal
    ∧ algebraic_Kernel17Ideal_Reference17Ideal (hKernel17Ideal := hKernel17Ideal) (hReference17Ideal := hReference17Ideal)
    ∧ preserves_Kernel18_Kernel18Ideal
    ∧ algebraic_Kernel18Ideal_Reference18Ideal_pre_finite18 (hKernel18Ideal := hKernel18Ideal) (hReference18Ideal := hReference18Ideal) (hPre_finite18 := hPre_finite18)
    ∧ preserves_Kernel19_Kernel19Ideal
    ∧ algebraic_Kernel19Ideal_Reference19Ideal (hKernel19Ideal := hKernel19Ideal) (hReference19Ideal := hReference19Ideal)
    ∧ preserves_Kernel20_Kernel20Ideal
    ∧ algebraic_Kernel20Ideal_Reference20Ideal_pre_finite20 (hKernel20Ideal := hKernel20Ideal) (hReference20Ideal := hReference20Ideal) (hPre_finite20 := hPre_finite20)
-- ==== Pre_finite.lean ====
abbrev S2048x1024 : Shape := ⟨2, ![2048, 1024]⟩
abbrev S2816x1024 : Shape := ⟨2, ![2816, 1024]⟩
abbrev S2048x2816 : Shape := ⟨2, ![2048, 2816]⟩
abbrev S_ : Shape := ⟨0, ![]⟩

class Facts : Prop where
  bitsLt_bf16_f32 : FTy.bits .bf16 < FTy.bits .f32
  bcast_S_S2048x1024 : S_.BroadcastsInDim S2048x1024 (![] : Fin 0 → Fin S2048x1024.rank)
  reducesTo_S2048x1024_S_d0_1 : S2048x1024.ReducesTo [0, 1] S_
  h_S_ : 0 < S_.numel
  bcast_S_S2816x1024 : S_.BroadcastsInDim S2816x1024 (![] : Fin 0 → Fin S2816x1024.rank)
  reducesTo_S2816x1024_S_d0_1 : S2816x1024.ReducesTo [0, 1] S_
  bcast_S_S2048x2816 : S_.BroadcastsInDim S2048x2816 (![] : Fin 0 → Fin S2048x2816.rank)
  reducesTo_S2048x2816_S_d0_1 : S2048x2816.ReducesTo [0, 1] S_

variable [Facts]

def fn_part1 {F : FTy → Type} [FloatOps F] (main_v15 : IVec S_ 1) (main_v16 : FVec F S2048x2816 .f32) (main_cst_4 : FVec F S_ .f32) : IVec S_ 1 :=
  let main_v17 : FVec F S2048x2816 .f32 := broadcastInDim S2048x2816 ![] bcast_S_S2048x2816 main_cst_4
  let main_v18 : IVec S2048x2816 1 := cmpf .olt main_v16 main_v17
  let main_c_5 : IVec S_ 1 := constantI S_ 1 1#1
  let main_v19 : IVec S_ 1 := (fun x v => Host.reduce IntOp.andi x v reducesTo_S2048x2816_S_d0_1 h_S_) main_v18 main_c_5
  let main_v20 : IVec S_ 1 := andi main_v15 main_v19
  main_v20

def fn {F : FTy → Type} [FloatOps F] (main_arg0 : FVec F S2048x1024 .bf16) (main_arg1 : FVec F S2816x1024 .bf16) (main_arg2 : FVec F S2048x2816 .f32) (main_arg3 : FVec F S2048x2816 .f32) : IVec S_ 1 :=
  let main_v0 : FVec F S2048x1024 .f32 := (extf .f32 · bitsLt_bf16_f32) main_arg0
  let main_v1 : FVec F S2048x1024 .f32 := Host.absf main_v0
  let main_cst : FVec F S_ .f32 := constant S_ .f32 0x7F800000#32
  let main_v2 : FVec F S2048x1024 .f32 := broadcastInDim S2048x1024 ![] bcast_S_S2048x1024 main_cst
  let main_v3 : IVec S2048x1024 1 := cmpf .olt main_v1 main_v2
  let main_c : IVec S_ 1 := constantI S_ 1 1#1
  let main_v4 : IVec S_ 1 := (fun x v => Host.reduce IntOp.andi x v reducesTo_S2048x1024_S_d0_1 h_S_) main_v3 main_c
  let main_v5 : FVec F S2816x1024 .f32 := (extf .f32 · bitsLt_bf16_f32) main_arg1
  let main_v6 : FVec F S2816x1024 .f32 := Host.absf main_v5
  let main_cst_0 : FVec F S_ .f32 := constant S_ .f32 0x7F800000#32
  let main_v7 : FVec F S2816x1024 .f32 := broadcastInDim S2816x1024 ![] bcast_S_S2816x1024 main_cst_0
  let main_v8 : IVec S2816x1024 1 := cmpf .olt main_v6 main_v7
  let main_c_1 : IVec S_ 1 := constantI S_ 1 1#1
  let main_v9 : IVec S_ 1 := (fun x v => Host.reduce IntOp.andi x v reducesTo_S2816x1024_S_d0_1 h_S_) main_v8 main_c_1
  let main_v10 : IVec S_ 1 := andi main_v4 main_v9
  let main_v11 : FVec F S2048x2816 .f32 := Host.absf main_arg2
  let main_cst_2 : FVec F S_ .f32 := constant S_ .f32 0x7F800000#32
  let main_v12 : FVec F S2048x2816 .f32 := broadcastInDim S2048x2816 ![] bcast_S_S2048x2816 main_cst_2
  let main_v13 : IVec S2048x2816 1 := cmpf .olt main_v11 main_v12
  let main_c_3 : IVec S_ 1 := constantI S_ 1 1#1
  let main_v14 : IVec S_ 1 := (fun x v => Host.reduce IntOp.andi x v reducesTo_S2048x2816_S_d0_1 h_S_) main_v13 main_c_3
  let main_v15 : IVec S_ 1 := andi main_v10 main_v14
  let main_v16 : FVec F S2048x2816 .f32 := Host.absf main_arg3
  let main_cst_4 : FVec F S_ .f32 := constant S_ .f32 0x7F800000#32
  fn_part1 (F := F) main_v15 main_v16 main_cst_4
-- ==== Pre_finite14.lean ====
abbrev S2x2048x2816 : Shape := ⟨3, ![2, 2048, 2816]⟩
abbrev S5632x1024 : Shape := ⟨2, ![5632, 1024]⟩
abbrev S2048x1024 : Shape := ⟨2, ![2048, 1024]⟩
abbrev S1x1024 : Shape := ⟨2, ![1, 1024]⟩
abbrev S_ : Shape := ⟨0, ![]⟩

class Facts : Prop where
  bitsLt_bf16_f32 : FTy.bits .bf16 < FTy.bits .f32
  bcast_S_S2x2048x2816 : S_.BroadcastsInDim S2x2048x2816 (![] : Fin 0 → Fin S2x2048x2816.rank)
  reducesTo_S2x2048x2816_S_d0_1_2 : S2x2048x2816.ReducesTo [0, 1, 2] S_
  h_S_ : 0 < S_.numel
  bcast_S_S5632x1024 : S_.BroadcastsInDim S5632x1024 (![] : Fin 0 → Fin S5632x1024.rank)
  reducesTo_S5632x1024_S_d0_1 : S5632x1024.ReducesTo [0, 1] S_
  bcast_S_S2048x1024 : S_.BroadcastsInDim S2048x1024 (![] : Fin 0 → Fin S2048x1024.rank)
  reducesTo_S2048x1024_S_d0_1 : S2048x1024.ReducesTo [0, 1] S_
  bcast_S_S1x1024 : S_.BroadcastsInDim S1x1024 (![] : Fin 0 → Fin S1x1024.rank)
  reducesTo_S1x1024_S_d0_1 : S1x1024.ReducesTo [0, 1] S_

variable [Facts]

def fn_part1 {F : FTy → Type} [FloatOps F] (main_v15 : IVec S_ 1) (main_v16 : FVec F S1x1024 .f32) (main_cst_4 : FVec F S_ .f32) : IVec S_ 1 :=
  let main_v17 : FVec F S1x1024 .f32 := broadcastInDim S1x1024 ![] bcast_S_S1x1024 main_cst_4
  let main_v18 : IVec S1x1024 1 := cmpf .olt main_v16 main_v17
  let main_c_5 : IVec S_ 1 := constantI S_ 1 1#1
  let main_v19 : IVec S_ 1 := (fun x v => Host.reduce IntOp.andi x v reducesTo_S1x1024_S_d0_1 h_S_) main_v18 main_c_5
  let main_v20 : IVec S_ 1 := andi main_v15 main_v19
  main_v20

def fn {F : FTy → Type} [FloatOps F] (main_arg0 : FVec F S2x2048x2816 .bf16) (main_arg1 : FVec F S5632x1024 .bf16) (main_arg2 : FVec F S2048x1024 .f32) (main_arg3 : FVec F S1x1024 .f32) (main_arg4 : FVec F S2048x1024 .f32) : IVec S_ 1 :=
  let main_v0 : FVec F S2x2048x2816 .f32 := (extf .f32 · bitsLt_bf16_f32) main_arg0
  let main_v1 : FVec F S2x2048x2816 .f32 := Host.absf main_v0
  let main_cst : FVec F S_ .f32 := constant S_ .f32 0x7F800000#32
  let main_v2 : FVec F S2x2048x2816 .f32 := broadcastInDim S2x2048x2816 ![] bcast_S_S2x2048x2816 main_cst
  let main_v3 : IVec S2x2048x2816 1 := cmpf .olt main_v1 main_v2
  let main_c : IVec S_ 1 := constantI S_ 1 1#1
  let main_v4 : IVec S_ 1 := (fun x v => Host.reduce IntOp.andi x v reducesTo_S2x2048x2816_S_d0_1_2 h_S_) main_v3 main_c
  let main_v5 : FVec F S5632x1024 .f32 := (extf .f32 · bitsLt_bf16_f32) main_arg1
  let main_v6 : FVec F S5632x1024 .f32 := Host.absf main_v5
  let main_cst_0 : FVec F S_ .f32 := constant S_ .f32 0x7F800000#32
  let main_v7 : FVec F S5632x1024 .f32 := broadcastInDim S5632x1024 ![] bcast_S_S5632x1024 main_cst_0
  let main_v8 : IVec S5632x1024 1 := cmpf .olt main_v6 main_v7
  let main_c_1 : IVec S_ 1 := constantI S_ 1 1#1
  let main_v9 : IVec S_ 1 := (fun x v => Host.reduce IntOp.andi x v reducesTo_S5632x1024_S_d0_1 h_S_) main_v8 main_c_1
  let main_v10 : IVec S_ 1 := andi main_v4 main_v9
  let main_v11 : FVec F S2048x1024 .f32 := Host.absf main_arg2
  let main_cst_2 : FVec F S_ .f32 := constant S_ .f32 0x7F800000#32
  let main_v12 : FVec F S2048x1024 .f32 := broadcastInDim S2048x1024 ![] bcast_S_S2048x1024 main_cst_2
  let main_v13 : IVec S2048x1024 1 := cmpf .olt main_v11 main_v12
  let main_c_3 : IVec S_ 1 := constantI S_ 1 1#1
  let main_v14 : IVec S_ 1 := (fun x v => Host.reduce IntOp.andi x v reducesTo_S2048x1024_S_d0_1 h_S_) main_v13 main_c_3
  let main_v15 : IVec S_ 1 := andi main_v10 main_v14
  let main_v16 : FVec F S1x1024 .f32 := Host.absf main_arg3
  let main_cst_4 : FVec F S_ .f32 := constant S_ .f32 0x7F800000#32
  fn_part1 (F := F) main_v15 main_v16 main_cst_4
-- ==== Pre_finite15.lean ====
abbrev S2048x3072 : Shape := ⟨2, ![2048, 3072]⟩
abbrev S1024x3072 : Shape := ⟨2, ![1024, 3072]⟩
abbrev S2048x1024 : Shape := ⟨2, ![2048, 1024]⟩
abbrev S1x1024 : Shape := ⟨2, ![1, 1024]⟩
abbrev S_ : Shape := ⟨0, ![]⟩

class Facts : Prop where
  bitsLt_bf16_f32 : FTy.bits .bf16 < FTy.bits .f32
  bcast_S_S2048x3072 : S_.BroadcastsInDim S2048x3072 (![] : Fin 0 → Fin S2048x3072.rank)
  reducesTo_S2048x3072_S_d0_1 : S2048x3072.ReducesTo [0, 1] S_
  h_S_ : 0 < S_.numel
  bcast_S_S1024x3072 : S_.BroadcastsInDim S1024x3072 (![] : Fin 0 → Fin S1024x3072.rank)
  reducesTo_S1024x3072_S_d0_1 : S1024x3072.ReducesTo [0, 1] S_
  bcast_S_S2048x1024 : S_.BroadcastsInDim S2048x1024 (![] : Fin 0 → Fin S2048x1024.rank)
  reducesTo_S2048x1024_S_d0_1 : S2048x1024.ReducesTo [0, 1] S_
  bcast_S_S1x1024 : S_.BroadcastsInDim S1x1024 (![] : Fin 0 → Fin S1x1024.rank)
  reducesTo_S1x1024_S_d0_1 : S1x1024.ReducesTo [0, 1] S_

variable [Facts]

def fn_part1 {F : FTy → Type} [FloatOps F] (main_v15 : IVec S_ 1) (main_v16 : FVec F S1x1024 .f32) (main_cst_4 : FVec F S_ .f32) : IVec S_ 1 :=
  let main_v17 : FVec F S1x1024 .f32 := broadcastInDim S1x1024 ![] bcast_S_S1x1024 main_cst_4
  let main_v18 : IVec S1x1024 1 := cmpf .olt main_v16 main_v17
  let main_c_5 : IVec S_ 1 := constantI S_ 1 1#1
  let main_v19 : IVec S_ 1 := (fun x v => Host.reduce IntOp.andi x v reducesTo_S1x1024_S_d0_1 h_S_) main_v18 main_c_5
  let main_v20 : IVec S_ 1 := andi main_v15 main_v19
  main_v20

def fn {F : FTy → Type} [FloatOps F] (main_arg0 : FVec F S2048x3072 .bf16) (main_arg1 : FVec F S1024x3072 .bf16) (main_arg2 : FVec F S2048x1024 .f32) (main_arg3 : FVec F S1x1024 .f32) (main_arg4 : FVec F S2048x1024 .f32) : IVec S_ 1 :=
  let main_v0 : FVec F S2048x3072 .f32 := (extf .f32 · bitsLt_bf16_f32) main_arg0
  let main_v1 : FVec F S2048x3072 .f32 := Host.absf main_v0
  let main_cst : FVec F S_ .f32 := constant S_ .f32 0x7F800000#32
  let main_v2 : FVec F S2048x3072 .f32 := broadcastInDim S2048x3072 ![] bcast_S_S2048x3072 main_cst
  let main_v3 : IVec S2048x3072 1 := cmpf .olt main_v1 main_v2
  let main_c : IVec S_ 1 := constantI S_ 1 1#1
  let main_v4 : IVec S_ 1 := (fun x v => Host.reduce IntOp.andi x v reducesTo_S2048x3072_S_d0_1 h_S_) main_v3 main_c
  let main_v5 : FVec F S1024x3072 .f32 := (extf .f32 · bitsLt_bf16_f32) main_arg1
  let main_v6 : FVec F S1024x3072 .f32 := Host.absf main_v5
  let main_cst_0 : FVec F S_ .f32 := constant S_ .f32 0x7F800000#32
  let main_v7 : FVec F S1024x3072 .f32 := broadcastInDim S1024x3072 ![] bcast_S_S1024x3072 main_cst_0
  let main_v8 : IVec S1024x3072 1 := cmpf .olt main_v6 main_v7
  let main_c_1 : IVec S_ 1 := constantI S_ 1 1#1
  let main_v9 : IVec S_ 1 := (fun x v => Host.reduce IntOp.andi x v reducesTo_S1024x3072_S_d0_1 h_S_) main_v8 main_c_1
  let main_v10 : IVec S_ 1 := andi main_v4 main_v9
  let main_v11 : FVec F S2048x1024 .f32 := Host.absf main_arg2
  let main_cst_2 : FVec F S_ .f32 := constant S_ .f32 0x7F800000#32
  let main_v12 : FVec F S2048x1024 .f32 := broadcastInDim S2048x1024 ![] bcast_S_S2048x1024 main_cst_2
  let main_v13 : IVec S2048x1024 1 := cmpf .olt main_v11 main_v12
  let main_c_3 : IVec S_ 1 := constantI S_ 1 1#1
  let main_v14 : IVec S_ 1 := (fun x v => Host.reduce IntOp.andi x v reducesTo_S2048x1024_S_d0_1 h_S_) main_v13 main_c_3
  let main_v15 : IVec S_ 1 := andi main_v10 main_v14
  let main_v16 : FVec F S1x1024 .f32 := Host.absf main_arg3
  let main_cst_4 : FVec F S_ .f32 := constant S_ .f32 0x7F800000#32
  fn_part1 (F := F) main_v15 main_v16 main_cst_4
-- ==== Pre_finite16.lean ====
abbrev S2048x3200 : Shape := ⟨2, ![2048, 3200]⟩
abbrev S1024x3200 : Shape := ⟨2, ![1024, 3200]⟩
abbrev S2048x1024 : Shape := ⟨2, ![2048, 1024]⟩
abbrev S1x1024 : Shape := ⟨2, ![1, 1024]⟩
abbrev S_ : Shape := ⟨0, ![]⟩

class Facts : Prop where
  bitsLt_bf16_f32 : FTy.bits .bf16 < FTy.bits .f32
  bcast_S_S2048x3200 : S_.BroadcastsInDim S2048x3200 (![] : Fin 0 → Fin S2048x3200.rank)
  reducesTo_S2048x3200_S_d0_1 : S2048x3200.ReducesTo [0, 1] S_
  h_S_ : 0 < S_.numel
  bcast_S_S1024x3200 : S_.BroadcastsInDim S1024x3200 (![] : Fin 0 → Fin S1024x3200.rank)
  reducesTo_S1024x3200_S_d0_1 : S1024x3200.ReducesTo [0, 1] S_
  bcast_S_S2048x1024 : S_.BroadcastsInDim S2048x1024 (![] : Fin 0 → Fin S2048x1024.rank)
  reducesTo_S2048x1024_S_d0_1 : S2048x1024.ReducesTo [0, 1] S_
  bcast_S_S1x1024 : S_.BroadcastsInDim S1x1024 (![] : Fin 0 → Fin S1x1024.rank)
  reducesTo_S1x1024_S_d0_1 : S1x1024.ReducesTo [0, 1] S_

variable [Facts]

def fn_part1 {F : FTy → Type} [FloatOps F] (main_v15 : IVec S_ 1) (main_v16 : FVec F S1x1024 .f32) (main_cst_4 : FVec F S_ .f32) : IVec S_ 1 :=
  let main_v17 : FVec F S1x1024 .f32 := broadcastInDim S1x1024 ![] bcast_S_S1x1024 main_cst_4
  let main_v18 : IVec S1x1024 1 := cmpf .olt main_v16 main_v17
  let main_c_5 : IVec S_ 1 := constantI S_ 1 1#1
  let main_v19 : IVec S_ 1 := (fun x v => Host.reduce IntOp.andi x v reducesTo_S1x1024_S_d0_1 h_S_) main_v18 main_c_5
  let main_v20 : IVec S_ 1 := andi main_v15 main_v19
  main_v20

def fn {F : FTy → Type} [FloatOps F] (main_arg0 : FVec F S2048x3200 .bf16) (main_arg1 : FVec F S1024x3200 .bf16) (main_arg2 : FVec F S2048x1024 .f32) (main_arg3 : FVec F S1x1024 .f32) (main_arg4 : FVec F S2048x1024 .f32) : IVec S_ 1 :=
  let main_v0 : FVec F S2048x3200 .f32 := (extf .f32 · bitsLt_bf16_f32) main_arg0
  let main_v1 : FVec F S2048x3200 .f32 := Host.absf main_v0
  let main_cst : FVec F S_ .f32 := constant S_ .f32 0x7F800000#32
  let main_v2 : FVec F S2048x3200 .f32 := broadcastInDim S2048x3200 ![] bcast_S_S2048x3200 main_cst
  let main_v3 : IVec S2048x3200 1 := cmpf .olt main_v1 main_v2
  let main_c : IVec S_ 1 := constantI S_ 1 1#1
  let main_v4 : IVec S_ 1 := (fun x v => Host.reduce IntOp.andi x v reducesTo_S2048x3200_S_d0_1 h_S_) main_v3 main_c
  let main_v5 : FVec F S1024x3200 .f32 := (extf .f32 · bitsLt_bf16_f32) main_arg1
  let main_v6 : FVec F S1024x3200 .f32 := Host.absf main_v5
  let main_cst_0 : FVec F S_ .f32 := constant S_ .f32 0x7F800000#32
  let main_v7 : FVec F S1024x3200 .f32 := broadcastInDim S1024x3200 ![] bcast_S_S1024x3200 main_cst_0
  let main_v8 : IVec S1024x3200 1 := cmpf .olt main_v6 main_v7
  let main_c_1 : IVec S_ 1 := constantI S_ 1 1#1
  let main_v9 : IVec S_ 1 := (fun x v => Host.reduce IntOp.andi x v reducesTo_S1024x3200_S_d0_1 h_S_) main_v8 main_c_1
  let main_v10 : IVec S_ 1 := andi main_v4 main_v9
  let main_v11 : FVec F S2048x1024 .f32 := Host.absf main_arg2
  let main_cst_2 : FVec F S_ .f32 := constant S_ .f32 0x7F800000#32
  let main_v12 : FVec F S2048x1024 .f32 := broadcastInDim S2048x1024 ![] bcast_S_S2048x1024 main_cst_2
  let main_v13 : IVec S2048x1024 1 := cmpf .olt main_v11 main_v12
  let main_c_3 : IVec S_ 1 := constantI S_ 1 1#1
  let main_v14 : IVec S_ 1 := (fun x v => Host.reduce IntOp.andi x v reducesTo_S2048x1024_S_d0_1 h_S_) main_v13 main_c_3
  let main_v15 : IVec S_ 1 := andi main_v10 main_v14
  let main_v16 : FVec F S1x1024 .f32 := Host.absf main_arg3
  let main_cst_4 : FVec F S_ .f32 := constant S_ .f32 0x7F800000#32
  fn_part1 (F := F) main_v15 main_v16 main_cst_4
-- ==== Pre_finite18.lean ====
abbrev S2048x1024 : Shape := ⟨2, ![2048, 1024]⟩
abbrev S1x1024 : Shape := ⟨2, ![1, 1024]⟩
abbrev S_ : Shape := ⟨0, ![]⟩

class Facts : Prop where
  bcast_S_S2048x1024 : S_.BroadcastsInDim S2048x1024 (![] : Fin 0 → Fin S2048x1024.rank)
  reducesTo_S2048x1024_S_d0_1 : S2048x1024.ReducesTo [0, 1] S_
  h_S_ : 0 < S_.numel
  bcast_S_S1x1024 : S_.BroadcastsInDim S1x1024 (![] : Fin 0 → Fin S1x1024.rank)
  reducesTo_S1x1024_S_d0_1 : S1x1024.ReducesTo [0, 1] S_

variable [Facts]

def fn {F : FTy → Type} [FloatOps F] (main_arg0 : FVec F S2048x1024 .f32) (main_arg1 : FVec F S1x1024 .f32) (main_arg2 : FVec F S2048x1024 .f32) : IVec S_ 1 :=
  let main_v0 : FVec F S2048x1024 .f32 := Host.absf main_arg0
  let main_cst : FVec F S_ .f32 := constant S_ .f32 0x7F800000#32
  let main_v1 : FVec F S2048x1024 .f32 := broadcastInDim S2048x1024 ![] bcast_S_S2048x1024 main_cst
  let main_v2 : IVec S2048x1024 1 := cmpf .olt main_v0 main_v1
  let main_c : IVec S_ 1 := constantI S_ 1 1#1
  let main_v3 : IVec S_ 1 := (fun x v => Host.reduce IntOp.andi x v reducesTo_S2048x1024_S_d0_1 h_S_) main_v2 main_c
  let main_v4 : FVec F S1x1024 .f32 := Host.absf main_arg1
  let main_cst_0 : FVec F S_ .f32 := constant S_ .f32 0x7F800000#32
  let main_v5 : FVec F S1x1024 .f32 := broadcastInDim S1x1024 ![] bcast_S_S1x1024 main_cst_0
  let main_v6 : IVec S1x1024 1 := cmpf .olt main_v4 main_v5
  let main_c_1 : IVec S_ 1 := constantI S_ 1 1#1
  let main_v7 : IVec S_ 1 := (fun x v => Host.reduce IntOp.andi x v reducesTo_S1x1024_S_d0_1 h_S_) main_v6 main_c_1
  let main_v8 : IVec S_ 1 := andi main_v3 main_v7
  let main_v9 : FVec F S2048x1024 .f32 := Host.absf main_arg2
  let main_cst_2 : FVec F S_ .f32 := constant S_ .f32 0x7F800000#32
  let main_v10 : FVec F S2048x1024 .f32 := broadcastInDim S2048x1024 ![] bcast_S_S2048x1024 main_cst_2
  let main_v11 : IVec S2048x1024 1 := cmpf .olt main_v9 main_v10
  let main_c_3 : IVec S_ 1 := constantI S_ 1 1#1
  let main_v12 : IVec S_ 1 := (fun x v => Host.reduce IntOp.andi x v reducesTo_S2048x1024_S_d0_1 h_S_) main_v11 main_c_3
  let main_v13 : IVec S_ 1 := andi main_v8 main_v12
  main_v13
-- ==== Pre_finite2.lean ====
abbrev S2048x3072 : Shape := ⟨2, ![2048, 3072]⟩
abbrev S2048x1024 : Shape := ⟨2, ![2048, 1024]⟩
abbrev S_ : Shape := ⟨0, ![]⟩

class Facts : Prop where
  bcast_S_S2048x3072 : S_.BroadcastsInDim S2048x3072 (![] : Fin 0 → Fin S2048x3072.rank)
  reducesTo_S2048x3072_S_d0_1 : S2048x3072.ReducesTo [0, 1] S_
  h_S_ : 0 < S_.numel
  bcast_S_S2048x1024 : S_.BroadcastsInDim S2048x1024 (![] : Fin 0 → Fin S2048x1024.rank)
  reducesTo_S2048x1024_S_d0_1 : S2048x1024.ReducesTo [0, 1] S_

variable [Facts]

def fn {F : FTy → Type} [FloatOps F] (main_arg0 : FVec F S2048x3072 .f32) (main_arg1 : FVec F S2048x1024 .f32) : IVec S_ 1 :=
  let main_v0 : FVec F S2048x3072 .f32 := Host.absf main_arg0
  let main_cst : FVec F S_ .f32 := constant S_ .f32 0x7F800000#32
  let main_v1 : FVec F S2048x3072 .f32 := broadcastInDim S2048x3072 ![] bcast_S_S2048x3072 main_cst
  let main_v2 : IVec S2048x3072 1 := cmpf .olt main_v0 main_v1
  let main_c : IVec S_ 1 := constantI S_ 1 1#1
  let main_v3 : IVec S_ 1 := (fun x v => Host.reduce IntOp.andi x v reducesTo_S2048x3072_S_d0_1 h_S_) main_v2 main_c
  let main_v4 : FVec F S2048x1024 .f32 := Host.absf main_arg1
  let main_cst_0 : FVec F S_ .f32 := constant S_ .f32 0x7F800000#32
  let main_v5 : FVec F S2048x1024 .f32 := broadcastInDim S2048x1024 ![] bcast_S_S2048x1024 main_cst_0
  let main_v6 : IVec S2048x1024 1 := cmpf .olt main_v4 main_v5
  let main_c_1 : IVec S_ 1 := constantI S_ 1 1#1
  let main_v7 : IVec S_ 1 := (fun x v => Host.reduce IntOp.andi x v reducesTo_S2048x1024_S_d0_1 h_S_) main_v6 main_c_1
  let main_v8 : IVec S_ 1 := andi main_v3 main_v7
  main_v8
-- ==== Pre_finite20.lean ====
abbrev S2048x3200 : Shape := ⟨2, ![2048, 3200]⟩
abbrev S16x2048 : Shape := ⟨2, ![16, 2048]⟩
abbrev S2048x1024 : Shape := ⟨2, ![2048, 1024]⟩
abbrev S_ : Shape := ⟨0, ![]⟩

class Facts : Prop where
  bcast_S_S2048x3200 : S_.BroadcastsInDim S2048x3200 (![] : Fin 0 → Fin S2048x3200.rank)
  reducesTo_S2048x3200_S_d0_1 : S2048x3200.ReducesTo [0, 1] S_
  h_S_ : 0 < S_.numel
  bcast_S_S16x2048 : S_.BroadcastsInDim S16x2048 (![] : Fin 0 → Fin S16x2048.rank)
  reducesTo_S16x2048_S_d0_1 : S16x2048.ReducesTo [0, 1] S_
  bcast_S_S2048x1024 : S_.BroadcastsInDim S2048x1024 (![] : Fin 0 → Fin S2048x1024.rank)
  reducesTo_S2048x1024_S_d0_1 : S2048x1024.ReducesTo [0, 1] S_

variable [Facts]

def fn {F : FTy → Type} [FloatOps F] (main_arg0 : FVec F S2048x3200 .f32) (main_arg1 : FVec F S16x2048 .f32) (main_arg2 : FVec F S2048x1024 .f32) : IVec S_ 1 :=
  let main_v0 : FVec F S2048x3200 .f32 := Host.absf main_arg0
  let main_cst : FVec F S_ .f32 := constant S_ .f32 0x7F800000#32
  let main_v1 : FVec F S2048x3200 .f32 := broadcastInDim S2048x3200 ![] bcast_S_S2048x3200 main_cst
  let main_v2 : IVec S2048x3200 1 := cmpf .olt main_v0 main_v1
  let main_c : IVec S_ 1 := constantI S_ 1 1#1
  let main_v3 : IVec S_ 1 := (fun x v => Host.reduce IntOp.andi x v reducesTo_S2048x3200_S_d0_1 h_S_) main_v2 main_c
  let main_v4 : FVec F S16x2048 .f32 := Host.absf main_arg1
  let main_cst_0 : FVec F S_ .f32 := constant S_ .f32 0x7F800000#32
  let main_v5 : FVec F S16x2048 .f32 := broadcastInDim S16x2048 ![] bcast_S_S16x2048 main_cst_0
  let main_v6 : IVec S16x2048 1 := cmpf .olt main_v4 main_v5
  let main_c_1 : IVec S_ 1 := constantI S_ 1 1#1
  let main_v7 : IVec S_ 1 := (fun x v => Host.reduce IntOp.andi x v reducesTo_S16x2048_S_d0_1 h_S_) main_v6 main_c_1
  let main_v8 : IVec S_ 1 := andi main_v3 main_v7
  let main_v9 : FVec F S2048x1024 .f32 := Host.absf main_arg2
  let main_cst_2 : FVec F S_ .f32 := constant S_ .f32 0x7F800000#32
  let main_v10 : FVec F S2048x1024 .f32 := broadcastInDim S2048x1024 ![] bcast_S_S2048x1024 main_cst_2
  let main_v11 : IVec S2048x1024 1 := cmpf .olt main_v9 main_v10
  let main_c_3 : IVec S_ 1 := constantI S_ 1 1#1
  let main_v12 : IVec S_ 1 := (fun x v => Host.reduce IntOp.andi x v reducesTo_S2048x1024_S_d0_1 h_S_) main_v11 main_c_3
  let main_v13 : IVec S_ 1 := andi main_v8 main_v12
  main_v13
-- ==== Kernel.lean ====
abbrev S2048x1024 : Shape := ⟨2, ![2048, 1024]⟩
abbrev S2816x1024 : Shape := ⟨2, ![2816, 1024]⟩
abbrev S2048x2816 : Shape := ⟨2, ![2048, 2816]⟩
abbrev S2x2048x2816 : Shape := ⟨3, ![2, 2048, 2816]⟩
abbrev S512x1024 : Shape := ⟨2, ![512, 1024]⟩
abbrev S1408x1024 : Shape := ⟨2, ![1408, 1024]⟩
abbrev S512x1408 : Shape := ⟨2, ![512, 1408]⟩
abbrev S2x512x1408 : Shape := ⟨3, ![2, 512, 1408]⟩
abbrev S1x512x1408 : Shape := ⟨3, ![1, 512, 1408]⟩

abbrev nBuf : Space → Nat
  | .hbm => 5
  | .vmem => 10
  | .smem => 0
  | _ => 0

abbrev bufTy : (tb : Table) → Fin (tcTables nBuf tb) → BufTy
  | .hbm, ⟨0, _⟩ => ⟨S2048x1024, .bf16⟩
  | .hbm, ⟨1, _⟩ => ⟨S2816x1024, .bf16⟩
  | .hbm, ⟨2, _⟩ => ⟨S2048x2816, .f32⟩
  | .hbm, ⟨3, _⟩ => ⟨S2048x2816, .f32⟩
  | .hbm, ⟨4, _⟩ => ⟨S2x2048x2816, .bf16⟩
  | .local _ .vmem, ⟨0, _⟩ => ⟨S512x1024, .bf16⟩
  | .local _ .vmem, ⟨1, _⟩ => ⟨S512x1024, .bf16⟩
  | .local _ .vmem, ⟨2, _⟩ => ⟨S1408x1024, .bf16⟩
  | .local _ .vmem, ⟨3, _⟩ => ⟨S1408x1024, .bf16⟩
  | .local _ .vmem, ⟨4, _⟩ => ⟨S512x1408, .f32⟩
  | .local _ .vmem, ⟨5, _⟩ => ⟨S512x1408, .f32⟩
  | .local _ .vmem, ⟨6, _⟩ => ⟨S512x1408, .f32⟩
  | .local _ .vmem, ⟨7, _⟩ => ⟨S512x1408, .f32⟩
  | .local _ .vmem, ⟨8, _⟩ => ⟨S2x512x1408, .bf16⟩
  | .local _ .vmem, ⟨9, _⟩ => ⟨S2x512x1408, .bf16⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![4, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x1408 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S2x512x1408 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== ReferenceIdeal.lean ====
abbrev S2048x1024 : Shape := ⟨2, ![2048, 1024]⟩
abbrev S2816x1024 : Shape := ⟨2, ![2816, 1024]⟩
abbrev S2048x2816 : Shape := ⟨2, ![2048, 2816]⟩
abbrev S_ : Shape := ⟨0, ![]⟩
abbrev S1x2048x2816 : Shape := ⟨3, ![1, 2048, 2816]⟩
abbrev S2x2048x2816 : Shape := ⟨3, ![2, 2048, 2816]⟩

abbrev nBuf : Space → Nat
  | .hbm => 32
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S2816x1024, .bf16⟩
  | .hbm, ⟨2, _⟩ => ⟨S2048x2816, .f32⟩
  | .hbm, ⟨3, _⟩ => ⟨S2048x2816, .f32⟩
  | .hbm, ⟨4, _⟩ => ⟨S2816x1024, .f32⟩
  | .hbm, ⟨5, _⟩ => ⟨S2048x2816, .f32⟩
  | .hbm, ⟨6, _⟩ => ⟨S2048x2816, .f32⟩
  | .hbm, ⟨7, _⟩ => ⟨S_, .f32⟩
  | .hbm, ⟨8, _⟩ => ⟨S2048x2816, .f32⟩
  | .hbm, ⟨9, _⟩ => ⟨S2048x2816, .f32⟩
  | .hbm, ⟨10, _⟩ => ⟨S_, .f32⟩
  | .hbm, ⟨11, _⟩ => ⟨S2048x2816, .f32⟩
  | .hbm, ⟨12, _⟩ => ⟨S2048x2816, .f32⟩
  | .hbm, ⟨13, _⟩ => ⟨S_, .f32⟩
  | .hbm, ⟨14, _⟩ => ⟨S2048x2816, .f32⟩
  | .hbm, ⟨15, _⟩ => ⟨S2048x2816, .f32⟩
  | .hbm, ⟨16, _⟩ => ⟨S2048x2816, .f32⟩
  | .hbm, ⟨17, _⟩ => ⟨S2048x2816, .f32⟩
  | .hbm, ⟨18, _⟩ => ⟨S2048x2816, .f32⟩
  | .hbm, ⟨19, _⟩ => ⟨S2048x1024, .f32⟩
  | .hbm, ⟨20, _⟩ => ⟨S2048x1024, .f32⟩
  | .hbm, ⟨21, _⟩ => ⟨S2048x2816, .f32⟩
  | .hbm, ⟨22, _⟩ => ⟨S2048x2816, .f32⟩
  | .hbm, ⟨23, _⟩ => ⟨S2048x2816, .f32⟩
  | .hbm, ⟨24, _⟩ => ⟨S2048x2816, .f32⟩
  | .hbm, ⟨25, _⟩ => ⟨S2048x2816, .f32⟩
  | .hbm, ⟨26, _⟩ => ⟨S2048x2816, .f32⟩
  | .hbm, ⟨27, _⟩ => ⟨S2048x2816, .f32⟩
  | .hbm, ⟨28, _⟩ => ⟨S1x2048x2816, .f32⟩
  | .hbm, ⟨29, _⟩ => ⟨S1x2048x2816, .f32⟩
  | .hbm, ⟨30, _⟩ => ⟨S2x2048x2816, .f32⟩
  | .hbm, ⟨31, _⟩ => ⟨S2x2048x2816, .bf16⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_call0_v0 : Ref sig .tc := ⟨.hbm, 5, rfl⟩
abbrev main_call0_v1 : Ref sig .tc := ⟨.hbm, 6, rfl⟩
abbrev main_call0_cst : Ref sig .tc := ⟨.hbm, 7, rfl⟩
abbrev main_call0_v2 : Ref sig .tc := ⟨.hbm, 8, rfl⟩
abbrev main_call0_v3 : Ref sig .tc := ⟨.hbm, 9, rfl⟩
abbrev main_call0_cst_0 : Ref sig .tc := ⟨.hbm, 10, rfl⟩
abbrev main_call0_v4 : Ref sig .tc := ⟨.hbm, 11, rfl⟩
abbrev main_v1_2 : Ref sig .tc := ⟨.hbm, 12, rfl⟩
abbrev main_call0_cst_1 : Ref sig .tc := ⟨.hbm, 13, rfl⟩
abbrev main_call0_v6 : Ref sig .tc := ⟨.hbm, 14, rfl⟩
abbrev main_call0_v7 : Ref sig .tc := ⟨.hbm, 15, rfl⟩
abbrev main_v1_1 : Ref sig .tc := ⟨.hbm, 16, rfl⟩
abbrev main_v1_0 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_call1_v0 : Ref sig .tc := ⟨.hbm, 24, rfl⟩
abbrev main_call1_v1 : Ref sig .tc := ⟨.hbm, 25, rfl⟩
abbrev main_call1_v2 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩

abbrev nD : Nat := 1
abbrev τ : Topo := Topo.v7x

variable {F : FTy → Type} [FloatOps F]
-- ==== Kernel2.lean ====
abbrev S2048x3072 : Shape := ⟨2, ![2048, 3072]⟩
abbrev S2048x1024 : Shape := ⟨2, ![2048, 1024]⟩
abbrev S2048x512 : Shape := ⟨2, ![2048, 512]⟩
abbrev S2048x8x64 : Shape := ⟨3, ![2048, 8, 64]⟩
abbrev S_ : Shape := ⟨0, ![]⟩
abbrev S8x2048x2048 : Shape := ⟨3, ![8, 2048, 2048]⟩
abbrev S2048 : Shape := ⟨1, ![2048]⟩
abbrev S1x2048 : Shape := ⟨2, ![1, 2048]⟩
abbrev S2048x1 : Shape := ⟨2, ![2048, 1]⟩
abbrev S2048x2048 : Shape := ⟨2, ![2048, 2048]⟩
abbrev S8x2048 : Shape := ⟨2, ![8, 2048]⟩
abbrev S8x2048x1 : Shape := ⟨3, ![8, 2048, 1]⟩
abbrev S2048x128 : Shape := ⟨2, ![2048, 128]⟩
abbrev S2x2048x1 : Shape := ⟨3, ![2, 2048, 1]⟩
abbrev S128x2048 : Shape := ⟨2, ![128, 2048]⟩
abbrev S256x128 : Shape := ⟨2, ![256, 128]⟩
abbrev S128x256 : Shape := ⟨2, ![128, 256]⟩
abbrev S256x256 : Shape := ⟨2, ![256, 256]⟩
abbrev S1x256x1 : Shape := ⟨3, ![1, 256, 1]⟩
abbrev S256x1 : Shape := ⟨2, ![256, 1]⟩

abbrev nBuf : Space → Nat
  | .hbm => 49
  | .vmem => 30
  | .smem => 0
  | _ => 0

abbrev bufTy : (tb : Table) → Fin (tcTables nBuf tb) → BufTy
  | .hbm, ⟨0, _⟩ => ⟨S2048x3072, .f32⟩
  | .hbm, ⟨1, _⟩ => ⟨S2048x1024, .f32⟩
  | .hbm, ⟨2, _⟩ => ⟨S2048x1024, .f32⟩
  | .hbm, ⟨3, _⟩ => ⟨S2048x1024, .f32⟩
  | .hbm, ⟨4, _⟩ => ⟨S2048x1024, .f32⟩
  | .hbm, ⟨5, _⟩ => ⟨S2048x512, .f32⟩
  | .hbm, ⟨6, _⟩ => ⟨S2048x8x64, .f32⟩
  | .hbm, ⟨7, _⟩ => ⟨S2048x512, .f32⟩
  | .hbm, ⟨8, _⟩ => ⟨S2048x8x64, .f32⟩
  | .hbm, ⟨9, _⟩ => ⟨S2048x512, .f32⟩
  | .hbm, ⟨10, _⟩ => ⟨S2048x8x64, .f32⟩
  | .hbm, ⟨11, _⟩ => ⟨S_, .f32⟩
  | .hbm, ⟨12, _⟩ => ⟨S2048x8x64, .f32⟩
  | .hbm, ⟨13, _⟩ => ⟨S2048x8x64, .f32⟩
  | .hbm, ⟨14, _⟩ => ⟨S8x2048x2048, .f32⟩
  | .hbm, ⟨15, _⟩ => ⟨S2048, .i32⟩
  | .hbm, ⟨16, _⟩ => ⟨S1x2048, .i32⟩
  | .hbm, ⟨17, _⟩ => ⟨S2048x1, .i32⟩
  | .hbm, ⟨18, _⟩ => ⟨S2048x2048, .i32⟩
  | .hbm, ⟨19, _⟩ => ⟨S2048x2048, .i32⟩
  | .hbm, ⟨20, _⟩ => ⟨S2048x2048, .i1⟩
  | .hbm, ⟨21, _⟩ => ⟨S8x2048x2048, .f32⟩
  | .hbm, ⟨22, _⟩ => ⟨S8x2048x2048, .f32⟩
  | .hbm, ⟨23, _⟩ => ⟨S_, .f32⟩
  | .hbm, ⟨24, _⟩ => ⟨S8x2048x2048, .f32⟩
  | .hbm, ⟨25, _⟩ => ⟨S8x2048x2048, .f32⟩
  | .hbm, ⟨26, _⟩ => ⟨S8x2048x2048, .f32⟩
  | .hbm, ⟨27, _⟩ => ⟨S8x2048x2048, .f32⟩
  | .hbm, ⟨28, _⟩ => ⟨S8x2048x2048, .i1⟩
  | .hbm, ⟨29, _⟩ => ⟨S8x2048x2048, .f32⟩
  | .hbm, ⟨30, _⟩ => ⟨S8x2048x2048, .f32⟩
  | .hbm, ⟨31, _⟩ => ⟨S8x2048x2048, .f32⟩
  | .hbm, ⟨32, _⟩ => ⟨S8x2048x2048, .f32⟩
  | .hbm, ⟨33, _⟩ => ⟨S8x2048x2048, .f32⟩
  | .hbm, ⟨34, _⟩ => ⟨S8x2048x2048, .f32⟩
  | .hbm, ⟨35, _⟩ => ⟨S8x2048x2048, .f32⟩
  | .hbm, ⟨36, _⟩ => ⟨S8x2048x2048, .f32⟩
  | .hbm, ⟨37, _⟩ => ⟨S8x2048x2048, .f32⟩
  | .hbm, ⟨38, _⟩ => ⟨S_, .f32⟩
  | .hbm, ⟨39, _⟩ => ⟨S_, .f32⟩
  | .hbm, ⟨40, _⟩ => ⟨S8x2048x2048, .i1⟩
  | .hbm, ⟨41, _⟩ => ⟨S8x2048x2048, .f32⟩
  | .hbm, ⟨42, _⟩ => ⟨S8x2048x2048, .f32⟩
  | .hbm, ⟨43, _⟩ => ⟨S_, .f32⟩
  | .hbm, ⟨44, _⟩ => ⟨S8x2048, .f32⟩
  | .hbm, ⟨45, _⟩ => ⟨S8x2048x1, .f32⟩
  | .hbm, ⟨46, _⟩ => ⟨S2048x512, .bf16⟩
  | .hbm, ⟨47, _⟩ => ⟨S2048x512, .bf16⟩
  | .hbm, ⟨48, _⟩ => ⟨S2048x512, .bf16⟩
  | .local _ .vmem, ⟨0, _⟩ => ⟨S2048x128, .f32⟩
  | .local _ .vmem, ⟨1, _⟩ => ⟨S2048x128, .f32⟩
  | .local _ .vmem, ⟨2, _⟩ => ⟨S2048x128, .f32⟩
  | .local _ .vmem, ⟨3, _⟩ => ⟨S2048x128, .f32⟩
  | .local _ .vmem, ⟨4, _⟩ => ⟨S2048x128, .f32⟩
  | .local _ .vmem, ⟨5, _⟩ => ⟨S2048x128, .f32⟩
  | .local _ .vmem, ⟨6, _⟩ => ⟨S2048x128, .f32⟩
  | .local _ .vmem, ⟨7, _⟩ => ⟨S2048x128, .f32⟩
  | .local _ .vmem, ⟨8, _⟩ => ⟨S2x2048x1, .f32⟩
  | .local _ .vmem, ⟨9, _⟩ => ⟨S2x2048x1, .f32⟩
  | .local _ .vmem, ⟨10, _⟩ => ⟨S2048x128, .bf16⟩
  | .local _ .vmem, ⟨11, _⟩ => ⟨S2048x128, .bf16⟩
  | .local _ .vmem, ⟨12, _⟩ => ⟨S2048x128, .bf16⟩
  | .local _ .vmem, ⟨13, _⟩ => ⟨S2048x128, .bf16⟩
  | .local _ .vmem, ⟨14, _⟩ => ⟨S2048x128, .bf16⟩
  | .local _ .vmem, ⟨15, _⟩ => ⟨S2048x128, .bf16⟩
  | .local _ .vmem, ⟨16, _⟩ => ⟨S2048x128, .bf16⟩
  | .local _ .vmem, ⟨17, _⟩ => ⟨S2048x128, .bf16⟩
  | .local _ .vmem, ⟨18, _⟩ => ⟨S2048x128, .bf16⟩
  | .local _ .vmem, ⟨19, _⟩ => ⟨S2048x128, .bf16⟩
  | .local _ .vmem, ⟨20, _⟩ => ⟨S2048x128, .bf16⟩
  | .local _ .vmem, ⟨21, _⟩ => ⟨S2048x128, .bf16⟩
  | .local _ .vmem, ⟨22, _⟩ => ⟨S2048x128, .bf16⟩
  | .local _ .vmem, ⟨23, _⟩ => ⟨S2048x128, .bf16⟩
  | .local _ .vmem, ⟨24, _⟩ => ⟨S128x2048, .bf16⟩
  | .local _ .vmem, ⟨25, _⟩ => ⟨S128x2048, .bf16⟩
  | .local _ .vmem, ⟨26, _⟩ => ⟨S128x2048, .bf16⟩
  | .local _ .vmem, ⟨27, _⟩ => ⟨S128x2048, .bf16⟩
  | .local _ .vmem, ⟨28, _⟩ => ⟨S128x2048, .f32⟩
  | .local _ .vmem, ⟨29, _⟩ => ⟨S128x2048, .f32⟩
  | _, _ => ⟨S2048x3072, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_cst : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_call0_v0 : Ref sig .tc := ⟨.hbm, 22, rfl⟩
abbrev main_call0_call0_cst : Ref sig .tc := ⟨.hbm, 23, rfl⟩
abbrev main_call0_call0_v0 : Ref sig .tc := ⟨.hbm, 24, rfl⟩
abbrev main_call0_call0_v1 : Ref sig .tc := ⟨.hbm, 25, rfl⟩
abbrev main_call0_call0_v2 : Ref sig .tc := ⟨.hbm, 26, rfl⟩
abbrev main_call0_call0_v3 : Ref sig .tc := ⟨.hbm, 27, rfl⟩
abbrev main_call0_call0_v4 : Ref sig .tc := ⟨.hbm, 28, rfl⟩
abbrev main_call0_call0_v5 : Ref sig .tc := ⟨.hbm, 29, rfl⟩
abbrev main_call0_call0_v6 : Ref sig .tc := ⟨.hbm, 30, rfl⟩
abbrev main_call0_call0_v7 : Ref sig .tc := ⟨.hbm, 31, rfl⟩
abbrev main_call0_call0_v8 : Ref sig .tc := ⟨.hbm, 32, rfl⟩
abbrev main_call0_call0_v9 : Ref sig .tc := ⟨.hbm, 33, rfl⟩
abbrev main_call0_call0_v10 : Ref sig .tc := ⟨.hbm, 34, rfl⟩
abbrev main_call0_call0_v11 : Ref sig .tc := ⟨.hbm, 35, rfl⟩
abbrev main_call0_v1 : Ref sig .tc := ⟨.hbm, 36, rfl⟩
abbrev main_v19 : Ref sig .tc := ⟨.hbm, 37, rfl⟩
abbrev main_cst_0 : Ref sig .tc := ⟨.hbm, 38, rfl⟩
abbrev main_call1_v0 : Ref sig .tc := ⟨.hbm, 39, rfl⟩
abbrev main_call1_v1 : Ref sig .tc := ⟨.hbm, 40, rfl⟩
abbrev main_call1_v2 : Ref sig .tc := ⟨.hbm, 41, rfl⟩
abbrev main_v20 : Ref sig .tc := ⟨.hbm, 42, rfl⟩
abbrev main_cst_1 : Ref sig .tc := ⟨.hbm, 43, rfl⟩
abbrev main_v21 : Ref sig .tc := ⟨.hbm, 44, rfl⟩
abbrev main_v22 : Ref sig .tc := ⟨.hbm, 45, rfl⟩
abbrev main_v23_0 : Ref sig .tc := ⟨.hbm, 46, rfl⟩
abbrev main_v23_1 : Ref sig .tc := ⟨.hbm, 47, rfl⟩
abbrev main_v23_2 : Ref sig .tc := ⟨.hbm, 48, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_scratch0 : Ref sig .tc := ⟨.vmem, 16, rfl⟩
abbrev cc0_scratch1 : Ref sig .tc := ⟨.vmem, 17, rfl⟩
abbrev cc0_scratch2 : Ref sig .tc := ⟨.vmem, 18, rfl⟩
abbrev cc0_scratch3 : Ref sig .tc := ⟨.vmem, 19, rfl⟩
abbrev cc0_scratch4 : Ref sig .tc := ⟨.vmem, 20, rfl⟩
abbrev cc0_scratch5 : Ref sig .tc := ⟨.vmem, 21, rfl⟩
abbrev cc0_scratch6 : Ref sig .tc := ⟨.vmem, 22, rfl⟩
abbrev cc0_scratch7 : Ref sig .tc := ⟨.vmem, 23, rfl⟩
abbrev cc0_scratch8 : Ref sig .tc := ⟨.vmem, 24, rfl⟩
abbrev cc0_scratch9 : Ref sig .tc := ⟨.vmem, 25, rfl⟩
abbrev cc0_scratch10 : Ref sig .tc := ⟨.vmem, 26, rfl⟩
abbrev cc0_scratch11 : Ref sig .tc := ⟨.vmem, 27, rfl⟩
abbrev cc0_scratch12 : Ref sig .tc := ⟨.vmem, 28, rfl⟩
abbrev cc0_scratch13 : Ref sig .tc := ⟨.vmem, 29, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![4], ![false]⟩

@[reducible] def k0_t1_loop : Scf.Loop 32 :=
  let c0_i32 : BitVec 32 := 0#32
  let c8_i32 : BitVec 32 := 8#32
  let v6 : BitVec 32 := Scalar.addi c0_i32 c8_i32
  let c1_i32 : BitVec 32 := 1#32
  ⟨c0_i32, v6, c1_i32⟩
def k0_mult1 (k0_t1 : Fin k0_t1_loop.trips) : BitVec 32 :=
  let c0_i32 : BitVec 32 := 0#32
  let c1_i32 : BitVec 32 := 1#32
  let arg23 : BitVec 32 := Scf.iv c0_i32 c1_i32 k0_t1
  let c256_i32 : BitVec 32 := 256#32
  let v27 : BitVec 32 := Scalar.muli arg23 c256_i32
  v27
def k0_off1 (k0_t1 : Fin k0_t1_loop.trips) : Fin 2 → Nat :=
  let c0_i32 : BitVec 32 := 0#32
  let c1_i32 : BitVec 32 := 1#32
  let arg23 : BitVec 32 := Scf.iv c0_i32 c1_i32 k0_t1
  let c256_i32 : BitVec 32 := 256#32
  let v27 : BitVec 32 := Scalar.muli arg23 c256_i32
  let v28 : BitVec 32 := v27
  let v29 : Index := Scalar.indexCast v28
  let c0_16 : Index := 0#32
  ![v29.toNat, 0]
def k0_mult2 (k0_t1 : Fin k0_t1_loop.trips) : BitVec 32 :=
  let c0_i32 : BitVec 32 := 0#32
  let c1_i32 : BitVec 32 := 1#32
  let arg23 : BitVec 32 := Scf.iv c0_i32 c1_i32 k0_t1
  let c256_i32_20 : BitVec 32 := 256#32
  let v37 : BitVec 32 := Scalar.muli arg23 c256_i32_20
  v37
def k0_off2 (k0_t1 : Fin k0_t1_loop.trips) : Fin 2 → Nat :=
  let c0_35 : Index := 0#32
  let c0_i32 : BitVec 32 := 0#32
  let c1_i32 : BitVec 32 := 1#32
  let arg23 : BitVec 32 := Scf.iv c0_i32 c1_i32 k0_t1
  let c256_i32_20 : BitVec 32 := 256#32
  let v37 : BitVec 32 := Scalar.muli arg23 c256_i32_20
  let v38 : BitVec 32 := v37
  let v98 : Index := Scalar.indexCast v38
  ![0, v98.toNat]
@[reducible] def k0_t2_loop : Scf.Loop 32 :=
  let c0_i32_8 : BitVec 32 := 0#32
  let c8_i32_9 : BitVec 32 := 8#32
  let v25 : BitVec 32 := Scalar.addi c0_i32_8 c8_i32_9
  let c1_i32_10 : BitVec 32 := 1#32
  ⟨c0_i32_8, v25, c1_i32_10⟩
def k0_mult3 (k0_t2 : Fin k0_t2_loop.trips) : BitVec 32 :=
  let c0_i32_8 : BitVec 32 := 0#32
  let c1_i32_10 : BitVec 32 := 1#32
  let arg23 : BitVec 32 := Scf.iv c0_i32_8 c1_i32_10 k0_t2
  let c256_i32 : BitVec 32 := 256#32
  let v27 : BitVec 32 := Scalar.muli arg23 c256_i32
  v27
def k0_off3 (k0_t2 : Fin k0_t2_loop.trips) : Fin 3 → Nat :=
  let c0_16 : Index := 0#32
  let c0_i32_8 : BitVec 32 := 0#32
  let c1_i32_10 : BitVec 32 := 1#32
  let arg23 : BitVec 32 := Scf.iv c0_i32_8 c1_i32_10 k0_t2
  let c256_i32 : BitVec 32 := 256#32
  let v27 : BitVec 32 := Scalar.muli arg23 c256_i32
  let v28 : BitVec 32 := v27
  let v29 : Index := Scalar.indexCast v28
  let c0_17 : Index := 0#32
  ![0, v29.toNat, 0]
def k0_off4 (k0_t2 : Fin k0_t2_loop.trips) : Fin 3 → Nat :=
  let c1 : Index := 1#32
  let c0_i32_8 : BitVec 32 := 0#32
  let c1_i32_10 : BitVec 32 := 1#32
  let arg23 : BitVec 32 := Scf.iv c0_i32_8 c1_i32_10 k0_t2
  let c256_i32 : BitVec 32 := 256#32
  let v27 : BitVec 32 := Scalar.muli arg23 c256_i32
  let v28 : BitVec 32 := v27
  let v32 : Index := Scalar.indexCast v28
  let c0_18 : Index := 0#32
  ![1, v32.toNat, 0]
@[reducible] def k0_t3_loop (k0_t2 : Fin k0_t2_loop.trips) : Scf.Loop 32 :=
  let c0_i32_21 : BitVec 32 := 0#32
  let c0_i32_8 : BitVec 32 := 0#32
  let c1_i32_10 : BitVec 32 := 1#32
  let arg23 : BitVec 32 := Scf.iv c0_i32_8 c1_i32_10 k0_t2
  let v37 : BitVec 32 := Scalar.subi arg23 c0_i32_21
  let c1_i32_22 : BitVec 32 := 1#32
  let v39 : BitVec 32 := Scalar.divsi v37 c1_i32_22
  let v40 : BitVec 32 := Scalar.muli v39 c1_i32_22
  let v41 : BitVec 32 := Scalar.addi c0_i32_21 v40
  let c1_i32_23 : BitVec 32 := 1#32
  ⟨c0_i32_21, v41, c1_i32_23⟩
def k0_mult4 (k0_t2 : Fin k0_t2_loop.trips) (k0_t3 : Fin (k0_t3_loop k0_t2).trips) : BitVec 32 :=
  let c0_i32_21 : BitVec 32 := 0#32
  let c1_i32_23 : BitVec 32 := 1#32
  let arg24 : BitVec 32 := Scf.iv c0_i32_21 c1_i32_23 k0_t3
  let c256_i32_75 : BitVec 32 := 256#32
  let v193 : BitVec 32 := Scalar.muli arg24 c256_i32_75
  v193
def k0_off5 (k0_t2 : Fin k0_t2_loop.trips) (k0_t3 : Fin (k0_t3_loop k0_t2).trips) : Fin 2 → Nat :=
  let c0_i32_21 : BitVec 32 := 0#32
  let c1_i32_23 : BitVec 32 := 1#32
  let arg24 : BitVec 32 := Scf.iv c0_i32_21 c1_i32_23 k0_t3
  let c256_i32_75 : BitVec 32 := 256#32
  let v193 : BitVec 32 := Scalar.muli arg24 c256_i32_75
  let v194 : BitVec 32 := v193
  let v195 : Index := Scalar.indexCast v194
  let c0_76 : Index := 0#32
  ![v195.toNat, 0]
def k0_off6 (k0_t2 : Fin k0_t2_loop.trips) : Fin 2 → Nat :=
  let c0_i32_8 : BitVec 32 := 0#32
  let c1_i32_10 : BitVec 32 := 1#32
  let arg23 : BitVec 32 := Scf.iv c0_i32_8 c1_i32_10 k0_t2
  let c256_i32 : BitVec 32 := 256#32
  let v27 : BitVec 32 := Scalar.muli arg23 c256_i32
  let v28 : BitVec 32 := v27
  let v199 : Index := Scalar.indexCast v28
  let c0_78 : Index := 0#32
  ![v199.toNat, 0]
def k0_off7 (k0_t2 : Fin k0_t2_loop.trips) (k0_t3 : Fin (k0_t3_loop k0_t2).trips) : Fin 2 → Nat :=
  let c0_102 : Index := 0#32
  let c0_i32_21 : BitVec 32 := 0#32
  let c1_i32_23 : BitVec 32 := 1#32
  let arg24 : BitVec 32 := Scf.iv c0_i32_21 c1_i32_23 k0_t3
  let c256_i32_75 : BitVec 32 := 256#32
  let v193 : BitVec 32 := Scalar.muli arg24 c256_i32_75
  let v194 : BitVec 32 := v193
  let v279 : Index := Scalar.indexCast v194
  ![0, v279.toNat]
def k0_off8 (k0_t2 : Fin k0_t2_loop.trips) : Fin 2 → Nat :=
  let c0_106 : Index := 0#32
  let c0_i32_8 : BitVec 32 := 0#32
  let c1_i32_10 : BitVec 32 := 1#32
  let arg23 : BitVec 32 := Scf.iv c0_i32_8 c1_i32_10 k0_t2
  let c256_i32 : BitVec 32 := 256#32
  let v27 : BitVec 32 := Scalar.muli arg23 c256_i32
  let v28 : BitVec 32 := v27
  let v293 : Index := Scalar.indexCast v28
  ![0, v293.toNat]
@[reducible] def k0_t4_loop (k0_t2 : Fin k0_t2_loop.trips) : Scf.Loop 32 :=
  let c0_i32_21 : BitVec 32 := 0#32
  let c0_i32_8 : BitVec 32 := 0#32
  let c1_i32_10 : BitVec 32 := 1#32
  let arg23 : BitVec 32 := Scf.iv c0_i32_8 c1_i32_10 k0_t2
  let v37 : BitVec 32 := Scalar.subi arg23 c0_i32_21
  let c1_i32_22 : BitVec 32 := 1#32
  let v39 : BitVec 32 := Scalar.divsi v37 c1_i32_22
  let v40 : BitVec 32 := Scalar.muli v39 c1_i32_22
  let v41 : BitVec 32 := Scalar.addi c0_i32_21 v40
  let v38 : BitVec 32 := Scalar.addi c0_i32_21 v37
  let c1_i32_24 : BitVec 32 := 1#32
  ⟨v41, v38, c1_i32_24⟩
def k0_mult5 (k0_t2 : Fin k0_t2_loop.trips) (k0_t4 : Fin (k0_t4_loop k0_t2).trips) : BitVec 32 :=
  let c0_i32_21 : BitVec 32 := 0#32
  let c0_i32_8 : BitVec 32 := 0#32
  let c1_i32_10 : BitVec 32 := 1#32
  let arg23 : BitVec 32 := Scf.iv c0_i32_8 c1_i32_10 k0_t2
  let v37 : BitVec 32 := Scalar.subi arg23 c0_i32_21
  let c1_i32_22 : BitVec 32 := 1#32
  let v39 : BitVec 32 := Scalar.divsi v37 c1_i32_22
  let v40 : BitVec 32 := Scalar.muli v39 c1_i32_22
  let v41 : BitVec 32 := Scalar.addi c0_i32_21 v40
  let c1_i32_24 : BitVec 32 := 1#32
  let arg24 : BitVec 32 := Scf.iv v41 c1_i32_24 k0_t4
  let c256_i32_75 : BitVec 32 := 256#32
  let v193 : BitVec 32 := Scalar.muli arg24 c256_i32_75
  v193
def k0_off9 (k0_t2 : Fin k0_t2_loop.trips) (k0_t4 : Fin (k0_t4_loop k0_t2).trips) : Fin 2 → Nat :=
  let c0_i32_21 : BitVec 32 := 0#32
  let c0_i32_8 : BitVec 32 := 0#32
  let c1_i32_10 : BitVec 32 := 1#32
  let arg23 : BitVec 32 := Scf.iv c0_i32_8 c1_i32_10 k0_t2
  let v37 : BitVec 32 := Scalar.subi arg23 c0_i32_21
  let c1_i32_22 : BitVec 32 := 1#32
  let v39 : BitVec 32 := Scalar.divsi v37 c1_i32_22
  let v40 : BitVec 32 := Scalar.muli v39 c1_i32_22
  let v41 : BitVec 32 := Scalar.addi c0_i32_21 v40
  let c1_i32_24 : BitVec 32 := 1#32
  let arg24 : BitVec 32 := Scf.iv v41 c1_i32_24 k0_t4
  let c256_i32_75 : BitVec 32 := 256#32
  let v193 : BitVec 32 := Scalar.muli arg24 c256_i32_75
  let v194 : BitVec 32 := v193
  let v195 : Index := Scalar.indexCast v194
  let c0_76 : Index := 0#32
  ![v195.toNat, 0]
def k0_off10 (k0_t2 : Fin k0_t2_loop.trips) : Fin 2 → Nat :=
  let c0_i32_8 : BitVec 32 := 0#32
  let c1_i32_10 : BitVec 32 := 1#32
  let arg23 : BitVec 32 := Scf.iv c0_i32_8 c1_i32_10 k0_t2
  let c256_i32 : BitVec 32 := 256#32
  let v27 : BitVec 32 := Scalar.muli arg23 c256_i32
  let v28 : BitVec 32 := v27
  let v199 : Index := Scalar.indexCast v28
  let c0_78 : Index := 0#32
  ![v199.toNat, 0]
def k0_off11 (k0_t2 : Fin k0_t2_loop.trips) (k0_t4 : Fin (k0_t4_loop k0_t2).trips) : Fin 2 → Nat :=
  let c0_102 : Index := 0#32
  let c0_i32_21 : BitVec 32 := 0#32
  let c0_i32_8 : BitVec 32 := 0#32
  let c1_i32_10 : BitVec 32 := 1#32
  let arg23 : BitVec 32 := Scf.iv c0_i32_8 c1_i32_10 k0_t2
  let v37 : BitVec 32 := Scalar.subi arg23 c0_i32_21
  let c1_i32_22 : BitVec 32 := 1#32
  let v39 : BitVec 32 := Scalar.divsi v37 c1_i32_22
  let v40 : BitVec 32 := Scalar.muli v39 c1_i32_22
  let v41 : BitVec 32 := Scalar.addi c0_i32_21 v40
  let c1_i32_24 : BitVec 32 := 1#32
  let arg24 : BitVec 32 := Scf.iv v41 c1_i32_24 k0_t4
  let c256_i32_75 : BitVec 32 := 256#32
  let v193 : BitVec 32 := Scalar.muli arg24 c256_i32_75
  let v194 : BitVec 32 := v193
  let v279 : Index := Scalar.indexCast v194
  ![0, v279.toNat]
def k0_off12 (k0_t2 : Fin k0_t2_loop.trips) : Fin 2 → Nat :=
  let c0_106 : Index := 0#32
  let c0_i32_8 : BitVec 32 := 0#32
  let c1_i32_10 : BitVec 32 := 1#32
  let arg23 : BitVec 32 := Scf.iv c0_i32_8 c1_i32_10 k0_t2
  let c256_i32 : BitVec 32 := 256#32
  let v27 : BitVec 32 := Scalar.muli arg23 c256_i32
  let v28 : BitVec 32 := v27
  let v293 : Index := Scalar.indexCast v28
  ![0, v293.toNat]
def k0_mult6 (k0_t2 : Fin k0_t2_loop.trips) : BitVec 32 :=
  let c0_i32_8 : BitVec 32 := 0#32
  let c1_i32_10 : BitVec 32 := 1#32
  let arg23 : BitVec 32 := Scf.iv c0_i32_8 c1_i32_10 k0_t2
  let c256_i32_25 : BitVec 32 := 256#32
  let v44 : BitVec 32 := Scalar.muli arg23 c256_i32_25
  v44
def k0_off13 (k0_t2 : Fin k0_t2_loop.trips) : Fin 2 → Nat :=
  let c0_i32_8 : BitVec 32 := 0#32
  let c1_i32_10 : BitVec 32 := 1#32
  let arg23 : BitVec 32 := Scf.iv c0_i32_8 c1_i32_10 k0_t2
  let c256_i32_25 : BitVec 32 := 256#32
  let v44 : BitVec 32 := Scalar.muli arg23 c256_i32_25
  let v45 : BitVec 32 := v44
  let v46 : Index := Scalar.indexCast v45
  let c0_26 : Index := 0#32
  ![v46.toNat, 0]
def k0_off14 (k0_t2 : Fin k0_t2_loop.trips) : Fin 2 → Nat :=
  let c0_56 : Index := 0#32
  let c0_i32_8 : BitVec 32 := 0#32
  let c1_i32_10 : BitVec 32 := 1#32
  let arg23 : BitVec 32 := Scf.iv c0_i32_8 c1_i32_10 k0_t2
  let c256_i32_25 : BitVec 32 := 256#32
  let v44 : BitVec 32 := Scalar.muli arg23 c256_i32_25
  let v45 : BitVec 32 := v44
  let v138 : Index := Scalar.indexCast v45
  ![0, v138.toNat]
@[reducible] def k0_t5_loop : Scf.Loop 32 :=
  let c0_i32_12 : BitVec 32 := 0#32
  let c8_i32_13 : BitVec 32 := 8#32
  let v26 : BitVec 32 := Scalar.addi c0_i32_12 c8_i32_13
  let c1_i32_14 : BitVec 32 := 1#32
  ⟨c0_i32_12, v26, c1_i32_14⟩
def k0_mult7 (k0_t5 : Fin k0_t5_loop.trips) : BitVec 32 :=
  let c0_i32_12 : BitVec 32 := 0#32
  let c1_i32_14 : BitVec 32 := 1#32
  let arg23 : BitVec 32 := Scf.iv c0_i32_12 c1_i32_14 k0_t5
  let c256_i32 : BitVec 32 := 256#32
  let v27 : BitVec 32 := Scalar.muli arg23 c256_i32
  v27
def k0_off15 (k0_t5 : Fin k0_t5_loop.trips) : Fin 2 → Nat :=
  let c0_16 : Index := 0#32
  let c0_i32_12 : BitVec 32 := 0#32
  let c1_i32_14 : BitVec 32 := 1#32
  let arg23 : BitVec 32 := Scf.iv c0_i32_12 c1_i32_14 k0_t5
  let c256_i32 : BitVec 32 := 256#32
  let v27 : BitVec 32 := Scalar.muli arg23 c256_i32
  let v28 : BitVec 32 := v27
  let v29 : Index := Scalar.indexCast v28
  ![0, v29.toNat]
def k0_off16 (k0_t5 : Fin k0_t5_loop.trips) : Fin 2 → Nat :=
  let c0_i32_12 : BitVec 32 := 0#32
  let c1_i32_14 : BitVec 32 := 1#32
  let arg23 : BitVec 32 := Scf.iv c0_i32_12 c1_i32_14 k0_t5
  let c256_i32 : BitVec 32 := 256#32
  let v27 : BitVec 32 := Scalar.muli arg23 c256_i32
  let v28 : BitVec 32 := v27
  let v33 : Index := Scalar.indexCast v28
  let c0_17 : Index := 0#32
  ![v33.toNat, 0]
def cc0_transform_0 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_1 (i : grid0.Coords) : Fin 2 → Nat :=
  let arg0 : BitVec 32 := BitVec.ofNat 32 (i 0).val
  let c8_i32 : BitVec 32 := 8#32
  let v0 : BitVec 32 := Scalar.addi c8_i32 arg0
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let c16_i32 : BitVec 32 := 16#32
  let v0 : BitVec 32 := Scalar.addi c16_i32 arg0
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_6 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_7 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

abbrev stage0_0 : Fin 2 → Memref sig .tc .vmem S2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2048x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2048x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2x2048x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S2048x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S2048x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S2048x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference2Ideal.lean ====
abbrev S2048x3072 : Shape := ⟨2, ![2048, 3072]⟩
abbrev S2048x1024 : Shape := ⟨2, ![2048, 1024]⟩
abbrev S2048x512 : Shape := ⟨2, ![2048, 512]⟩
abbrev S2048x8x64 : Shape := ⟨3, ![2048, 8, 64]⟩
abbrev S_ : Shape := ⟨0, ![]⟩
abbrev S8x2048x2048 : Shape := ⟨3, ![8, 2048, 2048]⟩
abbrev S2048 : Shape := ⟨1, ![2048]⟩
abbrev S1x2048 : Shape := ⟨2, ![1, 2048]⟩
abbrev S2048x1 : Shape := ⟨2, ![2048, 1]⟩
abbrev S2048x2048 : Shape := ⟨2, ![2048, 2048]⟩
abbrev S8x64x2048 : Shape := ⟨3, ![8, 64, 2048]⟩
abbrev S8x2048x64 : Shape := ⟨3, ![8, 2048, 64]⟩

abbrev nBuf : Space → Nat
  | .hbm => 179
  | .vmem => 0
  | .smem => 0
  | _ => 0

abbrev hbmTy0_0 (i : Nat) : BufTy := match i % 128 with
  | 0 => ⟨S2048x3072, .f32⟩
  | 1 => ⟨S2048x1024, .f32⟩
  | 2 => ⟨S2048x1024, .f32⟩
  | 3 => ⟨S2048x1024, .f32⟩
  | 4 => ⟨S2048x1024, .f32⟩
  | 5 => ⟨S2048x512, .f32⟩
  | 6 => ⟨S2048x8x64, .f32⟩
  | 7 => ⟨S2048x512, .f32⟩
  | 8 => ⟨S2048x8x64, .f32⟩
  | 9 => ⟨S2048x512, .f32⟩
  | 10 => ⟨S2048x8x64, .f32⟩
  | 11 => ⟨S_, .f32⟩
  | 12 => ⟨S2048x8x64, .f32⟩
  | 13 => ⟨S2048x8x64, .f32⟩
  | 14 => ⟨S8x2048x2048, .f32⟩
  | 15 => ⟨S2048, .i32⟩
  | 16 => ⟨S1x2048, .i32⟩
  | 17 => ⟨S2048x1, .i32⟩
  | 18 => ⟨S2048x2048, .i32⟩
  | 19 => ⟨S2048x2048, .i32⟩
  | 20 => ⟨S2048x2048, .i1⟩
  | 21 => ⟨S8x2048x2048, .f32⟩
  | 22 => ⟨S8x2048x2048, .f32⟩
  | 23 => ⟨S_, .f32⟩
  | 24 => ⟨S8x2048x2048, .f32⟩
  | 25 => ⟨S8x2048x2048, .f32⟩
  | 26 => ⟨S8x2048x2048, .f32⟩
  | 27 => ⟨S8x2048x2048, .f32⟩
  | 28 => ⟨S8x2048x2048, .i1⟩
  | 29 => ⟨S8x2048x2048, .f32⟩
  | 30 => ⟨S8x2048x2048, .f32⟩
  | 31 => ⟨S8x2048x2048, .f32⟩
  | 32 => ⟨S8x2048x2048, .f32⟩
  | 33 => ⟨S8x2048x2048, .f32⟩
  | 34 => ⟨S8x2048x2048, .f32⟩
  | 35 => ⟨S8x2048x2048, .f32⟩
  | 36 => ⟨S8x2048x2048, .f32⟩
  | 37 => ⟨S_, .f32⟩
  | 38 => ⟨S8x2048x2048, .f32⟩
  | 39 => ⟨S8x2048x2048, .i1⟩
  | 40 => ⟨S_, .f32⟩
  | 41 => ⟨S8x2048x2048, .f32⟩
  | 42 => ⟨S8x2048x2048, .f32⟩
  | 43 => ⟨S_, .f32⟩
  | 44 => ⟨S8x2048x2048, .f32⟩
  | 45 => ⟨S8x2048x2048, .i1⟩
  | 46 => ⟨S_, .f32⟩
  | 47 => ⟨S8x2048x2048, .f32⟩
  | 48 => ⟨S8x2048x2048, .f32⟩
  | 49 => ⟨S8x2048x2048, .f32⟩
  | 50 => ⟨S8x2048x2048, .f32⟩
  | 51 => ⟨S_, .f32⟩
  | 52 => ⟨S_, .f32⟩
  | 53 => ⟨S_, .i1⟩
  | 54 => ⟨S_, .f32⟩
  | 55 => ⟨S_, .f32⟩
  | 56 => ⟨S_, .f32⟩
  | 57 => ⟨S_, .f32⟩
  | 58 => ⟨S8x2048x2048, .f32⟩
  | 59 => ⟨S8x2048x2048, .i1⟩
  | 60 => ⟨S_, .f32⟩
  | 61 => ⟨S8x2048x2048, .f32⟩
  | 62 => ⟨S8x2048x2048, .f32⟩
  | 63 => ⟨S8x2048x2048, .f32⟩
  | 64 => ⟨S8x2048x2048, .f32⟩
  | 65 => ⟨S8x2048x2048, .f32⟩
  | 66 => ⟨S_, .f32⟩
  | 67 => ⟨S8x2048x2048, .f32⟩
  | 68 => ⟨S8x2048x2048, .f32⟩
  | 69 => ⟨S8x2048x2048, .f32⟩
  | 70 => ⟨S_, .f32⟩
  | 71 => ⟨S_, .f32⟩
  | 72 => ⟨S8x2048x2048, .i1⟩
  | 73 => ⟨S8x2048x2048, .f32⟩
  | 74 => ⟨S8x2048x2048, .f32⟩
  | 75 => ⟨S_, .f32⟩
  | 76 => ⟨S8x2048x2048, .f32⟩
  | 77 => ⟨S_, .f32⟩
  | 78 => ⟨S_, .f32⟩
  | 79 => ⟨S8x2048x2048, .f32⟩
  | 80 => ⟨S8x2048x2048, .f32⟩
  | 81 => ⟨S8x2048x2048, .f32⟩
  | 82 => ⟨S_, .f32⟩
  | 83 => ⟨S8x2048x2048, .f32⟩
  | 84 => ⟨S8x2048x2048, .f32⟩
  | 85 => ⟨S8x2048x2048, .f32⟩
  | 86 => ⟨S8x2048x2048, .f32⟩
  | 87 => ⟨S8x2048x2048, .i1⟩
  | 88 => ⟨S8x2048x2048, .f32⟩
  | 89 => ⟨S8x2048x2048, .f32⟩
  | 90 => ⟨S8x2048x2048, .f32⟩
  | 91 => ⟨S8x2048x2048, .f32⟩
  | 92 => ⟨S8x2048x2048, .f32⟩
  | 93 => ⟨S8x2048x2048, .f32⟩
  | 94 => ⟨S8x2048x2048, .f32⟩
  | 95 => ⟨S8x2048x2048, .f32⟩
  | 96 => ⟨S_, .f32⟩
  | 97 => ⟨S8x2048x2048, .f32⟩
  | 98 => ⟨S8x2048x2048, .i1⟩
  | 99 => ⟨S_, .f32⟩
  | 100 => ⟨S8x2048x2048, .f32⟩
  | 101 => ⟨S8x2048x2048, .f32⟩
  | 102 => ⟨S_, .f32⟩
  | 103 => ⟨S8x2048x2048, .f32⟩
  | 104 => ⟨S8x2048x2048, .i1⟩
  | 105 => ⟨S_, .f32⟩
  | 106 => ⟨S8x2048x2048, .f32⟩
  | 107 => ⟨S8x2048x2048, .f32⟩
  | 108 => ⟨S8x2048x2048, .f32⟩
  | 109 => ⟨S8x2048x2048, .f32⟩
  | 110 => ⟨S_, .f32⟩
  | 111 => ⟨S_, .f32⟩
  | 112 => ⟨S_, .i1⟩
  | 113 => ⟨S_, .f32⟩
  | 114 => ⟨S_, .f32⟩
  | 115 => ⟨S_, .f32⟩
  | 116 => ⟨S_, .f32⟩
  | 117 => ⟨S8x2048x2048, .f32⟩
  | 118 => ⟨S8x2048x2048, .i1⟩
  | 119 => ⟨S_, .f32⟩
  | 120 => ⟨S8x2048x2048, .f32⟩
  | 121 => ⟨S8x2048x2048, .f32⟩
  | 122 => ⟨S8x2048x2048, .f32⟩
  | 123 => ⟨S8x2048x2048, .f32⟩
  | 124 => ⟨S8x2048x2048, .f32⟩
  | 125 => ⟨S_, .f32⟩
  | 126 => ⟨S8x2048x2048, .f32⟩
  | 127 => ⟨S8x2048x2048, .f32⟩
  | _ => ⟨S2048x3072, .f32⟩

abbrev hbmTy0_1 (i : Nat) : BufTy := match i % 128 with
  | 0 => ⟨S8x2048x2048, .f32⟩
  | 1 => ⟨S8x2048x2048, .f32⟩
  | 2 => ⟨S8x2048x2048, .f32⟩
  | 3 => ⟨S_, .f32⟩
  | 4 => ⟨S_, .f32⟩
  | 5 => ⟨S8x2048x2048, .i1⟩
  | 6 => ⟨S8x2048x2048, .f32⟩
  | 7 => ⟨S8x2048x2048, .f32⟩
  | 8 => ⟨S_, .f32⟩
  | 9 => ⟨S8x2048x2048, .f32⟩
  | 10 => ⟨S8x64x2048, .f32⟩
  | 11 => ⟨S2048x8x64, .f32⟩
  | 12 => ⟨S2048x512, .f32⟩
  | 13 => ⟨S2048x8x64, .f32⟩
  | 14 => ⟨S8x64x2048, .f32⟩
  | 15 => ⟨S8x2048x2048, .f32⟩
  | 16 => ⟨S8x64x2048, .f32⟩
  | 17 => ⟨S2048x8x64, .f32⟩
  | 18 => ⟨S_, .f32⟩
  | 19 => ⟨S8x2048x2048, .f32⟩
  | 20 => ⟨S8x2048x2048, .f32⟩
  | 21 => ⟨S8x2048x2048, .f32⟩
  | 22 => ⟨S8x2048x2048, .f32⟩
  | 23 => ⟨S8x2048x2048, .f32⟩
  | 24 => ⟨S8x2048x2048, .f32⟩
  | 25 => ⟨S8x2048x2048, .f32⟩
  | 26 => ⟨S_, .f32⟩
  | 27 => ⟨S_, .f32⟩
  | 28 => ⟨S8x2048x2048, .f32⟩
  | 29 => ⟨S8x2048x2048, .f32⟩
  | 30 => ⟨S_, .f32⟩
  | 31 => ⟨S8x2048x2048, .f32⟩
  | 32 => ⟨S8x2048x2048, .f32⟩
  | 33 => ⟨S8x2048x2048, .f32⟩
  | 34 => ⟨S8x2048x2048, .f32⟩
  | 35 => ⟨S8x2048x2048, .f32⟩
  | 36 => ⟨S8x2048x2048, .f32⟩
  | 37 => ⟨S8x2048x2048, .f32⟩
  | 38 => ⟨S8x2048x64, .f32⟩
  | 39 => ⟨S2048x8x64, .f32⟩
  | 40 => ⟨S8x2048x64, .f32⟩
  | 41 => ⟨S2048x8x64, .f32⟩
  | 42 => ⟨S_, .f32⟩
  | 43 => ⟨S2048x8x64, .f32⟩
  | 44 => ⟨S2048x8x64, .f32⟩
  | 45 => ⟨S2048x512, .f32⟩
  | 46 => ⟨S2048x512, .bf16⟩
  | 47 => ⟨S2048x512, .f32⟩
  | 48 => ⟨S2048x512, .bf16⟩
  | 49 => ⟨S2048x512, .f32⟩
  | 50 => ⟨S2048x512, .bf16⟩
  | _ => ⟨S2048x3072, .f32⟩

abbrev hbmTy (i : Nat) : BufTy := match i / 128 with
  | 0 => hbmTy0_0 i
  | 1 => hbmTy0_1 i
  | _ => ⟨S2048x3072, .f32⟩

abbrev bufTy : (tb : Table) → Fin (tcTables nBuf tb) → BufTy
  | .hbm, ⟨i, _⟩ => hbmTy i
  | _, _ => ⟨S2048x3072, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_cst : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_call0_v0 : Ref sig .tc := ⟨.hbm, 22, rfl⟩
abbrev main_call0_call0_cst : Ref sig .tc := ⟨.hbm, 23, rfl⟩
abbrev main_call0_call0_v0 : Ref sig .tc := ⟨.hbm, 24, rfl⟩
abbrev main_call0_call0_v1 : Ref sig .tc := ⟨.hbm, 25, rfl⟩
abbrev main_call0_call0_v2 : Ref sig .tc := ⟨.hbm, 26, rfl⟩
abbrev main_call0_call0_v3 : Ref sig .tc := ⟨.hbm, 27, rfl⟩
abbrev main_call0_call0_v4 : Ref sig .tc := ⟨.hbm, 28, rfl⟩
abbrev main_call0_call0_v5 : Ref sig .tc := ⟨.hbm, 29, rfl⟩
abbrev main_call0_call0_v6 : Ref sig .tc := ⟨.hbm, 30, rfl⟩
abbrev main_call0_call0_v7 : Ref sig .tc := ⟨.hbm, 31, rfl⟩
abbrev main_call0_call0_v8 : Ref sig .tc := ⟨.hbm, 32, rfl⟩
abbrev main_call0_call0_v9 : Ref sig .tc := ⟨.hbm, 33, rfl⟩
abbrev main_call0_call0_v10 : Ref sig .tc := ⟨.hbm, 34, rfl⟩
abbrev main_call0_call0_v11 : Ref sig .tc := ⟨.hbm, 35, rfl⟩
abbrev main_call0_v1_0 : Ref sig .tc := ⟨.hbm, 36, rfl⟩
abbrev main_call0_call0_cst_0 : Ref sig .tc := ⟨.hbm, 37, rfl⟩
abbrev main_call0_call0_v13 : Ref sig .tc := ⟨.hbm, 38, rfl⟩
abbrev main_call0_call0_v14 : Ref sig .tc := ⟨.hbm, 39, rfl⟩
abbrev main_call0_call0_cst_1 : Ref sig .tc := ⟨.hbm, 40, rfl⟩
abbrev main_call0_call0_v15 : Ref sig .tc := ⟨.hbm, 41, rfl⟩
abbrev main_call0_call0_v16 : Ref sig .tc := ⟨.hbm, 42, rfl⟩
abbrev main_call0_call0_cst_2 : Ref sig .tc := ⟨.hbm, 43, rfl⟩
abbrev main_call0_call0_v17 : Ref sig .tc := ⟨.hbm, 44, rfl⟩
abbrev main_call0_call0_v18 : Ref sig .tc := ⟨.hbm, 45, rfl⟩
abbrev main_call0_call0_cst_3 : Ref sig .tc := ⟨.hbm, 46, rfl⟩
abbrev main_call0_call0_v19 : Ref sig .tc := ⟨.hbm, 47, rfl⟩
abbrev main_call0_call0_v20 : Ref sig .tc := ⟨.hbm, 48, rfl⟩
abbrev main_call0_call0_v21 : Ref sig .tc := ⟨.hbm, 49, rfl⟩
abbrev main_v19_1 : Ref sig .tc := ⟨.hbm, 50, rfl⟩
abbrev main_call0_call0_cst_4 : Ref sig .tc := ⟨.hbm, 51, rfl⟩
abbrev main_call0_call0_cst_5 : Ref sig .tc := ⟨.hbm, 52, rfl⟩
abbrev main_call0_call0_v23 : Ref sig .tc := ⟨.hbm, 53, rfl⟩
abbrev main_call0_call0_cst_6 : Ref sig .tc := ⟨.hbm, 54, rfl⟩
abbrev main_call0_call0_cst_7 : Ref sig .tc := ⟨.hbm, 55, rfl⟩
abbrev main_call0_call0_v24 : Ref sig .tc := ⟨.hbm, 56, rfl⟩
abbrev main_call0_call0_cst_8 : Ref sig .tc := ⟨.hbm, 57, rfl⟩
abbrev main_call0_call0_v25 : Ref sig .tc := ⟨.hbm, 58, rfl⟩
abbrev main_call0_call0_v26 : Ref sig .tc := ⟨.hbm, 59, rfl⟩
abbrev main_call0_call0_cst_9 : Ref sig .tc := ⟨.hbm, 60, rfl⟩
abbrev main_call0_call0_v27 : Ref sig .tc := ⟨.hbm, 61, rfl⟩
abbrev main_call0_call0_v28 : Ref sig .tc := ⟨.hbm, 62, rfl⟩
abbrev main_call0_call0_v29 : Ref sig .tc := ⟨.hbm, 63, rfl⟩
abbrev main_call0_call0_v30 : Ref sig .tc := ⟨.hbm, 64, rfl⟩
abbrev main_call0_call0_v31 : Ref sig .tc := ⟨.hbm, 65, rfl⟩
abbrev main_call0_call0_cst_10 : Ref sig .tc := ⟨.hbm, 66, rfl⟩
abbrev main_call0_call0_v32 : Ref sig .tc := ⟨.hbm, 67, rfl⟩
abbrev main_v19_2 : Ref sig .tc := ⟨.hbm, 68, rfl⟩
abbrev main_v19_0 : Ref sig .tc := ⟨.hbm, 69, rfl⟩
abbrev main_cst_0 : Ref sig .tc := ⟨.hbm, 70, rfl⟩
abbrev main_call1_v0 : Ref sig .tc := ⟨.hbm, 71, rfl⟩
abbrev main_v20_1 : Ref sig .tc := ⟨.hbm, 72, rfl⟩
abbrev main_call1_v2 : Ref sig .tc := ⟨.hbm, 73, rfl⟩
abbrev main_v20_0 : Ref sig .tc := ⟨.hbm, 74, rfl⟩
abbrev main_call1_cst : Ref sig .tc := ⟨.hbm, 75, rfl⟩
abbrev main_v20_2 : Ref sig .tc := ⟨.hbm, 76, rfl⟩
abbrev main_call2_cst : Ref sig .tc := ⟨.hbm, 77, rfl⟩
abbrev main_call2_v0 : Ref sig .tc := ⟨.hbm, 78, rfl⟩
abbrev main_v21 : Ref sig .tc := ⟨.hbm, 79, rfl⟩
abbrev main_v22 : Ref sig .tc := ⟨.hbm, 80, rfl⟩
abbrev main_call3_v0 : Ref sig .tc := ⟨.hbm, 81, rfl⟩
abbrev main_call3_call0_cst : Ref sig .tc := ⟨.hbm, 82, rfl⟩
abbrev main_call3_call0_v0 : Ref sig .tc := ⟨.hbm, 83, rfl⟩
abbrev main_call3_call0_v1 : Ref sig .tc := ⟨.hbm, 84, rfl⟩
abbrev main_call3_call0_v2 : Ref sig .tc := ⟨.hbm, 85, rfl⟩
abbrev main_call3_call0_v3 : Ref sig .tc := ⟨.hbm, 86, rfl⟩
abbrev main_call3_call0_v4 : Ref sig .tc := ⟨.hbm, 87, rfl⟩
abbrev main_call3_call0_v5 : Ref sig .tc := ⟨.hbm, 88, rfl⟩
abbrev main_call3_call0_v6 : Ref sig .tc := ⟨.hbm, 89, rfl⟩
abbrev main_call3_call0_v7 : Ref sig .tc := ⟨.hbm, 90, rfl⟩
abbrev main_call3_call0_v8 : Ref sig .tc := ⟨.hbm, 91, rfl⟩
abbrev main_call3_call0_v9 : Ref sig .tc := ⟨.hbm, 92, rfl⟩
abbrev main_call3_call0_v10 : Ref sig .tc := ⟨.hbm, 93, rfl⟩
abbrev main_call3_call0_v11 : Ref sig .tc := ⟨.hbm, 94, rfl⟩
abbrev main_call3_v1_0 : Ref sig .tc := ⟨.hbm, 95, rfl⟩
abbrev main_call3_call0_cst_0 : Ref sig .tc := ⟨.hbm, 96, rfl⟩
abbrev main_call3_call0_v13 : Ref sig .tc := ⟨.hbm, 97, rfl⟩
abbrev main_call3_call0_v14 : Ref sig .tc := ⟨.hbm, 98, rfl⟩
abbrev main_call3_call0_cst_1 : Ref sig .tc := ⟨.hbm, 99, rfl⟩
abbrev main_call3_call0_v15 : Ref sig .tc := ⟨.hbm, 100, rfl⟩
abbrev main_call3_call0_v16 : Ref sig .tc := ⟨.hbm, 101, rfl⟩
abbrev main_call3_call0_cst_2 : Ref sig .tc := ⟨.hbm, 102, rfl⟩
abbrev main_call3_call0_v17 : Ref sig .tc := ⟨.hbm, 103, rfl⟩
abbrev main_call3_call0_v18 : Ref sig .tc := ⟨.hbm, 104, rfl⟩
abbrev main_call3_call0_cst_3 : Ref sig .tc := ⟨.hbm, 105, rfl⟩
abbrev main_call3_call0_v19 : Ref sig .tc := ⟨.hbm, 106, rfl⟩
abbrev main_call3_call0_v20 : Ref sig .tc := ⟨.hbm, 107, rfl⟩
abbrev main_call3_call0_v21 : Ref sig .tc := ⟨.hbm, 108, rfl⟩
abbrev main_v23_1 : Ref sig .tc := ⟨.hbm, 109, rfl⟩
abbrev main_call3_call0_cst_4 : Ref sig .tc := ⟨.hbm, 110, rfl⟩
abbrev main_call3_call0_cst_5 : Ref sig .tc := ⟨.hbm, 111, rfl⟩
abbrev main_call3_call0_v23 : Ref sig .tc := ⟨.hbm, 112, rfl⟩
abbrev main_call3_call0_cst_6 : Ref sig .tc := ⟨.hbm, 113, rfl⟩
abbrev main_call3_call0_cst_7 : Ref sig .tc := ⟨.hbm, 114, rfl⟩
abbrev main_call3_call0_v24 : Ref sig .tc := ⟨.hbm, 115, rfl⟩
abbrev main_call3_call0_cst_8 : Ref sig .tc := ⟨.hbm, 116, rfl⟩
abbrev main_call3_call0_v25 : Ref sig .tc := ⟨.hbm, 117, rfl⟩
abbrev main_call3_call0_v26 : Ref sig .tc := ⟨.hbm, 118, rfl⟩
abbrev main_call3_call0_cst_9 : Ref sig .tc := ⟨.hbm, 119, rfl⟩
abbrev main_call3_call0_v27 : Ref sig .tc := ⟨.hbm, 120, rfl⟩
abbrev main_call3_call0_v28 : Ref sig .tc := ⟨.hbm, 121, rfl⟩
abbrev main_call3_call0_v29 : Ref sig .tc := ⟨.hbm, 122, rfl⟩
abbrev main_call3_call0_v30 : Ref sig .tc := ⟨.hbm, 123, rfl⟩
abbrev main_call3_call0_v31 : Ref sig .tc := ⟨.hbm, 124, rfl⟩
abbrev main_call3_call0_cst_10 : Ref sig .tc := ⟨.hbm, 125, rfl⟩
abbrev main_call3_call0_v32 : Ref sig .tc := ⟨.hbm, 126, rfl⟩
abbrev main_v23_2 : Ref sig .tc := ⟨.hbm, 127, rfl⟩
abbrev main_v23_0 : Ref sig .tc := ⟨.hbm, 128, rfl⟩
abbrev main_v24 : Ref sig .tc := ⟨.hbm, 129, rfl⟩
abbrev main_v25 : Ref sig .tc := ⟨.hbm, 130, rfl⟩
abbrev main_cst_1 : Ref sig .tc := ⟨.hbm, 131, rfl⟩
abbrev main_call4_v0 : Ref sig .tc := ⟨.hbm, 132, rfl⟩
abbrev main_v26_1 : Ref sig .tc := ⟨.hbm, 133, rfl⟩
abbrev main_call4_v2 : Ref sig .tc := ⟨.hbm, 134, rfl⟩
abbrev main_v26_0 : Ref sig .tc := ⟨.hbm, 135, rfl⟩
abbrev main_call4_cst : Ref sig .tc := ⟨.hbm, 136, rfl⟩
abbrev main_v26_2 : Ref sig .tc := ⟨.hbm, 137, rfl⟩
abbrev main_v27 : Ref sig .tc := ⟨.hbm, 138, rfl⟩
abbrev main_v28 : Ref sig .tc := ⟨.hbm, 139, rfl⟩
abbrev main_v29 : Ref sig .tc := ⟨.hbm, 140, rfl⟩
abbrev main_v30 : Ref sig .tc := ⟨.hbm, 141, rfl⟩
abbrev main_v31 : Ref sig .tc := ⟨.hbm, 142, rfl⟩
abbrev main_v32 : Ref sig .tc := ⟨.hbm, 143, rfl⟩
abbrev main_v33 : Ref sig .tc := ⟨.hbm, 144, rfl⟩
abbrev main_v34 : Ref sig .tc := ⟨.hbm, 145, rfl⟩
abbrev main_call5_cst : Ref sig .tc := ⟨.hbm, 146, rfl⟩
abbrev main_call5_v0 : Ref sig .tc := ⟨.hbm, 147, rfl⟩
abbrev main_v35 : Ref sig .tc := ⟨.hbm, 148, rfl⟩
abbrev main_v36 : Ref sig .tc := ⟨.hbm, 149, rfl⟩
abbrev main_call6_v0 : Ref sig .tc := ⟨.hbm, 150, rfl⟩
abbrev main_call6_v1 : Ref sig .tc := ⟨.hbm, 151, rfl⟩
abbrev main_v37 : Ref sig .tc := ⟨.hbm, 152, rfl⟩
abbrev main_v38 : Ref sig .tc := ⟨.hbm, 153, rfl⟩
abbrev main_call7_cst : Ref sig .tc := ⟨.hbm, 154, rfl⟩
abbrev main_call7_v0 : Ref sig .tc := ⟨.hbm, 155, rfl⟩
abbrev main_v39 : Ref sig .tc := ⟨.hbm, 156, rfl⟩
abbrev main_v40 : Ref sig .tc := ⟨.hbm, 157, rfl⟩
abbrev main_call8_cst : Ref sig .tc := ⟨.hbm, 158, rfl⟩
abbrev main_call8_v0 : Ref sig .tc := ⟨.hbm, 159, rfl⟩
abbrev main_v41 : Ref sig .tc := ⟨.hbm, 160, rfl⟩
abbrev main_call9_v0 : Ref sig .tc := ⟨.hbm, 161, rfl⟩
abbrev main_call9_v1 : Ref sig .tc := ⟨.hbm, 162, rfl⟩
abbrev main_v42 : Ref sig .tc := ⟨.hbm, 163, rfl⟩
abbrev main_v43 : Ref sig .tc := ⟨.hbm, 164, rfl⟩
abbrev main_v44 : Ref sig .tc := ⟨.hbm, 165, rfl⟩
abbrev main_v45 : Ref sig .tc := ⟨.hbm, 166, rfl⟩
abbrev main_v46 : Ref sig .tc := ⟨.hbm, 167, rfl⟩
abbrev main_v47 : Ref sig .tc := ⟨.hbm, 168, rfl⟩
abbrev main_v48 : Ref sig .tc := ⟨.hbm, 169, rfl⟩
abbrev main_cst_2 : Ref sig .tc := ⟨.hbm, 170, rfl⟩
abbrev main_v49 : Ref sig .tc := ⟨.hbm, 171, rfl⟩
abbrev main_v50 : Ref sig .tc := ⟨.hbm, 172, rfl⟩
abbrev main_v51 : Ref sig .tc := ⟨.hbm, 173, rfl⟩
abbrev main_v52 : Ref sig .tc := ⟨.hbm, 174, rfl⟩
abbrev main_v53 : Ref sig .tc := ⟨.hbm, 175, rfl⟩
abbrev main_v54 : Ref sig .tc := ⟨.hbm, 176, rfl⟩
abbrev main_v55 : Ref sig .tc := ⟨.hbm, 177, rfl⟩
abbrev main_v56 : Ref sig .tc := ⟨.hbm, 178, rfl⟩

abbrev nD : Nat := 1
abbrev τ : Topo := Topo.v7x

variable {F : FTy → Type} [FloatOps F]
-- ==== Kernel3.lean ====
abbrev S2x2048x2816 : Shape := ⟨3, ![2, 2048, 2816]⟩
abbrev S2048x1024 : Shape := ⟨2, ![2048, 1024]⟩
abbrev S5632x1024 : Shape := ⟨2, ![5632, 1024]⟩
abbrev S1x2048x1408 : Shape := ⟨3, ![1, 2048, 1408]⟩
abbrev S1408x1024 : Shape := ⟨2, ![1408, 1024]⟩
abbrev S2048x1408 : Shape := ⟨2, ![2048, 1408]⟩

abbrev nBuf : Space → Nat
  | .hbm => 3
  | .vmem => 5
  | .smem => 0
  | _ => 0

abbrev bufTy : (tb : Table) → Fin (tcTables nBuf tb) → BufTy
  | .hbm, ⟨0, _⟩ => ⟨S2x2048x2816, .bf16⟩
  | .hbm, ⟨1, _⟩ => ⟨S2048x1024, .bf16⟩
  | .hbm, ⟨2, _⟩ => ⟨S5632x1024, .f32⟩
  | .local _ .vmem, ⟨0, _⟩ => ⟨S1x2048x1408, .bf16⟩
  | .local _ .vmem, ⟨1, _⟩ => ⟨S1x2048x1408, .bf16⟩
  | .local _ .vmem, ⟨2, _⟩ => ⟨S2048x1024, .bf16⟩
  | .local _ .vmem, ⟨3, _⟩ => ⟨S1408x1024, .f32⟩
  | .local _ .vmem, ⟨4, _⟩ => ⟨S1408x1024, .f32⟩
  | _, _ => ⟨S2x2048x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg2.toNat, v26.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1x2048x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1408x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference3Ideal.lean ====
abbrev S2x2048x2816 : Shape := ⟨3, ![2, 2048, 2816]⟩
abbrev S2048x1024 : Shape := ⟨2, ![2048, 1024]⟩
abbrev S1x2048x2816 : Shape := ⟨3, ![1, 2048, 2816]⟩
abbrev S2048x2816 : Shape := ⟨2, ![2048, 2816]⟩
abbrev S2048x5632 : Shape := ⟨2, ![2048, 5632]⟩
abbrev S_ : Shape := ⟨0, ![]⟩
abbrev S1024x5632 : Shape := ⟨2, ![1024, 5632]⟩
abbrev S5632x1024 : Shape := ⟨2, ![5632, 1024]⟩

abbrev nBuf : Space → Nat
  | .hbm => 15
  | .vmem => 0
  | .smem => 0
  | _ => 0

abbrev bufTy : (tb : Table) → Fin (tcTables nBuf tb) → BufTy
  | .hbm, ⟨0, _⟩ => ⟨S2x2048x2816, .bf16⟩
  | .hbm, ⟨1, _⟩ => ⟨S2048x1024, .bf16⟩
  | .hbm, ⟨2, _⟩ => ⟨S1x2048x2816, .bf16⟩
  | .hbm, ⟨3, _⟩ => ⟨S2048x2816, .bf16⟩
  | .hbm, ⟨4, _⟩ => ⟨S1x2048x2816, .bf16⟩
  | .hbm, ⟨5, _⟩ => ⟨S2048x2816, .bf16⟩
  | .hbm, ⟨6, _⟩ => ⟨S2048x5632, .bf16⟩
  | .hbm, ⟨7, _⟩ => ⟨S_, .f32⟩
  | .hbm, ⟨8, _⟩ => ⟨S1024x5632, .f32⟩
  | .hbm, ⟨9, _⟩ => ⟨S2048x1024, .f32⟩
  | .hbm, ⟨10, _⟩ => ⟨S2048x5632, .f32⟩
  | .hbm, ⟨11, _⟩ => ⟨S2048x5632, .f32⟩
  | .hbm, ⟨12, _⟩ => ⟨S5632x1024, .f32⟩
  | .hbm, ⟨13, _⟩ => ⟨S1024x5632, .f32⟩
  | .hbm, ⟨14, _⟩ => ⟨S5632x1024, .f32⟩
  | _, _ => ⟨S2x2048x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_cst : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩

abbrev nD : Nat := 1
abbrev τ : Topo := Topo.v7x

variable {F : FTy → Type} [FloatOps F]
-- ==== Kernel4.lean ====
abbrev S2048x2816 : Shape := ⟨2, ![2048, 2816]⟩
abbrev S2048x1024 : Shape := ⟨2, ![2048, 1024]⟩
abbrev S2816x1024 : Shape := ⟨2, ![2816, 1024]⟩
abbrev S2048x1408 : Shape := ⟨2, ![2048, 1408]⟩
abbrev S2048x512 : Shape := ⟨2, ![2048, 512]⟩
abbrev S1408x512 : Shape := ⟨2, ![1408, 512]⟩

abbrev nBuf : Space → Nat
  | .hbm => 3
  | .vmem => 6
  | .smem => 0
  | _ => 0

abbrev bufTy : (tb : Table) → Fin (tcTables nBuf tb) → BufTy
  | .hbm, ⟨0, _⟩ => ⟨S2048x2816, .bf16⟩
  | .hbm, ⟨1, _⟩ => ⟨S2048x1024, .bf16⟩
  | .hbm, ⟨2, _⟩ => ⟨S2816x1024, .f32⟩
  | .local _ .vmem, ⟨0, _⟩ => ⟨S2048x1408, .bf16⟩
  | .local _ .vmem, ⟨1, _⟩ => ⟨S2048x1408, .bf16⟩
  | .local _ .vmem, ⟨2, _⟩ => ⟨S2048x512, .bf16⟩
  | .local _ .vmem, ⟨3, _⟩ => ⟨S2048x512, .bf16⟩
  | .local _ .vmem, ⟨4, _⟩ => ⟨S1408x512, .f32⟩
  | .local _ .vmem, ⟨5, _⟩ => ⟨S1408x512, .f32⟩
  | _, _ => ⟨S2048x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference4Ideal.lean ====
abbrev S2048x2816 : Shape := ⟨2, ![2048, 2816]⟩
abbrev S2048x1024 : Shape := ⟨2, ![2048, 1024]⟩
abbrev S_ : Shape := ⟨0, ![]⟩
abbrev S2816x1024 : Shape := ⟨2, ![2816, 1024]⟩
abbrev S1024x2816 : Shape := ⟨2, ![1024, 2816]⟩

abbrev nBuf : Space → Nat
  | .hbm => 9
  | .vmem => 0
  | .smem => 0
  | _ => 0

abbrev bufTy : (tb : Table) → Fin (tcTables nBuf tb) → BufTy
  | .hbm, ⟨0, _⟩ => ⟨S2048x2816, .bf16⟩
  | .hbm, ⟨1, _⟩ => ⟨S2048x1024, .bf16⟩
  | .hbm, ⟨2, _⟩ => ⟨S_, .f32⟩
  | .hbm, ⟨3, _⟩ => ⟨S2816x1024, .f32⟩
  | .hbm, ⟨4, _⟩ => ⟨S2048x2816, .f32⟩
  | .hbm, ⟨5, _⟩ => ⟨S2048x1024, .f32⟩
  | .hbm, ⟨6, _⟩ => ⟨S2048x1024, .f32⟩
  | .hbm, ⟨7, _⟩ => ⟨S1024x2816, .f32⟩
  | .hbm, ⟨8, _⟩ => ⟨S2816x1024, .f32⟩
  | _, _ => ⟨S2048x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel5.lean ====
abbrev S2048x1024 : Shape := ⟨2, ![2048, 1024]⟩
abbrev S2048x3072 : Shape := ⟨2, ![2048, 3072]⟩
abbrev S8x1024x384 : Shape := ⟨3, ![8, 1024, 384]⟩
abbrev S2048x384 : Shape := ⟨2, ![2048, 384]⟩
abbrev S1x1024x384 : Shape := ⟨3, ![1, 1024, 384]⟩
abbrev S1024x384 : Shape := ⟨2, ![1024, 384]⟩

abbrev nBuf : Space → Nat
  | .hbm => 3
  | .vmem => 5
  | .smem => 0
  | _ => 0

abbrev bufTy : (tb : Table) → Fin (tcTables nBuf tb) → BufTy
  | .hbm, ⟨0, _⟩ => ⟨S2048x1024, .bf16⟩
  | .hbm, ⟨1, _⟩ => ⟨S2048x3072, .bf16⟩
  | .hbm, ⟨2, _⟩ => ⟨S8x1024x384, .f32⟩
  | .local _ .vmem, ⟨0, _⟩ => ⟨S2048x1024, .bf16⟩
  | .local _ .vmem, ⟨1, _⟩ => ⟨S2048x384, .bf16⟩
  | .local _ .vmem, ⟨2, _⟩ => ⟨S2048x384, .bf16⟩
  | .local _ .vmem, ⟨3, _⟩ => ⟨S1x1024x384, .f32⟩
  | .local _ .vmem, ⟨4, _⟩ => ⟨S1x1024x384, .f32⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg0.toNat, v26.toNat]

abbrev stage0_0 : Fin 1 → Memref sig .tc .vmem S2048x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S2048x384 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x384 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference5Ideal.lean ====
abbrev S2048x1024 : Shape := ⟨2, ![2048, 1024]⟩
abbrev S2048x3072 : Shape := ⟨2, ![2048, 3072]⟩
abbrev S_ : Shape := ⟨0, ![]⟩
abbrev S1024x3072 : Shape := ⟨2, ![1024, 3072]⟩
abbrev S3072x1024 : Shape := ⟨2, ![3072, 1024]⟩
abbrev S1024x8x384 : Shape := ⟨3, ![1024, 8, 384]⟩
abbrev S8x1024x384 : Shape := ⟨3, ![8, 1024, 384]⟩

abbrev nBuf : Space → Nat
  | .hbm => 11
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S2048x3072, .bf16⟩
  | .hbm, ⟨2, _⟩ => ⟨S_, .f32⟩
  | .hbm, ⟨3, _⟩ => ⟨S1024x3072, .f32⟩
  | .hbm, ⟨4, _⟩ => ⟨S2048x1024, .f32⟩
  | .hbm, ⟨5, _⟩ => ⟨S2048x3072, .f32⟩
  | .hbm, ⟨6, _⟩ => ⟨S2048x3072, .f32⟩
  | .hbm, ⟨7, _⟩ => ⟨S3072x1024, .f32⟩
  | .hbm, ⟨8, _⟩ => ⟨S1024x3072, .f32⟩
  | .hbm, ⟨9, _⟩ => ⟨S1024x8x384, .f32⟩
  | .hbm, ⟨10, _⟩ => ⟨S8x1024x384, .f32⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Kernel6.lean ====
abbrev S2048x1024 : Shape := ⟨2, ![2048, 1024]⟩
abbrev S2048x3200 : Shape := ⟨2, ![2048, 3200]⟩
abbrev S1024x3200 : Shape := ⟨2, ![1024, 3200]⟩
abbrev S2048x640 : Shape := ⟨2, ![2048, 640]⟩
abbrev S1024x640 : Shape := ⟨2, ![1024, 640]⟩

abbrev nBuf : Space → Nat
  | .hbm => 3
  | .vmem => 5
  | .smem => 0
  | _ => 0

abbrev bufTy : (tb : Table) → Fin (tcTables nBuf tb) → BufTy
  | .hbm, ⟨0, _⟩ => ⟨S2048x1024, .bf16⟩
  | .hbm, ⟨1, _⟩ => ⟨S2048x3200, .bf16⟩
  | .hbm, ⟨2, _⟩ => ⟨S1024x3200, .f32⟩
  | .local _ .vmem, ⟨0, _⟩ => ⟨S2048x1024, .bf16⟩
  | .local _ .vmem, ⟨1, _⟩ => ⟨S2048x640, .bf16⟩
  | .local _ .vmem, ⟨2, _⟩ => ⟨S2048x640, .bf16⟩
  | .local _ .vmem, ⟨3, _⟩ => ⟨S1024x640, .f32⟩
  | .local _ .vmem, ⟨4, _⟩ => ⟨S1024x640, .f32⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 5, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S2048x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S2048x640 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x640 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference6Ideal.lean ====
abbrev S2048x1024 : Shape := ⟨2, ![2048, 1024]⟩
abbrev S2048x3200 : Shape := ⟨2, ![2048, 3200]⟩
abbrev S_ : Shape := ⟨0, ![]⟩
abbrev S1024x3200 : Shape := ⟨2, ![1024, 3200]⟩
abbrev S3200x1024 : Shape := ⟨2, ![3200, 1024]⟩

abbrev nBuf : Space → Nat
  | .hbm => 9
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S2048x3200, .bf16⟩
  | .hbm, ⟨2, _⟩ => ⟨S_, .f32⟩
  | .hbm, ⟨3, _⟩ => ⟨S1024x3200, .f32⟩
  | .hbm, ⟨4, _⟩ => ⟨S2048x1024, .f32⟩
  | .hbm, ⟨5, _⟩ => ⟨S2048x3200, .f32⟩
  | .hbm, ⟨6, _⟩ => ⟨S2048x3200, .f32⟩
  | .hbm, ⟨7, _⟩ => ⟨S3200x1024, .f32⟩
  | .hbm, ⟨8, _⟩ => ⟨S1024x3200, .f32⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel7.lean ====
abbrev S2048x1024 : Shape := ⟨2, ![2048, 1024]⟩
abbrev S1024x1024 : Shape := ⟨2, ![1024, 1024]⟩
abbrev S2048x512 : Shape := ⟨2, ![2048, 512]⟩
abbrev S512x1024 : Shape := ⟨2, ![512, 1024]⟩

abbrev nBuf : Space → Nat
  | .hbm => 3
  | .vmem => 5
  | .smem => 0
  | _ => 0

abbrev bufTy : (tb : Table) → Fin (tcTables nBuf tb) → BufTy
  | .hbm, ⟨0, _⟩ => ⟨S2048x1024, .bf16⟩
  | .hbm, ⟨1, _⟩ => ⟨S2048x1024, .bf16⟩
  | .hbm, ⟨2, _⟩ => ⟨S1024x1024, .f32⟩
  | .local _ .vmem, ⟨0, _⟩ => ⟨S2048x512, .bf16⟩
  | .local _ .vmem, ⟨1, _⟩ => ⟨S2048x512, .bf16⟩
  | .local _ .vmem, ⟨2, _⟩ => ⟨S2048x1024, .bf16⟩
  | .local _ .vmem, ⟨3, _⟩ => ⟨S512x1024, .f32⟩
  | .local _ .vmem, ⟨4, _⟩ => ⟨S512x1024, .f32⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![2, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference7Ideal.lean ====
abbrev S2048x1024 : Shape := ⟨2, ![2048, 1024]⟩
abbrev S_ : Shape := ⟨0, ![]⟩
abbrev S1024x1024 : Shape := ⟨2, ![1024, 1024]⟩

abbrev nBuf : Space → Nat
  | .hbm => 9
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S2048x1024, .bf16⟩
  | .hbm, ⟨2, _⟩ => ⟨S_, .f32⟩
  | .hbm, ⟨3, _⟩ => ⟨S1024x1024, .f32⟩
  | .hbm, ⟨4, _⟩ => ⟨S2048x1024, .f32⟩
  | .hbm, ⟨5, _⟩ => ⟨S2048x1024, .f32⟩
  | .hbm, ⟨6, _⟩ => ⟨S2048x1024, .f32⟩
  | .hbm, ⟨7, _⟩ => ⟨S1024x1024, .f32⟩
  | .hbm, ⟨8, _⟩ => ⟨S1024x1024, .f32⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel8.lean ====
abbrev S2048x1024 : Shape := ⟨2, ![2048, 1024]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S2048x1024, .bf16⟩
  | .hbm, ⟨1, _⟩ => ⟨S1024x1024, .bf16⟩
  | .hbm, ⟨2, _⟩ => ⟨S2048x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![2, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference8Ideal.lean ====
abbrev S2048x1024 : Shape := ⟨2, ![2048, 1024]⟩
abbrev S1024x1024 : Shape := ⟨2, ![1024, 1024]⟩
abbrev S_ : Shape := ⟨0, ![]⟩

abbrev nBuf : Space → Nat
  | .hbm => 8
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S1024x1024, .bf16⟩
  | .hbm, ⟨2, _⟩ => ⟨S_, .f32⟩
  | .hbm, ⟨3, _⟩ => ⟨S2048x1024, .f32⟩
  | .hbm, ⟨4, _⟩ => ⟨S1024x1024, .f32⟩
  | .hbm, ⟨5, _⟩ => ⟨S2048x1024, .f32⟩
  | .hbm, ⟨6, _⟩ => ⟨S2048x1024, .f32⟩
  | .hbm, ⟨7, _⟩ => ⟨S2048x1024, .f32⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel9.lean ====
abbrev S2048x1024 : Shape := ⟨2, ![2048, 1024]⟩
abbrev S5632x1024 : Shape := ⟨2, ![5632, 1024]⟩
abbrev S2048x2816 : Shape := ⟨2, ![2048, 2816]⟩
abbrev S512x1024 : Shape := ⟨2, ![512, 1024]⟩
abbrev S1408x1024 : Shape := ⟨2, ![1408, 1024]⟩
abbrev S512x1408 : Shape := ⟨2, ![512, 1408]⟩

abbrev nBuf : Space → Nat
  | .hbm => 5
  | .vmem => 12
  | .smem => 0
  | _ => 0

abbrev bufTy : (tb : Table) → Fin (tcTables nBuf tb) → BufTy
  | .hbm, ⟨0, _⟩ => ⟨S2048x1024, .bf16⟩
  | .hbm, ⟨1, _⟩ => ⟨S5632x1024, .bf16⟩
  | .hbm, ⟨2, _⟩ => ⟨S2048x2816, .f32⟩
  | .hbm, ⟨3, _⟩ => ⟨S2048x2816, .f32⟩
  | .hbm, ⟨4, _⟩ => ⟨S2048x2816, .bf16⟩
  | .local _ .vmem, ⟨0, _⟩ => ⟨S512x1024, .bf16⟩
  | .local _ .vmem, ⟨1, _⟩ => ⟨S512x1024, .bf16⟩
  | .local _ .vmem, ⟨2, _⟩ => ⟨S1408x1024, .bf16⟩
  | .local _ .vmem, ⟨3, _⟩ => ⟨S1408x1024, .bf16⟩
  | .local _ .vmem, ⟨4, _⟩ => ⟨S1408x1024, .bf16⟩
  | .local _ .vmem, ⟨5, _⟩ => ⟨S1408x1024, .bf16⟩
  | .local _ .vmem, ⟨6, _⟩ => ⟨S512x1408, .f32⟩
  | .local _ .vmem, ⟨7, _⟩ => ⟨S512x1408, .f32⟩
  | .local _ .vmem, ⟨8, _⟩ => ⟨S512x1408, .f32⟩
  | .local _ .vmem, ⟨9, _⟩ => ⟨S512x1408, .f32⟩
  | .local _ .vmem, ⟨10, _⟩ => ⟨S512x1408, .bf16⟩
  | .local _ .vmem, ⟨11, _⟩ => ⟨S512x1408, .bf16⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_v0_2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![4, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.addi arg1 c2_i32
  let c0_i32 : BitVec 32 := 0#32
  let c0_i32_0 : BitVec 32 := 0#32
  ![v0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S512x1408 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x1408 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x1408 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Reference9Ideal.lean ====
abbrev S2048x1024 : Shape := ⟨2, ![2048, 1024]⟩
abbrev S5632x1024 : Shape := ⟨2, ![5632, 1024]⟩
abbrev S1024x5632 : Shape := ⟨2, ![1024, 5632]⟩
abbrev S2048x5632 : Shape := ⟨2, ![2048, 5632]⟩
abbrev S2048x2816 : Shape := ⟨2, ![2048, 2816]⟩
abbrev S_ : Shape := ⟨0, ![]⟩

abbrev nBuf : Space → Nat
  | .hbm => 19
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S5632x1024, .bf16⟩
  | .hbm, ⟨2, _⟩ => ⟨S2048x1024, .f32⟩
  | .hbm, ⟨3, _⟩ => ⟨S5632x1024, .f32⟩
  | .hbm, ⟨4, _⟩ => ⟨S1024x5632, .f32⟩
  | .hbm, ⟨5, _⟩ => ⟨S2048x5632, .f32⟩
  | .hbm, ⟨6, _⟩ => ⟨S2048x2816, .f32⟩
  | .hbm, ⟨7, _⟩ => ⟨S2048x2816, .f32⟩
  | .hbm, ⟨8, _⟩ => ⟨S2048x2816, .f32⟩
  | .hbm, ⟨9, _⟩ => ⟨S2048x2816, .f32⟩
  | .hbm, ⟨10, _⟩ => ⟨S_, .f32⟩
  | .hbm, ⟨11, _⟩ => ⟨S2048x2816, .f32⟩
  | .hbm, ⟨12, _⟩ => ⟨S2048x2816, .f32⟩
  | .hbm, ⟨13, _⟩ => ⟨S_, .f32⟩
  | .hbm, ⟨14, _⟩ => ⟨S2048x2816, .f32⟩
  | .hbm, ⟨15, _⟩ => ⟨S2048x2816, .f32⟩
  | .hbm, ⟨16, _⟩ => ⟨S2048x2816, .f32⟩
  | .hbm, ⟨17, _⟩ => ⟨S2048x2816, .f32⟩
  | .hbm, ⟨18, _⟩ => ⟨S2048x2816, .bf16⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_call0_v0 : Ref sig .tc := ⟨.hbm, 8, rfl⟩
abbrev main_call0_v1 : Ref sig .tc := ⟨.hbm, 9, rfl⟩
abbrev main_call0_cst : Ref sig .tc := ⟨.hbm, 10, rfl⟩
abbrev main_call0_v2 : Ref sig .tc := ⟨.hbm, 11, rfl⟩
abbrev main_call0_v3 : Ref sig .tc := ⟨.hbm, 12, rfl⟩
abbrev main_call0_cst_0 : Ref sig .tc := ⟨.hbm, 13, rfl⟩
abbrev main_call0_v4 : Ref sig .tc := ⟨.hbm, 14, rfl⟩
abbrev main_call0_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩

abbrev nD : Nat := 1
abbrev τ : Topo := Topo.v7x

variable {F : FTy → Type} [FloatOps F]
-- ==== Kernel10.lean ====
abbrev S2048x2816 : Shape := ⟨2, ![2048, 2816]⟩
abbrev S2816x1024 : Shape := ⟨2, ![2816, 1024]⟩
abbrev S2048x1024 : Shape := ⟨2, ![2048, 1024]⟩
abbrev S512x2816 : Shape := ⟨2, ![512, 2816]⟩
abbrev S512x1024 : Shape := ⟨2, ![512, 1024]⟩

abbrev nBuf : Space → Nat
  | .hbm => 4
  | .vmem => 7
  | .smem => 0
  | _ => 0

abbrev bufTy : (tb : Table) → Fin (tcTables nBuf tb) → BufTy
  | .hbm, ⟨0, _⟩ => ⟨S2048x2816, .bf16⟩
  | .hbm, ⟨1, _⟩ => ⟨S2816x1024, .bf16⟩
  | .hbm, ⟨2, _⟩ => ⟨S2048x1024, .f32⟩
  | .hbm, ⟨3, _⟩ => ⟨S2048x1024, .f32⟩
  | .local _ .vmem, ⟨0, _⟩ => ⟨S512x2816, .bf16⟩
  | .local _ .vmem, ⟨1, _⟩ => ⟨S512x2816, .bf16⟩
  | .local _ .vmem, ⟨2, _⟩ => ⟨S2816x1024, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | _, _ => ⟨S2048x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference10Ideal.lean ====
abbrev S2048x2816 : Shape := ⟨2, ![2048, 2816]⟩
abbrev S2816x1024 : Shape := ⟨2, ![2816, 1024]⟩
abbrev S2048x1024 : Shape := ⟨2, ![2048, 1024]⟩

abbrev nBuf : Space → Nat
  | .hbm => 7
  | .vmem => 0
  | .smem => 0
  | _ => 0

abbrev bufTy : (tb : Table) → Fin (tcTables nBuf tb) → BufTy
  | .hbm, ⟨0, _⟩ => ⟨S2048x2816, .bf16⟩
  | .hbm, ⟨1, _⟩ => ⟨S2816x1024, .bf16⟩
  | .hbm, ⟨2, _⟩ => ⟨S2048x1024, .f32⟩
  | .hbm, ⟨3, _⟩ => ⟨S2048x2816, .f32⟩
  | .hbm, ⟨4, _⟩ => ⟨S2816x1024, .f32⟩
  | .hbm, ⟨5, _⟩ => ⟨S2048x1024, .f32⟩
  | .hbm, ⟨6, _⟩ => ⟨S2048x1024, .f32⟩
  | _, _ => ⟨S2048x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel11.lean ====
abbrev S2048x1024 : Shape := ⟨2, ![2048, 1024]⟩
abbrev S1024x3072 : Shape := ⟨2, ![1024, 3072]⟩
abbrev S2048x3072 : Shape := ⟨2, ![2048, 3072]⟩
abbrev S1024x1024 : Shape := ⟨2, ![1024, 1024]⟩
abbrev S1024x768 : Shape := ⟨2, ![1024, 768]⟩

abbrev nBuf : Space → Nat
  | .hbm => 3
  | .vmem => 6
  | .smem => 0
  | _ => 0

abbrev bufTy : (tb : Table) → Fin (tcTables nBuf tb) → BufTy
  | .hbm, ⟨0, _⟩ => ⟨S2048x1024, .bf16⟩
  | .hbm, ⟨1, _⟩ => ⟨S1024x3072, .bf16⟩
  | .hbm, ⟨2, _⟩ => ⟨S2048x3072, .f32⟩
  | .local _ .vmem, ⟨0, _⟩ => ⟨S1024x1024, .bf16⟩
  | .local _ .vmem, ⟨1, _⟩ => ⟨S1024x1024, .bf16⟩
  | .local _ .vmem, ⟨2, _⟩ => ⟨S1024x768, .bf16⟩
  | .local _ .vmem, ⟨3, _⟩ => ⟨S1024x768, .bf16⟩
  | .local _ .vmem, ⟨4, _⟩ => ⟨S1024x768, .f32⟩
  | .local _ .vmem, ⟨5, _⟩ => ⟨S1024x768, .f32⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference11Ideal.lean ====
abbrev S2048x1024 : Shape := ⟨2, ![2048, 1024]⟩
abbrev S1024x3072 : Shape := ⟨2, ![1024, 3072]⟩
abbrev S2048x3072 : Shape := ⟨2, ![2048, 3072]⟩

abbrev nBuf : Space → Nat
  | .hbm => 5
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S1024x3072, .bf16⟩
  | .hbm, ⟨2, _⟩ => ⟨S2048x1024, .f32⟩
  | .hbm, ⟨3, _⟩ => ⟨S1024x3072, .f32⟩
  | .hbm, ⟨4, _⟩ => ⟨S2048x3072, .f32⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel12.lean ====
abbrev S2048x1024 : Shape := ⟨2, ![2048, 1024]⟩
abbrev S1024x3200 : Shape := ⟨2, ![1024, 3200]⟩
abbrev S2048x3200 : Shape := ⟨2, ![2048, 3200]⟩
abbrev S1024x1024 : Shape := ⟨2, ![1024, 1024]⟩
abbrev S1024x640 : Shape := ⟨2, ![1024, 640]⟩

abbrev nBuf : Space → Nat
  | .hbm => 3
  | .vmem => 6
  | .smem => 0
  | _ => 0

abbrev bufTy : (tb : Table) → Fin (tcTables nBuf tb) → BufTy
  | .hbm, ⟨0, _⟩ => ⟨S2048x1024, .bf16⟩
  | .hbm, ⟨1, _⟩ => ⟨S1024x3200, .bf16⟩
  | .hbm, ⟨2, _⟩ => ⟨S2048x3200, .f32⟩
  | .local _ .vmem, ⟨0, _⟩ => ⟨S1024x1024, .bf16⟩
  | .local _ .vmem, ⟨1, _⟩ => ⟨S1024x1024, .bf16⟩
  | .local _ .vmem, ⟨2, _⟩ => ⟨S1024x640, .bf16⟩
  | .local _ .vmem, ⟨3, _⟩ => ⟨S1024x640, .bf16⟩
  | .local _ .vmem, ⟨4, _⟩ => ⟨S1024x640, .f32⟩
  | .local _ .vmem, ⟨5, _⟩ => ⟨S1024x640, .f32⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 5, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x640 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x640 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference12Ideal.lean ====
abbrev S2048x1024 : Shape := ⟨2, ![2048, 1024]⟩
abbrev S1024x3200 : Shape := ⟨2, ![1024, 3200]⟩
abbrev S2048x3200 : Shape := ⟨2, ![2048, 3200]⟩

abbrev nBuf : Space → Nat
  | .hbm => 5
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S1024x3200, .bf16⟩
  | .hbm, ⟨2, _⟩ => ⟨S2048x1024, .f32⟩
  | .hbm, ⟨3, _⟩ => ⟨S1024x3200, .f32⟩
  | .hbm, ⟨4, _⟩ => ⟨S2048x3200, .f32⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel13.lean ====
abbrev S2048x1024 : Shape := ⟨2, ![2048, 1024]⟩
abbrev S1024x1024 : Shape := ⟨2, ![1024, 1024]⟩
abbrev S512x1024 : Shape := ⟨2, ![512, 1024]⟩

abbrev nBuf : Space → Nat
  | .hbm => 4
  | .vmem => 7
  | .smem => 0
  | _ => 0

abbrev bufTy : (tb : Table) → Fin (tcTables nBuf tb) → BufTy
  | .hbm, ⟨0, _⟩ => ⟨S2048x1024, .bf16⟩
  | .hbm, ⟨1, _⟩ => ⟨S1024x1024, .bf16⟩
  | .hbm, ⟨2, _⟩ => ⟨S2048x1024, .f32⟩
  | .hbm, ⟨3, _⟩ => ⟨S2048x1024, .f32⟩
  | .local _ .vmem, ⟨0, _⟩ => ⟨S512x1024, .bf16⟩
  | .local _ .vmem, ⟨1, _⟩ => ⟨S512x1024, .bf16⟩
  | .local _ .vmem, ⟨2, _⟩ => ⟨S1024x1024, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference13Ideal.lean ====
abbrev S2048x1024 : Shape := ⟨2, ![2048, 1024]⟩
abbrev S1024x1024 : Shape := ⟨2, ![1024, 1024]⟩

abbrev nBuf : Space → Nat
  | .hbm => 7
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S1024x1024, .bf16⟩
  | .hbm, ⟨2, _⟩ => ⟨S2048x1024, .f32⟩
  | .hbm, ⟨3, _⟩ => ⟨S2048x1024, .f32⟩
  | .hbm, ⟨4, _⟩ => ⟨S1024x1024, .f32⟩
  | .hbm, ⟨5, _⟩ => ⟨S2048x1024, .f32⟩
  | .hbm, ⟨6, _⟩ => ⟨S2048x1024, .f32⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel14.lean ====
abbrev S2x2048x2816 : Shape := ⟨3, ![2, 2048, 2816]⟩
abbrev S5632x1024 : Shape := ⟨2, ![5632, 1024]⟩
abbrev S2048x1024 : Shape := ⟨2, ![2048, 1024]⟩
abbrev S1x1024 : Shape := ⟨2, ![1, 1024]⟩
abbrev S1x512x2816 : Shape := ⟨3, ![1, 512, 2816]⟩
abbrev S2816x1024 : Shape := ⟨2, ![2816, 1024]⟩
abbrev S512x1024 : Shape := ⟨2, ![512, 1024]⟩
abbrev S512x2816 : Shape := ⟨2, ![512, 2816]⟩
abbrev S512 : Shape := ⟨1, ![512]⟩
abbrev S512x1 : Shape := ⟨2, ![512, 1]⟩
abbrev S1024 : Shape := ⟨1, ![1024]⟩

abbrev nBuf : Space → Nat
  | .hbm => 8
  | .vmem => 15
  | .smem => 0
  | _ => 0

abbrev bufTy : (tb : Table) → Fin (tcTables nBuf tb) → BufTy
  | .hbm, ⟨0, _⟩ => ⟨S2x2048x2816, .bf16⟩
  | .hbm, ⟨1, _⟩ => ⟨S5632x1024, .bf16⟩
  | .hbm, ⟨2, _⟩ => ⟨S2048x1024, .f32⟩
  | .hbm, ⟨3, _⟩ => ⟨S1x1024, .f32⟩
  | .hbm, ⟨4, _⟩ => ⟨S2048x1024, .f32⟩
  | .hbm, ⟨5, _⟩ => ⟨S2048x1024, .f32⟩
  | .hbm, ⟨6, _⟩ => ⟨S2048x1024, .bf16⟩
  | .hbm, ⟨7, _⟩ => ⟨S1x1024, .f32⟩
  | .local _ .vmem, ⟨0, _⟩ => ⟨S1x512x2816, .bf16⟩
  | .local _ .vmem, ⟨1, _⟩ => ⟨S1x512x2816, .bf16⟩
  | .local _ .vmem, ⟨2, _⟩ => ⟨S2816x1024, .bf16⟩
  | .local _ .vmem, ⟨3, _⟩ => ⟨S2816x1024, .bf16⟩
  | .local _ .vmem, ⟨4, _⟩ => ⟨S512x1024, .f32⟩
  | .local _ .vmem, ⟨5, _⟩ => ⟨S512x1024, .f32⟩
  | .local _ .vmem, ⟨6, _⟩ => ⟨S1x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .bf16⟩
  | .local _ .vmem, ⟨12, _⟩ => ⟨S512x1024, .bf16⟩
  | .local _ .vmem, ⟨13, _⟩ => ⟨S1x1024, .f32⟩
  | .local _ .vmem, ⟨14, _⟩ => ⟨S512x1024, .f32⟩
  | _, _ => ⟨S2x2048x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13

abbrev nD : Nat := 1
abbrev τ : Topo := Topo.v7x

variable {F : FTy → Type} [FloatOps F]

abbrev grid0 : Pipeline.Grid := ⟨3, ![4, 1, 2], ![false, false, false]⟩

def k0_cond3 (i : grid0.Coords) : BitVec 1 :=
  let arg2 : BitVec 32 := BitVec.ofNat 32 (i 2).val
  let c1_i32 : BitVec 32 := 1#32
  let v11 : BitVec 1 := Scalar.cmpi .eq arg2 c1_i32
  let v12 : BitVec 32 := Scalar.extui v11
  let c0_i32_8 : BitVec 32 := 0#32
  let v13 : BitVec 1 := Scalar.cmpi .ne v12 c0_i32_8
  v13

def k0_cond4 (i : grid0.Coords) : BitVec 1 :=
  let arg0 : BitVec 32 := BitVec.ofNat 32 (i 0).val
  let c0_i32 : BitVec 32 := 0#32
  let v4 : BitVec 1 := Scalar.cmpi .eq arg0 c0_i32
  let v47 : BitVec 32 := Scalar.extui v4
  let c0_i32_27 : BitVec 32 := 0#32
  let v48 : BitVec 1 := Scalar.cmpi .ne v47 c0_i32_27
  v48

def k0_cond5 (i : grid0.Coords) : BitVec 1 :=
  let arg0 : BitVec 32 := BitVec.ofNat 32 (i 0).val
  let c0_i32 : BitVec 32 := 0#32
  let v4 : BitVec 1 := Scalar.cmpi .eq arg0 c0_i32
  let v_true : BitVec 1 := 1#1
  let v49 : BitVec 1 := Scalar.xori v4 v_true
  let v50 : BitVec 32 := Scalar.extui v49
  let c0_i32_28 : BitVec 32 := 0#32
  let v51 : BitVec 1 := Scalar.cmpi .ne v50 c0_i32_28
  v51

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg2 c1_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg2 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg0.toNat, v26.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x512x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2816x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false, false]
-- ==== Reference14Ideal.lean ====
abbrev S2x2048x2816 : Shape := ⟨3, ![2, 2048, 2816]⟩
abbrev S5632x1024 : Shape := ⟨2, ![5632, 1024]⟩
abbrev S2048x1024 : Shape := ⟨2, ![2048, 1024]⟩
abbrev S1x1024 : Shape := ⟨2, ![1, 1024]⟩
abbrev S1x2048x2816 : Shape := ⟨3, ![1, 2048, 2816]⟩
abbrev S2048x2816 : Shape := ⟨2, ![2048, 2816]⟩
abbrev S2048x5632 : Shape := ⟨2, ![2048, 5632]⟩
abbrev S1024x5632 : Shape := ⟨2, ![1024, 5632]⟩
abbrev S_ : Shape := ⟨0, ![]⟩
abbrev S2048 : Shape := ⟨1, ![2048]⟩
abbrev S2048x1 : Shape := ⟨2, ![2048, 1]⟩
abbrev S1024 : Shape := ⟨1, ![1024]⟩

abbrev nBuf : Space → Nat
  | .hbm => 59
  | .vmem => 0
  | .smem => 0
  | _ => 0

abbrev bufTy : (tb : Table) → Fin (tcTables nBuf tb) → BufTy
  | .hbm, ⟨0, _⟩ => ⟨S2x2048x2816, .bf16⟩
  | .hbm, ⟨1, _⟩ => ⟨S5632x1024, .bf16⟩
  | .hbm, ⟨2, _⟩ => ⟨S2048x1024, .f32⟩
  | .hbm, ⟨3, _⟩ => ⟨S1x1024, .f32⟩
  | .hbm, ⟨4, _⟩ => ⟨S2048x1024, .f32⟩
  | .hbm, ⟨5, _⟩ => ⟨S1x2048x2816, .bf16⟩
  | .hbm, ⟨6, _⟩ => ⟨S2048x2816, .bf16⟩
  | .hbm, ⟨7, _⟩ => ⟨S1x2048x2816, .bf16⟩
  | .hbm, ⟨8, _⟩ => ⟨S2048x2816, .bf16⟩
  | .hbm, ⟨9, _⟩ => ⟨S2048x5632, .bf16⟩
  | .hbm, ⟨10, _⟩ => ⟨S2048x5632, .f32⟩
  | .hbm, ⟨11, _⟩ => ⟨S5632x1024, .f32⟩
  | .hbm, ⟨12, _⟩ => ⟨S1024x5632, .f32⟩
  | .hbm, ⟨13, _⟩ => ⟨S2048x1024, .f32⟩
  | .hbm, ⟨14, _⟩ => ⟨S_, .f32⟩
  | .hbm, ⟨15, _⟩ => ⟨S2048, .f32⟩
  | .hbm, ⟨16, _⟩ => ⟨S2048x1, .f32⟩
  | .hbm, ⟨17, _⟩ => ⟨S_, .f32⟩
  | .hbm, ⟨18, _⟩ => ⟨S2048x1, .f32⟩
  | .hbm, ⟨19, _⟩ => ⟨S2048x1, .f32⟩
  | .hbm, ⟨20, _⟩ => ⟨S_, .f32⟩
  | .hbm, ⟨21, _⟩ => ⟨S2048x1, .f32⟩
  | .hbm, ⟨22, _⟩ => ⟨S2048x1, .f32⟩
  | .hbm, ⟨23, _⟩ => ⟨S2048x1, .f32⟩
  | .hbm, ⟨24, _⟩ => ⟨S2048x1, .f32⟩
  | .hbm, ⟨25, _⟩ => ⟨S_, .f32⟩
  | .hbm, ⟨26, _⟩ => ⟨S2048x1, .f32⟩
  | .hbm, ⟨27, _⟩ => ⟨S2048x1, .f32⟩
  | .hbm, ⟨28, _⟩ => ⟨S2048x1024, .f32⟩
  | .hbm, ⟨29, _⟩ => ⟨S2048x1024, .f32⟩
  | .hbm, ⟨30, _⟩ => ⟨S2048x1024, .f32⟩
  | .hbm, ⟨31, _⟩ => ⟨S2048x1024, .f32⟩
  | .hbm, ⟨32, _⟩ => ⟨S2048x5632, .f32⟩
  | .hbm, ⟨33, _⟩ => ⟨S2048x1024, .f32⟩
  | .hbm, ⟨34, _⟩ => ⟨S2048x1024, .f32⟩
  | .hbm, ⟨35, _⟩ => ⟨S_, .f32⟩
  | .hbm, ⟨36, _⟩ => ⟨S1024, .f32⟩
  | .hbm, ⟨37, _⟩ => ⟨S1x1024, .f32⟩
  | .hbm, ⟨38, _⟩ => ⟨S2048x1024, .f32⟩
  | .hbm, ⟨39, _⟩ => ⟨S2048x1024, .f32⟩
  | .hbm, ⟨40, _⟩ => ⟨S2048x1024, .f32⟩
  | .hbm, ⟨41, _⟩ => ⟨S_, .f32⟩
  | .hbm, ⟨42, _⟩ => ⟨S2048, .f32⟩
  | .hbm, ⟨43, _⟩ => ⟨S2048x1, .f32⟩
  | .hbm, ⟨44, _⟩ => ⟨S2048x1024, .f32⟩
  | .hbm, ⟨45, _⟩ => ⟨S2048x1024, .f32⟩
  | .hbm, ⟨46, _⟩ => ⟨S2048x1, .f32⟩
  | .hbm, ⟨47, _⟩ => ⟨S_, .f32⟩
  | .hbm, ⟨48, _⟩ => ⟨S2048x1, .f32⟩
  | .hbm, ⟨49, _⟩ => ⟨S2048x1, .f32⟩
  | .hbm, ⟨50, _⟩ => ⟨S_, .f32⟩
  | .hbm, ⟨51, _⟩ => ⟨S2048, .f32⟩
  | .hbm, ⟨52, _⟩ => ⟨S2048x1024, .f32⟩
  | .hbm, ⟨53, _⟩ => ⟨S2048x1024, .f32⟩
  | .hbm, ⟨54, _⟩ => ⟨S2048x1024, .f32⟩
  | .hbm, ⟨55, _⟩ => ⟨S2048x1024, .f32⟩
  | .hbm, ⟨56, _⟩ => ⟨S2048x1024, .f32⟩
  | .hbm, ⟨57, _⟩ => ⟨S2048x1024, .f32⟩
  | .hbm, ⟨58, _⟩ => ⟨S2048x1024, .bf16⟩
  | _, _ => ⟨S2x2048x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst : Ref sig .tc := ⟨.hbm, 14, rfl⟩
abbrev main_v9 : Ref sig .tc := ⟨.hbm, 15, rfl⟩
abbrev main_v10 : Ref sig .tc := ⟨.hbm, 16, rfl⟩
abbrev main_cst_0 : Ref sig .tc := ⟨.hbm, 17, rfl⟩
abbrev main_v11 : Ref sig .tc := ⟨.hbm, 18, rfl⟩
abbrev main_v12 : Ref sig .tc := ⟨.hbm, 19, rfl⟩
abbrev main_cst_1 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_2 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_cst_3 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_cst_4 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_cst_5 : Ref sig .tc := ⟨.hbm, 47, rfl⟩
abbrev main_v36 : Ref sig .tc := ⟨.hbm, 48, rfl⟩
abbrev main_v37 : Ref sig .tc := ⟨.hbm, 49, rfl⟩
abbrev main_cst_6 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩

abbrev nD : Nat := 1
abbrev τ : Topo := Topo.v7x

variable {F : FTy → Type} [FloatOps F]
-- ==== Kernel15.lean ====
abbrev S2048x3072 : Shape := ⟨2, ![2048, 3072]⟩
abbrev S1024x3072 : Shape := ⟨2, ![1024, 3072]⟩
abbrev S2048x1024 : Shape := ⟨2, ![2048, 1024]⟩
abbrev S1x1024 : Shape := ⟨2, ![1, 1024]⟩
abbrev S512x3072 : Shape := ⟨2, ![512, 3072]⟩
abbrev S512x1024 : Shape := ⟨2, ![512, 1024]⟩
abbrev S512 : Shape := ⟨1, ![512]⟩
abbrev S512x1 : Shape := ⟨2, ![512, 1]⟩
abbrev S1024 : Shape := ⟨1, ![1024]⟩

abbrev nBuf : Space → Nat
  | .hbm => 8
  | .vmem => 13
  | .smem => 0
  | _ => 0

abbrev bufTy : (tb : Table) → Fin (tcTables nBuf tb) → BufTy
  | .hbm, ⟨0, _⟩ => ⟨S2048x3072, .bf16⟩
  | .hbm, ⟨1, _⟩ => ⟨S1024x3072, .bf16⟩
  | .hbm, ⟨2, _⟩ => ⟨S2048x1024, .f32⟩
  | .hbm, ⟨3, _⟩ => ⟨S1x1024, .f32⟩
  | .hbm, ⟨4, _⟩ => ⟨S2048x1024, .f32⟩
  | .hbm, ⟨5, _⟩ => ⟨S2048x1024, .f32⟩
  | .hbm, ⟨6, _⟩ => ⟨S2048x1024, .bf16⟩
  | .hbm, ⟨7, _⟩ => ⟨S1x1024, .f32⟩
  | .local _ .vmem, ⟨0, _⟩ => ⟨S512x3072, .bf16⟩
  | .local _ .vmem, ⟨1, _⟩ => ⟨S512x3072, .bf16⟩
  | .local _ .vmem, ⟨2, _⟩ => ⟨S1024x3072, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .bf16⟩
  | .local _ .vmem, ⟨11, _⟩ => ⟨S512x1024, .bf16⟩
  | .local _ .vmem, ⟨12, _⟩ => ⟨S1x1024, .f32⟩
  | _, _ => ⟨S2048x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12

abbrev nD : Nat := 1
abbrev τ : Topo := Topo.v7x

variable {F : FTy → Type} [FloatOps F]

abbrev grid0 : Pipeline.Grid := ⟨3, ![4, 1, 1], ![false, false, false]⟩

def k0_cond1 (i : grid0.Coords) : BitVec 1 :=
  let arg0 : BitVec 32 := BitVec.ofNat 32 (i 0).val
  let c0_i32 : BitVec 32 := 0#32
  let v3 : BitVec 1 := Scalar.cmpi .eq arg0 c0_i32
  let v36 : BitVec 32 := Scalar.extui v3
  let c0_i32_19 : BitVec 32 := 0#32
  let v37 : BitVec 1 := Scalar.cmpi .ne v36 c0_i32_19
  v37

def k0_cond2 (i : grid0.Coords) : BitVec 1 :=
  let arg0 : BitVec 32 := BitVec.ofNat 32 (i 0).val
  let c0_i32 : BitVec 32 := 0#32
  let v3 : BitVec 1 := Scalar.cmpi .eq arg0 c0_i32
  let v_true : BitVec 1 := 1#1
  let v38 : BitVec 1 := Scalar.xori v3 v_true
  let v39 : BitVec 32 := Scalar.extui v38
  let c0_i32_20 : BitVec 32 := 0#32
  let v40 : BitVec 1 := Scalar.cmpi .ne v39 c0_i32_20
  v40

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x3072 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x3072 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false, false]
-- ==== Reference15Ideal.lean ====
abbrev S2048x3072 : Shape := ⟨2, ![2048, 3072]⟩
abbrev S1024x3072 : Shape := ⟨2, ![1024, 3072]⟩
abbrev S2048x1024 : Shape := ⟨2, ![2048, 1024]⟩
abbrev S1x1024 : Shape := ⟨2, ![1, 1024]⟩
abbrev S_ : Shape := ⟨0, ![]⟩
abbrev S2048 : Shape := ⟨1, ![2048]⟩
abbrev S2048x1 : Shape := ⟨2, ![2048, 1]⟩
abbrev S1024 : Shape := ⟨1, ![1024]⟩

abbrev nBuf : Space → Nat
  | .hbm => 53
  | .vmem => 0
  | .smem => 0
  | _ => 0

abbrev bufTy : (tb : Table) → Fin (tcTables nBuf tb) → BufTy
  | .hbm, ⟨0, _⟩ => ⟨S2048x3072, .bf16⟩
  | .hbm, ⟨1, _⟩ => ⟨S1024x3072, .bf16⟩
  | .hbm, ⟨2, _⟩ => ⟨S2048x1024, .f32⟩
  | .hbm, ⟨3, _⟩ => ⟨S1x1024, .f32⟩
  | .hbm, ⟨4, _⟩ => ⟨S2048x1024, .f32⟩
  | .hbm, ⟨5, _⟩ => ⟨S2048x3072, .f32⟩
  | .hbm, ⟨6, _⟩ => ⟨S1024x3072, .f32⟩
  | .hbm, ⟨7, _⟩ => ⟨S2048x1024, .f32⟩
  | .hbm, ⟨8, _⟩ => ⟨S_, .f32⟩
  | .hbm, ⟨9, _⟩ => ⟨S2048, .f32⟩
  | .hbm, ⟨10, _⟩ => ⟨S2048x1, .f32⟩
  | .hbm, ⟨11, _⟩ => ⟨S_, .f32⟩
  | .hbm, ⟨12, _⟩ => ⟨S2048x1, .f32⟩
  | .hbm, ⟨13, _⟩ => ⟨S2048x1, .f32⟩
  | .hbm, ⟨14, _⟩ => ⟨S_, .f32⟩
  | .hbm, ⟨15, _⟩ => ⟨S2048x1, .f32⟩
  | .hbm, ⟨16, _⟩ => ⟨S2048x1, .f32⟩
  | .hbm, ⟨17, _⟩ => ⟨S2048x1, .f32⟩
  | .hbm, ⟨18, _⟩ => ⟨S2048x1, .f32⟩
  | .hbm, ⟨19, _⟩ => ⟨S_, .f32⟩
  | .hbm, ⟨20, _⟩ => ⟨S2048x1, .f32⟩
  | .hbm, ⟨21, _⟩ => ⟨S2048x1, .f32⟩
  | .hbm, ⟨22, _⟩ => ⟨S2048x1024, .f32⟩
  | .hbm, ⟨23, _⟩ => ⟨S2048x1024, .f32⟩
  | .hbm, ⟨24, _⟩ => ⟨S2048x1024, .f32⟩
  | .hbm, ⟨25, _⟩ => ⟨S2048x1024, .f32⟩
  | .hbm, ⟨26, _⟩ => ⟨S2048x3072, .f32⟩
  | .hbm, ⟨27, _⟩ => ⟨S2048x1024, .f32⟩
  | .hbm, ⟨28, _⟩ => ⟨S2048x1024, .f32⟩
  | .hbm, ⟨29, _⟩ => ⟨S_, .f32⟩
  | .hbm, ⟨30, _⟩ => ⟨S1024, .f32⟩
  | .hbm, ⟨31, _⟩ => ⟨S1x1024, .f32⟩
  | .hbm, ⟨32, _⟩ => ⟨S2048x1024, .f32⟩
  | .hbm, ⟨33, _⟩ => ⟨S2048x1024, .f32⟩
  | .hbm, ⟨34, _⟩ => ⟨S2048x1024, .f32⟩
  | .hbm, ⟨35, _⟩ => ⟨S_, .f32⟩
  | .hbm, ⟨36, _⟩ => ⟨S2048, .f32⟩
  | .hbm, ⟨37, _⟩ => ⟨S2048x1, .f32⟩
  | .hbm, ⟨38, _⟩ => ⟨S2048x1024, .f32⟩
  | .hbm, ⟨39, _⟩ => ⟨S2048x1024, .f32⟩
  | .hbm, ⟨40, _⟩ => ⟨S2048x1, .f32⟩
  | .hbm, ⟨41, _⟩ => ⟨S_, .f32⟩
  | .hbm, ⟨42, _⟩ => ⟨S2048x1, .f32⟩
  | .hbm, ⟨43, _⟩ => ⟨S2048x1, .f32⟩
  | .hbm, ⟨44, _⟩ => ⟨S_, .f32⟩
  | .hbm, ⟨45, _⟩ => ⟨S2048, .f32⟩
  | .hbm, ⟨46, _⟩ => ⟨S2048x1024, .f32⟩
  | .hbm, ⟨47, _⟩ => ⟨S2048x1024, .f32⟩
  | .hbm, ⟨48, _⟩ => ⟨S2048x1024, .f32⟩
  | .hbm, ⟨49, _⟩ => ⟨S2048x1024, .f32⟩
  | .hbm, ⟨50, _⟩ => ⟨S2048x1024, .f32⟩
  | .hbm, ⟨51, _⟩ => ⟨S2048x1024, .f32⟩
  | .hbm, ⟨52, _⟩ => ⟨S2048x1024, .bf16⟩
  | _, _ => ⟨S2048x3072, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_2 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_3 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst_4 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_cst_5 : Ref sig .tc := ⟨.hbm, 41, rfl⟩
abbrev main_v30 : Ref sig .tc := ⟨.hbm, 42, rfl⟩
abbrev main_v31 : Ref sig .tc := ⟨.hbm, 43, rfl⟩
abbrev main_cst_6 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩

abbrev nD : Nat := 1
abbrev τ : Topo := Topo.v7x

variable {F : FTy → Type} [FloatOps F]
-- ==== Kernel16.lean ====
abbrev S2048x3200 : Shape := ⟨2, ![2048, 3200]⟩
abbrev S1024x3200 : Shape := ⟨2, ![1024, 3200]⟩
abbrev S2048x1024 : Shape := ⟨2, ![2048, 1024]⟩
abbrev S1x1024 : Shape := ⟨2, ![1, 1024]⟩
abbrev S512x3200 : Shape := ⟨2, ![512, 3200]⟩
abbrev S512x1024 : Shape := ⟨2, ![512, 1024]⟩
abbrev S512 : Shape := ⟨1, ![512]⟩
abbrev S512x1 : Shape := ⟨2, ![512, 1]⟩
abbrev S1024 : Shape := ⟨1, ![1024]⟩

abbrev nBuf : Space → Nat
  | .hbm => 8
  | .vmem => 13
  | .smem => 0
  | _ => 0

abbrev bufTy : (tb : Table) → Fin (tcTables nBuf tb) → BufTy
  | .hbm, ⟨0, _⟩ => ⟨S2048x3200, .bf16⟩
  | .hbm, ⟨1, _⟩ => ⟨S1024x3200, .bf16⟩
  | .hbm, ⟨2, _⟩ => ⟨S2048x1024, .f32⟩
  | .hbm, ⟨3, _⟩ => ⟨S1x1024, .f32⟩
  | .hbm, ⟨4, _⟩ => ⟨S2048x1024, .f32⟩
  | .hbm, ⟨5, _⟩ => ⟨S2048x1024, .f32⟩
  | .hbm, ⟨6, _⟩ => ⟨S2048x1024, .bf16⟩
  | .hbm, ⟨7, _⟩ => ⟨S1x1024, .f32⟩
  | .local _ .vmem, ⟨0, _⟩ => ⟨S512x3200, .bf16⟩
  | .local _ .vmem, ⟨1, _⟩ => ⟨S512x3200, .bf16⟩
  | .local _ .vmem, ⟨2, _⟩ => ⟨S1024x3200, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .bf16⟩
  | .local _ .vmem, ⟨11, _⟩ => ⟨S512x1024, .bf16⟩
  | .local _ .vmem, ⟨12, _⟩ => ⟨S1x1024, .f32⟩
  | _, _ => ⟨S2048x3200, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12

abbrev nD : Nat := 1
abbrev τ : Topo := Topo.v7x

variable {F : FTy → Type} [FloatOps F]

abbrev grid0 : Pipeline.Grid := ⟨3, ![4, 1, 1], ![false, false, false]⟩

def k0_cond1 (i : grid0.Coords) : BitVec 1 :=
  let arg0 : BitVec 32 := BitVec.ofNat 32 (i 0).val
  let c0_i32 : BitVec 32 := 0#32
  let v3 : BitVec 1 := Scalar.cmpi .eq arg0 c0_i32
  let v36 : BitVec 32 := Scalar.extui v3
  let c0_i32_19 : BitVec 32 := 0#32
  let v37 : BitVec 1 := Scalar.cmpi .ne v36 c0_i32_19
  v37

def k0_cond2 (i : grid0.Coords) : BitVec 1 :=
  let arg0 : BitVec 32 := BitVec.ofNat 32 (i 0).val
  let c0_i32 : BitVec 32 := 0#32
  let v3 : BitVec 1 := Scalar.cmpi .eq arg0 c0_i32
  let v_true : BitVec 1 := 1#1
  let v38 : BitVec 1 := Scalar.xori v3 v_true
  let v39 : BitVec 32 := Scalar.extui v38
  let c0_i32_20 : BitVec 32 := 0#32
  let v40 : BitVec 1 := Scalar.cmpi .ne v39 c0_i32_20
  v40

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x3200 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x3200 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false, false]
-- ==== Reference16Ideal.lean ====
abbrev S2048x3200 : Shape := ⟨2, ![2048, 3200]⟩
abbrev S1024x3200 : Shape := ⟨2, ![1024, 3200]⟩
abbrev S2048x1024 : Shape := ⟨2, ![2048, 1024]⟩
abbrev S1x1024 : Shape := ⟨2, ![1, 1024]⟩
abbrev S_ : Shape := ⟨0, ![]⟩
abbrev S2048 : Shape := ⟨1, ![2048]⟩
abbrev S2048x1 : Shape := ⟨2, ![2048, 1]⟩
abbrev S1024 : Shape := ⟨1, ![1024]⟩

abbrev nBuf : Space → Nat
  | .hbm => 53
  | .vmem => 0
  | .smem => 0
  | _ => 0

abbrev bufTy : (tb : Table) → Fin (tcTables nBuf tb) → BufTy
  | .hbm, ⟨0, _⟩ => ⟨S2048x3200, .bf16⟩
  | .hbm, ⟨1, _⟩ => ⟨S1024x3200, .bf16⟩
  | .hbm, ⟨2, _⟩ => ⟨S2048x1024, .f32⟩
  | .hbm, ⟨3, _⟩ => ⟨S1x1024, .f32⟩
  | .hbm, ⟨4, _⟩ => ⟨S2048x1024, .f32⟩
  | .hbm, ⟨5, _⟩ => ⟨S2048x3200, .f32⟩
  | .hbm, ⟨6, _⟩ => ⟨S1024x3200, .f32⟩
  | .hbm, ⟨7, _⟩ => ⟨S2048x1024, .f32⟩
  | .hbm, ⟨8, _⟩ => ⟨S_, .f32⟩
  | .hbm, ⟨9, _⟩ => ⟨S2048, .f32⟩
  | .hbm, ⟨10, _⟩ => ⟨S2048x1, .f32⟩
  | .hbm, ⟨11, _⟩ => ⟨S_, .f32⟩
  | .hbm, ⟨12, _⟩ => ⟨S2048x1, .f32⟩
  | .hbm, ⟨13, _⟩ => ⟨S2048x1, .f32⟩
  | .hbm, ⟨14, _⟩ => ⟨S_, .f32⟩
  | .hbm, ⟨15, _⟩ => ⟨S2048x1, .f32⟩
  | .hbm, ⟨16, _⟩ => ⟨S2048x1, .f32⟩
  | .hbm, ⟨17, _⟩ => ⟨S2048x1, .f32⟩
  | .hbm, ⟨18, _⟩ => ⟨S2048x1, .f32⟩
  | .hbm, ⟨19, _⟩ => ⟨S_, .f32⟩
  | .hbm, ⟨20, _⟩ => ⟨S2048x1, .f32⟩
  | .hbm, ⟨21, _⟩ => ⟨S2048x1, .f32⟩
  | .hbm, ⟨22, _⟩ => ⟨S2048x1024, .f32⟩
  | .hbm, ⟨23, _⟩ => ⟨S2048x1024, .f32⟩
  | .hbm, ⟨24, _⟩ => ⟨S2048x1024, .f32⟩
  | .hbm, ⟨25, _⟩ => ⟨S2048x1024, .f32⟩
  | .hbm, ⟨26, _⟩ => ⟨S2048x3200, .f32⟩
  | .hbm, ⟨27, _⟩ => ⟨S2048x1024, .f32⟩
  | .hbm, ⟨28, _⟩ => ⟨S2048x1024, .f32⟩
  | .hbm, ⟨29, _⟩ => ⟨S_, .f32⟩
  | .hbm, ⟨30, _⟩ => ⟨S1024, .f32⟩
  | .hbm, ⟨31, _⟩ => ⟨S1x1024, .f32⟩
  | .hbm, ⟨32, _⟩ => ⟨S2048x1024, .f32⟩
  | .hbm, ⟨33, _⟩ => ⟨S2048x1024, .f32⟩
  | .hbm, ⟨34, _⟩ => ⟨S2048x1024, .f32⟩
  | .hbm, ⟨35, _⟩ => ⟨S_, .f32⟩
  | .hbm, ⟨36, _⟩ => ⟨S2048, .f32⟩
  | .hbm, ⟨37, _⟩ => ⟨S2048x1, .f32⟩
  | .hbm, ⟨38, _⟩ => ⟨S2048x1024, .f32⟩
  | .hbm, ⟨39, _⟩ => ⟨S2048x1024, .f32⟩
  | .hbm, ⟨40, _⟩ => ⟨S2048x1, .f32⟩
  | .hbm, ⟨41, _⟩ => ⟨S_, .f32⟩
  | .hbm, ⟨42, _⟩ => ⟨S2048x1, .f32⟩
  | .hbm, ⟨43, _⟩ => ⟨S2048x1, .f32⟩
  | .hbm, ⟨44, _⟩ => ⟨S_, .f32⟩
  | .hbm, ⟨45, _⟩ => ⟨S2048, .f32⟩
  | .hbm, ⟨46, _⟩ => ⟨S2048x1024, .f32⟩
  | .hbm, ⟨47, _⟩ => ⟨S2048x1024, .f32⟩
  | .hbm, ⟨48, _⟩ => ⟨S2048x1024, .f32⟩
  | .hbm, ⟨49, _⟩ => ⟨S2048x1024, .f32⟩
  | .hbm, ⟨50, _⟩ => ⟨S2048x1024, .f32⟩
  | .hbm, ⟨51, _⟩ => ⟨S2048x1024, .f32⟩
  | .hbm, ⟨52, _⟩ => ⟨S2048x1024, .bf16⟩
  | _, _ => ⟨S2048x3200, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_2 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_3 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst_4 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_cst_5 : Ref sig .tc := ⟨.hbm, 41, rfl⟩
abbrev main_v30 : Ref sig .tc := ⟨.hbm, 42, rfl⟩
abbrev main_v31 : Ref sig .tc := ⟨.hbm, 43, rfl⟩
abbrev main_cst_6 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩

abbrev nD : Nat := 1
abbrev τ : Topo := Topo.v7x

variable {F : FTy → Type} [FloatOps F]
-- ==== Kernel17.lean ====
abbrev S2048x1024 : Shape := ⟨2, ![2048, 1024]⟩
abbrev S1x1024 : Shape := ⟨2, ![1, 1024]⟩
abbrev S256x1024 : Shape := ⟨2, ![256, 1024]⟩
abbrev S256 : Shape := ⟨1, ![256]⟩
abbrev S256x1 : Shape := ⟨2, ![256, 1]⟩

abbrev nBuf : Space → Nat
  | .hbm => 3
  | .vmem => 5
  | .smem => 0
  | _ => 0

abbrev bufTy : (tb : Table) → Fin (tcTables nBuf tb) → BufTy
  | .hbm, ⟨0, _⟩ => ⟨S2048x1024, .f32⟩
  | .hbm, ⟨1, _⟩ => ⟨S1x1024, .f32⟩
  | .hbm, ⟨2, _⟩ => ⟨S2048x1024, .bf16⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S256x1024, .bf16⟩
  | .local _ .vmem, ⟨4, _⟩ => ⟨S256x1024, .bf16⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference17Ideal.lean ====
abbrev S2048x1024 : Shape := ⟨2, ![2048, 1024]⟩
abbrev S1x1024 : Shape := ⟨2, ![1, 1024]⟩
abbrev S_ : Shape := ⟨0, ![]⟩
abbrev S2048 : Shape := ⟨1, ![2048]⟩
abbrev S2048x1 : Shape := ⟨2, ![2048, 1]⟩

abbrev nBuf : Space → Nat
  | .hbm => 18
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1x1024, .f32⟩
  | .hbm, ⟨2, _⟩ => ⟨S2048x1024, .f32⟩
  | .hbm, ⟨3, _⟩ => ⟨S_, .f32⟩
  | .hbm, ⟨4, _⟩ => ⟨S2048, .f32⟩
  | .hbm, ⟨5, _⟩ => ⟨S2048x1, .f32⟩
  | .hbm, ⟨6, _⟩ => ⟨S_, .f32⟩
  | .hbm, ⟨7, _⟩ => ⟨S2048x1, .f32⟩
  | .hbm, ⟨8, _⟩ => ⟨S2048x1, .f32⟩
  | .hbm, ⟨9, _⟩ => ⟨S_, .f32⟩
  | .hbm, ⟨10, _⟩ => ⟨S2048x1, .f32⟩
  | .hbm, ⟨11, _⟩ => ⟨S2048x1, .f32⟩
  | .hbm, ⟨12, _⟩ => ⟨S2048x1, .f32⟩
  | .hbm, ⟨13, _⟩ => ⟨S2048x1024, .f32⟩
  | .hbm, ⟨14, _⟩ => ⟨S2048x1024, .f32⟩
  | .hbm, ⟨15, _⟩ => ⟨S2048x1024, .f32⟩
  | .hbm, ⟨16, _⟩ => ⟨S2048x1024, .f32⟩
  | .hbm, ⟨17, _⟩ => ⟨S2048x1024, .bf16⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]
-- ==== Kernel18.lean ====
abbrev S2048x1024 : Shape := ⟨2, ![2048, 1024]⟩
abbrev S1x1024 : Shape := ⟨2, ![1, 1024]⟩
abbrev S1x128 : Shape := ⟨2, ![1, 128]⟩
abbrev S256x1024 : Shape := ⟨2, ![256, 1024]⟩
abbrev S256 : Shape := ⟨1, ![256]⟩
abbrev S256x1 : Shape := ⟨2, ![256, 1]⟩
abbrev S1 : Shape := ⟨1, ![1]⟩
abbrev S1x1 : Shape := ⟨2, ![1, 1]⟩
abbrev S1024 : Shape := ⟨1, ![1024]⟩

abbrev nBuf : Space → Nat
  | .hbm => 7
  | .vmem => 11
  | .smem => 0
  | _ => 0

abbrev bufTy : (tb : Table) → Fin (tcTables nBuf tb) → BufTy
  | .hbm, ⟨0, _⟩ => ⟨S2048x1024, .f32⟩
  | .hbm, ⟨1, _⟩ => ⟨S1x1024, .f32⟩
  | .hbm, ⟨2, _⟩ => ⟨S2048x1024, .f32⟩
  | .hbm, ⟨3, _⟩ => ⟨S1x128, .f32⟩
  | .hbm, ⟨4, _⟩ => ⟨S2048x1024, .f32⟩
  | .hbm, ⟨5, _⟩ => ⟨S2048x1024, .bf16⟩
  | .hbm, ⟨6, _⟩ => ⟨S1x1024, .f32⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S256x1024, .f32⟩
  | .local _ .vmem, ⟨4, _⟩ => ⟨S256x1024, .f32⟩
  | .local _ .vmem, ⟨5, _⟩ => ⟨S1x128, .f32⟩
  | .local _ .vmem, ⟨6, _⟩ => ⟨S256x1024, .f32⟩
  | .local _ .vmem, ⟨7, _⟩ => ⟨S256x1024, .f32⟩
  | .local _ .vmem, ⟨8, _⟩ => ⟨S256x1024, .bf16⟩
  | .local _ .vmem, ⟨9, _⟩ => ⟨S256x1024, .bf16⟩
  | .local _ .vmem, ⟨10, _⟩ => ⟨S1x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev main_v0_3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10

abbrev nD : Nat := 1
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32 : BitVec 32 := 0#32
  let v47 : BitVec 1 := Scalar.cmpi .eq arg0 c0_i32
  let v48 : BitVec 32 := Scalar.extui v47
  let c0_i32_19 : BitVec 32 := 0#32
  let v49 : BitVec 1 := Scalar.cmpi .ne v48 c0_i32_19
  v49

def k0_cond2 (i : grid0.Coords) : BitVec 1 :=
  let arg0 : BitVec 32 := BitVec.ofNat 32 (i 0).val
  let c0_i32_20 : BitVec 32 := 0#32
  let v50 : BitVec 1 := Scalar.cmpi .sgt arg0 c0_i32_20
  let v51 : BitVec 32 := Scalar.extui v50
  let c0_i32_21 : BitVec 32 := 0#32
  let v52 : BitVec 1 := Scalar.cmpi .ne v51 c0_i32_21
  v52

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== Reference18Ideal.lean ====
abbrev S2048x1024 : Shape := ⟨2, ![2048, 1024]⟩
abbrev S1x1024 : Shape := ⟨2, ![1, 1024]⟩
abbrev S_ : Shape := ⟨0, ![]⟩
abbrev S2048 : Shape := ⟨1, ![2048]⟩
abbrev S2048x1 : Shape := ⟨2, ![2048, 1]⟩
abbrev S1024 : Shape := ⟨1, ![1024]⟩
abbrev S1x128 : Shape := ⟨2, ![1, 128]⟩

abbrev nBuf : Space → Nat
  | .hbm => 69
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1x1024, .f32⟩
  | .hbm, ⟨2, _⟩ => ⟨S2048x1024, .f32⟩
  | .hbm, ⟨3, _⟩ => ⟨S2048x1024, .f32⟩
  | .hbm, ⟨4, _⟩ => ⟨S_, .f32⟩
  | .hbm, ⟨5, _⟩ => ⟨S2048, .f32⟩
  | .hbm, ⟨6, _⟩ => ⟨S2048x1, .f32⟩
  | .hbm, ⟨7, _⟩ => ⟨S_, .f32⟩
  | .hbm, ⟨8, _⟩ => ⟨S2048x1, .f32⟩
  | .hbm, ⟨9, _⟩ => ⟨S2048x1, .f32⟩
  | .hbm, ⟨10, _⟩ => ⟨S_, .f32⟩
  | .hbm, ⟨11, _⟩ => ⟨S2048x1, .f32⟩
  | .hbm, ⟨12, _⟩ => ⟨S2048x1, .f32⟩
  | .hbm, ⟨13, _⟩ => ⟨S2048x1, .f32⟩
  | .hbm, ⟨14, _⟩ => ⟨S2048x1, .f32⟩
  | .hbm, ⟨15, _⟩ => ⟨S_, .f32⟩
  | .hbm, ⟨16, _⟩ => ⟨S2048x1, .f32⟩
  | .hbm, ⟨17, _⟩ => ⟨S2048x1, .f32⟩
  | .hbm, ⟨18, _⟩ => ⟨S2048x1024, .f32⟩
  | .hbm, ⟨19, _⟩ => ⟨S2048x1024, .f32⟩
  | .hbm, ⟨20, _⟩ => ⟨S2048x1024, .f32⟩
  | .hbm, ⟨21, _⟩ => ⟨S2048x1024, .f32⟩
  | .hbm, ⟨22, _⟩ => ⟨S2048x1024, .f32⟩
  | .hbm, ⟨23, _⟩ => ⟨S2048x1024, .f32⟩
  | .hbm, ⟨24, _⟩ => ⟨S_, .f32⟩
  | .hbm, ⟨25, _⟩ => ⟨S2048, .f32⟩
  | .hbm, ⟨26, _⟩ => ⟨S_, .f32⟩
  | .hbm, ⟨27, _⟩ => ⟨S2048, .f32⟩
  | .hbm, ⟨28, _⟩ => ⟨S2048, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S2048, .f32⟩
  | .hbm, ⟨37, _⟩ => ⟨S_, .f32⟩
  | .hbm, ⟨38, _⟩ => ⟨S2048, .f32⟩
  | .hbm, ⟨39, _⟩ => ⟨S2048, .f32⟩
  | .hbm, ⟨40, _⟩ => ⟨S2048x1024, .f32⟩
  | .hbm, ⟨41, _⟩ => ⟨S2048x1024, .f32⟩
  | .hbm, ⟨42, _⟩ => ⟨S2048x1024, .f32⟩
  | .hbm, ⟨43, _⟩ => ⟨S2048x1024, .f32⟩
  | .hbm, ⟨44, _⟩ => ⟨S2048x1024, .f32⟩
  | .hbm, ⟨45, _⟩ => ⟨S_, .f32⟩
  | .hbm, ⟨46, _⟩ => ⟨S1024, .f32⟩
  | .hbm, ⟨47, _⟩ => ⟨S1x1024, .f32⟩
  | .hbm, ⟨48, _⟩ => ⟨S2048x1024, .f32⟩
  | .hbm, ⟨49, _⟩ => ⟨S2048x1024, .f32⟩
  | .hbm, ⟨50, _⟩ => ⟨S2048x1024, .f32⟩
  | .hbm, ⟨51, _⟩ => ⟨S_, .f32⟩
  | .hbm, ⟨52, _⟩ => ⟨S2048, .f32⟩
  | .hbm, ⟨53, _⟩ => ⟨S2048x1, .f32⟩
  | .hbm, ⟨54, _⟩ => ⟨S2048x1024, .f32⟩
  | .hbm, ⟨55, _⟩ => ⟨S2048x1024, .f32⟩
  | .hbm, ⟨56, _⟩ => ⟨S2048x1, .f32⟩
  | .hbm, ⟨57, _⟩ => ⟨S_, .f32⟩
  | .hbm, ⟨58, _⟩ => ⟨S2048x1, .f32⟩
  | .hbm, ⟨59, _⟩ => ⟨S2048x1, .f32⟩
  | .hbm, ⟨60, _⟩ => ⟨S_, .f32⟩
  | .hbm, ⟨61, _⟩ => ⟨S2048, .f32⟩
  | .hbm, ⟨62, _⟩ => ⟨S2048x1024, .f32⟩
  | .hbm, ⟨63, _⟩ => ⟨S2048x1024, .f32⟩
  | .hbm, ⟨64, _⟩ => ⟨S2048x1024, .f32⟩
  | .hbm, ⟨65, _⟩ => ⟨S2048x1024, .f32⟩
  | .hbm, ⟨66, _⟩ => ⟨S2048x1024, .f32⟩
  | .hbm, ⟨67, _⟩ => ⟨S1x128, .f32⟩
  | .hbm, ⟨68, _⟩ => ⟨S2048x1024, .bf16⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_3 : Ref sig .tc := ⟨.hbm, 24, rfl⟩
abbrev main_v17 : Ref sig .tc := ⟨.hbm, 25, rfl⟩
abbrev main_cst_4 : Ref sig .tc := ⟨.hbm, 26, rfl⟩
abbrev main_v18 : Ref sig .tc := ⟨.hbm, 27, rfl⟩
abbrev main_v19 : Ref sig .tc := ⟨.hbm, 28, rfl⟩
abbrev main_cst_5 : Ref sig .tc := ⟨.hbm, 29, rfl⟩
abbrev main_v20 : Ref sig .tc := ⟨.hbm, 30, rfl⟩
abbrev main_cst_6 : Ref sig .tc := ⟨.hbm, 31, rfl⟩
abbrev main_v21 : Ref sig .tc := ⟨.hbm, 32, rfl⟩
abbrev main_cst_7 : Ref sig .tc := ⟨.hbm, 33, rfl⟩
abbrev main_cst_8 : Ref sig .tc := ⟨.hbm, 34, rfl⟩
abbrev main_v22 : Ref sig .tc := ⟨.hbm, 35, rfl⟩
abbrev main_v23 : Ref sig .tc := ⟨.hbm, 36, rfl⟩
abbrev main_cst_9 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_cst_10 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_cst_11 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_cst_12 : Ref sig .tc := ⟨.hbm, 57, rfl⟩
abbrev main_v41 : Ref sig .tc := ⟨.hbm, 58, rfl⟩
abbrev main_v42 : Ref sig .tc := ⟨.hbm, 59, rfl⟩
abbrev main_cst_13 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩

abbrev nD : Nat := 1
abbrev τ : Topo := Topo.v7x

variable {F : FTy → Type} [FloatOps F]
-- ==== Kernel19.lean ====
abbrev S16x1024 : Shape := ⟨2, ![16, 1024]⟩

abbrev nBuf : Space → Nat
  | .hbm => 7
  | .vmem => 7
  | .smem => 0
  | _ => 0

abbrev bufTy : (tb : Table) → Fin (tcTables nBuf tb) → BufTy
  | .hbm, ⟨0, _⟩ => ⟨S16x1024, .f32⟩
  | .hbm, ⟨1, _⟩ => ⟨S16x1024, .f32⟩
  | .hbm, ⟨2, _⟩ => ⟨S16x1024, .f32⟩
  | .hbm, ⟨3, _⟩ => ⟨S16x1024, .f32⟩
  | .hbm, ⟨4, _⟩ => ⟨S16x1024, .f32⟩
  | .hbm, ⟨5, _⟩ => ⟨S16x1024, .f32⟩
  | .hbm, ⟨6, _⟩ => ⟨S16x1024, .f32⟩
  | .local _ .vmem, ⟨0, _⟩ => ⟨S16x1024, .f32⟩
  | .local _ .vmem, ⟨1, _⟩ => ⟨S16x1024, .f32⟩
  | .local _ .vmem, ⟨2, _⟩ => ⟨S16x1024, .f32⟩
  | .local _ .vmem, ⟨3, _⟩ => ⟨S16x1024, .f32⟩
  | .local _ .vmem, ⟨4, _⟩ => ⟨S16x1024, .f32⟩
  | .local _ .vmem, ⟨5, _⟩ => ⟨S16x1024, .f32⟩
  | .local _ .vmem, ⟨6, _⟩ => ⟨S16x1024, .f32⟩
  | _, _ => ⟨S16x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := .none

abbrev stage0_0 : Fin 1 → Memref sig .tc .vmem S16x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S16x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S16x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S16x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S16x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S16x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S16x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== Reference19Ideal.lean ====
abbrev S16x1024 : Shape := ⟨2, ![16, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S16x1024, .f32⟩
  | .hbm, ⟨1, _⟩ => ⟨S16x1024, .f32⟩
  | .hbm, ⟨2, _⟩ => ⟨S16x1024, .f32⟩
  | .hbm, ⟨3, _⟩ => ⟨S16x1024, .f32⟩
  | .hbm, ⟨4, _⟩ => ⟨S_, .f32⟩
  | .hbm, ⟨5, _⟩ => ⟨S16x1024, .f32⟩
  | .hbm, ⟨6, _⟩ => ⟨S16x1024, .f32⟩
  | .hbm, ⟨7, _⟩ => ⟨S_, .f32⟩
  | .hbm, ⟨8, _⟩ => ⟨S16x1024, .f32⟩
  | .hbm, ⟨9, _⟩ => ⟨S16x1024, .f32⟩
  | .hbm, ⟨10, _⟩ => ⟨S16x1024, .f32⟩
  | .hbm, ⟨11, _⟩ => ⟨S_, .f32⟩
  | .hbm, ⟨12, _⟩ => ⟨S16x1024, .f32⟩
  | .hbm, ⟨13, _⟩ => ⟨S16x1024, .f32⟩
  | .hbm, ⟨14, _⟩ => ⟨S16x1024, .f32⟩
  | .hbm, ⟨15, _⟩ => ⟨S_, .f32⟩
  | .hbm, ⟨16, _⟩ => ⟨S16x1024, .f32⟩
  | .hbm, ⟨17, _⟩ => ⟨S16x1024, .f32⟩
  | .hbm, ⟨18, _⟩ => ⟨S16x1024, .f32⟩
  | .hbm, ⟨19, _⟩ => ⟨S_, .f32⟩
  | .hbm, ⟨20, _⟩ => ⟨S16x1024, .f32⟩
  | .hbm, ⟨21, _⟩ => ⟨S16x1024, .f32⟩
  | .hbm, ⟨22, _⟩ => ⟨S_, .f32⟩
  | .hbm, ⟨23, _⟩ => ⟨S16x1024, .f32⟩
  | .hbm, ⟨24, _⟩ => ⟨S16x1024, .f32⟩
  | .hbm, ⟨25, _⟩ => ⟨S16x1024, .f32⟩
  | .hbm, ⟨26, _⟩ => ⟨S_, .f32⟩
  | .hbm, ⟨27, _⟩ => ⟨S16x1024, .f32⟩
  | .hbm, ⟨28, _⟩ => ⟨S16x1024, .f32⟩
  | .hbm, ⟨29, _⟩ => ⟨S16x1024, .f32⟩
  | .hbm, ⟨30, _⟩ => ⟨S_, .f32⟩
  | .hbm, ⟨31, _⟩ => ⟨S16x1024, .f32⟩
  | .hbm, ⟨32, _⟩ => ⟨S16x1024, .f32⟩
  | .hbm, ⟨33, _⟩ => ⟨S16x1024, .f32⟩
  | .hbm, ⟨34, _⟩ => ⟨S_, .f32⟩
  | .hbm, ⟨35, _⟩ => ⟨S16x1024, .f32⟩
  | .hbm, ⟨36, _⟩ => ⟨S16x1024, .f32⟩
  | _, _ => ⟨S16x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel20.lean ====
abbrev S2048x3200 : Shape := ⟨2, ![2048, 3200]⟩
abbrev S16x2048 : Shape := ⟨2, ![16, 2048]⟩
abbrev S2048x1024 : Shape := ⟨2, ![2048, 1024]⟩
abbrev S2048x3072 : Shape := ⟨2, ![2048, 3072]⟩
abbrev S2048x16x64 : Shape := ⟨3, ![2048, 16, 64]⟩
abbrev S_ : Shape := ⟨0, ![]⟩
abbrev S16x2048x2048 : Shape := ⟨3, ![16, 2048, 2048]⟩
abbrev S16x2048x1 : Shape := ⟨3, ![16, 2048, 1]⟩
abbrev S16x1x2048 : Shape := ⟨3, ![16, 1, 2048]⟩
abbrev S2048 : Shape := ⟨1, ![2048]⟩
abbrev S1x2048 : Shape := ⟨2, ![1, 2048]⟩
abbrev S2048x1 : Shape := ⟨2, ![2048, 1]⟩
abbrev S2048x2048 : Shape := ⟨2, ![2048, 2048]⟩
abbrev S16x64x2048 : Shape := ⟨3, ![16, 64, 2048]⟩
abbrev S2048x128 : Shape := ⟨2, ![2048, 128]⟩
abbrev S2x2048x1 : Shape := ⟨3, ![2, 2048, 1]⟩
abbrev S2x1x2048 : Shape := ⟨3, ![2, 1, 2048]⟩
abbrev S128x2048 : Shape := ⟨2, ![128, 2048]⟩
abbrev S256x128 : Shape := ⟨2, ![256, 128]⟩
abbrev S128x256 : Shape := ⟨2, ![128, 256]⟩
abbrev S256x256 : Shape := ⟨2, ![256, 256]⟩
abbrev S256 : Shape := ⟨1, ![256]⟩
abbrev S256x1 : Shape := ⟨2, ![256, 1]⟩
abbrev S1x256x1 : Shape := ⟨3, ![1, 256, 1]⟩
abbrev S1x1x256 : Shape := ⟨3, ![1, 1, 256]⟩
abbrev S1x256 : Shape := ⟨2, ![1, 256]⟩

abbrev nBuf : Space → Nat
  | .hbm => 54
  | .vmem => 40
  | .smem => 0
  | _ => 0

abbrev bufTy : (tb : Table) → Fin (tcTables nBuf tb) → BufTy
  | .hbm, ⟨0, _⟩ => ⟨S2048x3200, .f32⟩
  | .hbm, ⟨1, _⟩ => ⟨S16x2048, .f32⟩
  | .hbm, ⟨2, _⟩ => ⟨S2048x1024, .f32⟩
  | .hbm, ⟨3, _⟩ => ⟨S2048x3072, .f32⟩
  | .hbm, ⟨4, _⟩ => ⟨S2048x1024, .f32⟩
  | .hbm, ⟨5, _⟩ => ⟨S2048x1024, .f32⟩
  | .hbm, ⟨6, _⟩ => ⟨S2048x1024, .f32⟩
  | .hbm, ⟨7, _⟩ => ⟨S2048x16x64, .f32⟩
  | .hbm, ⟨8, _⟩ => ⟨S2048x16x64, .f32⟩
  | .hbm, ⟨9, _⟩ => ⟨S2048x16x64, .f32⟩
  | .hbm, ⟨10, _⟩ => ⟨S_, .f32⟩
  | .hbm, ⟨11, _⟩ => ⟨S2048x16x64, .f32⟩
  | .hbm, ⟨12, _⟩ => ⟨S2048x16x64, .f32⟩
  | .hbm, ⟨13, _⟩ => ⟨S16x2048x2048, .f32⟩
  | .hbm, ⟨14, _⟩ => ⟨S16x2048x1, .f32⟩
  | .hbm, ⟨15, _⟩ => ⟨S16x2048x2048, .f32⟩
  | .hbm, ⟨16, _⟩ => ⟨S16x2048x2048, .f32⟩
  | .hbm, ⟨17, _⟩ => ⟨S16x1x2048, .f32⟩
  | .hbm, ⟨18, _⟩ => ⟨S16x2048x2048, .f32⟩
  | .hbm, ⟨19, _⟩ => ⟨S16x2048x2048, .f32⟩
  | .hbm, ⟨20, _⟩ => ⟨S2048, .i32⟩
  | .hbm, ⟨21, _⟩ => ⟨S1x2048, .i32⟩
  | .hbm, ⟨22, _⟩ => ⟨S2048x1, .i32⟩
  | .hbm, ⟨23, _⟩ => ⟨S2048x2048, .i32⟩
  | .hbm, ⟨24, _⟩ => ⟨S2048x2048, .i32⟩
  | .hbm, ⟨25, _⟩ => ⟨S2048x2048, .i1⟩
  | .hbm, ⟨26, _⟩ => ⟨S_, .f32⟩
  | .hbm, ⟨27, _⟩ => ⟨S_, .f32⟩
  | .hbm, ⟨28, _⟩ => ⟨S16x2048x2048, .i1⟩
  | .hbm, ⟨29, _⟩ => ⟨S16x2048x2048, .f32⟩
  | .hbm, ⟨30, _⟩ => ⟨S16x2048x2048, .f32⟩
  | .hbm, ⟨31, _⟩ => ⟨S_, .f32⟩
  | .hbm, ⟨32, _⟩ => ⟨S16x2048, .f32⟩
  | .hbm, ⟨33, _⟩ => ⟨S16x2048x1, .f32⟩
  | .hbm, ⟨34, _⟩ => ⟨S16x2048x2048, .f32⟩
  | .hbm, ⟨35, _⟩ => ⟨S16x2048x2048, .f32⟩
  | .hbm, ⟨36, _⟩ => ⟨S16x2048x2048, .f32⟩
  | .hbm, ⟨37, _⟩ => ⟨S_, .f32⟩
  | .hbm, ⟨38, _⟩ => ⟨S16x2048, .f32⟩
  | .hbm, ⟨39, _⟩ => ⟨S16x2048x1, .f32⟩
  | .hbm, ⟨40, _⟩ => ⟨S16x2048x2048, .f32⟩
  | .hbm, ⟨41, _⟩ => ⟨S16x2048x2048, .f32⟩
  | .hbm, ⟨42, _⟩ => ⟨S16x64x2048, .f32⟩
  | .hbm, ⟨43, _⟩ => ⟨S2048x16x64, .f32⟩
  | .hbm, ⟨44, _⟩ => ⟨S2048x1024, .f32⟩
  | .hbm, ⟨45, _⟩ => ⟨S16x2048x1, .f32⟩
  | .hbm, ⟨46, _⟩ => ⟨S16x2048x1, .f32⟩
  | .hbm, ⟨47, _⟩ => ⟨S16x2048x1, .f32⟩
  | .hbm, ⟨48, _⟩ => ⟨S16x1x2048, .f32⟩
  | .hbm, ⟨49, _⟩ => ⟨S2048x1024, .bf16⟩
  | .hbm, ⟨50, _⟩ => ⟨S2048x1024, .bf16⟩
  | .hbm, ⟨51, _⟩ => ⟨S2048x1024, .bf16⟩
  | .hbm, ⟨52, _⟩ => ⟨S16x1x2048, .f32⟩
  | .hbm, ⟨53, _⟩ => ⟨S16x2048x1, .f32⟩
  | .local _ .vmem, ⟨0, _⟩ => ⟨S2048x128, .f32⟩
  | .local _ .vmem, ⟨1, _⟩ => ⟨S2048x128, .f32⟩
  | .local _ .vmem, ⟨2, _⟩ => ⟨S2048x128, .f32⟩
  | .local _ .vmem, ⟨3, _⟩ => ⟨S2048x128, .f32⟩
  | .local _ .vmem, ⟨4, _⟩ => ⟨S2048x128, .f32⟩
  | .local _ .vmem, ⟨5, _⟩ => ⟨S2048x128, .f32⟩
  | .local _ .vmem, ⟨6, _⟩ => ⟨S2048x128, .f32⟩
  | .local _ .vmem, ⟨7, _⟩ => ⟨S2048x128, .f32⟩
  | .local _ .vmem, ⟨8, _⟩ => ⟨S2048x128, .f32⟩
  | .local _ .vmem, ⟨9, _⟩ => ⟨S2048x128, .f32⟩
  | .local _ .vmem, ⟨10, _⟩ => ⟨S2x2048x1, .f32⟩
  | .local _ .vmem, ⟨11, _⟩ => ⟨S2x2048x1, .f32⟩
  | .local _ .vmem, ⟨12, _⟩ => ⟨S2x2048x1, .f32⟩
  | .local _ .vmem, ⟨13, _⟩ => ⟨S2x2048x1, .f32⟩
  | .local _ .vmem, ⟨14, _⟩ => ⟨S2x1x2048, .f32⟩
  | .local _ .vmem, ⟨15, _⟩ => ⟨S2x1x2048, .f32⟩
  | .local _ .vmem, ⟨16, _⟩ => ⟨S2048x128, .bf16⟩
  | .local _ .vmem, ⟨17, _⟩ => ⟨S2048x128, .bf16⟩
  | .local _ .vmem, ⟨18, _⟩ => ⟨S2048x128, .bf16⟩
  | .local _ .vmem, ⟨19, _⟩ => ⟨S2048x128, .bf16⟩
  | .local _ .vmem, ⟨20, _⟩ => ⟨S2048x128, .bf16⟩
  | .local _ .vmem, ⟨21, _⟩ => ⟨S2048x128, .bf16⟩
  | .local _ .vmem, ⟨22, _⟩ => ⟨S2x1x2048, .f32⟩
  | .local _ .vmem, ⟨23, _⟩ => ⟨S2x1x2048, .f32⟩
  | .local _ .vmem, ⟨24, _⟩ => ⟨S2x2048x1, .f32⟩
  | .local _ .vmem, ⟨25, _⟩ => ⟨S2x2048x1, .f32⟩
  | .local _ .vmem, ⟨26, _⟩ => ⟨S2048x128, .bf16⟩
  | .local _ .vmem, ⟨27, _⟩ => ⟨S2048x128, .bf16⟩
  | .local _ .vmem, ⟨28, _⟩ => ⟨S2048x128, .bf16⟩
  | .local _ .vmem, ⟨29, _⟩ => ⟨S2048x128, .bf16⟩
  | .local _ .vmem, ⟨30, _⟩ => ⟨S2048x128, .bf16⟩
  | .local _ .vmem, ⟨31, _⟩ => ⟨S2048x128, .bf16⟩
  | .local _ .vmem, ⟨32, _⟩ => ⟨S2048x128, .bf16⟩
  | .local _ .vmem, ⟨33, _⟩ => ⟨S2048x128, .bf16⟩
  | .local _ .vmem, ⟨34, _⟩ => ⟨S128x2048, .bf16⟩
  | .local _ .vmem, ⟨35, _⟩ => ⟨S128x2048, .bf16⟩
  | .local _ .vmem, ⟨36, _⟩ => ⟨S128x2048, .bf16⟩
  | .local _ .vmem, ⟨37, _⟩ => ⟨S128x2048, .bf16⟩
  | .local _ .vmem, ⟨38, _⟩ => ⟨S128x2048, .f32⟩
  | .local _ .vmem, ⟨39, _⟩ => ⟨S128x2048, .f32⟩
  | _, _ => ⟨S2048x3200, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_cst_0 : Ref sig .tc := ⟨.hbm, 26, rfl⟩
abbrev main_call0_v0 : Ref sig .tc := ⟨.hbm, 27, rfl⟩
abbrev main_call0_v1 : Ref sig .tc := ⟨.hbm, 28, rfl⟩
abbrev main_call0_v2 : Ref sig .tc := ⟨.hbm, 29, rfl⟩
abbrev main_v22 : Ref sig .tc := ⟨.hbm, 30, rfl⟩
abbrev main_cst_1 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_cst_2 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39_0 : Ref sig .tc := ⟨.hbm, 49, rfl⟩
abbrev main_v39_1 : Ref sig .tc := ⟨.hbm, 50, rfl⟩
abbrev main_v39_2 : Ref sig .tc := ⟨.hbm, 51, rfl⟩
abbrev main_v39_3 : Ref sig .tc := ⟨.hbm, 52, rfl⟩
abbrev main_v39_4 : Ref sig .tc := ⟨.hbm, 53, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_scratch0 : Ref sig .tc := ⟨.vmem, 26, rfl⟩
abbrev cc0_scratch1 : Ref sig .tc := ⟨.vmem, 27, rfl⟩
abbrev cc0_scratch2 : Ref sig .tc := ⟨.vmem, 28, rfl⟩
abbrev cc0_scratch3 : Ref sig .tc := ⟨.vmem, 29, rfl⟩
abbrev cc0_scratch4 : Ref sig .tc := ⟨.vmem, 30, rfl⟩
abbrev cc0_scratch5 : Ref sig .tc := ⟨.vmem, 31, rfl⟩
abbrev cc0_scratch6 : Ref sig .tc := ⟨.vmem, 32, rfl⟩
abbrev cc0_scratch7 : Ref sig .tc := ⟨.vmem, 33, rfl⟩
abbrev cc0_scratch8 : Ref sig .tc := ⟨.vmem, 34, rfl⟩
abbrev cc0_scratch9 : Ref sig .tc := ⟨.vmem, 35, rfl⟩
abbrev cc0_scratch10 : Ref sig .tc := ⟨.vmem, 36, rfl⟩
abbrev cc0_scratch11 : Ref sig .tc := ⟨.vmem, 37, rfl⟩
abbrev cc0_scratch12 : Ref sig .tc := ⟨.vmem, 38, rfl⟩
abbrev cc0_scratch13 : Ref sig .tc := ⟨.vmem, 39, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25

abbrev nD : Nat := 1
abbrev τ : Topo := Topo.v7x

variable {F : FTy → Type} [FloatOps F]

abbrev grid0 : Pipeline.Grid := ⟨1, ![8], ![false]⟩

@[reducible] def k0_t1_loop : Scf.Loop 32 :=
  let c0_i32 : BitVec 32 := 0#32
  let c8_i32 : BitVec 32 := 8#32
  let v6 : BitVec 32 := Scalar.addi c0_i32 c8_i32
  let c1_i32 : BitVec 32 := 1#32
  ⟨c0_i32, v6, c1_i32⟩
def k0_mult1 (k0_t1 : Fin k0_t1_loop.trips) : BitVec 32 :=
  let c0_i32 : BitVec 32 := 0#32
  let c1_i32 : BitVec 32 := 1#32
  let arg28 : BitVec 32 := Scf.iv c0_i32 c1_i32 k0_t1
  let c256_i32 : BitVec 32 := 256#32
  let v22 : BitVec 32 := Scalar.muli arg28 c256_i32
  v22
def k0_off1 (k0_t1 : Fin k0_t1_loop.trips) : Fin 2 → Nat :=
  let c0_i32 : BitVec 32 := 0#32
  let c1_i32 : BitVec 32 := 1#32
  let arg28 : BitVec 32 := Scf.iv c0_i32 c1_i32 k0_t1
  let c256_i32 : BitVec 32 := 256#32
  let v22 : BitVec 32 := Scalar.muli arg28 c256_i32
  let v23 : BitVec 32 := v22
  let v24 : Index := Scalar.indexCast v23
  let c0_18 : Index := 0#32
  ![v24.toNat, 0]
def k0_mult2 (k0_t1 : Fin k0_t1_loop.trips) : BitVec 32 :=
  let c0_i32 : BitVec 32 := 0#32
  let c1_i32 : BitVec 32 := 1#32
  let arg28 : BitVec 32 := Scf.iv c0_i32 c1_i32 k0_t1
  let c256_i32_22 : BitVec 32 := 256#32
  let v32 : BitVec 32 := Scalar.muli arg28 c256_i32_22
  v32
def k0_off2 (k0_t1 : Fin k0_t1_loop.trips) : Fin 2 → Nat :=
  let c0_37 : Index := 0#32
  let c0_i32 : BitVec 32 := 0#32
  let c1_i32 : BitVec 32 := 1#32
  let arg28 : BitVec 32 := Scf.iv c0_i32 c1_i32 k0_t1
  let c256_i32_22 : BitVec 32 := 256#32
  let v32 : BitVec 32 := Scalar.muli arg28 c256_i32_22
  let v33 : BitVec 32 := v32
  let v93 : Index := Scalar.indexCast v33
  ![0, v93.toNat]
@[reducible] def k0_t2_loop : Scf.Loop 32 :=
  let c0_i32_10 : BitVec 32 := 0#32
  let c8_i32_11 : BitVec 32 := 8#32
  let v20 : BitVec 32 := Scalar.addi c0_i32_10 c8_i32_11
  let c1_i32_12 : BitVec 32 := 1#32
  ⟨c0_i32_10, v20, c1_i32_12⟩
def k0_mult3 (k0_t2 : Fin k0_t2_loop.trips) : BitVec 32 :=
  let c0_i32_10 : BitVec 32 := 0#32
  let c1_i32_12 : BitVec 32 := 1#32
  let arg28 : BitVec 32 := Scf.iv c0_i32_10 c1_i32_12 k0_t2
  let c256_i32 : BitVec 32 := 256#32
  let v22 : BitVec 32 := Scalar.muli arg28 c256_i32
  v22
def k0_off3 (k0_t2 : Fin k0_t2_loop.trips) : Fin 2 → Nat :=
  let c0_i32_10 : BitVec 32 := 0#32
  let c1_i32_12 : BitVec 32 := 1#32
  let arg28 : BitVec 32 := Scf.iv c0_i32_10 c1_i32_12 k0_t2
  let c256_i32 : BitVec 32 := 256#32
  let v22 : BitVec 32 := Scalar.muli arg28 c256_i32
  let v23 : BitVec 32 := v22
  let v24 : Index := Scalar.indexCast v23
  let c0_18 : Index := 0#32
  ![v24.toNat, 0]
def k0_off4 (k0_t2 : Fin k0_t2_loop.trips) : Fin 3 → Nat :=
  let c0_24 : Index := 0#32
  let c0_i32_10 : BitVec 32 := 0#32
  let c1_i32_12 : BitVec 32 := 1#32
  let arg28 : BitVec 32 := Scf.iv c0_i32_10 c1_i32_12 k0_t2
  let c256_i32 : BitVec 32 := 256#32
  let v22 : BitVec 32 := Scalar.muli arg28 c256_i32
  let v23 : BitVec 32 := v22
  let v38 : Index := Scalar.indexCast v23
  let c0_25 : Index := 0#32
  ![0, v38.toNat, 0]
def k0_off5 (k0_t2 : Fin k0_t2_loop.trips) : Fin 3 → Nat :=
  let c1 : Index := 1#32
  let c0_i32_10 : BitVec 32 := 0#32
  let c1_i32_12 : BitVec 32 := 1#32
  let arg28 : BitVec 32 := Scf.iv c0_i32_10 c1_i32_12 k0_t2
  let c256_i32 : BitVec 32 := 256#32
  let v22 : BitVec 32 := Scalar.muli arg28 c256_i32
  let v23 : BitVec 32 := v22
  let v41 : Index := Scalar.indexCast v23
  let c0_26 : Index := 0#32
  ![1, v41.toNat, 0]
@[reducible] def k0_t3_loop (k0_t2 : Fin k0_t2_loop.trips) : Scf.Loop 32 :=
  let c0_i32_32 : BitVec 32 := 0#32
  let c0_i32_10 : BitVec 32 := 0#32
  let c1_i32_12 : BitVec 32 := 1#32
  let arg28 : BitVec 32 := Scf.iv c0_i32_10 c1_i32_12 k0_t2
  let v53 : BitVec 32 := Scalar.subi arg28 c0_i32_32
  let c1_i32_33 : BitVec 32 := 1#32
  let v55 : BitVec 32 := Scalar.divsi v53 c1_i32_33
  let v56 : BitVec 32 := Scalar.muli v55 c1_i32_33
  let v57 : BitVec 32 := Scalar.addi c0_i32_32 v56
  let c1_i32_34 : BitVec 32 := 1#32
  ⟨c0_i32_32, v57, c1_i32_34⟩
def k0_mult4 (k0_t2 : Fin k0_t2_loop.trips) (k0_t3 : Fin (k0_t3_loop k0_t2).trips) : BitVec 32 :=
  let c0_i32_32 : BitVec 32 := 0#32
  let c1_i32_34 : BitVec 32 := 1#32
  let arg29 : BitVec 32 := Scf.iv c0_i32_32 c1_i32_34 k0_t3
  let c256_i32_88 : BitVec 32 := 256#32
  let v191 : BitVec 32 := Scalar.muli arg29 c256_i32_88
  v191
def k0_off6 (k0_t2 : Fin k0_t2_loop.trips) (k0_t3 : Fin (k0_t3_loop k0_t2).trips) : Fin 2 → Nat :=
  let c0_i32_32 : BitVec 32 := 0#32
  let c1_i32_34 : BitVec 32 := 1#32
  let arg29 : BitVec 32 := Scf.iv c0_i32_32 c1_i32_34 k0_t3
  let c256_i32_88 : BitVec 32 := 256#32
  let v191 : BitVec 32 := Scalar.muli arg29 c256_i32_88
  let v192 : BitVec 32 := v191
  let v193 : Index := Scalar.indexCast v192
  let c0_89 : Index := 0#32
  ![v193.toNat, 0]
def k0_off7 (k0_t2 : Fin k0_t2_loop.trips) : Fin 2 → Nat :=
  let c0_i32_10 : BitVec 32 := 0#32
  let c1_i32_12 : BitVec 32 := 1#32
  let arg28 : BitVec 32 := Scf.iv c0_i32_10 c1_i32_12 k0_t2
  let c256_i32 : BitVec 32 := 256#32
  let v22 : BitVec 32 := Scalar.muli arg28 c256_i32
  let v23 : BitVec 32 := v22
  let v197 : Index := Scalar.indexCast v23
  let c0_91 : Index := 0#32
  ![v197.toNat, 0]
def k0_off8 (k0_t2 : Fin k0_t2_loop.trips) (k0_t3 : Fin (k0_t3_loop k0_t2).trips) : Fin 3 → Nat :=
  let c0_99 : Index := 0#32
  let c0_100 : Index := 0#32
  let c0_i32_32 : BitVec 32 := 0#32
  let c1_i32_34 : BitVec 32 := 1#32
  let arg29 : BitVec 32 := Scf.iv c0_i32_32 c1_i32_34 k0_t3
  let c256_i32_88 : BitVec 32 := 256#32
  let v191 : BitVec 32 := Scalar.muli arg29 c256_i32_88
  let v192 : BitVec 32 := v191
  let v209 : Index := Scalar.indexCast v192
  ![0, 0, v209.toNat]
def k0_off9 (k0_t2 : Fin k0_t2_loop.trips) (k0_t3 : Fin (k0_t3_loop k0_t2).trips) : Fin 3 → Nat :=
  let c1_101 : Index := 1#32
  let c0_102 : Index := 0#32
  let c0_i32_32 : BitVec 32 := 0#32
  let c1_i32_34 : BitVec 32 := 1#32
  let arg29 : BitVec 32 := Scf.iv c0_i32_32 c1_i32_34 k0_t3
  let c256_i32_88 : BitVec 32 := 256#32
  let v191 : BitVec 32 := Scalar.muli arg29 c256_i32_88
  let v192 : BitVec 32 := v191
  let v221 : Index := Scalar.indexCast v192
  ![1, 0, v221.toNat]
def k0_off10 (k0_t2 : Fin k0_t2_loop.trips) (k0_t3 : Fin (k0_t3_loop k0_t2).trips) : Fin 2 → Nat :=
  let c0_103 : Index := 0#32
  let c0_i32_32 : BitVec 32 := 0#32
  let c1_i32_34 : BitVec 32 := 1#32
  let arg29 : BitVec 32 := Scf.iv c0_i32_32 c1_i32_34 k0_t3
  let c256_i32_88 : BitVec 32 := 256#32
  let v191 : BitVec 32 := Scalar.muli arg29 c256_i32_88
  let v192 : BitVec 32 := v191
  let v233 : Index := Scalar.indexCast v192
  ![0, v233.toNat]
def k0_off11 (k0_t2 : Fin k0_t2_loop.trips) : Fin 2 → Nat :=
  let c0_107 : Index := 0#32
  let c0_i32_10 : BitVec 32 := 0#32
  let c1_i32_12 : BitVec 32 := 1#32
  let arg28 : BitVec 32 := Scf.iv c0_i32_10 c1_i32_12 k0_t2
  let c256_i32 : BitVec 32 := 256#32
  let v22 : BitVec 32 := Scalar.muli arg28 c256_i32
  let v23 : BitVec 32 := v22
  let v242 : Index := Scalar.indexCast v23
  ![0, v242.toNat]
@[reducible] def k0_t4_loop (k0_t2 : Fin k0_t2_loop.trips) : Scf.Loop 32 :=
  let c0_i32_32 : BitVec 32 := 0#32
  let c0_i32_10 : BitVec 32 := 0#32
  let c1_i32_12 : BitVec 32 := 1#32
  let arg28 : BitVec 32 := Scf.iv c0_i32_10 c1_i32_12 k0_t2
  let v53 : BitVec 32 := Scalar.subi arg28 c0_i32_32
  let c1_i32_33 : BitVec 32 := 1#32
  let v55 : BitVec 32 := Scalar.divsi v53 c1_i32_33
  let v56 : BitVec 32 := Scalar.muli v55 c1_i32_33
  let v57 : BitVec 32 := Scalar.addi c0_i32_32 v56
  let v54 : BitVec 32 := Scalar.addi c0_i32_32 v53
  let c1_i32_35 : BitVec 32 := 1#32
  ⟨v57, v54, c1_i32_35⟩
def k0_mult5 (k0_t2 : Fin k0_t2_loop.trips) (k0_t4 : Fin (k0_t4_loop k0_t2).trips) : BitVec 32 :=
  let c0_i32_32 : BitVec 32 := 0#32
  let c0_i32_10 : BitVec 32 := 0#32
  let c1_i32_12 : BitVec 32 := 1#32
  let arg28 : BitVec 32 := Scf.iv c0_i32_10 c1_i32_12 k0_t2
  let v53 : BitVec 32 := Scalar.subi arg28 c0_i32_32
  let c1_i32_33 : BitVec 32 := 1#32
  let v55 : BitVec 32 := Scalar.divsi v53 c1_i32_33
  let v56 : BitVec 32 := Scalar.muli v55 c1_i32_33
  let v57 : BitVec 32 := Scalar.addi c0_i32_32 v56
  let c1_i32_35 : BitVec 32 := 1#32
  let arg29 : BitVec 32 := Scf.iv v57 c1_i32_35 k0_t4
  let c256_i32_88 : BitVec 32 := 256#32
  let v191 : BitVec 32 := Scalar.muli arg29 c256_i32_88
  v191
def k0_off12 (k0_t2 : Fin k0_t2_loop.trips) (k0_t4 : Fin (k0_t4_loop k0_t2).trips) : Fin 2 → Nat :=
  let c0_i32_32 : BitVec 32 := 0#32
  let c0_i32_10 : BitVec 32 := 0#32
  let c1_i32_12 : BitVec 32 := 1#32
  let arg28 : BitVec 32 := Scf.iv c0_i32_10 c1_i32_12 k0_t2
  let v53 : BitVec 32 := Scalar.subi arg28 c0_i32_32
  let c1_i32_33 : BitVec 32 := 1#32
  let v55 : BitVec 32 := Scalar.divsi v53 c1_i32_33
  let v56 : BitVec 32 := Scalar.muli v55 c1_i32_33
  let v57 : BitVec 32 := Scalar.addi c0_i32_32 v56
  let c1_i32_35 : BitVec 32 := 1#32
  let arg29 : BitVec 32 := Scf.iv v57 c1_i32_35 k0_t4
  let c256_i32_88 : BitVec 32 := 256#32
  let v191 : BitVec 32 := Scalar.muli arg29 c256_i32_88
  let v192 : BitVec 32 := v191
  let v193 : Index := Scalar.indexCast v192
  let c0_89 : Index := 0#32
  ![v193.toNat, 0]
def k0_off13 (k0_t2 : Fin k0_t2_loop.trips) : Fin 2 → Nat :=
  let c0_i32_10 : BitVec 32 := 0#32
  let c1_i32_12 : BitVec 32 := 1#32
  let arg28 : BitVec 32 := Scf.iv c0_i32_10 c1_i32_12 k0_t2
  let c256_i32 : BitVec 32 := 256#32
  let v22 : BitVec 32 := Scalar.muli arg28 c256_i32
  let v23 : BitVec 32 := v22
  let v197 : Index := Scalar.indexCast v23
  let c0_91 : Index := 0#32
  ![v197.toNat, 0]
def k0_off14 (k0_t2 : Fin k0_t2_loop.trips) (k0_t4 : Fin (k0_t4_loop k0_t2).trips) : Fin 3 → Nat :=
  let c0_99 : Index := 0#32
  let c0_100 : Index := 0#32
  let c0_i32_32 : BitVec 32 := 0#32
  let c0_i32_10 : BitVec 32 := 0#32
  let c1_i32_12 : BitVec 32 := 1#32
  let arg28 : BitVec 32 := Scf.iv c0_i32_10 c1_i32_12 k0_t2
  let v53 : BitVec 32 := Scalar.subi arg28 c0_i32_32
  let c1_i32_33 : BitVec 32 := 1#32
  let v55 : BitVec 32 := Scalar.divsi v53 c1_i32_33
  let v56 : BitVec 32 := Scalar.muli v55 c1_i32_33
  let v57 : BitVec 32 := Scalar.addi c0_i32_32 v56
  let c1_i32_35 : BitVec 32 := 1#32
  let arg29 : BitVec 32 := Scf.iv v57 c1_i32_35 k0_t4
  let c256_i32_88 : BitVec 32 := 256#32
  let v191 : BitVec 32 := Scalar.muli arg29 c256_i32_88
  let v192 : BitVec 32 := v191
  let v209 : Index := Scalar.indexCast v192
  ![0, 0, v209.toNat]
def k0_off15 (k0_t2 : Fin k0_t2_loop.trips) (k0_t4 : Fin (k0_t4_loop k0_t2).trips) : Fin 3 → Nat :=
  let c1_101 : Index := 1#32
  let c0_102 : Index := 0#32
  let c0_i32_32 : BitVec 32 := 0#32
  let c0_i32_10 : BitVec 32 := 0#32
  let c1_i32_12 : BitVec 32 := 1#32
  let arg28 : BitVec 32 := Scf.iv c0_i32_10 c1_i32_12 k0_t2
  let v53 : BitVec 32 := Scalar.subi arg28 c0_i32_32
  let c1_i32_33 : BitVec 32 := 1#32
  let v55 : BitVec 32 := Scalar.divsi v53 c1_i32_33
  let v56 : BitVec 32 := Scalar.muli v55 c1_i32_33
  let v57 : BitVec 32 := Scalar.addi c0_i32_32 v56
  let c1_i32_35 : BitVec 32 := 1#32
  let arg29 : BitVec 32 := Scf.iv v57 c1_i32_35 k0_t4
  let c256_i32_88 : BitVec 32 := 256#32
  let v191 : BitVec 32 := Scalar.muli arg29 c256_i32_88
  let v192 : BitVec 32 := v191
  let v221 : Index := Scalar.indexCast v192
  ![1, 0, v221.toNat]
def k0_off16 (k0_t2 : Fin k0_t2_loop.trips) (k0_t4 : Fin (k0_t4_loop k0_t2).trips) : Fin 2 → Nat :=
  let c0_103 : Index := 0#32
  let c0_i32_32 : BitVec 32 := 0#32
  let c0_i32_10 : BitVec 32 := 0#32
  let c1_i32_12 : BitVec 32 := 1#32
  let arg28 : BitVec 32 := Scf.iv c0_i32_10 c1_i32_12 k0_t2
  let v53 : BitVec 32 := Scalar.subi arg28 c0_i32_32
  let c1_i32_33 : BitVec 32 := 1#32
  let v55 : BitVec 32 := Scalar.divsi v53 c1_i32_33
  let v56 : BitVec 32 := Scalar.muli v55 c1_i32_33
  let v57 : BitVec 32 := Scalar.addi c0_i32_32 v56
  let c1_i32_35 : BitVec 32 := 1#32
  let arg29 : BitVec 32 := Scf.iv v57 c1_i32_35 k0_t4
  let c256_i32_88 : BitVec 32 := 256#32
  let v191 : BitVec 32 := Scalar.muli arg29 c256_i32_88
  let v192 : BitVec 32 := v191
  let v233 : Index := Scalar.indexCast v192
  ![0, v233.toNat]
def k0_off17 (k0_t2 : Fin k0_t2_loop.trips) : Fin 2 → Nat :=
  let c0_107 : Index := 0#32
  let c0_i32_10 : BitVec 32 := 0#32
  let c1_i32_12 : BitVec 32 := 1#32
  let arg28 : BitVec 32 := Scf.iv c0_i32_10 c1_i32_12 k0_t2
  let c256_i32 : BitVec 32 := 256#32
  let v22 : BitVec 32 := Scalar.muli arg28 c256_i32
  let v23 : BitVec 32 := v22
  let v242 : Index := Scalar.indexCast v23
  ![0, v242.toNat]
def k0_mult6 (k0_t2 : Fin k0_t2_loop.trips) : BitVec 32 :=
  let c0_i32_10 : BitVec 32 := 0#32
  let c1_i32_12 : BitVec 32 := 1#32
  let arg28 : BitVec 32 := Scf.iv c0_i32_10 c1_i32_12 k0_t2
  let c256_i32_36 : BitVec 32 := 256#32
  let v60 : BitVec 32 := Scalar.muli arg28 c256_i32_36
  v60
def k0_off18 (k0_t2 : Fin k0_t2_loop.trips) : Fin 3 → Nat :=
  let c0_47 : Index := 0#32
  let c0_48 : Index := 0#32
  let c0_i32_10 : BitVec 32 := 0#32
  let c1_i32_12 : BitVec 32 := 1#32
  let arg28 : BitVec 32 := Scf.iv c0_i32_10 c1_i32_12 k0_t2
  let c256_i32_36 : BitVec 32 := 256#32
  let v60 : BitVec 32 := Scalar.muli arg28 c256_i32_36
  let v61 : BitVec 32 := v60
  let v78 : Index := Scalar.indexCast v61
  ![0, 0, v78.toNat]
def k0_off19 (k0_t2 : Fin k0_t2_loop.trips) : Fin 3 → Nat :=
  let c1_51 : Index := 1#32
  let c0_52 : Index := 0#32
  let c0_i32_10 : BitVec 32 := 0#32
  let c1_i32_12 : BitVec 32 := 1#32
  let arg28 : BitVec 32 := Scf.iv c0_i32_10 c1_i32_12 k0_t2
  let c256_i32_36 : BitVec 32 := 256#32
  let v60 : BitVec 32 := Scalar.muli arg28 c256_i32_36
  let v61 : BitVec 32 := v60
  let v94 : Index := Scalar.indexCast v61
  ![1, 0, v94.toNat]
def k0_off20 (k0_t2 : Fin k0_t2_loop.trips) : Fin 2 → Nat :=
  let c0_55 : Index := 0#32
  let c0_i32_10 : BitVec 32 := 0#32
  let c1_i32_12 : BitVec 32 := 1#32
  let arg28 : BitVec 32 := Scf.iv c0_i32_10 c1_i32_12 k0_t2
  let c256_i32_36 : BitVec 32 := 256#32
  let v60 : BitVec 32 := Scalar.muli arg28 c256_i32_36
  let v61 : BitVec 32 := v60
  let v110 : Index := Scalar.indexCast v61
  ![0, v110.toNat]
@[reducible] def k0_t5_loop : Scf.Loop 32 :=
  let c0_i32_14 : BitVec 32 := 0#32
  let c8_i32_15 : BitVec 32 := 8#32
  let v21 : BitVec 32 := Scalar.addi c0_i32_14 c8_i32_15
  let c1_i32_16 : BitVec 32 := 1#32
  ⟨c0_i32_14, v21, c1_i32_16⟩
def k0_mult7 (k0_t5 : Fin k0_t5_loop.trips) : BitVec 32 :=
  let c0_i32_14 : BitVec 32 := 0#32
  let c1_i32_16 : BitVec 32 := 1#32
  let arg28 : BitVec 32 := Scf.iv c0_i32_14 c1_i32_16 k0_t5
  let c256_i32 : BitVec 32 := 256#32
  let v22 : BitVec 32 := Scalar.muli arg28 c256_i32
  v22
def k0_off21 (k0_t5 : Fin k0_t5_loop.trips) : Fin 2 → Nat :=
  let c0_18 : Index := 0#32
  let c0_i32_14 : BitVec 32 := 0#32
  let c1_i32_16 : BitVec 32 := 1#32
  let arg28 : BitVec 32 := Scf.iv c0_i32_14 c1_i32_16 k0_t5
  let c256_i32 : BitVec 32 := 256#32
  let v22 : BitVec 32 := Scalar.muli arg28 c256_i32
  let v23 : BitVec 32 := v22
  let v24 : Index := Scalar.indexCast v23
  ![0, v24.toNat]
def k0_off22 (k0_t5 : Fin k0_t5_loop.trips) : Fin 2 → Nat :=
  let c0_i32_14 : BitVec 32 := 0#32
  let c1_i32_16 : BitVec 32 := 1#32
  let arg28 : BitVec 32 := Scf.iv c0_i32_14 c1_i32_16 k0_t5
  let c256_i32 : BitVec 32 := 256#32
  let v22 : BitVec 32 := Scalar.muli arg28 c256_i32
  let v23 : BitVec 32 := v22
  let v28 : Index := Scalar.indexCast v23
  let c0_19 : Index := 0#32
  ![v28.toNat, 0]
def cc0_transform_0 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_1 (i : grid0.Coords) : Fin 2 → Nat :=
  let arg0 : BitVec 32 := BitVec.ofNat 32 (i 0).val
  let c8_i32 : BitVec 32 := 8#32
  let v0 : BitVec 32 := Scalar.addi c8_i32 arg0
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let c16_i32 : BitVec 32 := 16#32
  let v0 : BitVec 32 := Scalar.addi c16_i32 arg0
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_4 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_9 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_10 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2048x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2048x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2048x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S2x2048x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S2x2048x1 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S2x1x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S2048x128 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S2048x128 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S2048x128 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S2x1x2048 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S2x2048x1 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== Kernel20Ideal.lean ====
variable {F : FTy → Type} [FloatOps F] [Named F]
def κ : String → Option EReal := fun
  | "mask" => some ⊥
  | _ => none
-- ==== Reference20Ideal.lean ====
abbrev S2048x3200 : Shape := ⟨2, ![2048, 3200]⟩
abbrev S16x2048 : Shape := ⟨2, ![16, 2048]⟩
abbrev S2048x1024 : Shape := ⟨2, ![2048, 1024]⟩
abbrev S2048x3072 : Shape := ⟨2, ![2048, 3072]⟩
abbrev S2048x16x64 : Shape := ⟨3, ![2048, 16, 64]⟩
abbrev S_ : Shape := ⟨0, ![]⟩
abbrev S16x2048x2048 : Shape := ⟨3, ![16, 2048, 2048]⟩
abbrev S16x2048x1 : Shape := ⟨3, ![16, 2048, 1]⟩
abbrev S16x1x2048 : Shape := ⟨3, ![16, 1, 2048]⟩
abbrev S2048 : Shape := ⟨1, ![2048]⟩
abbrev S1x2048 : Shape := ⟨2, ![1, 2048]⟩
abbrev S2048x1 : Shape := ⟨2, ![2048, 1]⟩
abbrev S2048x2048 : Shape := ⟨2, ![2048, 2048]⟩
abbrev S16x64x2048 : Shape := ⟨3, ![16, 64, 2048]⟩
abbrev S16x2048x64 : Shape := ⟨3, ![16, 2048, 64]⟩

abbrev nBuf : Space → Nat
  | .hbm => 121
  | .vmem => 0
  | .smem => 0
  | _ => 0

abbrev bufTy : (tb : Table) → Fin (tcTables nBuf tb) → BufTy
  | .hbm, ⟨0, _⟩ => ⟨S2048x3200, .f32⟩
  | .hbm, ⟨1, _⟩ => ⟨S16x2048, .f32⟩
  | .hbm, ⟨2, _⟩ => ⟨S2048x1024, .f32⟩
  | .hbm, ⟨3, _⟩ => ⟨S2048x3072, .f32⟩
  | .hbm, ⟨4, _⟩ => ⟨S2048x1024, .f32⟩
  | .hbm, ⟨5, _⟩ => ⟨S2048x1024, .f32⟩
  | .hbm, ⟨6, _⟩ => ⟨S2048x1024, .f32⟩
  | .hbm, ⟨7, _⟩ => ⟨S2048x16x64, .f32⟩
  | .hbm, ⟨8, _⟩ => ⟨S2048x16x64, .f32⟩
  | .hbm, ⟨9, _⟩ => ⟨S2048x16x64, .f32⟩
  | .hbm, ⟨10, _⟩ => ⟨S_, .f32⟩
  | .hbm, ⟨11, _⟩ => ⟨S2048x16x64, .f32⟩
  | .hbm, ⟨12, _⟩ => ⟨S2048x16x64, .f32⟩
  | .hbm, ⟨13, _⟩ => ⟨S16x2048x2048, .f32⟩
  | .hbm, ⟨14, _⟩ => ⟨S16x2048x1, .f32⟩
  | .hbm, ⟨15, _⟩ => ⟨S16x2048x2048, .f32⟩
  | .hbm, ⟨16, _⟩ => ⟨S16x2048x2048, .f32⟩
  | .hbm, ⟨17, _⟩ => ⟨S16x1x2048, .f32⟩
  | .hbm, ⟨18, _⟩ => ⟨S16x2048x2048, .f32⟩
  | .hbm, ⟨19, _⟩ => ⟨S16x2048x2048, .f32⟩
  | .hbm, ⟨20, _⟩ => ⟨S2048, .i32⟩
  | .hbm, ⟨21, _⟩ => ⟨S1x2048, .i32⟩
  | .hbm, ⟨22, _⟩ => ⟨S2048x1, .i32⟩
  | .hbm, ⟨23, _⟩ => ⟨S2048x2048, .i32⟩
  | .hbm, ⟨24, _⟩ => ⟨S2048x2048, .i32⟩
  | .hbm, ⟨25, _⟩ => ⟨S2048x2048, .i1⟩
  | .hbm, ⟨26, _⟩ => ⟨S_, .f32⟩
  | .hbm, ⟨27, _⟩ => ⟨S_, .f32⟩
  | .hbm, ⟨28, _⟩ => ⟨S16x2048x2048, .i1⟩
  | .hbm, ⟨29, _⟩ => ⟨S16x2048x2048, .f32⟩
  | .hbm, ⟨30, _⟩ => ⟨S16x2048x2048, .f32⟩
  | .hbm, ⟨31, _⟩ => ⟨S_, .f32⟩
  | .hbm, ⟨32, _⟩ => ⟨S16x2048x2048, .f32⟩
  | .hbm, ⟨33, _⟩ => ⟨S_, .f32⟩
  | .hbm, ⟨34, _⟩ => ⟨S16x2048, .f32⟩
  | .hbm, ⟨35, _⟩ => ⟨S16x2048x1, .f32⟩
  | .hbm, ⟨36, _⟩ => ⟨S16x2048x2048, .f32⟩
  | .hbm, ⟨37, _⟩ => ⟨S16x2048x2048, .i1⟩
  | .hbm, ⟨38, _⟩ => ⟨S16x2048x2048, .f32⟩
  | .hbm, ⟨39, _⟩ => ⟨S_, .f32⟩
  | .hbm, ⟨40, _⟩ => ⟨S16x2048, .f32⟩
  | .hbm, ⟨41, _⟩ => ⟨S_, .f32⟩
  | .hbm, ⟨42, _⟩ => ⟨S16x2048, .f32⟩
  | .hbm, ⟨43, _⟩ => ⟨S16x2048, .f32⟩
  | .hbm, ⟨44, _⟩ => ⟨S_, .f32⟩
  | .hbm, ⟨45, _⟩ => ⟨S16x2048, .f32⟩
  | .hbm, ⟨46, _⟩ => ⟨S16x2048, .i1⟩
  | .hbm, ⟨47, _⟩ => ⟨S_, .f32⟩
  | .hbm, ⟨48, _⟩ => ⟨S16x2048, .f32⟩
  | .hbm, ⟨49, _⟩ => ⟨S16x2048, .i1⟩
  | .hbm, ⟨50, _⟩ => ⟨S_, .f32⟩
  | .hbm, ⟨51, _⟩ => ⟨S16x2048, .f32⟩
  | .hbm, ⟨52, _⟩ => ⟨S_, .f32⟩
  | .hbm, ⟨53, _⟩ => ⟨S16x2048, .f32⟩
  | .hbm, ⟨54, _⟩ => ⟨S_, .f32⟩
  | .hbm, ⟨55, _⟩ => ⟨S16x2048, .f32⟩
  | .hbm, ⟨56, _⟩ => ⟨S16x2048, .f32⟩
  | .hbm, ⟨57, _⟩ => ⟨S16x2048, .f32⟩
  | .hbm, ⟨58, _⟩ => ⟨S16x2048x1, .f32⟩
  | .hbm, ⟨59, _⟩ => ⟨S16x2048x2048, .f32⟩
  | .hbm, ⟨60, _⟩ => ⟨S16x2048x2048, .f32⟩
  | .hbm, ⟨61, _⟩ => ⟨S16x2048x2048, .f32⟩
  | .hbm, ⟨62, _⟩ => ⟨S_, .f32⟩
  | .hbm, ⟨63, _⟩ => ⟨S16x2048, .f32⟩
  | .hbm, ⟨64, _⟩ => ⟨S16x2048x1, .f32⟩
  | .hbm, ⟨65, _⟩ => ⟨S16x2048x2048, .f32⟩
  | .hbm, ⟨66, _⟩ => ⟨S16x2048x2048, .f32⟩
  | .hbm, ⟨67, _⟩ => ⟨S16x2048x1, .f32⟩
  | .hbm, ⟨68, _⟩ => ⟨S_, .f32⟩
  | .hbm, ⟨69, _⟩ => ⟨S16x2048x1, .f32⟩
  | .hbm, ⟨70, _⟩ => ⟨S16x2048x1, .f32⟩
  | .hbm, ⟨71, _⟩ => ⟨S16x64x2048, .f32⟩
  | .hbm, ⟨72, _⟩ => ⟨S2048x16x64, .f32⟩
  | .hbm, ⟨73, _⟩ => ⟨S2048x16x64, .f32⟩
  | .hbm, ⟨74, _⟩ => ⟨S16x64x2048, .f32⟩
  | .hbm, ⟨75, _⟩ => ⟨S16x2048x2048, .f32⟩
  | .hbm, ⟨76, _⟩ => ⟨S16x64x2048, .f32⟩
  | .hbm, ⟨77, _⟩ => ⟨S2048x16x64, .f32⟩
  | .hbm, ⟨78, _⟩ => ⟨S16x2048x2048, .f32⟩
  | .hbm, ⟨79, _⟩ => ⟨S16x2048x2048, .f32⟩
  | .hbm, ⟨80, _⟩ => ⟨S16x2048x2048, .f32⟩
  | .hbm, ⟨81, _⟩ => ⟨S_, .f32⟩
  | .hbm, ⟨82, _⟩ => ⟨S16x2048, .f32⟩
  | .hbm, ⟨83, _⟩ => ⟨S16x2048x1, .f32⟩
  | .hbm, ⟨84, _⟩ => ⟨S16x2048x1, .f32⟩
  | .hbm, ⟨85, _⟩ => ⟨S16x2048x2048, .f32⟩
  | .hbm, ⟨86, _⟩ => ⟨S16x2048x2048, .f32⟩
  | .hbm, ⟨87, _⟩ => ⟨S_, .f32⟩
  | .hbm, ⟨88, _⟩ => ⟨S16x2048, .f32⟩
  | .hbm, ⟨89, _⟩ => ⟨S16x2048x2048, .f32⟩
  | .hbm, ⟨90, _⟩ => ⟨S16x2048x2048, .f32⟩
  | .hbm, ⟨91, _⟩ => ⟨S16x2048x2048, .f32⟩
  | .hbm, ⟨92, _⟩ => ⟨S_, .f32⟩
  | .hbm, ⟨93, _⟩ => ⟨S16x2048x2048, .f32⟩
  | .hbm, ⟨94, _⟩ => ⟨S16x2048x2048, .f32⟩
  | .hbm, ⟨95, _⟩ => ⟨S16x2048x2048, .f32⟩
  | .hbm, ⟨96, _⟩ => ⟨S_, .f32⟩
  | .hbm, ⟨97, _⟩ => ⟨S16x2048, .f32⟩
  | .hbm, ⟨98, _⟩ => ⟨S16x1x2048, .f32⟩
  | .hbm, ⟨99, _⟩ => ⟨S_, .f32⟩
  | .hbm, ⟨100, _⟩ => ⟨S16x2048, .f32⟩
  | .hbm, ⟨101, _⟩ => ⟨S_, .f32⟩
  | .hbm, ⟨102, _⟩ => ⟨S16x2048, .f32⟩
  | .hbm, ⟨103, _⟩ => ⟨S16x2048x1, .f32⟩
  | .hbm, ⟨104, _⟩ => ⟨S_, .f32⟩
  | .hbm, ⟨105, _⟩ => ⟨S16x2048, .f32⟩
  | .hbm, ⟨106, _⟩ => ⟨S16x2048x64, .f32⟩
  | .hbm, ⟨107, _⟩ => ⟨S2048x16x64, .f32⟩
  | .hbm, ⟨108, _⟩ => ⟨S16x2048x64, .f32⟩
  | .hbm, ⟨109, _⟩ => ⟨S2048x16x64, .f32⟩
  | .hbm, ⟨110, _⟩ => ⟨S_, .f32⟩
  | .hbm, ⟨111, _⟩ => ⟨S2048x16x64, .f32⟩
  | .hbm, ⟨112, _⟩ => ⟨S2048x16x64, .f32⟩
  | .hbm, ⟨113, _⟩ => ⟨S2048x1024, .f32⟩
  | .hbm, ⟨114, _⟩ => ⟨S2048x1024, .bf16⟩
  | .hbm, ⟨115, _⟩ => ⟨S2048x1024, .f32⟩
  | .hbm, ⟨116, _⟩ => ⟨S2048x1024, .bf16⟩
  | .hbm, ⟨117, _⟩ => ⟨S2048x1024, .f32⟩
  | .hbm, ⟨118, _⟩ => ⟨S2048x1024, .bf16⟩
  | .hbm, ⟨119, _⟩ => ⟨S16x1x2048, .f32⟩
  | .hbm, ⟨120, _⟩ => ⟨S16x2048x1, .f32⟩
  | _, _ => ⟨S2048x3200, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_cst_0 : Ref sig .tc := ⟨.hbm, 26, rfl⟩
abbrev main_call0_v0 : Ref sig .tc := ⟨.hbm, 27, rfl⟩
abbrev main_v22_1 : Ref sig .tc := ⟨.hbm, 28, rfl⟩
abbrev main_call0_v2 : Ref sig .tc := ⟨.hbm, 29, rfl⟩
abbrev main_v22_0 : Ref sig .tc := ⟨.hbm, 30, rfl⟩
abbrev main_call0_cst : Ref sig .tc := ⟨.hbm, 31, rfl⟩
abbrev main_v22_2 : Ref sig .tc := ⟨.hbm, 32, rfl⟩
abbrev main_cst_1 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_cst_2 : Ref sig .tc := ⟨.hbm, 39, rfl⟩
abbrev main_v28 : Ref sig .tc := ⟨.hbm, 40, rfl⟩
abbrev main_cst_3 : Ref sig .tc := ⟨.hbm, 41, rfl⟩
abbrev main_v29 : Ref sig .tc := ⟨.hbm, 42, rfl⟩
abbrev main_v30 : Ref sig .tc := ⟨.hbm, 43, rfl⟩
abbrev main_cst_4 : Ref sig .tc := ⟨.hbm, 44, rfl⟩
abbrev main_v31 : Ref sig .tc := ⟨.hbm, 45, rfl⟩
abbrev main_v32 : Ref sig .tc := ⟨.hbm, 46, rfl⟩
abbrev main_cst_5 : Ref sig .tc := ⟨.hbm, 47, rfl⟩
abbrev main_v33 : Ref sig .tc := ⟨.hbm, 48, rfl⟩
abbrev main_v34 : Ref sig .tc := ⟨.hbm, 49, rfl⟩
abbrev main_cst_6 : Ref sig .tc := ⟨.hbm, 50, rfl⟩
abbrev main_v35 : Ref sig .tc := ⟨.hbm, 51, rfl⟩
abbrev main_cst_7 : Ref sig .tc := ⟨.hbm, 52, rfl⟩
abbrev main_v36 : Ref sig .tc := ⟨.hbm, 53, rfl⟩
abbrev main_cst_8 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_cst_9 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_cst_10 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_cst_11 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_cst_12 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_call1_cst : Ref sig .tc := ⟨.hbm, 92, rfl⟩
abbrev main_call1_v0 : Ref sig .tc := ⟨.hbm, 93, rfl⟩
abbrev main_v70 : Ref sig .tc := ⟨.hbm, 94, rfl⟩
abbrev main_v71 : Ref sig .tc := ⟨.hbm, 95, rfl⟩
abbrev main_cst_13 : Ref sig .tc := ⟨.hbm, 96, rfl⟩
abbrev main_v72 : Ref sig .tc := ⟨.hbm, 97, rfl⟩
abbrev main_v73 : Ref sig .tc := ⟨.hbm, 98, rfl⟩
abbrev main_cst_14 : Ref sig .tc := ⟨.hbm, 99, rfl⟩
abbrev main_v74 : Ref sig .tc := ⟨.hbm, 100, rfl⟩
abbrev main_cst_15 : Ref sig .tc := ⟨.hbm, 101, rfl⟩
abbrev main_v75 : Ref sig .tc := ⟨.hbm, 102, rfl⟩
abbrev main_v76 : Ref sig .tc := ⟨.hbm, 103, rfl⟩
abbrev main_cst_16 : Ref sig .tc := ⟨.hbm, 104, rfl⟩
abbrev main_v77 : Ref sig .tc := ⟨.hbm, 105, rfl⟩
abbrev main_v78 : Ref sig .tc := ⟨.hbm, 106, rfl⟩
abbrev main_v79 : Ref sig .tc := ⟨.hbm, 107, rfl⟩
abbrev main_v80 : Ref sig .tc := ⟨.hbm, 108, rfl⟩
abbrev main_v81 : Ref sig .tc := ⟨.hbm, 109, rfl⟩
abbrev main_cst_17 : Ref sig .tc := ⟨.hbm, 110, rfl⟩
abbrev main_v82 : Ref sig .tc := ⟨.hbm, 111, rfl⟩
abbrev main_v83 : Ref sig .tc := ⟨.hbm, 112, rfl⟩
abbrev main_v84 : Ref sig .tc := ⟨.hbm, 113, rfl⟩
abbrev main_v85 : Ref sig .tc := ⟨.hbm, 114, rfl⟩
abbrev main_v86 : Ref sig .tc := ⟨.hbm, 115, rfl⟩
abbrev main_v87 : Ref sig .tc := ⟨.hbm, 116, rfl⟩
abbrev main_v88 : Ref sig .tc := ⟨.hbm, 117, rfl⟩
abbrev main_v89 : Ref sig .tc := ⟨.hbm, 118, rfl⟩
abbrev main_v90 : Ref sig .tc := ⟨.hbm, 119, rfl⟩
abbrev main_v91 : Ref sig .tc := ⟨.hbm, 120, rfl⟩

abbrev nD : Nat := 1
abbrev τ : Topo := Topo.v7x

variable {F : FTy → Type} [FloatOps F]
-- ==== Proof.Reals.lean ====
/- Facts about the extended reals that both programs use: what a precondition's comparison with infinity says of one
   element, that a finite sum of products of reals is real, and that the logistic function of a real is real. -/
module

public import Idealize.ShloMosaic.Lib.ReduceAll
public import Idealize.ShloMosaic.Lib.IdealHost
public import Idealize.ShloMosaic.PureOps.Ideal.Laws

@[expose] public section

noncomputable section

namespace Cert.Reals

open Idealize.ShloMosaic

/-- The pattern `0x7F800000` is infinity. -/
theorem inf_f32 : Ideal.ofBits .f32 0x7F800000#32 = ⊤ := by simp [Ideal.ofBits, Ideal.ieee]

/-- An extended real whose absolute value is below infinity is a real. -/
theorem real_of_abs_lt (x : EReal) (h : max x (-x) < ⊤) : ∃ r : ℝ, x = (r : EReal) := by
  induction x with
  | bot => simp at h
  | top => simp at h
  | coe r => exact ⟨r, rfl⟩

/-- What a bit of the precondition says: the comparison `|x| < ∞` came out 1, so `x` is a real. -/
theorem real_of_cmp (x : EReal) (h : Ideal.cmp .olt (max x (-x)) (Ideal.ofBits .f32 0x7F800000#32) = 1#1) :
    ∃ r : ℝ, x = (r : EReal) := by
  refine real_of_abs_lt x ?_
  rw [inf_f32] at h
  by_contra hn
  simp [Ideal.cmp, hn] at h

/-- A sum of products of reals, taken in the extended reals, is the real sum. -/
theorem sum_mul_coe {ι : Type} [Fintype ι] (f g : ι → ℝ) :
    ∑ k, ((f k : EReal) * (g k : EReal)) = ((∑ k, f k * g k : ℝ) : EReal) := by
  have h : ∀ s : Finset ι, ∑ k ∈ s, ((f k : EReal) * (g k : EReal)) = ((∑ k ∈ s, f k * g k : ℝ) : EReal) := fun s => by
    classical
    induction s using Finset.induction_on with
    | empty => simp
    | insert a s ha ih => rw [Finset.sum_insert ha, Finset.sum_insert ha, ih, EReal.coe_add, EReal.coe_mul]
  exact h Finset.univ

/-- The logistic function of a real is a real. -/
theorem logistic_coe (r : ℝ) : Ideal.div 1 (1 + Ideal.exp (-(r : EReal))) = ((1 + Real.exp (-r))⁻¹ : ℝ) := by
  have h : (1 : EReal) + Ideal.exp (-(r : EReal)) = ((1 + Real.exp (-r) : ℝ) : EReal) := by
    rw [← EReal.coe_neg]
    show (1 : EReal) + (Real.exp (-r) : EReal) = _
    rw [EReal.coe_add, EReal.coe_one]
  have hp : (1 + Real.exp (-r) : ℝ) ≠ 0 := by positivity
  rw [h, Ideal.div, if_neg (by exact_mod_cast hp), one_mul, EReal.coe_inv]

/-- The product rule for `g·s(g)·u` on reals: with `s' = s·(1 − s)` the two spellings of the derivative along `g` agree. -/
theorem gate_rule (d u g s : ℝ) : (d : EReal) * (u : EReal) * (s : EReal) + (g : EReal) * ((d : EReal) * (u : EReal)) * ((s : EReal) * (1 - (s : EReal)))
    = (d : EReal) * (u : EReal) * ((s : EReal) * (1 + (g : EReal) * (1 - (s : EReal)))) := by
  rw [← EReal.coe_one]
  norm_cast
  ring

/-- The product `g·s·d` in two orders. -/
theorem up_rule (d g s : EReal) : g * s * d = d * g * s := by rw [mul_comm (g * s) d, mul_assoc]

end Cert.Reals

end
-- ==== Proof.GateGrad.lean ====
/- The backward of the gated product. -/
module

public import proofs.«01_k».proof.Defs
public import proofs.«01_k».proof.Proof.Gen.KernelIdeal.Value
public import proofs.«01_k».proof.Proof.Gen.ReferenceIdeal.Read
public import proofs.«01_k».proof.Proof.Gen.Pre_finite
public import proofs.«01_k».proof.Proof.Reals
public import Idealize.ShloMosaic.Lib.Pipeline.ValueKit
public import Idealize.ShloMosaic.Lib.Pointwise
public import Idealize.ShloMosaic.Lib.Quiescent

@[expose] public section

set_option maxRecDepth 16384

noncomputable section

open Idealize.ShloMosaic Idealize.ShloMosaic.TcCoe Idealize.SL.Sem
open Idealize.ShloMosaic.Pipeline (Dat)

namespace Cert.KernelIdeal.GateGrad

open Cert.KernelIdeal Cert.KernelIdeal.Gen

variable (m : (ℓ : Loc nD τ sig) → Buf (Elt Ideal) ℓ)

/-- The gradient of the gated activation: row `i` of the incoming gradient times row `j` of the output matrix. -/
def da (x0 : Vec Ideal S2048x1024 .bf16) (x1 : Vec Ideal S2816x1024 .bf16) (i : Fin 2048) (j : Fin 2816) : EReal :=
  ∑ k : Fin 1024, x0 (ix2 i k) * x1 (ix2 j k)

/-- Plane 0: `da · u` times the derivative of `silu` at `g` as the kernel writes it. -/
def dgate (d g u : EReal) : EReal :=
  d * u * (Ideal.logistic g * (Ideal.ofBits .f32 0x3F800000#32 + g * (Ideal.ofBits .f32 0x3F800000#32 - Ideal.logistic g)))

/-- Plane 1: `da` times `silu g`. -/
def dup (d g : EReal) : EReal := d * g * Ideal.logistic g

/-- The whole result array. -/
def G (x0 : Vec Ideal S2048x1024 .bf16) (x1 : Vec Ideal S2816x1024 .bf16) (x2 x3 : Vec Ideal S2048x2816 .f32) :
    Vec Ideal S2x2048x2816 .bf16 := fun j =>
  if (j 0).val = 0 then dgate (da x0 x1 (j 1) (j 2)) (x2 (ix2 (j 1) (j 2))) (x3 (ix2 (j 1) (j 2)))
  else dup (da x0 x1 (j 1) (j 2)) (x2 (ix2 (j 1) (j 2)))

theorem idx : ∀ t : Fin grid0.N, win0_0.index t = ![(grid0.coords t 0).val, 0] ∧ win0_1.index t = ![(grid0.coords t 1).val, 0]
    ∧ win0_2.index t = ![(grid0.coords t 0).val, (grid0.coords t 1).val] ∧ win0_3.index t = ![(grid0.coords t 0).val, (grid0.coords t 1).val]
    ∧ win0_4.index t = ![0, (grid0.coords t 0).val, (grid0.coords t 1).val] := by decide +kernel

/-- One element of plane 1 of a block, computed from the blocks of point `t`, is the array's. -/
theorem core1 (c : Dev nD) (t : Fin cfg0.N) (x : S1x512x1408.Idx) (j : S2x2048x2816.Idx) (hj0 : (j 0).val = 1)
    (hj1 : (j 1).val = (grid0.coords t 0).val * 512 + (x 1).val) (hj2 : (j 2).val = (grid0.coords t 1).val * 1408 + (x 2).val) :
    k0_pay4 (iblk m c 0 t) (iblk m c 1 t) (iblk m c 2 t) x = G (m ((c : Thread nD τ).loc main_arg0))
      (m ((c : Thread nD τ).loc main_arg1)) (m ((c : Thread nD τ).loc main_arg2)) (m ((c : Thread nD τ).loc main_arg3)) j := by
  unfold G
  rw [if_neg (by omega)]
  pointwise [k0_pay4, k0_pay1, k0_pay2, da, dup]
  blk_point [iblk, V, idx t]

/-- One element of plane 0 of a block, computed from the blocks of point `t`, is the array's. -/
theorem core0 (c : Dev nD) (t : Fin cfg0.N) (x : S1x512x1408.Idx) (j : S2x2048x2816.Idx) (hj0 : (j 0).val = 0)
    (hj1 : (j 1).val = (grid0.coords t 0).val * 512 + (x 1).val) (hj2 : (j 2).val = (grid0.coords t 1).val * 1408 + (x 2).val) :
    k0_pay3 (iblk m c 0 t) (iblk m c 1 t) (iblk m c 2 t) (iblk m c 3 t) x = G (m ((c : Thread nD τ).loc main_arg0))
      (m ((c : Thread nD τ).loc main_arg1)) (m ((c : Thread nD τ).loc main_arg2)) (m ((c : Thread nD τ).loc main_arg3)) j := by
  unfold G
  rw [if_pos hj0]
  pointwise [k0_pay3, k0_pay1, k0_pay2, da, dgate]
  blk_point [iblk, V, idx t]

/-- The result array after the run: every point writes its block of `G`, and the blocks tile the array. -/
theorem final (c : Dev nD) : (dats m 0 c).arrAt 4 cfg0.N = G (m ((c : Thread nD τ).loc main_arg0)) (m ((c : Thread nD τ).loc main_arg1))
    (m ((c : Thread nD τ).loc main_arg2)) (m ((c : Thread nD τ).loc main_arg3)) := by
  refine (dats m 0 c).arrAt_eq_of_covers 4 _ (by decide +kernel) fun t hf y => ?_
  blk_simp
  rw [after0_4]
  frame_out
  canon_tiles x h
  · refine core1 m c t x _ ?_ ?_ ?_ <;> blk_simp [idx t] <;> omega
  · refine core0 m c t x _ ?_ ?_ ?_ <;> blk_simp [idx t] <;> omega

end Cert.KernelIdeal.GateGrad

namespace Cert.ReferenceIdeal.GateGrad

open Cert.ReferenceIdeal Cert.ReferenceIdeal.Read Cert.ReferenceIdeal.Gen

/-- The printed reference read at an element: the two planes, stacked. -/
theorem ref_apply (x0 : Vec Ideal S2048x1024 .bf16) (x1 : Vec Ideal S2816x1024 .bf16) (x2 x3 : Vec Ideal S2048x2816 .f32)
    (p : Fin 2) (i : Fin 2048) (j : Fin 2816) : val_main_v12 (F := Ideal) x0 x1 x2 x3 (ix3 p i j)
      = if p.val < 1 then
          (∑ k : Fin 1024, x0 (ix2 i k) * x1 (ix2 j k)) * x3 (ix2 i j) * Ideal.div 1 (1 + Ideal.exp (-x2 (ix2 i j)))
            + x2 (ix2 i j) * ((∑ k : Fin 1024, x0 (ix2 i k) * x1 (ix2 j k)) * x3 (ix2 i j))
              * (Ideal.div 1 (1 + Ideal.exp (-x2 (ix2 i j))) * (1 - Ideal.div 1 (1 + Ideal.exp (-x2 (ix2 i j)))))
        else x2 (ix2 i j) * Ideal.div 1 (1 + Ideal.exp (-x2 (ix2 i j))) * ∑ k : Fin 1024, x0 (ix2 i k) * x1 (ix2 j k) := by
  pointwise [val_main_v12, val_main_v11, val_main_v9, val_main_v10, val_main_v8, val_main_call1_v2, val_main_call1_v1,
    val_main_call1_v0, val_main_v7, val_main_v6, val_main_v5, val_main_v4, val_main_v1_0, val_main_v1_1, val_main_v1_2,
    val_main_call0_v7, val_main_call0_v6, val_main_call0_cst_1, val_main_call0_v4, val_main_call0_cst_0, val_main_call0_v3,
    val_main_call0_v2, val_main_call0_v1, val_main_call0_v0, val_main_call0_cst, val_main_v0]
  rfl

/-- On real arguments the reference's array is the kernel's: with `s` the logistic function of `g`, the product rule's
    `x·s + (g·x)·(s·(1 − s))` is the kernel's `x·(s·(1 + g·(1 − s)))`. -/
theorem ref_eq (x0 : Vec Ideal S2048x1024 .bf16) (x1 : Vec Ideal S2816x1024 .bf16) (x2 x3 : Vec Ideal S2048x2816 .f32)
    (h0 : ∀ i, ∃ r : ℝ, x0 i = (r : EReal)) (h1 : ∀ i, ∃ r : ℝ, x1 i = (r : EReal))
    (h2 : ∀ i, ∃ r : ℝ, x2 i = (r : EReal)) (h3 : ∀ i, ∃ r : ℝ, x3 i = (r : EReal)) :
    val_main_v12 (F := Ideal) x0 x1 x2 x3 = Cert.KernelIdeal.GateGrad.G x0 x1 x2 x3 := by
  funext q
  obtain ⟨p, i, j, rfl⟩ : ∃ (p : Fin 2) (i : Fin 2048) (j : Fin 2816), q = ix3 p i j := ⟨q 0, q 1, q 2, (eq_ix3 q)⟩
  rw [ref_apply]
  obtain ⟨f0, e0⟩ := Classical.axiom_of_choice h0
  obtain ⟨f1, e1⟩ := Classical.axiom_of_choice h1
  obtain ⟨g, eg⟩ := h2 (ix2 i j)
  obtain ⟨u, eu⟩ := h3 (ix2 i j)
  have hs : ∑ k : Fin 1024, x0 (ix2 i k) * x1 (ix2 j k) = ((∑ k : Fin 1024, f0 (ix2 i k) * f1 (ix2 j k) : ℝ) : EReal) := by
    rw [← Cert.Reals.sum_mul_coe]
    exact Finset.sum_congr rfl fun k _ => by rw [e0, e1]
  show _ = if p.val = 0 then Cert.KernelIdeal.GateGrad.dgate (Cert.KernelIdeal.GateGrad.da x0 x1 i j) (x2 (ix2 i j)) (x3 (ix2 i j))
    else Cert.KernelIdeal.GateGrad.dup (Cert.KernelIdeal.GateGrad.da x0 x1 i j) (x2 (ix2 i j))
  unfold Cert.KernelIdeal.GateGrad.dgate Cert.KernelIdeal.GateGrad.dup Cert.KernelIdeal.GateGrad.da Ideal.logistic
  rw [hs, eg, eu, Cert.Reals.logistic_coe, Ideal.ofBits_one_f32]
  by_cases hp : p.val = 0
  · rw [if_pos hp, if_pos (by omega)]
    exact Cert.Reals.gate_rule _ u g _
  · rw [if_neg hp, if_neg (by omega)]
    exact Cert.Reals.up_rule _ _ _

end Cert.ReferenceIdeal.GateGrad

namespace Cert.Proof.GateGrad

/-- The precondition says that every argument is real, element by element. -/
theorem real_of_pre (x0 : Vec Ideal Cert.KernelIdeal.S2048x1024 .bf16) (x1 : Vec Ideal Cert.KernelIdeal.S2816x1024 .bf16)
    (x2 x3 : Vec Ideal Cert.KernelIdeal.S2048x2816 .f32) (h : Cert.Pre_finite.fn (F := Ideal) x0 x1 x2 x3 = fun _ => 1#1) :
    (∀ i, ∃ r : ℝ, x0 i = (r : EReal)) ∧ (∀ i, ∃ r : ℝ, x1 i = (r : EReal)) ∧ (∀ i, ∃ r : ℝ, x2 i = (r : EReal))
      ∧ (∀ i, ∃ r : ℝ, x3 i = (r : EReal)) := by
  have hh := congrFun h (fun a => a.elim0)
  haveI : Subsingleton Cert.Pre_finite.S_.Idx := ⟨fun a b => funext fun k => k.elim0⟩
  unfold Cert.Pre_finite.fn Cert.Pre_finite.fn_part1 at hh
  obtain ⟨hh, h3⟩ := IntOp.andi_eq_one.1 hh
  obtain ⟨hh, h2⟩ := IntOp.andi_eq_one.1 hh
  obtain ⟨h0, h1⟩ := IntOp.andi_eq_one.1 hh
  exact ⟨fun i => Cert.Reals.real_of_cmp _ (Host.reduce_andi_all _ _ _ _ _ h0 i),
    fun i => Cert.Reals.real_of_cmp _ (Host.reduce_andi_all _ _ _ _ _ h1 i),
    fun i => Cert.Reals.real_of_cmp _ (Host.reduce_andi_all _ _ _ _ _ h2 i),
    fun i => Cert.Reals.real_of_cmp _ (Host.reduce_andi_all _ _ _ _ _ h3 i)⟩

theorem algebraic : Cert.algebraic_KernelIdeal_ReferenceIdeal_pre_finite := by
  intro m ρ m' ρ' hpre hagree
  refine ⟨fun c => Cert.KernelIdeal.GateGrad.G (m ((c.tc : Thread _ _).loc Cert.KernelIdeal.main_arg0))
    (m ((c.tc : Thread _ _).loc Cert.KernelIdeal.main_arg1)) (m ((c.tc : Thread _ _).loc Cert.KernelIdeal.main_arg2))
    (m ((c.tc : Thread _ _).loc Cert.KernelIdeal.main_arg3)), ?_, ?_⟩
  · exact (θ_run Cert.KernelIdeal.defs _ _).mono
      (fun _ h c => ⟨(h c).1.trans (Cert.KernelIdeal.GateGrad.final m c), (h c).2⟩)
      (Cert.KernelIdeal.Value.run_blocks (F := Ideal) m ρ)
  · refine (θ_run Cert.ReferenceIdeal.defs _ _).mono (fun _ h c => ⟨(h c).1.trans ?_, (h c).2⟩)
      (Cert.ReferenceIdeal.Value.run (F := Ideal) m' ρ')
    obtain ⟨h0, h1, h2, h3⟩ := real_of_pre _ _ _ _ (hpre c)
    rw [(hagree c).1, (hagree c).2.1, (hagree c).2.2.1, (hagree c).2.2.2]
    exact (Cert.ReferenceIdeal.Read.val_main_v12_eq _ _ _ _).trans (Cert.ReferenceIdeal.GateGrad.ref_eq _ _ _ _ h0 h1 h2 h3)

theorem frame_reference : Cert.quiescent_ReferenceIdeal := fun m ρ _ =>
  (θ_run Cert.ReferenceIdeal.defs _ _).mono (fun r h => ⟨fun c => (h c).2,
      Idealize.ShloMosaic.sem_eq_zero_of_no_sems (by decide) r.2⟩)
    (Cert.ReferenceIdeal.Value.run (F := Ideal) m ρ)

theorem frame_reference_pre : Cert.quiescent_ReferenceIdeal_pre_finite := fun m ρ _ =>
  frame_reference m ρ trivial

end Cert.Proof.GateGrad

end
-- ==== Proof.StickTile.lean ====
module

public import Idealize.ShloMosaic.Lib.Exec
public import Idealize.ShloMosaic.Lib.Tactic
public import Idealize.ShloMosaic.Lib.Pipeline.Kit
public import Idealize.ShloMosaic.Lib.Pointwise

@[expose] public section

/-!
The scratch arrays of the stick-breaking backward kernel are read and written in eight tiles: 256 rows of a
2048 × 128 array, or 256 columns of its 128 × 2048 transpose. This module says what a tile of an array is, that a
load at a tile's offsets reads the tile, and that a store at a tile's offsets replaces that tile and no other.
-/

noncomputable section

namespace Cert.StickTile

open Idealize.ShloMosaic

/-- 2048 rows of 128. -/
abbrev Rows : Shape := ⟨2, ![2048, 128]⟩
/-- 128 rows of 2048. -/
abbrev Cols : Shape := ⟨2, ![128, 2048]⟩
/-- The two heads' row sums, 2048 each. -/
abbrev Sums : Shape := ⟨3, ![2, 2048, 1]⟩

/-- The 256 rows of tile `t`. -/
def rowRect (t : Fin 8) : Rect Rows := Rect.unit ![256 * t.val, 0] ![256, 128] (by
  have := t.isLt; intro a; fin_cases a <;> (simp; try omega))
/-- The 256 columns of tile `t`. -/
def colRect (t : Fin 8) : Rect Cols := Rect.unit ![0, 256 * t.val] ![128, 256] (by
  have := t.isLt; intro a; fin_cases a <;> (simp; try omega))
/-- The 256 sums of head `h` at tile `t`. -/
def sumRect (h : Fin 2) (t : Fin 8) : Rect Sums := Rect.unit ![h.val, 256 * t.val, 0] ![1, 256, 1] (by
  have := t.isLt; have := h.isLt; intro a; fin_cases a <;> (simp; try omega))

variable {Val : EltTy → Type} {e : EltTy}

/-- Tile `t` of a row array. -/
def rowT (X : Rows.Idx → Val e) (t : Fin 8) : (⟨2, ![256, 128]⟩ : Shape).Idx → Val e := fun p => X ((rowRect t).emb p)
/-- Tile `t` of a column array. -/
def colT (X : Cols.Idx → Val e) (t : Fin 8) : (⟨2, ![128, 256]⟩ : Shape).Idx → Val e := fun p => X ((colRect t).emb p)
/-- Tile `t` of head `h`'s sums. -/
def sumT (X : Sums.Idx → Val e) (h : Fin 2) (t : Fin 8) : (⟨3, ![1, 256, 1]⟩ : Shape).Idx → Val e :=
  fun p => X ((sumRect h t).emb p)

variable {sig : RefSig} {κ : Kind} {sp : Space}

theorem load_row (v : View sig κ sp Rows e) (f : v.ty.Contents Val) {off : Fin 2 → ℕ} {t : Fin 8}
    (h : off = ![256 * t.val, 0]) (inb : ∀ a, off a + (![256, 128] : Fin 2 → ℕ) a ≤ Rows.size a) :
    v.readAt Val (Rect.unit (s := Rows) off ![256, 128] inb).toLoadRect f = rowT (v.read Val f) t := by
  subst h; rfl

theorem load_col (v : View sig κ sp Cols e) (f : v.ty.Contents Val) {off : Fin 2 → ℕ} {t : Fin 8}
    (h : off = ![0, 256 * t.val]) (inb : ∀ a, off a + (![128, 256] : Fin 2 → ℕ) a ≤ Cols.size a) :
    v.readAt Val (Rect.unit (s := Cols) off ![128, 256] inb).toLoadRect f = colT (v.read Val f) t := by
  subst h; rfl

theorem load_sum (v : View sig κ sp Sums e) (f : v.ty.Contents Val) {off : Fin 3 → ℕ} {h' : Fin 2} {t : Fin 8}
    (h : off = ![h'.val, 256 * t.val, 0]) (inb : ∀ a, off a + (![1, 256, 1] : Fin 3 → ℕ) a ≤ Sums.size a) :
    v.readAt Val (Rect.unit (s := Sums) off ![1, 256, 1] inb).toLoadRect f = sumT (v.read Val f) h' t := by
  subst h; rfl

theorem store_row (v : View sig κ sp Rows e) (f : v.ty.Contents Val) {off : Fin 2 → ℕ} {t : Fin 8}
    (h : off = ![256 * t.val, 0]) (inb : ∀ a, off a + (![256, 128] : Fin 2 → ℕ) a ≤ Rows.size a)
    (w : (⟨2, ![256, 128]⟩ : Shape).Idx → Val e) :
    rowT (v.read Val (v.writes Val f [⟨Rect.unit (s := Rows) off ![256, 128] inb, w⟩]))
      = Function.update (rowT (v.read Val f)) t w := by
  subst h
  funext t' p
  by_cases ht : t' = t
  · subst ht; rw [Function.update_self]
    exact View.read_writes_cons_emb v f (rowRect t') w [] p
  · rw [Function.update_of_ne ht]
    have hp := (p 0).isLt
    have hne : t'.val ≠ t.val := fun h => ht (Fin.ext h)
    refine (View.read_writes_cons_miss_of_axis v f _ [] _ (0 : Fin 2) (256 * t.val) 256 rfl rfl rfl ?_).trans rfl
    show 256 * t'.val + 1 * (p 0).val < _ ∨ _ ≤ 256 * t'.val + 1 * (p 0).val
    have hp' : (p 0).val < 256 := hp
    omega

theorem store_col (v : View sig κ sp Cols e) (f : v.ty.Contents Val) {off : Fin 2 → ℕ} {t : Fin 8}
    (h : off = ![0, 256 * t.val]) (inb : ∀ a, off a + (![128, 256] : Fin 2 → ℕ) a ≤ Cols.size a)
    (w : (⟨2, ![128, 256]⟩ : Shape).Idx → Val e) :
    colT (v.read Val (v.writes Val f [⟨Rect.unit (s := Cols) off ![128, 256] inb, w⟩]))
      = Function.update (colT (v.read Val f)) t w := by
  subst h
  funext t' p
  by_cases ht : t' = t
  · subst ht; rw [Function.update_self]
    exact View.read_writes_cons_emb v f (colRect t') w [] p
  · rw [Function.update_of_ne ht]
    have hp' : (p 1).val < 256 := (p 1).isLt
    have hne : t'.val ≠ t.val := fun h => ht (Fin.ext h)
    refine (View.read_writes_cons_miss_of_axis v f _ [] _ (1 : Fin 2) (256 * t.val) 256 rfl rfl rfl ?_).trans rfl
    show 256 * t'.val + 1 * (p 1).val < _ ∨ _ ≤ 256 * t'.val + 1 * (p 1).val
    omega

/-- Eight tiles make the array: two row arrays with the same tiles are equal. -/
theorem row_ext {X Y : Rows.Idx → Val e} (h : ∀ t, rowT X t = rowT Y t) : X = Y := by
  funext y
  have hy : (y 0).val < 2048 := (y 0).isLt
  have hE : (rowRect ⟨(y 0).val / 256, by omega⟩).emb (ix2 (⟨(y 0).val % 256, by omega⟩ : Fin 256) (y 1)) = y := by
    refine Rect.emb_eq_of_coords _ _ _ fun a => ?_
    fin_cases a
    · show (y 0).val = 256 * ((y 0).val / 256) + 1 * ((y 0).val % 256); omega
    · show (y 1).val = 0 + 1 * (y 1).val; omega
  have e := congrFun (h ⟨(y 0).val / 256, by omega⟩) (ix2 (⟨(y 0).val % 256, by omega⟩ : Fin 256) (y 1))
  unfold rowT at e
  rwa [hE] at e

/-- The row array with the given eight tiles. -/
def unrow (T : Fin 8 → (⟨2, ![256, 128]⟩ : Shape).Idx → Val e) : Rows.Idx → Val e := fun y =>
  have hy : (y 0).val < 2048 := (y 0).isLt
  T ⟨(y 0).val / 256, by omega⟩ (ix2 (⟨(y 0).val % 256, by omega⟩ : Fin 256) (y 1))

theorem rowT_unrow (T : Fin 8 → (⟨2, ![256, 128]⟩ : Shape).Idx → Val e) : rowT (unrow T) = T := by
  funext t p
  have hp : (p 0).val < 256 := (p 0).isLt
  have ht := t.isLt
  have e0 : (((rowRect t).emb p) 0).val = 256 * t.val + 1 * (p 0).val := rfl
  have e1 : (((rowRect t).emb p) 1).val = 0 + 1 * (p 1).val := rfl
  unfold rowT unrow
  have h1 : (⟨(((rowRect t).emb p) 0).val / 256, by omega⟩ : Fin 8) = t := Fin.ext (by show _ / 256 = _; omega)
  have h2 : (ix2 (⟨(((rowRect t).emb p) 0).val % 256, by omega⟩ : Fin 256) (((rowRect t).emb p) 1) :
      (⟨2, ![256, 128]⟩ : Shape).Idx) = p := by
    funext a; fin_cases a
    · exact Fin.ext (by show _ % 256 = (p 0).val; omega)
    · exact Fin.ext (by show (((rowRect t).emb p) 1).val = (p 1).val; omega)
  show T _ _ = T t p
  rw [h2]; exact congrFun (congrArg T h1) p

/-- A store over a whole column array leaves what was stored. -/
theorem store_all (v : View sig κ sp Cols e) (f : v.ty.Contents Val)
    (inb : ∀ a, (![0, 0] : Fin 2 → ℕ) a + (![128, 2048] : Fin 2 → ℕ) a ≤ Cols.size a) (w : Cols.Idx → Val e) :
    v.read Val (v.writes Val f [⟨Rect.unit (s := Cols) ![0, 0] ![128, 2048] inb, w⟩]) = w := by
  funext y
  have hE : (Rect.unit (s := Cols) ![0, 0] ![128, 2048] inb).emb y = y := by
    funext a; fin_cases a <;> exact Fin.ext (by show 0 + 1 * _ = _; omega)
  have := View.read_writes_cons_emb v f (Rect.unit (s := Cols) ![0, 0] ![128, 2048] inb) w [] y
  rwa [hE] at this

end Cert.StickTile

end
-- ==== Proof.StickStep.lean ====
module

public import proofs.«01_k».proof.Proof.Gen.Kernel2Ideal.Frame
public import proofs.«01_k».proof.Proof.Gen.Kernel2Ideal.Skeleton
public import proofs.«01_k».proof.Proof.StickTile

@[expose] public section

set_option maxRecDepth 16384

/-!
What one grid point of the stick-breaking backward kernel computes, written as plain functions of the tiles it reads:
a row of query tiles walks the key tiles left of the diagonal, carrying the two heads' prefix sums, and ends with the
masked tile on the diagonal.
-/

noncomputable section

namespace Cert.Kernel2Ideal.Stick

open Cert.Kernel2Ideal Cert.Kernel2Ideal.Gen
open Idealize.ShloMosaic Idealize.ShloMosaic.TcCoe Idealize.ShloMosaic.Tactic
open Cert.StickTile
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The tiles the two loops read: the two heads' query rows (scaled), key rows, value rows and output-gradient rows,
    the transposes of the query and gradient rows, and the two heads' row totals. -/
structure Tiles (F : FTy → Type) where
  q0 : Fin 8 → FVec F S256x128 .bf16
  q1 : Fin 8 → FVec F S256x128 .bf16
  k0 : Fin 8 → FVec F S256x128 .bf16
  k1 : Fin 8 → FVec F S256x128 .bf16
  kb : Fin 8 → FVec F S256x128 .bf16
  vb : Fin 8 → FVec F S256x128 .bf16
  o0 : Fin 8 → FVec F S256x128 .bf16
  o1 : Fin 8 → FVec F S256x128 .bf16
  qt0 : Fin 8 → FVec F S128x256 .bf16
  qt1 : Fin 8 → FVec F S128x256 .bf16
  ot0 : Fin 8 → FVec F S128x256 .bf16
  ot1 : Fin 8 → FVec F S128x256 .bf16
  c0 : Fin 8 → Vec F S1x256x1 .f32
  c1 : Fin 8 → Vec F S1x256x1 .f32

/-- What the walk along a row of tiles carries: the two heads' prefix sums of the log-gates, the two heads' prefix sums
    of the weighted gradients, and the query gradient so far. -/
abbrev Carry (F : FTy → Type) :=
  FVec F S256x1 .f32 × FVec F S256x1 .f32 × FVec F S256x1 .f32 × FVec F S256x1 .f32 × FVec F S256x128 .f32

/-- The carried values with the key and value gradients, tile by tile (transposed). -/
abbrev Walk (F : FTy → Type) := Carry F × (Fin 8 → FVec F S128x256 .f32) × (Fin 8 → FVec F S128x256 .f32)

/-- One tile left of the diagonal: query tile `i`, key tile `j`. -/
def inner (D : Tiles F) (i j : Fin 8) (a : Carry F) (dk dv : FVec F S128x256 .f32) :
    Carry F × FVec F S128x256 .f32 × FVec F S128x256 .f32 :=
  let u := k0_pay9 (F := F)
  let z : F .f32 := Scalar.ofBits .f32 0x00000000#32
  let v31 := k0_pay93 (D.c0 i); let v34 := k0_pay94 (D.c1 i)
  let v201 := k0_pay37 (D.kb j) (D.q0 i); let v204 := k0_pay38 (D.kb j) (D.q1 i)
  let v207 := k0_pay39 (D.vb j) (D.o0 i); let v210 := k0_pay40 (D.vb j) (D.o1 i)
  let v222 := k0_pay41 (D.kb j) (D.q0 i); let v232 := k0_pay42 (D.kb j) (D.q1 i)
  let v241 := k0_pay44 u v222; let v248 := k0_pay45 u v232 z; let v249 := k0_pay46 v201 v222
  let v255 := k0_pay48 u v31 a.1 v201 v207 v222; let v256 := k0_pay49 u v31 a.1 v201 v222
  let v257 := k0_pay50 v204 v232 z; let v263 := k0_pay52 u v34 a.2.1 v204 v210 v232 z
  let v264 := k0_pay53 u v34 a.2.1 v204 v232 z; let v271 := k0_pay54 u v31 a.1 v201 v207 v222
  let v278 := k0_pay55 u v34 a.2.1 v204 v210 v232 z
  ((k0_pay57 a.1 v241, k0_pay63 a.2.1 v248, k0_pay58 a.2.2.1 v271, k0_pay64 a.2.2.2.1 v278,
    k0_pay60 a.2.2.1 a.2.2.2.1 a.2.2.2.2 v249 v255 v257 v263 v271 v278 (D.k0 j) (D.k1 j)),
   k0_pay97 (k0_pay61 a.2.2.1 a.2.2.2.1 v249 v255 v257 v263 v271 v278 dk (D.qt0 i) (D.qt1 i)),
   k0_pay98 (k0_pay62 v256 v264 dv (D.ot0 i) (D.ot1 i)))

/-- One step of the walk along row `i`: tile `j`'s gradients replaced, the carried values moved on. -/
def step (D : Tiles F) (i j : Fin 8) (w : Walk F) : Walk F :=
  let r := inner D i j w.1 (w.2.1 j) (w.2.2 j)
  (r.1, Function.update w.2.1 j r.2.1, Function.update w.2.2 j r.2.2)

/-- The walk along row `i` over its first `n` tiles. -/
def walk (D : Tiles F) (i : Fin 8) (w : Walk F) : ℕ → Walk F
  | 0 => w
  | n + 1 => step D i (Fin.ofNat 8 n) (walk D i w n)

/-- The carried values at the start of a row. -/
def carry0 : Carry F := (k0_pay95, k0_pay95, k0_pay95, k0_pay95, k0_pay96)

/-- The tile on the diagonal: the query gradient finished, tile `i`'s key and value gradients added to. -/
def diag (D : Tiles F) (i : Fin 8) (a : Carry F) (dk dv : FVec F S128x256 .f32) :
    FVec F S256x128 .bf16 × FVec F S128x256 .f32 × FVec F S128x256 .f32 :=
  let s := k0_pay8; let u := k0_pay9 (F := F)
  let v31 := k0_pay93 (D.c0 i); let v34 := k0_pay94 (D.c1 i)
  let v52 := k0_pay101 (D.kb i) (D.q0 i); let v55 := k0_pay102 (D.kb i) (D.q1 i)
  let v58 := k0_pay103 (D.vb i) (D.o0 i); let v61 := k0_pay104 (D.vb i) (D.o1 i); let v62 := k0_pay105 (F := F)
  let v89 := k0_pay107 s v55; let v103 := k0_pay108 s u v55; let v104 := k0_pay109 s v52 v62
  let v109 := k0_pay110 s u v31 a.1 v52 v62
  let v113 := k0_pay112 s v109; let v114 := k0_pay113 v55 v89
  let v122 := k0_pay115 s v34 a.2.1 v55 v61 v89 v103; let v123 := k0_pay116 s v34 a.2.1 v55 v89 v103
  let v137 := k0_pay117 s u v34 a.2.1 v55 v61 v89 v103
  let v153 := k0_pay119 s u a.2.2.1 a.2.2.2.2 v58 v104 v109 (D.k0 i)
  let v156 := k0_pay120 s u a.2.2.1 v58 v104 v109 (D.qt0 i)
  (k0_pay13 a.2.2.2.1 v114 v122 v137 v153 (D.k1 i),
   k0_pay11 a.2.2.2.1 v114 v122 v137 dk v156 (D.qt1 i),
   k0_pay12 v113 v123 dv (D.ot0 i) (D.ot1 i))

/-- The three gradients, tile by tile. -/
abbrev Grads (F : FTy → Type) :=
  (Fin 8 → FVec F S256x128 .bf16) × (Fin 8 → FVec F S128x256 .f32) × (Fin 8 → FVec F S128x256 .f32)

/-- Row `i` of tiles: the walk, then the diagonal tile. -/
def row (D : Tiles F) (i : Fin 8) (g : Grads F) : Grads F :=
  let w := walk D i (carry0, g.2) i.val
  let r := diag D i w.1 (w.2.1 i) (w.2.2 i)
  (Function.update g.1 i r.1, Function.update w.2.1 i r.2.1, Function.update w.2.2 i r.2.2)

theorem row_of_walk (D : Tiles F) (i : Fin 8) (g : Grads F) (w : Walk F) (h : w = walk D i (carry0, g.2) i.val) :
    row D i g = (Function.update g.1 i (diag D i w.1 (w.2.1 i) (w.2.2 i)).1,
      Function.update w.2.1 i (diag D i w.1 (w.2.1 i) (w.2.2 i)).2.1,
      Function.update w.2.2 i (diag D i w.1 (w.2.1 i) (w.2.2 i)).2.2) := by
  subst h; rfl

/-- The first `n` rows of tiles. -/
def rows (D : Tiles F) (g : Grads F) : ℕ → Grads F
  | 0 => g
  | n + 1 => row D (Fin.ofNat 8 n) (rows D g n)

/-- Tile `t` of every array the first loop writes taken from `D`. -/
def setTile (D T : Tiles F) (t : Fin 8) : Tiles F where
  q0 := Function.update T.q0 t (D.q0 t)
  q1 := Function.update T.q1 t (D.q1 t)
  k0 := Function.update T.k0 t (D.k0 t)
  k1 := Function.update T.k1 t (D.k1 t)
  kb := Function.update T.kb t (D.kb t)
  vb := Function.update T.vb t (D.vb t)
  o0 := Function.update T.o0 t (D.o0 t)
  o1 := Function.update T.o1 t (D.o1 t)
  qt0 := Function.update T.qt0 t (D.qt0 t)
  qt1 := Function.update T.qt1 t (D.qt1 t)
  ot0 := Function.update T.ot0 t (D.ot0 t)
  ot1 := Function.update T.ot1 t (D.ot1 t)
  c0 := T.c0
  c1 := T.c1

/-- The first `n` tiles taken from `D`. -/
def fill (D T : Tiles F) : ℕ → Tiles F
  | 0 => T
  | n + 1 => setTile D (fill D T n) (Fin.ofNat 8 n)

/-- The first `n` of eight values taken from `p`. -/
def fillF {α : Type} (p g : Fin 8 → α) : ℕ → Fin 8 → α
  | 0 => g
  | n + 1 => Function.update (fillF p g n) (Fin.ofNat 8 n) (p (Fin.ofNat 8 n))

theorem fillF_of_lt {α : Type} (p g : Fin 8 → α) : ∀ n : ℕ, n ≤ 8 → ∀ t : Fin 8, t.val < n → fillF p g n t = p t
  | 0, _, _, h => absurd h (Nat.not_lt_zero _)
  | n + 1, hn, t, h => by
    by_cases e : t = Fin.ofNat 8 n
    · subst e; exact Function.update_self ..
    · refine (Function.update_of_ne e _ _).trans (fillF_of_lt p g n (by omega) t ?_)
      have : t.val ≠ n := fun h' => e (Fin.ext (h'.trans (Nat.mod_eq_of_lt (show n < 8 by omega)).symm))
      omega

theorem fillF_8 {α : Type} (p g : Fin 8 → α) : fillF p g 8 = p := funext fun t => fillF_of_lt p g 8 le_rfl t t.isLt

theorem fill_eq (D T : Tiles F) : ∀ n, fill D T n = ⟨fillF D.q0 T.q0 n, fillF D.q1 T.q1 n, fillF D.k0 T.k0 n,
    fillF D.k1 T.k1 n, fillF D.kb T.kb n, fillF D.vb T.vb n, fillF D.o0 T.o0 n, fillF D.o1 T.o1 n, fillF D.qt0 T.qt0 n,
    fillF D.qt1 T.qt1 n, fillF D.ot0 T.ot0 n, fillF D.ot1 T.ot1 n, T.c0, T.c1⟩
  | 0 => rfl
  | n + 1 => by rw [fill, fill_eq D T n]; rfl

theorem fill_8 (D T : Tiles F) (h0 : D.c0 = T.c0) (h1 : D.c1 = T.c1) : fill D T 8 = D := by
  rw [fill_eq]; simp only [fillF_8, ← h0, ← h1]

/-- The tiles the first loop makes of the query, key, value and output-gradient rows, with the row totals as given. -/
def prep (X1 X2 X3 X4 : FVec F S2048x128 .f32) (c : FVec F S2x2048x1 .f32) : Tiles F where
  q0 t := k0_pay18 (k0_pay1) (rowT (Val := Elt F) (e := .f32) X1 t)
  q1 t := k0_pay19 (k0_pay1) (rowT (Val := Elt F) (e := .f32) X1 t)
  k0 t := k0_pay22 (k0_pay1) (rowT (Val := Elt F) (e := .f32) X2 t)
  k1 t := k0_pay23 (k0_pay1) (rowT (Val := Elt F) (e := .f32) X2 t)
  kb t := k0_pay24 (rowT (Val := Elt F) (e := .f32) X2 t)
  vb t := k0_pay25 (rowT (Val := Elt F) (e := .f32) X3 t)
  o0 t := k0_pay27 (k0_pay1) (rowT (Val := Elt F) (e := .f32) X4 t)
  o1 t := k0_pay28 (k0_pay1) (rowT (Val := Elt F) (e := .f32) X4 t)
  qt0 t := k0_pay31 (k0_pay2) (k0_pay16 (rowT (Val := Elt F) (e := .f32) X1 t))
  qt1 t := k0_pay32 (k0_pay2) (k0_pay16 (rowT (Val := Elt F) (e := .f32) X1 t))
  ot0 t := k0_pay3 (k0_pay35 (k0_pay2) (rowT (Val := Elt F) (e := .f32) X4 t))
  ot1 t := k0_pay4 (k0_pay36 (k0_pay2) (rowT (Val := Elt F) (e := .f32) X4 t))
  c0 := sumT (Val := Elt F) (e := .f32) c 0
  c1 := sumT (Val := Elt F) (e := .f32) c 1

theorem row_snd (D : Tiles F) (i : Fin 8) (g g' : Grads F) (h : g.2 = g'.2) : (row D i g).2 = (row D i g').2 := by
  unfold row; rw [h]

theorem rows_snd (D : Tiles F) (g g' : Grads F) (h : g.2 = g'.2) : ∀ n, (rows D g n).2 = (rows D g' n).2
  | 0 => h
  | n + 1 => row_snd D _ _ _ (rows_snd D g g' h n)

/-- The query gradient is overwritten tile by tile: it does not depend on what was there. -/
theorem rows_fst (D : Tiles F) (g g' : Grads F) (h : g.2 = g'.2) : ∀ n : ℕ, n ≤ 8 → ∀ t : Fin 8, t.val < n →
    (rows D g n).1 t = (rows D g' n).1 t
  | 0, _, _, ht => absurd ht (Nat.not_lt_zero _)
  | n + 1, hn, t, ht => by
    have hs := rows_snd D g g' h n
    by_cases e : t = Fin.ofNat 8 n
    · subst e
      simp only [rows, row]
      rw [Function.update_self, Function.update_self, hs]
    · simp only [rows, row]
      rw [Function.update_of_ne e, Function.update_of_ne e]
      refine rows_fst D g g' h n (by omega) t ?_
      have : t.val ≠ n := fun h' => e (Fin.ext (h'.trans (Nat.mod_eq_of_lt (show n < 8 by omega)).symm))
      omega

/-- The gradients before the first row. -/
def start : Grads F := (fun _ _ => Scalar.ofBits .bf16 0x0000#16, colT (Val := Elt F) (e := .f32) (k0_pay5 (F := F)), colT (Val := Elt F) (e := .f32) (k0_pay6 (F := F)))

/-- The query gradient of a grid point. -/
def dq (D : Tiles F) : FVec F S2048x128 .bf16 := unrow (Val := Elt F) (e := .bf16) (rows D start 8).1
/-- The key gradient of a grid point. -/
def dk (D : Tiles F) : FVec F S2048x128 .bf16 := unrow (Val := Elt F) (e := .bf16) fun t => k0_pay14 ((rows D start 8).2.1 t)
/-- The value gradient of a grid point. -/
def dv (D : Tiles F) : FVec F S2048x128 .bf16 := unrow (Val := Elt F) (e := .bf16) fun t => k0_pay15 ((rows D start 8).2.2 t)

theorem eq_dq (D : Tiles F) (X : FVec F S2048x128 .bf16) (g : Grads F) (hg : g.2 = (start (F := F)).2)
    (h : rowT (Val := Elt F) (e := .bf16) X = (rows D g 8).1) : X = dq D :=
  row_ext (Val := Elt F) (e := .bf16) fun t =>
    (congrFun h t).trans ((rows_fst D g start hg 8 le_rfl t t.isLt).trans (congrFun (rowT_unrow (Val := Elt F) (e := .bf16) _).symm t))

theorem eq_dk (D : Tiles F) (X : FVec F S2048x128 .bf16) (G : Fin 8 → FVec F S128x256 .f32) (hG : G = (rows D start 8).2.1)
    (h : rowT (Val := Elt F) (e := .bf16) X = fun t => k0_pay14 (G t)) : X = dk D :=
  row_ext (Val := Elt F) (e := .bf16) fun t => by
    rw [h]; unfold dk; rw [rowT_unrow, hG]

theorem eq_dv (D : Tiles F) (X : FVec F S2048x128 .bf16) (G : Fin 8 → FVec F S128x256 .f32) (hG : G = (rows D start 8).2.2)
    (h : rowT (Val := Elt F) (e := .bf16) X = fun t => k0_pay15 (G t)) : X = dv D :=
  row_ext (Val := Elt F) (e := .bf16) fun t => by
    rw [h]; unfold dv; rw [rowT_unrow, hG]

/-! ## The printed offsets are the tiles' -/

theorem trips2 : k0_t2_loop.trips = 8 := by decide +kernel
theorem trips1 : k0_t1_loop.trips = 8 := by decide +kernel
theorem trips5 : k0_t5_loop.trips = 8 := by decide +kernel
theorem trips3 : ∀ i : Fin k0_t2_loop.trips, (k0_t3_loop i).trips = i.val := by decide +kernel
theorem trips4 : ∀ i : Fin k0_t2_loop.trips, (k0_t4_loop i).trips = 0 := by decide +kernel

/-- The query tile of an outer trip. -/
def qi (i : Fin k0_t2_loop.trips) : Fin 8 := ⟨i.val, trips2 ▸ i.isLt⟩
/-- The key tile of an inner trip. -/
def kj {i : Fin k0_t2_loop.trips} (j : Fin (k0_t3_loop i).trips) : Fin 8 :=
  ⟨j.val, by have := j.isLt; have := trips3 i; have := (qi i).isLt; simp only [qi] at this; omega⟩

theorem off1 : ∀ t : Fin k0_t1_loop.trips, k0_off1 t = ![256 * t.val, 0] := by decide +kernel
theorem off2 : ∀ t : Fin k0_t1_loop.trips, k0_off2 t = ![0, 256 * t.val] := by decide +kernel
theorem off3 : ∀ t : Fin k0_t2_loop.trips, k0_off3 t = ![(0 : Fin 2).val, 256 * (qi t).val, 0] := by decide +kernel
theorem off4 : ∀ t : Fin k0_t2_loop.trips, k0_off4 t = ![(1 : Fin 2).val, 256 * (qi t).val, 0] := by decide +kernel
theorem off5 : ∀ (i : Fin k0_t2_loop.trips) (j : Fin (k0_t3_loop i).trips), k0_off5 i j = ![256 * (kj j).val, 0] := by decide +kernel
theorem off6 : ∀ t : Fin k0_t2_loop.trips, k0_off6 t = ![256 * (qi t).val, 0] := by decide +kernel
theorem off7 : ∀ (i : Fin k0_t2_loop.trips) (j : Fin (k0_t3_loop i).trips), k0_off7 i j = ![0, 256 * (kj j).val] := by decide +kernel
theorem off8 : ∀ t : Fin k0_t2_loop.trips, k0_off8 t = ![0, 256 * (qi t).val] := by decide +kernel
theorem off13 : ∀ t : Fin k0_t2_loop.trips, k0_off13 t = ![256 * (qi t).val, 0] := by decide +kernel
theorem off14 : ∀ t : Fin k0_t2_loop.trips, k0_off14 t = ![0, 256 * (qi t).val] := by decide +kernel
theorem off15 : ∀ t : Fin k0_t5_loop.trips, k0_off15 t = ![0, 256 * t.val] := by decide +kernel
theorem off16 : ∀ t : Fin k0_t5_loop.trips, k0_off16 t = ![256 * t.val, 0] := by decide +kernel

end Cert.Kernel2Ideal.Stick

end
-- ==== Proof.StickRun.lean ====
module

public import proofs.«01_k».proof.Proof.Gen.Kernel2Ideal.Frame
public import proofs.«01_k».proof.Proof.Gen.Kernel2Ideal.Skeleton
public import proofs.«01_k».proof.Proof.StickStep

@[expose] public section

set_option maxRecDepth 16384

/-!
One trip of each of the four loops of the body, run on whole arrays with any contents: what each trip leaves is
stated tile by tile, by the functions of the step module.
-/

noncomputable section

namespace Cert.Kernel2Ideal.Stick

open Cert.Kernel2Ideal Cert.Kernel2Ideal.Gen
open Idealize.ShloMosaic Idealize.ShloMosaic.TcCoe Idealize.ShloMosaic.Tactic
open Cert.StickTile
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The loops, from whole arrays at any contents -/

section

variable (i : grid0.Coords)
  (arg1 : Memref sig .tc .vmem S2048x128 .f32) (harg1 : arg1.IsWhole)
  (arg2 : Memref sig .tc .vmem S2048x128 .f32) (harg2 : arg2.IsWhole)
  (arg3 : Memref sig .tc .vmem S2048x128 .f32) (harg3 : arg3.IsWhole)
  (arg4 : Memref sig .tc .vmem S2048x128 .f32) (harg4 : arg4.IsWhole)
  (arg5 : Memref sig .tc .vmem S2x2048x1 .f32) (harg5 : arg5.IsWhole)
  (arg6 : Memref sig .tc .vmem S2048x128 .bf16) (harg6 : arg6.IsWhole)
  (arg7 : Memref sig .tc .vmem S2048x128 .bf16) (harg7 : arg7.IsWhole)
  (arg8 : Memref sig .tc .vmem S2048x128 .bf16) (harg8 : arg8.IsWhole)
  (arg9 : Memref sig .tc .vmem S2048x128 .bf16) (harg9 : arg9.IsWhole)
  (arg10 : Memref sig .tc .vmem S2048x128 .bf16) (harg10 : arg10.IsWhole)
  (arg11 : Memref sig .tc .vmem S2048x128 .bf16) (harg11 : arg11.IsWhole)
  (arg12 : Memref sig .tc .vmem S2048x128 .bf16) (harg12 : arg12.IsWhole)
  (arg13 : Memref sig .tc .vmem S2048x128 .bf16) (harg13 : arg13.IsWhole)
  (arg14 : Memref sig .tc .vmem S2048x128 .bf16) (harg14 : arg14.IsWhole)
  (arg15 : Memref sig .tc .vmem S2048x128 .bf16) (harg15 : arg15.IsWhole)
  (arg16 : Memref sig .tc .vmem S2048x128 .bf16) (harg16 : arg16.IsWhole)
  (arg17 : Memref sig .tc .vmem S128x2048 .bf16) (harg17 : arg17.IsWhole)
  (arg18 : Memref sig .tc .vmem S128x2048 .bf16) (harg18 : arg18.IsWhole)
  (arg19 : Memref sig .tc .vmem S128x2048 .bf16) (harg19 : arg19.IsWhole)
  (arg20 : Memref sig .tc .vmem S128x2048 .bf16) (harg20 : arg20.IsWhole)
  (arg21 : Memref sig .tc .vmem S128x2048 .f32) (harg21 : arg21.IsWhole)
  (arg22 : Memref sig .tc .vmem S128x2048 .f32) (harg22 : arg22.IsWhole)

variable (𝒱 : Variants) (c : Dev nD) (bd : Option 𝒱.V)

/-- The tiles of the arrays the loops read. -/
def tiles (f5 : BufTy.Contents (Elt F) arg5.view.ty) (f9 : BufTy.Contents (Elt F) arg9.view.ty) (f10 : BufTy.Contents (Elt F) arg10.view.ty) (f11 : BufTy.Contents (Elt F) arg11.view.ty) (f12 : BufTy.Contents (Elt F) arg12.view.ty) (f13 : BufTy.Contents (Elt F) arg13.view.ty) (f14 : BufTy.Contents (Elt F) arg14.view.ty) (f15 : BufTy.Contents (Elt F) arg15.view.ty) (f16 : BufTy.Contents (Elt F) arg16.view.ty) (f17 : BufTy.Contents (Elt F) arg17.view.ty) (f18 : BufTy.Contents (Elt F) arg18.view.ty) (f19 : BufTy.Contents (Elt F) arg19.view.ty) (f20 : BufTy.Contents (Elt F) arg20.view.ty) : Tiles F where
  q0 := rowT (arg9.view.read (Elt F) f9)
  q1 := rowT (arg10.view.read (Elt F) f10)
  k0 := rowT (arg11.view.read (Elt F) f11)
  k1 := rowT (arg12.view.read (Elt F) f12)
  kb := rowT (arg13.view.read (Elt F) f13)
  vb := rowT (arg14.view.read (Elt F) f14)
  o0 := rowT (arg15.view.read (Elt F) f15)
  o1 := rowT (arg16.view.read (Elt F) f16)
  qt0 := colT (arg17.view.read (Elt F) f17)
  qt1 := colT (arg18.view.read (Elt F) f18)
  ot0 := colT (arg19.view.read (Elt F) f19)
  ot1 := colT (arg20.view.read (Elt F) f20)
  c0 := sumT (arg5.view.read (Elt F) f5) 0
  c1 := sumT (arg5.view.read (Elt F) f5) 1

/-- One trip of the inner loop: the arrays read are as they were, tile `j` of the two gradients is replaced, the carried
    values are the step's. -/
theorem trip3 (k2 : Fin k0_t2_loop.trips) (v28 : BitVec 32) (f5 : BufTy.Contents (Elt F) arg5.view.ty) (f9 : BufTy.Contents (Elt F) arg9.view.ty) (f10 : BufTy.Contents (Elt F) arg10.view.ty) (f11 : BufTy.Contents (Elt F) arg11.view.ty) (f12 : BufTy.Contents (Elt F) arg12.view.ty) (f13 : BufTy.Contents (Elt F) arg13.view.ty) (f14 : BufTy.Contents (Elt F) arg14.view.ty) (f15 : BufTy.Contents (Elt F) arg15.view.ty) (f16 : BufTy.Contents (Elt F) arg16.view.ty) (f17 : BufTy.Contents (Elt F) arg17.view.ty) (f18 : BufTy.Contents (Elt F) arg18.view.ty) (f19 : BufTy.Contents (Elt F) arg19.view.ty) (f20 : BufTy.Contents (Elt F) arg20.view.ty) (f21 : BufTy.Contents (Elt F) arg21.view.ty) (f22 : BufTy.Contents (Elt F) arg22.view.ty)
    (v30 v33 : Vec F S1x256x1 .f32) (h30 : v30 = sumT (Val := Elt F) (e := .f32) (arg5.view.read (Elt F) f5) 0 (qi k2))
    (h33 : v33 = sumT (Val := Elt F) (e := .f32) (arg5.view.read (Elt F) f5) 1 (qi k2))
    (k : Fin (k0_t3_loop k2).trips) (a : Carry F) (E : Set ℕ) :
    iprop((arg9.view.loc (c : Thread nD τ) ↦[arg9.view.set]{fullShare} f9) ∗ (arg10.view.loc (c : Thread nD τ) ↦[arg10.view.set]{fullShare} f10) ∗ (arg11.view.loc (c : Thread nD τ) ↦[arg11.view.set]{fullShare} f11) ∗ (arg12.view.loc (c : Thread nD τ) ↦[arg12.view.set]{fullShare} f12) ∗ (arg13.view.loc (c : Thread nD τ) ↦[arg13.view.set]{fullShare} f13) ∗ (arg14.view.loc (c : Thread nD τ) ↦[arg14.view.set]{fullShare} f14) ∗ (arg15.view.loc (c : Thread nD τ) ↦[arg15.view.set]{fullShare} f15) ∗ (arg16.view.loc (c : Thread nD τ) ↦[arg16.view.set]{fullShare} f16) ∗ (arg17.view.loc (c : Thread nD τ) ↦[arg17.view.set]{fullShare} f17) ∗ (arg18.view.loc (c : Thread nD τ) ↦[arg18.view.set]{fullShare} f18) ∗ (arg19.view.loc (c : Thread nD τ) ↦[arg19.view.set]{fullShare} f19) ∗ (arg20.view.loc (c : Thread nD τ) ↦[arg20.view.set]{fullShare} f20) ∗ (arg21.view.loc (c : Thread nD τ) ↦[arg21.view.set]{fullShare} f21) ∗ (arg22.view.loc (c : Thread nD τ) ↦[arg22.view.set]{fullShare} f22))
      ⊢ wp (Idealize.ShloMosaic.frame : Set ℕ → sProp 𝕄) (wpE (defs₀ (F := F)) 𝒱 (c : Thread nD τ) bd) E
        (k0_t3_body (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 (k0_pay9 (F := F)) 0#32 1#32 k2 v28 v30 v33 k a)
        ((fun a' => iprop((arg9.view.loc (c : Thread nD τ) ↦[arg9.view.set]{fullShare} f9) ∗ (arg10.view.loc (c : Thread nD τ) ↦[arg10.view.set]{fullShare} f10) ∗ (arg11.view.loc (c : Thread nD τ) ↦[arg11.view.set]{fullShare} f11) ∗ (arg12.view.loc (c : Thread nD τ) ↦[arg12.view.set]{fullShare} f12) ∗ (arg13.view.loc (c : Thread nD τ) ↦[arg13.view.set]{fullShare} f13) ∗ (arg14.view.loc (c : Thread nD τ) ↦[arg14.view.set]{fullShare} f14) ∗ (arg15.view.loc (c : Thread nD τ) ↦[arg15.view.set]{fullShare} f15) ∗ (arg16.view.loc (c : Thread nD τ) ↦[arg16.view.set]{fullShare} f16) ∗ (arg17.view.loc (c : Thread nD τ) ↦[arg17.view.set]{fullShare} f17) ∗ (arg18.view.loc (c : Thread nD τ) ↦[arg18.view.set]{fullShare} f18) ∗ (arg19.view.loc (c : Thread nD τ) ↦[arg19.view.set]{fullShare} f19) ∗ (arg20.view.loc (c : Thread nD τ) ↦[arg20.view.set]{fullShare} f20)
          ∗ ∃ (f21' : BufTy.Contents (Elt F) arg21.view.ty) (f22' : BufTy.Contents (Elt F) arg22.view.ty), (arg21.view.loc (c : Thread nD τ) ↦[arg21.view.set]{fullShare} f21') ∗ (arg22.view.loc (c : Thread nD τ) ↦[arg22.view.set]{fullShare} f22')
            ∗ ⌜((a', colT (arg21.view.read (Elt F) f21'), colT (arg22.view.read (Elt F) f22')) : Walk F)
              = step (tiles arg5 arg9 arg10 arg11 arg12 arg13 arg14 arg15 arg16 arg17 arg18 arg19 arg20 f5 f9 f10 f11 f12 f13 f14 f15 f16 f17 f18 f19 f20) (qi k2) (kj k)
                  (a, colT (arg21.view.read (Elt F) f21), colT (arg22.view.read (Elt F) f22))⌝) : Carry F → sProp 𝕄)) := by
  subst h30 h33
  unfold k0_t3_body
  simp only [k0_part3_eq_skeleton, k0_part4_eq_skeleton, k0_part5_eq_skeleton]
  iintro ⟨H9, H10, H11, H12, H13, H14, H15, H16, H17, H18, H19, H20, H21, H22⟩
  sl_exec
  sl_step
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  iexists _, _
  isplitl [H21]; · iexact H21
  isplitl [H22]; · iexact H22
  ipureintro
  rw [store_col _ _ (off7 k2 k), store_col _ _ (off7 k2 k)]
  repeat (delta trip3.sl.r trip3.sl.r_1 trip3.sl.r_2 trip3.sl.r_3 trip3.sl.r_4 trip3.sl.r_5 trip3.sl.r_6 trip3.sl.r_7 trip3.sl.r_8 trip3.sl.r_9 trip3.sl.r_10 trip3.sl.r_11 trip3.sl.r_12 trip3.sl.r_13 trip3.sl.r_14 trip3.sl.r_15 trip3.sl.r_16 trip3.sl.r_17 trip3.sl.r_18 trip3.sl.r_19 trip3.sl.r_20 trip3.sl.r_21 trip3.sl.r_22 trip3.sl.r_23 trip3.sl.r_24)
  simp only [load_row _ _ (off5 k2 k), load_row _ _ (off6 k2), load_col _ _ (off7 k2 k), load_col _ _ (off8 k2), step, inner, tiles]
  rfl

theorem kj_eq {k2 : Fin k0_t2_loop.trips} (k : Fin (k0_t3_loop k2).trips) : kj k = Fin.ofNat 8 k.val :=
  Fin.ext (Nat.mod_eq_of_lt (kj k).isLt).symm

/-- One trip of the outer loop: a row of tiles. -/
theorem trip2 (k2 : Fin k0_t2_loop.trips) (f5 : BufTy.Contents (Elt F) arg5.view.ty) (f9 : BufTy.Contents (Elt F) arg9.view.ty) (f10 : BufTy.Contents (Elt F) arg10.view.ty) (f11 : BufTy.Contents (Elt F) arg11.view.ty) (f12 : BufTy.Contents (Elt F) arg12.view.ty) (f13 : BufTy.Contents (Elt F) arg13.view.ty) (f14 : BufTy.Contents (Elt F) arg14.view.ty) (f15 : BufTy.Contents (Elt F) arg15.view.ty) (f16 : BufTy.Contents (Elt F) arg16.view.ty) (f17 : BufTy.Contents (Elt F) arg17.view.ty) (f18 : BufTy.Contents (Elt F) arg18.view.ty) (f19 : BufTy.Contents (Elt F) arg19.view.ty) (f20 : BufTy.Contents (Elt F) arg20.view.ty) (f6 : BufTy.Contents (Elt F) arg6.view.ty) (f21 : BufTy.Contents (Elt F) arg21.view.ty) (f22 : BufTy.Contents (Elt F) arg22.view.ty) (E : Set ℕ) :
    iprop((arg5.view.loc (c : Thread nD τ) ↦[arg5.view.set]{fullShare} f5) ∗ (arg9.view.loc (c : Thread nD τ) ↦[arg9.view.set]{fullShare} f9) ∗ (arg10.view.loc (c : Thread nD τ) ↦[arg10.view.set]{fullShare} f10) ∗ (arg11.view.loc (c : Thread nD τ) ↦[arg11.view.set]{fullShare} f11) ∗ (arg12.view.loc (c : Thread nD τ) ↦[arg12.view.set]{fullShare} f12) ∗ (arg13.view.loc (c : Thread nD τ) ↦[arg13.view.set]{fullShare} f13) ∗ (arg14.view.loc (c : Thread nD τ) ↦[arg14.view.set]{fullShare} f14) ∗ (arg15.view.loc (c : Thread nD τ) ↦[arg15.view.set]{fullShare} f15) ∗ (arg16.view.loc (c : Thread nD τ) ↦[arg16.view.set]{fullShare} f16) ∗ (arg17.view.loc (c : Thread nD τ) ↦[arg17.view.set]{fullShare} f17) ∗ (arg18.view.loc (c : Thread nD τ) ↦[arg18.view.set]{fullShare} f18) ∗ (arg19.view.loc (c : Thread nD τ) ↦[arg19.view.set]{fullShare} f19) ∗ (arg20.view.loc (c : Thread nD τ) ↦[arg20.view.set]{fullShare} f20) ∗ (arg6.view.loc (c : Thread nD τ) ↦[arg6.view.set]{fullShare} f6) ∗ (arg21.view.loc (c : Thread nD τ) ↦[arg21.view.set]{fullShare} f21) ∗ (arg22.view.loc (c : Thread nD τ) ↦[arg22.view.set]{fullShare} f22))
      ⊢ wp (Idealize.ShloMosaic.frame : Set ℕ → sProp 𝕄) (wpE (defs₀ (F := F)) 𝒱 (c : Thread nD τ) bd) E
        (k0_t2_body (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 k2 ⟨⟩)
        ((fun _ => iprop((arg5.view.loc (c : Thread nD τ) ↦[arg5.view.set]{fullShare} f5) ∗ (arg9.view.loc (c : Thread nD τ) ↦[arg9.view.set]{fullShare} f9) ∗ (arg10.view.loc (c : Thread nD τ) ↦[arg10.view.set]{fullShare} f10) ∗ (arg11.view.loc (c : Thread nD τ) ↦[arg11.view.set]{fullShare} f11) ∗ (arg12.view.loc (c : Thread nD τ) ↦[arg12.view.set]{fullShare} f12) ∗ (arg13.view.loc (c : Thread nD τ) ↦[arg13.view.set]{fullShare} f13) ∗ (arg14.view.loc (c : Thread nD τ) ↦[arg14.view.set]{fullShare} f14) ∗ (arg15.view.loc (c : Thread nD τ) ↦[arg15.view.set]{fullShare} f15) ∗ (arg16.view.loc (c : Thread nD τ) ↦[arg16.view.set]{fullShare} f16) ∗ (arg17.view.loc (c : Thread nD τ) ↦[arg17.view.set]{fullShare} f17) ∗ (arg18.view.loc (c : Thread nD τ) ↦[arg18.view.set]{fullShare} f18) ∗ (arg19.view.loc (c : Thread nD τ) ↦[arg19.view.set]{fullShare} f19) ∗ (arg20.view.loc (c : Thread nD τ) ↦[arg20.view.set]{fullShare} f20)
          ∗ ∃ (f6' : BufTy.Contents (Elt F) arg6.view.ty) (f21' : BufTy.Contents (Elt F) arg21.view.ty) (f22' : BufTy.Contents (Elt F) arg22.view.ty), (arg6.view.loc (c : Thread nD τ) ↦[arg6.view.set]{fullShare} f6') ∗ (arg21.view.loc (c : Thread nD τ) ↦[arg21.view.set]{fullShare} f21') ∗ (arg22.view.loc (c : Thread nD τ) ↦[arg22.view.set]{fullShare} f22')
            ∗ ⌜((rowT (arg6.view.read (Elt F) f6'), colT (arg21.view.read (Elt F) f21'), colT (arg22.view.read (Elt F) f22')) : Grads F)
              = row (tiles arg5 arg9 arg10 arg11 arg12 arg13 arg14 arg15 arg16 arg17 arg18 arg19 arg20 f5 f9 f10 f11 f12 f13 f14 f15 f16 f17 f18 f19 f20) (qi k2)
                  (rowT (arg6.view.read (Elt F) f6), colT (arg21.view.read (Elt F) f21), colT (arg22.view.read (Elt F) f22))⌝) : Unit → sProp 𝕄)) := by
  unfold k0_t2_body
  simp only [k0_part9_eq_skeleton, k0_part10_eq_skeleton, k0_part11_eq_skeleton]
  iintro ⟨H5, H9, H10, H11, H12, H13, H14, H15, H16, H17, H18, H19, H20, H6, H21, H22⟩
  sl_exec
  sl_for (fun (k : ℕ) (a : Carry F) => iprop((arg9.view.loc (c : Thread nD τ) ↦[arg9.view.set]{fullShare} f9) ∗ (arg10.view.loc (c : Thread nD τ) ↦[arg10.view.set]{fullShare} f10) ∗ (arg11.view.loc (c : Thread nD τ) ↦[arg11.view.set]{fullShare} f11) ∗ (arg12.view.loc (c : Thread nD τ) ↦[arg12.view.set]{fullShare} f12) ∗ (arg13.view.loc (c : Thread nD τ) ↦[arg13.view.set]{fullShare} f13) ∗ (arg14.view.loc (c : Thread nD τ) ↦[arg14.view.set]{fullShare} f14) ∗ (arg15.view.loc (c : Thread nD τ) ↦[arg15.view.set]{fullShare} f15) ∗ (arg16.view.loc (c : Thread nD τ) ↦[arg16.view.set]{fullShare} f16) ∗ (arg17.view.loc (c : Thread nD τ) ↦[arg17.view.set]{fullShare} f17) ∗ (arg18.view.loc (c : Thread nD τ) ↦[arg18.view.set]{fullShare} f18) ∗ (arg19.view.loc (c : Thread nD τ) ↦[arg19.view.set]{fullShare} f19) ∗ (arg20.view.loc (c : Thread nD τ) ↦[arg20.view.set]{fullShare} f20)
          ∗ ∃ (f21' : BufTy.Contents (Elt F) arg21.view.ty) (f22' : BufTy.Contents (Elt F) arg22.view.ty), (arg21.view.loc (c : Thread nD τ) ↦[arg21.view.set]{fullShare} f21') ∗ (arg22.view.loc (c : Thread nD τ) ↦[arg22.view.set]{fullShare} f22')
            ∗ ⌜((a, colT (arg21.view.read (Elt F) f21'), colT (arg22.view.read (Elt F) f22')) : Walk F)
              = walk (tiles arg5 arg9 arg10 arg11 arg12 arg13 arg14 arg15 arg16 arg17 arg18 arg19 arg20 f5 f9 f10 f11 f12 f13 f14 f15 f16 f17 f18 f19 f20) (qi k2) (carry0, colT (arg21.view.read (Elt F) f21), colT (arg22.view.read (Elt F) f22)) k⌝)) $$ [H9 H10 H11 H12 H13 H14 H15 H16 H17 H18 H19 H20 H21 H22]
  case region =>
    intro k a
    iintro ⟨H9, H10, H11, H12, H13, H14, H15, H16, H17, H18, H19, H20, %g21, %g22, H21, H22, %h⟩
    iapply (wp_wand_r Idealize.ShloMosaic.frame (wpE (defs₀ (F := F)) 𝒱 (c : Thread nD τ) bd) E)
    isplitl [H9 H10 H11 H12 H13 H14 H15 H16 H17 H18 H19 H20 H21 H22]
    · iapply (trip3 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 𝒱 c bd k2 _ f5 f9 f10 f11 f12 f13 f14 f15 f16 f17 f18 f19 f20 g21 g22 _ _ (load_sum _ _ (off3 k2) _) (load_sum _ _ (off4 k2) _) k a E)
      isplitl [H9]; · iexact H9
      isplitl [H10]; · iexact H10
      isplitl [H11]; · iexact H11
      isplitl [H12]; · iexact H12
      isplitl [H13]; · iexact H13
      isplitl [H14]; · iexact H14
      isplitl [H15]; · iexact H15
      isplitl [H16]; · iexact H16
      isplitl [H17]; · iexact H17
      isplitl [H18]; · iexact H18
      isplitl [H19]; · iexact H19
      isplitl [H20]; · iexact H20
      isplitl [H21]; · iexact H21
      iexact H22
    · iintro %a' ⟨H9, H10, H11, H12, H13, H14, H15, H16, H17, H18, H19, H20, %g21', %g22', H21, H22, %h'⟩
      isplitl [H9]; · iexact H9
      isplitl [H10]; · iexact H10
      isplitl [H11]; · iexact H11
      isplitl [H12]; · iexact H12
      isplitl [H13]; · iexact H13
      isplitl [H14]; · iexact H14
      isplitl [H15]; · iexact H15
      isplitl [H16]; · iexact H16
      isplitl [H17]; · iexact H17
      isplitl [H18]; · iexact H18
      isplitl [H19]; · iexact H19
      isplitl [H20]; · iexact H20
      iexists g21', g22'
      isplitl [H21]; · iexact H21
      isplitl [H22]; · iexact H22
      ipureintro
      rw [h', h, kj_eq]; rfl
  · isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]; · iexact H19
    isplitl [H20]; · iexact H20
    iexists f21, f22
    isplitl [H21]; · iexact H21
    isplitl [H22]; · iexact H22
    ipureintro; rfl
  · iintro %a ⟨H9, H10, H11, H12, H13, H14, H15, H16, H17, H18, H19, H20, %g21, %g22, H21, H22, %h⟩
    obtain ⟨p0, p1, h0, h1, dq⟩ := a
    sl_respell [k0_t2_body]
    sl_for0 (trips4 k2)
    sl_exec
    sl_step
    isplitl [H5]; · iexact H5
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]; · iexact H19
    isplitl [H20]; · iexact H20
    iexists _, _, _
    isplitl [H6]; · iexact H6
    isplitl [H21]; · iexact H21
    isplitl [H22]; · iexact H22
    ipureintro
    rw [store_col _ _ (off14 k2), store_col _ _ (off14 k2), store_row _ _ (off13 k2)]
    have h' := h.trans (congrArg (walk _ _ _) ((trips3 k2).trans (rfl : k2.val = (qi k2).val)))
    clear h
    rw [row_of_walk _ (qi k2) (rowT (arg6.view.read (Elt F) f6), colT (arg21.view.read (Elt F) f21), colT (arg22.view.read (Elt F) f22)) _ h']
    repeat (delta trip2.sl.r trip2.sl.r_1 trip2.sl.r_2 trip2.sl.r_3 trip2.sl.r_4 trip2.sl.r_5 trip2.sl.r_6 trip2.sl.r_7 trip2.sl.r_8 trip2.sl.r_9 trip2.sl.r_10 trip2.sl.r_11 trip2.sl.r_12 trip2.sl.r_13 trip2.sl.r_14 trip2.sl.r_15 trip2.sl.r_16 trip2.sl.r_17 trip2.sl.r_18)
    simp only [load_row _ _ (off13 k2), load_col _ _ (off14 k2), load_sum _ _ (off3 k2), load_sum _ _ (off4 k2), diag, tiles]

/-- The tile of a trip of the first loop. -/
def ti (k : Fin k0_t1_loop.trips) : Fin 8 := ⟨k.val, trips1 ▸ k.isLt⟩
/-- The tile of a trip of the last loop. -/
def te (k : Fin k0_t5_loop.trips) : Fin 8 := ⟨k.val, trips5 ▸ k.isLt⟩
theorem qi_eq (k : Fin k0_t2_loop.trips) : qi k = Fin.ofNat 8 k.val := Fin.ext (Nat.mod_eq_of_lt (qi k).isLt).symm
theorem ti_eq (k : Fin k0_t1_loop.trips) : ti k = Fin.ofNat 8 k.val := Fin.ext (Nat.mod_eq_of_lt (ti k).isLt).symm
theorem te_eq (k : Fin k0_t5_loop.trips) : te k = Fin.ofNat 8 k.val := Fin.ext (Nat.mod_eq_of_lt (te k).isLt).symm

/-- One trip of the first loop: a tile of every array made. -/
theorem trip1 (k : Fin k0_t1_loop.trips) (f1 : BufTy.Contents (Elt F) arg1.view.ty) (f2 : BufTy.Contents (Elt F) arg2.view.ty) (f3 : BufTy.Contents (Elt F) arg3.view.ty) (f4 : BufTy.Contents (Elt F) arg4.view.ty) (f5 : BufTy.Contents (Elt F) arg5.view.ty) (f9 : BufTy.Contents (Elt F) arg9.view.ty) (f10 : BufTy.Contents (Elt F) arg10.view.ty) (f11 : BufTy.Contents (Elt F) arg11.view.ty) (f12 : BufTy.Contents (Elt F) arg12.view.ty) (f13 : BufTy.Contents (Elt F) arg13.view.ty) (f14 : BufTy.Contents (Elt F) arg14.view.ty) (f15 : BufTy.Contents (Elt F) arg15.view.ty) (f16 : BufTy.Contents (Elt F) arg16.view.ty) (f17 : BufTy.Contents (Elt F) arg17.view.ty) (f18 : BufTy.Contents (Elt F) arg18.view.ty) (f19 : BufTy.Contents (Elt F) arg19.view.ty) (f20 : BufTy.Contents (Elt F) arg20.view.ty) (E : Set ℕ) :
    iprop((arg1.view.loc (c : Thread nD τ) ↦[arg1.view.set]{fullShare} f1) ∗ (arg2.view.loc (c : Thread nD τ) ↦[arg2.view.set]{fullShare} f2) ∗ (arg3.view.loc (c : Thread nD τ) ↦[arg3.view.set]{fullShare} f3) ∗ (arg4.view.loc (c : Thread nD τ) ↦[arg4.view.set]{fullShare} f4) ∗ (arg9.view.loc (c : Thread nD τ) ↦[arg9.view.set]{fullShare} f9) ∗ (arg10.view.loc (c : Thread nD τ) ↦[arg10.view.set]{fullShare} f10) ∗ (arg11.view.loc (c : Thread nD τ) ↦[arg11.view.set]{fullShare} f11) ∗ (arg12.view.loc (c : Thread nD τ) ↦[arg12.view.set]{fullShare} f12) ∗ (arg13.view.loc (c : Thread nD τ) ↦[arg13.view.set]{fullShare} f13) ∗ (arg14.view.loc (c : Thread nD τ) ↦[arg14.view.set]{fullShare} f14) ∗ (arg15.view.loc (c : Thread nD τ) ↦[arg15.view.set]{fullShare} f15) ∗ (arg16.view.loc (c : Thread nD τ) ↦[arg16.view.set]{fullShare} f16) ∗ (arg17.view.loc (c : Thread nD τ) ↦[arg17.view.set]{fullShare} f17) ∗ (arg18.view.loc (c : Thread nD τ) ↦[arg18.view.set]{fullShare} f18) ∗ (arg19.view.loc (c : Thread nD τ) ↦[arg19.view.set]{fullShare} f19) ∗ (arg20.view.loc (c : Thread nD τ) ↦[arg20.view.set]{fullShare} f20))
      ⊢ wp (Idealize.ShloMosaic.frame : Set ℕ → sProp 𝕄) (wpE (defs₀ (F := F)) 𝒱 (c : Thread nD τ) bd) E
        (k0_t1_body (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 k ⟨⟩)
        ((fun _ => iprop((arg1.view.loc (c : Thread nD τ) ↦[arg1.view.set]{fullShare} f1) ∗ (arg2.view.loc (c : Thread nD τ) ↦[arg2.view.set]{fullShare} f2) ∗ (arg3.view.loc (c : Thread nD τ) ↦[arg3.view.set]{fullShare} f3) ∗ (arg4.view.loc (c : Thread nD τ) ↦[arg4.view.set]{fullShare} f4)
          ∗ ∃ (f9' : BufTy.Contents (Elt F) arg9.view.ty) (f10' : BufTy.Contents (Elt F) arg10.view.ty) (f11' : BufTy.Contents (Elt F) arg11.view.ty) (f12' : BufTy.Contents (Elt F) arg12.view.ty) (f13' : BufTy.Contents (Elt F) arg13.view.ty) (f14' : BufTy.Contents (Elt F) arg14.view.ty) (f15' : BufTy.Contents (Elt F) arg15.view.ty) (f16' : BufTy.Contents (Elt F) arg16.view.ty) (f17' : BufTy.Contents (Elt F) arg17.view.ty) (f18' : BufTy.Contents (Elt F) arg18.view.ty) (f19' : BufTy.Contents (Elt F) arg19.view.ty) (f20' : BufTy.Contents (Elt F) arg20.view.ty), (arg9.view.loc (c : Thread nD τ) ↦[arg9.view.set]{fullShare} f9') ∗ (arg10.view.loc (c : Thread nD τ) ↦[arg10.view.set]{fullShare} f10') ∗ (arg11.view.loc (c : Thread nD τ) ↦[arg11.view.set]{fullShare} f11') ∗ (arg12.view.loc (c : Thread nD τ) ↦[arg12.view.set]{fullShare} f12') ∗ (arg13.view.loc (c : Thread nD τ) ↦[arg13.view.set]{fullShare} f13') ∗ (arg14.view.loc (c : Thread nD τ) ↦[arg14.view.set]{fullShare} f14') ∗ (arg15.view.loc (c : Thread nD τ) ↦[arg15.view.set]{fullShare} f15') ∗ (arg16.view.loc (c : Thread nD τ) ↦[arg16.view.set]{fullShare} f16') ∗ (arg17.view.loc (c : Thread nD τ) ↦[arg17.view.set]{fullShare} f17') ∗ (arg18.view.loc (c : Thread nD τ) ↦[arg18.view.set]{fullShare} f18') ∗ (arg19.view.loc (c : Thread nD τ) ↦[arg19.view.set]{fullShare} f19') ∗ (arg20.view.loc (c : Thread nD τ) ↦[arg20.view.set]{fullShare} f20')
            ∗ ⌜tiles arg5 arg9 arg10 arg11 arg12 arg13 arg14 arg15 arg16 arg17 arg18 arg19 arg20 f5 f9' f10' f11' f12' f13' f14' f15' f16' f17' f18' f19' f20' = setTile (prep (arg1.view.read (Elt F) f1) (arg2.view.read (Elt F) f2) (arg3.view.read (Elt F) f3) (arg4.view.read (Elt F) f4) (arg5.view.read (Elt F) f5)) (tiles arg5 arg9 arg10 arg11 arg12 arg13 arg14 arg15 arg16 arg17 arg18 arg19 arg20 f5 f9 f10 f11 f12 f13 f14 f15 f16 f17 f18 f19 f20) (ti k)⌝) : Unit → sProp 𝕄)) := by
  unfold k0_t1_body
  simp only [k0_part1_eq_skeleton, k0_part2_eq_skeleton]
  iintro ⟨H1, H2, H3, H4, H9, H10, H11, H12, H13, H14, H15, H16, H17, H18, H19, H20⟩
  sl_exec
  sl_step
  isplitl [H1]; · iexact H1
  isplitl [H2]; · iexact H2
  isplitl [H3]; · iexact H3
  isplitl [H4]; · iexact H4
  iexists _, _, _, _, _, _, _, _, _, _, _, _
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  ipureintro
  have e1 : k0_off1 k = ![256 * (ti k).val, 0] := off1 k
  have e2 : k0_off2 k = ![0, 256 * (ti k).val] := off2 k
  unfold tiles setTile prep
  repeat (delta trip1.sl.r trip1.sl.r_1 trip1.sl.r_2 trip1.sl.r_3 trip1.sl.r_4 trip1.sl.r_5 trip1.sl.r_6)
  simp only [store_row _ _ e1, store_col _ _ e2, load_row _ _ e1]

/-- One trip of the last loop: a tile of the key and value gradients turned and rounded. -/
theorem trip5 (k : Fin k0_t5_loop.trips) (f7 : BufTy.Contents (Elt F) arg7.view.ty) (f8 : BufTy.Contents (Elt F) arg8.view.ty) (f21 : BufTy.Contents (Elt F) arg21.view.ty) (f22 : BufTy.Contents (Elt F) arg22.view.ty) (E : Set ℕ) :
    iprop((arg7.view.loc (c : Thread nD τ) ↦[arg7.view.set]{fullShare} f7) ∗ (arg8.view.loc (c : Thread nD τ) ↦[arg8.view.set]{fullShare} f8) ∗ (arg21.view.loc (c : Thread nD τ) ↦[arg21.view.set]{fullShare} f21) ∗ (arg22.view.loc (c : Thread nD τ) ↦[arg22.view.set]{fullShare} f22))
      ⊢ wp (Idealize.ShloMosaic.frame : Set ℕ → sProp 𝕄) (wpE (defs₀ (F := F)) 𝒱 (c : Thread nD τ) bd) E
        (k0_t5_body (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 k ⟨⟩)
        ((fun _ => iprop((arg21.view.loc (c : Thread nD τ) ↦[arg21.view.set]{fullShare} f21) ∗ (arg22.view.loc (c : Thread nD τ) ↦[arg22.view.set]{fullShare} f22)
          ∗ ∃ (f7' : BufTy.Contents (Elt F) arg7.view.ty) (f8' : BufTy.Contents (Elt F) arg8.view.ty), (arg7.view.loc (c : Thread nD τ) ↦[arg7.view.set]{fullShare} f7') ∗ (arg8.view.loc (c : Thread nD τ) ↦[arg8.view.set]{fullShare} f8')
            ∗ ⌜rowT (arg7.view.read (Elt F) f7') = Function.update (rowT (arg7.view.read (Elt F) f7)) (te k) (k0_pay14 (colT (arg21.view.read (Elt F) f21) (te k)))
              ∧ rowT (arg8.view.read (Elt F) f8') = Function.update (rowT (arg8.view.read (Elt F) f8)) (te k) (k0_pay15 (colT (arg22.view.read (Elt F) f22) (te k)))⌝) : Unit → sProp 𝕄)) := by
  unfold k0_t5_body
  iintro ⟨H7, H8, H21, H22⟩
  sl_exec
  sl_step
  isplitl [H21]; · iexact H21
  isplitl [H22]; · iexact H22
  iexists _, _
  isplitl [H7]; · iexact H7
  isplitl [H8]; · iexact H8
  ipureintro
  have e1 : k0_off16 k = ![256 * (te k).val, 0] := off16 k
  have e2 : k0_off15 k = ![0, 256 * (te k).val] := off15 k
  rw [store_row _ _ e1, store_row _ _ e1]
  rw [load_col _ _ e2, load_col _ _ e2]
  exact ⟨rfl, rfl⟩

end

end Cert.Kernel2Ideal.Stick

end
-- ==== Proof.StickBody.lean ====
module

public import proofs.«01_k».proof.Proof.Gen.Kernel2Ideal.Frame
public import proofs.«01_k».proof.Proof.Gen.Kernel2Ideal.Skeleton
public import proofs.«01_k».proof.Proof.StickRun

@[expose] public section

set_option maxRecDepth 16384

/-!
The whole body at a grid point: the tiles are made, the gradients cleared, the rows walked and the key and value
gradients turned; from any contents of the scratch and output arrays the outputs are the three gradients.
-/

noncomputable section

namespace Cert.Kernel2Ideal.Stick

open Cert.Kernel2Ideal Cert.Kernel2Ideal.Gen
open Idealize.ShloMosaic Idealize.ShloMosaic.TcCoe Idealize.ShloMosaic.Tactic
open Cert.StickTile
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section

variable (i : grid0.Coords)
  (arg1 : Memref sig .tc .vmem S2048x128 .f32) (harg1 : arg1.IsWhole)
  (arg2 : Memref sig .tc .vmem S2048x128 .f32) (harg2 : arg2.IsWhole)
  (arg3 : Memref sig .tc .vmem S2048x128 .f32) (harg3 : arg3.IsWhole)
  (arg4 : Memref sig .tc .vmem S2048x128 .f32) (harg4 : arg4.IsWhole)
  (arg5 : Memref sig .tc .vmem S2x2048x1 .f32) (harg5 : arg5.IsWhole)
  (arg6 : Memref sig .tc .vmem S2048x128 .bf16) (harg6 : arg6.IsWhole)
  (arg7 : Memref sig .tc .vmem S2048x128 .bf16) (harg7 : arg7.IsWhole)
  (arg8 : Memref sig .tc .vmem S2048x128 .bf16) (harg8 : arg8.IsWhole)
  (arg9 : Memref sig .tc .vmem S2048x128 .bf16) (harg9 : arg9.IsWhole)
  (arg10 : Memref sig .tc .vmem S2048x128 .bf16) (harg10 : arg10.IsWhole)
  (arg11 : Memref sig .tc .vmem S2048x128 .bf16) (harg11 : arg11.IsWhole)
  (arg12 : Memref sig .tc .vmem S2048x128 .bf16) (harg12 : arg12.IsWhole)
  (arg13 : Memref sig .tc .vmem S2048x128 .bf16) (harg13 : arg13.IsWhole)
  (arg14 : Memref sig .tc .vmem S2048x128 .bf16) (harg14 : arg14.IsWhole)
  (arg15 : Memref sig .tc .vmem S2048x128 .bf16) (harg15 : arg15.IsWhole)
  (arg16 : Memref sig .tc .vmem S2048x128 .bf16) (harg16 : arg16.IsWhole)
  (arg17 : Memref sig .tc .vmem S128x2048 .bf16) (harg17 : arg17.IsWhole)
  (arg18 : Memref sig .tc .vmem S128x2048 .bf16) (harg18 : arg18.IsWhole)
  (arg19 : Memref sig .tc .vmem S128x2048 .bf16) (harg19 : arg19.IsWhole)
  (arg20 : Memref sig .tc .vmem S128x2048 .bf16) (harg20 : arg20.IsWhole)
  (arg21 : Memref sig .tc .vmem S128x2048 .f32) (harg21 : arg21.IsWhole)
  (arg22 : Memref sig .tc .vmem S128x2048 .f32) (harg22 : arg22.IsWhole)

variable (𝒱 : Variants) (c : Dev nD) (bd : Option 𝒱.V)

set_option maxRecDepth 65536 in
set_option maxHeartbeats 1000000 in
/-- The body: from whole arrays with any contents, the inputs stay and the three outputs are the three gradients. -/
theorem body_run (f1 : BufTy.Contents (Elt F) arg1.view.ty) (f2 : BufTy.Contents (Elt F) arg2.view.ty) (f3 : BufTy.Contents (Elt F) arg3.view.ty) (f4 : BufTy.Contents (Elt F) arg4.view.ty) (f5 : BufTy.Contents (Elt F) arg5.view.ty) (f6 : BufTy.Contents (Elt F) arg6.view.ty) (f7 : BufTy.Contents (Elt F) arg7.view.ty) (f8 : BufTy.Contents (Elt F) arg8.view.ty) (f9 : BufTy.Contents (Elt F) arg9.view.ty) (f10 : BufTy.Contents (Elt F) arg10.view.ty) (f11 : BufTy.Contents (Elt F) arg11.view.ty) (f12 : BufTy.Contents (Elt F) arg12.view.ty) (f13 : BufTy.Contents (Elt F) arg13.view.ty) (f14 : BufTy.Contents (Elt F) arg14.view.ty) (f15 : BufTy.Contents (Elt F) arg15.view.ty) (f16 : BufTy.Contents (Elt F) arg16.view.ty) (f17 : BufTy.Contents (Elt F) arg17.view.ty) (f18 : BufTy.Contents (Elt F) arg18.view.ty) (f19 : BufTy.Contents (Elt F) arg19.view.ty) (f20 : BufTy.Contents (Elt F) arg20.view.ty) (f21 : BufTy.Contents (Elt F) arg21.view.ty) (f22 : BufTy.Contents (Elt F) arg22.view.ty) (E : Set ℕ) :
    iprop((arg1.view.loc (c : Thread nD τ) ↦[arg1.view.set]{fullShare} f1) ∗ (arg2.view.loc (c : Thread nD τ) ↦[arg2.view.set]{fullShare} f2) ∗ (arg3.view.loc (c : Thread nD τ) ↦[arg3.view.set]{fullShare} f3) ∗ (arg4.view.loc (c : Thread nD τ) ↦[arg4.view.set]{fullShare} f4) ∗ (arg5.view.loc (c : Thread nD τ) ↦[arg5.view.set]{fullShare} f5) ∗ (arg6.view.loc (c : Thread nD τ) ↦[arg6.view.set]{fullShare} f6) ∗ (arg7.view.loc (c : Thread nD τ) ↦[arg7.view.set]{fullShare} f7) ∗ (arg8.view.loc (c : Thread nD τ) ↦[arg8.view.set]{fullShare} f8) ∗ (arg9.view.loc (c : Thread nD τ) ↦[arg9.view.set]{fullShare} f9) ∗ (arg10.view.loc (c : Thread nD τ) ↦[arg10.view.set]{fullShare} f10) ∗ (arg11.view.loc (c : Thread nD τ) ↦[arg11.view.set]{fullShare} f11) ∗ (arg12.view.loc (c : Thread nD τ) ↦[arg12.view.set]{fullShare} f12) ∗ (arg13.view.loc (c : Thread nD τ) ↦[arg13.view.set]{fullShare} f13) ∗ (arg14.view.loc (c : Thread nD τ) ↦[arg14.view.set]{fullShare} f14) ∗ (arg15.view.loc (c : Thread nD τ) ↦[arg15.view.set]{fullShare} f15) ∗ (arg16.view.loc (c : Thread nD τ) ↦[arg16.view.set]{fullShare} f16) ∗ (arg17.view.loc (c : Thread nD τ) ↦[arg17.view.set]{fullShare} f17) ∗ (arg18.view.loc (c : Thread nD τ) ↦[arg18.view.set]{fullShare} f18) ∗ (arg19.view.loc (c : Thread nD τ) ↦[arg19.view.set]{fullShare} f19) ∗ (arg20.view.loc (c : Thread nD τ) ↦[arg20.view.set]{fullShare} f20) ∗ (arg21.view.loc (c : Thread nD τ) ↦[arg21.view.set]{fullShare} f21) ∗ (arg22.view.loc (c : Thread nD τ) ↦[arg22.view.set]{fullShare} f22))
      ⊢ wp (Idealize.ShloMosaic.frame : Set ℕ → sProp 𝕄) (wpE (defs₀ (F := F)) 𝒱 (c : Thread nD τ) bd) E
        (cc0_sb_bwd (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22)
        ((fun _ => iprop((arg1.view.loc (c : Thread nD τ) ↦[arg1.view.set]{fullShare} f1) ∗ (arg2.view.loc (c : Thread nD τ) ↦[arg2.view.set]{fullShare} f2) ∗ (arg3.view.loc (c : Thread nD τ) ↦[arg3.view.set]{fullShare} f3) ∗ (arg4.view.loc (c : Thread nD τ) ↦[arg4.view.set]{fullShare} f4) ∗ (arg5.view.loc (c : Thread nD τ) ↦[arg5.view.set]{fullShare} f5)
          ∗ ∃ (f6' : BufTy.Contents (Elt F) arg6.view.ty) (f7' : BufTy.Contents (Elt F) arg7.view.ty) (f8' : BufTy.Contents (Elt F) arg8.view.ty) (f9' : BufTy.Contents (Elt F) arg9.view.ty) (f10' : BufTy.Contents (Elt F) arg10.view.ty) (f11' : BufTy.Contents (Elt F) arg11.view.ty) (f12' : BufTy.Contents (Elt F) arg12.view.ty) (f13' : BufTy.Contents (Elt F) arg13.view.ty) (f14' : BufTy.Contents (Elt F) arg14.view.ty) (f15' : BufTy.Contents (Elt F) arg15.view.ty) (f16' : BufTy.Contents (Elt F) arg16.view.ty) (f17' : BufTy.Contents (Elt F) arg17.view.ty) (f18' : BufTy.Contents (Elt F) arg18.view.ty) (f19' : BufTy.Contents (Elt F) arg19.view.ty) (f20' : BufTy.Contents (Elt F) arg20.view.ty) (f21' : BufTy.Contents (Elt F) arg21.view.ty) (f22' : BufTy.Contents (Elt F) arg22.view.ty), (arg6.view.loc (c : Thread nD τ) ↦[arg6.view.set]{fullShare} f6') ∗ (arg7.view.loc (c : Thread nD τ) ↦[arg7.view.set]{fullShare} f7') ∗ (arg8.view.loc (c : Thread nD τ) ↦[arg8.view.set]{fullShare} f8') ∗ (arg9.view.loc (c : Thread nD τ) ↦[arg9.view.set]{fullShare} f9') ∗ (arg10.view.loc (c : Thread nD τ) ↦[arg10.view.set]{fullShare} f10') ∗ (arg11.view.loc (c : Thread nD τ) ↦[arg11.view.set]{fullShare} f11') ∗ (arg12.view.loc (c : Thread nD τ) ↦[arg12.view.set]{fullShare} f12') ∗ (arg13.view.loc (c : Thread nD τ) ↦[arg13.view.set]{fullShare} f13') ∗ (arg14.view.loc (c : Thread nD τ) ↦[arg14.view.set]{fullShare} f14') ∗ (arg15.view.loc (c : Thread nD τ) ↦[arg15.view.set]{fullShare} f15') ∗ (arg16.view.loc (c : Thread nD τ) ↦[arg16.view.set]{fullShare} f16') ∗ (arg17.view.loc (c : Thread nD τ) ↦[arg17.view.set]{fullShare} f17') ∗ (arg18.view.loc (c : Thread nD τ) ↦[arg18.view.set]{fullShare} f18') ∗ (arg19.view.loc (c : Thread nD τ) ↦[arg19.view.set]{fullShare} f19') ∗ (arg20.view.loc (c : Thread nD τ) ↦[arg20.view.set]{fullShare} f20') ∗ (arg21.view.loc (c : Thread nD τ) ↦[arg21.view.set]{fullShare} f21') ∗ (arg22.view.loc (c : Thread nD τ) ↦[arg22.view.set]{fullShare} f22')
            ∗ ⌜arg6.view.read (Elt F) f6' = dq (prep (arg1.view.read (Elt F) f1) (arg2.view.read (Elt F) f2) (arg3.view.read (Elt F) f3) (arg4.view.read (Elt F) f4) (arg5.view.read (Elt F) f5))
              ∧ arg7.view.read (Elt F) f7' = dk (prep (arg1.view.read (Elt F) f1) (arg2.view.read (Elt F) f2) (arg3.view.read (Elt F) f3) (arg4.view.read (Elt F) f4) (arg5.view.read (Elt F) f5))
              ∧ arg8.view.read (Elt F) f8' = dv (prep (arg1.view.read (Elt F) f1) (arg2.view.read (Elt F) f2) (arg3.view.read (Elt F) f3) (arg4.view.read (Elt F) f4) (arg5.view.read (Elt F) f5))⌝) : PUnit → sProp 𝕄)) := by
  rw [cc0_sb_bwd_eq_skeleton]
  unfold cc0_sb_bwd_skel
  iintro ⟨H1, H2, H3, H4, H5, H6, H7, H8, H9, H10, H11, H12, H13, H14, H15, H16, H17, H18, H19, H20, H21, H22⟩
  sl_for (fun (k : ℕ) (_ : Unit) => iprop((arg1.view.loc (c : Thread nD τ) ↦[arg1.view.set]{fullShare} f1) ∗ (arg2.view.loc (c : Thread nD τ) ↦[arg2.view.set]{fullShare} f2) ∗ (arg3.view.loc (c : Thread nD τ) ↦[arg3.view.set]{fullShare} f3) ∗ (arg4.view.loc (c : Thread nD τ) ↦[arg4.view.set]{fullShare} f4)
          ∗ ∃ (f9' : BufTy.Contents (Elt F) arg9.view.ty) (f10' : BufTy.Contents (Elt F) arg10.view.ty) (f11' : BufTy.Contents (Elt F) arg11.view.ty) (f12' : BufTy.Contents (Elt F) arg12.view.ty) (f13' : BufTy.Contents (Elt F) arg13.view.ty) (f14' : BufTy.Contents (Elt F) arg14.view.ty) (f15' : BufTy.Contents (Elt F) arg15.view.ty) (f16' : BufTy.Contents (Elt F) arg16.view.ty) (f17' : BufTy.Contents (Elt F) arg17.view.ty) (f18' : BufTy.Contents (Elt F) arg18.view.ty) (f19' : BufTy.Contents (Elt F) arg19.view.ty) (f20' : BufTy.Contents (Elt F) arg20.view.ty), (arg9.view.loc (c : Thread nD τ) ↦[arg9.view.set]{fullShare} f9') ∗ (arg10.view.loc (c : Thread nD τ) ↦[arg10.view.set]{fullShare} f10') ∗ (arg11.view.loc (c : Thread nD τ) ↦[arg11.view.set]{fullShare} f11') ∗ (arg12.view.loc (c : Thread nD τ) ↦[arg12.view.set]{fullShare} f12') ∗ (arg13.view.loc (c : Thread nD τ) ↦[arg13.view.set]{fullShare} f13') ∗ (arg14.view.loc (c : Thread nD τ) ↦[arg14.view.set]{fullShare} f14') ∗ (arg15.view.loc (c : Thread nD τ) ↦[arg15.view.set]{fullShare} f15') ∗ (arg16.view.loc (c : Thread nD τ) ↦[arg16.view.set]{fullShare} f16') ∗ (arg17.view.loc (c : Thread nD τ) ↦[arg17.view.set]{fullShare} f17') ∗ (arg18.view.loc (c : Thread nD τ) ↦[arg18.view.set]{fullShare} f18') ∗ (arg19.view.loc (c : Thread nD τ) ↦[arg19.view.set]{fullShare} f19') ∗ (arg20.view.loc (c : Thread nD τ) ↦[arg20.view.set]{fullShare} f20')
            ∗ ⌜tiles arg5 arg9 arg10 arg11 arg12 arg13 arg14 arg15 arg16 arg17 arg18 arg19 arg20 f5 f9' f10' f11' f12' f13' f14' f15' f16' f17' f18' f19' f20' = fill (prep (arg1.view.read (Elt F) f1) (arg2.view.read (Elt F) f2) (arg3.view.read (Elt F) f3) (arg4.view.read (Elt F) f4) (arg5.view.read (Elt F) f5)) (tiles arg5 arg9 arg10 arg11 arg12 arg13 arg14 arg15 arg16 arg17 arg18 arg19 arg20 f5 f9 f10 f11 f12 f13 f14 f15 f16 f17 f18 f19 f20) k⌝)) $$ [H1 H2 H3 H4 H9 H10 H11 H12 H13 H14 H15 H16 H17 H18 H19 H20]
  case region =>
    intro k a
    iintro ⟨H1, H2, H3, H4, %g9, %g10, %g11, %g12, %g13, %g14, %g15, %g16, %g17, %g18, %g19, %g20, H9, H10, H11, H12, H13, H14, H15, H16, H17, H18, H19, H20, %h⟩
    iapply (wp_wand_r Idealize.ShloMosaic.frame (wpE (defs₀ (F := F)) 𝒱 (c : Thread nD τ) bd) E)
    isplitl [H1 H2 H3 H4 H9 H10 H11 H12 H13 H14 H15 H16 H17 H18 H19 H20]
    · iapply (trip1 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 𝒱 c bd k f1 f2 f3 f4 f5 g9 g10 g11 g12 g13 g14 g15 g16 g17 g18 g19 g20 E)
      isplitl [H1]; · iexact H1
      isplitl [H2]; · iexact H2
      isplitl [H3]; · iexact H3
      isplitl [H4]; · iexact H4
      isplitl [H9]; · iexact H9
      isplitl [H10]; · iexact H10
      isplitl [H11]; · iexact H11
      isplitl [H12]; · iexact H12
      isplitl [H13]; · iexact H13
      isplitl [H14]; · iexact H14
      isplitl [H15]; · iexact H15
      isplitl [H16]; · iexact H16
      isplitl [H17]; · iexact H17
      isplitl [H18]; · iexact H18
      isplitl [H19]; · iexact H19
      iexact H20
    · iintro %a' ⟨H1, H2, H3, H4, %k9, %k10, %k11, %k12, %k13, %k14, %k15, %k16, %k17, %k18, %k19, %k20, H9, H10, H11, H12, H13, H14, H15, H16, H17, H18, H19, H20, %h'⟩
      isplitl [H1]; · iexact H1
      isplitl [H2]; · iexact H2
      isplitl [H3]; · iexact H3
      isplitl [H4]; · iexact H4
      iexists k9, k10, k11, k12, k13, k14, k15, k16, k17, k18, k19, k20
      isplitl [H9]; · iexact H9
      isplitl [H10]; · iexact H10
      isplitl [H11]; · iexact H11
      isplitl [H12]; · iexact H12
      isplitl [H13]; · iexact H13
      isplitl [H14]; · iexact H14
      isplitl [H15]; · iexact H15
      isplitl [H16]; · iexact H16
      isplitl [H17]; · iexact H17
      isplitl [H18]; · iexact H18
      isplitl [H19]; · iexact H19
      isplitl [H20]; · iexact H20
      ipureintro
      rw [h', h, ti_eq]; rfl
  · isplitl [H1]; · iexact H1
    isplitl [H2]; · iexact H2
    isplitl [H3]; · iexact H3
    isplitl [H4]; · iexact H4
    iexists f9, f10, f11, f12, f13, f14, f15, f16, f17, f18, f19, f20
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]; · iexact H19
    isplitl [H20]; · iexact H20
    ipureintro; rfl
  iintro %a ⟨H1, H2, H3, H4, %g9, %g10, %g11, %g12, %g13, %g14, %g15, %g16, %g17, %g18, %g19, %g20, H9, H10, H11, H12, H13, H14, H15, H16, H17, H18, H19, H20, %h⟩
  have hT : tiles arg5 arg9 arg10 arg11 arg12 arg13 arg14 arg15 arg16 arg17 arg18 arg19 arg20 f5 g9 g10 g11 g12 g13 g14 g15 g16 g17 g18 g19 g20 = prep (arg1.view.read (Elt F) f1) (arg2.view.read (Elt F) f2) (arg3.view.read (Elt F) f3) (arg4.view.read (Elt F) f4) (arg5.view.read (Elt F) f5) :=
    (h.trans (congrArg (fill _ _) trips1)).trans (fill_8 _ _ rfl rfl)
  clear h
  sl_exec
  sl_for (fun (k : ℕ) (_ : Unit) => iprop((arg5.view.loc (c : Thread nD τ) ↦[arg5.view.set]{fullShare} f5) ∗ (arg9.view.loc (c : Thread nD τ) ↦[arg9.view.set]{fullShare} g9) ∗ (arg10.view.loc (c : Thread nD τ) ↦[arg10.view.set]{fullShare} g10) ∗ (arg11.view.loc (c : Thread nD τ) ↦[arg11.view.set]{fullShare} g11) ∗ (arg12.view.loc (c : Thread nD τ) ↦[arg12.view.set]{fullShare} g12) ∗ (arg13.view.loc (c : Thread nD τ) ↦[arg13.view.set]{fullShare} g13) ∗ (arg14.view.loc (c : Thread nD τ) ↦[arg14.view.set]{fullShare} g14) ∗ (arg15.view.loc (c : Thread nD τ) ↦[arg15.view.set]{fullShare} g15) ∗ (arg16.view.loc (c : Thread nD τ) ↦[arg16.view.set]{fullShare} g16) ∗ (arg17.view.loc (c : Thread nD τ) ↦[arg17.view.set]{fullShare} g17) ∗ (arg18.view.loc (c : Thread nD τ) ↦[arg18.view.set]{fullShare} g18) ∗ (arg19.view.loc (c : Thread nD τ) ↦[arg19.view.set]{fullShare} g19) ∗ (arg20.view.loc (c : Thread nD τ) ↦[arg20.view.set]{fullShare} g20)
          ∗ ∃ (f6' : BufTy.Contents (Elt F) arg6.view.ty) (f21' : BufTy.Contents (Elt F) arg21.view.ty) (f22' : BufTy.Contents (Elt F) arg22.view.ty), (arg6.view.loc (c : Thread nD τ) ↦[arg6.view.set]{fullShare} f6') ∗ (arg21.view.loc (c : Thread nD τ) ↦[arg21.view.set]{fullShare} f21') ∗ (arg22.view.loc (c : Thread nD τ) ↦[arg22.view.set]{fullShare} f22')
            ∗ ⌜((rowT (arg6.view.read (Elt F) f6'), colT (arg21.view.read (Elt F) f21'), colT (arg22.view.read (Elt F) f22')) : Grads F)
              = rows (prep (arg1.view.read (Elt F) f1) (arg2.view.read (Elt F) f2) (arg3.view.read (Elt F) f3) (arg4.view.read (Elt F) f4) (arg5.view.read (Elt F) f5)) (rowT (arg6.view.read (Elt F) f6), (start (F := F)).2) k⌝)) $$ [H5 H9 H10 H11 H12 H13 H14 H15 H16 H17 H18 H19 H20 H6 H21 H22]
  case region =>
    intro k a
    iintro ⟨H5, H9, H10, H11, H12, H13, H14, H15, H16, H17, H18, H19, H20, %g6, %g21, %g22, H6, H21, H22, %h⟩
    iapply (wp_wand_r Idealize.ShloMosaic.frame (wpE (defs₀ (F := F)) 𝒱 (c : Thread nD τ) bd) E)
    isplitl [H5 H9 H10 H11 H12 H13 H14 H15 H16 H17 H18 H19 H20 H6 H21 H22]
    · iapply (trip2 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 𝒱 c bd k f5 g9 g10 g11 g12 g13 g14 g15 g16 g17 g18 g19 g20 g6 g21 g22 E)
      isplitl [H5]; · iexact H5
      isplitl [H9]; · iexact H9
      isplitl [H10]; · iexact H10
      isplitl [H11]; · iexact H11
      isplitl [H12]; · iexact H12
      isplitl [H13]; · iexact H13
      isplitl [H14]; · iexact H14
      isplitl [H15]; · iexact H15
      isplitl [H16]; · iexact H16
      isplitl [H17]; · iexact H17
      isplitl [H18]; · iexact H18
      isplitl [H19]; · iexact H19
      isplitl [H20]; · iexact H20
      isplitl [H6]; · iexact H6
      isplitl [H21]; · iexact H21
      iexact H22
    · iintro %a' ⟨H5, H9, H10, H11, H12, H13, H14, H15, H16, H17, H18, H19, H20, %k6, %k21, %k22, H6, H21, H22, %h'⟩
      isplitl [H5]; · iexact H5
      isplitl [H9]; · iexact H9
      isplitl [H10]; · iexact H10
      isplitl [H11]; · iexact H11
      isplitl [H12]; · iexact H12
      isplitl [H13]; · iexact H13
      isplitl [H14]; · iexact H14
      isplitl [H15]; · iexact H15
      isplitl [H16]; · iexact H16
      isplitl [H17]; · iexact H17
      isplitl [H18]; · iexact H18
      isplitl [H19]; · iexact H19
      isplitl [H20]; · iexact H20
      iexists k6, k21, k22
      isplitl [H6]; · iexact H6
      isplitl [H21]; · iexact H21
      isplitl [H22]; · iexact H22
      ipureintro
      rw [h', h, hT, qi_eq]; rfl
  · isplitl [H5]; · iexact H5
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]; · iexact H19
    isplitl [H20]; · iexact H20
    iexists _, _, _
    isplitl [H6]; · iexact H6
    isplitl [H21]; · iexact H21
    isplitl [H22]; · iexact H22
    ipureintro
    delta body_run.sl.H21_1 body_run.sl.H22_1
    rw [store_all, store_all]; rfl
  iintro %a2 ⟨H5, H9, H10, H11, H12, H13, H14, H15, H16, H17, H18, H19, H20, %g6, %g21, %g22, H6, H21, H22, %hG⟩
  sl_for (fun (k : ℕ) (_ : Unit) => iprop((arg21.view.loc (c : Thread nD τ) ↦[arg21.view.set]{fullShare} g21) ∗ (arg22.view.loc (c : Thread nD τ) ↦[arg22.view.set]{fullShare} g22)
          ∗ ∃ (f7' : BufTy.Contents (Elt F) arg7.view.ty) (f8' : BufTy.Contents (Elt F) arg8.view.ty), (arg7.view.loc (c : Thread nD τ) ↦[arg7.view.set]{fullShare} f7') ∗ (arg8.view.loc (c : Thread nD τ) ↦[arg8.view.set]{fullShare} f8')
            ∗ ⌜rowT (arg7.view.read (Elt F) f7') = fillF (fun t => k0_pay14 (colT (arg21.view.read (Elt F) g21) t)) (rowT (arg7.view.read (Elt F) f7)) k
              ∧ rowT (arg8.view.read (Elt F) f8') = fillF (fun t => k0_pay15 (colT (arg22.view.read (Elt F) g22) t)) (rowT (arg8.view.read (Elt F) f8)) k⌝)) $$ [H7 H8 H21 H22]
  case region =>
    intro k a
    iintro ⟨H21, H22, %g7, %g8, H7, H8, %h7, %h8⟩
    iapply (wp_wand_r Idealize.ShloMosaic.frame (wpE (defs₀ (F := F)) 𝒱 (c : Thread nD τ) bd) E)
    isplitl [H7 H8 H21 H22]
    · iapply (trip5 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 𝒱 c bd k g7 g8 g21 g22 E)
      isplitl [H7]; · iexact H7
      isplitl [H8]; · iexact H8
      isplitl [H21]; · iexact H21
      iexact H22
    · iintro %a' ⟨H21, H22, %k7, %k8, H7, H8, %h7', %h8'⟩
      isplitl [H21]; · iexact H21
      isplitl [H22]; · iexact H22
      iexists k7, k8
      isplitl [H7]; · iexact H7
      isplitl [H8]; · iexact H8
      ipureintro
      rw [h7', h7, h8', h8, te_eq]; exact ⟨rfl, rfl⟩
  · isplitl [H21]; · iexact H21
    isplitl [H22]; · iexact H22
    iexists f7, f8
    isplitl [H7]; · iexact H7
    isplitl [H8]; · iexact H8
    ipureintro; exact ⟨rfl, rfl⟩
  iintro %a3 ⟨H21, H22, %g7, %g8, H7, H8, %h7, %h8⟩
  sl_step
  isplitl [H1]; · iexact H1
  isplitl [H2]; · iexact H2
  isplitl [H3]; · iexact H3
  isplitl [H4]; · iexact H4
  isplitl [H5]; · iexact H5
  iexists g6, g7, g8, g9, g10, g11, g12, g13, g14, g15, g16, g17, g18, g19, g20, g21, g22
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  ipureintro
  have hG' := hG.trans (congrArg (rows _ _) trips2)
  have e2 := (congrArg Prod.snd hG').trans (rows_snd (prep (arg1.view.read (Elt F) f1) (arg2.view.read (Elt F) f2) (arg3.view.read (Elt F) f3) (arg4.view.read (Elt F) f4) (arg5.view.read (Elt F) f5)) (rowT (arg6.view.read (Elt F) f6), (start (F := F)).2) start rfl 8)
  have h7' := h7.trans ((congrArg (fillF _ _) trips5).trans (fillF_8 _ _))
  have h8' := h8.trans ((congrArg (fillF _ _) trips5).trans (fillF_8 _ _))
  clear h7 h8 hG hT
  refine ⟨?_, ?_, ?_⟩
  · exact eq_dq _ _ (rowT (arg6.view.read (Elt F) f6), (start (F := F)).2) rfl (congrArg Prod.fst hG')
  · exact eq_dk _ _ _ (congrArg Prod.fst e2) h7'
  · exact eq_dv _ _ _ (congrArg Prod.snd e2) h8'

end

end Cert.Kernel2Ideal.Stick

end
-- ==== Proof.StickFrame.lean ====
module

public import proofs.«01_k».proof.Proof.Gen.Kernel2Ideal.Frame
public import proofs.«01_k».proof.Proof.Gen.Kernel2Ideal.Skeleton
public import proofs.«01_k».proof.Proof.StickBody
public import proofs.«01_k».proof.Proof.Gen.Kernel2Ideal.Frame
public import Idealize.ShloMosaic.Lib.Claim

@[expose] public section

set_option maxRecDepth 16384

/-!
The launch over the grid: every point leaves the three gradients of its blocks; the arguments are unchanged and the
counters are zero at the end.
-/

noncomputable section

namespace Cert.Kernel2Ideal.Stick

open Cert.Kernel2Ideal Cert.Kernel2Ideal.Gen
open Idealize.ShloMosaic Idealize.ShloMosaic.TcCoe Idealize.ShloMosaic.Tactic
open Cert.StickTile
open Idealize.ShloMosaic.Pipeline (Dat Cfg Window BodyObligation cellOf)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section

variable (m : (ℓ : Loc nD τ sig) → Buf (Elt F) ℓ) (ρ : Dev nD → PrngReg)

/-- Window 0's current staging buffer at a point, and its wholeness. -/
abbrev ms0_0 (t : Fin cfg0.N) : Memref sig .tc .vmem S2048x128 .f32 := win0_0.stage (cfg0.slots t 0)
abbrev hs0_0 (t : Fin cfg0.N) : (ms0_0 t).IsWhole := hstage0_0 ((cfg0.slots t 0).cast nbuf0_0)
/-- Window 1's current staging buffer at a point, and its wholeness. -/
abbrev ms0_1 (t : Fin cfg0.N) : Memref sig .tc .vmem S2048x128 .f32 := win0_1.stage (cfg0.slots t 1)
abbrev hs0_1 (t : Fin cfg0.N) : (ms0_1 t).IsWhole := hstage0_1 ((cfg0.slots t 1).cast nbuf0_1)
/-- Window 2's current staging buffer at a point, and its wholeness. -/
abbrev ms0_2 (t : Fin cfg0.N) : Memref sig .tc .vmem S2048x128 .f32 := win0_2.stage (cfg0.slots t 2)
abbrev hs0_2 (t : Fin cfg0.N) : (ms0_2 t).IsWhole := hstage0_2 ((cfg0.slots t 2).cast nbuf0_2)
/-- Window 3's current staging buffer at a point, and its wholeness. -/
abbrev ms0_3 (t : Fin cfg0.N) : Memref sig .tc .vmem S2048x128 .f32 := win0_3.stage (cfg0.slots t 3)
abbrev hs0_3 (t : Fin cfg0.N) : (ms0_3 t).IsWhole := hstage0_3 ((cfg0.slots t 3).cast nbuf0_3)
/-- Window 4's current staging buffer at a point, and its wholeness. -/
abbrev ms0_4 (t : Fin cfg0.N) : Memref sig .tc .vmem S2x2048x1 .f32 := win0_4.stage (cfg0.slots t 4)
abbrev hs0_4 (t : Fin cfg0.N) : (ms0_4 t).IsWhole := hstage0_4 ((cfg0.slots t 4).cast nbuf0_4)
/-- Window 5's current staging buffer at a point, and its wholeness. -/
abbrev ms0_5 (t : Fin cfg0.N) : Memref sig .tc .vmem S2048x128 .bf16 := win0_5.stage (cfg0.slots t 5)
abbrev hs0_5 (t : Fin cfg0.N) : (ms0_5 t).IsWhole := hstage0_5 ((cfg0.slots t 5).cast nbuf0_5)
/-- Window 6's current staging buffer at a point, and its wholeness. -/
abbrev ms0_6 (t : Fin cfg0.N) : Memref sig .tc .vmem S2048x128 .bf16 := win0_6.stage (cfg0.slots t 6)
abbrev hs0_6 (t : Fin cfg0.N) : (ms0_6 t).IsWhole := hstage0_6 ((cfg0.slots t 6).cast nbuf0_6)
/-- Window 7's current staging buffer at a point, and its wholeness. -/
abbrev ms0_7 (t : Fin cfg0.N) : Memref sig .tc .vmem S2048x128 .bf16 := win0_7.stage (cfg0.slots t 7)
abbrev hs0_7 (t : Fin cfg0.N) : (ms0_7 t).IsWhole := hstage0_7 ((cfg0.slots t 7).cast nbuf0_7)
/-- Scratch array 0. -/
abbrev scM0_0 : Memref sig .tc .vmem S2048x128 .bf16 := Memref.whole cc0_scratch0
/-- Scratch array 1. -/
abbrev scM0_1 : Memref sig .tc .vmem S2048x128 .bf16 := Memref.whole cc0_scratch1
/-- Scratch array 2. -/
abbrev scM0_2 : Memref sig .tc .vmem S2048x128 .bf16 := Memref.whole cc0_scratch2
/-- Scratch array 3. -/
abbrev scM0_3 : Memref sig .tc .vmem S2048x128 .bf16 := Memref.whole cc0_scratch3
/-- Scratch array 4. -/
abbrev scM0_4 : Memref sig .tc .vmem S2048x128 .bf16 := Memref.whole cc0_scratch4
/-- Scratch array 5. -/
abbrev scM0_5 : Memref sig .tc .vmem S2048x128 .bf16 := Memref.whole cc0_scratch5
/-- Scratch array 6. -/
abbrev scM0_6 : Memref sig .tc .vmem S2048x128 .bf16 := Memref.whole cc0_scratch6
/-- Scratch array 7. -/
abbrev scM0_7 : Memref sig .tc .vmem S2048x128 .bf16 := Memref.whole cc0_scratch7
/-- Scratch array 8. -/
abbrev scM0_8 : Memref sig .tc .vmem S128x2048 .bf16 := Memref.whole cc0_scratch8
/-- Scratch array 9. -/
abbrev scM0_9 : Memref sig .tc .vmem S128x2048 .bf16 := Memref.whole cc0_scratch9
/-- Scratch array 10. -/
abbrev scM0_10 : Memref sig .tc .vmem S128x2048 .bf16 := Memref.whole cc0_scratch10
/-- Scratch array 11. -/
abbrev scM0_11 : Memref sig .tc .vmem S128x2048 .bf16 := Memref.whole cc0_scratch11
/-- Scratch array 12. -/
abbrev scM0_12 : Memref sig .tc .vmem S128x2048 .f32 := Memref.whole cc0_scratch12
/-- Scratch array 13. -/
abbrev scM0_13 : Memref sig .tc .vmem S128x2048 .f32 := Memref.whole cc0_scratch13

/-- The pipeline's invariant with the scratch arrays owned at some contents. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d) ∗ (∃ d, owns (c : Thread nD τ) scM0_5 fullShare d) ∗ (∃ d, owns (c : Thread nD τ) scM0_6 fullShare d) ∗ (∃ d, owns (c : Thread nD τ) scM0_7 fullShare d) ∗ (∃ d, owns (c : Thread nD τ) scM0_8 fullShare d) ∗ (∃ d, owns (c : Thread nD τ) scM0_9 fullShare d) ∗ (∃ d, owns (c : Thread nD τ) scM0_10 fullShare d) ∗ (∃ d, owns (c : Thread nD τ) scM0_11 fullShare d) ∗ (∃ d, owns (c : Thread nD τ) scM0_12 fullShare d) ∗ (∃ d, owns (c : Thread nD τ) scM0_13 fullShare d)) ∗ (∃ r, prngReg c r)) := by
  unfold Pipeline.ΦA; rw [scopedRest0_eq]; simp only [scM0_0, scM0_1, scM0_2, scM0_3, scM0_4, scM0_5, scM0_6, scM0_7, scM0_8, scM0_9, scM0_10, scM0_11, scM0_12, scM0_13, owns_whole]; try rfl

/-- The tiles of the blocks of a point. -/
def D (c : Dev nD) (t : Fin cfg0.N) : Tiles F := prep (iblk m c 0 t) (iblk m c 1 t) (iblk m c 2 t) (iblk m c 3 t) (iblk m c 4 t)

/-- The proof data: inputs at their blocks, outputs at the three gradients. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => dq (D m c t)
    | ⟨6, _⟩ => dk (D m c t)
    | ⟨7, _⟩ => dv (D m c t)
  Φ _ := Pipeline.ΦA spec0 c
  q w := Pipeline.shareOf spec0 w
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = dq (D m c t) := by dsimp only [dats]
theorem after0_6 (c : Dev nD) (t : Fin cfg0.N) : (dats m 0 c).after 6 t = dk (D m c t) := by dsimp only [dats]
theorem after0_7 (c : Dev nD) (t : Fin cfg0.N) : (dats m 0 c).after 7 t = dv (D m c t) := by dsimp only [dats]
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

/-- What the body is called with at a point, and what it returns. -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d)) ∗ (∃ d, owns (c : Thread nD τ) (ms0_1 t) fullShare ((dats m 0 c).before 1 t d)) ∗ (∃ d, owns (c : Thread nD τ) (ms0_2 t) fullShare ((dats m 0 c).before 2 t d)) ∗ (∃ d, owns (c : Thread nD τ) (ms0_3 t) fullShare ((dats m 0 c).before 3 t d)) ∗ (∃ d, owns (c : Thread nD τ) (ms0_4 t) fullShare ((dats m 0 c).before 4 t d)) ∗ (∃ d, owns (c : Thread nD τ) (ms0_5 t) fullShare ((dats m 0 c).before 5 t d)) ∗ (∃ d, owns (c : Thread nD τ) (ms0_6 t) fullShare ((dats m 0 c).before 6 t d)) ∗ (∃ d, owns (c : Thread nD τ) (ms0_7 t) fullShare ((dats m 0 c).before 7 t d)))
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t) ∗ owns (c : Thread nD τ) (ms0_1 t) fullShare ((dats m 0 c).after 1 t) ∗ owns (c : Thread nD τ) (ms0_2 t) fullShare ((dats m 0 c).after 2 t) ∗ owns (c : Thread nD τ) (ms0_3 t) fullShare ((dats m 0 c).after 3 t) ∗ owns (c : Thread nD τ) (ms0_4 t) fullShare ((dats m 0 c).after 4 t) ∗ owns (c : Thread nD τ) (ms0_5 t) fullShare ((dats m 0 c).after 5 t) ∗ owns (c : Thread nD τ) (ms0_6 t) fullShare ((dats m 0 c).after 6 t) ∗ owns (c : Thread nD τ) (ms0_7 t) fullShare ((dats m 0 c).after 7 t))

set_option maxHeartbeats 1600000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7]
  rw [show (dats m 0 c).Φ t.castSucc = Pipeline.ΦA spec0 c from rfl, PhiA0_eq]
  unfold owns
  iintro ⟨⟨⟨⟨%ds0, %f9, -, H9⟩, ⟨%ds1, %f10, -, H10⟩, ⟨%ds2, %f11, -, H11⟩, ⟨%ds3, %f12, -, H12⟩, ⟨%ds4, %f13, -, H13⟩, ⟨%ds5, %f14, -, H14⟩, ⟨%ds6, %f15, -, H15⟩, ⟨%ds7, %f16, -, H16⟩, ⟨%ds8, %f17, -, H17⟩, ⟨%ds9, %f18, -, H18⟩, ⟨%ds10, %f19, -, H19⟩, ⟨%ds11, %f20, -, H20⟩, ⟨%ds12, %f21, -, H21⟩, ⟨%ds13, %f22, -, H22⟩⟩, Hg⟩, Ho, ⟨%d0, %f1, %hf1, H1⟩, ⟨%d1, %f2, %hf2, H2⟩, ⟨%d2, %f3, %hf3, H3⟩, ⟨%d3, %f4, %hf4, H4⟩, ⟨%d4, %f5, %hf5, H5⟩, ⟨%d5, %f6, -, H6⟩, ⟨%d6, %f7, -, H7⟩, ⟨%d7, %f8, -, H8⟩⟩
  iapply (wp_wand_r Idealize.ShloMosaic.frame (wpE (defs₀ (F := F)) Variants.none (c : Thread nD τ) none) Set.univ)
  isplitl [H1 H2 H3 H4 H5 H6 H7 H8 H9 H10 H11 H12 H13 H14 H15 H16 H17 H18 H19 H20 H21 H22]
  · iapply (body_run (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) scM0_11 (Memref.isWhole_whole _) scM0_12 (Memref.isWhole_whole _) scM0_13 (Memref.isWhole_whole _) Variants.none c none f1 f2 f3 f4 f5 f6 f7 f8 f9 f10 f11 f12 f13 f14 f15 f16 f17 f18 f19 f20 f21 f22 Set.univ)
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]; · iexact H19
    isplitl [H20]; · iexact H20
    isplitl [H21]; · iexact H21
    iexact H22
  iintro %a ⟨H1, H2, H3, H4, H5, %g6, %g7, %g8, %g9, %g10, %g11, %g12, %g13, %g14, %g15, %g16, %g17, %g18, %g19, %g20, %g21, %g22, H6, H7, H8, H9, H10, H11, H12, H13, H14, H15, H16, H17, H18, H19, H20, H21, H22, %h6, %h7, %h8⟩
  rw [hf1, hf2, hf3, hf4, hf5] at h6 h7 h8
  isplitl [H9 H10 H11 H12 H13 H14 H15 H16 H17 H18 H19 H20 H21 H22 Hg]
  · isplitl [H9 H10 H11 H12 H13 H14 H15 H16 H17 H18 H19 H20 H21 H22]
    · isplitl [H9]
      · iexists _, _; isplitr; swap; · iexact H9
        ipureintro; rfl
      isplitl [H10]
      · iexists _, _; isplitr; swap; · iexact H10
        ipureintro; rfl
      isplitl [H11]
      · iexists _, _; isplitr; swap; · iexact H11
        ipureintro; rfl
      isplitl [H12]
      · iexists _, _; isplitr; swap; · iexact H12
        ipureintro; rfl
      isplitl [H13]
      · iexists _, _; isplitr; swap; · iexact H13
        ipureintro; rfl
      isplitl [H14]
      · iexists _, _; isplitr; swap; · iexact H14
        ipureintro; rfl
      isplitl [H15]
      · iexists _, _; isplitr; swap; · iexact H15
        ipureintro; rfl
      isplitl [H16]
      · iexists _, _; isplitr; swap; · iexact H16
        ipureintro; rfl
      isplitl [H17]
      · iexists _, _; isplitr; swap; · iexact H17
        ipureintro; rfl
      isplitl [H18]
      · iexists _, _; isplitr; swap; · iexact H18
        ipureintro; rfl
      isplitl [H19]
      · iexists _, _; isplitr; swap; · iexact H19
        ipureintro; rfl
      isplitl [H20]
      · iexists _, _; isplitr; swap; · iexact H20
        ipureintro; rfl
      isplitl [H21]
      · iexists _, _; isplitr; swap; · iexact H21
        ipureintro; rfl
      iexists _, _; isplitr; swap; · iexact H22
      ipureintro; rfl
    iexact Hg
  isplitl [Ho]; · iexact Ho
  isplitl [H1]
  · iexists _; isplitr; swap; · iexact H1
    ipureintro; exact hf1
  isplitl [H2]
  · iexists _; isplitr; swap; · iexact H2
    ipureintro; exact hf2
  isplitl [H3]
  · iexists _; isplitr; swap; · iexact H3
    ipureintro; exact hf3
  isplitl [H4]
  · iexists _; isplitr; swap; · iexact H4
    ipureintro; exact hf4
  isplitl [H5]
  · iexists _; isplitr; swap; · iexact H5
    ipureintro; exact hf5
  isplitl [H6]
  · iexists _; isplitr; swap; · iexact H6
    ipureintro; exact h6
  isplitl [H7]
  · iexists _; isplitr; swap; · iexact H7
    ipureintro; exact h7
  iexists _; isplitr; swap; · iexact H8
  ipureintro; exact h8

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
/-- The launch: every array as the proof data says, every counter at zero. -/
theorem run_main_quiescent : θ_run defs (onTc (τ := τ) (main (F := F))) (s₀ m ρ) (fun r => (Pipeline.FramePost cfgs (dats m) 0 (V m)) r ∧ r.2.sem = fun _ => 0) :=
  Pipeline.θ_run_frame_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hΦ := fun _ _ => rfl)

/-- The arguments end unchanged and every counter at zero. -/
theorem frame_run : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  θ_run_and (frame_of m ρ (dats m) (A_eq m) ((θ_run defs _ _).mono (fun _ h => h.1) (run_main_quiescent m ρ)))
    ((θ_run defs _ _).mono (fun _ h => h.2) (run_main_quiescent m ρ))

end

end Cert.Kernel2Ideal.Stick

end
-- ==== Proof.StickTwin.lean ====
module

public import proofs.«01_k».proof.Proof.StickFrame
public import proofs.«01_k».proof.Proof.Gen.Kernel2
public import proofs.«01_k».proof.Proof.Gen.Kernel2Ideal
public import proofs.«01_k».proof.Defs

@[expose] public section

set_option maxHeartbeats 20000000
set_option maxRecDepth 100000

/-!
The stick-breaking backward kernel before idealization: no rule was applied, so its body is the idealized one's, and the
frame proved for every interpretation of the floats is its frame at the machine's floats.
-/

open Idealize.ShloMosaic

namespace Cert.Proof.StickTwin

/-- The two programs' pipeline bodies are the same. -/
theorem bodies : @Cert.Kernel2.defs₀ Bits _ _ = @Cert.Kernel2Ideal.defs₀ Bits _ _ := by
  unfold Cert.Kernel2.defs₀ Cert.Kernel2Ideal.defs₀
  refine congrArg Defs.onTc ?_
  funext l a
  match l, a with
  | 0, (t, s) => rfl

theorem procedures : @Cert.Kernel2.defs Bits _ _ = @Cert.Kernel2Ideal.defs Bits _ _ :=
  congrArg (Pipeline.defs (@Cert.Kernel2.pcfgs Bits _)) bodies

theorem mains : @Cert.Kernel2.main Bits _ _ = @Cert.Kernel2Ideal.main Bits _ _ := rfl

/-- The program's arguments end unchanged and every counter at zero. -/
theorem frame_kernel : Cert.quiescent_Kernel2 := fun m ρ _ => by
  have h := Cert.Kernel2Ideal.Stick.frame_run (F := Bits) m ρ
  rw [← procedures, ← mains] at h
  exact h

end Cert.Proof.StickTwin
-- ==== Proof.StickReal.lean ====
/- The arithmetic of one tile of the stick-breaking backward, on reals: what each value the tile computes is, when the
   arrays it reads hold reals. -/
module

public import proofs.«01_k».proof.Proof.StickStep
public import proofs.«01_k».proof.Proof.Reals
public import Idealize.ShloMosaic.Lib.Pipeline.ValueKit
public import Idealize.ShloMosaic.Lib.Pointwise

@[expose] public section

set_option maxRecDepth 16384

noncomputable section

namespace Cert.Kernel2Ideal.Stick

open Cert.Kernel2Ideal Cert.Kernel2Ideal.Gen
open Idealize.ShloMosaic Idealize.ShloMosaic.TcCoe

/-! Reals inside the extended reals. -/

theorem mul_c (x y : ℝ) : (x : EReal) * (y : EReal) = ((x * y : ℝ) : EReal) := (EReal.coe_mul x y).symm
theorem add_c (x y : ℝ) : (x : EReal) + (y : EReal) = ((x + y : ℝ) : EReal) := (EReal.coe_add x y).symm
theorem sub_c (x y : ℝ) : (x : EReal) - (y : EReal) = ((x - y : ℝ) : EReal) := (EReal.coe_sub x y).symm
theorem zsub_c (x : ℝ) : (0 : EReal) - (x : EReal) = ((-x : ℝ) : EReal) := by rw [zero_sub, EReal.coe_neg]
theorem exp_c (x : ℝ) : Ideal.exp (x : EReal) = ((Real.exp x : ℝ) : EReal) := rfl
theorem sum_c {ι : Type} [Fintype ι] (f : ι → ℝ) : ∑ k, ((f k : ℝ) : EReal) = ((∑ k, f k : ℝ) : EReal) := by
  have h := Cert.Reals.sum_mul_coe f fun _ => 1
  simpa only [EReal.coe_one, mul_one] using h
theorem ite_c (P : Prop) [Decidable P] (x y : ℝ) : (if P then (x : EReal) else (y : EReal)) = ((if P then x else y : ℝ) : EReal) := by
  split <;> rfl
theorem ite_z (P : Prop) [Decidable P] (x : ℝ) : (if P then (x : EReal) else 0) = ((if P then x else 0 : ℝ) : EReal) := by
  split <;> rfl

/-- The softplus of a real. -/
def sp (z : ℝ) : ℝ := max z 0 + Real.log (1 + Real.exp (-|z|))

theorem sp_c (z : ℝ) : max (z : EReal) 0 + Ideal.log (1 + Ideal.exp (0 - FloatOps.absf (F := Ideal) (φ := .f32) (z : EReal))) = ((sp z : ℝ) : EReal) := by
  have h : FloatOps.absf (F := Ideal) (φ := .f32) (z : EReal) = ((|z| : ℝ) : EReal) := by
    show max (z : EReal) (-(z : EReal)) = _
    rw [← EReal.coe_neg]; exact (EReal.coe_strictMono.monotone.map_max (a := z) (b := -z)).symm
  have hp : (0 : ℝ) < 1 + Real.exp (-|z|) := by positivity
  rw [h, zsub_c, exp_c, ← EReal.coe_one, add_c]
  have hl : Ideal.log ((1 + Real.exp (-|z|) : ℝ) : EReal) = ((Real.log (1 + Real.exp (-|z|)) : ℝ) : EReal) := by
    show (if 1 + Real.exp (-|z|) ≤ 0 then (⊥ : EReal) else ((Real.log (1 + Real.exp (-|z|)) : ℝ) : EReal)) = _
    rw [if_neg hp.not_ge]
  rw [hl, ← EReal.coe_zero, ← EReal.coe_strictMono.monotone.map_max, add_c]
  rfl

/-- An array of reals. -/
abbrev lift2 {a b : ℕ} (x : Fin a → Fin b → ℝ) : (⟨2, ![a, b]⟩ : Shape).Idx → EReal := fun p => ((x (p 0) (p 1) : ℝ) : EReal)
/-- A column of reals. -/
abbrev lift1 {a : ℕ} (x : Fin a → ℝ) : (⟨2, ![a, 1]⟩ : Shape).Idx → EReal := fun p => ((x (p 0) : ℝ) : EReal)

theorem acc_c {n : ℕ} (q : ℝ) (f g f' g' : Fin n → ℝ) : (q : EReal) + ∑ j, ((f j : ℝ) : EReal) * ((g j : ℝ) : EReal) + ∑ j, ((f' j : ℝ) : EReal) * ((g' j : ℝ) : EReal)
    = ((q + ∑ j, f j * g j + ∑ j, f' j * g' j : ℝ) : EReal) := by
  rw [Cert.Reals.sum_mul_coe, Cert.Reals.sum_mul_coe, add_c, add_c]

/-- A product with the second operand transposed. -/
def nt (q k : Fin 256 → Fin 128 → ℝ) (p s : Fin 256) : ℝ := ∑ l, q p l * k s l
/-- A product. -/
def nn (x : Fin 256 → Fin 256 → ℝ) (k : Fin 256 → Fin 128 → ℝ) (p : Fin 256) (l : Fin 128) : ℝ := ∑ s, x p s * k s l
/-- A product from the left with a transposed tile. -/
def tn (o : Fin 128 → Fin 256 → ℝ) (x : Fin 256 → Fin 256 → ℝ) (l : Fin 128) (s : Fin 256) : ℝ := ∑ p, o l p * x p s
/-- Sums along a row up to and including a column. -/
def cum (x : Fin 256 → Fin 256 → ℝ) (p s : Fin 256) : ℝ := ∑ j : Fin 256, if j ≤ s then x p j else 0
/-- The 0/1 matrix with ones where the row is at most the column. -/
def ule (j s : Fin 256) : ℝ := if j ≤ s then 1 else 0
/-- The log-gates of a tile, masked. -/
def lmT (M : Fin 256 → Fin 256 → Bool) (z : Fin 256 → Fin 256 → ℝ) (p s : Fin 256) : ℝ := if M p s then -sp (z p s) else 0
/-- The attention weights of a tile. -/
def aT (M : Fin 256 → Fin 256 → Bool) (z lm : Fin 256 → Fin 256 → ℝ) (c pre : Fin 256 → ℝ) (p s : Fin 256) : ℝ :=
  if M p s then Real.exp (z p s + lm p s + (c p - pre p) - cum lm p s) else 0
/-- A weight times its gradient. -/
def gT (a da : Fin 256 → Fin 256 → ℝ) (p s : Fin 256) : ℝ := a p s * da p s
/-- The gradient of the scores. -/
def dzT (M : Fin 256 → Fin 256 → Bool) (z lm g : Fin 256 → Fin 256 → ℝ) (hl : Fin 256 → ℝ) (p s : Fin 256) : ℝ :=
  if M p s then g p s - Real.exp (z p s + lm p s) * (hl p + cum g p s) else 0

/-- Every pair. -/
def All (_ _ : Fin 256) : Bool := true
/-- The pairs strictly below the diagonal. -/
def Below (p s : Fin 256) : Bool := decide (s < p)

theorem hilo (x : Fin 256 → Fin 256 → ℝ) (p s : Fin 256) :
    (∑ j, x p j * ule j s) + ∑ j, (x p j - x p j) * ule j s = cum x p s := by
  simp only [sub_self, zero_mul, Finset.sum_const_zero, add_zero, cum, ule, mul_ite, mul_one, mul_zero, ite_self]

theorem hilo_c (x : Fin 256 → Fin 256 → ℝ) (p s : Fin 256) :
    (∑ j, ((x p j : ℝ) : EReal) * ((ule j s : ℝ) : EReal)) + ∑ j, (((x p j : ℝ) : EReal) - ((x p j : ℝ) : EReal)) * ((ule j s : ℝ) : EReal)
      = ((cum x p s : ℝ) : EReal) := by
  simp only [mul_c, sub_c, sum_c, add_c, hilo]

theorem cum_last (x : Fin 256 → Fin 256 → ℝ) (p : Fin 256) : cum x p 255 = ∑ s, x p s := by
  unfold cum
  exact Finset.sum_congr rfl fun j _ => if_pos (show j.val ≤ 255 by omega)

theorem toInt_diff (p s : Fin 256) : (IntOp.subi (BitVec.ofNat 32 p.val) (BitVec.ofNat 32 s.val)).toInt = (p.val : ℤ) - (s.val : ℤ) := by
  have hp := p.isLt
  have hs := s.isLt
  unfold IntOp.subi
  rw [BitVec.toInt_sub, BitVec.toInt_ofNat', BitVec.toInt_ofNat']
  simp only [Int.bmod]
  omega

theorem cmp_le (p s : Fin 256) : FloatOps.sitofp (F := Ideal) FTy.f32
    (BitVec.setWidth 32 (IntOp.cmpi CmpIPredicate.sle (IntOp.subi (BitVec.ofNat 32 p.val) (BitVec.ofNat 32 s.val)) 0#32)) = ((ule p s : ℝ) : EReal) := by
  have h : IntOp.cmpi CmpIPredicate.sle (IntOp.subi (BitVec.ofNat 32 p.val) (BitVec.ofNat 32 s.val)) 0#32 = if p ≤ s then 1#1 else 0#1 := by
    have e := toInt_diff p s
    simp only [IntOp.cmpi, BitVec.sle, e, Fin.le_def]
    by_cases hh : p.val ≤ s.val
    · simp [hh]
    · simp [hh]
  rw [h]; unfold ule
  split
  · show (((BitVec.setWidth 32 1#1).toInt : ℝ) : EReal) = _
    simp
  · show (((BitVec.setWidth 32 0#1).toInt : ℝ) : EReal) = _
    simp

theorem cmp_gt (p s : Fin 256) : IntOp.cmpi CmpIPredicate.sgt (IntOp.subi (BitVec.ofNat 32 p.val) (BitVec.ofNat 32 s.val)) 0#32
    = if Below p s then 1#1 else 0#1 := by
  have e := toInt_diff p s
  simp only [IntOp.cmpi, BitVec.slt, e, Below, Fin.lt_def]
  by_cases hh : s.val < p.val
  · simp [hh]
  · simp [hh]

theorem pay9_l : k0_pay9 (F := Ideal) = lift2 ule := by
  funext w
  obtain ⟨p, s, rfl⟩ : ∃ p s, w = ix2 p s := ⟨w 0, w 1, eq_ix2 w⟩
  pointwise [k0_pay9, k0_pay7]
  exact cmp_le p s

theorem pay37_l (kb q : Fin 256 → Fin 128 → ℝ) : k0_pay37 (F := Ideal) (lift2 kb) (lift2 q) = lift2 (nt q kb) := by
  funext w
  obtain ⟨p, s, rfl⟩ : ∃ p s, w = ix2 p s := ⟨w 0, w 1, eq_ix2 w⟩
  pointwise [k0_pay37]
  exact Cert.Reals.sum_mul_coe _ _

theorem pay41_l (kb q : Fin 256 → Fin 128 → ℝ) : k0_pay41 (F := Ideal) (lift2 kb) (lift2 q) = lift2 (lmT All (nt q kb)) := by
  funext w
  obtain ⟨p, s, rfl⟩ : ∃ p s, w = ix2 p s := ⟨w 0, w 1, eq_ix2 w⟩
  pointwise [k0_pay41]
  rw [pay37_l]
  simp only [lift2, sp_c, zsub_c]
  rfl

theorem pay38_l (x y : Fin 256 → Fin 128 → ℝ) : k0_pay38 (F := Ideal) (lift2 x) (lift2 y) = lift2 (nt y x) := by
  funext w
  obtain ⟨p, s, rfl⟩ : ∃ p s, w = ix2 p s := ⟨w 0, w 1, eq_ix2 w⟩
  pointwise [k0_pay38]
  exact Cert.Reals.sum_mul_coe _ _

theorem pay39_l (x y : Fin 256 → Fin 128 → ℝ) : k0_pay39 (F := Ideal) (lift2 x) (lift2 y) = lift2 (nt y x) := by
  funext w
  obtain ⟨p, s, rfl⟩ : ∃ p s, w = ix2 p s := ⟨w 0, w 1, eq_ix2 w⟩
  pointwise [k0_pay39]
  exact Cert.Reals.sum_mul_coe _ _

theorem pay40_l (x y : Fin 256 → Fin 128 → ℝ) : k0_pay40 (F := Ideal) (lift2 x) (lift2 y) = lift2 (nt y x) := by
  funext w
  obtain ⟨p, s, rfl⟩ : ∃ p s, w = ix2 p s := ⟨w 0, w 1, eq_ix2 w⟩
  pointwise [k0_pay40]
  exact Cert.Reals.sum_mul_coe _ _

theorem pay101_l (x y : Fin 256 → Fin 128 → ℝ) : k0_pay101 (F := Ideal) (lift2 x) (lift2 y) = lift2 (nt y x) := by
  funext w
  obtain ⟨p, s, rfl⟩ : ∃ p s, w = ix2 p s := ⟨w 0, w 1, eq_ix2 w⟩
  pointwise [k0_pay101]
  exact Cert.Reals.sum_mul_coe _ _

theorem pay102_l (x y : Fin 256 → Fin 128 → ℝ) : k0_pay102 (F := Ideal) (lift2 x) (lift2 y) = lift2 (nt y x) := by
  funext w
  obtain ⟨p, s, rfl⟩ : ∃ p s, w = ix2 p s := ⟨w 0, w 1, eq_ix2 w⟩
  pointwise [k0_pay102]
  exact Cert.Reals.sum_mul_coe _ _

theorem pay103_l (x y : Fin 256 → Fin 128 → ℝ) : k0_pay103 (F := Ideal) (lift2 x) (lift2 y) = lift2 (nt y x) := by
  funext w
  obtain ⟨p, s, rfl⟩ : ∃ p s, w = ix2 p s := ⟨w 0, w 1, eq_ix2 w⟩
  pointwise [k0_pay103]
  exact Cert.Reals.sum_mul_coe _ _

theorem pay104_l (x y : Fin 256 → Fin 128 → ℝ) : k0_pay104 (F := Ideal) (lift2 x) (lift2 y) = lift2 (nt y x) := by
  funext w
  obtain ⟨p, s, rfl⟩ : ∃ p s, w = ix2 p s := ⟨w 0, w 1, eq_ix2 w⟩
  pointwise [k0_pay104]
  exact Cert.Reals.sum_mul_coe _ _

theorem pay42_l (x y : Fin 256 → Fin 128 → ℝ) : k0_pay42 (F := Ideal) (lift2 x) (lift2 y) = lift2 fun p s => sp (nt y x p s) := by
  funext w
  obtain ⟨p, s, rfl⟩ : ∃ p s, w = ix2 p s := ⟨w 0, w 1, eq_ix2 w⟩
  pointwise [k0_pay42]
  rw [pay38_l]
  exact sp_c _

theorem pay43_l (x : Fin 256 → Fin 256 → ℝ) : k0_pay43 (F := Ideal) (lift2 fun p s => sp (x p s)) (0 : EReal) = lift2 (lmT All x) := by
  funext w
  obtain ⟨p, s, rfl⟩ : ∃ p s, w = ix2 p s := ⟨w 0, w 1, eq_ix2 w⟩
  pointwise [k0_pay43]
  exact zsub_c _

theorem pay44_l (x : Fin 256 → Fin 256 → ℝ) : k0_pay44 (F := Ideal) (lift2 ule) (lift2 x) = lift2 (cum x) := by
  funext w
  obtain ⟨p, s, rfl⟩ : ∃ p s, w = ix2 p s := ⟨w 0, w 1, eq_ix2 w⟩
  pointwise [k0_pay44]
  exact hilo_c (x) p s

theorem pay45_l (x : Fin 256 → Fin 256 → ℝ) : k0_pay45 (F := Ideal) (lift2 ule) (lift2 fun p s => sp (x p s)) (0 : EReal) = lift2 (cum (lmT All x)) := by
  funext w
  obtain ⟨p, s, rfl⟩ : ∃ p s, w = ix2 p s := ⟨w 0, w 1, eq_ix2 w⟩
  pointwise [k0_pay45]
  rw [pay43_l]
  exact hilo_c (lmT All x) p s

theorem pay46_l (z x : Fin 256 → Fin 256 → ℝ) : k0_pay46 (F := Ideal) (lift2 z) (lift2 x) = lift2 fun p s => z p s + x p s := by
  funext w
  obtain ⟨p, s, rfl⟩ : ∃ p s, w = ix2 p s := ⟨w 0, w 1, eq_ix2 w⟩
  pointwise [k0_pay46]
  rfl

theorem pay50_l (x : Fin 256 → Fin 256 → ℝ) : k0_pay50 (F := Ideal) (lift2 x) (lift2 fun p s => sp (x p s)) (0 : EReal) = lift2 fun p s => x p s + lmT All x p s := by
  funext w
  obtain ⟨p, s, rfl⟩ : ∃ p s, w = ix2 p s := ⟨w 0, w 1, eq_ix2 w⟩
  pointwise [k0_pay50]
  rw [pay43_l]
  rfl

theorem pay47_l (c pre : Fin 256 → ℝ) (z x : Fin 256 → Fin 256 → ℝ) : k0_pay47 (F := Ideal) (lift2 ule) (lift1 c) (lift1 pre) (lift2 z) (lift2 x) = lift2 (aT All z x c pre) := by
  funext w
  obtain ⟨p, s, rfl⟩ : ∃ p s, w = ix2 p s := ⟨w 0, w 1, eq_ix2 w⟩
  pointwise [k0_pay47]
  rw [pay44_l, pay46_l]
  rfl

theorem pay48_l (c pre : Fin 256 → ℝ) (z x d : Fin 256 → Fin 256 → ℝ) : k0_pay48 (F := Ideal) (lift2 ule) (lift1 c) (lift1 pre) (lift2 z) (lift2 d) (lift2 x) = lift2 (gT (aT All z x c pre) d) := by
  funext w
  obtain ⟨p, s, rfl⟩ : ∃ p s, w = ix2 p s := ⟨w 0, w 1, eq_ix2 w⟩
  pointwise [k0_pay48]
  rw [pay47_l]
  rfl

theorem pay49_l (c pre : Fin 256 → ℝ) (z x : Fin 256 → Fin 256 → ℝ) : k0_pay49 (F := Ideal) (lift2 ule) (lift1 c) (lift1 pre) (lift2 z) (lift2 x) = lift2 (aT All z x c pre) := by
  funext w
  obtain ⟨p, s, rfl⟩ : ∃ p s, w = ix2 p s := ⟨w 0, w 1, eq_ix2 w⟩
  pointwise [k0_pay49]
  rw [pay47_l]

theorem pay51_l (c pre : Fin 256 → ℝ) (x : Fin 256 → Fin 256 → ℝ) : k0_pay51 (F := Ideal) (lift2 ule) (lift1 c) (lift1 pre) (lift2 x) (lift2 fun p s => sp (x p s)) (0 : EReal) = lift2 (aT All x (lmT All x) c pre) := by
  funext w
  obtain ⟨p, s, rfl⟩ : ∃ p s, w = ix2 p s := ⟨w 0, w 1, eq_ix2 w⟩
  pointwise [k0_pay51]
  rw [pay45_l, pay50_l]
  rfl

theorem pay52_l (c pre : Fin 256 → ℝ) (x d : Fin 256 → Fin 256 → ℝ) : k0_pay52 (F := Ideal) (lift2 ule) (lift1 c) (lift1 pre) (lift2 x) (lift2 d) (lift2 fun p s => sp (x p s)) (0 : EReal) = lift2 (gT (aT All x (lmT All x) c pre) d) := by
  funext w
  obtain ⟨p, s, rfl⟩ : ∃ p s, w = ix2 p s := ⟨w 0, w 1, eq_ix2 w⟩
  pointwise [k0_pay52]
  rw [pay51_l]
  rfl

theorem pay53_l (c pre : Fin 256 → ℝ) (x : Fin 256 → Fin 256 → ℝ) : k0_pay53 (F := Ideal) (lift2 ule) (lift1 c) (lift1 pre) (lift2 x) (lift2 fun p s => sp (x p s)) (0 : EReal) = lift2 (aT All x (lmT All x) c pre) := by
  funext w
  obtain ⟨p, s, rfl⟩ : ∃ p s, w = ix2 p s := ⟨w 0, w 1, eq_ix2 w⟩
  pointwise [k0_pay53]
  rw [pay51_l]

theorem pay54_l (c pre : Fin 256 → ℝ) (z x d : Fin 256 → Fin 256 → ℝ) : k0_pay54 (F := Ideal) (lift2 ule) (lift1 c) (lift1 pre) (lift2 z) (lift2 d) (lift2 x) = lift2 (cum (gT (aT All z x c pre) d)) := by
  unfold k0_pay54
  simp only [pay48_l]
  generalize gT (aT All z x c pre) d = y
  funext w
  obtain ⟨p, s, rfl⟩ : ∃ p s, w = ix2 p s := ⟨w 0, w 1, eq_ix2 w⟩
  pointwise []
  exact hilo_c y p s

theorem pay55_l (c pre : Fin 256 → ℝ) (x d : Fin 256 → Fin 256 → ℝ) : k0_pay55 (F := Ideal) (lift2 ule) (lift1 c) (lift1 pre) (lift2 x) (lift2 d) (lift2 fun p s => sp (x p s)) (0 : EReal) = lift2 (cum (gT (aT All x (lmT All x) c pre) d)) := by
  unfold k0_pay55
  simp only [pay52_l]
  generalize gT (aT All x (lmT All x) c pre) d = y
  funext w
  obtain ⟨p, s, rfl⟩ : ∃ p s, w = ix2 p s := ⟨w 0, w 1, eq_ix2 w⟩
  pointwise []
  exact hilo_c y p s

theorem pay56_l (h : Fin 256 → ℝ) (z x g : Fin 256 → Fin 256 → ℝ) : k0_pay56 (F := Ideal) (lift1 h) (lift2 fun p s => z p s + x p s) (lift2 g) (lift2 (cum g)) = lift2 (dzT All z x g h) := by
  funext w
  obtain ⟨p, s, rfl⟩ : ∃ p s, w = ix2 p s := ⟨w 0, w 1, eq_ix2 w⟩
  pointwise [k0_pay56]
  rfl

theorem pay59_l (h : Fin 256 → ℝ) (z x g : Fin 256 → Fin 256 → ℝ) : k0_pay59 (F := Ideal) (lift1 h) (lift2 fun p s => z p s + x p s) (lift2 g) (lift2 (cum g)) = lift2 (dzT All z x g h) := by
  funext w
  obtain ⟨p, s, rfl⟩ : ∃ p s, w = ix2 p s := ⟨w 0, w 1, eq_ix2 w⟩
  pointwise [k0_pay59]
  rfl

theorem pay60_l (h h' : Fin 256 → ℝ) (z x g z' x' g' : Fin 256 → Fin 256 → ℝ) (q k k' : Fin 256 → Fin 128 → ℝ) : k0_pay60 (F := Ideal) (lift1 h) (lift1 h') (lift2 q) (lift2 fun p s => z p s + x p s) (lift2 g) (lift2 fun p s => z' p s + x' p s) (lift2 g') (lift2 (cum g)) (lift2 (cum g')) (lift2 k) (lift2 k') = lift2 fun p l => q p l + nn (dzT All z x g h) k p l + nn (dzT All z' x' g' h') k' p l := by
  funext w
  obtain ⟨p, s, rfl⟩ : ∃ p s, w = ix2 p s := ⟨w 0, w 1, eq_ix2 w⟩
  pointwise [k0_pay60]
  rw [pay56_l, pay59_l]
  exact acc_c (q p s) (fun j => dzT All z x g h p j) (fun j => k j s) (fun j => dzT All z' x' g' h' p j) (fun j => k' j s)

theorem pay61_l (h h' : Fin 256 → ℝ) (z x g z' x' g' : Fin 256 → Fin 256 → ℝ) (q k k' : Fin 128 → Fin 256 → ℝ) : k0_pay61 (F := Ideal) (lift1 h) (lift1 h') (lift2 fun p s => z p s + x p s) (lift2 g) (lift2 fun p s => z' p s + x' p s) (lift2 g') (lift2 (cum g)) (lift2 (cum g')) (lift2 q) (lift2 k) (lift2 k') = lift2 fun l s => q l s + tn k (dzT All z x g h) l s + tn k' (dzT All z' x' g' h') l s := by
  funext w
  obtain ⟨p, s, rfl⟩ : ∃ p s, w = ix2 p s := ⟨w 0, w 1, eq_ix2 w⟩
  pointwise [k0_pay61]
  rw [pay56_l, pay59_l]
  exact acc_c (q p s) (fun j => k p j) (fun j => dzT All z x g h j s) (fun j => k' p j) (fun j => dzT All z' x' g' h' j s)

theorem pay62_l (a a' : Fin 256 → Fin 256 → ℝ) (q k k' : Fin 128 → Fin 256 → ℝ) : k0_pay62 (F := Ideal) (lift2 a) (lift2 a') (lift2 q) (lift2 k) (lift2 k') = lift2 fun l s => q l s + tn k a l s + tn k' a' l s := by
  funext w
  obtain ⟨p, s, rfl⟩ : ∃ p s, w = ix2 p s := ⟨w 0, w 1, eq_ix2 w⟩
  pointwise [k0_pay62]
  exact acc_c (q p s) (fun j => k p j) (fun j => a j s) (fun j => k' p j) (fun j => a' j s)

theorem pay57_l (h : Fin 256 → ℝ) (x : Fin 256 → Fin 256 → ℝ) : k0_pay57 (F := Ideal) (lift1 h) (lift2 (cum x)) = lift1 fun p => h p + ∑ s, x p s := by
  funext w
  obtain ⟨p, s, rfl⟩ : ∃ p s, w = ix2 p s := ⟨w 0, w 1, eq_ix2 w⟩
  pointwise [k0_pay57]
  exact (add_c _ _).trans (congrArg (fun r : ℝ => ((h p + r : ℝ) : EReal)) (cum_last x p))

theorem pay58_l (h : Fin 256 → ℝ) (x : Fin 256 → Fin 256 → ℝ) : k0_pay58 (F := Ideal) (lift1 h) (lift2 (cum x)) = lift1 fun p => h p + ∑ s, x p s := by
  funext w
  obtain ⟨p, s, rfl⟩ : ∃ p s, w = ix2 p s := ⟨w 0, w 1, eq_ix2 w⟩
  pointwise [k0_pay58]
  exact (add_c _ _).trans (congrArg (fun r : ℝ => ((h p + r : ℝ) : EReal)) (cum_last x p))

theorem pay63_l (h : Fin 256 → ℝ) (x : Fin 256 → Fin 256 → ℝ) : k0_pay63 (F := Ideal) (lift1 h) (lift2 (cum x)) = lift1 fun p => h p + ∑ s, x p s := by
  funext w
  obtain ⟨p, s, rfl⟩ : ∃ p s, w = ix2 p s := ⟨w 0, w 1, eq_ix2 w⟩
  pointwise [k0_pay63]
  exact (add_c _ _).trans (congrArg (fun r : ℝ => ((h p + r : ℝ) : EReal)) (cum_last x p))

theorem pay64_l (h : Fin 256 → ℝ) (x : Fin 256 → Fin 256 → ℝ) : k0_pay64 (F := Ideal) (lift1 h) (lift2 (cum x)) = lift1 fun p => h p + ∑ s, x p s := by
  funext w
  obtain ⟨p, s, rfl⟩ : ∃ p s, w = ix2 p s := ⟨w 0, w 1, eq_ix2 w⟩
  pointwise [k0_pay64]
  exact (add_c _ _).trans (congrArg (fun r : ℝ => ((h p + r : ℝ) : EReal)) (cum_last x p))

theorem pay93_l (c : Fin 256 → ℝ) : k0_pay93 (F := Ideal) (fun w => ((c (w 1) : ℝ) : EReal)) = lift1 c := by
  funext w
  obtain ⟨p, s, rfl⟩ : ∃ p s, w = ix2 p s := ⟨w 0, w 1, eq_ix2 w⟩
  pointwise [k0_pay93]
  rfl

theorem pay94_l (c : Fin 256 → ℝ) : k0_pay94 (F := Ideal) (fun w => ((c (w 1) : ℝ) : EReal)) = lift1 c := by
  funext w
  obtain ⟨p, s, rfl⟩ : ∃ p s, w = ix2 p s := ⟨w 0, w 1, eq_ix2 w⟩
  pointwise [k0_pay94]
  rfl

theorem pay95_l  : k0_pay95 (F := Ideal) = lift1 fun _ => 0 := by
  funext w
  obtain ⟨p, s, rfl⟩ : ∃ p s, w = ix2 p s := ⟨w 0, w 1, eq_ix2 w⟩
  pointwise [k0_pay95]
  rfl

theorem pay96_l  : k0_pay96 (F := Ideal) = lift2 fun _ _ => 0 := by
  funext w
  obtain ⟨p, s, rfl⟩ : ∃ p s, w = ix2 p s := ⟨w 0, w 1, eq_ix2 w⟩
  pointwise [k0_pay96]
  rfl

theorem pay97_l (x : Fin 128 → Fin 256 → ℝ) : k0_pay97 (F := Ideal) (lift2 x) = lift2 x := by
  funext w
  obtain ⟨p, s, rfl⟩ : ∃ p s, w = ix2 p s := ⟨w 0, w 1, eq_ix2 w⟩
  pointwise [k0_pay97]

theorem pay98_l (x : Fin 128 → Fin 256 → ℝ) : k0_pay98 (F := Ideal) (lift2 x) = lift2 x := by
  funext w
  obtain ⟨p, s, rfl⟩ : ∃ p s, w = ix2 p s := ⟨w 0, w 1, eq_ix2 w⟩
  pointwise [k0_pay98]

/-- The mask of the diagonal tile. -/
abbrev maskB : (⟨2, ![256, 256]⟩ : Shape).Idx → BitVec 1 := fun w => if Below (w 0) (w 1) then 1#1 else 0#1

theorem sel_c (p s : Fin 256) (x : ℝ) : (Scalar.select (maskB (ix2 p s)) (x : EReal) 0 : EReal) = ((if Below p s then x else 0 : ℝ) : EReal) := by
  show (Scalar.select (if Below p s then 1#1 else 0#1) (x : EReal) 0 : EReal) = _
  cases Below p s <;> rfl

theorem pay8_l : k0_pay8 = maskB := by
  funext w
  obtain ⟨p, s, rfl⟩ : ∃ p s, w = ix2 p s := ⟨w 0, w 1, eq_ix2 w⟩
  pointwise [k0_pay8, k0_pay7]
  exact cmp_gt p s

theorem pay105_l  : k0_pay105 (F := Ideal) = lift2 fun _ _ => 0 := by
  funext w
  obtain ⟨p, s, rfl⟩ : ∃ p s, w = ix2 p s := ⟨w 0, w 1, eq_ix2 w⟩
  pointwise [k0_pay105]
  rfl

theorem pay106_l (x : Fin 256 → Fin 256 → ℝ) : k0_pay106 (F := Ideal) maskB (lift2 x) (lift2 fun _ _ => 0) = lift2 (lmT Below x) := by
  funext w
  obtain ⟨p, s, rfl⟩ : ∃ p s, w = ix2 p s := ⟨w 0, w 1, eq_ix2 w⟩
  pointwise [k0_pay106]
  refine Eq.trans ?_ (sel_c p s (-sp (x p s)))
  refine congrArg (fun r : EReal => (Scalar.select (maskB (ix2 p s)) r 0 : EReal)) ?_
  exact (congrArg (fun r : EReal => 0 - r) (sp_c (x p s))).trans (zsub_c _)

theorem pay107_l (x : Fin 256 → Fin 256 → ℝ) : k0_pay107 (F := Ideal) maskB (lift2 x) = lift2 (lmT Below x) := by
  funext w
  obtain ⟨p, s, rfl⟩ : ∃ p s, w = ix2 p s := ⟨w 0, w 1, eq_ix2 w⟩
  pointwise [k0_pay107]
  refine Eq.trans ?_ (sel_c p s (-sp (x p s)))
  refine congrArg (fun r : EReal => (Scalar.select (maskB (ix2 p s)) r 0 : EReal)) ?_
  exact (congrArg (fun r : EReal => 0 - r) (sp_c (x p s))).trans (zsub_c _)

theorem pay108_l (x : Fin 256 → Fin 256 → ℝ) : k0_pay108 (F := Ideal) maskB (lift2 ule) (lift2 x) = lift2 (cum (lmT Below x)) := by
  funext w
  obtain ⟨p, s, rfl⟩ : ∃ p s, w = ix2 p s := ⟨w 0, w 1, eq_ix2 w⟩
  pointwise [k0_pay108]
  rw [pay107_l]
  exact hilo_c (lmT Below x) p s

theorem pay109_l (x : Fin 256 → Fin 256 → ℝ) : k0_pay109 (F := Ideal) maskB (lift2 x) (lift2 fun _ _ => 0) = lift2 fun p s => x p s + lmT Below x p s := by
  funext w
  obtain ⟨p, s, rfl⟩ : ∃ p s, w = ix2 p s := ⟨w 0, w 1, eq_ix2 w⟩
  pointwise [k0_pay109]
  rw [pay106_l]
  rfl

/-- The exponential a weight of the diagonal tile is, before the mask. -/
def eT (z lm : Fin 256 → Fin 256 → ℝ) (c pre : Fin 256 → ℝ) (p s : Fin 256) : ℝ :=
  Real.exp (z p s + lm p s + (c p - pre p) - cum lm p s)

theorem pay110_l (c pre : Fin 256 → ℝ) (x : Fin 256 → Fin 256 → ℝ) : k0_pay110 (F := Ideal) maskB (lift2 ule) (lift1 c) (lift1 pre) (lift2 x) (lift2 fun _ _ => 0) = lift2 (eT x (lmT Below x) c pre) := by
  funext w
  obtain ⟨p, s, rfl⟩ : ∃ p s, w = ix2 p s := ⟨w 0, w 1, eq_ix2 w⟩
  pointwise [k0_pay110]
  rw [pay106_l, pay109_l]
  simp only [mul_c, sub_c, sum_c, add_c, exp_c]
  exact congrArg (fun r : ℝ => ((Real.exp (x p s + lmT Below x p s + (c p - pre p) - r) : ℝ) : EReal)) (hilo _ p s)

theorem pay111_l (x : Fin 256 → Fin 256 → ℝ) : k0_pay111 (F := Ideal) maskB (lift2 x) = lift2 fun p s => if Below p s then x p s else 0 := by
  funext w
  obtain ⟨p, s, rfl⟩ : ∃ p s, w = ix2 p s := ⟨w 0, w 1, eq_ix2 w⟩
  pointwise [k0_pay111]
  exact sel_c p s _

theorem pay112_l (c pre : Fin 256 → ℝ) (z x : Fin 256 → Fin 256 → ℝ) : k0_pay112 (F := Ideal) maskB (lift2 (eT z x c pre)) = lift2 (aT Below z x c pre) := by
  funext w
  obtain ⟨p, s, rfl⟩ : ∃ p s, w = ix2 p s := ⟨w 0, w 1, eq_ix2 w⟩
  pointwise [k0_pay112]
  rw [pay111_l]
  rfl

theorem pay113_l (z x : Fin 256 → Fin 256 → ℝ) : k0_pay113 (F := Ideal) (lift2 z) (lift2 x) = lift2 fun p s => z p s + x p s := by
  funext w
  obtain ⟨p, s, rfl⟩ : ∃ p s, w = ix2 p s := ⟨w 0, w 1, eq_ix2 w⟩
  pointwise [k0_pay113]
  rfl

theorem pay114_l (c pre : Fin 256 → ℝ) (z x : Fin 256 → Fin 256 → ℝ) : k0_pay114 (F := Ideal) maskB (lift1 c) (lift1 pre) (lift2 z) (lift2 x) (lift2 (cum x)) = lift2 (aT Below z x c pre) := by
  funext w
  obtain ⟨p, s, rfl⟩ : ∃ p s, w = ix2 p s := ⟨w 0, w 1, eq_ix2 w⟩
  pointwise [k0_pay114]
  rw [pay113_l]
  exact sel_c p s _

theorem pay115_l (c pre : Fin 256 → ℝ) (z x d : Fin 256 → Fin 256 → ℝ) : k0_pay115 (F := Ideal) maskB (lift1 c) (lift1 pre) (lift2 z) (lift2 d) (lift2 x) (lift2 (cum x)) = lift2 (gT (aT Below z x c pre) d) := by
  funext w
  obtain ⟨p, s, rfl⟩ : ∃ p s, w = ix2 p s := ⟨w 0, w 1, eq_ix2 w⟩
  pointwise [k0_pay115]
  rw [pay114_l]
  rfl

theorem pay116_l (c pre : Fin 256 → ℝ) (z x : Fin 256 → Fin 256 → ℝ) : k0_pay116 (F := Ideal) maskB (lift1 c) (lift1 pre) (lift2 z) (lift2 x) (lift2 (cum x)) = lift2 (aT Below z x c pre) := by
  funext w
  obtain ⟨p, s, rfl⟩ : ∃ p s, w = ix2 p s := ⟨w 0, w 1, eq_ix2 w⟩
  pointwise [k0_pay116]
  rw [pay114_l]

theorem pay117_l (c pre : Fin 256 → ℝ) (z x d : Fin 256 → Fin 256 → ℝ) : k0_pay117 (F := Ideal) maskB (lift2 ule) (lift1 c) (lift1 pre) (lift2 z) (lift2 d) (lift2 x) (lift2 (cum x)) = lift2 (cum (gT (aT Below z x c pre) d)) := by
  funext w
  obtain ⟨p, s, rfl⟩ : ∃ p s, w = ix2 p s := ⟨w 0, w 1, eq_ix2 w⟩
  pointwise [k0_pay117]
  rw [pay115_l]
  exact hilo_c (gT (aT Below z x c pre) d) p s

theorem hilo_masked (M : Fin 256 → Fin 256 → Bool) (x d : Fin 256 → Fin 256 → ℝ) (p s : Fin 256) :
    (∑ j, if M p j then x p j * d p j * ule j s else 0) + ∑ j, ((if M p j then x p j * d p j else 0) - (if M p j then x p j * d p j else 0)) * ule j s
      = cum (gT (fun p s => if M p s then x p s else 0) d) p s := by
  rw [← hilo]
  congr 1
  · exact Finset.sum_congr rfl fun j _ => by
      show (if M p j then x p j * d p j * ule j s else 0) = (if M p j then x p j else 0) * d p j * ule j s
      cases M p j
      · rw [if_neg Bool.false_ne_true, if_neg Bool.false_ne_true, zero_mul, zero_mul]
      · rw [if_pos rfl, if_pos rfl]
  · exact Finset.sum_congr rfl fun j _ => by simp only [sub_self]

theorem pay118_l (h c pre : Fin 256 → ℝ) (z x d : Fin 256 → Fin 256 → ℝ) : k0_pay118 (F := Ideal) maskB (lift2 ule) (lift1 h) (lift2 d) (lift2 fun p s => z p s + x p s) (lift2 (eT z x c pre)) = lift2 (dzT Below z x (gT (aT Below z x c pre) d) h) := by
  funext w
  obtain ⟨p, s, rfl⟩ : ∃ p s, w = ix2 p s := ⟨w 0, w 1, eq_ix2 w⟩
  pointwise [k0_pay118, k0_pay111]
  simp only [mul_c, sub_c, sum_c, add_c, exp_c, sel_c]
  refine congrArg (fun r : ℝ => (r : EReal)) ?_
  refine (congrArg (fun r : ℝ => if Below p s then (if Below p s then eT z x c pre p s * d p s else 0) - Real.exp (z p s + x p s) * (h p + r) else 0)
    (hilo_masked Below (eT z x c pre) d p s)).trans ?_
  show _ = dzT Below z x (gT (aT Below z x c pre) d) h p s
  unfold dzT
  by_cases hb : Below p s = true
  · simp only [hb, if_true]; unfold gT aT; simp only [hb, if_true]; rfl
  · simp only [hb]; rfl

theorem pay119_l (h c pre : Fin 256 → ℝ) (z x d : Fin 256 → Fin 256 → ℝ) (q k : Fin 256 → Fin 128 → ℝ) : k0_pay119 (F := Ideal) maskB (lift2 ule) (lift1 h) (lift2 q) (lift2 d) (lift2 fun p s => z p s + x p s) (lift2 (eT z x c pre)) (lift2 k) = lift2 fun p l => q p l + nn (dzT Below z x (gT (aT Below z x c pre) d) h) k p l := by
  funext w
  obtain ⟨p, s, rfl⟩ : ∃ p s, w = ix2 p s := ⟨w 0, w 1, eq_ix2 w⟩
  pointwise [k0_pay119]
  rw [pay118_l]
  simp only [mul_c, sum_c, add_c]
  rfl

theorem pay120_l (h c pre : Fin 256 → ℝ) (z x d : Fin 256 → Fin 256 → ℝ) (k : Fin 128 → Fin 256 → ℝ) : k0_pay120 (F := Ideal) maskB (lift2 ule) (lift1 h) (lift2 d) (lift2 fun p s => z p s + x p s) (lift2 (eT z x c pre)) (lift2 k) = lift2 fun l s => tn k (dzT Below z x (gT (aT Below z x c pre) d) h) l s := by
  funext w
  obtain ⟨p, s, rfl⟩ : ∃ p s, w = ix2 p s := ⟨w 0, w 1, eq_ix2 w⟩
  pointwise [k0_pay120]
  rw [pay118_l]
  simp only [mul_c, sum_c, add_c]
  rfl

theorem pay10_l (h : Fin 256 → ℝ) (z x g : Fin 256 → Fin 256 → ℝ) : k0_pay10 (F := Ideal) (lift1 h) (lift2 fun p s => z p s + x p s) (lift2 g) (lift2 (cum g)) = lift2 (dzT Below z x g h) := by
  funext w
  obtain ⟨p, s, rfl⟩ : ∃ p s, w = ix2 p s := ⟨w 0, w 1, eq_ix2 w⟩
  pointwise [k0_pay10]
  rw [pay8_l]
  exact sel_c p s _

theorem pay11_l (h : Fin 256 → ℝ) (z x g : Fin 256 → Fin 256 → ℝ) (q y k : Fin 128 → Fin 256 → ℝ) : k0_pay11 (F := Ideal) (lift1 h) (lift2 fun p s => z p s + x p s) (lift2 g) (lift2 (cum g)) (lift2 q) (lift2 y) (lift2 k) = lift2 fun l s => q l s + y l s + tn k (dzT Below z x g h) l s := by
  funext w
  obtain ⟨p, s, rfl⟩ : ∃ p s, w = ix2 p s := ⟨w 0, w 1, eq_ix2 w⟩
  pointwise [k0_pay11]
  rw [pay10_l]
  simp only [mul_c, sum_c, add_c]
  rfl

theorem pay12_l (a a' : Fin 256 → Fin 256 → ℝ) (q k k' : Fin 128 → Fin 256 → ℝ) : k0_pay12 (F := Ideal) (lift2 a) (lift2 a') (lift2 q) (lift2 k) (lift2 k') = lift2 fun l s => q l s + tn k a l s + tn k' a' l s := by
  funext w
  obtain ⟨p, s, rfl⟩ : ∃ p s, w = ix2 p s := ⟨w 0, w 1, eq_ix2 w⟩
  pointwise [k0_pay12]
  exact acc_c (q p s) (fun j => k p j) (fun j => a j s) (fun j => k' p j) (fun j => a' j s)

theorem pay13_l (h : Fin 256 → ℝ) (z x g : Fin 256 → Fin 256 → ℝ) (y k : Fin 256 → Fin 128 → ℝ) : k0_pay13 (F := Ideal) (lift1 h) (lift2 fun p s => z p s + x p s) (lift2 g) (lift2 (cum g)) (lift2 y) (lift2 k) = lift2 fun p l => y p l + nn (dzT Below z x g h) k p l := by
  funext w
  obtain ⟨p, s, rfl⟩ : ∃ p s, w = ix2 p s := ⟨w 0, w 1, eq_ix2 w⟩
  pointwise [k0_pay13]
  rw [pay10_l]
  simp only [mul_c, sum_c, add_c]
  rfl

theorem pay14_l (x : Fin 128 → Fin 256 → ℝ) : k0_pay14 (F := Ideal) (lift2 x) = lift2 fun p l => x l p := by
  funext w
  obtain ⟨p, s, rfl⟩ : ∃ p s, w = ix2 p s := ⟨w 0, w 1, eq_ix2 w⟩
  pointwise [k0_pay14]
  rfl

theorem pay15_l (x : Fin 128 → Fin 256 → ℝ) : k0_pay15 (F := Ideal) (lift2 x) = lift2 fun p l => x l p := by
  funext w
  obtain ⟨p, s, rfl⟩ : ∃ p s, w = ix2 p s := ⟨w 0, w 1, eq_ix2 w⟩
  pointwise [k0_pay15]
  rfl

end Cert.Kernel2Ideal.Stick

end
-- ==== Proof.StickWalk.lean ====
/- The walk over the tiles of the stick-breaking backward, on reals: the prefix sums it carries, and the gradients it
   leaves, as sums over tiles. -/
module

public import proofs.«01_k».proof.Proof.StickReal

@[expose] public section

set_option maxRecDepth 16384

noncomputable section

namespace Cert.Kernel2Ideal.Stick

open Cert.Kernel2Ideal Cert.Kernel2Ideal.Gen
open Idealize.ShloMosaic Idealize.ShloMosaic.TcCoe

/-- What the tiles of one head hold, as reals: the scaled query rows, the scaled key rows, the output-gradient rows (other
    head's lanes zero), the key and value rows of both heads, the transposed query and output-gradient columns, and the
    row totals. -/
structure HeadR where
  q : Fin 8 → Fin 256 → Fin 128 → ℝ
  k : Fin 8 → Fin 256 → Fin 128 → ℝ
  o : Fin 8 → Fin 256 → Fin 128 → ℝ
  kb : Fin 8 → Fin 256 → Fin 128 → ℝ
  vb : Fin 8 → Fin 256 → Fin 128 → ℝ
  qt : Fin 8 → Fin 128 → Fin 256 → ℝ
  ot : Fin 8 → Fin 128 → Fin 256 → ℝ
  c : Fin 8 → Fin 256 → ℝ

/-- The tiles of two heads. -/
def liftT (A B : HeadR) : Tiles Ideal where
  q0 t := lift2 (A.q t)
  q1 t := lift2 (B.q t)
  k0 t := lift2 (A.k t)
  k1 t := lift2 (B.k t)
  kb t := lift2 (A.kb t)
  vb t := lift2 (A.vb t)
  o0 t := lift2 (A.o t)
  o1 t := lift2 (B.o t)
  qt0 t := lift2 (A.qt t)
  qt1 t := lift2 (B.qt t)
  ot0 t := lift2 (A.ot t)
  ot1 t := lift2 (B.ot t)
  c0 t := fun w => ((A.c t (w 1) : ℝ) : EReal)
  c1 t := fun w => ((B.c t (w 1) : ℝ) : EReal)

/-- Row `256 i + p` is past column `256 j + s`. -/
def st (i j : Fin 8) (p s : Fin 256) : Bool := decide (256 * j.val + s.val < 256 * i.val + p.val)

theorem st_of_lt {i j : Fin 8} (h : j.val < i.val) : st i j = All := by
  funext p s
  unfold st All
  exact decide_eq_true (by have := s.isLt; omega)

theorem st_self (i : Fin 8) : st i i = Below := by
  funext p s
  unfold st Below
  exact decide_eq_decide.2 (by rw [Fin.lt_def]; omega)

theorem st_of_gt {i j : Fin 8} (h : i.val < j.val) (p s : Fin 256) : st i j p s = false := by
  unfold st
  exact decide_eq_false (by have := p.isLt; omega)

/-- The sum of the first `n` of eight numbers. -/
def up (n : ℕ) (f : Fin 8 → ℝ) : ℝ := ∑ j : Fin 8, if j.val < n then f j else 0

theorem up_zero (f : Fin 8 → ℝ) : up 0 f = 0 := by simp [up]

theorem up_succ (n : ℕ) (hn : n < 8) (f : Fin 8 → ℝ) : up (n + 1) f = up n f + f (Fin.ofNat 8 n) := by
  unfold up
  have h : ∀ j : Fin 8, (if j.val < n + 1 then f j else 0) = (if j.val < n then f j else 0) + if j = Fin.ofNat 8 n then f j else 0 := fun j => by
    have e : (j = Fin.ofNat 8 n) ↔ j.val = n := by
      rw [Fin.ext_iff]; show j.val = n % 8 ↔ _; rw [Nat.mod_eq_of_lt hn]
    by_cases h1 : j.val < n
    · rw [if_pos h1, if_pos (by omega), if_neg (fun h => by rw [e] at h; omega), add_zero]
    · by_cases h2 : j.val = n
      · rw [if_neg h1, if_pos (by omega), if_pos (e.2 h2), zero_add]
      · rw [if_neg h1, if_neg (by omega), if_neg (fun h => h2 (e.1 h)), add_zero]
  rw [Finset.sum_congr rfl fun j _ => h j, Finset.sum_add_distrib, Finset.sum_ite_eq' Finset.univ (Fin.ofNat 8 n) f, if_pos (Finset.mem_univ _)]

namespace HeadR
variable (H : HeadR)

/-- The scores. -/
def z (i j : Fin 8) : Fin 256 → Fin 256 → ℝ := nt (H.q i) (H.kb j)
/-- The gradient of the weights. -/
def da (i j : Fin 8) : Fin 256 → Fin 256 → ℝ := nt (H.o i) (H.vb j)
/-- The log-gates. -/
def lm (i j : Fin 8) : Fin 256 → Fin 256 → ℝ := lmT (st i j) (H.z i j)
/-- The log-gates of the tiles before the `n`-th, summed along a row. -/
def pre (i : Fin 8) (n : ℕ) (p : Fin 256) : ℝ := up n fun j => ∑ s, H.lm i j p s
/-- The weights. -/
def a (i j : Fin 8) : Fin 256 → Fin 256 → ℝ := aT (st i j) (H.z i j) (H.lm i j) (H.c i) (H.pre i j.val)
/-- The weights times their gradients. -/
def g (i j : Fin 8) : Fin 256 → Fin 256 → ℝ := gT (H.a i j) (H.da i j)
/-- These of the tiles before the `n`-th, summed along a row. -/
def hl (i : Fin 8) (n : ℕ) (p : Fin 256) : ℝ := up n fun j => ∑ s, H.g i j p s
/-- The gradient of the scores. -/
def dz (i j : Fin 8) : Fin 256 → Fin 256 → ℝ := dzT (st i j) (H.z i j) (H.lm i j) (H.g i j) (H.hl i j.val)

end HeadR

theorem ofBits_z : (Scalar.ofBits .f32 0x00000000#32 : Ideal .f32) = (0 : EReal) := Ideal.ofBits_zero_f32

/-- One tile left of the diagonal. -/
theorem inner_l (A B : HeadR) (hkb : A.kb = B.kb) (hvb : A.vb = B.vb) (i j : Fin 8) (hj : j.val < i.val) (q : Fin 256 → Fin 128 → ℝ) (dk dv : Fin 128 → Fin 256 → ℝ) :
    inner (liftT A B) i j (lift1 (A.pre i j.val), lift1 (B.pre i j.val), lift1 (A.hl i j.val), lift1 (B.hl i j.val), lift2 q) (lift2 dk) (lift2 dv)
      = ((lift1 fun p => A.pre i j.val p + ∑ s, A.lm i j p s, lift1 fun p => B.pre i j.val p + ∑ s, B.lm i j p s,
          lift1 fun p => A.hl i j.val p + ∑ s, A.g i j p s, lift1 fun p => B.hl i j.val p + ∑ s, B.g i j p s,
          lift2 fun p l => q p l + nn (A.dz i j) (A.k j) p l + nn (B.dz i j) (B.k j) p l),
        lift2 fun l s => dk l s + tn (A.qt i) (A.dz i j) l s + tn (B.qt i) (B.dz i j) l s,
        lift2 fun l s => dv l s + tn (A.ot i) (A.a i j) l s + tn (B.ot i) (B.a i j) l s) := by
  unfold HeadR.dz HeadR.g HeadR.a HeadR.lm HeadR.da HeadR.z
  rw [st_of_lt hj]
  rw [← hkb, ← hvb]
  unfold inner
  dsimp only [liftT]
  rw [ofBits_z]
  simp only [pay9_l, pay93_l, pay94_l, pay37_l, pay38_l, pay39_l, pay40_l, pay41_l, pay42_l, pay44_l, pay45_l, pay46_l, pay48_l, pay49_l, pay50_l,
    pay52_l, pay53_l, pay54_l, pay55_l, pay57_l, pay58_l, pay60_l, pay61_l, pay62_l, pay63_l, pay64_l, pay97_l, pay98_l]

/-- The tile on the diagonal. -/
theorem diag_l (A B : HeadR) (hkb : A.kb = B.kb) (hvb : A.vb = B.vb) (i : Fin 8) (q : Fin 256 → Fin 128 → ℝ) (dk dv : Fin 128 → Fin 256 → ℝ) :
    diag (liftT A B) i (lift1 (A.pre i i.val), lift1 (B.pre i i.val), lift1 (A.hl i i.val), lift1 (B.hl i i.val), lift2 q) (lift2 dk) (lift2 dv)
      = (lift2 fun p l => q p l + nn (A.dz i i) (A.k i) p l + nn (B.dz i i) (B.k i) p l,
        lift2 fun l s => dk l s + tn (A.qt i) (A.dz i i) l s + tn (B.qt i) (B.dz i i) l s,
        lift2 fun l s => dv l s + tn (A.ot i) (A.a i i) l s + tn (B.ot i) (B.a i i) l s) := by
  unfold HeadR.dz HeadR.g HeadR.a HeadR.lm HeadR.da HeadR.z
  rw [st_self]
  rw [← hkb, ← hvb]
  unfold diag
  dsimp only [liftT]
  simp only [pay8_l, pay9_l, pay93_l, pay94_l, pay101_l, pay102_l, pay103_l, pay104_l, pay105_l, pay107_l, pay108_l, pay109_l, pay110_l, pay112_l,
    pay113_l, pay115_l, pay116_l, pay117_l, pay119_l, pay120_l, pay11_l, pay12_l, pay13_l]

/-! The sums the walk and the rows leave. -/

/-- What tile `j` adds to the query gradient of row `i`. -/
def tq (A B : HeadR) (i j : Fin 8) (p : Fin 256) (l : Fin 128) : ℝ := nn (A.dz i j) (A.k j) p l + nn (B.dz i j) (B.k j) p l
/-- What row `i` adds to the key gradient of tile `j`. -/
def tk (A B : HeadR) (i j : Fin 8) (l : Fin 128) (s : Fin 256) : ℝ := tn (A.qt i) (A.dz i j) l s + tn (B.qt i) (B.dz i j) l s
/-- What row `i` adds to the value gradient of tile `j`. -/
def tv (A B : HeadR) (i j : Fin 8) (l : Fin 128) (s : Fin 256) : ℝ := tn (A.ot i) (A.a i j) l s + tn (B.ot i) (B.a i j) l s

theorem dz_of_gt (H : HeadR) {i j : Fin 8} (h : i.val < j.val) : H.dz i j = fun _ _ => 0 := by
  funext p s
  unfold HeadR.dz dzT
  rw [st_of_gt h]; rfl

theorem a_of_gt (H : HeadR) {i j : Fin 8} (h : i.val < j.val) : H.a i j = fun _ _ => 0 := by
  funext p s
  unfold HeadR.a aT
  rw [st_of_gt h]; rfl

theorem nn_zero (k : Fin 256 → Fin 128 → ℝ) (p : Fin 256) (l : Fin 128) : nn (fun _ _ => 0) k p l = 0 := by simp [nn]
theorem tn_zero (o : Fin 128 → Fin 256 → ℝ) (l : Fin 128) (s : Fin 256) : tn o (fun _ _ => 0) l s = 0 := by simp [tn]

theorem tq_of_gt (A B : HeadR) {i j : Fin 8} (h : i.val < j.val) (p : Fin 256) (l : Fin 128) : tq A B i j p l = 0 := by
  unfold tq; rw [dz_of_gt A h, dz_of_gt B h, nn_zero, nn_zero, add_zero]
theorem tk_of_gt (A B : HeadR) {i j : Fin 8} (h : i.val < j.val) (l : Fin 128) (s : Fin 256) : tk A B i j l s = 0 := by
  unfold tk; rw [dz_of_gt A h, dz_of_gt B h, tn_zero, tn_zero, add_zero]
theorem tv_of_gt (A B : HeadR) {i j : Fin 8} (h : i.val < j.val) (l : Fin 128) (s : Fin 256) : tv A B i j l s = 0 := by
  unfold tv; rw [a_of_gt A h, a_of_gt B h, tn_zero, tn_zero, add_zero]

theorem ofNat_val {n : ℕ} (h : n < 8) : (Fin.ofNat 8 n).val = n := Nat.mod_eq_of_lt h

theorem carry0_l : carry0 (F := Ideal) = (lift1 fun _ => 0, lift1 fun _ => 0, lift1 fun _ => 0, lift1 fun _ => 0, lift2 fun _ _ => 0) := by
  unfold carry0
  rw [pay95_l, pay96_l]

/-- Eight arrays of reals with the first `n` added to. -/
def plus (n : ℕ) (d t : Fin 8 → Fin 128 → Fin 256 → ℝ) (j : Fin 8) (l : Fin 128) (s : Fin 256) : ℝ :=
  d j l s + if j.val < n then t j l s else 0

theorem plus_zero (d t : Fin 8 → Fin 128 → Fin 256 → ℝ) : plus 0 d t = d := by
  funext j l s; simp [plus]

theorem plus_at (n : ℕ) (hn : n < 8) (d t : Fin 8 → Fin 128 → Fin 256 → ℝ) : plus n d t (Fin.ofNat 8 n) = d (Fin.ofNat 8 n) := by
  funext l s
  unfold plus
  rw [ofNat_val hn, if_neg (lt_irrefl n), add_zero]

theorem plus_update (n : ℕ) (hn : n < 8) (d t : Fin 8 → Fin 128 → Fin 256 → ℝ) (x : Fin 128 → Fin 256 → ℝ)
    (hx : ∀ l s, x l s = d (Fin.ofNat 8 n) l s + t (Fin.ofNat 8 n) l s) :
    Function.update (fun j => lift2 (plus n d t j)) (Fin.ofNat 8 n) (lift2 x) = fun j => lift2 (plus (n + 1) d t j) := by
  funext j
  by_cases h : j = Fin.ofNat 8 n
  · subst h
    rw [Function.update_self]
    have e : x = plus (n + 1) d t (Fin.ofNat 8 n) := by
      funext l s
      unfold plus
      rw [hx, ofNat_val hn, if_pos (Nat.lt_succ_self n)]
    rw [e]
  · rw [Function.update_of_ne h]
    have hv : j.val ≠ n := fun h' => h (Fin.ext (h'.trans (ofNat_val hn).symm))
    have e : plus n d t j = plus (n + 1) d t j := by
      funext l s
      unfold plus
      by_cases hl : j.val < n
      · rw [if_pos hl, if_pos (by omega)]
      · rw [if_neg hl, if_neg (by omega)]
    rw [e]

/-- The walk along row `i`. -/
theorem walk_l (A B : HeadR) (hkb : A.kb = B.kb) (hvb : A.vb = B.vb) (i : Fin 8) (dk dv : Fin 8 → Fin 128 → Fin 256 → ℝ) : ∀ n : ℕ, n ≤ i.val →
    walk (liftT A B) i (carry0, fun j => lift2 (dk j), fun j => lift2 (dv j)) n
      = ((lift1 (A.pre i n), lift1 (B.pre i n), lift1 (A.hl i n), lift1 (B.hl i n), lift2 fun p l => up n fun j => tq A B i j p l),
        fun j => lift2 (plus n dk (tk A B i) j), fun j => lift2 (plus n dv (tv A B i) j))
  | 0, _ => by
    rw [plus_zero, plus_zero, walk, carry0_l]
    have h1 : ∀ H : HeadR, H.pre i 0 = fun _ => 0 := fun H => by funext p; exact up_zero _
    have h2 : ∀ H : HeadR, H.hl i 0 = fun _ => 0 := fun H => by funext p; exact up_zero _
    simp only [h1, h2, up_zero]
  | n + 1, hn => by
    have hi := i.isLt
    have h8 : n < 8 := by omega
    have hv := ofNat_val h8
    rw [walk, walk_l A B hkb hvb i dk dv n (by omega)]
    unfold step
    have e := inner_l A B hkb hvb i (Fin.ofNat 8 n) (by omega) (fun p l => up n fun j => tq A B i j p l) (plus n dk (tk A B i) (Fin.ofNat 8 n))
      (plus n dv (tv A B i) (Fin.ofNat 8 n))
    rw [hv] at e
    rw [e]
    have h1 : ∀ H : HeadR, (fun p => H.pre i n p + ∑ s, H.lm i (Fin.ofNat 8 n) p s) = H.pre i (n + 1) := fun H => by
      funext p; exact (up_succ n h8 _).symm
    have h2 : ∀ H : HeadR, (fun p => H.hl i n p + ∑ s, H.g i (Fin.ofNat 8 n) p s) = H.hl i (n + 1) := fun H => by
      funext p; exact (up_succ n h8 _).symm
    have h3 : (fun p l => (up n fun j => tq A B i j p l) + nn (A.dz i (Fin.ofNat 8 n)) (A.k (Fin.ofNat 8 n)) p l + nn (B.dz i (Fin.ofNat 8 n)) (B.k (Fin.ofNat 8 n)) p l)
        = fun p l => up (n + 1) fun j => tq A B i j p l := by
      funext p l; rw [up_succ n h8, add_assoc]; rfl
    have hk := plus_update n h8 dk (tk A B i) (fun l s => plus n dk (tk A B i) (Fin.ofNat 8 n) l s + tn (A.qt i) (A.dz i (Fin.ofNat 8 n)) l s + tn (B.qt i) (B.dz i (Fin.ofNat 8 n)) l s)
      (fun l s => by rw [plus_at n h8, add_assoc]; rfl)
    have hw := plus_update n h8 dv (tv A B i) (fun l s => plus n dv (tv A B i) (Fin.ofNat 8 n) l s + tn (A.ot i) (A.a i (Fin.ofNat 8 n)) l s + tn (B.ot i) (B.a i (Fin.ofNat 8 n)) l s)
      (fun l s => by rw [plus_at n h8, add_assoc]; rfl)
    dsimp only
    rw [hk, hw, h1 A, h1 B, h2 A, h2 B, h3]

theorem plus_all (i : Fin 8) (d t : Fin 8 → Fin 128 → Fin 256 → ℝ) (h : ∀ j : Fin 8, i.val < j.val → ∀ l s, t j l s = 0) :
    plus (i.val + 1) d t = fun j l s => d j l s + t j l s := by
  funext j l s
  unfold plus
  by_cases hj : j.val < i.val + 1
  · rw [if_pos hj]
  · rw [if_neg hj, h j (by omega)]

theorem up_all (i : Fin 8) (f : Fin 8 → ℝ) (h : ∀ j : Fin 8, i.val < j.val → f j = 0) : up (i.val + 1) f = ∑ j, f j := by
  unfold up
  refine Finset.sum_congr rfl fun j _ => ?_
  by_cases hj : j.val < i.val + 1
  · rw [if_pos hj]
  · rw [if_neg hj, h j (by omega)]

/-- One row of tiles. -/
theorem row_l (A B : HeadR) (hkb : A.kb = B.kb) (hvb : A.vb = B.vb) (i : Fin 8) (g : Fin 8 → FVec Ideal S256x128 .bf16) (dk dv : Fin 8 → Fin 128 → Fin 256 → ℝ) :
    row (liftT A B) i (g, fun j => lift2 (dk j), fun j => lift2 (dv j))
      = (Function.update g i (lift2 fun p l => ∑ j, tq A B i j p l),
        fun j => lift2 fun l s => dk j l s + tk A B i j l s, fun j => lift2 fun l s => dv j l s + tv A B i j l s) := by
  have hi : Fin.ofNat 8 i.val = i := Fin.ext (ofNat_val i.isLt)
  rw [row_of_walk (liftT A B) i _ _ (walk_l A B hkb hvb i dk dv i.val le_rfl).symm]
  dsimp only
  rw [diag_l A B hkb hvb]
  dsimp only
  have hk := plus_update i.val i.isLt dk (tk A B i) (fun l s => plus i.val dk (tk A B i) i l s + tn (A.qt i) (A.dz i i) l s + tn (B.qt i) (B.dz i i) l s)
    (fun l s => by rw [hi]; have := plus_at i.val i.isLt dk (tk A B i); rw [hi] at this; rw [this, add_assoc]; rfl)
  have hw := plus_update i.val i.isLt dv (tv A B i) (fun l s => plus i.val dv (tv A B i) i l s + tn (A.ot i) (A.a i i) l s + tn (B.ot i) (B.a i i) l s)
    (fun l s => by rw [hi]; have := plus_at i.val i.isLt dv (tv A B i); rw [hi] at this; rw [this, add_assoc]; rfl)
  rw [hi] at hk hw
  rw [hk, hw, plus_all i dk _ fun j hj l s => tk_of_gt A B hj l s, plus_all i dv _ fun j hj l s => tv_of_gt A B hj l s]
  have h3 : (fun p l => (up i.val fun j => tq A B i j p l) + nn (A.dz i i) (A.k i) p l + nn (B.dz i i) (B.k i) p l) = fun p l => ∑ j, tq A B i j p l := by
    funext p l
    rw [← up_all i _ fun j hj => tq_of_gt A B hj p l, up_succ i.val i.isLt, hi, add_assoc]; rfl
  rw [h3]

/-- All rows: the key and value gradients of the first `n`. -/
theorem rows_l (A B : HeadR) (hkb : A.kb = B.kb) (hvb : A.vb = B.vb) (g : Fin 8 → FVec Ideal S256x128 .bf16) : ∀ n : ℕ, n ≤ 8 →
    (rows (liftT A B) (g, fun _ => lift2 fun _ _ => 0, fun _ => lift2 fun _ _ => 0) n).2
      = (fun j => lift2 fun l s => up n fun i => tk A B i j l s, fun j => lift2 fun l s => up n fun i => tv A B i j l s)
    ∧ ∀ t : Fin 8, t.val < n → (rows (liftT A B) (g, fun _ => lift2 fun _ _ => 0, fun _ => lift2 fun _ _ => 0) n).1 t
      = lift2 fun p l => ∑ j, tq A B t j p l
  | 0, _ => ⟨by rw [rows]; simp only [up_zero], fun t h => absurd h (Nat.not_lt_zero _)⟩
  | n + 1, hn => by
    have h8 : n < 8 := by omega
    have hv := ofNat_val h8
    obtain ⟨h1, h2⟩ := rows_l A B hkb hvb g n (by omega)
    have hr : rows (liftT A B) (g, fun _ => lift2 fun _ _ => 0, fun _ => lift2 fun _ _ => 0) (n + 1)
        = (Function.update (rows (liftT A B) (g, fun _ => lift2 fun _ _ => 0, fun _ => lift2 fun _ _ => 0) n).1 (Fin.ofNat 8 n) (lift2 fun p l => ∑ j, tq A B (Fin.ofNat 8 n) j p l),
          fun j => lift2 fun l s => up (n + 1) fun i => tk A B i j l s, fun j => lift2 fun l s => up (n + 1) fun i => tv A B i j l s) := by
      have hp : rows (liftT A B) (g, fun _ => lift2 fun _ _ => 0, fun _ => lift2 fun _ _ => 0) n
          = ((rows (liftT A B) (g, fun _ => lift2 fun _ _ => 0, fun _ => lift2 fun _ _ => 0) n).1,
            fun j => lift2 fun l s => up n fun i => tk A B i j l s, fun j => lift2 fun l s => up n fun i => tv A B i j l s) := by
        rw [← h1]
      rw [rows, hp, row_l A B hkb hvb]
      simp only [up_succ n h8]
    rw [hr]
    refine ⟨rfl, fun t ht => ?_⟩
    by_cases e : t = Fin.ofNat 8 n
    · subst e; exact Function.update_self ..
    · refine (Function.update_of_ne e _ _).trans (h2 t ?_)
      have : t.val ≠ n := fun h' => e (Fin.ext (h'.trans hv.symm))
      omega

theorem up_8 (f : Fin 8 → ℝ) : up 8 f = ∑ i, f i := Finset.sum_congr rfl fun i _ => if_pos i.isLt

theorem start_l : (start (F := Ideal)).2 = (fun _ => lift2 fun _ _ => 0, fun _ => lift2 fun _ _ => 0) := by
  have h5 : k0_pay5 (F := Ideal) = fun _ => (((0 : ℝ) : EReal)) := by
    funext w
    obtain ⟨p, s, rfl⟩ : ∃ p s, w = ix2 p s := ⟨w 0, w 1, eq_ix2 w⟩
    pointwise [k0_pay5]
    rfl
  have h6 : k0_pay6 (F := Ideal) = fun _ => (((0 : ℝ) : EReal)) := by
    funext w
    obtain ⟨p, s, rfl⟩ : ∃ p s, w = ix2 p s := ⟨w 0, w 1, eq_ix2 w⟩
    pointwise [k0_pay6]
    rfl
  unfold start
  rw [h5, h6]
  rfl

/-- The three gradients of a grid point whose tiles hold reals. -/
theorem rows8_l (A B : HeadR) (hkb : A.kb = B.kb) (hvb : A.vb = B.vb) :
    rows (liftT A B) start 8 = (fun t => lift2 fun p l => ∑ j, tq A B t j p l,
      fun j => lift2 fun l s => ∑ i, tk A B i j l s, fun j => lift2 fun l s => ∑ i, tv A B i j l s) := by
  have h := rows_l A B hkb hvb (start (F := Ideal)).1 8 le_rfl
  rw [show ((start (F := Ideal)).1, (fun _ => lift2 fun _ _ => 0 : Fin 8 → FVec Ideal S128x256 .f32), (fun _ => lift2 fun _ _ => 0 : Fin 8 → FVec Ideal S128x256 .f32)) = start (F := Ideal)
    from Prod.ext rfl start_l.symm] at h
  simp only [up_8] at h
  exact Prod.ext (funext fun t => h.2 t t.isLt) h.1

end Cert.Kernel2Ideal.Stick

end
-- ==== Proof.WindowSum.lean ====
/- A window sum along the last axis of a rank-3 array, with the window as long as the axis: padded low it is the running
   sum, padded high the running sum from the other end. -/
module

public import Idealize.ShloMosaic.Lib.IdealHost
public import Idealize.ShloMosaic.Lib.Pipeline.ValueKit
public import Idealize.ShloMosaic.PureOps.Ideal.Laws

@[expose] public section

noncomputable section

namespace Cert.WindowSum

open Idealize.ShloMosaic

theorem foldl_add {α : Type} (l : List α) (f : α → EReal) (v : EReal) : l.foldl (fun r n => r + f n) v = v + (l.map f).sum := by
  induction l generalizing v with
  | nil => simp
  | cons a l ih => rw [List.foldl_cons, ih, List.map_cons, List.sum_cons, add_assoc]

/-- The window `[1, 1, N]` has one position for each `n < N`. -/
def pos (N : ℕ) : (⟨3, ![1, 1, N]⟩ : Shape).Idx ≃ Fin N where
  toFun w := w 2
  invFun n := ix3 (0 : Fin 1) (0 : Fin 1) n
  left_inv w := by
    rw [eq_ix3 w]
    have h0 : w 0 = (0 : Fin 1) := Subsingleton.elim (α := Fin 1) _ _
    have h1 : w 1 = (0 : Fin 1) := Subsingleton.elim (α := Fin 1) _ _
    rw [h0, h1]
    rfl
  right_inv n := rfl

theorem window {A T N L : ℕ} {hi : Fin 3 → ℕ} (x : (⟨3, ![A, T, N]⟩ : Shape).Idx → EReal)
    (h : (⟨3, ![A, T, N]⟩ : Shape).ReduceWindows (![1, 1, N] : Fin 3 → ℕ) ![1, 1, 1] ![0, 0, L] hi ⟨3, ![A, T, N]⟩) (a : Fin A) (t : Fin T) (s : Fin N) :
    Ideal.hostReduceWindowAdd (s := ⟨3, ![A, T, N]⟩) ![1, 1, N] ![1, 1, 1] ![0, 0, L] hi h x 0 (ix3 a t s)
      = ∑ n : Fin N, if hn : L ≤ s.val + n.val ∧ s.val + n.val - L < N then x (ix3 a t ⟨s.val + n.val - L, hn.2⟩) else 0 := by
  unfold Ideal.hostReduceWindowAdd Host.reduceWindow
  dsimp only
  rw [foldl_add, zero_add, ← Fin.sum_univ_def, ← Equiv.sum_comp (⟨3, ![1, 1, N]⟩ : Shape).rowMajor]
  refine Fintype.sum_equiv (pos N) _ _ fun w => ?_
  have h0 : (w 0).val = 0 := by have := (w 0).isLt; change (w 0).val < 1 at this; omega
  have h1 : (w 1).val = 0 := by have := (w 1).isLt; change (w 1).val < 1 at this; omega
  have ha := a.isLt
  have ht := t.isLt
  simp only [Equiv.symm_apply_apply]
  show (if hin : ∀ b : Fin 3, _ then _ else _) = if hn : L ≤ s.val + (w 2).val ∧ s.val + (w 2).val - L < N then _ else _
  by_cases hn : L ≤ s.val + (w 2).val ∧ s.val + (w 2).val - L < N
  · rw [dif_pos hn, dif_pos]
    · refine congrArg x (funext fun b => Fin.ext ?_)
      match b with
      | ⟨0, _⟩ => show a.val * 1 + (w 0).val - 0 = a.val; omega
      | ⟨1, _⟩ => show t.val * 1 + (w 1).val - 0 = t.val; omega
      | ⟨2, _⟩ => show s.val * 1 + (w 2).val - L = s.val + (w 2).val - L; omega
    · intro b
      match b with
      | ⟨0, _⟩ => show 0 ≤ a.val * 1 + (w 0).val ∧ a.val * 1 + (w 0).val - 0 < A; omega
      | ⟨1, _⟩ => show 0 ≤ t.val * 1 + (w 1).val ∧ t.val * 1 + (w 1).val - 0 < T; omega
      | ⟨2, _⟩ => show L ≤ s.val * 1 + (w 2).val ∧ s.val * 1 + (w 2).val - L < N; omega
  · rw [dif_neg hn, dif_neg]
    intro hin
    have := hin 2
    change L ≤ s.val * 1 + (w 2).val ∧ s.val * 1 + (w 2).val - L < N at this
    omega

/-- A family over `Fin N` continued by zero. -/
def ext {N : ℕ} (f : Fin N → EReal) (k : ℕ) : EReal := if h : k < N then f ⟨k, h⟩ else 0

theorem ext_val {N : ℕ} (f : Fin N → EReal) (k : Fin N) : ext f k.val = f k := dif_pos k.isLt

/-- Padded low by one less than the length: the sum up to and including `s`. -/
theorem low {N L : ℕ} (hL : L + 1 = N) (f : Fin N → EReal) (s : Fin N) :
    (∑ n : Fin N, if hn : L ≤ s.val + n.val ∧ s.val + n.val - L < N then f ⟨s.val + n.val - L, hn.2⟩ else 0) = ∑ k : Fin N, if k ≤ s then f k else 0 := by
  have hs := s.isLt
  have e1 : ∀ n : Fin N, (if hn : L ≤ s.val + n.val ∧ s.val + n.val - L < N then f ⟨s.val + n.val - L, hn.2⟩ else 0)
      = (fun m : ℕ => if L ≤ s.val + m then ext f (s.val + m - L) else 0) n.val := fun n => by
    have hn := n.isLt
    by_cases h : L ≤ s.val + n.val
    · have h' : s.val + n.val - L < N := by omega
      rw [dif_pos ⟨h, h'⟩]; show _ = if L ≤ s.val + n.val then _ else _
      rw [if_pos h]; unfold ext; rw [dif_pos h']
    · rw [dif_neg (fun c => h c.1)]; exact (if_neg h).symm
  have e2 : ∀ k : Fin N, (if k ≤ s then f k else 0) = (fun m : ℕ => if m ≤ s.val then ext f m else 0) k.val := fun k => by
    show _ = if k.val ≤ s.val then ext f k.val else 0
    rw [ext_val]; rfl
  rw [Finset.sum_congr rfl fun n _ => e1 n, Finset.sum_congr rfl fun k _ => e2 k,
    Fin.sum_univ_eq_sum_range (fun m : ℕ => if L ≤ s.val + m then ext f (s.val + m - L) else 0) N,
    Fin.sum_univ_eq_sum_range (fun m : ℕ => if m ≤ s.val then ext f m else 0) N, ← Finset.sum_filter, ← Finset.sum_filter]
  refine Finset.sum_nbij' (fun n => s.val + n - L) (fun k => k + L - s.val) ?_ ?_ ?_ ?_ fun _ _ => rfl
  all_goals intro n hn; simp only [Finset.mem_filter, Finset.mem_range] at hn ⊢; omega

/-- Padded high: the sum from `s` on. -/
theorem high {N : ℕ} (f : Fin N → EReal) (s : Fin N) :
    (∑ n : Fin N, if hn : 0 ≤ s.val + n.val ∧ s.val + n.val - 0 < N then f ⟨s.val + n.val - 0, hn.2⟩ else 0) = ∑ k : Fin N, if s ≤ k then f k else 0 := by
  have hs := s.isLt
  have e1 : ∀ n : Fin N, (if hn : 0 ≤ s.val + n.val ∧ s.val + n.val - 0 < N then f ⟨s.val + n.val - 0, hn.2⟩ else 0)
      = (fun m : ℕ => if s.val + m < N then ext f (s.val + m) else 0) n.val := fun n => by
    by_cases h : s.val + n.val < N
    · rw [dif_pos ⟨Nat.zero_le _, h⟩]; show _ = if s.val + n.val < N then _ else _
      rw [if_pos h]; unfold ext; rw [dif_pos h]; rfl
    · rw [dif_neg (fun c => h c.2)]; exact (if_neg h).symm
  have e2 : ∀ k : Fin N, (if s ≤ k then f k else 0) = (fun m : ℕ => if s.val ≤ m then ext f m else 0) k.val := fun k => by
    show _ = if s.val ≤ k.val then ext f k.val else 0
    rw [ext_val]; rfl
  rw [Finset.sum_congr rfl fun n _ => e1 n, Finset.sum_congr rfl fun k _ => e2 k,
    Fin.sum_univ_eq_sum_range (fun m : ℕ => if s.val + m < N then ext f (s.val + m) else 0) N,
    Fin.sum_univ_eq_sum_range (fun m : ℕ => if s.val ≤ m then ext f m else 0) N, ← Finset.sum_filter, ← Finset.sum_filter]
  refine Finset.sum_nbij' (fun n => s.val + n) (fun k => k - s.val) ?_ ?_ ?_ ?_ fun _ _ => rfl
  all_goals intro n hn; simp only [Finset.mem_filter, Finset.mem_range] at hn ⊢; omega

end Cert.WindowSum

end
-- ==== Proof.StickRef.lean ====
/- The reference of the stick-breaking backward, on reals: each of its stages, when the arguments hold reals. -/
module

public import proofs.«01_k».proof.Proof.StickReal
public import proofs.«01_k».proof.Proof.WindowSum
public import proofs.«01_k».proof.Proof.Gen.Reference2Ideal.Read

@[expose] public section

set_option maxRecDepth 16384

noncomputable section

namespace Cert.Reference2Ideal.Stick

open Cert.Reference2Ideal Cert.Reference2Ideal.Read
open Idealize.ShloMosaic Idealize.ShloMosaic.TcCoe
open Cert.Kernel2Ideal.Stick (lift2 sp mul_c add_c sub_c zsub_c exp_c sum_c)

/-- An array of reals of rank 3. -/
abbrev lift3 {a b c : ℕ} (x : Fin a → Fin b → Fin c → ℝ) : (⟨3, ![a, b, c]⟩ : Shape).Idx → EReal := fun p => ((x (p 0) (p 1) (p 2) : ℝ) : EReal)

theorem neg_c (x : ℝ) : -(x : EReal) = ((-x : ℝ) : EReal) := (EReal.coe_neg x).symm

/-- The pattern of one eighth. -/
theorem ofBits_eighth : Ideal.ofBits .f32 1040187392#32 = ((1 / 8 : ℝ) : EReal) := by
  have h1 : BitVec.extractLsb' 31 1 1040187392#32 ≠ 1#1 := by decide
  have h2 : 1040187392 >>> 23 % 256 = 124 := by decide
  simp only [Ideal.ofBits, Ideal.ieee]
  simp [h1]
  norm_num [h2]
  rw [← EReal.coe_mul]
  norm_num

/-- The softplus as the host spells it. -/
theorem softplus_c (z : ℝ) : (if (z : EReal) ≠ (z : EReal) then (z : EReal) else max (z : EReal) 0 + Ideal.log1p (Ideal.exp (-FloatOps.absf (F := Ideal) (φ := .f32) (z : EReal))))
    = ((sp z : ℝ) : EReal) := by
  rw [if_neg (fun h => h rfl), ← Cert.Kernel2Ideal.Stick.sp_c, zero_sub]
  rfl

/-- Its derivative as the host spells it. -/
theorem sigmoid_c (z : ℝ) (y : EReal) (hy : y = ((sp z : ℝ) : EReal)) :
    Ideal.exp ((if (z : EReal) = Ideal.ofBits .f32 2139095040#32 then 0 else (z : EReal)) - if y = Ideal.ofBits .f32 2139095040#32 then 0 else y)
      = ((Real.exp (z - sp z) : ℝ) : EReal) := by
  subst hy
  have hi : Ideal.ofBits .f32 2139095040#32 = ⊤ := Cert.Reals.inf_f32
  rw [hi, if_neg (EReal.coe_ne_top _), if_neg (EReal.coe_ne_top _), sub_c, exp_c]

theorem cmp_lt (t s : Fin 2048) : IntOp.cmpi CmpIPredicate.slt (BitVec.ofNat 32 s.val) (BitVec.ofNat 32 t.val) = if s < t then 1#1 else 0#1 := by
  have ht := t.isLt
  have hs := s.isLt
  have e : ∀ n : ℕ, n < 2048 → (BitVec.ofNat 32 n).toInt = n := fun n hn => by
    rw [BitVec.toInt_ofNat']
    simp only [Int.bmod]
    omega
  simp only [IntOp.cmpi, BitVec.slt, e _ ht, e _ hs, Fin.lt_def]
  by_cases hh : s.val < t.val
  · simp [hh]
  · simp [hh]

theorem sel_lt (t s : Fin 2048) (x y : EReal) : (Scalar.select (IntOp.cmpi CmpIPredicate.slt (BitVec.ofNat 32 s.val) (BitVec.ofNat 32 t.val)) x y : EReal)
    = if s < t then x else y := by
  rw [cmp_lt]
  by_cases h : s < t
  · rw [if_pos h, if_pos h]; rfl
  · rw [if_neg h, if_neg h]; rfl

/-- Lane `l` of head `h`. -/
def lane (h : Fin 8) (l : Fin 64) : ℕ := h.val * 64 + l.val

theorem lane_lt (h : Fin 8) (l : Fin 64) : lane h l < 512 := by unfold lane; have := h.isLt; have := l.isLt; omega

variable (X : Fin 2048 → Fin 3072 → ℝ) (Y : Fin 2048 → Fin 1024 → ℝ)

/-- The query, key, value and output gradient of a head. -/
def q (h : Fin 8) (t : Fin 2048) (l : Fin 64) : ℝ := X t ⟨lane h l, by have := lane_lt h l; omega⟩
def k (h : Fin 8) (s : Fin 2048) (l : Fin 64) : ℝ := X s ⟨1024 + lane h l, by have := lane_lt h l; omega⟩
def v (h : Fin 8) (s : Fin 2048) (l : Fin 64) : ℝ := X s ⟨2048 + lane h l, by have := lane_lt h l; omega⟩
def o (h : Fin 8) (t : Fin 2048) (l : Fin 64) : ℝ := Y t ⟨lane h l, by have := lane_lt h l; omega⟩

/-- The scores. -/
def z (h : Fin 8) (t s : Fin 2048) : ℝ := ∑ l, q X h t l * (1 / 8) * k X h s l
/-- The log-gates. -/
def lm (h : Fin 8) (t s : Fin 2048) : ℝ := if s < t then -sp (z X h t s) else 0
/-- What is left of the stick. -/
def rest (h : Fin 8) (t s : Fin 2048) : ℝ := (∑ k, if s ≤ k then lm X h t k else 0) - lm X h t s
/-- The weights before the mask. -/
def au (h : Fin 8) (t s : Fin 2048) : ℝ := Real.exp (-sp (-z X h t s) + rest X h t s)
/-- The weights. -/
def a (h : Fin 8) (t s : Fin 2048) : ℝ := if s < t then au X h t s else 0
/-- The gradient of the weights. -/
def da (h : Fin 8) (t s : Fin 2048) : ℝ := ∑ l, o Y h t l * v X h s l
/-- The weights times their gradients. -/
def g (h : Fin 8) (t s : Fin 2048) : ℝ := (if s < t then da X Y h t s else 0) * au X h t s
/-- The gradient of the log-gates. -/
def cg (h : Fin 8) (t s : Fin 2048) : ℝ := if s < t then -g X Y h t s + ∑ k, (if k ≤ s then g X Y h t k else 0) else 0
/-- The gradient of the scores. -/
def dz (h : Fin 8) (t s : Fin 2048) : ℝ :=
  g X Y h t s * Real.exp (-z X h t s - sp (-z X h t s)) - cg X Y h t s * Real.exp (z X h t s - sp (z X h t s))

theorem v11_l : val_main_v11 (F := Ideal) (lift2 X) = lift3 (z X) := by
  funext w
  obtain ⟨h, t, s, rfl⟩ : ∃ h t s, w = ix3 h t s := ⟨w 0, w 1, w 2, eq_ix3 w⟩
  pointwise [val_main_v11, val_main_v10, val_main_v9, val_main_cst, val_main_v6, val_main_v5, val_main_v4, val_main_v3, val_main_v1, val_main_v0]
  rw [ofBits_eighth]
  simp only [mul_c, sum_c]
  rfl

theorem v20_l : val_main_v20_0 (F := Ideal) (lift2 X) = lift3 (lm X) := by
  funext w
  obtain ⟨h, t, s, rfl⟩ : ∃ h t s, w = ix3 h t s := ⟨w 0, w 1, w 2, eq_ix3 w⟩
  pointwise [val_main_v20_0, val_main_v20_1, val_main_v19_0, val_main_v18, val_main_v17, val_main_v16, val_main_v15, val_main_v14, val_main_v13, val_main_v12, val_main_call0_v0, val_main_call0_v1_0, val_main_call0_call0_v0, val_main_call0_call0_v1, val_main_call0_call0_v2, val_main_call0_call0_v3, val_main_call0_call0_v4, val_main_call0_call0_v5, val_main_call0_call0_v6, val_main_call0_call0_v7, val_main_call0_call0_v8, val_main_call0_call0_v9, val_main_call0_call0_v10, val_main_call0_call0_v11, val_main_call0_call0_cst, val_main_call1_v2, val_main_call1_v0, val_main_cst_0]
  rw [v11_l, neg_neg]
  refine (sel_lt t s _ _).trans ?_
  unfold lift3 lm
  by_cases hs : s < t
  · rw [if_pos hs]
    refine (congrArg (fun e : EReal => -e) (softplus_c (z X h t s))).trans ?_
    rw [neg_c]; exact congrArg (fun r : ℝ => (r : EReal)) (if_pos hs).symm
  · rw [if_neg hs]
    refine Eq.trans ?_ (congrArg (fun r : ℝ => (r : EReal)) (if_neg hs).symm)
    exact Ideal.ofBits_zero_f32

theorem v19_l : val_main_v19_1 (F := Ideal) (lift2 X) = lift3 fun h t s => Real.exp (z X h t s - sp (z X h t s)) := by
  funext w
  obtain ⟨h, t, s, rfl⟩ : ∃ h t s, w = ix3 h t s := ⟨w 0, w 1, w 2, eq_ix3 w⟩
  pointwise [val_main_v19_1, val_main_v18, val_main_call0_v0, val_main_call0_v1_0, val_main_call0_call0_v0, val_main_call0_call0_v1, val_main_call0_call0_v2, val_main_call0_call0_v3, val_main_call0_call0_v4, val_main_call0_call0_v5, val_main_call0_call0_v6, val_main_call0_call0_v7, val_main_call0_call0_v8, val_main_call0_call0_v9, val_main_call0_call0_v10, val_main_call0_call0_v11, val_main_call0_call0_cst, val_main_call0_call0_v13, val_main_call0_call0_v14, val_main_call0_call0_v15, val_main_call0_call0_v16, val_main_call0_call0_v17, val_main_call0_call0_v18, val_main_call0_call0_v19, val_main_call0_call0_v20, val_main_call0_call0_v21, val_main_call0_call0_cst_0, val_main_call0_call0_cst_1, val_main_call0_call0_cst_2, val_main_call0_call0_cst_3]
  rw [v11_l, neg_neg]
  exact sigmoid_c _ _ (softplus_c _)

theorem v23_l : val_main_v23_0 (F := Ideal) (lift2 X) = lift3 fun h t s => -sp (-z X h t s) := by
  funext w
  obtain ⟨h, t, s, rfl⟩ : ∃ h t s, w = ix3 h t s := ⟨w 0, w 1, w 2, eq_ix3 w⟩
  pointwise [val_main_v23_0, val_main_call3_v0, val_main_call3_v1_0, val_main_call3_call0_v0, val_main_call3_call0_v1, val_main_call3_call0_v2, val_main_call3_call0_v3, val_main_call3_call0_v4, val_main_call3_call0_v5, val_main_call3_call0_v6, val_main_call3_call0_v7, val_main_call3_call0_v8, val_main_call3_call0_v9, val_main_call3_call0_v10, val_main_call3_call0_v11, val_main_call3_call0_cst]
  rw [v11_l]
  simp only [lift3, neg_c]
  exact (congrArg (fun e : EReal => -e) (softplus_c _)).trans (neg_c _)

theorem v23d_l : val_main_v23_1 (F := Ideal) (lift2 X) = lift3 fun h t s => Real.exp (-z X h t s - sp (-z X h t s)) := by
  funext w
  obtain ⟨h, t, s, rfl⟩ : ∃ h t s, w = ix3 h t s := ⟨w 0, w 1, w 2, eq_ix3 w⟩
  pointwise [val_main_v23_1, val_main_call3_v0, val_main_call3_v1_0, val_main_call3_call0_v0, val_main_call3_call0_v1, val_main_call3_call0_v2, val_main_call3_call0_v3, val_main_call3_call0_v4, val_main_call3_call0_v5, val_main_call3_call0_v6, val_main_call3_call0_v7, val_main_call3_call0_v8, val_main_call3_call0_v9, val_main_call3_call0_v10, val_main_call3_call0_v11, val_main_call3_call0_cst, val_main_call3_call0_v13, val_main_call3_call0_v14, val_main_call3_call0_v15, val_main_call3_call0_v16, val_main_call3_call0_v17, val_main_call3_call0_v18, val_main_call3_call0_v19, val_main_call3_call0_v20, val_main_call3_call0_v21, val_main_call3_call0_cst_0, val_main_call3_call0_cst_1, val_main_call3_call0_cst_2, val_main_call3_call0_cst_3]
  rw [v11_l]
  simp only [lift3, neg_c]
  exact sigmoid_c _ _ (softplus_c _)

theorem v25_l : val_main_v25 (F := Ideal) (lift2 X) = lift3 (au X) := by
  have h21 : ∀ h t s, val_main_v21 (F := Ideal) (lift2 X) (ix3 h t s) = ((∑ k, if s ≤ k then lm X h t k else 0 : ℝ) : EReal) := fun h t s => by
    unfold val_main_v21
    rw [v20_l]
    have hz : val_main_call2_v0 (F := Ideal) (Shape.Idx.first Gen.h_S_) = (0 : EReal) := Ideal.ofBits_zero_f32
    unfold Host.reduceWindowAdd
    rw [hz]
    refine (Cert.WindowSum.window (lift3 (lm X)) _ h t s).trans ((Cert.WindowSum.high (fun k => ((lm X h t k : ℝ) : EReal)) s).trans ?_)
    simp only [Cert.Kernel2Ideal.Stick.ite_z, sum_c]
  funext w
  obtain ⟨h, t, s, rfl⟩ : ∃ h t s, w = ix3 h t s := ⟨w 0, w 1, w 2, eq_ix3 w⟩
  pointwise [val_main_v25, val_main_v24, val_main_v22]
  rw [h21, v20_l, v23_l]
  simp only [sub_c, add_c, exp_c]
  rfl

theorem v26_l : val_main_v26_0 (F := Ideal) (lift2 X) = lift3 (a X) := by
  funext w
  obtain ⟨h, t, s, rfl⟩ : ∃ h t s, w = ix3 h t s := ⟨w 0, w 1, w 2, eq_ix3 w⟩
  pointwise [val_main_v26_0, val_main_v26_1, val_main_v17, val_main_v16, val_main_v15, val_main_v14, val_main_v13, val_main_v12, val_main_call4_v2, val_main_call4_v0, val_main_cst_1]
  rw [v25_l]
  refine (sel_lt t s _ _).trans ?_
  unfold lift3 a
  by_cases hs : s < t
  · rw [if_pos hs]; exact congrArg (fun r : ℝ => (r : EReal)) (if_pos hs).symm
  · rw [if_neg hs]
    refine Eq.trans ?_ (congrArg (fun r : ℝ => (r : EReal)) (if_neg hs).symm)
    exact Ideal.ofBits_zero_f32

theorem v32_l : val_main_v32 (F := Ideal) (lift2 X) (lift2 Y) = lift3 (da X Y) := by
  funext w
  obtain ⟨h, t, s, rfl⟩ : ∃ h t s, w = ix3 h t s := ⟨w 0, w 1, w 2, eq_ix3 w⟩
  pointwise [val_main_v32, val_main_v31, val_main_v30, val_main_v29, val_main_v8, val_main_v7, val_main_v2]
  simp only [mul_c, sum_c]
  rfl

theorem v36_l : val_main_v36 (F := Ideal) (lift2 X) (lift2 Y) = lift3 (g X Y) := by
  funext w
  obtain ⟨h, t, s, rfl⟩ : ∃ h t s, w = ix3 h t s := ⟨w 0, w 1, w 2, eq_ix3 w⟩
  pointwise [val_main_v36, val_main_v35, val_main_v26_1, val_main_v17, val_main_v16, val_main_v15, val_main_v14, val_main_v13, val_main_v12, val_main_call5_v0, val_main_call5_cst]
  rw [v25_l, v32_l]
  refine (sel_lt t s _ _).trans ?_
  show _ = ((g X Y h t s : ℝ) : EReal)
  unfold g
  by_cases hs : s < t
  · rw [if_pos hs, if_pos hs, mul_c]; rfl
  · rw [if_neg hs, if_neg hs, zero_mul, EReal.coe_zero]

theorem v41_l : val_main_v41 (F := Ideal) (lift2 X) (lift2 Y) = lift3 (cg X Y) := by
  have h39 : ∀ h t s, val_main_v39 (F := Ideal) (lift2 X) (lift2 Y) (ix3 h t s) = ((∑ k, if k ≤ s then g X Y h t k else 0 : ℝ) : EReal) := fun h t s => by
    unfold val_main_v39
    rw [v36_l]
    have hz : val_main_call7_v0 (F := Ideal) (Shape.Idx.first Gen.h_S_) = (0 : EReal) := Ideal.ofBits_zero_f32
    unfold Host.reduceWindowAdd
    rw [hz]
    refine (Cert.WindowSum.window (lift3 (g X Y)) _ h t s).trans ((Cert.WindowSum.low rfl (fun k => ((g X Y h t k : ℝ) : EReal)) s).trans ?_)
    simp only [Cert.Kernel2Ideal.Stick.ite_z, sum_c]
  funext w
  obtain ⟨h, t, s, rfl⟩ : ∃ h t s, w = ix3 h t s := ⟨w 0, w 1, w 2, eq_ix3 w⟩
  pointwise [val_main_v41, val_main_v40, val_main_v38, val_main_v20_1, val_main_v17, val_main_v16, val_main_v15, val_main_v14, val_main_v13, val_main_v12, val_main_call8_v0, val_main_call8_cst]
  rw [h39, v36_l]
  refine (sel_lt t s _ _).trans ?_
  unfold lift3 cg
  by_cases hs : s < t
  · rw [if_pos hs, neg_c, add_c]; exact congrArg (fun r : ℝ => (r : EReal)) (if_pos hs).symm
  · rw [if_neg hs]
    exact congrArg (fun r : ℝ => (r : EReal)) (if_neg hs).symm

theorem v44_l : val_main_v44 (F := Ideal) (lift2 X) (lift2 Y) = lift3 (dz X Y) := by
  funext w
  obtain ⟨h, t, s, rfl⟩ : ∃ h t s, w = ix3 h t s := ⟨w 0, w 1, w 2, eq_ix3 w⟩
  pointwise [val_main_v44, val_main_v43, val_main_v42, val_main_v37, val_main_call6_v1, val_main_call6_v0, val_main_call9_v1, val_main_call9_v0]
  rw [v36_l, v41_l, v19_l, v23d_l]
  simp only [lift3, neg_c, mul_c, add_c]
  refine congrArg (fun r : ℝ => (r : EReal)) ?_
  show _ = dz X Y h t s
  unfold dz
  ring_nf
  rfl

/-- The head of a column. -/
def hd (c : Fin 512) : Fin 8 := ⟨c.val / 64, by have := c.isLt; omega⟩
/-- Its lane. -/
def ln (c : Fin 512) : Fin 64 := ⟨c.val % 64, Nat.mod_lt _ (by decide)⟩

theorem lane_hd (c : Fin 512) : lane (hd c) (ln c) = c.val := by unfold lane hd ln; show c.val / 64 * 64 + c.val % 64 = c.val; omega

theorem v52_l : val_main_v52 (F := Ideal) (lift2 X) (lift2 Y) = lift2 fun t c => (∑ s, dz X Y (hd c) t s * k X (hd c) s (ln c)) * (1 / 8) := by
  funext w
  obtain ⟨t, c, rfl⟩ : ∃ t c, w = ix2 t c := ⟨w 0, w 1, eq_ix2 w⟩
  pointwise [val_main_v52, val_main_v51, val_main_v50, val_main_v49, val_main_v48, val_main_v47, val_main_cst_2, val_main_v6, val_main_v5, val_main_v1]
  rw [v44_l, ofBits_eighth]
  simp only [mul_c, sum_c]
  have e : ∀ s, k X (hd c) s (ln c) = X s ⟨1024 + c.val, by have := c.isLt; omega⟩ := fun s => congrArg (X s) (Fin.ext (congrArg (1024 + ·) (lane_hd c)))
  refine congrArg (fun r : ℝ => (r : EReal)) ?_
  show _ = (∑ s, dz X Y (hd c) t s * k X (hd c) s (ln c)) * (1 / 8)
  simp only [e]
  rfl

theorem v54_l : val_main_v54 (F := Ideal) (lift2 X) (lift2 Y) = lift2 fun s c => ∑ t, dz X Y (hd c) t s * (q X (hd c) t (ln c) * (1 / 8)) := by
  funext w
  obtain ⟨s, c, rfl⟩ : ∃ t c, w = ix2 t c := ⟨w 0, w 1, eq_ix2 w⟩
  pointwise [val_main_v54, val_main_v53, val_main_v46, val_main_v45, val_main_v10, val_main_v9, val_main_cst, val_main_v4, val_main_v3, val_main_v0]
  rw [v44_l, ofBits_eighth]
  simp only [mul_c, sum_c]
  have e : ∀ t, q X (hd c) t (ln c) = X t ⟨c.val, by have := c.isLt; omega⟩ := fun t => congrArg (X t) (Fin.ext (lane_hd c))
  refine congrArg (fun r : ℝ => (r : EReal)) ?_
  show _ = ∑ t, dz X Y (hd c) t s * (q X (hd c) t (ln c) * (1 / 8))
  simp only [e]
  rfl

theorem v56_l : val_main_v56 (F := Ideal) (lift2 X) (lift2 Y) = lift2 fun s c => ∑ t, o Y (hd c) t (ln c) * a X (hd c) t s := by
  funext w
  obtain ⟨s, c, rfl⟩ : ∃ t c, w = ix2 t c := ⟨w 0, w 1, eq_ix2 w⟩
  pointwise [val_main_v56, val_main_v55, val_main_v34, val_main_v33, val_main_v31, val_main_v30, val_main_v29]
  rw [v26_l]
  simp only [mul_c, sum_c]
  have e : ∀ t, o Y (hd c) t (ln c) = Y t ⟨c.val, by have := c.isLt; omega⟩ := fun t => congrArg (Y t) (Fin.ext (lane_hd c))
  refine congrArg (fun r : ℝ => (r : EReal)) ?_
  show _ = ∑ t, o Y (hd c) t (ln c) * a X (hd c) t s
  simp only [e]
  rfl

end Cert.Reference2Ideal.Stick

end
-- ==== Proof.StickMatch.lean ====
/- The sums over tiles of the stick-breaking backward are the reference's sums over rows: the two programs on reals. -/
module

public import proofs.«01_k».proof.Proof.StickWalk
public import proofs.«01_k».proof.Proof.StickRef

@[expose] public section

set_option maxRecDepth 16384

noncomputable section

namespace Cert.StickMatch

open Cert.Kernel2Ideal.Stick (sp nt nn tn cum lmT aT gT dzT st up up_succ HeadR tq tk tv)
open Cert.Reference2Ideal.Stick

/-! The softplus. -/

theorem sp_eq (z : ℝ) : sp z = Real.log (1 + Real.exp z) := by
  unfold sp
  rcases le_total 0 z with h | h
  · rw [max_eq_left h, abs_of_nonneg h]
    have e : 1 + Real.exp z = Real.exp z * (1 + Real.exp (-z)) := by rw [mul_add, mul_one, ← Real.exp_add, add_neg_cancel, Real.exp_zero, add_comm]
    rw [e, Real.log_mul (Real.exp_ne_zero z) (by positivity), Real.log_exp]
  · rw [max_eq_right h, abs_of_nonpos h, neg_neg, zero_add]

theorem exp_sp (z : ℝ) : Real.exp (sp z) = 1 + Real.exp z := by
  rw [sp_eq, Real.exp_log (by positivity)]

theorem sp_neg (z : ℝ) : sp (-z) = sp z - z := by
  apply Real.exp_injective
  rw [exp_sp, Real.exp_sub, exp_sp, Real.exp_neg]
  have := Real.exp_pos z
  field_simp
  ring

theorem sigmoid_add (z : ℝ) : Real.exp (-z - sp (-z)) + Real.exp (z - sp z) = 1 := by
  rw [sp_neg, show -z - (sp z - z) = -sp z by ring, Real.exp_neg, Real.exp_sub, exp_sp]
  have := Real.exp_pos z
  field_simp

/-! Rows by tiles. -/

/-- Row `p` of tile `i`. -/
def rw' (i : Fin 8) (p : Fin 256) : Fin 2048 := ⟨256 * i.val + p.val, by have := i.isLt; have := p.isLt; omega⟩

theorem flat (f : Fin 2048 → ℝ) : ∑ k, f k = ∑ j, ∑ s, f (rw' j s) := by
  rw [← Fintype.sum_prod_type']
  symm
  refine Fintype.sum_equiv (finProdFinEquiv : Fin 8 × Fin 256 ≃ Fin (8 * 256)) _ _ fun x => ?_
  refine congrArg f (Fin.ext ?_)
  show 256 * x.1.val + x.2.val = x.2.val + 256 * x.1.val
  omega

theorem prefix_sum (f : Fin 2048 → ℝ) (j : Fin 8) (s : Fin 256) :
    (∑ k, if k ≤ rw' j s then f k else 0) = (up j.val fun j' => ∑ s', f (rw' j' s')) + ∑ s', if s' ≤ s then f (rw' j s') else 0 := by
  rw [flat]
  unfold up
  have h : ∀ j' : Fin 8, (∑ s' : Fin 256, if rw' j' s' ≤ rw' j s then f (rw' j' s') else 0)
      = (if j'.val < j.val then ∑ s', f (rw' j' s') else 0) + if j' = j then (∑ s', if s' ≤ s then f (rw' j s') else 0) else 0 := fun j' => by
    have hs := s.isLt
    by_cases h1 : j'.val < j.val
    · rw [if_pos h1, if_neg (fun h => by rw [h] at h1; omega), add_zero]
      exact Finset.sum_congr rfl fun s' _ => if_pos (by have := s'.isLt; show 256 * j'.val + s'.val ≤ 256 * j.val + s.val; omega)
    · rw [if_neg h1, zero_add]
      by_cases h2 : j' = j
      · subst h2
        rw [if_pos rfl]
        refine Finset.sum_congr rfl fun s' _ => ?_
        by_cases h3 : s' ≤ s
        · rw [if_pos h3, if_pos (by show 256 * j'.val + s'.val ≤ 256 * j'.val + s.val; have : s'.val ≤ s.val := h3; omega)]
        · rw [if_neg h3, if_neg (fun c => h3 (by change 256 * j'.val + s'.val ≤ 256 * j'.val + s.val at c; show s'.val ≤ s.val; omega))]
      · rw [if_neg h2]
        have h3 : j.val < j'.val := by
          have : j'.val ≠ j.val := fun h => h2 (Fin.ext h)
          omega
        exact Finset.sum_eq_zero fun s' _ => if_neg (fun c => by change 256 * j'.val + s'.val ≤ 256 * j.val + s.val at c; omega)
  rw [Finset.sum_congr rfl fun j' _ => h j', Finset.sum_add_distrib, Finset.sum_ite_eq' Finset.univ j fun j' => ∑ s', if s' ≤ s then f (rw' j s') else 0,
    if_pos (Finset.mem_univ _)]

theorem split_sum (f : Fin 2048 → ℝ) (s : Fin 2048) : (∑ k, f k) - (∑ k, if k ≤ s then f k else 0) = (∑ k, if s ≤ k then f k else 0) - f s := by
  have h : ∀ k, f k = (if k ≤ s then f k else 0) + (if s ≤ k then f k else 0) - if k = s then f k else 0 := fun k => by
    rcases lt_trichotomy k s with h | h | h
    · rw [if_pos h.le, if_neg (not_le.2 h), if_neg h.ne]; ring
    · subst h; rw [if_pos le_rfl, if_pos rfl]; ring
    · rw [if_neg (not_le.2 h), if_pos h.le, if_neg h.ne']; ring
  have e : ∑ k, f k = (∑ k, if k ≤ s then f k else 0) + (∑ k, if s ≤ k then f k else 0) - f s := by
    conv_lhs => rw [Finset.sum_congr rfl fun k _ => h k]
    rw [Finset.sum_sub_distrib, Finset.sum_add_distrib, Finset.sum_ite_eq' Finset.univ s f, if_pos (Finset.mem_univ _)]
  linarith

/-! One head. -/

variable (X : Fin 2048 → Fin 3072 → ℝ) (Y : Fin 2048 → Fin 1024 → ℝ)

/-- What the tiles of a head have to do with the reference's head `h`: the scores and the gradients of the weights are
    the products of its rows, and the totals are its log-gates summed. -/
structure Is (H : HeadR) (h : Fin 8) : Prop where
  hz : ∀ i j p s, nt (H.q i) (H.kb j) p s = z X h (rw' i p) (rw' j s)
  hda : ∀ i j p s, nt (H.o i) (H.vb j) p s = da X Y h (rw' i p) (rw' j s)
  hc : ∀ i p, H.c i p = ∑ s, lm X h (rw' i p) s

variable {X Y} {H : HeadR} {h : Fin 8} (I : Is X Y H h)
include I

theorem lm_eq (i j : Fin 8) (p s : Fin 256) : H.lm i j p s = lm X h (rw' i p) (rw' j s) := by
  unfold HeadR.lm lmT HeadR.z lm st
  rw [I.hz]
  exact if_congr (by rw [decide_eq_true_iff]; rfl) rfl rfl

theorem cum_lm (i j : Fin 8) (p s : Fin 256) : H.pre i j.val p + cum (H.lm i j) p s = ∑ k, if k ≤ rw' j s then lm X h (rw' i p) k else 0 := by
  rw [prefix_sum]
  unfold HeadR.pre cum
  simp only [lm_eq I]

theorem a_eq (i j : Fin 8) (p s : Fin 256) : H.a i j p s = a X h (rw' i p) (rw' j s) := by
  unfold HeadR.a aT a
  have hst : (st i j p s = true) ↔ rw' j s < rw' i p := by unfold st; rw [decide_eq_true_iff]; rfl
  by_cases hs : rw' j s < rw' i p
  · rw [if_pos (hst.2 hs), if_pos hs]
    unfold au rest
    rw [← split_sum, ← cum_lm I, lm_eq I, I.hc, sp_neg]
    unfold HeadR.z
    rw [I.hz]
    have : lm X h (rw' i p) (rw' j s) = -sp (z X h (rw' i p) (rw' j s)) := if_pos hs
    rw [this]
    congr 1
    ring
  · rw [if_neg (fun c => hs (hst.1 c)), if_neg hs]

theorem g_eq (i j : Fin 8) (p s : Fin 256) : H.g i j p s = g X Y h (rw' i p) (rw' j s) := by
  unfold HeadR.g gT HeadR.da g
  rw [a_eq I, I.hda]
  unfold a
  by_cases hs : rw' j s < rw' i p
  · rw [if_pos hs, if_pos hs, mul_comm]
  · rw [if_neg hs, if_neg hs, zero_mul, zero_mul]

theorem cum_g (i j : Fin 8) (p s : Fin 256) : H.hl i j.val p + cum (H.g i j) p s = ∑ k, if k ≤ rw' j s then g X Y h (rw' i p) k else 0 := by
  rw [prefix_sum]
  unfold HeadR.hl cum
  simp only [g_eq I]

theorem dz_eq (i j : Fin 8) (p s : Fin 256) : H.dz i j p s = dz X Y h (rw' i p) (rw' j s) := by
  unfold HeadR.dz dzT dz
  have hst : (st i j p s = true) ↔ rw' j s < rw' i p := by unfold st; rw [decide_eq_true_iff]; rfl
  by_cases hs : rw' j s < rw' i p
  · rw [if_pos (hst.2 hs), cum_g I, lm_eq I, g_eq I]
    unfold HeadR.z
    rw [I.hz]
    have h1 : lm X h (rw' i p) (rw' j s) = -sp (z X h (rw' i p) (rw' j s)) := if_pos hs
    have h2 : cg X Y h (rw' i p) (rw' j s) = -g X Y h (rw' i p) (rw' j s) + ∑ k, (if k ≤ rw' j s then g X Y h (rw' i p) k else 0) := if_pos hs
    have h3 := sigmoid_add (z X h (rw' i p) (rw' j s))
    rw [h1, h2, ← sub_eq_add_neg, eq_sub_of_add_eq h3]
    ring
  · rw [if_neg (fun c => hs (hst.1 c))]
    have h1 : g X Y h (rw' i p) (rw' j s) = 0 := by unfold g; rw [if_neg hs, zero_mul]
    have h2 : cg X Y h (rw' i p) (rw' j s) = 0 := if_neg hs
    rw [h1, h2]; ring

omit I

/-! Two heads side by side. -/

theorem low_half (f : Fin 128 → ℝ) : (∑ l : Fin 128, if l.val < 64 then f l else 0) = ∑ l : Fin 64, f ⟨l.val, by have := l.isLt; omega⟩ := by
  rw [Fin.sum_univ_add (a := 64) (b := 64) (fun l : Fin (64 + 64) => if l.val < 64 then f l else 0)]
  have h2 : ∑ i : Fin 64, (fun l : Fin (64 + 64) => if l.val < 64 then f l else 0) (Fin.natAdd 64 i) = 0 :=
    Finset.sum_eq_zero fun i _ => if_neg (by show ¬ (64 + i.val < 64); omega)
  rw [h2, add_zero]
  exact Finset.sum_congr rfl fun i _ => if_pos i.isLt

theorem high_half (f : Fin 128 → ℝ) : (∑ l : Fin 128, if l.val < 64 then 0 else f l) = ∑ l : Fin 64, f ⟨64 + l.val, by have := l.isLt; omega⟩ := by
  rw [Fin.sum_univ_add (a := 64) (b := 64) (fun l : Fin (64 + 64) => if l.val < 64 then 0 else f l)]
  have h2 : ∑ i : Fin 64, (fun l : Fin (64 + 64) => if l.val < 64 then 0 else f l) (Fin.castAdd 64 i) = 0 :=
    Finset.sum_eq_zero fun i _ => if_pos i.isLt
  rw [h2, zero_add]
  exact Finset.sum_congr rfl fun i _ => if_neg (by show ¬ (64 + i.val < 64); omega)

/-- The tiles of the first of two heads: the other head's lanes zero. -/
def fst (Q K V O : Fin 2048 → Fin 128 → ℝ) (c : Fin 2048 → ℝ) : HeadR where
  q i p l := if l.val < 64 then Q (rw' i p) l * (1 / 8) else 0
  k i p l := if l.val < 64 then K (rw' i p) l * (1 / 8) else 0
  o i p l := if l.val < 64 then O (rw' i p) l else 0
  kb i p l := K (rw' i p) l
  vb i p l := V (rw' i p) l
  qt i l p := if l.val < 64 then Q (rw' i p) l * (1 / 8) else 0
  ot i l p := if l.val < 64 then O (rw' i p) l else 0
  c i p := c (rw' i p)

/-- The tiles of the second. -/
def snd (Q K V O : Fin 2048 → Fin 128 → ℝ) (c : Fin 2048 → ℝ) : HeadR where
  q i p l := if l.val < 64 then 0 else Q (rw' i p) l * (1 / 8)
  k i p l := if l.val < 64 then 0 else K (rw' i p) l * (1 / 8)
  o i p l := if l.val < 64 then 0 else O (rw' i p) l
  kb i p l := K (rw' i p) l
  vb i p l := V (rw' i p) l
  qt i l p := if l.val < 64 then 0 else Q (rw' i p) l * (1 / 8)
  ot i l p := if l.val < 64 then 0 else O (rw' i p) l
  c i p := c (rw' i p)

/-- The columns of a pair of heads. -/
def colQ (X : Fin 2048 → Fin 3072 → ℝ) (n : ℕ) (hn : n < 4) (t : Fin 2048) (l : Fin 128) : ℝ := X t ⟨128 * n + l.val, by have := l.isLt; omega⟩
def colK (X : Fin 2048 → Fin 3072 → ℝ) (n : ℕ) (hn : n < 4) (t : Fin 2048) (l : Fin 128) : ℝ := X t ⟨1024 + (128 * n + l.val), by have := l.isLt; omega⟩
def colV (X : Fin 2048 → Fin 3072 → ℝ) (n : ℕ) (hn : n < 4) (t : Fin 2048) (l : Fin 128) : ℝ := X t ⟨2048 + (128 * n + l.val), by have := l.isLt; omega⟩
def colO (Y : Fin 2048 → Fin 1024 → ℝ) (n : ℕ) (hn : n < 4) (t : Fin 2048) (l : Fin 128) : ℝ := Y t ⟨128 * n + l.val, by have := l.isLt; omega⟩

/-- The two heads of pair `n`. -/
def h0 (n : ℕ) (hn : n < 4) : Fin 8 := ⟨2 * n, by omega⟩
def h1 (n : ℕ) (hn : n < 4) : Fin 8 := ⟨2 * n + 1, by omega⟩

variable (X Y) (n : ℕ) (hn : n < 4)

/-- The pair's first and second head. -/
def A : HeadR := fst (colQ X n hn) (colK X n hn) (colV X n hn) (colO Y n hn) fun t => ∑ s, lm X (h0 n hn) t s
def B : HeadR := snd (colQ X n hn) (colK X n hn) (colV X n hn) (colO Y n hn) fun t => ∑ s, lm X (h1 n hn) t s

theorem is_A : Is X Y (A X Y n hn) (h0 n hn) where
  hz i j p s := by
    show ∑ l : Fin 128, (if l.val < 64 then colQ X n hn (rw' i p) l * (1 / 8) else 0) * colK X n hn (rw' j s) l = _
    simp only [ite_mul, zero_mul]
    rw [low_half fun l => colQ X n hn (rw' i p) l * (1 / 8) * colK X n hn (rw' j s) l]
    refine Finset.sum_congr rfl fun l _ => ?_
    exact congrArg₂ (· * ·)
      (congrArg (· * (1 / 8 : ℝ)) (congrArg (X (rw' i p)) (Fin.ext (show 128 * n + (l.val) = 2 * n * 64 + l.val by omega))))
      (congrArg (X (rw' j s)) (Fin.ext (show 1024 + (128 * n + (l.val)) = 1024 + (2 * n * 64 + l.val) by omega)))
  hda i j p s := by
    show ∑ l : Fin 128, (if l.val < 64 then colO Y n hn (rw' i p) l else 0) * colV X n hn (rw' j s) l = _
    simp only [ite_mul, zero_mul]
    rw [low_half fun l => colO Y n hn (rw' i p) l * colV X n hn (rw' j s) l]
    refine Finset.sum_congr rfl fun l _ => ?_
    exact congrArg₂ (· * ·)
      (congrArg (Y (rw' i p)) (Fin.ext (show 128 * n + (l.val) = 2 * n * 64 + l.val by omega)))
      (congrArg (X (rw' j s)) (Fin.ext (show 2048 + (128 * n + (l.val)) = 2048 + (2 * n * 64 + l.val) by omega)))
  hc i p := rfl

theorem is_B : Is X Y (B X Y n hn) (h1 n hn) where
  hz i j p s := by
    show ∑ l : Fin 128, (if l.val < 64 then 0 else colQ X n hn (rw' i p) l * (1 / 8)) * colK X n hn (rw' j s) l = _
    simp only [ite_mul, zero_mul]
    rw [high_half fun l => colQ X n hn (rw' i p) l * (1 / 8) * colK X n hn (rw' j s) l]
    refine Finset.sum_congr rfl fun l _ => ?_
    exact congrArg₂ (· * ·)
      (congrArg (· * (1 / 8 : ℝ)) (congrArg (X (rw' i p)) (Fin.ext (show 128 * n + (64 + l.val) = (2 * n + 1) * 64 + l.val by omega))))
      (congrArg (X (rw' j s)) (Fin.ext (show 1024 + (128 * n + (64 + l.val)) = 1024 + ((2 * n + 1) * 64 + l.val) by omega)))
  hda i j p s := by
    show ∑ l : Fin 128, (if l.val < 64 then 0 else colO Y n hn (rw' i p) l) * colV X n hn (rw' j s) l = _
    simp only [ite_mul, zero_mul]
    rw [high_half fun l => colO Y n hn (rw' i p) l * colV X n hn (rw' j s) l]
    refine Finset.sum_congr rfl fun l _ => ?_
    exact congrArg₂ (· * ·)
      (congrArg (Y (rw' i p)) (Fin.ext (show 128 * n + (64 + l.val) = (2 * n + 1) * 64 + l.val by omega)))
      (congrArg (X (rw' j s)) (Fin.ext (show 2048 + (128 * n + (64 + l.val)) = 2048 + ((2 * n + 1) * 64 + l.val) by omega)))
  hc i p := rfl

/-- Column `l` of the pair among all columns. -/
def cc (l : Fin 128) : Fin 512 := ⟨128 * n + l.val, by have := l.isLt; omega⟩

theorem hd_low (l : Fin 128) (hl : l.val < 64) : hd (cc n hn l) = h0 n hn := Fin.ext (by show (128 * n + l.val) / 64 = 2 * n; omega)
theorem hd_high (l : Fin 128) (hl : ¬ l.val < 64) : hd (cc n hn l) = h1 n hn := Fin.ext (by have := l.isLt; show (128 * n + l.val) / 64 = 2 * n + 1; omega)

theorem k_col (t : Fin 2048) (l : Fin 128) : colK X n hn t l = k X (hd (cc n hn l)) t (ln (cc n hn l)) :=
  congrArg (X t) (Fin.ext (congrArg (1024 + ·) (lane_hd (cc n hn l)).symm))
theorem q_col (t : Fin 2048) (l : Fin 128) : colQ X n hn t l = q X (hd (cc n hn l)) t (ln (cc n hn l)) :=
  congrArg (X t) (Fin.ext (lane_hd (cc n hn l)).symm)
theorem o_col (t : Fin 2048) (l : Fin 128) : colO Y n hn t l = o Y (hd (cc n hn l)) t (ln (cc n hn l)) :=
  congrArg (Y t) (Fin.ext (lane_hd (cc n hn l)).symm)

theorem tq_sum (i : Fin 8) (p : Fin 256) (l : Fin 128) : ∑ j, tq (A X Y n hn) (B X Y n hn) i j p l
    = (∑ s, dz X Y (hd (cc n hn l)) (rw' i p) s * k X (hd (cc n hn l)) s (ln (cc n hn l))) * (1 / 8) := by
  rw [Finset.sum_mul, flat]
  refine Finset.sum_congr rfl fun j _ => ?_
  unfold tq nn
  rw [← Finset.sum_add_distrib]
  refine Finset.sum_congr rfl fun s _ => ?_
  rw [dz_eq (is_A X Y n hn), dz_eq (is_B X Y n hn), ← k_col]
  show _ * (if l.val < 64 then colK X n hn (rw' j s) l * (1 / 8) else 0) + _ * (if l.val < 64 then 0 else colK X n hn (rw' j s) l * (1 / 8)) = _
  by_cases hl : l.val < 64
  · rw [if_pos hl, if_pos hl, hd_low n hn l hl]; ring
  · rw [if_neg hl, if_neg hl, hd_high n hn l hl]; ring

theorem tk_sum (j : Fin 8) (l : Fin 128) (s : Fin 256) : ∑ i, tk (A X Y n hn) (B X Y n hn) i j l s
    = ∑ t, dz X Y (hd (cc n hn l)) t (rw' j s) * (q X (hd (cc n hn l)) t (ln (cc n hn l)) * (1 / 8)) := by
  rw [flat]
  refine Finset.sum_congr rfl fun i _ => ?_
  unfold tk tn
  rw [← Finset.sum_add_distrib]
  refine Finset.sum_congr rfl fun p _ => ?_
  rw [dz_eq (is_A X Y n hn), dz_eq (is_B X Y n hn), ← q_col]
  show (if l.val < 64 then colQ X n hn (rw' i p) l * (1 / 8) else 0) * _ + (if l.val < 64 then 0 else colQ X n hn (rw' i p) l * (1 / 8)) * _ = _
  by_cases hl : l.val < 64
  · rw [if_pos hl, if_pos hl, hd_low n hn l hl]; ring
  · rw [if_neg hl, if_neg hl, hd_high n hn l hl]; ring

theorem tv_sum (j : Fin 8) (l : Fin 128) (s : Fin 256) : ∑ i, tv (A X Y n hn) (B X Y n hn) i j l s
    = ∑ t, o Y (hd (cc n hn l)) t (ln (cc n hn l)) * a X (hd (cc n hn l)) t (rw' j s) := by
  rw [flat]
  refine Finset.sum_congr rfl fun i _ => ?_
  unfold tv tn
  rw [← Finset.sum_add_distrib]
  refine Finset.sum_congr rfl fun p _ => ?_
  rw [a_eq (is_A X Y n hn), a_eq (is_B X Y n hn), ← o_col]
  show (if l.val < 64 then colO Y n hn (rw' i p) l else 0) * _ + (if l.val < 64 then 0 else colO Y n hn (rw' i p) l) * _ = _
  by_cases hl : l.val < 64
  · rw [if_pos hl, if_pos hl, hd_low n hn l hl]; ring
  · rw [if_neg hl, if_neg hl, hd_high n hn l hl]; ring

end Cert.StickMatch

end
-- ==== Proof.StickPrep.lean ====
/- The tiles that the stick-breaking backward prepares, on reals: two heads side by side, each with the other's lanes zero. -/
module

public import proofs.«01_k».proof.Proof.StickMatch

@[expose] public section

set_option maxRecDepth 16384

noncomputable section

namespace Cert.Kernel2Ideal.Stick

open Cert.Kernel2Ideal Cert.Kernel2Ideal.Gen
open Idealize.ShloMosaic Idealize.ShloMosaic.TcCoe
open Cert.StickTile
open Cert.Reference2Ideal.Stick (ofBits_eighth)
open Cert.StickMatch (rw' fst snd)

theorem cmp_lane : ∀ l : Fin 128, IntOp.cmpi CmpIPredicate.slt (BitVec.ofNat 32 l.val) 64#32 = if l.val < 64 then 1#1 else 0#1 := by decide +kernel

theorem sel_lane (l : Fin 128) (x y : EReal) : (Scalar.select (IntOp.cmpi CmpIPredicate.slt (BitVec.ofNat 32 l.val) 64#32) x y : EReal)
    = if l.val < 64 then x else y := by
  rw [cmp_lane]
  by_cases h : l.val < 64
  · rw [if_pos h, if_pos h]; rfl
  · rw [if_neg h, if_neg h]; rfl

theorem low_c (l : Fin 128) (x : ℝ) : (if l.val < 64 then (x : EReal) else 0) = ((if l.val < 64 then x else 0 : ℝ) : EReal) := by
  by_cases h : l.val < 64
  · rw [if_pos h, if_pos h]
  · rw [if_neg h, if_neg h]; rfl
theorem high_c (l : Fin 128) (x : ℝ) : (if l.val < 64 then 0 else (x : EReal)) = ((if l.val < 64 then 0 else x : ℝ) : EReal) := by
  by_cases h : l.val < 64
  · rw [if_pos h, if_pos h]; rfl
  · rw [if_neg h, if_neg h]

variable (x : Fin 256 → Fin 128 → ℝ)

theorem pay18_l : k0_pay18 (F := Ideal) k0_pay1 (lift2 x) = lift2 fun p l => if l.val < 64 then x p l * (1 / 8) else 0 := by
  funext w
  obtain ⟨p, l, rfl⟩ : ∃ p l, w = ix2 p l := ⟨w 0, w 1, eq_ix2 w⟩
  pointwise [k0_pay16, k0_pay17, k0_pay18, k0_pay1]
  rw [ofBits_eighth]
  refine (sel_lane l _ _).trans ?_
  rw [mul_c]
  exact low_c l _

theorem pay19_l : k0_pay19 (F := Ideal) k0_pay1 (lift2 x) = lift2 fun p l => if l.val < 64 then 0 else x p l * (1 / 8) := by
  funext w
  obtain ⟨p, l, rfl⟩ : ∃ p l, w = ix2 p l := ⟨w 0, w 1, eq_ix2 w⟩
  pointwise [k0_pay16, k0_pay17, k0_pay19, k0_pay1]
  rw [ofBits_eighth]
  refine (sel_lane l _ _).trans ?_
  rw [mul_c]
  exact high_c l _

theorem pay22_l : k0_pay22 (F := Ideal) k0_pay1 (lift2 x) = lift2 fun p l => if l.val < 64 then x p l * (1 / 8) else 0 := by
  funext w
  obtain ⟨p, l, rfl⟩ : ∃ p l, w = ix2 p l := ⟨w 0, w 1, eq_ix2 w⟩
  pointwise [k0_pay20, k0_pay21, k0_pay22, k0_pay1]
  rw [ofBits_eighth]
  refine (sel_lane l _ _).trans ?_
  rw [mul_c]
  exact low_c l _

theorem pay23_l : k0_pay23 (F := Ideal) k0_pay1 (lift2 x) = lift2 fun p l => if l.val < 64 then 0 else x p l * (1 / 8) := by
  funext w
  obtain ⟨p, l, rfl⟩ : ∃ p l, w = ix2 p l := ⟨w 0, w 1, eq_ix2 w⟩
  pointwise [k0_pay20, k0_pay21, k0_pay23, k0_pay1]
  rw [ofBits_eighth]
  refine (sel_lane l _ _).trans ?_
  rw [mul_c]
  exact high_c l _

theorem pay27_l : k0_pay27 (F := Ideal) k0_pay1 (lift2 x) = lift2 fun p l => if l.val < 64 then x p l else 0 := by
  funext w
  obtain ⟨p, l, rfl⟩ : ∃ p l, w = ix2 p l := ⟨w 0, w 1, eq_ix2 w⟩
  pointwise [k0_pay26, k0_pay27, k0_pay1]
  refine (sel_lane l _ _).trans ?_
  exact low_c l _

theorem pay28_l : k0_pay28 (F := Ideal) k0_pay1 (lift2 x) = lift2 fun p l => if l.val < 64 then 0 else x p l := by
  funext w
  obtain ⟨p, l, rfl⟩ : ∃ p l, w = ix2 p l := ⟨w 0, w 1, eq_ix2 w⟩
  pointwise [k0_pay26, k0_pay28, k0_pay1]
  refine (sel_lane l _ _).trans ?_
  exact high_c l _

theorem pay31_l : k0_pay31 (F := Ideal) k0_pay2 (k0_pay16 (lift2 x)) = lift2 fun l p => if l.val < 64 then x p l * (1 / 8) else 0 := by
  funext w
  obtain ⟨l, p, rfl⟩ : ∃ l p, w = ix2 l p := ⟨w 0, w 1, eq_ix2 w⟩
  pointwise [k0_pay16, k0_pay29, k0_pay30, k0_pay31, k0_pay2]
  rw [ofBits_eighth]
  refine (sel_lane l _ _).trans ?_
  rw [mul_c]
  exact low_c l _

theorem pay32_l : k0_pay32 (F := Ideal) k0_pay2 (k0_pay16 (lift2 x)) = lift2 fun l p => if l.val < 64 then 0 else x p l * (1 / 8) := by
  funext w
  obtain ⟨l, p, rfl⟩ : ∃ l p, w = ix2 l p := ⟨w 0, w 1, eq_ix2 w⟩
  pointwise [k0_pay16, k0_pay29, k0_pay30, k0_pay32, k0_pay2]
  rw [ofBits_eighth]
  refine (sel_lane l _ _).trans ?_
  rw [mul_c]
  exact high_c l _

theorem pay35_l : k0_pay3 (k0_pay35 (F := Ideal) k0_pay2 (lift2 x)) = lift2 fun l p => if l.val < 64 then x p l else 0 := by
  funext w
  obtain ⟨l, p, rfl⟩ : ∃ l p, w = ix2 l p := ⟨w 0, w 1, eq_ix2 w⟩
  pointwise [k0_pay3, k0_pay33, k0_pay34, k0_pay35, k0_pay2]
  refine (sel_lane l _ _).trans ?_
  exact low_c l _

theorem pay36_l : k0_pay4 (k0_pay36 (F := Ideal) k0_pay2 (lift2 x)) = lift2 fun l p => if l.val < 64 then 0 else x p l := by
  funext w
  obtain ⟨l, p, rfl⟩ : ∃ l p, w = ix2 l p := ⟨w 0, w 1, eq_ix2 w⟩
  pointwise [k0_pay4, k0_pay33, k0_pay34, k0_pay36, k0_pay2]
  refine (sel_lane l _ _).trans ?_
  exact high_c l _

theorem pay24_l : k0_pay24 (F := Ideal) (lift2 x) = lift2 x := by
  funext w
  pointwise [k0_pay24]
theorem pay25_l : k0_pay25 (F := Ideal) (lift2 x) = lift2 x := by
  funext w
  pointwise [k0_pay25]

theorem rowT_l (X : Fin 2048 → Fin 128 → ℝ) (t : Fin 8) :
    rowT (Val := Elt Ideal) (e := .f32) (lift2 X) t = lift2 fun p l => X (rw' t p) l := by
  funext w
  obtain ⟨p, l, rfl⟩ : ∃ p l, w = ix2 p l := ⟨w 0, w 1, eq_ix2 w⟩
  refine congrArg (fun r : ℝ => (r : EReal)) (congrArg₂ X (Fin.ext ?_) (Fin.ext ?_))
  · show 256 * t.val + 1 * p.val = 256 * t.val + p.val; omega
  · show 0 + 1 * l.val = l.val; omega

theorem sumT_l (c : Fin 2 → Fin 2048 → ℝ) (h : Fin 2) (t : Fin 8) :
    sumT (Val := Elt Ideal) (e := .f32) (fun w => ((c (w 0) (w 1) : ℝ) : EReal)) h t = fun w => ((c h (rw' t (w 1)) : ℝ) : EReal) := by
  funext w
  have h0 : (w 0).val < 1 := (w 0).isLt
  refine congrArg (fun r : ℝ => (r : EReal)) (congrArg₂ c (Fin.ext ?_) (Fin.ext ?_))
  · show h.val + 1 * (w 0).val = h.val; omega
  · show 256 * t.val + 1 * (w 1).val = 256 * t.val + (w 1).val; omega

/-- The tiles prepared from real blocks are those of the two heads. -/
theorem prep_l (Q K V O : Fin 2048 → Fin 128 → ℝ) (c : Fin 2 → Fin 2048 → ℝ) :
    prep (F := Ideal) (lift2 Q) (lift2 K) (lift2 V) (lift2 O) (fun w => ((c (w 0) (w 1) : ℝ) : EReal))
      = liftT (fst Q K V O (c 0)) (snd Q K V O (c 1)) := by
  have s0 : sumT (Val := Elt Ideal) (e := .f32) (fun w => ((c (w 0) (w 1) : ℝ) : EReal)) 0 = fun t w => ((c 0 (rw' t (w 1)) : ℝ) : EReal) :=
    funext (sumT_l c 0)
  have s1 : sumT (Val := Elt Ideal) (e := .f32) (fun w => ((c (w 0) (w 1) : ℝ) : EReal)) 1 = fun t w => ((c 1 (rw' t (w 1)) : ℝ) : EReal) :=
    funext (sumT_l c 1)
  unfold prep
  rw [s0, s1]
  simp only [rowT_l, pay18_l, pay19_l, pay22_l, pay23_l, pay24_l, pay25_l, pay27_l, pay28_l, pay31_l, pay32_l, pay35_l, pay36_l]
  rfl

end Cert.Kernel2Ideal.Stick

end
-- ==== Proof.StickHost.lean ====
/- The totals of the log-gates that the host hands to the stick-breaking backward, on reals. -/
module

public import proofs.«01_k».proof.Proof.StickRef
public import proofs.«01_k».proof.Proof.Gen.Kernel2Ideal.Frame

@[expose] public section

set_option maxRecDepth 16384

noncomputable section

namespace Cert.Kernel2Ideal.Stick

open Cert.Kernel2Ideal Cert.Kernel2Ideal.Gen
open Idealize.ShloMosaic Idealize.ShloMosaic.TcCoe Idealize.ShloMosaic.Tactic
open Cert.Reference2Ideal.Stick (z lm lift3 softplus_c sel_lt neg_c ofBits_eighth)

variable {F : FTy → Type} [FloatOps F]

/-- The scores. -/
def hz (x : (⟨S2048x3072, .f32⟩ : BufTy).Contents (Elt F)) : (⟨S8x2048x2048, .f32⟩ : BufTy).Contents (Elt F) :=
  Host.dotGeneral dot_S2048x8x64_S2048x8x64_S8x2048x2048_2_2_0_0_1_1 none
    (mulf (shapeCast S2048x8x64 (extractStridedSlice S2048x512 ![0, 0] (extractStridedSlice S2048x1024 ![0, 0] x slices_S2048x3072_S2048x1024_0_0) slices_S2048x1024_S2048x512_0_0) shapeCasts_S2048x512_S2048x8x64)
      (broadcastInDim S2048x8x64 ![] bcast_S_S2048x8x64 (constant S_ .f32 0x3E000000#32)))
    (shapeCast S2048x8x64 (extractStridedSlice S2048x512 ![0, 0] (extractStridedSlice S2048x1024 ![0, 1024] x slices_S2048x3072_S2048x1024_0_1024) slices_S2048x1024_S2048x512_0_0) shapeCasts_S2048x512_S2048x8x64)

/-- The softplus as the host spells it. -/
def hsp (y : (⟨S8x2048x2048, .f32⟩ : BufTy).Contents (Elt F)) : (⟨S8x2048x2048, .f32⟩ : BufTy).Contents (Elt F) :=
  let o := broadcastInDim S8x2048x2048 ![] bcast_S_S8x2048x2048 (constant (F := F) S_ .f32 0x00000000#32)
  let d := subf y o
  select (cmpf .une d d) (addf y o) (addf (maximumf y o) (Host.log1p (Host.exp (Host.negf (Host.absf d)))))

/-- The log-gates under the diagonal. -/
def hlm (y : (⟨S8x2048x2048, .f32⟩ : BufTy).Contents (Elt F)) : (⟨S8x2048x2048, .f32⟩ : BufTy).Contents (Elt F) :=
  select (broadcastInDim S8x2048x2048 ![1, 2] bcast_S2048x2048_S8x2048x2048_1_2
      (cmpi .slt (broadcastInDim S2048x2048 ![0, 1] bcast_S1x2048_S2048x2048_0_1 (broadcastInDim S1x2048 ![1] bcast_S2048_S1x2048_1 (iotaInDim S2048 32 0)))
        (broadcastInDim S2048x2048 ![0, 1] bcast_S2048x1_S2048x2048_0_1 (broadcastInDim S2048x1 ![0] bcast_S2048_S2048x1_0 (iotaInDim S2048 32 0)))))
    (Host.negf (hsp (Host.negf (Host.negf y)))) (broadcastInDim S8x2048x2048 ![] bcast_S_S8x2048x2048 (constant (F := F) S_ .f32 0x00000000#32))

/-- Their totals. -/
def hc (x : (⟨S2048x3072, .f32⟩ : BufTy).Contents (Elt F)) : (⟨S8x2048x1, .f32⟩ : BufTy).Contents (Elt F) :=
  broadcastInDim S8x2048x1 ![0, 1] bcast_S8x2048_S8x2048x1_0_1 (Host.reduceAdd (hlm (hz x)) (constant (F := F) S_ .f32 0x00000000#32) reducesTo_S8x2048x2048_S8x2048_d2 h_S_)

variable (m : (ℓ : Loc nD τ sig) → Buf (Elt F) ℓ)

set_option maxHeartbeats 4000000 in
theorem V_main_v22 (c : Dev nD) : V m c main_v22 = hc (m ((c : Thread nD τ).loc main_arg0)) := by
  unfold_abbrev_sides
  simp only [List.flatten_cons, List.flatten_nil, List.append_nil, List.cons_append, List.nil_append]
  after_results
  rfl

theorem hz_l (X : Fin 2048 → Fin 3072 → ℝ) : hz (F := Ideal) (lift2 X) = lift3 (z X) := by
  funext w
  obtain ⟨h, t, s, rfl⟩ : ∃ h t s, w = ix3 h t s := ⟨w 0, w 1, w 2, eq_ix3 w⟩
  pointwise [hz]
  rw [ofBits_eighth]
  simp only [mul_c, sum_c]
  rfl

theorem hlm_l (X : Fin 2048 → Fin 3072 → ℝ) : hlm (F := Ideal) (lift3 (z X)) = lift3 (lm X) := by
  funext w
  obtain ⟨h, t, s, rfl⟩ : ∃ h t s, w = ix3 h t s := ⟨w 0, w 1, w 2, eq_ix3 w⟩
  pointwise [hlm, hsp]
  rw [neg_neg]
  refine (sel_lt t s _ _).trans ?_
  unfold lift3 lm
  by_cases hs : s < t
  · rw [if_pos hs]
    refine (congrArg (fun e : EReal => -e) (softplus_c (z X h t s))).trans ?_
    rw [neg_c]; exact congrArg (fun r : ℝ => (r : EReal)) (if_pos hs).symm
  · rw [if_neg hs]
    refine Eq.trans ?_ (congrArg (fun r : ℝ => (r : EReal)) (if_neg hs).symm)
    rfl

theorem hc_l (X : Fin 2048 → Fin 3072 → ℝ) : hc (F := Ideal) (lift2 X) = fun w => ((∑ s, lm X (w 0) (w 1) s : ℝ) : EReal) := by
  unfold hc
  rw [hz_l, hlm_l]
  funext w
  obtain ⟨h, t, s, rfl⟩ : ∃ h t s, w = ix3 h t s := ⟨w 0, w 1, w 2, eq_ix3 w⟩
  pointwise []
  exact sum_c _

end Cert.Kernel2Ideal.Stick

end
-- ==== Proof.StickGrad.lean ====
/- The stick-breaking backward: the arrays the run leaves, and the reference's. -/
module

public import proofs.«01_k».proof.Defs
public import proofs.«01_k».proof.Proof.StickPrep
public import proofs.«01_k».proof.Proof.StickHost
public import proofs.«01_k».proof.Proof.StickFrame
public import proofs.«01_k».proof.Proof.Reals
public import proofs.«01_k».proof.Proof.Gen.Pre_finite2
public import Idealize.ShloMosaic.Lib.Pipeline.ValueKit
public import Idealize.ShloMosaic.Lib.Pointwise
public import Idealize.ShloMosaic.Lib.Quiescent

@[expose] public section

set_option maxRecDepth 16384

noncomputable section

open Idealize.ShloMosaic Idealize.ShloMosaic.TcCoe Idealize.SL.Sem
open Idealize.ShloMosaic.Pipeline (Dat)

namespace Cert.Kernel2Ideal.Stick

open Cert.Kernel2Ideal Cert.Kernel2Ideal.Gen Cert.StickTile
open Cert.Reference2Ideal.Stick (dz a lm q k o hd ln)
open Cert.StickMatch (colQ colK colV colO rw' cc tq_sum tk_sum tv_sum)

variable (m : (ℓ : Loc nD τ sig) → Buf (Elt Ideal) ℓ)

theorem idx : ∀ t : Fin grid0.N, win0_0.index t = ![0, (grid0.coords t 0).val] ∧ win0_1.index t = ![0, 8 + (grid0.coords t 0).val]
    ∧ win0_2.index t = ![0, 16 + (grid0.coords t 0).val] ∧ win0_3.index t = ![0, (grid0.coords t 0).val]
    ∧ win0_4.index t = ![(grid0.coords t 0).val, 0, 0] ∧ win0_5.index t = ![0, (grid0.coords t 0).val]
    ∧ win0_6.index t = ![0, (grid0.coords t 0).val] ∧ win0_7.index t = ![0, (grid0.coords t 0).val] := by decide +kernel

/-- The pair of heads of a grid point. -/
abbrev pr (t : Fin cfg0.N) : ℕ := (grid0.coords t 0).val
theorem pr_lt (t : Fin cfg0.N) : pr t < 4 := (grid0.coords t 0).isLt

variable (X : Fin 2048 → Fin 3072 → ℝ) (Y : Fin 2048 → Fin 1024 → ℝ) (c : Dev nD)
variable (hX : m ((c : Thread nD τ).loc main_arg0) = lift2 X) (hY : m ((c : Thread nD τ).loc main_arg1) = lift2 Y)

include hX in
theorem iblk0 (t : Fin cfg0.N) : iblk m c 0 t = lift2 (colQ X (pr t) (pr_lt t)) := by
  funext w
  obtain ⟨p, l, rfl⟩ : ∃ p l, w = ix2 p l := ⟨w 0, w 1, eq_ix2 w⟩
  have hV : V m c main_arg0 = lift2 X := (V_main_arg0 m c).trans hX
  have e1 : iblk m c 0 t (ix2 p l) = V m c main_arg0 (ix2 p ⟨128 * pr t + l.val, by have := l.isLt; have := pr_lt t; omega⟩) := by
    blk_point [iblk, idx t]
    all_goals (simp only [pr]; omega)
  rw [e1, hV]
  rfl

include hX in
theorem iblk1 (t : Fin cfg0.N) : iblk m c 1 t = lift2 (colK X (pr t) (pr_lt t)) := by
  funext w
  obtain ⟨p, l, rfl⟩ : ∃ p l, w = ix2 p l := ⟨w 0, w 1, eq_ix2 w⟩
  have hV : V m c main_arg0 = lift2 X := (V_main_arg0 m c).trans hX
  have e1 : iblk m c 1 t (ix2 p l) = V m c main_arg0 (ix2 p ⟨1024 + (128 * pr t + l.val), by have := l.isLt; have := pr_lt t; omega⟩) := by
    blk_point [iblk, idx t]
    all_goals (simp only [pr]; omega)
  rw [e1, hV]
  rfl

include hX in
theorem iblk2 (t : Fin cfg0.N) : iblk m c 2 t = lift2 (colV X (pr t) (pr_lt t)) := by
  funext w
  obtain ⟨p, l, rfl⟩ : ∃ p l, w = ix2 p l := ⟨w 0, w 1, eq_ix2 w⟩
  have hV : V m c main_arg0 = lift2 X := (V_main_arg0 m c).trans hX
  have e1 : iblk m c 2 t (ix2 p l) = V m c main_arg0 (ix2 p ⟨2048 + (128 * pr t + l.val), by have := l.isLt; have := pr_lt t; omega⟩) := by
    blk_point [iblk, idx t]
    all_goals (simp only [pr]; omega)
  rw [e1, hV]
  rfl

include hY in
theorem iblk3 (t : Fin cfg0.N) : iblk m c 3 t = lift2 (colO Y (pr t) (pr_lt t)) := by
  funext w
  obtain ⟨p, l, rfl⟩ : ∃ p l, w = ix2 p l := ⟨w 0, w 1, eq_ix2 w⟩
  have hV : V m c main_arg1 = lift2 Y := (V_main_arg1 m c).trans hY
  have e1 : iblk m c 3 t (ix2 p l) = V m c main_arg1 (ix2 p ⟨128 * pr t + l.val, by have := l.isLt; have := pr_lt t; omega⟩) := by
    blk_point [iblk, idx t]
    all_goals (simp only [pr]; omega)
  rw [e1, hV]
  rfl

/-- The totals of the two heads of a point. -/
def tot (n : ℕ) (hn : n < 4) (e : Fin 2) (t : Fin 2048) : ℝ := ∑ s, lm X ⟨2 * n + e.val, by have := e.isLt; omega⟩ t s

include hX in
theorem iblk4 (t : Fin cfg0.N) : iblk m c 4 t = fun w => ((tot X (pr t) (pr_lt t) (w 0) (w 1) : ℝ) : EReal) := by
  funext w
  obtain ⟨e, p, l, rfl⟩ : ∃ e p l, w = ix3 e p l := ⟨w 0, w 1, w 2, eq_ix3 w⟩
  have hV : V m c main_v22 = fun w => ((∑ s, lm X (w 0) (w 1) s : ℝ) : EReal) := (V_main_v22 m c).trans ((congrArg hc hX).trans (hc_l X))
  have e1 : iblk m c 4 t (ix3 e p l) = V m c main_v22 (ix3 (⟨2 * pr t + e.val, by have := e.isLt; have := pr_lt t; omega⟩ : Fin 8) p l) := by
    blk_point [iblk, idx t]
    all_goals (simp only [pr]; omega)
  rw [e1, hV]
  rfl

/-- The three gradients. -/
def Gq : Vec Ideal S2048x512 .bf16 := lift2 fun t c => (∑ s, dz X Y (hd c) t s * k X (hd c) s (ln c)) * (1 / 8)
def Gk : Vec Ideal S2048x512 .bf16 := lift2 fun s c => ∑ t, dz X Y (hd c) t s * (q X (hd c) t (ln c) * (1 / 8))
def Gv : Vec Ideal S2048x512 .bf16 := lift2 fun s c => ∑ t, o Y (hd c) t (ln c) * a X (hd c) t s

include hX hY in
theorem D_l (t : Fin cfg0.N) : D m c t = liftT (Cert.StickMatch.A X Y (pr t) (pr_lt t)) (Cert.StickMatch.B X Y (pr t) (pr_lt t)) := by
  unfold D
  rw [iblk0 m X c hX, iblk1 m X c hX, iblk2 m X c hX, iblk3 m Y c hY, iblk4 m X c hX]
  exact prep_l _ _ _ _ (tot X (pr t) (pr_lt t))

theorem rw_div (r : Fin 2048) (h1 : r.val / 256 < 8) (h2 : r.val % 256 < 256) : rw' ⟨r.val / 256, h1⟩ ⟨r.val % 256, h2⟩ = r :=
  Fin.ext (by show 256 * (r.val / 256) + r.val % 256 = r.val; omega)

theorem unrow_at {e : EltTy} (T : Fin 8 → (⟨2, ![256, 128]⟩ : Shape).Idx → Elt Ideal e) (r : Fin 2048) (l : Fin 128) :
    unrow (Val := Elt Ideal) (e := e) T (ix2 r l) = T ⟨r.val / 256, by have := r.isLt; omega⟩ (ix2 ⟨r.val % 256, by omega⟩ l) := rfl

include hX hY in
theorem dq_l (t : Fin cfg0.N) (r : Fin 2048) (l : Fin 128) : dq (D m c t) (ix2 r l) = Gq X Y (ix2 r (cc (pr t) (pr_lt t) l)) := by
  rw [D_l m X Y c hX hY]
  unfold dq
  rw [rows8_l (Cert.StickMatch.A X Y (pr t) (pr_lt t)) (Cert.StickMatch.B X Y (pr t) (pr_lt t)) rfl rfl]
  refine (unrow_at _ r l).trans ((congrArg (fun r : ℝ => (r : EReal)) (tq_sum X Y (pr t) (pr_lt t) ⟨r.val / 256, by have := r.isLt; omega⟩ ⟨r.val % 256, by omega⟩ l)).trans ?_)
  rw [rw_div r]
  rfl

include hX hY in
theorem dk_l (t : Fin cfg0.N) (r : Fin 2048) (l : Fin 128) : dk (D m c t) (ix2 r l) = Gk X Y (ix2 r (cc (pr t) (pr_lt t) l)) := by
  rw [D_l m X Y c hX hY]
  unfold dk
  rw [rows8_l (Cert.StickMatch.A X Y (pr t) (pr_lt t)) (Cert.StickMatch.B X Y (pr t) (pr_lt t)) rfl rfl]
  simp only [pay14_l]
  refine (unrow_at _ r l).trans ((congrArg (fun r : ℝ => (r : EReal)) (tk_sum X Y (pr t) (pr_lt t) ⟨r.val / 256, by have := r.isLt; omega⟩ l ⟨r.val % 256, by omega⟩)).trans ?_)
  rw [rw_div r]
  rfl

include hX hY in
theorem dv_l (t : Fin cfg0.N) (r : Fin 2048) (l : Fin 128) : dv (D m c t) (ix2 r l) = Gv X Y (ix2 r (cc (pr t) (pr_lt t) l)) := by
  rw [D_l m X Y c hX hY]
  unfold dv
  rw [rows8_l (Cert.StickMatch.A X Y (pr t) (pr_lt t)) (Cert.StickMatch.B X Y (pr t) (pr_lt t)) rfl rfl]
  simp only [pay15_l]
  refine (unrow_at _ r l).trans ((congrArg (fun r : ℝ => (r : EReal)) (tv_sum X Y (pr t) (pr_lt t) ⟨r.val / 256, by have := r.isLt; omega⟩ l ⟨r.val % 256, by omega⟩)).trans ?_)
  rw [rw_div r]
  rfl

include hX hY in
theorem final5 : (dats m 0 c).arrAt 5 cfg0.N = Gq X Y := by
  refine (dats m 0 c).arrAt_eq_of_covers 5 _ (by decide +kernel) fun t hf y => ?_
  obtain ⟨r, l, rfl⟩ : ∃ r l, y = ix2 r l := ⟨y 0, y 1, eq_ix2 y⟩
  blk_simp
  rw [after0_5]
  refine (dq_l m X Y c hX hY t r l).trans ?_
  blk_point [idx t]
  show 128 * (grid0.coords t 0).val + l.val = _
  omega

include hX hY in
theorem final6 : (dats m 0 c).arrAt 6 cfg0.N = Gk X Y := by
  refine (dats m 0 c).arrAt_eq_of_covers 6 _ (by decide +kernel) fun t hf y => ?_
  obtain ⟨r, l, rfl⟩ : ∃ r l, y = ix2 r l := ⟨y 0, y 1, eq_ix2 y⟩
  blk_simp
  rw [after0_6]
  refine (dk_l m X Y c hX hY t r l).trans ?_
  blk_point [idx t]
  show 128 * (grid0.coords t 0).val + l.val = _
  omega

include hX hY in
theorem final7 : (dats m 0 c).arrAt 7 cfg0.N = Gv X Y := by
  refine (dats m 0 c).arrAt_eq_of_covers 7 _ (by decide +kernel) fun t hf y => ?_
  obtain ⟨r, l, rfl⟩ : ∃ r l, y = ix2 r l := ⟨y 0, y 1, eq_ix2 y⟩
  blk_simp
  rw [after0_7]
  refine (dv_l m X Y c hX hY t r l).trans ?_
  blk_point [idx t]
  show 128 * (grid0.coords t 0).val + l.val = _
  omega

/-- The run with the three gradients named. -/
theorem run_blocks (ρ : Dev nD → PrngReg) : θ_run defs (onTc (τ := τ) (main (F := Ideal))) ⟨m, fun _ => 0, ρ⟩ fun r => ∀ c : Dev nD,
      r.2.mem ((c.tc : Thread nD τ).loc main_v23_0) = (dats m 0 c).arrAt 5 cfg0.N
      ∧ r.2.mem ((c.tc : Thread nD τ).loc main_v23_1) = (dats m 0 c).arrAt 6 cfg0.N
      ∧ r.2.mem ((c.tc : Thread nD τ).loc main_v23_2) = (dats m 0 c).arrAt 7 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r h c => ⟨(h.1 c).1 5, (h.1 c).1 6, (h.1 c).1 7,
      ((h.1 c).1 0).trans (((dats m 0 c).arrAt_in 0 rfl _).trans ((A_eq m c 0).trans (V_main_arg0 m c))),
      ((h.1 c).1 3).trans (((dats m 0 c).arrAt_in 3 rfl _).trans ((A_eq m c 3).trans (V_main_arg1 m c)))⟩)
    (run_main_quiescent m ρ)

end Cert.Kernel2Ideal.Stick

namespace Cert.Proof.Stick

open Cert.Kernel2Ideal.Stick (lift2 Gq Gk Gv)

/-- A real array is a lifted one. -/
theorem lift_of {a b : ℕ} (x : (⟨2, ![a, b]⟩ : Shape).Idx → EReal) (h : ∀ i, ∃ r : ℝ, x i = (r : EReal)) :
    ∃ X : Fin a → Fin b → ℝ, x = lift2 X := by
  obtain ⟨f, hf⟩ := Classical.axiom_of_choice h
  refine ⟨fun i j => f (ix2 i j), funext fun w => ?_⟩
  obtain ⟨i, j, rfl⟩ : ∃ i j, w = ix2 i j := ⟨w 0, w 1, eq_ix2 w⟩
  exact hf _

/-- The precondition says that every argument is real, element by element. -/
theorem real_of_pre (x : Vec Ideal Cert.Kernel2Ideal.S2048x3072 .f32) (y : Vec Ideal Cert.Kernel2Ideal.S2048x1024 .f32)
    (h : Cert.Pre_finite2.fn (F := Ideal) x y = fun _ => 1#1) :
    (∀ i, ∃ r : ℝ, x i = (r : EReal)) ∧ (∀ i, ∃ r : ℝ, y i = (r : EReal)) := by
  have hh := congrFun h (fun a => a.elim0)
  haveI : Subsingleton Cert.Pre_finite2.S_.Idx := ⟨fun a b => funext fun k => k.elim0⟩
  unfold Cert.Pre_finite2.fn at hh
  obtain ⟨h0, h1⟩ := IntOp.andi_eq_one.1 hh
  exact ⟨fun i => Cert.Reals.real_of_cmp _ (Host.reduce_andi_all _ _ _ _ _ h0 i),
    fun i => Cert.Reals.real_of_cmp _ (Host.reduce_andi_all _ _ _ _ _ h1 i)⟩

theorem algebraic : Cert.algebraic_Kernel2Ideal_Reference2Ideal_pre_finite2 := by
  intro m ρ m' ρ' hpre hagree
  have hX : ∀ c : Dev Cert.Kernel2Ideal.nD, ∃ X : Fin 2048 → Fin 3072 → ℝ, m ((c.tc : Thread Cert.Kernel2Ideal.nD Cert.Kernel2Ideal.τ).loc Cert.Kernel2Ideal.main_arg0) = lift2 X :=
    fun c => lift_of _ (real_of_pre _ _ (hpre c)).1
  have hY : ∀ c : Dev Cert.Kernel2Ideal.nD, ∃ Y : Fin 2048 → Fin 1024 → ℝ, m ((c.tc : Thread Cert.Kernel2Ideal.nD Cert.Kernel2Ideal.τ).loc Cert.Kernel2Ideal.main_arg1) = lift2 Y :=
    fun c => lift_of _ (real_of_pre _ _ (hpre c)).2
  obtain ⟨X, hX⟩ := Classical.axiom_of_choice hX
  obtain ⟨Y, hY⟩ := Classical.axiom_of_choice hY
  refine ⟨fun c => Gq (X c) (Y c), fun c => Gk (X c) (Y c), fun c => Gv (X c) (Y c), ?_, ?_⟩
  · exact (θ_run Cert.Kernel2Ideal.defs _ _).mono
      (fun _ h c => ⟨(h c).1.trans (Cert.Kernel2Ideal.Stick.final5 m _ _ c (hX c) (hY c)),
        (h c).2.1.trans (Cert.Kernel2Ideal.Stick.final6 m _ _ c (hX c) (hY c)),
        (h c).2.2.1.trans (Cert.Kernel2Ideal.Stick.final7 m _ _ c (hX c) (hY c)), (h c).2.2.2⟩)
      (Cert.Kernel2Ideal.Stick.run_blocks m ρ)
  · refine (θ_run Cert.Reference2Ideal.defs _ _).mono (fun _ h c => ?_) (Cert.Reference2Ideal.Value.run (F := Ideal) m' ρ')
    have e0 := (hagree c).1.trans (hX c)
    have e1 := (hagree c).2.trans (hY c)
    refine ⟨(h c).1.trans ((Cert.Reference2Ideal.Read.val_main_v52_eq _ _).trans ?_),
      (h c).2.1.trans ((Cert.Reference2Ideal.Read.val_main_v54_eq _ _).trans ?_),
      (h c).2.2.1.trans ((Cert.Reference2Ideal.Read.val_main_v56_eq _ _).trans ?_), (h c).2.2.2⟩
    · rw [e0, e1]; exact Cert.Reference2Ideal.Stick.v52_l _ _
    · rw [e0, e1]; exact Cert.Reference2Ideal.Stick.v54_l _ _
    · rw [e0, e1]; exact Cert.Reference2Ideal.Stick.v56_l _ _

theorem frame_reference : Cert.quiescent_Reference2Ideal := fun m ρ _ =>
  (θ_run Cert.Reference2Ideal.defs _ _).mono (fun r h => ⟨fun c => (h c).2.2.2,
      Idealize.ShloMosaic.sem_eq_zero_of_no_sems (by decide) r.2⟩)
    (Cert.Reference2Ideal.Value.run (F := Ideal) m ρ)

theorem frame_reference_pre : Cert.quiescent_Reference2Ideal_pre_finite2 := fun m ρ _ =>
  frame_reference m ρ trivial

end Cert.Proof.Stick

end
-- ==== Proof.FfnInDw.lean ====
/- The gradient of the input matrix of the SwiGLU, transposed as the step keeps it. -/
module

public import proofs.«01_k».proof.Defs
public import proofs.«01_k».proof.Proof.Gen.Kernel3Ideal.Value
public import proofs.«01_k».proof.Proof.Gen.Reference3Ideal.Read
public import Idealize.ShloMosaic.Lib.Pipeline.ValueKit
public import Idealize.ShloMosaic.Lib.Pointwise
public import Idealize.ShloMosaic.Lib.Quiescent

@[expose] public section

set_option maxRecDepth 16384

noncomputable section

open Idealize.ShloMosaic Idealize.ShloMosaic.TcCoe Idealize.SL.Sem
open Idealize.ShloMosaic.Pipeline (Dat)

namespace Cert.Kernel3Ideal.FfnInDw

open Cert.Kernel3Ideal Cert.Kernel3Ideal.Gen

variable (m : (ℓ : Loc nD τ sig) → Buf (Elt Ideal) ℓ)

/-- Column `i` of the gate's and the up projection's gradients, which are two planes, times column `j` of the normalised input. -/
def G (x0 : Vec Ideal Cert.Kernel3Ideal.S2x2048x2816 .bf16) (x1 : Vec Ideal Cert.Kernel3Ideal.S2048x1024 .bf16) : Vec Ideal S5632x1024 .f32 := fun j => ∑ k : Fin 2048, x0 (ix3 (⟨(j 0).val / 2816, by have := (j 0).isLt; change _ < 5632 at this; omega⟩ : Fin 2) k (⟨(j 0).val % 2816, by omega⟩ : Fin 2816)) * x1 (ix2 k (j 1))

theorem idx : ∀ t : Fin grid0.N, win0_0.index t = ![(grid0.coords t 0).val / 2, 0, (grid0.coords t 0).val % 2]
    ∧ win0_1.index t = ![0, 0]
    ∧ win0_2.index t = ![(grid0.coords t 0).val, 0] := by decide +kernel

/-- An element of the block of point `t`, computed from that point's blocks, is the array's. -/
theorem core (c : Dev nD) (t : Fin cfg0.N) (x : S1408x1024.Idx) (j : S5632x1024.Idx) (h0 : (j 0).val = (grid0.coords t 0).val * 1408 + (x 0).val) (h1 : (j 1).val = (x 1).val) :
    k0_pay1 (iblk m c 0 t) (iblk m c 1 t) x = G (m ((c : Thread nD τ).loc main_arg0)) (m ((c : Thread nD τ).loc main_arg1)) j := by
  unfold G
  pointwise [k0_pay1]
  blk_point [iblk, V, idx t]

/-- The result array after the run: its blocks tile it. -/
theorem final (c : Dev nD) : (dats m 0 c).arrAt 2 cfg0.N = G (m ((c : Thread nD τ).loc main_arg0)) (m ((c : Thread nD τ).loc main_arg1)) := by
  refine (dats m 0 c).arrAt_eq_of_covers 2 _ (by decide +kernel) fun t hf y => ?_
  blk_simp
  rw [after0_2]
  frame_out
  refine core m c t y _ ?_ ?_ <;> blk_simp [idx t] <;> omega

end Cert.Kernel3Ideal.FfnInDw

namespace Cert.Proof.FfnInDw

open Cert.Reference3Ideal Cert.Reference3Ideal.Read Cert.Reference3Ideal.Gen

/-- The reference sets the two planes side by side. -/
theorem reference_eq (x0 : Vec Ideal Cert.Kernel3Ideal.S2x2048x2816 .bf16) (x1 : Vec Ideal Cert.Kernel3Ideal.S2048x1024 .bf16) :
    val_main_v11 (F := Ideal) x0 x1 = Cert.Kernel3Ideal.FfnInDw.G x0 x1 := by
  funext q
  obtain ⟨i, j, rfl⟩ : ∃ (i : Fin 5632) (j : Fin 1024), q = ix2 i j := ⟨q 0, q 1, eq_ix2 q⟩
  unfold Cert.Kernel3Ideal.FfnInDw.G
  pointwise [val_main_v11, val_main_v10, val_main_v9, val_main_v8, val_main_v6, val_main_v4, val_main_v3, val_main_v2, val_main_v1, val_main_v0]
  refine Finset.sum_congr rfl fun k _ => congrArg (· * x1 (ix2 k j)) ?_
  split
  · exact congrArg x0 (congrArg₂ (fun a b => ix3 a k b) (Fin.ext (by show 0 = i.val / 2816; omega))
      (Fin.ext (by show i.val = i.val % 2816; omega)))
  · exact congrArg x0 (congrArg₂ (fun a b => ix3 a k b) (Fin.ext (by show 1 = i.val / 2816; omega))
      (Fin.ext (by show i.val - 2816 = i.val % 2816; omega)))

theorem algebraic : Cert.algebraic_Kernel3Ideal_Reference3Ideal := by
  intro m ρ m' ρ' _ hagree
  refine ⟨fun c => Cert.Kernel3Ideal.FfnInDw.G (m ((c.tc : Thread _ _).loc Cert.Kernel3Ideal.main_arg0)) (m ((c.tc : Thread _ _).loc Cert.Kernel3Ideal.main_arg1)), ?_, ?_⟩
  · exact (θ_run Cert.Kernel3Ideal.defs _ _).mono
      (fun _ h c => ⟨(h c).1.trans (Cert.Kernel3Ideal.FfnInDw.final m c), (h c).2⟩)
      (Cert.Kernel3Ideal.Value.run_blocks (F := Ideal) m ρ)
  · refine (θ_run Cert.Reference3Ideal.defs _ _).mono (fun _ h c => ⟨(h c).1.trans ?_, (h c).2⟩)
      (Cert.Reference3Ideal.Value.run (F := Ideal) m' ρ')
    rw [(hagree c).1, (hagree c).2]
    exact (val_main_v11_eq _ _).trans (reference_eq _ _)

theorem frame_reference : Cert.quiescent_Reference3Ideal := fun m ρ _ =>
  (θ_run Cert.Reference3Ideal.defs _ _).mono (fun r h => ⟨fun c => (h c).2,
      Idealize.ShloMosaic.sem_eq_zero_of_no_sems (by decide) r.2⟩)
    (Cert.Reference3Ideal.Value.run (F := Ideal) m ρ)

end Cert.Proof.FfnInDw

end
-- ==== Proof.FfnOutDw.lean ====
/- The gradient of the output matrix of the SwiGLU. -/
module

public import proofs.«01_k».proof.Defs
public import proofs.«01_k».proof.Proof.Gen.Kernel4Ideal.Value
public import proofs.«01_k».proof.Proof.Gen.Reference4Ideal.Read
public import Idealize.ShloMosaic.Lib.Pipeline.ValueKit
public import Idealize.ShloMosaic.Lib.Pointwise
public import Idealize.ShloMosaic.Lib.Quiescent

@[expose] public section

set_option maxRecDepth 16384

noncomputable section

open Idealize.ShloMosaic Idealize.ShloMosaic.TcCoe Idealize.SL.Sem
open Idealize.ShloMosaic.Pipeline (Dat)

namespace Cert.Kernel4Ideal.FfnOutDw

open Cert.Kernel4Ideal Cert.Kernel4Ideal.Gen

variable (m : (ℓ : Loc nD τ sig) → Buf (Elt Ideal) ℓ)

/-- Column `i` of the saved activation times column `j` of the incoming gradient. -/
def G (x0 : Vec Ideal Cert.Kernel4Ideal.S2048x2816 .bf16) (x1 : Vec Ideal Cert.Kernel4Ideal.S2048x1024 .bf16) : Vec Ideal S2816x1024 .f32 := fun j => ∑ k : Fin 2048, x0 (ix2 k (j 0)) * x1 (ix2 k (j 1))

theorem idx : ∀ t : Fin grid0.N, win0_0.index t = ![0, (grid0.coords t 0).val]
    ∧ win0_1.index t = ![0, (grid0.coords t 1).val]
    ∧ win0_2.index t = ![(grid0.coords t 0).val, (grid0.coords t 1).val] := by decide +kernel

/-- An element of the block of point `t`, computed from that point's blocks, is the array's. -/
theorem core (c : Dev nD) (t : Fin cfg0.N) (x : S1408x512.Idx) (j : S2816x1024.Idx) (h0 : (j 0).val = (grid0.coords t 0).val * 1408 + (x 0).val) (h1 : (j 1).val = (grid0.coords t 1).val * 512 + (x 1).val) :
    k0_pay1 (iblk m c 0 t) (iblk m c 1 t) x = G (m ((c : Thread nD τ).loc main_arg0)) (m ((c : Thread nD τ).loc main_arg1)) j := by
  unfold G
  pointwise [k0_pay1]
  blk_point [iblk, V, idx t]

/-- The result array after the run: its blocks tile it. -/
theorem final (c : Dev nD) : (dats m 0 c).arrAt 2 cfg0.N = G (m ((c : Thread nD τ).loc main_arg0)) (m ((c : Thread nD τ).loc main_arg1)) := by
  refine (dats m 0 c).arrAt_eq_of_covers 2 _ (by decide +kernel) fun t hf y => ?_
  blk_simp
  rw [after0_2]
  frame_out
  refine core m c t y _ ?_ ?_ <;> blk_simp [idx t] <;> omega

end Cert.Kernel4Ideal.FfnOutDw

namespace Cert.Proof.FfnOutDw

open Cert.Reference4Ideal Cert.Reference4Ideal.Read Cert.Reference4Ideal.Gen

/-- The reference: the transpose of the product of the incoming gradient with the activation. -/
theorem reference_eq (x0 : Vec Ideal Cert.Kernel4Ideal.S2048x2816 .bf16) (x1 : Vec Ideal Cert.Kernel4Ideal.S2048x1024 .bf16) :
    val_main_v5 (F := Ideal) x0 x1 = Cert.Kernel4Ideal.FfnOutDw.G x0 x1 := by
  funext q
  obtain ⟨i, j, rfl⟩ : ∃ (i : Fin 2816) (j : Fin 1024), q = ix2 i j := ⟨q 0, q 1, eq_ix2 q⟩
  unfold Cert.Kernel4Ideal.FfnOutDw.G
  pointwise [val_main_v5, val_main_v4, val_main_v3, val_main_v1]
  exact Finset.sum_congr rfl fun k _ => mul_comm _ _

theorem algebraic : Cert.algebraic_Kernel4Ideal_Reference4Ideal := by
  intro m ρ m' ρ' _ hagree
  refine ⟨fun c => Cert.Kernel4Ideal.FfnOutDw.G (m ((c.tc : Thread _ _).loc Cert.Kernel4Ideal.main_arg0)) (m ((c.tc : Thread _ _).loc Cert.Kernel4Ideal.main_arg1)), ?_, ?_⟩
  · exact (θ_run Cert.Kernel4Ideal.defs _ _).mono
      (fun _ h c => ⟨(h c).1.trans (Cert.Kernel4Ideal.FfnOutDw.final m c), (h c).2⟩)
      (Cert.Kernel4Ideal.Value.run_blocks (F := Ideal) m ρ)
  · refine (θ_run Cert.Reference4Ideal.defs _ _).mono (fun _ h c => ⟨(h c).1.trans ?_, (h c).2⟩)
      (Cert.Reference4Ideal.Value.run (F := Ideal) m' ρ')
    rw [(hagree c).1, (hagree c).2]
    exact (val_main_v5_eq _ _).trans (reference_eq _ _)

theorem frame_reference : Cert.quiescent_Reference4Ideal := fun m ρ _ =>
  (θ_run Cert.Reference4Ideal.defs _ _).mono (fun r h => ⟨fun c => (h c).2,
      Idealize.ShloMosaic.sem_eq_zero_of_no_sems (by decide) r.2⟩)
    (Cert.Reference4Ideal.Value.run (F := Ideal) m ρ)

end Cert.Proof.FfnOutDw

end
-- ==== Proof.QkvDw.lean ====
/- The gradient of the even layers' projection, one plane of columns for each device. -/
module

public import proofs.«01_k».proof.Defs
public import proofs.«01_k».proof.Proof.Gen.Kernel5Ideal.Value
public import proofs.«01_k».proof.Proof.Gen.Reference5Ideal.Read
public import Idealize.ShloMosaic.Lib.Pipeline.ValueKit
public import Idealize.ShloMosaic.Lib.Pointwise
public import Idealize.ShloMosaic.Lib.Quiescent

@[expose] public section

set_option maxRecDepth 16384

noncomputable section

open Idealize.ShloMosaic Idealize.ShloMosaic.TcCoe Idealize.SL.Sem
open Idealize.ShloMosaic.Pipeline (Dat)

namespace Cert.Kernel5Ideal.QkvDw

open Cert.Kernel5Ideal Cert.Kernel5Ideal.Gen

variable (m : (ℓ : Loc nD τ sig) → Buf (Elt Ideal) ℓ)

/-- Column `i` of plane `p`, in the whole matrix. -/
def col (p : Fin 8) (i : Fin 384) : Fin 3072 := ⟨p.val * 384 + i.val, by omega⟩

/-- Column `i` of the normalised input times column `j` of plane `p` of the incoming gradient. -/
def G (x0 : Vec Ideal Cert.Kernel5Ideal.S2048x1024 .bf16) (x1 : Vec Ideal Cert.Kernel5Ideal.S2048x3072 .bf16) : Vec Ideal S8x1024x384 .f32 := fun j => ∑ k : Fin 2048, x0 (ix2 k (j 1)) * x1 (ix2 k (col (j 0) (j 2)))

theorem idx : ∀ t : Fin grid0.N, win0_0.index t = ![0, 0]
    ∧ win0_1.index t = ![0, (grid0.coords t 1).val]
    ∧ win0_2.index t = ![(grid0.coords t 1).val, 0, 0] := by decide +kernel

/-- An element of the block of point `t`, computed from that point's blocks, is the array's. -/
theorem core (c : Dev nD) (t : Fin cfg0.N) (x : S1x1024x384.Idx) (j : S8x1024x384.Idx) (h0 : (j 0).val = (grid0.coords t 1).val) (h1 : (j 1).val = (x 1).val) (h2 : (j 2).val = (x 2).val) :
    k0_pay1 (iblk m c 0 t) (iblk m c 1 t) x = G (m ((c : Thread nD τ).loc main_arg0)) (m ((c : Thread nD τ).loc main_arg1)) j := by
  unfold G
  pointwise [k0_pay1, col]
  blk_point [iblk, V, idx t]

/-- The result array after the run: its blocks tile it. -/
theorem final (c : Dev nD) : (dats m 0 c).arrAt 2 cfg0.N = G (m ((c : Thread nD τ).loc main_arg0)) (m ((c : Thread nD τ).loc main_arg1)) := by
  refine (dats m 0 c).arrAt_eq_of_covers 2 _ (by decide +kernel) fun t hf y => ?_
  blk_simp
  rw [after0_2]
  frame_out
  refine core m c t y _ ?_ ?_ ?_ <;> blk_simp [idx t] <;> omega

end Cert.Kernel5Ideal.QkvDw

namespace Cert.Proof.QkvDw

open Cert.Reference5Ideal Cert.Reference5Ideal.Read Cert.Reference5Ideal.Gen

/-- The reference: the transpose of the product of the incoming gradient with the input, its columns cut into planes. -/
theorem reference_eq (x0 : Vec Ideal Cert.Kernel5Ideal.S2048x1024 .bf16) (x1 : Vec Ideal Cert.Kernel5Ideal.S2048x3072 .bf16) :
    val_main_v7 (F := Ideal) x0 x1 = Cert.Kernel5Ideal.QkvDw.G x0 x1 := by
  funext q
  obtain ⟨p, i, j, rfl⟩ : ∃ (p : Fin 8) (i : Fin 1024) (j : Fin 384), q = ix3 p i j := ⟨q 0, q 1, q 2, eq_ix3 q⟩
  unfold Cert.Kernel5Ideal.QkvDw.G Cert.Kernel5Ideal.QkvDw.col
  pointwise [val_main_v7, val_main_v6, val_main_v5, val_main_v4, val_main_v3, val_main_v1]
  exact Finset.sum_congr rfl fun k _ => mul_comm _ _

theorem algebraic : Cert.algebraic_Kernel5Ideal_Reference5Ideal := by
  intro m ρ m' ρ' _ hagree
  refine ⟨fun c => Cert.Kernel5Ideal.QkvDw.G (m ((c.tc : Thread _ _).loc Cert.Kernel5Ideal.main_arg0)) (m ((c.tc : Thread _ _).loc Cert.Kernel5Ideal.main_arg1)), ?_, ?_⟩
  · exact (θ_run Cert.Kernel5Ideal.defs _ _).mono
      (fun _ h c => ⟨(h c).1.trans (Cert.Kernel5Ideal.QkvDw.final m c), (h c).2⟩)
      (Cert.Kernel5Ideal.Value.run_blocks (F := Ideal) m ρ)
  · refine (θ_run Cert.Reference5Ideal.defs _ _).mono (fun _ h c => ⟨(h c).1.trans ?_, (h c).2⟩)
      (Cert.Reference5Ideal.Value.run (F := Ideal) m' ρ')
    rw [(hagree c).1, (hagree c).2]
    exact (val_main_v7_eq _ _).trans (reference_eq _ _)

theorem frame_reference : Cert.quiescent_Reference5Ideal := fun m ρ _ =>
  (θ_run Cert.Reference5Ideal.defs _ _).mono (fun r h => ⟨fun c => (h c).2,
      Idealize.ShloMosaic.sem_eq_zero_of_no_sems (by decide) r.2⟩)
    (Cert.Reference5Ideal.Value.run (F := Ideal) m ρ)

end Cert.Proof.QkvDw

end
-- ==== Proof.QkvfDw.lean ====
/- The gradient of the odd layers' projection. -/
module

public import proofs.«01_k».proof.Defs
public import proofs.«01_k».proof.Proof.Gen.Kernel6Ideal.Value
public import proofs.«01_k».proof.Proof.Gen.Reference6Ideal.Read
public import Idealize.ShloMosaic.Lib.Pipeline.ValueKit
public import Idealize.ShloMosaic.Lib.Pointwise
public import Idealize.ShloMosaic.Lib.Quiescent

@[expose] public section

set_option maxRecDepth 16384

noncomputable section

open Idealize.ShloMosaic Idealize.ShloMosaic.TcCoe Idealize.SL.Sem
open Idealize.ShloMosaic.Pipeline (Dat)

namespace Cert.Kernel6Ideal.QkvfDw

open Cert.Kernel6Ideal Cert.Kernel6Ideal.Gen

variable (m : (ℓ : Loc nD τ sig) → Buf (Elt Ideal) ℓ)

/-- Column `i` of the normalised input times column `j` of the incoming gradient. -/
def G (x0 : Vec Ideal Cert.Kernel6Ideal.S2048x1024 .bf16) (x1 : Vec Ideal Cert.Kernel6Ideal.S2048x3200 .bf16) : Vec Ideal S1024x3200 .f32 := fun j => ∑ k : Fin 2048, x0 (ix2 k (j 0)) * x1 (ix2 k (j 1))

theorem idx : ∀ t : Fin grid0.N, win0_0.index t = ![0, 0]
    ∧ win0_1.index t = ![0, (grid0.coords t 1).val]
    ∧ win0_2.index t = ![0, (grid0.coords t 1).val] := by decide +kernel

/-- An element of the block of point `t`, computed from that point's blocks, is the array's. -/
theorem core (c : Dev nD) (t : Fin cfg0.N) (x : S1024x640.Idx) (j : S1024x3200.Idx) (h0 : (j 0).val = (x 0).val) (h1 : (j 1).val = (grid0.coords t 1).val * 640 + (x 1).val) :
    k0_pay1 (iblk m c 0 t) (iblk m c 1 t) x = G (m ((c : Thread nD τ).loc main_arg0)) (m ((c : Thread nD τ).loc main_arg1)) j := by
  unfold G
  pointwise [k0_pay1]
  blk_point [iblk, V, idx t]

/-- The result array after the run: its blocks tile it. -/
theorem final (c : Dev nD) : (dats m 0 c).arrAt 2 cfg0.N = G (m ((c : Thread nD τ).loc main_arg0)) (m ((c : Thread nD τ).loc main_arg1)) := by
  refine (dats m 0 c).arrAt_eq_of_covers 2 _ (by decide +kernel) fun t hf y => ?_
  blk_simp
  rw [after0_2]
  frame_out
  refine core m c t y _ ?_ ?_ <;> blk_simp [idx t] <;> omega

end Cert.Kernel6Ideal.QkvfDw

namespace Cert.Proof.QkvfDw

open Cert.Reference6Ideal Cert.Reference6Ideal.Read Cert.Reference6Ideal.Gen

/-- The reference: the transpose of the product of the incoming gradient with the input. -/
theorem reference_eq (x0 : Vec Ideal Cert.Kernel6Ideal.S2048x1024 .bf16) (x1 : Vec Ideal Cert.Kernel6Ideal.S2048x3200 .bf16) :
    val_main_v5 (F := Ideal) x0 x1 = Cert.Kernel6Ideal.QkvfDw.G x0 x1 := by
  funext q
  obtain ⟨i, j, rfl⟩ : ∃ (i : Fin 1024) (j : Fin 3200), q = ix2 i j := ⟨q 0, q 1, eq_ix2 q⟩
  unfold Cert.Kernel6Ideal.QkvfDw.G
  pointwise [val_main_v5, val_main_v4, val_main_v3, val_main_v1]
  exact Finset.sum_congr rfl fun k _ => mul_comm _ _

theorem algebraic : Cert.algebraic_Kernel6Ideal_Reference6Ideal := by
  intro m ρ m' ρ' _ hagree
  refine ⟨fun c => Cert.Kernel6Ideal.QkvfDw.G (m ((c.tc : Thread _ _).loc Cert.Kernel6Ideal.main_arg0)) (m ((c.tc : Thread _ _).loc Cert.Kernel6Ideal.main_arg1)), ?_, ?_⟩
  · exact (θ_run Cert.Kernel6Ideal.defs _ _).mono
      (fun _ h c => ⟨(h c).1.trans (Cert.Kernel6Ideal.QkvfDw.final m c), (h c).2⟩)
      (Cert.Kernel6Ideal.Value.run_blocks (F := Ideal) m ρ)
  · refine (θ_run Cert.Reference6Ideal.defs _ _).mono (fun _ h c => ⟨(h c).1.trans ?_, (h c).2⟩)
      (Cert.Reference6Ideal.Value.run (F := Ideal) m' ρ')
    rw [(hagree c).1, (hagree c).2]
    exact (val_main_v5_eq _ _).trans (reference_eq _ _)

theorem frame_reference : Cert.quiescent_Reference6Ideal := fun m ρ _ =>
  (θ_run Cert.Reference6Ideal.defs _ _).mono (fun r h => ⟨fun c => (h c).2,
      Idealize.ShloMosaic.sem_eq_zero_of_no_sems (by decide) r.2⟩)
    (Cert.Reference6Ideal.Value.run (F := Ideal) m ρ)

end Cert.Proof.QkvfDw

end
-- ==== Proof.WoDw.lean ====
/- The gradient of the attention's output matrix. -/
module

public import proofs.«01_k».proof.Defs
public import proofs.«01_k».proof.Proof.Gen.Kernel7Ideal.Value
public import proofs.«01_k».proof.Proof.Gen.Reference7Ideal.Read
public import Idealize.ShloMosaic.Lib.Pipeline.ValueKit
public import Idealize.ShloMosaic.Lib.Pointwise
public import Idealize.ShloMosaic.Lib.Quiescent

@[expose] public section

set_option maxRecDepth 16384

noncomputable section

open Idealize.ShloMosaic Idealize.ShloMosaic.TcCoe Idealize.SL.Sem
open Idealize.ShloMosaic.Pipeline (Dat)

namespace Cert.Kernel7Ideal.WoDw

open Cert.Kernel7Ideal Cert.Kernel7Ideal.Gen

variable (m : (ℓ : Loc nD τ sig) → Buf (Elt Ideal) ℓ)

/-- Column `i` of the attention's output times column `j` of the incoming gradient. -/
def G (x0 : Vec Ideal Cert.Kernel7Ideal.S2048x1024 .bf16) (x1 : Vec Ideal Cert.Kernel7Ideal.S2048x1024 .bf16) : Vec Ideal S1024x1024 .f32 := fun j => ∑ k : Fin 2048, x0 (ix2 k (j 0)) * x1 (ix2 k (j 1))

theorem idx : ∀ t : Fin grid0.N, win0_0.index t = ![0, (grid0.coords t 0).val]
    ∧ win0_1.index t = ![0, 0]
    ∧ win0_2.index t = ![(grid0.coords t 0).val, 0] := by decide +kernel

/-- An element of the block of point `t`, computed from that point's blocks, is the array's. -/
theorem core (c : Dev nD) (t : Fin cfg0.N) (x : S512x1024.Idx) (j : S1024x1024.Idx) (h0 : (j 0).val = (grid0.coords t 0).val * 512 + (x 0).val) (h1 : (j 1).val = (x 1).val) :
    k0_pay1 (iblk m c 0 t) (iblk m c 1 t) x = G (m ((c : Thread nD τ).loc main_arg0)) (m ((c : Thread nD τ).loc main_arg1)) j := by
  unfold G
  pointwise [k0_pay1]
  blk_point [iblk, V, idx t]

/-- The result array after the run: its blocks tile it. -/
theorem final (c : Dev nD) : (dats m 0 c).arrAt 2 cfg0.N = G (m ((c : Thread nD τ).loc main_arg0)) (m ((c : Thread nD τ).loc main_arg1)) := by
  refine (dats m 0 c).arrAt_eq_of_covers 2 _ (by decide +kernel) fun t hf y => ?_
  blk_simp
  rw [after0_2]
  frame_out
  refine core m c t y _ ?_ ?_ <;> blk_simp [idx t] <;> omega

end Cert.Kernel7Ideal.WoDw

namespace Cert.Proof.WoDw

open Cert.Reference7Ideal Cert.Reference7Ideal.Read Cert.Reference7Ideal.Gen

/-- The reference: the transpose of the product of the incoming gradient with the attention's output. -/
theorem reference_eq (x0 : Vec Ideal Cert.Kernel7Ideal.S2048x1024 .bf16) (x1 : Vec Ideal Cert.Kernel7Ideal.S2048x1024 .bf16) :
    val_main_v5 (F := Ideal) x0 x1 = Cert.Kernel7Ideal.WoDw.G x0 x1 := by
  funext q
  obtain ⟨i, j, rfl⟩ : ∃ (i : Fin 1024) (j : Fin 1024), q = ix2 i j := ⟨q 0, q 1, eq_ix2 q⟩
  unfold Cert.Kernel7Ideal.WoDw.G
  pointwise [val_main_v5, val_main_v4, val_main_v3, val_main_v1]
  exact Finset.sum_congr rfl fun k _ => mul_comm _ _

theorem algebraic : Cert.algebraic_Kernel7Ideal_Reference7Ideal := by
  intro m ρ m' ρ' _ hagree
  refine ⟨fun c => Cert.Kernel7Ideal.WoDw.G (m ((c.tc : Thread _ _).loc Cert.Kernel7Ideal.main_arg0)) (m ((c.tc : Thread _ _).loc Cert.Kernel7Ideal.main_arg1)), ?_, ?_⟩
  · exact (θ_run Cert.Kernel7Ideal.defs _ _).mono
      (fun _ h c => ⟨(h c).1.trans (Cert.Kernel7Ideal.WoDw.final m c), (h c).2⟩)
      (Cert.Kernel7Ideal.Value.run_blocks (F := Ideal) m ρ)
  · refine (θ_run Cert.Reference7Ideal.defs _ _).mono (fun _ h c => ⟨(h c).1.trans ?_, (h c).2⟩)
      (Cert.Reference7Ideal.Value.run (F := Ideal) m' ρ')
    rw [(hagree c).1, (hagree c).2]
    exact (val_main_v5_eq _ _).trans (reference_eq _ _)

theorem frame_reference : Cert.quiescent_Reference7Ideal := fun m ρ _ =>
  (θ_run Cert.Reference7Ideal.defs _ _).mono (fun r h => ⟨fun c => (h c).2,
      Idealize.ShloMosaic.sem_eq_zero_of_no_sems (by decide) r.2⟩)
    (Cert.Reference7Ideal.Value.run (F := Ideal) m ρ)

end Cert.Proof.WoDw

end
-- ==== Proof.WoDx.lean ====
/- The gradient of the attention's output. -/
module

public import proofs.«01_k».proof.Defs
public import proofs.«01_k».proof.Proof.Gen.Kernel8Ideal.Value
public import proofs.«01_k».proof.Proof.Gen.Reference8Ideal.Read
public import Idealize.ShloMosaic.Lib.Pipeline.ValueKit
public import Idealize.ShloMosaic.Lib.Pointwise
public import Idealize.ShloMosaic.Lib.Quiescent

@[expose] public section

set_option maxRecDepth 16384

noncomputable section

open Idealize.ShloMosaic Idealize.ShloMosaic.TcCoe Idealize.SL.Sem
open Idealize.ShloMosaic.Pipeline (Dat)

namespace Cert.Kernel8Ideal.WoDx

open Cert.Kernel8Ideal Cert.Kernel8Ideal.Gen

variable (m : (ℓ : Loc nD τ sig) → Buf (Elt Ideal) ℓ)

/-- Row `i` of the incoming gradient times row `j` of the output matrix. -/
def G (x0 : Vec Ideal Cert.Kernel8Ideal.S2048x1024 .bf16) (x1 : Vec Ideal Cert.Kernel8Ideal.S1024x1024 .bf16) : Vec Ideal S2048x1024 .f32 := fun j => ∑ k : Fin 1024, x0 (ix2 (j 0) k) * x1 (ix2 (j 1) k)

theorem idx : ∀ t : Fin grid0.N, win0_0.index t = ![(grid0.coords t 0).val, 0]
    ∧ win0_1.index t = ![0, 0]
    ∧ win0_2.index t = ![(grid0.coords t 0).val, 0] := by decide +kernel

/-- An element of the block of point `t`, computed from that point's blocks, is the array's. -/
theorem core (c : Dev nD) (t : Fin cfg0.N) (x : S1024x1024.Idx) (j : S2048x1024.Idx) (h0 : (j 0).val = (grid0.coords t 0).val * 1024 + (x 0).val) (h1 : (j 1).val = (x 1).val) :
    k0_pay1 (iblk m c 0 t) (iblk m c 1 t) x = G (m ((c : Thread nD τ).loc main_arg0)) (m ((c : Thread nD τ).loc main_arg1)) j := by
  unfold G
  pointwise [k0_pay1]
  blk_point [iblk, V, idx t]

/-- The result array after the run: its blocks tile it. -/
theorem final (c : Dev nD) : (dats m 0 c).arrAt 2 cfg0.N = G (m ((c : Thread nD τ).loc main_arg0)) (m ((c : Thread nD τ).loc main_arg1)) := by
  refine (dats m 0 c).arrAt_eq_of_covers 2 _ (by decide +kernel) fun t hf y => ?_
  blk_simp
  rw [after0_2]
  frame_out
  refine core m c t y _ ?_ ?_ <;> blk_simp [idx t] <;> omega

end Cert.Kernel8Ideal.WoDx

namespace Cert.Proof.WoDx

open Cert.Reference8Ideal Cert.Reference8Ideal.Read Cert.Reference8Ideal.Gen

/-- The reference: the product of the incoming gradient with the transposed matrix. -/
theorem reference_eq (x0 : Vec Ideal Cert.Kernel8Ideal.S2048x1024 .bf16) (x1 : Vec Ideal Cert.Kernel8Ideal.S1024x1024 .bf16) :
    val_main_v4 (F := Ideal) x0 x1 = Cert.Kernel8Ideal.WoDx.G x0 x1 := by
  funext q
  obtain ⟨i, j, rfl⟩ : ∃ (i : Fin 2048) (j : Fin 1024), q = ix2 i j := ⟨q 0, q 1, eq_ix2 q⟩
  unfold Cert.Kernel8Ideal.WoDx.G
  pointwise [val_main_v4, val_main_v3, val_main_v1]

theorem algebraic : Cert.algebraic_Kernel8Ideal_Reference8Ideal := by
  intro m ρ m' ρ' _ hagree
  refine ⟨fun c => Cert.Kernel8Ideal.WoDx.G (m ((c.tc : Thread _ _).loc Cert.Kernel8Ideal.main_arg0)) (m ((c.tc : Thread _ _).loc Cert.Kernel8Ideal.main_arg1)), ?_, ?_⟩
  · exact (θ_run Cert.Kernel8Ideal.defs _ _).mono
      (fun _ h c => ⟨(h c).1.trans (Cert.Kernel8Ideal.WoDx.final m c), (h c).2⟩)
      (Cert.Kernel8Ideal.Value.run_blocks (F := Ideal) m ρ)
  · refine (θ_run Cert.Reference8Ideal.defs _ _).mono (fun _ h c => ⟨(h c).1.trans ?_, (h c).2⟩)
      (Cert.Reference8Ideal.Value.run (F := Ideal) m' ρ')
    rw [(hagree c).1, (hagree c).2]
    exact (val_main_v4_eq _ _).trans (reference_eq _ _)

theorem frame_reference : Cert.quiescent_Reference8Ideal := fun m ρ _ =>
  (θ_run Cert.Reference8Ideal.defs _ _).mono (fun r h => ⟨fun c => (h c).2,
      Idealize.ShloMosaic.sem_eq_zero_of_no_sems (by decide) r.2⟩)
    (Cert.Reference8Ideal.Value.run (F := Ideal) m ρ)

end Cert.Proof.WoDx

end
-- ==== Proof.FfnInFwd.lean ====
/- The first half of the SwiGLU: its two products and the gated activation. -/
module

public import proofs.«01_k».proof.Defs
public import proofs.«01_k».proof.Proof.Gen.Kernel9Ideal.Value
public import proofs.«01_k».proof.Proof.Gen.Reference9Ideal.Read
public import Idealize.ShloMosaic.Lib.Pipeline.ValueKit
public import Idealize.ShloMosaic.Lib.Pointwise
public import Idealize.ShloMosaic.Lib.Quiescent

@[expose] public section

set_option maxRecDepth 16384

noncomputable section

open Idealize.ShloMosaic Idealize.ShloMosaic.TcCoe Idealize.SL.Sem
open Idealize.ShloMosaic.Pipeline (Dat)

namespace Cert.Kernel9Ideal.FfnInFwd

open Cert.Kernel9Ideal Cert.Kernel9Ideal.Gen

variable (m : (ℓ : Loc nD τ sig) → Buf (Elt Ideal) ℓ)

/-- Row `i` of the normalised input times row `r` of the transposed matrix. -/
def dotRow (x0 : Vec Ideal S2048x1024 .bf16) (x1 : Vec Ideal S5632x1024 .bf16) (i : Fin 2048) (r : Fin 5632) : EReal :=
  ∑ k : Fin 1024, x0 (ix2 i k) * x1 (ix2 r k)

/-- The gate: the first 2816 rows of the matrix. -/
def gate (x0 : Vec Ideal S2048x1024 .bf16) (x1 : Vec Ideal S5632x1024 .bf16) : Vec Ideal S2048x2816 .f32 := fun j =>
  dotRow x0 x1 (j 0) ⟨(j 1).val, by have := (j 1).isLt; change _ < 2816 at this; omega⟩

/-- The up projection: the other 2816 rows. -/
def up (x0 : Vec Ideal S2048x1024 .bf16) (x1 : Vec Ideal S5632x1024 .bf16) : Vec Ideal S2048x2816 .f32 := fun j =>
  dotRow x0 x1 (j 0) ⟨2816 + (j 1).val, by have := (j 1).isLt; change _ < 2816 at this; omega⟩

/-- The activation: `silu` of the gate, times the up projection. -/
def act (x0 : Vec Ideal S2048x1024 .bf16) (x1 : Vec Ideal S5632x1024 .bf16) : Vec Ideal S2048x2816 .bf16 := fun j =>
  gate x0 x1 j * Ideal.logistic (gate x0 x1 j) * up x0 x1 j

theorem idx : ∀ t : Fin grid0.N, win0_0.index t = ![(grid0.coords t 0).val, 0] ∧ win0_1.index t = ![(grid0.coords t 1).val, 0]
    ∧ win0_2.index t = ![2 + (grid0.coords t 1).val, 0] ∧ win0_3.index t = ![(grid0.coords t 0).val, (grid0.coords t 1).val]
    ∧ win0_4.index t = ![(grid0.coords t 0).val, (grid0.coords t 1).val]
    ∧ win0_5.index t = ![(grid0.coords t 0).val, (grid0.coords t 1).val] := by decide +kernel

section
variable (c : Dev nD) (t : Fin cfg0.N) (x : S512x1408.Idx) (j : S2048x2816.Idx)
  (h0 : (j 0).val = (grid0.coords t 0).val * 512 + (x 0).val) (h1 : (j 1).val = (grid0.coords t 1).val * 1408 + (x 1).val)
include h0 h1

/-- An element of the gate's block of point `t` is the gate's. -/
theorem core_gate : k0_pay1 (iblk m c 0 t) (iblk m c 1 t) x
    = gate (m ((c : Thread nD τ).loc main_arg0)) (m ((c : Thread nD τ).loc main_arg1)) j := by
  unfold gate dotRow
  pointwise [k0_pay1]
  blk_point [iblk, V, idx t]

/-- The same for the up projection, whose rows begin 2816 further down. -/
theorem core_up : k0_pay2 (iblk m c 0 t) (iblk m c 2 t) x
    = up (m ((c : Thread nD τ).loc main_arg0)) (m ((c : Thread nD τ).loc main_arg1)) j := by
  unfold up dotRow
  pointwise [k0_pay2]
  blk_point [iblk, V, idx t]

/-- The same for the activation. -/
theorem core_act : k0_pay3 (iblk m c 0 t) (iblk m c 1 t) (iblk m c 2 t) x
    = act (m ((c : Thread nD τ).loc main_arg0)) (m ((c : Thread nD τ).loc main_arg1)) j := by
  unfold act
  rw [← core_gate m c t x j h0 h1, ← core_up m c t x j h0 h1]
  rfl

end

theorem final_gate (c : Dev nD) : (dats m 0 c).arrAt 3 cfg0.N
    = gate (m ((c : Thread nD τ).loc main_arg0)) (m ((c : Thread nD τ).loc main_arg1)) := by
  refine (dats m 0 c).arrAt_eq_of_covers 3 _ (by decide +kernel) fun t hf y => ?_
  blk_simp
  rw [after0_3]
  frame_out
  refine core_gate m c t y _ ?_ ?_ <;> blk_simp [idx t] <;> omega

theorem final_up (c : Dev nD) : (dats m 0 c).arrAt 4 cfg0.N
    = up (m ((c : Thread nD τ).loc main_arg0)) (m ((c : Thread nD τ).loc main_arg1)) := by
  refine (dats m 0 c).arrAt_eq_of_covers 4 _ (by decide +kernel) fun t hf y => ?_
  blk_simp
  rw [after0_4]
  frame_out
  refine core_up m c t y _ ?_ ?_ <;> blk_simp [idx t] <;> omega

theorem final_act (c : Dev nD) : (dats m 0 c).arrAt 5 cfg0.N
    = act (m ((c : Thread nD τ).loc main_arg0)) (m ((c : Thread nD τ).loc main_arg1)) := by
  refine (dats m 0 c).arrAt_eq_of_covers 5 _ (by decide +kernel) fun t hf y => ?_
  blk_simp
  rw [after0_5]
  frame_out
  refine core_act m c t y _ ?_ ?_ <;> blk_simp [idx t] <;> omega

end Cert.Kernel9Ideal.FfnInFwd

namespace Cert.Proof.FfnInFwd

open Cert.Reference9Ideal Cert.Reference9Ideal.Read Cert.Reference9Ideal.Gen
open Cert.Kernel9Ideal.FfnInFwd (gate up act)

variable (x0 : Vec Ideal Cert.Kernel9Ideal.S2048x1024 .bf16) (x1 : Vec Ideal Cert.Kernel9Ideal.S5632x1024 .bf16)

theorem reference_gate : val_main_v4 (F := Ideal) x0 x1 = gate x0 x1 := by
  funext q
  obtain ⟨i, j, rfl⟩ : ∃ (i : Fin 2048) (j : Fin 2816), q = ix2 i j := ⟨q 0, q 1, eq_ix2 q⟩
  unfold gate Cert.Kernel9Ideal.FfnInFwd.dotRow
  pointwise [val_main_v4, val_main_v3, val_main_v2, val_main_v1, val_main_v0]

theorem reference_up : val_main_v5 (F := Ideal) x0 x1 = up x0 x1 := by
  funext q
  obtain ⟨i, j, rfl⟩ : ∃ (i : Fin 2048) (j : Fin 2816), q = ix2 i j := ⟨q 0, q 1, eq_ix2 q⟩
  unfold up Cert.Kernel9Ideal.FfnInFwd.dotRow
  pointwise [val_main_v5, val_main_v3, val_main_v2, val_main_v1, val_main_v0]

/-- The reference's `silu` is written with an exponential and a quotient. -/
theorem reference_act : val_main_v8 (F := Ideal) x0 x1 = act x0 x1 := by
  funext q
  unfold act Ideal.logistic
  rw [← reference_gate, ← reference_up]
  pointwise [val_main_v8, val_main_v7, val_main_v6, val_main_call0_v5, val_main_call0_v4, val_main_call0_cst_0,
    val_main_call0_v3, val_main_call0_v2, val_main_call0_cst, val_main_call0_v1, val_main_call0_v0]

theorem algebraic : Cert.algebraic_Kernel9Ideal_Reference9Ideal := by
  intro m ρ m' ρ' _ hagree
  refine ⟨fun c => gate (m ((c.tc : Thread _ _).loc Cert.Kernel9Ideal.main_arg0)) (m ((c.tc : Thread _ _).loc Cert.Kernel9Ideal.main_arg1)),
    fun c => up (m ((c.tc : Thread _ _).loc Cert.Kernel9Ideal.main_arg0)) (m ((c.tc : Thread _ _).loc Cert.Kernel9Ideal.main_arg1)),
    fun c => act (m ((c.tc : Thread _ _).loc Cert.Kernel9Ideal.main_arg0)) (m ((c.tc : Thread _ _).loc Cert.Kernel9Ideal.main_arg1)), ?_, ?_⟩
  · exact (θ_run Cert.Kernel9Ideal.defs _ _).mono
      (fun _ h c => ⟨(h c).1.trans (Cert.Kernel9Ideal.FfnInFwd.final_gate m c),
        (h c).2.1.trans (Cert.Kernel9Ideal.FfnInFwd.final_up m c),
        (h c).2.2.1.trans (Cert.Kernel9Ideal.FfnInFwd.final_act m c), (h c).2.2.2⟩)
      (Cert.Kernel9Ideal.Value.run_blocks (F := Ideal) m ρ)
  · refine (θ_run Cert.Reference9Ideal.defs _ _).mono
      (fun _ h c => ⟨(h c).1.trans ?_, (h c).2.1.trans ?_, (h c).2.2.1.trans ?_, (h c).2.2.2⟩)
      (Cert.Reference9Ideal.Value.run (F := Ideal) m' ρ')
    · rw [(hagree c).1, (hagree c).2]
      exact (val_main_v4_eq _ _).trans (reference_gate _ _)
    · rw [(hagree c).1, (hagree c).2]
      exact (val_main_v5_eq _ _).trans (reference_up _ _)
    · rw [(hagree c).1, (hagree c).2]
      exact (val_main_v8_eq _ _).trans (reference_act _ _)

theorem frame_reference : Cert.quiescent_Reference9Ideal := fun m ρ _ =>
  (θ_run Cert.Reference9Ideal.defs _ _).mono (fun r h => ⟨fun c => (h c).2.2.2,
      Idealize.ShloMosaic.sem_eq_zero_of_no_sems (by decide) r.2⟩)
    (Cert.Reference9Ideal.Value.run (F := Ideal) m ρ)

end Cert.Proof.FfnInFwd

end
-- ==== Proof.FfnOutFwd.lean ====
/- The output product of the SwiGLU, with the residual stream added. -/
module

public import proofs.«01_k».proof.Defs
public import proofs.«01_k».proof.Proof.Gen.Kernel10Ideal.Value
public import proofs.«01_k».proof.Proof.Gen.Reference10Ideal.Read
public import Idealize.ShloMosaic.Lib.Pipeline.ValueKit
public import Idealize.ShloMosaic.Lib.Pointwise
public import Idealize.ShloMosaic.Lib.Quiescent

@[expose] public section

set_option maxRecDepth 16384

noncomputable section

open Idealize.ShloMosaic Idealize.ShloMosaic.TcCoe Idealize.SL.Sem
open Idealize.ShloMosaic.Pipeline (Dat)

namespace Cert.Kernel10Ideal.FfnOutFwd

open Cert.Kernel10Ideal Cert.Kernel10Ideal.Gen

variable (m : (ℓ : Loc nD τ sig) → Buf (Elt Ideal) ℓ)

/-- Row `i` of the activation times column `j` of the matrix, plus the residual stream. -/
def G (x0 : Vec Ideal Cert.Kernel10Ideal.S2048x2816 .bf16) (x1 : Vec Ideal Cert.Kernel10Ideal.S2816x1024 .bf16) (x2 : Vec Ideal Cert.Kernel10Ideal.S2048x1024 .f32) : Vec Ideal S2048x1024 .f32 := fun j => (∑ k : Fin 2816, x0 (ix2 (j 0) k) * x1 (ix2 k (j 1))) + x2 (ix2 (j 0) (j 1))

theorem idx : ∀ t : Fin grid0.N, win0_0.index t = ![(grid0.coords t 0).val, 0]
    ∧ win0_1.index t = ![0, 0]
    ∧ win0_2.index t = ![(grid0.coords t 0).val, 0]
    ∧ win0_3.index t = ![(grid0.coords t 0).val, 0] := by decide +kernel

/-- An element of the block of point `t`, computed from that point's blocks, is the array's. -/
theorem core (c : Dev nD) (t : Fin cfg0.N) (x : S512x1024.Idx) (j : S2048x1024.Idx) (h0 : (j 0).val = (grid0.coords t 0).val * 512 + (x 0).val) (h1 : (j 1).val = (x 1).val) :
    k0_pay1 (iblk m c 0 t) (iblk m c 1 t) (iblk m c 2 t) x = G (m ((c : Thread nD τ).loc main_arg0)) (m ((c : Thread nD τ).loc main_arg1)) (m ((c : Thread nD τ).loc main_arg2)) j := by
  unfold G
  pointwise [k0_pay1]
  blk_point [iblk, V, idx t]

/-- The result array after the run: its blocks tile it. -/
theorem final (c : Dev nD) : (dats m 0 c).arrAt 3 cfg0.N = G (m ((c : Thread nD τ).loc main_arg0)) (m ((c : Thread nD τ).loc main_arg1)) (m ((c : Thread nD τ).loc main_arg2)) := by
  refine (dats m 0 c).arrAt_eq_of_covers 3 _ (by decide +kernel) fun t hf y => ?_
  blk_simp
  rw [after0_3]
  frame_out
  refine core m c t y _ ?_ ?_ <;> blk_simp [idx t] <;> omega

end Cert.Kernel10Ideal.FfnOutFwd

namespace Cert.Proof.FfnOutFwd

open Cert.Reference10Ideal Cert.Reference10Ideal.Read Cert.Reference10Ideal.Gen

/-- The reference adds in the other order. -/
theorem reference_eq (x0 : Vec Ideal Cert.Kernel10Ideal.S2048x2816 .bf16) (x1 : Vec Ideal Cert.Kernel10Ideal.S2816x1024 .bf16) (x2 : Vec Ideal Cert.Kernel10Ideal.S2048x1024 .f32) :
    val_main_v3 (F := Ideal) x0 x1 x2 = Cert.Kernel10Ideal.FfnOutFwd.G x0 x1 x2 := by
  funext q
  obtain ⟨i, j, rfl⟩ : ∃ (i : Fin 2048) (j : Fin 1024), q = ix2 i j := ⟨q 0, q 1, eq_ix2 q⟩
  unfold Cert.Kernel10Ideal.FfnOutFwd.G
  pointwise [val_main_v3, val_main_v2, val_main_v1, val_main_v0]
  exact add_comm _ _

theorem algebraic : Cert.algebraic_Kernel10Ideal_Reference10Ideal := by
  intro m ρ m' ρ' _ hagree
  refine ⟨fun c => Cert.Kernel10Ideal.FfnOutFwd.G (m ((c.tc : Thread _ _).loc Cert.Kernel10Ideal.main_arg0)) (m ((c.tc : Thread _ _).loc Cert.Kernel10Ideal.main_arg1)) (m ((c.tc : Thread _ _).loc Cert.Kernel10Ideal.main_arg2)), ?_, ?_⟩
  · exact (θ_run Cert.Kernel10Ideal.defs _ _).mono
      (fun _ h c => ⟨(h c).1.trans (Cert.Kernel10Ideal.FfnOutFwd.final m c), (h c).2⟩)
      (Cert.Kernel10Ideal.Value.run_blocks (F := Ideal) m ρ)
  · refine (θ_run Cert.Reference10Ideal.defs _ _).mono (fun _ h c => ⟨(h c).1.trans ?_, (h c).2⟩)
      (Cert.Reference10Ideal.Value.run (F := Ideal) m' ρ')
    rw [(hagree c).1, (hagree c).2.1, (hagree c).2.2]
    exact (val_main_v3_eq _ _ _).trans (reference_eq _ _ _)

theorem frame_reference : Cert.quiescent_Reference10Ideal := fun m ρ _ =>
  (θ_run Cert.Reference10Ideal.defs _ _).mono (fun r h => ⟨fun c => (h c).2,
      Idealize.ShloMosaic.sem_eq_zero_of_no_sems (by decide) r.2⟩)
    (Cert.Reference10Ideal.Value.run (F := Ideal) m ρ)

end Cert.Proof.FfnOutFwd

end
-- ==== Proof.QkvFwd.lean ====
/- The projection of the even layers to queries, keys and values. -/
module

public import proofs.«01_k».proof.Defs
public import proofs.«01_k».proof.Proof.Gen.Kernel11Ideal.Value
public import proofs.«01_k».proof.Proof.Gen.Reference11Ideal.Read
public import Idealize.ShloMosaic.Lib.Pipeline.ValueKit
public import Idealize.ShloMosaic.Lib.Pointwise
public import Idealize.ShloMosaic.Lib.Quiescent

@[expose] public section

set_option maxRecDepth 16384

noncomputable section

open Idealize.ShloMosaic Idealize.ShloMosaic.TcCoe Idealize.SL.Sem
open Idealize.ShloMosaic.Pipeline (Dat)

namespace Cert.Kernel11Ideal.QkvFwd

open Cert.Kernel11Ideal Cert.Kernel11Ideal.Gen

variable (m : (ℓ : Loc nD τ sig) → Buf (Elt Ideal) ℓ)

/-- Row `i` of the normalised input times column `j` of the matrix. -/
def G (x0 : Vec Ideal Cert.Kernel11Ideal.S2048x1024 .bf16) (x1 : Vec Ideal Cert.Kernel11Ideal.S1024x3072 .bf16) : Vec Ideal S2048x3072 .f32 := fun j => ∑ k : Fin 1024, x0 (ix2 (j 0) k) * x1 (ix2 k (j 1))

theorem idx : ∀ t : Fin grid0.N, win0_0.index t = ![(grid0.coords t 0).val, 0]
    ∧ win0_1.index t = ![0, (grid0.coords t 1).val]
    ∧ win0_2.index t = ![(grid0.coords t 0).val, (grid0.coords t 1).val] := by decide +kernel

/-- An element of the block of point `t`, computed from that point's blocks, is the array's. -/
theorem core (c : Dev nD) (t : Fin cfg0.N) (x : S1024x768.Idx) (j : S2048x3072.Idx) (h0 : (j 0).val = (grid0.coords t 0).val * 1024 + (x 0).val) (h1 : (j 1).val = (grid0.coords t 1).val * 768 + (x 1).val) :
    k0_pay1 (iblk m c 0 t) (iblk m c 1 t) x = G (m ((c : Thread nD τ).loc main_arg0)) (m ((c : Thread nD τ).loc main_arg1)) j := by
  unfold G
  pointwise [k0_pay1]
  blk_point [iblk, V, idx t]

/-- The result array after the run: its blocks tile it. -/
theorem final (c : Dev nD) : (dats m 0 c).arrAt 2 cfg0.N = G (m ((c : Thread nD τ).loc main_arg0)) (m ((c : Thread nD τ).loc main_arg1)) := by
  refine (dats m 0 c).arrAt_eq_of_covers 2 _ (by decide +kernel) fun t hf y => ?_
  blk_simp
  rw [after0_2]
  frame_out
  refine core m c t y _ ?_ ?_ <;> blk_simp [idx t] <;> omega

end Cert.Kernel11Ideal.QkvFwd

namespace Cert.Proof.QkvFwd

open Cert.Reference11Ideal Cert.Reference11Ideal.Read Cert.Reference11Ideal.Gen

/-- The reference is the same sum. -/
theorem reference_eq (x0 : Vec Ideal Cert.Kernel11Ideal.S2048x1024 .bf16) (x1 : Vec Ideal Cert.Kernel11Ideal.S1024x3072 .bf16) :
    val_main_v2 (F := Ideal) x0 x1 = Cert.Kernel11Ideal.QkvFwd.G x0 x1 := by
  funext q
  obtain ⟨i, j, rfl⟩ : ∃ (i : Fin 2048) (j : Fin 3072), q = ix2 i j := ⟨q 0, q 1, eq_ix2 q⟩
  unfold Cert.Kernel11Ideal.QkvFwd.G
  pointwise [val_main_v2, val_main_v1, val_main_v0]

theorem algebraic : Cert.algebraic_Kernel11Ideal_Reference11Ideal := by
  intro m ρ m' ρ' _ hagree
  refine ⟨fun c => Cert.Kernel11Ideal.QkvFwd.G (m ((c.tc : Thread _ _).loc Cert.Kernel11Ideal.main_arg0)) (m ((c.tc : Thread _ _).loc Cert.Kernel11Ideal.main_arg1)), ?_, ?_⟩
  · exact (θ_run Cert.Kernel11Ideal.defs _ _).mono
      (fun _ h c => ⟨(h c).1.trans (Cert.Kernel11Ideal.QkvFwd.final m c), (h c).2⟩)
      (Cert.Kernel11Ideal.Value.run_blocks (F := Ideal) m ρ)
  · refine (θ_run Cert.Reference11Ideal.defs _ _).mono (fun _ h c => ⟨(h c).1.trans ?_, (h c).2⟩)
      (Cert.Reference11Ideal.Value.run (F := Ideal) m' ρ')
    rw [(hagree c).1, (hagree c).2]
    exact (val_main_v2_eq _ _).trans (reference_eq _ _)

theorem frame_reference : Cert.quiescent_Reference11Ideal := fun m ρ _ =>
  (θ_run Cert.Reference11Ideal.defs _ _).mono (fun r h => ⟨fun c => (h c).2,
      Idealize.ShloMosaic.sem_eq_zero_of_no_sems (by decide) r.2⟩)
    (Cert.Reference11Ideal.Value.run (F := Ideal) m ρ)

end Cert.Proof.QkvFwd

end
-- ==== Proof.QkvfFwd.lean ====
/- The projection of the odd layers to queries, keys, values and forget gates. -/
module

public import proofs.«01_k».proof.Defs
public import proofs.«01_k».proof.Proof.Gen.Kernel12Ideal.Value
public import proofs.«01_k».proof.Proof.Gen.Reference12Ideal.Read
public import Idealize.ShloMosaic.Lib.Pipeline.ValueKit
public import Idealize.ShloMosaic.Lib.Pointwise
public import Idealize.ShloMosaic.Lib.Quiescent

@[expose] public section

set_option maxRecDepth 16384

noncomputable section

open Idealize.ShloMosaic Idealize.ShloMosaic.TcCoe Idealize.SL.Sem
open Idealize.ShloMosaic.Pipeline (Dat)

namespace Cert.Kernel12Ideal.QkvfFwd

open Cert.Kernel12Ideal Cert.Kernel12Ideal.Gen

variable (m : (ℓ : Loc nD τ sig) → Buf (Elt Ideal) ℓ)

/-- Row `i` of the normalised input times column `j` of the matrix. -/
def G (x0 : Vec Ideal Cert.Kernel12Ideal.S2048x1024 .bf16) (x1 : Vec Ideal Cert.Kernel12Ideal.S1024x3200 .bf16) : Vec Ideal S2048x3200 .f32 := fun j => ∑ k : Fin 1024, x0 (ix2 (j 0) k) * x1 (ix2 k (j 1))

theorem idx : ∀ t : Fin grid0.N, win0_0.index t = ![(grid0.coords t 0).val, 0]
    ∧ win0_1.index t = ![0, (grid0.coords t 1).val]
    ∧ win0_2.index t = ![(grid0.coords t 0).val, (grid0.coords t 1).val] := by decide +kernel

/-- An element of the block of point `t`, computed from that point's blocks, is the array's. -/
theorem core (c : Dev nD) (t : Fin cfg0.N) (x : S1024x640.Idx) (j : S2048x3200.Idx) (h0 : (j 0).val = (grid0.coords t 0).val * 1024 + (x 0).val) (h1 : (j 1).val = (grid0.coords t 1).val * 640 + (x 1).val) :
    k0_pay1 (iblk m c 0 t) (iblk m c 1 t) x = G (m ((c : Thread nD τ).loc main_arg0)) (m ((c : Thread nD τ).loc main_arg1)) j := by
  unfold G
  pointwise [k0_pay1]
  blk_point [iblk, V, idx t]

/-- The result array after the run: its blocks tile it. -/
theorem final (c : Dev nD) : (dats m 0 c).arrAt 2 cfg0.N = G (m ((c : Thread nD τ).loc main_arg0)) (m ((c : Thread nD τ).loc main_arg1)) := by
  refine (dats m 0 c).arrAt_eq_of_covers 2 _ (by decide +kernel) fun t hf y => ?_
  blk_simp
  rw [after0_2]
  frame_out
  refine core m c t y _ ?_ ?_ <;> blk_simp [idx t] <;> omega

end Cert.Kernel12Ideal.QkvfFwd

namespace Cert.Proof.QkvfFwd

open Cert.Reference12Ideal Cert.Reference12Ideal.Read Cert.Reference12Ideal.Gen

/-- The reference is the same sum. -/
theorem reference_eq (x0 : Vec Ideal Cert.Kernel12Ideal.S2048x1024 .bf16) (x1 : Vec Ideal Cert.Kernel12Ideal.S1024x3200 .bf16) :
    val_main_v2 (F := Ideal) x0 x1 = Cert.Kernel12Ideal.QkvfFwd.G x0 x1 := by
  funext q
  obtain ⟨i, j, rfl⟩ : ∃ (i : Fin 2048) (j : Fin 3200), q = ix2 i j := ⟨q 0, q 1, eq_ix2 q⟩
  unfold Cert.Kernel12Ideal.QkvfFwd.G
  pointwise [val_main_v2, val_main_v1, val_main_v0]

theorem algebraic : Cert.algebraic_Kernel12Ideal_Reference12Ideal := by
  intro m ρ m' ρ' _ hagree
  refine ⟨fun c => Cert.Kernel12Ideal.QkvfFwd.G (m ((c.tc : Thread _ _).loc Cert.Kernel12Ideal.main_arg0)) (m ((c.tc : Thread _ _).loc Cert.Kernel12Ideal.main_arg1)), ?_, ?_⟩
  · exact (θ_run Cert.Kernel12Ideal.defs _ _).mono
      (fun _ h c => ⟨(h c).1.trans (Cert.Kernel12Ideal.QkvfFwd.final m c), (h c).2⟩)
      (Cert.Kernel12Ideal.Value.run_blocks (F := Ideal) m ρ)
  · refine (θ_run Cert.Reference12Ideal.defs _ _).mono (fun _ h c => ⟨(h c).1.trans ?_, (h c).2⟩)
      (Cert.Reference12Ideal.Value.run (F := Ideal) m' ρ')
    rw [(hagree c).1, (hagree c).2]
    exact (val_main_v2_eq _ _).trans (reference_eq _ _)

theorem frame_reference : Cert.quiescent_Reference12Ideal := fun m ρ _ =>
  (θ_run Cert.Reference12Ideal.defs _ _).mono (fun r h => ⟨fun c => (h c).2,
      Idealize.ShloMosaic.sem_eq_zero_of_no_sems (by decide) r.2⟩)
    (Cert.Reference12Ideal.Value.run (F := Ideal) m ρ)

end Cert.Proof.QkvfFwd

end
-- ==== Proof.WoFwd.lean ====
/- The output product of the attention, with the residual stream added. -/
module

public import proofs.«01_k».proof.Defs
public import proofs.«01_k».proof.Proof.Gen.Kernel13Ideal.Value
public import proofs.«01_k».proof.Proof.Gen.Reference13Ideal.Read
public import Idealize.ShloMosaic.Lib.Pipeline.ValueKit
public import Idealize.ShloMosaic.Lib.Pointwise
public import Idealize.ShloMosaic.Lib.Quiescent

@[expose] public section

set_option maxRecDepth 16384

noncomputable section

open Idealize.ShloMosaic Idealize.ShloMosaic.TcCoe Idealize.SL.Sem
open Idealize.ShloMosaic.Pipeline (Dat)

namespace Cert.Kernel13Ideal.WoFwd

open Cert.Kernel13Ideal Cert.Kernel13Ideal.Gen

variable (m : (ℓ : Loc nD τ sig) → Buf (Elt Ideal) ℓ)

/-- Row `i` of the attention's output times column `j` of the matrix, plus the residual stream. -/
def G (x0 : Vec Ideal Cert.Kernel13Ideal.S2048x1024 .bf16) (x1 : Vec Ideal Cert.Kernel13Ideal.S1024x1024 .bf16) (x2 : Vec Ideal Cert.Kernel13Ideal.S2048x1024 .f32) : Vec Ideal S2048x1024 .f32 := fun j => (∑ k : Fin 1024, x0 (ix2 (j 0) k) * x1 (ix2 k (j 1))) + x2 (ix2 (j 0) (j 1))

theorem idx : ∀ t : Fin grid0.N, win0_0.index t = ![(grid0.coords t 0).val, 0]
    ∧ win0_1.index t = ![0, 0]
    ∧ win0_2.index t = ![(grid0.coords t 0).val, 0]
    ∧ win0_3.index t = ![(grid0.coords t 0).val, 0] := by decide +kernel

/-- An element of the block of point `t`, computed from that point's blocks, is the array's. -/
theorem core (c : Dev nD) (t : Fin cfg0.N) (x : S512x1024.Idx) (j : S2048x1024.Idx) (h0 : (j 0).val = (grid0.coords t 0).val * 512 + (x 0).val) (h1 : (j 1).val = (x 1).val) :
    k0_pay1 (iblk m c 0 t) (iblk m c 1 t) (iblk m c 2 t) x = G (m ((c : Thread nD τ).loc main_arg0)) (m ((c : Thread nD τ).loc main_arg1)) (m ((c : Thread nD τ).loc main_arg2)) j := by
  unfold G
  pointwise [k0_pay1]
  blk_point [iblk, V, idx t]

/-- The result array after the run: its blocks tile it. -/
theorem final (c : Dev nD) : (dats m 0 c).arrAt 3 cfg0.N = G (m ((c : Thread nD τ).loc main_arg0)) (m ((c : Thread nD τ).loc main_arg1)) (m ((c : Thread nD τ).loc main_arg2)) := by
  refine (dats m 0 c).arrAt_eq_of_covers 3 _ (by decide +kernel) fun t hf y => ?_
  blk_simp
  rw [after0_3]
  frame_out
  refine core m c t y _ ?_ ?_ <;> blk_simp [idx t] <;> omega

end Cert.Kernel13Ideal.WoFwd

namespace Cert.Proof.WoFwd

open Cert.Reference13Ideal Cert.Reference13Ideal.Read Cert.Reference13Ideal.Gen

/-- The reference adds in the other order. -/
theorem reference_eq (x0 : Vec Ideal Cert.Kernel13Ideal.S2048x1024 .bf16) (x1 : Vec Ideal Cert.Kernel13Ideal.S1024x1024 .bf16) (x2 : Vec Ideal Cert.Kernel13Ideal.S2048x1024 .f32) :
    val_main_v3 (F := Ideal) x0 x1 x2 = Cert.Kernel13Ideal.WoFwd.G x0 x1 x2 := by
  funext q
  obtain ⟨i, j, rfl⟩ : ∃ (i : Fin 2048) (j : Fin 1024), q = ix2 i j := ⟨q 0, q 1, eq_ix2 q⟩
  unfold Cert.Kernel13Ideal.WoFwd.G
  pointwise [val_main_v3, val_main_v2, val_main_v1, val_main_v0]
  exact add_comm _ _

theorem algebraic : Cert.algebraic_Kernel13Ideal_Reference13Ideal := by
  intro m ρ m' ρ' _ hagree
  refine ⟨fun c => Cert.Kernel13Ideal.WoFwd.G (m ((c.tc : Thread _ _).loc Cert.Kernel13Ideal.main_arg0)) (m ((c.tc : Thread _ _).loc Cert.Kernel13Ideal.main_arg1)) (m ((c.tc : Thread _ _).loc Cert.Kernel13Ideal.main_arg2)), ?_, ?_⟩
  · exact (θ_run Cert.Kernel13Ideal.defs _ _).mono
      (fun _ h c => ⟨(h c).1.trans (Cert.Kernel13Ideal.WoFwd.final m c), (h c).2⟩)
      (Cert.Kernel13Ideal.Value.run_blocks (F := Ideal) m ρ)
  · refine (θ_run Cert.Reference13Ideal.defs _ _).mono (fun _ h c => ⟨(h c).1.trans ?_, (h c).2⟩)
      (Cert.Reference13Ideal.Value.run (F := Ideal) m' ρ')
    rw [(hagree c).1, (hagree c).2.1, (hagree c).2.2]
    exact (val_main_v3_eq _ _ _).trans (reference_eq _ _ _)

theorem frame_reference : Cert.quiescent_Reference13Ideal := fun m ρ _ =>
  (θ_run Cert.Reference13Ideal.defs _ _).mono (fun r h => ⟨fun c => (h c).2,
      Idealize.ShloMosaic.sem_eq_zero_of_no_sems (by decide) r.2⟩)
    (Cert.Reference13Ideal.Value.run (F := Ideal) m ρ)

end Cert.Proof.WoFwd

end
-- ==== Proof.Norm.lean ====
/- The root-mean-square norm and its gradient, on one row of 1024 numbers. -/
module

public import proofs.«01_k».proof.Proof.Reals
public import proofs.«01_k».proof.Proof.StickReal

@[expose] public section

noncomputable section

open Idealize.ShloMosaic

namespace Cert.Norm

open Cert.Reals

/-- The row's length, and the small number added under the root, as the programs write them. -/
def len : EReal := Ideal.ofBits .f32 0x44800000#32
def eps : EReal := Ideal.ofBits .f32 0x3727C5AC#32

/-- One over the root of the row's mean square. -/
def ms (x : Fin 1024 → EReal) : EReal := Ideal.div (∑ k, x k * x k) len + eps
def rs (x : Fin 1024 → EReal) : EReal := Ideal.rsqrt (ms x)

/-- The gradient of the norm along `x`, from the gradient `h` after it, as the kernels write it. -/
def bdx (h g x : Fin 1024 → EReal) (j : Fin 1024) : EReal :=
  rs x * (h j * g j - x j * rs x * Ideal.div (∑ k, h k * g k * (x k * rs x)) len)

/-- The sum that reaches every element of the row through the root, as the product rule writes it. -/
def thru (h g x : Fin 1024 → EReal) : EReal :=
  Ideal.div ((∑ k, x k * (h k * g k)) * (Ideal.ofBits .f32 0xBF000000#32 * Ideal.div (rs x) (ms x))) len

/-- The same gradient by the product rule. -/
def rdx (h g x : Fin 1024 → EReal) (j : Fin 1024) : EReal :=
  h j * g j * rs x + x j * thru h g x + thru h g x * x j

theorem len_c : len = ((1024 : ℝ) : EReal) := by
  unfold len
  simp only [Ideal.ofBits, Ideal.ieee]
  norm_num [BitVec.extractLsb', Nat.shiftRight_eq_div_pow]

theorem half_c : Ideal.ofBits .f32 0xBF000000#32 = ((-(1 / 2) : ℝ) : EReal) := by
  simp only [Ideal.ofBits, Ideal.ieee]
  norm_num [BitVec.extractLsb', Nat.shiftRight_eq_div_pow]

theorem eps_c : ∃ e : ℝ, 0 < e ∧ eps = (e : EReal) := by
  refine ⟨1 * (2 ^ 23 + 2606508 : ℕ) * (2 : ℝ) ^ (-40 : ℤ), by positivity, ?_⟩
  unfold eps
  simp only [Ideal.ofBits, Ideal.ieee]
  norm_num [BitVec.extractLsb', Nat.shiftRight_eq_div_pow]

theorem div_c (a b : ℝ) (h : b ≠ 0) : Ideal.div (a : EReal) (b : EReal) = ((a / b : ℝ) : EReal) := by
  rw [Ideal.div_coe h, ← EReal.coe_mul, mul_one_div]

/-- On a row of reals, the mean square plus the small number is a positive real, and its inverse root a real. -/
theorem rs_c (X : Fin 1024 → ℝ) : ∃ M : ℝ, 0 < M ∧ ms (fun k => (X k : EReal)) = (M : EReal)
    ∧ rs (fun k => (X k : EReal)) = (((Real.sqrt M)⁻¹ : ℝ) : EReal) := by
  obtain ⟨e, he, hE⟩ := eps_c
  have hm : ms (fun k => (X k : EReal)) = (((∑ k, X k * X k) / 1024 + e : ℝ) : EReal) := by
    unfold ms
    rw [sum_mul_coe, len_c, div_c _ _ (by norm_num), hE, ← EReal.coe_add]
  have hp : 0 < (∑ k, X k * X k) / 1024 + e := by
    have : 0 ≤ ∑ k, X k * X k := Finset.sum_nonneg fun k _ => mul_self_nonneg _
    positivity
  refine ⟨_, hp, hm, ?_⟩
  unfold rs
  rw [hm, Ideal.rsqrt_coe, if_neg (not_lt.2 hp.le), if_neg hp.ne']

/-- On rows of reals the two spellings of the gradient agree. -/
theorem bdx_eq (H G X : Fin 1024 → ℝ) (j : Fin 1024) :
    bdx (fun k => (H k : EReal)) (fun k => (G k : EReal)) (fun k => (X k : EReal)) j
      = rdx (fun k => (H k : EReal)) (fun k => (G k : EReal)) (fun k => (X k : EReal)) j := by
  obtain ⟨M, hM, em, er⟩ := rs_c X
  have hS := Real.sqrt_pos.2 hM
  have hq : Real.sqrt M * Real.sqrt M = M := Real.mul_self_sqrt hM.le
  unfold bdx rdx thru
  rw [em, er, len_c, half_c]
  simp only [← EReal.coe_mul, Cert.Kernel2Ideal.Stick.sum_c]
  rw [div_c _ _ (by norm_num), div_c _ _ hM.ne']
  simp only [← EReal.coe_mul]
  rw [div_c _ _ (by norm_num)]
  simp only [← EReal.coe_mul, ← EReal.coe_add, ← EReal.coe_sub]
  refine congrArg _ ?_
  have e1 : ∑ k, H k * G k * (X k * (Real.sqrt M)⁻¹) = (∑ k, X k * (H k * G k)) * (Real.sqrt M)⁻¹ := by
    rw [Finset.sum_mul]
    exact Finset.sum_congr rfl fun k _ => by ring
  rw [e1]
  generalize ∑ k, X k * (H k * G k) = S
  generalize Real.sqrt M = s at *
  subst hq
  field_simp
  ring

/-- The same for rows given as extended reals that happen to be real. -/
theorem bdx_rdx (h g x : Fin 1024 → EReal) (hh : ∀ k, ∃ r : ℝ, h k = (r : EReal)) (hg : ∀ k, ∃ r : ℝ, g k = (r : EReal))
    (hx : ∀ k, ∃ r : ℝ, x k = (r : EReal)) (j : Fin 1024) : bdx h g x j = rdx h g x j := by
  obtain ⟨H, eh⟩ := Classical.axiom_of_choice hh
  obtain ⟨G, eg⟩ := Classical.axiom_of_choice hg
  obtain ⟨X, ex⟩ := Classical.axiom_of_choice hx
  rw [funext eh, funext eg, funext ex]
  exact bdx_eq H G X j

/-- A sum of products of reals is a real. -/
theorem real_dot {n : ℕ} (a b : Fin n → EReal) (ha : ∀ k, ∃ r : ℝ, a k = (r : EReal)) (hb : ∀ k, ∃ r : ℝ, b k = (r : EReal)) :
    ∃ r : ℝ, ∑ k, a k * b k = (r : EReal) := by
  obtain ⟨A, ea⟩ := Classical.axiom_of_choice ha
  obtain ⟨B, eb⟩ := Classical.axiom_of_choice hb
  rw [funext ea, funext eb]
  exact ⟨_, sum_mul_coe A B⟩

end Cert.Norm

end
-- ==== Proof.FfnInDx.lean ====
/- The gradient of the normalised gate and up projection: the product with the matrix over two planes, and the norm's backward. -/
module

public import proofs.«01_k».proof.Defs
public import proofs.«01_k».proof.Proof.Gen.Kernel14Ideal.Value
public import proofs.«01_k».proof.Proof.Gen.Reference14Ideal.Read
public import proofs.«01_k».proof.Proof.Gen.Pre_finite14
public import proofs.«01_k».proof.Proof.Norm
public import Idealize.ShloMosaic.Lib.Pipeline.ValueKit
public import Idealize.ShloMosaic.Lib.Pipeline.ReadBack
public import Idealize.ShloMosaic.Lib.Pointwise
public import Idealize.ShloMosaic.Lib.Quiescent

@[expose] public section

set_option maxRecDepth 16384

noncomputable section

open Idealize.ShloMosaic Idealize.ShloMosaic.TcCoe Idealize.SL.Sem
open Idealize.ShloMosaic.Pipeline (Dat)

namespace Cert.Kernel14Ideal.FfnInDx

open Cert.Kernel14Ideal Cert.Kernel14Ideal.Gen Cert.Norm

variable (m : (ℓ : Loc nD τ sig) → Buf (Elt Ideal) ℓ)

section
variable (x0 : Vec Ideal S2x2048x2816 .bf16) (x1 : Vec Ideal S5632x1024 .bf16) (x2 : Vec Ideal S2048x1024 .f32)
  (x3 : Vec Ideal S1x1024 .f32) (x4 : Vec Ideal S2048x1024 .f32)

/-- Where row `l` of plane `p` lies among the matrix's rows. -/
def at_ (p : Fin 2) (l : Fin 2816) : Fin 5632 := ⟨p.val * 2816 + l.val, by omega⟩

/-- One plane's part: row `i` of the plane times column `j` of the plane's half of the matrix. -/
def part (p : Fin 2) (i : Fin 2048) (j : Fin 1024) : EReal := ∑ l : Fin 2816, x0 (ix3 p i l) * x1 (ix2 (at_ p l) j)

/-- The gradient after the norm: the two planes' parts. -/
def dh (i : Fin 2048) (j : Fin 1024) : EReal := part x0 x1 0 i j + part x0 x1 1 i j

/-- The gradient before the norm, with the direct one added. -/
def dx (j : S2048x1024.Idx) : EReal :=
  x4 (ix2 (j 0) (j 1)) + bdx (dh x0 x1 (j 0)) (fun k => x3 (ix2 0 k)) (fun k => x2 (ix2 (j 0) k)) (j 1)

/-- Row `i`'s part of the gradient of the norm's scale: the gradient after the norm times the normalised row. -/
def dgRow (i : Fin 2048) (j : Fin 1024) : EReal := dh x0 x1 i j * (x2 (ix2 i j) * rs (fun k => x2 (ix2 i k)))

/-- The gradient of the norm's scale: the sum of all rows' parts. -/
def dg (j : S1x1024.Idx) : EReal := ∑ i : Fin 2048, dgRow x0 x1 x2 i (j 1)

end

theorem idx : ∀ t : Fin grid0.N, win0_0.index t = ![t.val % 2, t.val / 2, 0] ∧ win0_1.index t = ![t.val % 2, 0]
    ∧ win0_2.index t = ![t.val / 2, 0] ∧ win0_3.index t = ![0, 0] ∧ win0_4.index t = ![t.val / 2, 0]
    ∧ win0_5.index t = ![t.val / 2, 0] ∧ win0_6.index t = ![t.val / 2, 0] ∧ win0_7.index t = ![0, 0] := by decide +kernel

/-- The product of point `t`'s two blocks is its plane's part. -/
theorem part_eq (c : Dev nD) (t : Fin cfg0.N) (p : Fin 2) (hp : t.val % 2 = p.val) (i : Fin 2048) (x : Fin 512)
    (hi : i.val = t.val / 2 * 512 + x.val) (k : Fin 1024) :
    k0_pay1 (iblk m c 0 t) (iblk m c 1 t) (ix2 x k)
      = part (m ((c : Thread nD τ).loc main_arg0)) (m ((c : Thread nD τ).loc main_arg1)) p i k := by
  unfold part at_
  pointwise [k0_pay1]
  blk_point [iblk, V, idx t]

/-- What the scratch holds at an odd point: the two planes' parts, added. -/
def held (c : Dev nD) (t s : Fin cfg0.N) : FVec Ideal S512x1024 .f32 :=
  k0_pay3 (iblk m c 0 t) (iblk m c 1 t) (k0_pay2 (iblk m c 0 s) (iblk m c 1 s))

theorem held_eq (c : Dev nD) (t s : Fin cfg0.N) (ht : t.val % 2 = 1) (hs : s.val + 1 = t.val) (i : Fin 2048) (x : Fin 512)
    (hi : i.val = t.val / 2 * 512 + x.val) (k : Fin 1024) :
    held m c t s (ix2 x k) = dh (m ((c : Thread nD τ).loc main_arg0)) (m ((c : Thread nD τ).loc main_arg1)) i k := by
  unfold dh
  rw [← part_eq m c s 0 (by show s.val % 2 = 0; omega) i x (by omega) k, ← part_eq m c t 1 ht i x hi k]
  pointwise [held, k0_pay3, k0_pay2]

/-- An element of a block of the gradient, computed from the scratch and the blocks of point `t`, is the array's. -/
theorem core (c : Dev nD) (t s : Fin cfg0.N) (ht : t.val % 2 = 1) (hs : s.val + 1 = t.val) (x : S512x1024.Idx) (j : S2048x1024.Idx)
    (h0 : (j 0).val = t.val / 2 * 512 + (x 0).val) (h1 : (j 1).val = (x 1).val) :
    k0_pay7 (held m c t s) (iblk m c 2 t) (iblk m c 3 t) (iblk m c 4 t) x = dx (m ((c : Thread nD τ).loc main_arg0))
      (m ((c : Thread nD τ).loc main_arg1)) (m ((c : Thread nD τ).loc main_arg2)) (m ((c : Thread nD τ).loc main_arg3))
      (m ((c : Thread nD τ).loc main_arg4)) j := by
  have hh := held_eq m c t s ht hs (j 0) (x 0) h0
  have hx : x = ix2 (x 0) (j 1) := (eq_ix2 x).trans (congrArg (ix2 (x 0)) (Fin.ext h1.symm))
  unfold dx bdx rs ms len eps
  generalize held m c t s = v at hh ⊢
  pointwise [k0_pay7, k0_pay6, k0_pay5, hh]
  blk_point [iblk, V, idx t]
  exact congrArg (· * _) ((congrArg v hx).trans (hh (j 1)))

/-- What point `t` adds to the scale's gradient: the sum over its own 512 rows. -/
theorem core_dg (c : Dev nD) (t s : Fin cfg0.N) (ht : t.val % 2 = 1) (hs : s.val + 1 = t.val) (b : Fin 4)
    (hb : t.val / 2 = b.val) (j : S1x1024.Idx) : k0_pay9 (held m c t s) (iblk m c 2 t) j
      = ∑ r : Fin 512, dgRow (m ((c : Thread nD τ).loc main_arg0)) (m ((c : Thread nD τ).loc main_arg1))
          (m ((c : Thread nD τ).loc main_arg2)) ⟨b.val * 512 + r.val, by omega⟩ (j 1) := by
  unfold dgRow rs ms len eps
  have hh := fun r : Fin 512 => held_eq m c t s ht hs ⟨b.val * 512 + r.val, by omega⟩ r (by show b.val * 512 + r.val = _; rw [hb])
  generalize held m c t s = v at hh ⊢
  pointwise [k0_pay9, k0_pay6, k0_pay5, hh]
  blk_point [iblk, V, idx t]

theorem pay4_eq (v w : Vec Ideal S1x1024 .f32) (j : S1x1024.Idx) : k0_pay4 v w j = w j + v j := by
  pointwise [k0_pay4]

/-- The point before. -/
def prev (t : Fin cfg0.N) : Fin cfg0.N := ⟨t.val - 1, Nat.lt_of_le_of_lt (Nat.sub_le _ _) t.isLt⟩

/-- What an even point leaves in the scratch. -/
theorem scratch (c : Dev nD) (t : Fin cfg0.N) (h : t.val % 2 = 0) :
    (outsAt0 m c t.val t.isLt).2.2.2 = k0_pay2 (iblk m c 0 t) (iblk m c 1 t) := by
  rw [outsAt0_A m c t h (by omega) (by omega)]
  frame_out

theorem scratch_prev (c : Dev nD) (t : Fin cfg0.N) (h : t.val % 2 = 1) :
    (outsAt0 m c (t.val - 1) (Nat.lt_of_le_of_lt (Nat.sub_le _ _) t.isLt)).2.2.2
      = k0_pay2 (iblk m c 0 (prev t)) (iblk m c 1 (prev t)) :=
  scratch m c (prev t) (by show (t.val - 1) % 2 = 0; omega)

theorem odd6 : ∀ t : Fin cfg0.N, (cfg0.win 6).flush t = true → t.val % 2 = 1 := by decide +kernel
theorem odd5 : ∀ t : Fin cfg0.N, (cfg0.win 5).flush t = true → t.val % 2 = 1 := by decide +kernel

/-- The gradient's array after the run. -/
theorem final_dx (c : Dev nD) : (dats m 0 c).arrAt 5 cfg0.N = dx (m ((c : Thread nD τ).loc main_arg0))
      (m ((c : Thread nD τ).loc main_arg1)) (m ((c : Thread nD τ).loc main_arg2)) (m ((c : Thread nD τ).loc main_arg3))
      (m ((c : Thread nD τ).loc main_arg4)) := by
  refine (dats m 0 c).arrAt_eq_of_covers 5 _ (by decide +kernel) fun t hf y => ?_
  have ht := lt_of_lt_of_eq t.isLt N_0
  have hodd : t.val % 2 = 1 := odd5 t hf
  blk_simp
  rw [after0_5]
  by_cases h : t.val < 2
  · rw [outsAt0_B m c t (by omega) (by omega) (by omega) h (by omega)]
    frame_out
    rw [read_unread_whole, scratch_prev m c t hodd]
    refine core m c t (prev t) hodd (by show t.val - 1 + 1 = t.val; omega) y _ ?_ ?_ <;> blk_simp [idx t] <;> omega
  · rw [outsAt0_C m c t (by omega) (by omega) (by omega) h (by omega)]
    frame_out
    rw [read_unread_whole, scratch_prev m c t hodd]
    refine core m c t (prev t) hodd (by show t.val - 1 + 1 = t.val; omega) y _ ?_ ?_ <;> blk_simp [idx t] <;> omega

/-- Its copy in bf16, which over the reals is the same. -/
theorem final_dxb (c : Dev nD) : (dats m 0 c).arrAt 6 cfg0.N = dx (m ((c : Thread nD τ).loc main_arg0))
      (m ((c : Thread nD τ).loc main_arg1)) (m ((c : Thread nD τ).loc main_arg2)) (m ((c : Thread nD τ).loc main_arg3))
      (m ((c : Thread nD τ).loc main_arg4)) := by
  refine (dats m 0 c).arrAt_eq_of_covers 6 _ (by decide +kernel) fun t hf y => ?_
  have ht := lt_of_lt_of_eq t.isLt N_0
  have hodd : t.val % 2 = 1 := odd6 t hf
  blk_simp
  rw [after0_6]
  by_cases h : t.val < 2
  · rw [outsAt0_B m c t (by omega) (by omega) (by omega) h (by omega)]
    frame_out
    rw [read_unread_whole, scratch_prev m c t hodd]
    refine core m c t (prev t) hodd (by show t.val - 1 + 1 = t.val; omega) y _ ?_ ?_ <;> blk_simp [idx t] <;> omega
  · rw [outsAt0_C m c t (by omega) (by omega) (by omega) h (by omega)]
    frame_out
    rw [read_unread_whole, scratch_prev m c t hodd]
    refine core m c t (prev t) hodd (by show t.val - 1 + 1 = t.val; omega) y _ ?_ ?_ <;> blk_simp [idx t] <;> omega

/-- The odd point of row block `p`. -/
def odd (p : ℕ) (h : p < 4) : Fin cfg0.N := ⟨2 * p + 1, lt_of_lt_of_eq (show 2 * p + 1 < 8 by omega) N_0.symm⟩

/-- What row block `p` adds to the scale's gradient. -/
def adds (c : Dev nD) (p : Fin 4) (j : S1x1024.Idx) : EReal :=
  k0_pay9 (held m c (odd p.val p.isLt) (prev (odd p.val p.isLt))) (iblk m c 2 (odd p.val p.isLt)) j

theorem dg_first (c : Dev nD) (j : S1x1024.Idx) : (outsAt0 m c (odd 0 (by omega)).val (odd 0 (by omega)).isLt).2.2.1 j = adds m c 0 j := by
  rw [outsAt0_B m c (odd 0 (by omega)) (by decide) (by decide) (by decide) (by decide) (by decide)]
  frame_out
  rw [read_unread_whole, scratch_prev m c (odd 0 (by omega)) (by decide)]
  rfl

theorem dg_keep (c : Dev nD) (t : Fin cfg0.N) (h : t.val % 2 = 0) :
    (outsAt0 m c t.val t.isLt).2.2.1 = (outsAt0 m c (prev t).val (prev t).isLt).2.2.1 := by
  rw [outsAt0_A m c t h (by omega) (by omega)]
  rfl

theorem dg_next (c : Dev nD) (p : ℕ) (h : p + 1 < 4) (j : S1x1024.Idx) :
    (outsAt0 m c (odd (p + 1) h).val (odd (p + 1) h).isLt).2.2.1 j
      = (outsAt0 m c (odd p (by omega)).val (odd p (by omega)).isLt).2.2.1 j + adds m c ⟨p + 1, h⟩ j := by
  have e : (odd (p + 1) h).val = 2 * (p + 1) + 1 := rfl
  have ev : (prev (odd (p + 1) h)).val % 2 = 0 := by show (2 * (p + 1) + 1 - 1) % 2 = 0; omega
  have ep : prev (prev (odd (p + 1) h)) = odd p (by omega) := Fin.ext (by show 2 * (p + 1) + 1 - 1 - 1 = 2 * p + 1; omega)
  rw [← ep, ← dg_keep m c _ ev, outsAt0_C m c (odd (p + 1) h) (by omega) (by omega) (by omega) (by omega) (by omega)]
  frame_out
  rw [read_unread_whole, scratch_prev m c (odd (p + 1) h) (by omega), pay4_eq]
  rfl

/-- The scale's gradient after the run: the four row blocks' sums, one after the other. -/
theorem final_dg (c : Dev nD) : (dats m 0 c).arrAt 7 cfg0.N = dg (m ((c : Thread nD τ).loc main_arg0))
      (m ((c : Thread nD τ).loc main_arg1)) (m ((c : Thread nD τ).loc main_arg2)) := by
  refine (dats m 0 c).arrAt_eq_of_after_last 7 t0_7 (by decide +kernel) _ fun j => ?_
  blk_simp
  rw [after0_7]
  have e : ∑ p : Fin 4, adds m c p j = dg (m ((c : Thread nD τ).loc main_arg0)) (m ((c : Thread nD τ).loc main_arg1))
      (m ((c : Thread nD τ).loc main_arg2)) j := by
    unfold dg
    exact (Finset.sum_congr rfl fun p _ => core_dg m c (odd p.val p.isLt) (prev (odd p.val p.isLt))
      (by show (2 * p.val + 1) % 2 = 1; omega) (by show 2 * p.val + 1 - 1 + 1 = 2 * p.val + 1; omega) p
      (by show (2 * p.val + 1) / 2 = p.val; omega) j).trans (Fin.sum_mul_add_congr (fun p r hl => rfl) (by norm_num))
  have el : t0_7 = odd 3 (by omega) := rfl
  rw [← e]
  rw [el, dg_next, dg_next, dg_next, dg_first, Fin.sum_univ_four]
  rfl

end Cert.Kernel14Ideal.FfnInDx

namespace Cert.Reference14Ideal.FfnInDx

open Cert.Reference14Ideal Cert.Reference14Ideal.Read Cert.Reference14Ideal.Gen Cert.Norm
open Cert.Kernel14Ideal.FfnInDx (dh dx dg dgRow part at_)

variable (x0 : Vec Ideal S2x2048x2816 .bf16) (x1 : Vec Ideal S5632x1024 .bf16) (x2 : Vec Ideal S2048x1024 .f32)
  (x3 : Vec Ideal S1x1024 .f32) (x4 : Vec Ideal S2048x1024 .f32)

/-- The printed product read at an element: over the 5632 columns of the two planes side by side, that is plane by plane. -/
theorem ref_dh (i : Fin 2048) (j : Fin 1024) : val_main_v24 (F := Ideal) x0 x1 (ix2 i j) = dh x0 x1 i j := by
  have e : ∀ (p : Fin 2) (l : Fin 2816), val_main_v5 (F := Ideal) x0 (ix2 i (at_ p l)) = x0 (ix3 p i l) := by
    intro p l
    pointwise [val_main_v5, val_main_v4, val_main_v3, val_main_v2, val_main_v1, val_main_v0]
    have hv : (at_ p l).val = p.val * 2816 + l.val := rfl
    split
    · exact congrArg₂ (fun a b => x0 (ix3 a i b)) (Fin.ext (by show 0 = p.val; omega)) (Fin.ext (by show (at_ p l).val = l.val; omega))
    · exact congrArg₂ (fun a b => x0 (ix3 a i b)) (Fin.ext (by show 1 = p.val; omega)) (Fin.ext (by show (at_ p l).val - 2816 = l.val; omega))
  have e' : dh x0 x1 i j = ∑ p : Fin 2, ∑ l : Fin 2816, val_main_v5 (F := Ideal) x0 (ix2 i (at_ p l)) * x1 (ix2 (at_ p l) j) := by
    rw [Fin.sum_univ_two]
    unfold dh part
    simp only [e]
  rw [e']
  refine Eq.trans (b := ∑ l : Fin 5632, val_main_v5 (F := Ideal) x0 (ix2 i l) * x1 (ix2 l j)) ?_
    (Fin.sum_mul_add_congr (fun p r hl => rfl) (by norm_num)).symm
  pointwise [val_main_v24, val_main_v7, val_main_v6]
  try rfl

/-- The printed reference's gradient read at an element. -/
theorem ref_apply (i : Fin 2048) (j : Fin 1024) : val_main_v44 (F := Ideal) x0 x1 x2 x3 x4 (ix2 i j)
      = x4 (ix2 i j) + rdx (fun k => val_main_v24 (F := Ideal) x0 x1 (ix2 i k)) (fun k => x3 (ix2 0 k)) (fun k => x2 (ix2 i k)) j := by
  unfold rdx thru rs ms len eps
  pointwise [val_main_v44, val_main_v43, val_main_v42, val_main_v41, val_main_v40, val_main_v39, val_main_v38, val_main_v37,
    val_main_v36, val_main_v35, val_main_v34, val_main_v33, val_main_v32, val_main_v31, val_main_v30, val_main_v29, val_main_v28,
    val_main_v19, val_main_v18, val_main_v17, val_main_v16, val_main_v15, val_main_v14, val_main_v13,
    val_main_v12, val_main_v11, val_main_v10, val_main_v9, val_main_v8, val_main_cst, val_main_cst_0,
    val_main_cst_1, val_main_cst_2, val_main_cst_3, val_main_cst_4, val_main_cst_5, val_main_cst_6, Fin.sum_univ_one]
  try rfl

theorem real_dh (h0 : ∀ i, ∃ r : ℝ, x0 i = (r : EReal)) (h1 : ∀ i, ∃ r : ℝ, x1 i = (r : EReal)) (i : Fin 2048) (j : Fin 1024) :
    ∃ r : ℝ, dh x0 x1 i j = (r : EReal) := by
  obtain ⟨a, ha⟩ := real_dot (fun l : Fin 2816 => x0 (ix3 0 i l)) (fun l => x1 (ix2 (at_ 0 l) j)) (fun l => h0 _) (fun l => h1 _)
  obtain ⟨b, hb⟩ := real_dot (fun l : Fin 2816 => x0 (ix3 1 i l)) (fun l => x1 (ix2 (at_ 1 l) j)) (fun l => h0 _) (fun l => h1 _)
  exact ⟨a + b, by unfold dh part; rw [ha, hb, EReal.coe_add]⟩

/-- On real rows it is the kernel's. -/
theorem ref_dx (h0 : ∀ i, ∃ r : ℝ, x0 i = (r : EReal)) (h1 : ∀ i, ∃ r : ℝ, x1 i = (r : EReal))
    (h2 : ∀ i, ∃ r : ℝ, x2 i = (r : EReal)) (h3 : ∀ i, ∃ r : ℝ, x3 i = (r : EReal)) :
    val_main_v44 (F := Ideal) x0 x1 x2 x3 x4 = dx x0 x1 x2 x3 x4 := by
  funext q
  obtain ⟨i, j, rfl⟩ : ∃ (i : Fin 2048) (j : Fin 1024), q = ix2 i j := ⟨q 0, q 1, eq_ix2 q⟩
  rw [ref_apply, funext (ref_dh x0 x1 i), ← bdx_rdx (dh x0 x1 i) _ _ (fun k => real_dh x0 x1 h0 h1 i k) (fun k => h3 _) (fun k => h2 _)]
  rfl

/-- The second result is the first one's copy. -/
theorem ref_dxb : val_main_v45 (F := Ideal) x0 x1 x2 x3 x4 = val_main_v44 (F := Ideal) x0 x1 x2 x3 x4 := by
  funext q
  obtain ⟨i, j, rfl⟩ : ∃ (i : Fin 2048) (j : Fin 1024), q = ix2 i j := ⟨q 0, q 1, eq_ix2 q⟩
  rfl

/-- The gradient of the scale, whatever the arguments. -/
theorem ref_dg : val_main_v27 (F := Ideal) x0 x1 x2 = dg x0 x1 x2 := by
  funext q
  obtain ⟨i, j, rfl⟩ : ∃ (i : Fin 1) (j : Fin 1024), q = ix2 i j := ⟨q 0, q 1, eq_ix2 q⟩
  refine Eq.trans (b := ∑ k : Fin 2048, x2 (ix2 k j) * rs (fun l => x2 (ix2 k l)) * val_main_v24 (F := Ideal) x0 x1 (ix2 k j)) ?_
    (Finset.sum_congr rfl fun k _ => (mul_comm _ _).trans (by rw [ref_dh]; rfl))
  unfold rs ms len eps
  pointwise [val_main_v27, val_main_v26, val_main_v25, val_main_v20, val_main_v19, val_main_v15, val_main_v14,
    val_main_v13, val_main_v12, val_main_v11, val_main_v10, val_main_v9, val_main_v8, val_main_cst,
    val_main_cst_0, val_main_cst_1, val_main_cst_3]
  try rfl

end Cert.Reference14Ideal.FfnInDx

namespace Cert.Proof.FfnInDx

open Cert.Kernel14Ideal.FfnInDx (dx dg)

/-- The precondition says that every argument but the direct gradient is real, element by element. -/
theorem real_of_pre (x0 : Vec Ideal Cert.Kernel14Ideal.S2x2048x2816 .bf16) (x1 : Vec Ideal Cert.Kernel14Ideal.S5632x1024 .bf16)
    (x2 : Vec Ideal Cert.Kernel14Ideal.S2048x1024 .f32) (x3 : Vec Ideal Cert.Kernel14Ideal.S1x1024 .f32)
    (x4 : Vec Ideal Cert.Kernel14Ideal.S2048x1024 .f32) (h : Cert.Pre_finite14.fn (F := Ideal) x0 x1 x2 x3 x4 = fun _ => 1#1) :
    (∀ i, ∃ r : ℝ, x0 i = (r : EReal)) ∧ (∀ i, ∃ r : ℝ, x1 i = (r : EReal)) ∧ (∀ i, ∃ r : ℝ, x2 i = (r : EReal))
      ∧ (∀ i, ∃ r : ℝ, x3 i = (r : EReal)) := by
  have hh := congrFun h (fun a => a.elim0)
  haveI : Subsingleton Cert.Pre_finite14.S_.Idx := ⟨fun a b => funext fun k => k.elim0⟩
  unfold Cert.Pre_finite14.fn Cert.Pre_finite14.fn_part1 at hh
  obtain ⟨hh, h3⟩ := IntOp.andi_eq_one.1 hh
  obtain ⟨hh, h2⟩ := IntOp.andi_eq_one.1 hh
  obtain ⟨h0, h1⟩ := IntOp.andi_eq_one.1 hh
  exact ⟨fun i => Cert.Reals.real_of_cmp _ (Host.reduce_andi_all _ _ _ _ _ h0 i),
    fun i => Cert.Reals.real_of_cmp _ (Host.reduce_andi_all _ _ _ _ _ h1 i),
    fun i => Cert.Reals.real_of_cmp _ (Host.reduce_andi_all _ _ _ _ _ h2 i),
    fun i => Cert.Reals.real_of_cmp _ (Host.reduce_andi_all _ _ _ _ _ h3 i)⟩

theorem algebraic : Cert.algebraic_Kernel14Ideal_Reference14Ideal_pre_finite14 := by
  intro m ρ m' ρ' hpre hagree
  refine ⟨fun c => dx (m ((c.tc : Thread _ _).loc Cert.Kernel14Ideal.main_arg0))
      (m ((c.tc : Thread _ _).loc Cert.Kernel14Ideal.main_arg1)) (m ((c.tc : Thread _ _).loc Cert.Kernel14Ideal.main_arg2))
      (m ((c.tc : Thread _ _).loc Cert.Kernel14Ideal.main_arg3)) (m ((c.tc : Thread _ _).loc Cert.Kernel14Ideal.main_arg4)),
    fun c => dx (m ((c.tc : Thread _ _).loc Cert.Kernel14Ideal.main_arg0))
      (m ((c.tc : Thread _ _).loc Cert.Kernel14Ideal.main_arg1)) (m ((c.tc : Thread _ _).loc Cert.Kernel14Ideal.main_arg2))
      (m ((c.tc : Thread _ _).loc Cert.Kernel14Ideal.main_arg3)) (m ((c.tc : Thread _ _).loc Cert.Kernel14Ideal.main_arg4)),
    fun c => dg (m ((c.tc : Thread _ _).loc Cert.Kernel14Ideal.main_arg0))
      (m ((c.tc : Thread _ _).loc Cert.Kernel14Ideal.main_arg1)) (m ((c.tc : Thread _ _).loc Cert.Kernel14Ideal.main_arg2)), ?_, ?_⟩
  · exact (θ_run Cert.Kernel14Ideal.defs _ _).mono
      (fun _ h c => ⟨(h c).1.trans (Cert.Kernel14Ideal.FfnInDx.final_dx m c), (h c).2.1.trans (Cert.Kernel14Ideal.FfnInDx.final_dxb m c),
        (h c).2.2.1.trans (Cert.Kernel14Ideal.FfnInDx.final_dg m c), (h c).2.2.2⟩)
      (Cert.Kernel14Ideal.Value.run_blocks (F := Ideal) m ρ)
  · refine (θ_run Cert.Reference14Ideal.defs _ _).mono (fun _ h c => ⟨(h c).1.trans ?_, (h c).2.1.trans ?_, (h c).2.2.1.trans ?_,
        (h c).2.2.2⟩) (Cert.Reference14Ideal.Value.run (F := Ideal) m' ρ')
    · obtain ⟨h0, h1, h2, h3⟩ := real_of_pre _ _ _ _ _ (hpre c)
      refine (Cert.Reference14Ideal.Read.val_main_v44_eq m' c).trans ?_
      rw [(hagree c).1, (hagree c).2.1, (hagree c).2.2.1, (hagree c).2.2.2.1, (hagree c).2.2.2.2]
      exact Cert.Reference14Ideal.FfnInDx.ref_dx _ _ _ _ _ h0 h1 h2 h3
    · obtain ⟨h0, h1, h2, h3⟩ := real_of_pre _ _ _ _ _ (hpre c)
      refine (Cert.Reference14Ideal.Read.val_main_v45_eq m' c).trans ?_
      rw [(hagree c).1, (hagree c).2.1, (hagree c).2.2.1, (hagree c).2.2.2.1, (hagree c).2.2.2.2]
      exact (Cert.Reference14Ideal.FfnInDx.ref_dxb _ _ _ _ _).trans (Cert.Reference14Ideal.FfnInDx.ref_dx _ _ _ _ _ h0 h1 h2 h3)
    · rw [(hagree c).1, (hagree c).2.1, (hagree c).2.2.1]
      exact (Cert.Reference14Ideal.Read.val_main_v27_eq _ _ _).trans (Cert.Reference14Ideal.FfnInDx.ref_dg _ _ _)

theorem frame_reference : Cert.quiescent_Reference14Ideal := fun m ρ _ =>
  (θ_run Cert.Reference14Ideal.defs _ _).mono (fun r h => ⟨fun c => (h c).2.2.2,
      Idealize.ShloMosaic.sem_eq_zero_of_no_sems (by decide) r.2⟩)
    (Cert.Reference14Ideal.Value.run (F := Ideal) m ρ)

theorem frame_reference_pre : Cert.quiescent_Reference14Ideal_pre_finite14 := fun m ρ _ =>
  frame_reference m ρ trivial

end Cert.Proof.FfnInDx

end
-- ==== Proof.QkvDx.lean ====
/- The gradient of the normalised projection of the even layers: the product with the matrix, and the norm's backward. -/
module

public import proofs.«01_k».proof.Defs
public import proofs.«01_k».proof.Proof.Gen.Kernel15Ideal.Value
public import proofs.«01_k».proof.Proof.Gen.Reference15Ideal.Read
public import proofs.«01_k».proof.Proof.Gen.Pre_finite15
public import proofs.«01_k».proof.Proof.Norm
public import Idealize.ShloMosaic.Lib.Pipeline.ValueKit
public import Idealize.ShloMosaic.Lib.Pointwise
public import Idealize.ShloMosaic.Lib.Quiescent

@[expose] public section

set_option maxRecDepth 16384

noncomputable section

open Idealize.ShloMosaic Idealize.ShloMosaic.TcCoe Idealize.SL.Sem
open Idealize.ShloMosaic.Pipeline (Dat)

namespace Cert.Kernel15Ideal.QkvDx

open Cert.Kernel15Ideal Cert.Kernel15Ideal.Gen Cert.Norm

variable (m : (ℓ : Loc nD τ sig) → Buf (Elt Ideal) ℓ)

section
variable (x0 : Vec Ideal S2048x3072 .bf16) (x1 : Vec Ideal S1024x3072 .bf16) (x2 : Vec Ideal S2048x1024 .f32)
  (x3 : Vec Ideal S1x1024 .f32) (x4 : Vec Ideal S2048x1024 .f32)

/-- The gradient after the norm: row `i` of the projection's gradient times row `j` of its matrix. -/
def dh (i : Fin 2048) (j : Fin 1024) : EReal := ∑ l : Fin 3072, x0 (ix2 i l) * x1 (ix2 j l)

/-- The gradient before the norm, with the direct one added. -/
def dx (j : S2048x1024.Idx) : EReal :=
  x4 (ix2 (j 0) (j 1)) + bdx (dh x0 x1 (j 0)) (fun k => x3 (ix2 0 k)) (fun k => x2 (ix2 (j 0) k)) (j 1)

/-- Row `i`'s part of the gradient of the norm's scale: the gradient after the norm times the normalised row. -/
def dgRow (i : Fin 2048) (j : Fin 1024) : EReal := dh x0 x1 i j * (x2 (ix2 i j) * rs (fun k => x2 (ix2 i k)))

/-- The gradient of the norm's scale: the sum of all rows' parts. -/
def dg (j : S1x1024.Idx) : EReal := ∑ i : Fin 2048, dgRow x0 x1 x2 i (j 1)

end

theorem idx : ∀ t : Fin grid0.N, win0_0.index t = ![t.val, 0] ∧ win0_1.index t = ![0, 0] ∧ win0_2.index t = ![t.val, 0]
    ∧ win0_3.index t = ![0, 0] ∧ win0_4.index t = ![t.val, 0] ∧ win0_5.index t = ![t.val, 0] ∧ win0_6.index t = ![t.val, 0]
    ∧ win0_7.index t = ![0, 0] := by decide +kernel

/-- An element of a block of the gradient, computed from the blocks of point `t`, is the array's. -/
theorem core (c : Dev nD) (t : Fin cfg0.N) (x : S512x1024.Idx) (j : S2048x1024.Idx) (h0 : (j 0).val = t.val * 512 + (x 0).val)
    (h1 : (j 1).val = (x 1).val) :
    k0_pay6 (iblk m c 0 t) (iblk m c 1 t) (iblk m c 2 t) (iblk m c 3 t) (iblk m c 4 t) x = dx (m ((c : Thread nD τ).loc main_arg0))
      (m ((c : Thread nD τ).loc main_arg1)) (m ((c : Thread nD τ).loc main_arg2)) (m ((c : Thread nD τ).loc main_arg3))
      (m ((c : Thread nD τ).loc main_arg4)) j := by
  unfold dx bdx dh rs ms len eps
  pointwise [k0_pay6, k0_pay5, k0_pay4, k0_pay3]
  blk_point [iblk, V, idx t]

/-- What point `t` adds to the scale's gradient: the sum over its own 512 rows. -/
theorem core_dg (c : Dev nD) (t : Fin cfg0.N) (x : S1x1024.Idx) (j : S1x1024.Idx) (h1 : (j 1).val = (x 1).val) :
    k0_pay1 (k0_pay8 (iblk m c 0 t) (iblk m c 1 t) (iblk m c 2 t)) x
      = ∑ r : Fin 512, dgRow (m ((c : Thread nD τ).loc main_arg0)) (m ((c : Thread nD τ).loc main_arg1))
          (m ((c : Thread nD τ).loc main_arg2)) ⟨t.val * 512 + r.val, by have := lt_of_lt_of_eq t.isLt N_0; omega⟩ (j 1) := by
  unfold dgRow dh rs ms len eps
  pointwise [k0_pay1, k0_pay8, k0_pay5, k0_pay4, k0_pay3]
  blk_point [iblk, V, idx t]

theorem pay2_eq (v : FVec Ideal S512x1024 .f32) (w : Vec Ideal S1x1024 .f32) (j : S1x1024.Idx) :
    k0_pay2 v w j = w j + k0_pay1 v j := by
  pointwise [k0_pay2]

/-- The gradient's array after the run. -/
theorem final_dx (c : Dev nD) : (dats m 0 c).arrAt 5 cfg0.N = dx (m ((c : Thread nD τ).loc main_arg0))
      (m ((c : Thread nD τ).loc main_arg1)) (m ((c : Thread nD τ).loc main_arg2)) (m ((c : Thread nD τ).loc main_arg3))
      (m ((c : Thread nD τ).loc main_arg4)) := by
  refine (dats m 0 c).arrAt_eq_of_covers 5 _ (by decide +kernel) fun t hf y => ?_
  have ht := lt_of_lt_of_eq t.isLt N_0
  blk_simp
  rw [after0_5]
  by_cases h : t.val % 4 = 0
  · rw [outsAt0_A m c t h (by omega)]
    frame_out
    refine core m c t y _ ?_ ?_ <;> blk_simp [idx t] <;> omega
  · rw [outsAt0_B m c t h (by omega)]
    frame_out
    refine core m c t y _ ?_ ?_ <;> blk_simp [idx t] <;> omega

/-- Its copy in bf16, which over the reals is the same. -/
theorem final_dxb (c : Dev nD) : (dats m 0 c).arrAt 6 cfg0.N = dx (m ((c : Thread nD τ).loc main_arg0))
      (m ((c : Thread nD τ).loc main_arg1)) (m ((c : Thread nD τ).loc main_arg2)) (m ((c : Thread nD τ).loc main_arg3))
      (m ((c : Thread nD τ).loc main_arg4)) := by
  refine (dats m 0 c).arrAt_eq_of_covers 6 _ (by decide +kernel) fun t hf y => ?_
  have ht := lt_of_lt_of_eq t.isLt N_0
  blk_simp
  rw [after0_6]
  by_cases h : t.val % 4 = 0
  · rw [outsAt0_A m c t h (by omega)]
    frame_out
    refine core m c t y _ ?_ ?_ <;> blk_simp [idx t] <;> omega
  · rw [outsAt0_B m c t h (by omega)]
    frame_out
    refine core m c t y _ ?_ ?_ <;> blk_simp [idx t] <;> omega

/-- The scale's gradient after the run: the four points' sums, one after the other. -/
theorem final_dg (c : Dev nD) : (dats m 0 c).arrAt 7 cfg0.N = dg (m ((c : Thread nD τ).loc main_arg0))
      (m ((c : Thread nD τ).loc main_arg1)) (m ((c : Thread nD τ).loc main_arg2)) := by
  refine (dats m 0 c).arrAt_eq_of_after_last 7 t0_3 (by decide +kernel) _ fun j => ?_
  blk_simp
  rw [after0_7, Pipeline.eq_sum_fin_of_reset_step_apply_last (fun n h => (outsAt0 m c n h).2.2) 4 (fun _ => 0)
    (fun p j => k0_pay1 (k0_pay8 (iblk m c 0 p) (iblk m c 1 p) (iblk m c 2 p)) j)
    (fun t h j => by
      have ht := lt_of_lt_of_eq t.isLt N_0
      rw [outsAt0_A m c t h (by omega), zero_add]; frame_out)
    (fun t h j => by
      have ht := lt_of_lt_of_eq t.isLt N_0
      rw [outsAt0_B m c t h (by omega)]; frame_out; rw [pay2_eq])
    (le_of_eq N_0) t0_3 rfl j, zero_add]
  show (_ : EReal) = _
  unfold dg
  exact (Finset.sum_congr rfl fun t _ => core_dg m c t j j rfl).trans
    (Fin.sum_mul_add_congr (fun t r hl => rfl) (by show 2048 = grid0.N * 512; rw [N_0]))

end Cert.Kernel15Ideal.QkvDx

namespace Cert.Reference15Ideal.QkvDx

open Cert.Reference15Ideal Cert.Reference15Ideal.Read Cert.Reference15Ideal.Gen Cert.Norm
open Cert.Kernel15Ideal.QkvDx (dh dx dg dgRow)

variable (x0 : Vec Ideal S2048x3072 .bf16) (x1 : Vec Ideal S1024x3072 .bf16) (x2 : Vec Ideal S2048x1024 .f32)
  (x3 : Vec Ideal S1x1024 .f32) (x4 : Vec Ideal S2048x1024 .f32)

/-- The printed reference's gradient read at an element. -/
theorem ref_apply (i : Fin 2048) (j : Fin 1024) : val_main_v38 (F := Ideal) x0 x1 x2 x3 x4 (ix2 i j)
      = x4 (ix2 i j) + rdx (dh x0 x1 i) (fun k => x3 (ix2 0 k)) (fun k => x2 (ix2 i k)) j := by
  unfold rdx thru rs ms len eps dh
  pointwise [val_main_v38, val_main_v37, val_main_v36, val_main_v35, val_main_v34, val_main_v33, val_main_v32, val_main_v31,
    val_main_v30, val_main_v29, val_main_v28, val_main_v27, val_main_v26, val_main_v25, val_main_v24, val_main_v23, val_main_v22,
    val_main_v18, val_main_v13, val_main_v12, val_main_v11, val_main_v10, val_main_v9, val_main_v8, val_main_v7,
    val_main_v6, val_main_v5, val_main_v4, val_main_v3, val_main_v2, val_main_v1, val_main_v0, val_main_cst, val_main_cst_0,
    val_main_cst_1, val_main_cst_2, val_main_cst_3, val_main_cst_4, val_main_cst_5, val_main_cst_6, Fin.sum_univ_one]
  try rfl

/-- On real rows it is the kernel's. -/
theorem ref_dx (h0 : ∀ i, ∃ r : ℝ, x0 i = (r : EReal)) (h1 : ∀ i, ∃ r : ℝ, x1 i = (r : EReal))
    (h2 : ∀ i, ∃ r : ℝ, x2 i = (r : EReal)) (h3 : ∀ i, ∃ r : ℝ, x3 i = (r : EReal)) :
    val_main_v38 (F := Ideal) x0 x1 x2 x3 x4 = dx x0 x1 x2 x3 x4 := by
  funext q
  obtain ⟨i, j, rfl⟩ : ∃ (i : Fin 2048) (j : Fin 1024), q = ix2 i j := ⟨q 0, q 1, eq_ix2 q⟩
  rw [ref_apply, ← bdx_rdx (dh x0 x1 i) _ _ (fun k => real_dot _ _ (fun l => h0 _) (fun l => h1 _)) (fun k => h3 _) (fun k => h2 _)]
  rfl

/-- The second result is the first one's copy. -/
theorem ref_dxb : val_main_v39 (F := Ideal) x0 x1 x2 x3 x4 = val_main_v38 (F := Ideal) x0 x1 x2 x3 x4 := by
  funext q
  obtain ⟨i, j, rfl⟩ : ∃ (i : Fin 2048) (j : Fin 1024), q = ix2 i j := ⟨q 0, q 1, eq_ix2 q⟩
  rfl

/-- The gradient of the scale, whatever the arguments. -/
theorem ref_dg : val_main_v21 (F := Ideal) x0 x1 x2 = dg x0 x1 x2 := by
  funext q
  obtain ⟨i, j, rfl⟩ : ∃ (i : Fin 1) (j : Fin 1024), q = ix2 i j := ⟨q 0, q 1, eq_ix2 q⟩
  refine Eq.trans (b := ∑ k : Fin 2048, x2 (ix2 k j) * rs (fun l => x2 (ix2 k l)) * dh x0 x1 k j) ?_
    (Finset.sum_congr rfl fun k _ => mul_comm _ _)
  unfold rs ms len eps dh
  pointwise [val_main_v21, val_main_v20, val_main_v19, val_main_v18, val_main_v14, val_main_v13, val_main_v9, val_main_v8,
    val_main_v7, val_main_v6, val_main_v5, val_main_v4, val_main_v3, val_main_v2, val_main_v1, val_main_v0, val_main_cst,
    val_main_cst_0, val_main_cst_1, val_main_cst_3]
  try rfl

end Cert.Reference15Ideal.QkvDx

namespace Cert.Proof.QkvDx

open Cert.Kernel15Ideal.QkvDx (dx dg)

/-- The precondition says that every argument but the direct gradient is real, element by element. -/
theorem real_of_pre (x0 : Vec Ideal Cert.Kernel15Ideal.S2048x3072 .bf16) (x1 : Vec Ideal Cert.Kernel15Ideal.S1024x3072 .bf16)
    (x2 : Vec Ideal Cert.Kernel15Ideal.S2048x1024 .f32) (x3 : Vec Ideal Cert.Kernel15Ideal.S1x1024 .f32)
    (x4 : Vec Ideal Cert.Kernel15Ideal.S2048x1024 .f32) (h : Cert.Pre_finite15.fn (F := Ideal) x0 x1 x2 x3 x4 = fun _ => 1#1) :
    (∀ i, ∃ r : ℝ, x0 i = (r : EReal)) ∧ (∀ i, ∃ r : ℝ, x1 i = (r : EReal)) ∧ (∀ i, ∃ r : ℝ, x2 i = (r : EReal))
      ∧ (∀ i, ∃ r : ℝ, x3 i = (r : EReal)) := by
  have hh := congrFun h (fun a => a.elim0)
  haveI : Subsingleton Cert.Pre_finite15.S_.Idx := ⟨fun a b => funext fun k => k.elim0⟩
  unfold Cert.Pre_finite15.fn Cert.Pre_finite15.fn_part1 at hh
  obtain ⟨hh, h3⟩ := IntOp.andi_eq_one.1 hh
  obtain ⟨hh, h2⟩ := IntOp.andi_eq_one.1 hh
  obtain ⟨h0, h1⟩ := IntOp.andi_eq_one.1 hh
  exact ⟨fun i => Cert.Reals.real_of_cmp _ (Host.reduce_andi_all _ _ _ _ _ h0 i),
    fun i => Cert.Reals.real_of_cmp _ (Host.reduce_andi_all _ _ _ _ _ h1 i),
    fun i => Cert.Reals.real_of_cmp _ (Host.reduce_andi_all _ _ _ _ _ h2 i),
    fun i => Cert.Reals.real_of_cmp _ (Host.reduce_andi_all _ _ _ _ _ h3 i)⟩

theorem algebraic : Cert.algebraic_Kernel15Ideal_Reference15Ideal_pre_finite15 := by
  intro m ρ m' ρ' hpre hagree
  refine ⟨fun c => dx (m ((c.tc : Thread _ _).loc Cert.Kernel15Ideal.main_arg0))
      (m ((c.tc : Thread _ _).loc Cert.Kernel15Ideal.main_arg1)) (m ((c.tc : Thread _ _).loc Cert.Kernel15Ideal.main_arg2))
      (m ((c.tc : Thread _ _).loc Cert.Kernel15Ideal.main_arg3)) (m ((c.tc : Thread _ _).loc Cert.Kernel15Ideal.main_arg4)),
    fun c => dx (m ((c.tc : Thread _ _).loc Cert.Kernel15Ideal.main_arg0))
      (m ((c.tc : Thread _ _).loc Cert.Kernel15Ideal.main_arg1)) (m ((c.tc : Thread _ _).loc Cert.Kernel15Ideal.main_arg2))
      (m ((c.tc : Thread _ _).loc Cert.Kernel15Ideal.main_arg3)) (m ((c.tc : Thread _ _).loc Cert.Kernel15Ideal.main_arg4)),
    fun c => dg (m ((c.tc : Thread _ _).loc Cert.Kernel15Ideal.main_arg0))
      (m ((c.tc : Thread _ _).loc Cert.Kernel15Ideal.main_arg1)) (m ((c.tc : Thread _ _).loc Cert.Kernel15Ideal.main_arg2)), ?_, ?_⟩
  · exact (θ_run Cert.Kernel15Ideal.defs _ _).mono
      (fun _ h c => ⟨(h c).1.trans (Cert.Kernel15Ideal.QkvDx.final_dx m c), (h c).2.1.trans (Cert.Kernel15Ideal.QkvDx.final_dxb m c),
        (h c).2.2.1.trans (Cert.Kernel15Ideal.QkvDx.final_dg m c), (h c).2.2.2⟩)
      (Cert.Kernel15Ideal.Value.run_blocks (F := Ideal) m ρ)
  · refine (θ_run Cert.Reference15Ideal.defs _ _).mono (fun _ h c => ⟨(h c).1.trans ?_, (h c).2.1.trans ?_, (h c).2.2.1.trans ?_,
        (h c).2.2.2⟩) (Cert.Reference15Ideal.Value.run (F := Ideal) m' ρ')
    · obtain ⟨h0, h1, h2, h3⟩ := real_of_pre _ _ _ _ _ (hpre c)
      refine (Cert.Reference15Ideal.Read.val_main_v38_eq m' c).trans ?_
      rw [(hagree c).1, (hagree c).2.1, (hagree c).2.2.1, (hagree c).2.2.2.1, (hagree c).2.2.2.2]
      exact Cert.Reference15Ideal.QkvDx.ref_dx _ _ _ _ _ h0 h1 h2 h3
    · obtain ⟨h0, h1, h2, h3⟩ := real_of_pre _ _ _ _ _ (hpre c)
      refine (Cert.Reference15Ideal.Read.val_main_v39_eq m' c).trans ?_
      rw [(hagree c).1, (hagree c).2.1, (hagree c).2.2.1, (hagree c).2.2.2.1, (hagree c).2.2.2.2]
      exact (Cert.Reference15Ideal.QkvDx.ref_dxb _ _ _ _ _).trans (Cert.Reference15Ideal.QkvDx.ref_dx _ _ _ _ _ h0 h1 h2 h3)
    · rw [(hagree c).1, (hagree c).2.1, (hagree c).2.2.1]
      exact (Cert.Reference15Ideal.Read.val_main_v21_eq _ _ _).trans (Cert.Reference15Ideal.QkvDx.ref_dg _ _ _)

theorem frame_reference : Cert.quiescent_Reference15Ideal := fun m ρ _ =>
  (θ_run Cert.Reference15Ideal.defs _ _).mono (fun r h => ⟨fun c => (h c).2.2.2,
      Idealize.ShloMosaic.sem_eq_zero_of_no_sems (by decide) r.2⟩)
    (Cert.Reference15Ideal.Value.run (F := Ideal) m ρ)

theorem frame_reference_pre : Cert.quiescent_Reference15Ideal_pre_finite15 := fun m ρ _ =>
  frame_reference m ρ trivial

end Cert.Proof.QkvDx

end
-- ==== Proof.QkvfDx.lean ====
/- The gradient of the normalised projection of the odd layers: the product with the matrix, and the norm's backward. -/
module

public import proofs.«01_k».proof.Defs
public import proofs.«01_k».proof.Proof.Gen.Kernel16Ideal.Value
public import proofs.«01_k».proof.Proof.Gen.Reference16Ideal.Read
public import proofs.«01_k».proof.Proof.Gen.Pre_finite16
public import proofs.«01_k».proof.Proof.Norm
public import Idealize.ShloMosaic.Lib.Pipeline.ValueKit
public import Idealize.ShloMosaic.Lib.Pointwise
public import Idealize.ShloMosaic.Lib.Quiescent

@[expose] public section

set_option maxRecDepth 16384

noncomputable section

open Idealize.ShloMosaic Idealize.ShloMosaic.TcCoe Idealize.SL.Sem
open Idealize.ShloMosaic.Pipeline (Dat)

namespace Cert.Kernel16Ideal.QkvfDx

open Cert.Kernel16Ideal Cert.Kernel16Ideal.Gen Cert.Norm

variable (m : (ℓ : Loc nD τ sig) → Buf (Elt Ideal) ℓ)

section
variable (x0 : Vec Ideal S2048x3200 .bf16) (x1 : Vec Ideal S1024x3200 .bf16) (x2 : Vec Ideal S2048x1024 .f32)
  (x3 : Vec Ideal S1x1024 .f32) (x4 : Vec Ideal S2048x1024 .f32)

/-- The gradient after the norm: row `i` of the projection's gradient times row `j` of its matrix. -/
def dh (i : Fin 2048) (j : Fin 1024) : EReal := ∑ l : Fin 3200, x0 (ix2 i l) * x1 (ix2 j l)

/-- The gradient before the norm, with the direct one added. -/
def dx (j : S2048x1024.Idx) : EReal :=
  x4 (ix2 (j 0) (j 1)) + bdx (dh x0 x1 (j 0)) (fun k => x3 (ix2 0 k)) (fun k => x2 (ix2 (j 0) k)) (j 1)

/-- Row `i`'s part of the gradient of the norm's scale: the gradient after the norm times the normalised row. -/
def dgRow (i : Fin 2048) (j : Fin 1024) : EReal := dh x0 x1 i j * (x2 (ix2 i j) * rs (fun k => x2 (ix2 i k)))

/-- The gradient of the norm's scale: the sum of all rows' parts. -/
def dg (j : S1x1024.Idx) : EReal := ∑ i : Fin 2048, dgRow x0 x1 x2 i (j 1)

end

theorem idx : ∀ t : Fin grid0.N, win0_0.index t = ![t.val, 0] ∧ win0_1.index t = ![0, 0] ∧ win0_2.index t = ![t.val, 0]
    ∧ win0_3.index t = ![0, 0] ∧ win0_4.index t = ![t.val, 0] ∧ win0_5.index t = ![t.val, 0] ∧ win0_6.index t = ![t.val, 0]
    ∧ win0_7.index t = ![0, 0] := by decide +kernel

/-- An element of a block of the gradient, computed from the blocks of point `t`, is the array's. -/
theorem core (c : Dev nD) (t : Fin cfg0.N) (x : S512x1024.Idx) (j : S2048x1024.Idx) (h0 : (j 0).val = t.val * 512 + (x 0).val)
    (h1 : (j 1).val = (x 1).val) :
    k0_pay6 (iblk m c 0 t) (iblk m c 1 t) (iblk m c 2 t) (iblk m c 3 t) (iblk m c 4 t) x = dx (m ((c : Thread nD τ).loc main_arg0))
      (m ((c : Thread nD τ).loc main_arg1)) (m ((c : Thread nD τ).loc main_arg2)) (m ((c : Thread nD τ).loc main_arg3))
      (m ((c : Thread nD τ).loc main_arg4)) j := by
  unfold dx bdx dh rs ms len eps
  pointwise [k0_pay6, k0_pay5, k0_pay4, k0_pay3]
  blk_point [iblk, V, idx t]

/-- What point `t` adds to the scale's gradient: the sum over its own 512 rows. -/
theorem core_dg (c : Dev nD) (t : Fin cfg0.N) (x : S1x1024.Idx) (j : S1x1024.Idx) (h1 : (j 1).val = (x 1).val) :
    k0_pay1 (k0_pay8 (iblk m c 0 t) (iblk m c 1 t) (iblk m c 2 t)) x
      = ∑ r : Fin 512, dgRow (m ((c : Thread nD τ).loc main_arg0)) (m ((c : Thread nD τ).loc main_arg1))
          (m ((c : Thread nD τ).loc main_arg2)) ⟨t.val * 512 + r.val, by have := lt_of_lt_of_eq t.isLt N_0; omega⟩ (j 1) := by
  unfold dgRow dh rs ms len eps
  pointwise [k0_pay1, k0_pay8, k0_pay5, k0_pay4, k0_pay3]
  blk_point [iblk, V, idx t]

theorem pay2_eq (v : FVec Ideal S512x1024 .f32) (w : Vec Ideal S1x1024 .f32) (j : S1x1024.Idx) :
    k0_pay2 v w j = w j + k0_pay1 v j := by
  pointwise [k0_pay2]

/-- The gradient's array after the run. -/
theorem final_dx (c : Dev nD) : (dats m 0 c).arrAt 5 cfg0.N = dx (m ((c : Thread nD τ).loc main_arg0))
      (m ((c : Thread nD τ).loc main_arg1)) (m ((c : Thread nD τ).loc main_arg2)) (m ((c : Thread nD τ).loc main_arg3))
      (m ((c : Thread nD τ).loc main_arg4)) := by
  refine (dats m 0 c).arrAt_eq_of_covers 5 _ (by decide +kernel) fun t hf y => ?_
  have ht := lt_of_lt_of_eq t.isLt N_0
  blk_simp
  rw [after0_5]
  by_cases h : t.val % 4 = 0
  · rw [outsAt0_A m c t h (by omega)]
    frame_out
    refine core m c t y _ ?_ ?_ <;> blk_simp [idx t] <;> omega
  · rw [outsAt0_B m c t h (by omega)]
    frame_out
    refine core m c t y _ ?_ ?_ <;> blk_simp [idx t] <;> omega

/-- Its copy in bf16, which over the reals is the same. -/
theorem final_dxb (c : Dev nD) : (dats m 0 c).arrAt 6 cfg0.N = dx (m ((c : Thread nD τ).loc main_arg0))
      (m ((c : Thread nD τ).loc main_arg1)) (m ((c : Thread nD τ).loc main_arg2)) (m ((c : Thread nD τ).loc main_arg3))
      (m ((c : Thread nD τ).loc main_arg4)) := by
  refine (dats m 0 c).arrAt_eq_of_covers 6 _ (by decide +kernel) fun t hf y => ?_
  have ht := lt_of_lt_of_eq t.isLt N_0
  blk_simp
  rw [after0_6]
  by_cases h : t.val % 4 = 0
  · rw [outsAt0_A m c t h (by omega)]
    frame_out
    refine core m c t y _ ?_ ?_ <;> blk_simp [idx t] <;> omega
  · rw [outsAt0_B m c t h (by omega)]
    frame_out
    refine core m c t y _ ?_ ?_ <;> blk_simp [idx t] <;> omega

/-- The scale's gradient after the run: the four points' sums, one after the other. -/
theorem final_dg (c : Dev nD) : (dats m 0 c).arrAt 7 cfg0.N = dg (m ((c : Thread nD τ).loc main_arg0))
      (m ((c : Thread nD τ).loc main_arg1)) (m ((c : Thread nD τ).loc main_arg2)) := by
  refine (dats m 0 c).arrAt_eq_of_after_last 7 t0_3 (by decide +kernel) _ fun j => ?_
  blk_simp
  rw [after0_7, Pipeline.eq_sum_fin_of_reset_step_apply_last (fun n h => (outsAt0 m c n h).2.2) 4 (fun _ => 0)
    (fun p j => k0_pay1 (k0_pay8 (iblk m c 0 p) (iblk m c 1 p) (iblk m c 2 p)) j)
    (fun t h j => by
      have ht := lt_of_lt_of_eq t.isLt N_0
      rw [outsAt0_A m c t h (by omega), zero_add]; frame_out)
    (fun t h j => by
      have ht := lt_of_lt_of_eq t.isLt N_0
      rw [outsAt0_B m c t h (by omega)]; frame_out; rw [pay2_eq])
    (le_of_eq N_0) t0_3 rfl j, zero_add]
  show (_ : EReal) = _
  unfold dg
  exact (Finset.sum_congr rfl fun t _ => core_dg m c t j j rfl).trans
    (Fin.sum_mul_add_congr (fun t r hl => rfl) (by show 2048 = grid0.N * 512; rw [N_0]))

end Cert.Kernel16Ideal.QkvfDx

namespace Cert.Reference16Ideal.QkvfDx

open Cert.Reference16Ideal Cert.Reference16Ideal.Read Cert.Reference16Ideal.Gen Cert.Norm
open Cert.Kernel16Ideal.QkvfDx (dh dx dg dgRow)

variable (x0 : Vec Ideal S2048x3200 .bf16) (x1 : Vec Ideal S1024x3200 .bf16) (x2 : Vec Ideal S2048x1024 .f32)
  (x3 : Vec Ideal S1x1024 .f32) (x4 : Vec Ideal S2048x1024 .f32)

/-- The printed reference's gradient read at an element. -/
theorem ref_apply (i : Fin 2048) (j : Fin 1024) : val_main_v38 (F := Ideal) x0 x1 x2 x3 x4 (ix2 i j)
      = x4 (ix2 i j) + rdx (dh x0 x1 i) (fun k => x3 (ix2 0 k)) (fun k => x2 (ix2 i k)) j := by
  unfold rdx thru rs ms len eps dh
  pointwise [val_main_v38, val_main_v37, val_main_v36, val_main_v35, val_main_v34, val_main_v33, val_main_v32, val_main_v31,
    val_main_v30, val_main_v29, val_main_v28, val_main_v27, val_main_v26, val_main_v25, val_main_v24, val_main_v23, val_main_v22,
    val_main_v18, val_main_v13, val_main_v12, val_main_v11, val_main_v10, val_main_v9, val_main_v8, val_main_v7,
    val_main_v6, val_main_v5, val_main_v4, val_main_v3, val_main_v2, val_main_v1, val_main_v0, val_main_cst, val_main_cst_0,
    val_main_cst_1, val_main_cst_2, val_main_cst_3, val_main_cst_4, val_main_cst_5, val_main_cst_6, Fin.sum_univ_one]
  try rfl

/-- On real rows it is the kernel's. -/
theorem ref_dx (h0 : ∀ i, ∃ r : ℝ, x0 i = (r : EReal)) (h1 : ∀ i, ∃ r : ℝ, x1 i = (r : EReal))
    (h2 : ∀ i, ∃ r : ℝ, x2 i = (r : EReal)) (h3 : ∀ i, ∃ r : ℝ, x3 i = (r : EReal)) :
    val_main_v38 (F := Ideal) x0 x1 x2 x3 x4 = dx x0 x1 x2 x3 x4 := by
  funext q
  obtain ⟨i, j, rfl⟩ : ∃ (i : Fin 2048) (j : Fin 1024), q = ix2 i j := ⟨q 0, q 1, eq_ix2 q⟩
  rw [ref_apply, ← bdx_rdx (dh x0 x1 i) _ _ (fun k => real_dot _ _ (fun l => h0 _) (fun l => h1 _)) (fun k => h3 _) (fun k => h2 _)]
  rfl

/-- The second result is the first one's copy. -/
theorem ref_dxb : val_main_v39 (F := Ideal) x0 x1 x2 x3 x4 = val_main_v38 (F := Ideal) x0 x1 x2 x3 x4 := by
  funext q
  obtain ⟨i, j, rfl⟩ : ∃ (i : Fin 2048) (j : Fin 1024), q = ix2 i j := ⟨q 0, q 1, eq_ix2 q⟩
  rfl

/-- The gradient of the scale, whatever the arguments. -/
theorem ref_dg : val_main_v21 (F := Ideal) x0 x1 x2 = dg x0 x1 x2 := by
  funext q
  obtain ⟨i, j, rfl⟩ : ∃ (i : Fin 1) (j : Fin 1024), q = ix2 i j := ⟨q 0, q 1, eq_ix2 q⟩
  refine Eq.trans (b := ∑ k : Fin 2048, x2 (ix2 k j) * rs (fun l => x2 (ix2 k l)) * dh x0 x1 k j) ?_
    (Finset.sum_congr rfl fun k _ => mul_comm _ _)
  unfold rs ms len eps dh
  pointwise [val_main_v21, val_main_v20, val_main_v19, val_main_v18, val_main_v14, val_main_v13, val_main_v9, val_main_v8,
    val_main_v7, val_main_v6, val_main_v5, val_main_v4, val_main_v3, val_main_v2, val_main_v1, val_main_v0, val_main_cst,
    val_main_cst_0, val_main_cst_1, val_main_cst_3]
  try rfl

end Cert.Reference16Ideal.QkvfDx

namespace Cert.Proof.QkvfDx

open Cert.Kernel16Ideal.QkvfDx (dx dg)

/-- The precondition says that every argument but the direct gradient is real, element by element. -/
theorem real_of_pre (x0 : Vec Ideal Cert.Kernel16Ideal.S2048x3200 .bf16) (x1 : Vec Ideal Cert.Kernel16Ideal.S1024x3200 .bf16)
    (x2 : Vec Ideal Cert.Kernel16Ideal.S2048x1024 .f32) (x3 : Vec Ideal Cert.Kernel16Ideal.S1x1024 .f32)
    (x4 : Vec Ideal Cert.Kernel16Ideal.S2048x1024 .f32) (h : Cert.Pre_finite16.fn (F := Ideal) x0 x1 x2 x3 x4 = fun _ => 1#1) :
    (∀ i, ∃ r : ℝ, x0 i = (r : EReal)) ∧ (∀ i, ∃ r : ℝ, x1 i = (r : EReal)) ∧ (∀ i, ∃ r : ℝ, x2 i = (r : EReal))
      ∧ (∀ i, ∃ r : ℝ, x3 i = (r : EReal)) := by
  have hh := congrFun h (fun a => a.elim0)
  haveI : Subsingleton Cert.Pre_finite16.S_.Idx := ⟨fun a b => funext fun k => k.elim0⟩
  unfold Cert.Pre_finite16.fn Cert.Pre_finite16.fn_part1 at hh
  obtain ⟨hh, h3⟩ := IntOp.andi_eq_one.1 hh
  obtain ⟨hh, h2⟩ := IntOp.andi_eq_one.1 hh
  obtain ⟨h0, h1⟩ := IntOp.andi_eq_one.1 hh
  exact ⟨fun i => Cert.Reals.real_of_cmp _ (Host.reduce_andi_all _ _ _ _ _ h0 i),
    fun i => Cert.Reals.real_of_cmp _ (Host.reduce_andi_all _ _ _ _ _ h1 i),
    fun i => Cert.Reals.real_of_cmp _ (Host.reduce_andi_all _ _ _ _ _ h2 i),
    fun i => Cert.Reals.real_of_cmp _ (Host.reduce_andi_all _ _ _ _ _ h3 i)⟩

theorem algebraic : Cert.algebraic_Kernel16Ideal_Reference16Ideal_pre_finite16 := by
  intro m ρ m' ρ' hpre hagree
  refine ⟨fun c => dx (m ((c.tc : Thread _ _).loc Cert.Kernel16Ideal.main_arg0))
      (m ((c.tc : Thread _ _).loc Cert.Kernel16Ideal.main_arg1)) (m ((c.tc : Thread _ _).loc Cert.Kernel16Ideal.main_arg2))
      (m ((c.tc : Thread _ _).loc Cert.Kernel16Ideal.main_arg3)) (m ((c.tc : Thread _ _).loc Cert.Kernel16Ideal.main_arg4)),
    fun c => dx (m ((c.tc : Thread _ _).loc Cert.Kernel16Ideal.main_arg0))
      (m ((c.tc : Thread _ _).loc Cert.Kernel16Ideal.main_arg1)) (m ((c.tc : Thread _ _).loc Cert.Kernel16Ideal.main_arg2))
      (m ((c.tc : Thread _ _).loc Cert.Kernel16Ideal.main_arg3)) (m ((c.tc : Thread _ _).loc Cert.Kernel16Ideal.main_arg4)),
    fun c => dg (m ((c.tc : Thread _ _).loc Cert.Kernel16Ideal.main_arg0))
      (m ((c.tc : Thread _ _).loc Cert.Kernel16Ideal.main_arg1)) (m ((c.tc : Thread _ _).loc Cert.Kernel16Ideal.main_arg2)), ?_, ?_⟩
  · exact (θ_run Cert.Kernel16Ideal.defs _ _).mono
      (fun _ h c => ⟨(h c).1.trans (Cert.Kernel16Ideal.QkvfDx.final_dx m c), (h c).2.1.trans (Cert.Kernel16Ideal.QkvfDx.final_dxb m c),
        (h c).2.2.1.trans (Cert.Kernel16Ideal.QkvfDx.final_dg m c), (h c).2.2.2⟩)
      (Cert.Kernel16Ideal.Value.run_blocks (F := Ideal) m ρ)
  · refine (θ_run Cert.Reference16Ideal.defs _ _).mono (fun _ h c => ⟨(h c).1.trans ?_, (h c).2.1.trans ?_, (h c).2.2.1.trans ?_,
        (h c).2.2.2⟩) (Cert.Reference16Ideal.Value.run (F := Ideal) m' ρ')
    · obtain ⟨h0, h1, h2, h3⟩ := real_of_pre _ _ _ _ _ (hpre c)
      refine (Cert.Reference16Ideal.Read.val_main_v38_eq m' c).trans ?_
      rw [(hagree c).1, (hagree c).2.1, (hagree c).2.2.1, (hagree c).2.2.2.1, (hagree c).2.2.2.2]
      exact Cert.Reference16Ideal.QkvfDx.ref_dx _ _ _ _ _ h0 h1 h2 h3
    · obtain ⟨h0, h1, h2, h3⟩ := real_of_pre _ _ _ _ _ (hpre c)
      refine (Cert.Reference16Ideal.Read.val_main_v39_eq m' c).trans ?_
      rw [(hagree c).1, (hagree c).2.1, (hagree c).2.2.1, (hagree c).2.2.2.1, (hagree c).2.2.2.2]
      exact (Cert.Reference16Ideal.QkvfDx.ref_dxb _ _ _ _ _).trans (Cert.Reference16Ideal.QkvfDx.ref_dx _ _ _ _ _ h0 h1 h2 h3)
    · rw [(hagree c).1, (hagree c).2.1, (hagree c).2.2.1]
      exact (Cert.Reference16Ideal.Read.val_main_v21_eq _ _ _).trans (Cert.Reference16Ideal.QkvfDx.ref_dg _ _ _)

theorem frame_reference : Cert.quiescent_Reference16Ideal := fun m ρ _ =>
  (θ_run Cert.Reference16Ideal.defs _ _).mono (fun r h => ⟨fun c => (h c).2.2.2,
      Idealize.ShloMosaic.sem_eq_zero_of_no_sems (by decide) r.2⟩)
    (Cert.Reference16Ideal.Value.run (F := Ideal) m ρ)

theorem frame_reference_pre : Cert.quiescent_Reference16Ideal_pre_finite16 := fun m ρ _ =>
  frame_reference m ρ trivial

end Cert.Proof.QkvfDx

end
-- ==== Proof.NormFwd.lean ====
/- The norm before a projection. -/
module

public import proofs.«01_k».proof.Defs
public import proofs.«01_k».proof.Proof.Gen.Kernel17Ideal.Value
public import proofs.«01_k».proof.Proof.Gen.Reference17Ideal.Read
public import proofs.«01_k».proof.Proof.Norm
public import Idealize.ShloMosaic.Lib.Pipeline.ValueKit
public import Idealize.ShloMosaic.Lib.Pointwise
public import Idealize.ShloMosaic.Lib.Quiescent

@[expose] public section

set_option maxRecDepth 16384

noncomputable section

open Idealize.ShloMosaic Idealize.ShloMosaic.TcCoe Idealize.SL.Sem
open Idealize.ShloMosaic.Pipeline (Dat)

namespace Cert.Kernel17Ideal.NormFwd

open Cert.Kernel17Ideal Cert.Kernel17Ideal.Gen Cert.Norm

variable (m : (ℓ : Loc nD τ sig) → Buf (Elt Ideal) ℓ)

/-- The normalised row, times the scale. -/
def y (x0 : Vec Ideal S2048x1024 .f32) (x1 : Vec Ideal S1x1024 .f32) (j : S2048x1024.Idx) : EReal :=
  x0 (ix2 (j 0) (j 1)) * rs (fun k => x0 (ix2 (j 0) k)) * x1 (ix2 0 (j 1))

theorem idx : ∀ t : Fin grid0.N, win0_0.index t = ![t.val, 0] ∧ win0_1.index t = ![0, 0] ∧ win0_2.index t = ![t.val, 0] := by
  decide +kernel

/-- An element of a block, computed from the blocks of point `t`, is the array's. -/
theorem core (c : Dev nD) (t : Fin cfg0.N) (x : S256x1024.Idx) (j : S2048x1024.Idx) (h0 : (j 0).val = t.val * 256 + (x 0).val)
    (h1 : (j 1).val = (x 1).val) : k0_pay1 (iblk m c 0 t) (iblk m c 1 t) x
      = y (m ((c : Thread nD τ).loc main_arg0)) (m ((c : Thread nD τ).loc main_arg1)) j := by
  unfold y rs ms len eps
  pointwise [k0_pay1]
  blk_point [iblk, V, idx t]

/-- The result array after the run: the points' blocks tile it. -/
theorem final (c : Dev nD) : (dats m 0 c).arrAt 2 cfg0.N
    = y (m ((c : Thread nD τ).loc main_arg0)) (m ((c : Thread nD τ).loc main_arg1)) := by
  refine (dats m 0 c).arrAt_eq_of_covers 2 _ (by decide +kernel) fun t hf y => ?_
  blk_simp
  rw [after0_2]
  frame_out
  refine core m c t y _ ?_ ?_ <;> blk_simp [idx t] <;> omega

end Cert.Kernel17Ideal.NormFwd

namespace Cert.Proof.NormFwd

open Cert.Reference17Ideal Cert.Reference17Ideal.Read Cert.Reference17Ideal.Gen Cert.Norm
open Cert.Kernel17Ideal.NormFwd (y)

theorem reference_y (x0 : Vec Ideal Cert.Kernel17Ideal.S2048x1024 .f32) (x1 : Vec Ideal Cert.Kernel17Ideal.S1x1024 .f32) :
    val_main_v12 (F := Ideal) x0 x1 = y x0 x1 := by
  funext q
  obtain ⟨i, j, rfl⟩ : ∃ (i : Fin 2048) (j : Fin 1024), q = ix2 i j := ⟨q 0, q 1, eq_ix2 q⟩
  unfold y rs ms len eps
  pointwise [val_main_v12, val_main_v11, val_main_v10, val_main_v9, val_main_v8, val_main_v7, val_main_v6, val_main_v5,
    val_main_v4, val_main_v3, val_main_v2, val_main_v1, val_main_v0, val_main_cst, val_main_cst_0, val_main_cst_1]
  try rfl

theorem algebraic : Cert.algebraic_Kernel17Ideal_Reference17Ideal := by
  intro m ρ m' ρ' _ hagree
  refine ⟨fun c => y (m ((c.tc : Thread _ _).loc Cert.Kernel17Ideal.main_arg0))
    (m ((c.tc : Thread _ _).loc Cert.Kernel17Ideal.main_arg1)), ?_, ?_⟩
  · exact (θ_run Cert.Kernel17Ideal.defs _ _).mono
      (fun _ h c => ⟨(h c).1.trans (Cert.Kernel17Ideal.NormFwd.final m c), (h c).2⟩)
      (Cert.Kernel17Ideal.Value.run_blocks (F := Ideal) m ρ)
  · refine (θ_run Cert.Reference17Ideal.defs _ _).mono (fun _ h c => ⟨(h c).1.trans ?_, (h c).2⟩)
      (Cert.Reference17Ideal.Value.run (F := Ideal) m' ρ')
    rw [(hagree c).1, (hagree c).2]
    exact (val_main_v12_eq _ _).trans (reference_y _ _)

theorem frame_reference : Cert.quiescent_Reference17Ideal := fun m ρ _ =>
  (θ_run Cert.Reference17Ideal.defs _ _).mono (fun r h => ⟨fun c => (h c).2,
      Idealize.ShloMosaic.sem_eq_zero_of_no_sems (by decide) r.2⟩)
    (Cert.Reference17Ideal.Value.run (F := Ideal) m ρ)

end Cert.Proof.NormFwd

end
-- ==== Proof.FinalLoss.lean ====
/- The last norm, the squared error, and its gradient. -/
module

public import proofs.«01_k».proof.Defs
public import proofs.«01_k».proof.Proof.Gen.Kernel18Ideal.Value
public import proofs.«01_k».proof.Proof.Gen.Reference18Ideal.Read
public import proofs.«01_k».proof.Proof.Gen.Pre_finite18
public import proofs.«01_k».proof.Proof.Norm
public import Idealize.ShloMosaic.Lib.Pipeline.ValueKit
public import Idealize.ShloMosaic.Lib.Pointwise
public import Idealize.ShloMosaic.Lib.Quiescent

@[expose] public section

set_option maxRecDepth 16384

noncomputable section

open Idealize.ShloMosaic Idealize.ShloMosaic.TcCoe Idealize.SL.Sem
open Idealize.ShloMosaic.Pipeline (Dat)

namespace Cert.Kernel18Ideal.FinalLoss

open Cert.Kernel18Ideal Cert.Kernel18Ideal.Gen Cert.Norm

variable (m : (ℓ : Loc nD τ sig) → Buf (Elt Ideal) ℓ)

section
variable (x0 : Vec Ideal S2048x1024 .f32) (x1 : Vec Ideal S1x1024 .f32) (x2 : Vec Ideal S2048x1024 .f32)

/-- The normalised element. -/
def hat (i : Fin 2048) (j : Fin 1024) : EReal := x0 (ix2 i j) * rs (fun k => x0 (ix2 i k))

/-- The error: the normalised element times the scale, less the target. -/
def err (i : Fin 2048) (j : Fin 1024) : EReal := hat x0 i j * x1 (ix2 0 j) - x2 (ix2 i j)

/-- One row's mean squared error. -/
def rowLoss (i : Fin 2048) : EReal := Ideal.div (∑ k, err x0 x1 x2 i k * err x0 x1 x2 i k) len

/-- The gradient of the loss along the norm's result. -/
def dy (i : Fin 2048) (j : Fin 1024) : EReal := err x0 x1 x2 i j * Ideal.ofBits .f32 0x3A800000#32

/-- The loss, in every lane: half the rows' mean squared errors, summed 256 rows at a time. -/
def loss (_ : S1x128.Idx) : EReal :=
  ∑ t : Fin 8, Ideal.ofBits .f32 0x3F000000#32 * ∑ r : Fin 256, rowLoss x0 x1 x2 ⟨t.val * 256 + r.val, by omega⟩

/-- The gradient before the norm. -/
def dx (j : S2048x1024.Idx) : EReal :=
  bdx (dy x0 x1 x2 (j 0)) (fun k => x1 (ix2 0 k)) (fun k => x0 (ix2 (j 0) k)) (j 1)

/-- Row `i`'s part of the gradient of the norm's scale. -/
def dgRow (i : Fin 2048) (j : Fin 1024) : EReal := dy x0 x1 x2 i j * hat x0 i j

/-- The gradient of the norm's scale: the sum of all rows' parts. -/
def dg (j : S1x1024.Idx) : EReal := ∑ i : Fin 2048, dgRow x0 x1 x2 i (j 1)

end

theorem idx : ∀ t : Fin grid0.N, win0_0.index t = ![t.val, 0] ∧ win0_1.index t = ![0, 0] ∧ win0_2.index t = ![t.val, 0]
    ∧ win0_3.index t = ![0, 0] ∧ win0_4.index t = ![t.val, 0] ∧ win0_5.index t = ![t.val, 0]
    ∧ win0_6.index t = ![0, 0] := by decide +kernel

/-- An element of a block of the gradient, computed from the blocks of point `t`, is the array's. -/
theorem core (c : Dev nD) (t : Fin cfg0.N) (x : S256x1024.Idx) (j : S2048x1024.Idx) (h0 : (j 0).val = t.val * 256 + (x 0).val)
    (h1 : (j 1).val = (x 1).val) :
    k0_pay11 (iblk m c 0 t) (iblk m c 1 t) (iblk m c 2 t) x = dx (m ((c : Thread nD τ).loc main_arg0)) (m ((c : Thread nD τ).loc main_arg1))
      (m ((c : Thread nD τ).loc main_arg2)) j := by
  unfold dx bdx dy err hat rs ms len eps
  pointwise [k0_pay11, k0_pay10, k0_pay8, k0_pay7, k0_pay6]
  blk_point [iblk, V, idx t]

/-- What point `t` adds to the scale's gradient: the sum over its own 256 rows. -/
theorem core_dg (c : Dev nD) (t : Fin cfg0.N) (j : S1x1024.Idx) :
    k0_pay2 (k0_pay7 (iblk m c 0 t)) (k0_pay10 (iblk m c 0 t) (iblk m c 1 t) (iblk m c 2 t)) j
      = ∑ r : Fin 256, dgRow (m ((c : Thread nD τ).loc main_arg0)) (m ((c : Thread nD τ).loc main_arg1))
      (m ((c : Thread nD τ).loc main_arg2))
        ⟨t.val * 256 + r.val, by have := lt_of_lt_of_eq t.isLt N_0; omega⟩ (j 1) := by
  unfold dgRow dy err hat rs ms len eps
  pointwise [k0_pay2, k0_pay10, k0_pay8, k0_pay7, k0_pay6]
  blk_point [iblk, V, idx t]

/-- What point `t` adds to the loss: half its own 256 rows' mean squared errors. -/
theorem core_loss (c : Dev nD) (t : Fin cfg0.N) (j : S1x128.Idx) :
    k0_pay3 (k0_pay9 (iblk m c 0 t) (iblk m c 1 t) (iblk m c 2 t)) j
      = Ideal.ofBits .f32 0x3F000000#32 * ∑ r : Fin 256, rowLoss (m ((c : Thread nD τ).loc main_arg0)) (m ((c : Thread nD τ).loc main_arg1))
      (m ((c : Thread nD τ).loc main_arg2))
        ⟨t.val * 256 + r.val, by have := lt_of_lt_of_eq t.isLt N_0; omega⟩ := by
  unfold rowLoss err hat rs ms len eps
  pointwise [k0_pay3, k0_pay9, k0_pay8, k0_pay7, k0_pay6]
  blk_point [iblk, V, idx t]

theorem pay4_eq (v w : FVec Ideal S256x1024 .f32) (a : Vec Ideal S1x1024 .f32) (j : S1x1024.Idx) :
    k0_pay4 v w a j = a j + k0_pay2 v w j := by
  pointwise [k0_pay4]

theorem pay5_eq (v : FVec Ideal S1x1 .f32) (a : Vec Ideal S1x128 .f32) (j : S1x128.Idx) :
    k0_pay5 v a j = a j + k0_pay3 v j := by
  pointwise [k0_pay5]

/-- The gradient's array after the run. -/
theorem final_dx (c : Dev nD) : (dats m 0 c).arrAt 4 cfg0.N = dx (m ((c : Thread nD τ).loc main_arg0)) (m ((c : Thread nD τ).loc main_arg1))
      (m ((c : Thread nD τ).loc main_arg2)) := by
  refine (dats m 0 c).arrAt_eq_of_covers 4 _ (by decide +kernel) fun t hf y => ?_
  have ht := lt_of_lt_of_eq t.isLt N_0
  blk_simp
  rw [after0_4]
  by_cases h : t.val % 8 = 0
  · rw [outsAt0_A m c t h (by omega)]
    frame_out
    refine core m c t y _ ?_ ?_ <;> blk_simp [idx t] <;> omega
  · rw [outsAt0_B m c t h (by omega)]
    frame_out
    refine core m c t y _ ?_ ?_ <;> blk_simp [idx t] <;> omega

/-- Its copy in bf16, which over the reals is the same. -/
theorem final_dxb (c : Dev nD) : (dats m 0 c).arrAt 5 cfg0.N = dx (m ((c : Thread nD τ).loc main_arg0)) (m ((c : Thread nD τ).loc main_arg1))
      (m ((c : Thread nD τ).loc main_arg2)) := by
  refine (dats m 0 c).arrAt_eq_of_covers 5 _ (by decide +kernel) fun t hf y => ?_
  have ht := lt_of_lt_of_eq t.isLt N_0
  blk_simp
  rw [after0_5]
  by_cases h : t.val % 8 = 0
  · rw [outsAt0_A m c t h (by omega)]
    frame_out
    refine core m c t y _ ?_ ?_ <;> blk_simp [idx t] <;> omega
  · rw [outsAt0_B m c t h (by omega)]
    frame_out
    refine core m c t y _ ?_ ?_ <;> blk_simp [idx t] <;> omega

/-- The scale's gradient after the run: the eight points' sums, one after the other. -/
theorem final_dg (c : Dev nD) : (dats m 0 c).arrAt 6 cfg0.N = dg (m ((c : Thread nD τ).loc main_arg0)) (m ((c : Thread nD τ).loc main_arg1))
      (m ((c : Thread nD τ).loc main_arg2)) := by
  refine (dats m 0 c).arrAt_eq_of_after_last 6 t0_7 (by decide +kernel) _ fun j => ?_
  blk_simp
  rw [after0_6, Pipeline.eq_sum_fin_of_reset_step_apply_last (fun n h => (outsAt0 m c n h).2.2.2) 8 (fun _ => 0)
    (fun p j => k0_pay2 (k0_pay7 (iblk m c 0 p)) (k0_pay10 (iblk m c 0 p) (iblk m c 1 p) (iblk m c 2 p)) j)
    (fun t h j => by
      have ht := lt_of_lt_of_eq t.isLt N_0
      rw [outsAt0_A m c t h (by omega), zero_add]; frame_out)
    (fun t h j => by
      have ht := lt_of_lt_of_eq t.isLt N_0
      rw [outsAt0_B m c t h (by omega)]; frame_out; rw [pay4_eq])
    (le_of_eq N_0) t0_7 rfl j, zero_add]
  show (_ : EReal) = _
  unfold dg
  exact (Finset.sum_congr rfl fun t _ => core_dg m c t j).trans
    (Fin.sum_mul_add_congr (fun t r hl => rfl) (by show 2048 = grid0.N * 256; rw [N_0]))

/-- The loss after the run, likewise. -/
theorem final_loss (c : Dev nD) : (dats m 0 c).arrAt 3 cfg0.N = loss (m ((c : Thread nD τ).loc main_arg0)) (m ((c : Thread nD τ).loc main_arg1))
      (m ((c : Thread nD τ).loc main_arg2)) := by
  refine (dats m 0 c).arrAt_eq_of_after_last 3 t0_7 (by decide +kernel) _ fun j => ?_
  blk_simp
  rw [after0_3, Pipeline.eq_sum_fin_of_reset_step_apply_last (fun n h => (outsAt0 m c n h).1) 8 (fun _ => 0)
    (fun p j => k0_pay3 (k0_pay9 (iblk m c 0 p) (iblk m c 1 p) (iblk m c 2 p)) j)
    (fun t h j => by
      have ht := lt_of_lt_of_eq t.isLt N_0
      rw [outsAt0_A m c t h (by omega), zero_add]; frame_out)
    (fun t h j => by
      have ht := lt_of_lt_of_eq t.isLt N_0
      rw [outsAt0_B m c t h (by omega)]; frame_out; rw [pay5_eq])
    (le_of_eq N_0) t0_7 rfl j, zero_add]
  show (_ : EReal) = _
  unfold loss
  refine (Finset.sum_congr rfl fun t _ => core_loss m c t j).trans ?_
  exact Fintype.sum_equiv (finCongr N_0) _ _ fun t => rfl

end Cert.Kernel18Ideal.FinalLoss

namespace Cert.Reference18Ideal.FinalLoss

open Cert.Reference18Ideal Cert.Reference18Ideal.Read Cert.Reference18Ideal.Gen Cert.Norm
open Cert.Kernel18Ideal.FinalLoss (hat err rowLoss dy loss dx dgRow dg)

/-- The constants as real numbers: one half, one part in 1024, and the quotient the product rule writes. -/
theorem half_c : Ideal.ofBits .f32 0x3F000000#32 = ((1 / 2 : ℝ) : EReal) := by
  simp only [Ideal.ofBits, Ideal.ieee]
  norm_num [BitVec.extractLsb', Nat.shiftRight_eq_div_pow]

theorem part_c : Ideal.ofBits .f32 0x3A800000#32 = ((1 / 1024 : ℝ) : EReal) := by
  simp only [Ideal.ofBits, Ideal.ieee]
  norm_num [BitVec.extractLsb', Nat.shiftRight_eq_div_pow]

/-- The factor of the error's square's derivative as the product rule writes it. -/
def fac : EReal := Ideal.div (Ideal.ofBits .f32 0x3F000000#32 * Ideal.ofBits .f32 0x3F800000#32) len

theorem fac_c : fac = ((1 / 2048 : ℝ) : EReal) := by
  unfold fac
  rw [half_c, Ideal.ofBits_one_f32, mul_one, len_c, div_c _ _ (by norm_num)]
  norm_num

variable (x0 : Vec Ideal S2048x1024 .f32) (x1 : Vec Ideal S1x1024 .f32) (x2 : Vec Ideal S2048x1024 .f32)

/-- The gradient along the norm's result as the product rule writes it: the square's derivative is a sum of two terms. -/
def dy2 (i : Fin 2048) (j : Fin 1024) : EReal := err x0 x1 x2 i j * fac + fac * err x0 x1 x2 i j

theorem ref_err (i : Fin 2048) (j : Fin 1024) : val_main_v15 (F := Ideal) x0 x1 x2 (ix2 i j) = err x0 x1 x2 i j := by
  unfold err hat rs ms len eps
  pointwise [val_main_v15, val_main_v14, val_main_v13, val_main_v12, val_main_v11, val_main_v7, val_main_v6, val_main_v5,
    val_main_v4, val_main_v3, val_main_v2, val_main_v1, val_main_v0, val_main_cst, val_main_cst_0, val_main_cst_1]
  try rfl

theorem ref_dy (i : Fin 2048) (j : Fin 1024) : val_main_v29 (F := Ideal) x0 x1 x2 (ix2 i j) = dy2 x0 x1 x2 i j := by
  unfold dy2 fac len
  rw [← ref_err]
  pointwise [val_main_v29, val_main_v28, val_main_v27, val_main_v26, val_main_v25, val_main_v24, val_main_v23, val_main_v22,
    val_main_cst_7, val_main_cst_8, val_main_cst_9]
  try rfl

/-- The printed gradient read at an element. -/
theorem ref_apply (i : Fin 2048) (j : Fin 1024) : val_main_v48 (F := Ideal) x0 x1 x2 (ix2 i j)
      = rdx (fun k => val_main_v29 (F := Ideal) x0 x1 x2 (ix2 i k)) (fun k => x1 (ix2 0 k)) (fun k => x0 (ix2 i k)) j := by
  unfold rdx thru rs ms len eps
  pointwise [val_main_v48, val_main_v47, val_main_v46, val_main_v45, val_main_v44, val_main_v43, val_main_v42, val_main_v41,
    val_main_v40, val_main_v39, val_main_v38, val_main_v37, val_main_v36, val_main_v35, val_main_v34, val_main_v33, val_main_v10,
    val_main_v9, val_main_v8, val_main_v7, val_main_v6, val_main_v5, val_main_v4, val_main_v3, val_main_v2, val_main_v1,
    val_main_v0, val_main_cst, val_main_cst_0, val_main_cst_1, val_main_cst_2, val_main_cst_11, val_main_cst_12,
    val_main_cst_13, Fin.sum_univ_one]
  try rfl

section
variable (h0 : ∀ i, ∃ r : ℝ, x0 i = (r : EReal)) (h1 : ∀ i, ∃ r : ℝ, x1 i = (r : EReal)) (h2 : ∀ i, ∃ r : ℝ, x2 i = (r : EReal))
include h0 h1 h2

theorem real_err (i : Fin 2048) (j : Fin 1024) : ∃ r : ℝ, err x0 x1 x2 i j = (r : EReal) := by
  obtain ⟨X, ex⟩ := Classical.axiom_of_choice (fun k : Fin 1024 => h0 (ix2 i k))
  obtain ⟨M, -, -, er⟩ := rs_c X
  obtain ⟨g, eg⟩ := h1 (ix2 0 j)
  obtain ⟨t, et⟩ := h2 (ix2 i j)
  unfold err hat
  rw [funext ex, er, ex j, eg, et, ← EReal.coe_mul, ← EReal.coe_mul, ← EReal.coe_sub]
  exact ⟨_, rfl⟩

/-- On reals the two terms add up to the kernel's one. -/
theorem dy_eq (i : Fin 2048) (j : Fin 1024) : dy2 x0 x1 x2 i j = dy x0 x1 x2 i j := by
  obtain ⟨e, he⟩ := real_err x0 x1 x2 h0 h1 h2 i j
  unfold dy2 dy
  rw [he, fac_c, part_c, ← EReal.coe_mul, ← EReal.coe_mul, ← EReal.coe_mul, ← EReal.coe_add]
  exact congrArg _ (by ring)

theorem real_dy (i : Fin 2048) (j : Fin 1024) : ∃ r : ℝ, dy x0 x1 x2 i j = (r : EReal) := by
  obtain ⟨e, he⟩ := real_err x0 x1 x2 h0 h1 h2 i j
  unfold dy
  rw [he, part_c, ← EReal.coe_mul]
  exact ⟨_, rfl⟩

theorem ref_dx : val_main_v48 (F := Ideal) x0 x1 x2 = dx x0 x1 x2 := by
  funext q
  obtain ⟨i, j, rfl⟩ : ∃ (i : Fin 2048) (j : Fin 1024), q = ix2 i j := ⟨q 0, q 1, eq_ix2 q⟩
  rw [ref_apply, funext fun k => (ref_dy x0 x1 x2 i k).trans (dy_eq x0 x1 x2 h0 h1 h2 i k),
    ← bdx_rdx (dy x0 x1 x2 i) _ _ (fun k => real_dy x0 x1 x2 h0 h1 h2 i k) (fun k => h1 _) (fun k => h0 _)]
  rfl

theorem ref_dxb : val_main_v50 (F := Ideal) x0 x1 x2 = dx x0 x1 x2 := by
  rw [← ref_dx x0 x1 x2 h0 h1 h2]
  funext q
  obtain ⟨i, j, rfl⟩ : ∃ (i : Fin 2048) (j : Fin 1024), q = ix2 i j := ⟨q 0, q 1, eq_ix2 q⟩
  rfl

theorem ref_dg : val_main_v32 (F := Ideal) x0 x1 x2 = dg x0 x1 x2 := by
  funext q
  obtain ⟨i, j, rfl⟩ : ∃ (i : Fin 1) (j : Fin 1024), q = ix2 i j := ⟨q 0, q 1, eq_ix2 q⟩
  refine Eq.trans (b := ∑ k : Fin 2048, hat x0 k j * val_main_v29 (F := Ideal) x0 x1 x2 (ix2 k j)) ?_
    (Finset.sum_congr rfl fun k _ => (mul_comm _ _).trans (by rw [ref_dy, dy_eq x0 x1 x2 h0 h1 h2]; rfl))
  unfold hat rs ms len eps
  pointwise [val_main_v32, val_main_v31, val_main_v30, val_main_v12, val_main_v11, val_main_v7, val_main_v6, val_main_v5,
    val_main_v4, val_main_v3, val_main_v2, val_main_v1, val_main_v0, val_main_cst, val_main_cst_0, val_main_cst_1, val_main_cst_10]
  try rfl

theorem real_rowLoss (i : Fin 2048) : ∃ r : ℝ, rowLoss x0 x1 x2 i = (r : EReal) := by
  obtain ⟨r, hr⟩ := real_dot (err x0 x1 x2 i) (err x0 x1 x2 i) (fun k => real_err x0 x1 x2 h0 h1 h2 i k)
    (fun k => real_err x0 x1 x2 h0 h1 h2 i k)
  unfold rowLoss
  rw [hr, len_c, div_c _ _ (by norm_num)]
  exact ⟨_, rfl⟩

/-- Half the sum of all rows is the sum of the halves of the 256-row sums. -/
theorem ref_loss : val_main_v49 (F := Ideal) x0 x1 x2 = loss x0 x1 x2 := by
  funext q
  obtain ⟨i, j, rfl⟩ : ∃ (i : Fin 1) (j : Fin 128), q = ix2 i j := ⟨q 0, q 1, eq_ix2 q⟩
  have e : val_main_v49 (F := Ideal) x0 x1 x2 (ix2 i j)
      = Ideal.ofBits .f32 0x3F000000#32 * ∑ i : Fin 2048, rowLoss x0 x1 x2 i := by
    unfold rowLoss len
    simp only [← ref_err]
    pointwise [val_main_v49, val_main_v21, val_main_v20, val_main_v19, val_main_v18, val_main_v17, val_main_v16, val_main_cst_3,
      val_main_cst_4, val_main_cst_5, val_main_cst_6]
    try rfl
  rw [e]
  unfold loss
  obtain ⟨R, hR⟩ := Classical.axiom_of_choice (real_rowLoss x0 x1 x2 h0 h1 h2)
  rw [half_c]
  simp only [hR, Cert.Kernel2Ideal.Stick.sum_c, ← EReal.coe_mul]
  refine congrArg _ ?_
  rw [← Finset.mul_sum]
  exact congrArg _ (Fin.sum_mul_add_congr (fun t r hl => rfl) (by norm_num)).symm

end

end Cert.Reference18Ideal.FinalLoss

namespace Cert.Proof.FinalLoss

open Cert.Kernel18Ideal.FinalLoss (dx dg loss)

/-- The precondition says that every argument is real, element by element. -/
theorem real_of_pre (x0 : Vec Ideal Cert.Kernel18Ideal.S2048x1024 .f32) (x1 : Vec Ideal Cert.Kernel18Ideal.S1x1024 .f32)
    (x2 : Vec Ideal Cert.Kernel18Ideal.S2048x1024 .f32) (h : Cert.Pre_finite18.fn (F := Ideal) x0 x1 x2 = fun _ => 1#1) :
    (∀ i, ∃ r : ℝ, x0 i = (r : EReal)) ∧ (∀ i, ∃ r : ℝ, x1 i = (r : EReal)) ∧ (∀ i, ∃ r : ℝ, x2 i = (r : EReal)) := by
  have hh := congrFun h (fun a => a.elim0)
  haveI : Subsingleton Cert.Pre_finite18.S_.Idx := ⟨fun a b => funext fun k => k.elim0⟩
  unfold Cert.Pre_finite18.fn at hh
  obtain ⟨hh, h2⟩ := IntOp.andi_eq_one.1 hh
  obtain ⟨h0, h1⟩ := IntOp.andi_eq_one.1 hh
  exact ⟨fun i => Cert.Reals.real_of_cmp _ (Host.reduce_andi_all _ _ _ _ _ h0 i),
    fun i => Cert.Reals.real_of_cmp _ (Host.reduce_andi_all _ _ _ _ _ h1 i),
    fun i => Cert.Reals.real_of_cmp _ (Host.reduce_andi_all _ _ _ _ _ h2 i)⟩

theorem algebraic : Cert.algebraic_Kernel18Ideal_Reference18Ideal_pre_finite18 := by
  intro m ρ m' ρ' hpre hagree
  refine ⟨fun c => loss (m ((c.tc : Thread _ _).loc Cert.Kernel18Ideal.main_arg0))
      (m ((c.tc : Thread _ _).loc Cert.Kernel18Ideal.main_arg1)) (m ((c.tc : Thread _ _).loc Cert.Kernel18Ideal.main_arg2)), fun c => dx (m ((c.tc : Thread _ _).loc Cert.Kernel18Ideal.main_arg0))
      (m ((c.tc : Thread _ _).loc Cert.Kernel18Ideal.main_arg1)) (m ((c.tc : Thread _ _).loc Cert.Kernel18Ideal.main_arg2)), fun c => dx (m ((c.tc : Thread _ _).loc Cert.Kernel18Ideal.main_arg0))
      (m ((c.tc : Thread _ _).loc Cert.Kernel18Ideal.main_arg1)) (m ((c.tc : Thread _ _).loc Cert.Kernel18Ideal.main_arg2)), fun c => dg (m ((c.tc : Thread _ _).loc Cert.Kernel18Ideal.main_arg0))
      (m ((c.tc : Thread _ _).loc Cert.Kernel18Ideal.main_arg1)) (m ((c.tc : Thread _ _).loc Cert.Kernel18Ideal.main_arg2)), ?_, ?_⟩
  · exact (θ_run Cert.Kernel18Ideal.defs _ _).mono
      (fun _ h c => ⟨(h c).1.trans (Cert.Kernel18Ideal.FinalLoss.final_loss m c),
        (h c).2.1.trans (Cert.Kernel18Ideal.FinalLoss.final_dx m c), (h c).2.2.1.trans (Cert.Kernel18Ideal.FinalLoss.final_dxb m c),
        (h c).2.2.2.1.trans (Cert.Kernel18Ideal.FinalLoss.final_dg m c), (h c).2.2.2.2⟩)
      (Cert.Kernel18Ideal.Value.run_blocks (F := Ideal) m ρ)
  · refine (θ_run Cert.Reference18Ideal.defs _ _).mono (fun _ h c => ⟨(h c).1.trans ?_, (h c).2.1.trans ?_, (h c).2.2.1.trans ?_,
        (h c).2.2.2.1.trans ?_, (h c).2.2.2.2⟩) (Cert.Reference18Ideal.Value.run (F := Ideal) m' ρ')
    · obtain ⟨h0, h1, h2⟩ := real_of_pre _ _ _ (hpre c)
      refine (Cert.Reference18Ideal.Read.val_main_v49_eq _ _ _).trans ?_
      rw [(hagree c).1, (hagree c).2.1, (hagree c).2.2]
      exact Cert.Reference18Ideal.FinalLoss.ref_loss _ _ _ h0 h1 h2
    · obtain ⟨h0, h1, h2⟩ := real_of_pre _ _ _ (hpre c)
      refine (Cert.Reference18Ideal.Read.val_main_v48_eq m' c).trans ?_
      rw [(hagree c).1, (hagree c).2.1, (hagree c).2.2]
      exact Cert.Reference18Ideal.FinalLoss.ref_dx _ _ _ h0 h1 h2
    · obtain ⟨h0, h1, h2⟩ := real_of_pre _ _ _ (hpre c)
      refine (Cert.Reference18Ideal.Read.val_main_v50_eq m' c).trans ?_
      rw [(hagree c).1, (hagree c).2.1, (hagree c).2.2]
      exact Cert.Reference18Ideal.FinalLoss.ref_dxb _ _ _ h0 h1 h2
    · obtain ⟨h0, h1, h2⟩ := real_of_pre _ _ _ (hpre c)
      refine (Cert.Reference18Ideal.Read.val_main_v32_eq _ _ _).trans ?_
      rw [(hagree c).1, (hagree c).2.1, (hagree c).2.2]
      exact Cert.Reference18Ideal.FinalLoss.ref_dg _ _ _ h0 h1 h2

theorem frame_reference : Cert.quiescent_Reference18Ideal := fun m ρ _ =>
  (θ_run Cert.Reference18Ideal.defs _ _).mono (fun r h => ⟨fun c => (h c).2.2.2.2,
      Idealize.ShloMosaic.sem_eq_zero_of_no_sems (by decide) r.2⟩)
    (Cert.Reference18Ideal.Value.run (F := Ideal) m ρ)

theorem frame_reference_pre : Cert.quiescent_Reference18Ideal_pre_finite18 := fun m ρ _ =>
  frame_reference m ρ trivial

end Cert.Proof.FinalLoss

end
-- ==== Proof.AdamSmall.lean ====
/- The optimiser on the norms' gains and the gates' biases. -/
module

public import proofs.«01_k».proof.Defs
public import proofs.«01_k».proof.Proof.Gen.Kernel19Ideal.Value
public import proofs.«01_k».proof.Proof.Gen.Reference19Ideal.Read
public import Idealize.ShloMosaic.Lib.Quiescent

@[expose] public section

noncomputable section

open Idealize.ShloMosaic Idealize.SL.Sem

namespace Cert.Proof.AdamSmall

open Cert.Reference19Ideal.Read

variable (w g m v : Vec Ideal Cert.Kernel19Ideal.S16x1024 .f32)

theorem step : val_main_v23 (F := Ideal) w g m v = Cert.Kernel19Ideal.Value.G4 w g m v := rfl

theorem first : val_main_v4 (F := Ideal) g m = Cert.Kernel19Ideal.Value.G5 g m := rfl

theorem second : val_main_v10 (F := Ideal) g v = Cert.Kernel19Ideal.Value.G6 g v := rfl

theorem algebraic : Cert.algebraic_Kernel19Ideal_Reference19Ideal := by
  intro m ρ m' ρ' _ hagree
  refine ⟨_, _, _, Cert.Kernel19Ideal.Value.run (F := Ideal) m ρ, ?_⟩
  refine (θ_run Cert.Reference19Ideal.defs _ _).mono (fun _ h c => ⟨(h c).1.trans ?_, (h c).2.1.trans ?_,
      (h c).2.2.1.trans ?_, (h c).2.2.2⟩) (Cert.Reference19Ideal.Value.run (F := Ideal) m' ρ')
  · rw [(hagree c).1, (hagree c).2.1, (hagree c).2.2.1, (hagree c).2.2.2]
    exact (val_main_v23_eq _ _ _ _).trans (step _ _ _ _)
  · rw [(hagree c).2.1, (hagree c).2.2.1]
    exact (val_main_v4_eq _ _).trans (first _ _)
  · rw [(hagree c).2.1, (hagree c).2.2.2]
    exact (val_main_v10_eq _ _).trans (second _ _)

theorem frame_reference : Cert.quiescent_Reference19Ideal := fun m ρ _ =>
  (θ_run Cert.Reference19Ideal.defs _ _).mono (fun r h => ⟨fun c => (h c).2.2.2,
      Idealize.ShloMosaic.sem_eq_zero_of_no_sems (by decide) r.2⟩)
    (Cert.Reference19Ideal.Value.run (F := Ideal) m ρ)

end Cert.Proof.AdamSmall

end
-- ==== Proof.FoxTile.lean ====
module

public import proofs.«01_k».proof.Proof.StickTile

@[expose] public section

/-!
The per-head row vectors and column vectors of the forgetting-attention backward kernel, in tiles of 256: what a load at a
tile's offsets reads and what a store there replaces, as `StickTile` has it for the matrices.
-/

noncomputable section

namespace Cert.FoxTile

open Idealize.ShloMosaic
open Cert.StickTile (Sums sumRect sumT)

/-- The two heads' rows of 2048. -/
abbrev Lanes : Shape := ⟨3, ![2, 1, 2048]⟩

/-- The 256 lanes of head `h` at tile `t`. -/
def lanRect (h : Fin 2) (t : Fin 8) : Rect Lanes := Rect.unit ![h.val, 0, 256 * t.val] ![1, 1, 256] (by
  have := t.isLt; have := h.isLt; intro a; fin_cases a <;> (simp; try omega))

variable {Val : EltTy → Type} {e : EltTy}

/-- The tiles of a row vector of each head. -/
def lanT (X : Lanes.Idx → Val e) (h : Fin 2) (t : Fin 8) : (⟨3, ![1, 1, 256]⟩ : Shape).Idx → Val e :=
  fun p => X ((lanRect h t).emb p)

/-- One head's tile replaced. -/
def put {α : Type} (T : Fin 2 → Fin 8 → α) (h : Fin 2) (t : Fin 8) (w : α) : Fin 2 → Fin 8 → α :=
  Function.update T h (Function.update (T h) t w)

theorem put_self {α : Type} (T : Fin 2 → Fin 8 → α) (h : Fin 2) (t : Fin 8) (w : α) : put T h t w h t = w := by
  unfold put; rw [Function.update_self, Function.update_self]

theorem put_ne {α : Type} (T : Fin 2 → Fin 8 → α) {h h' : Fin 2} {t t' : Fin 8} (w : α) (hn : h' ≠ h ∨ t' ≠ t) :
    put T h t w h' t' = T h' t' := by
  unfold put
  by_cases e : h' = h
  · subst e
    rw [Function.update_self, Function.update_of_ne (hn.resolve_left (fun h => h rfl))]
  · rw [Function.update_of_ne e]

theorem put2_zero {α : Type} (T : Fin 2 → Fin 8 → α) (t : Fin 8) (u w : α) : put (put T 0 t u) 1 t w 0 t = u :=
  (put_ne _ w (.inl (by decide))).trans (put_self _ _ _ _)

theorem put2_one {α : Type} (T : Fin 2 → Fin 8 → α) (t : Fin 8) (u w : α) : put (put T 0 t u) 1 t w 1 t = w :=
  put_self _ _ _ _

variable {sig : RefSig} {κ : Kind} {sp : Space}

theorem load_lan (v : View sig κ sp Lanes e) (f : v.ty.Contents Val) {off : Fin 3 → ℕ} {h' : Fin 2} {t : Fin 8}
    (h : off = ![h'.val, 0, 256 * t.val]) (inb : ∀ a, off a + (![1, 1, 256] : Fin 3 → ℕ) a ≤ Lanes.size a) :
    v.readAt Val (Rect.unit (s := Lanes) off ![1, 1, 256] inb).toLoadRect f = lanT (v.read Val f) h' t := by
  subst h; rfl

theorem store_lan (v : View sig κ sp Lanes e) (f : v.ty.Contents Val) {off : Fin 3 → ℕ} {h' : Fin 2} {t : Fin 8}
    (h : off = ![h'.val, 0, 256 * t.val]) (inb : ∀ a, off a + (![1, 1, 256] : Fin 3 → ℕ) a ≤ Lanes.size a)
    (w : (⟨3, ![1, 1, 256]⟩ : Shape).Idx → Val e)
    (L : _) :
    lanT (v.read Val (v.writes Val f (⟨Rect.unit (s := Lanes) off ![1, 1, 256] inb, w⟩ :: L)))
      = put (lanT (v.read Val (v.writes Val f L))) h' t w := by
  subst h
  funext h2 t2
  by_cases hh : h2 = h'
  · by_cases ht : t2 = t
    · subst hh ht; rw [put_self]
      funext p
      exact View.read_writes_cons_emb v f (lanRect h2 t2) w L p
    · rw [put_ne _ _ (.inr ht)]
      funext p
      have hp' : (p 2).val < 256 := (p 2).isLt
      have hne : t2.val ≠ t.val := fun h => ht (Fin.ext h)
      refine (View.read_writes_cons_miss_of_axis v f _ L _ (2 : Fin 3) (256 * t.val) 256 rfl rfl rfl ?_).trans rfl
      show 256 * t2.val + 1 * (p 2).val < _ ∨ _ ≤ 256 * t2.val + 1 * (p 2).val
      omega
  · rw [put_ne _ _ (.inl hh)]
    funext p
    have hp' : (p 0).val < 1 := (p 0).isLt
    have hne : h2.val ≠ h'.val := fun h => hh (Fin.ext h)
    refine (View.read_writes_cons_miss_of_axis v f _ L _ (0 : Fin 3) h'.val 1 rfl rfl rfl ?_).trans rfl
    show h2.val + 1 * (p 0).val < _ ∨ _ ≤ h2.val + 1 * (p 0).val
    omega

theorem store_sum (v : View sig κ sp Sums e) (f : v.ty.Contents Val) {off : Fin 3 → ℕ} {h' : Fin 2} {t : Fin 8}
    (h : off = ![h'.val, 256 * t.val, 0]) (inb : ∀ a, off a + (![1, 256, 1] : Fin 3 → ℕ) a ≤ Sums.size a)
    (w : (⟨3, ![1, 256, 1]⟩ : Shape).Idx → Val e)
    (L : _) :
    sumT (v.read Val (v.writes Val f (⟨Rect.unit (s := Sums) off ![1, 256, 1] inb, w⟩ :: L)))
      = put (sumT (v.read Val (v.writes Val f L))) h' t w := by
  subst h
  funext h2 t2
  by_cases hh : h2 = h'
  · by_cases ht : t2 = t
    · subst hh ht; rw [put_self]
      funext p
      exact View.read_writes_cons_emb v f (sumRect h2 t2) w L p
    · rw [put_ne _ _ (.inr ht)]
      funext p
      have hp' : (p 1).val < 256 := (p 1).isLt
      have hne : t2.val ≠ t.val := fun h => ht (Fin.ext h)
      refine (View.read_writes_cons_miss_of_axis v f _ L _ (1 : Fin 3) (256 * t.val) 256 rfl rfl rfl ?_).trans rfl
      show 256 * t2.val + 1 * (p 1).val < _ ∨ _ ≤ 256 * t2.val + 1 * (p 1).val
      omega
  · rw [put_ne _ _ (.inl hh)]
    funext p
    have hp' : (p 0).val < 1 := (p 0).isLt
    have hne : h2.val ≠ h'.val := fun h => hh (Fin.ext h)
    refine (View.read_writes_cons_miss_of_axis v f _ L _ (0 : Fin 3) h'.val 1 rfl rfl rfl ?_).trans rfl
    show h2.val + 1 * (p 0).val < _ ∨ _ ≤ h2.val + 1 * (p 0).val
    omega

/-- A store over a whole row vector leaves what was stored. -/
theorem store_lanes (v : View sig κ sp Lanes e) (f : v.ty.Contents Val)
    (inb : ∀ a, (![0, 0, 0] : Fin 3 → ℕ) a + (![2, 1, 2048] : Fin 3 → ℕ) a ≤ Lanes.size a) (w : Lanes.Idx → Val e) :
    v.read Val (v.writes Val f [⟨Rect.unit (s := Lanes) ![0, 0, 0] ![2, 1, 2048] inb, w⟩]) = w := by
  funext y
  have hE : (Rect.unit (s := Lanes) ![0, 0, 0] ![2, 1, 2048] inb).emb y = y := by
    funext a; fin_cases a <;> exact Fin.ext (by show 0 + 1 * _ = _; omega)
  have := View.read_writes_cons_emb v f (Rect.unit (s := Lanes) ![0, 0, 0] ![2, 1, 2048] inb) w [] y
  rwa [hE] at this

/-- The row vectors with the given tiles. -/
def unlan (T : Fin 2 → Fin 8 → (⟨3, ![1, 1, 256]⟩ : Shape).Idx → Val e) : Lanes.Idx → Val e := fun y =>
  have hy : (y 2).val < 2048 := (y 2).isLt
  T (y 0) ⟨(y 2).val / 256, by omega⟩ (ix3 (0 : Fin 1) (0 : Fin 1) (⟨(y 2).val % 256, by omega⟩ : Fin 256))

/-- The column vectors with the given tiles. -/
def unsum (T : Fin 2 → Fin 8 → (⟨3, ![1, 256, 1]⟩ : Shape).Idx → Val e) : Sums.Idx → Val e := fun y =>
  have hy : (y 1).val < 2048 := (y 1).isLt
  T (y 0) ⟨(y 1).val / 256, by omega⟩ (ix3 (0 : Fin 1) (⟨(y 1).val % 256, by omega⟩ : Fin 256) (0 : Fin 1))

theorem unlan_lanT (X : Lanes.Idx → Val e) : unlan (lanT X) = X := by
  funext y
  have hy : (y 2).val < 2048 := (y 2).isLt
  refine congrArg X (Rect.emb_eq_of_coords _ _ _ fun a => ?_)
  fin_cases a
  · show (y 0).val = (y 0).val + 1 * 0; omega
  · show (y 1).val = 0 + 1 * 0; have : (y 1).val < 1 := (y 1).isLt; omega
  · show (y 2).val = 256 * ((y 2).val / 256) + 1 * ((y 2).val % 256); omega

theorem unsum_sumT (X : Sums.Idx → Val e) : unsum (sumT X) = X := by
  funext y
  have hy : (y 1).val < 2048 := (y 1).isLt
  refine congrArg X (Rect.emb_eq_of_coords _ _ _ fun a => ?_)
  fin_cases a
  · show (y 0).val = (y 0).val + 1 * 0; omega
  · show (y 1).val = 256 * ((y 1).val / 256) + 1 * ((y 1).val % 256); omega
  · show (y 2).val = 0 + 1 * 0; have : (y 2).val < 1 := (y 2).isLt; omega

end Cert.FoxTile

end
-- ==== Proof.FoxStep.lean ====
module

public import proofs.«01_k».proof.Proof.Gen.Kernel20Ideal.Frame
public import proofs.«01_k».proof.Proof.Gen.Kernel20Ideal.Skeleton
public import proofs.«01_k».proof.Proof.FoxTile

@[expose] public section

set_option maxRecDepth 16384

/-!
What one grid point of the forgetting-attention backward kernel computes, written as plain functions of the tiles it reads:
a row of query tiles walks the key tiles left of the diagonal, carrying the query gradient and the two heads' row sums, and
ends with the masked tile on the diagonal.
-/

noncomputable section

namespace Cert.Kernel20Ideal.Fox

open Cert.Kernel20Ideal Cert.Kernel20Ideal.Gen
open Idealize.ShloMosaic Idealize.ShloMosaic.TcCoe
open Cert.StickTile Cert.FoxTile

variable {F : FTy → Type} [FloatOps F] [Named F]

/-- The tiles the two loops read: as prepared, the two heads' query rows (scaled), key rows (scaled), the key and value rows
    of both heads, the output-gradient rows and the transposes; as given, the rows of the result and of its gradient, the
    log-sum-exps and the two heads' gate sums at queries and at keys. -/
structure Tiles (F : FTy → Type) where
  q0 : Fin 8 → FVec F S256x128 .bf16
  q1 : Fin 8 → FVec F S256x128 .bf16
  k0 : Fin 8 → FVec F S256x128 .bf16
  k1 : Fin 8 → FVec F S256x128 .bf16
  kb : Fin 8 → FVec F S256x128 .bf16
  vb : Fin 8 → FVec F S256x128 .bf16
  o0 : Fin 8 → FVec F S256x128 .bf16
  o1 : Fin 8 → FVec F S256x128 .bf16
  qt0 : Fin 8 → FVec F S128x256 .bf16
  qt1 : Fin 8 → FVec F S128x256 .bf16
  ot0 : Fin 8 → FVec F S128x256 .bf16
  ot1 : Fin 8 → FVec F S128x256 .bf16
  x4 : Fin 8 → Vec F S256x128 .f32
  x5 : Fin 8 → Vec F S256x128 .f32
  ls : Fin 2 → Fin 8 → Vec F S1x256x1 .f32
  fq : Fin 2 → Fin 8 → Vec F S1x256x1 .f32
  fk : Fin 2 → Fin 8 → Vec F S1x1x256 .f32

/-- What the walk along a row of tiles carries: the query gradient so far and the two heads' row sums, lane by lane. -/
abbrev Carry (F : FTy → Type) := FVec F S256x128 .f32 × FVec F S256x128 .f32 × FVec F S256x128 .f32

/-- What the walk adds to, tile by tile: the key and value gradients (transposed) and the two heads' column sums. -/
abbrev Acc (F : FTy → Type) :=
  (Fin 8 → FVec F S128x256 .f32) × (Fin 8 → FVec F S128x256 .f32) × (Fin 2 → Fin 8 → FVec F S1x1x256 .f32)

abbrev Walk (F : FTy → Type) := Carry F × Acc F

/-- A tile of what the walk adds to. -/
abbrev AccTile (F : FTy → Type) :=
  FVec F S128x256 .f32 × FVec F S128x256 .f32 × FVec F S1x1x256 .f32 × FVec F S1x1x256 .f32

def accAt (g : Acc F) (j : Fin 8) : AccTile F := (g.1 j, g.2.1 j, g.2.2 0 j, g.2.2 1 j)

def accPut (g : Acc F) (j : Fin 8) (r : AccTile F) : Acc F :=
  (Function.update g.1 j r.1, Function.update g.2.1 j r.2.1, put (put g.2.2 0 j r.2.2.1) 1 j r.2.2.2)

/-- One tile left of the diagonal: query tile `i`, key tile `j`. -/
def inner (D : Tiles F) (i j : Fin 8) (a : Carry F) (g : AccTile F) : Carry F × AccTile F :=
  let v2 := k0_pay1
  let v33 := k0_pay61 v2 (D.x5 i) (D.x4 i); let v37 := k0_pay62 v2 (D.x5 i) (D.x4 i)
  let v47 := k0_pay63 (D.ls 0 i) (D.fq 0 i); let v51 := k0_pay64 (D.ls 1 i) (D.fq 1 i)
  let v219 := k0_pay35 v33 v47 (D.kb j) (D.vb j) (D.q0 i) (D.o0 i) (D.fk 0 j)
  let v220 := k0_pay36 v47 (D.kb j) (D.q0 i) (D.fk 0 j)
  let v231 := k0_pay38 v37 v51 (D.kb j) (D.vb j) (D.q1 i) (D.o1 i) (D.fk 1 j)
  let v232 := k0_pay39 v51 (D.kb j) (D.q1 i) (D.fk 1 j)
  ((k0_pay45 a.1 v219 v231 (D.k0 j) (D.k1 j), k0_pay43 a.2.1 v219, k0_pay67 a.2.2 v231),
   k0_pay68 (k0_pay46 v219 v231 g.1 (D.qt0 i) (D.qt1 i)),
   k0_pay69 v232 (k0_pay41 v220 g.2.1 (D.ot0 i)) (D.ot1 i) (constant S128x256 .f32 0x00000000#32),
   k0_pay42 v219 g.2.2.1, k0_pay66 v231 g.2.2.2)

/-- One step of the walk along row `i`: tile `j` of what it adds to replaced, the carried values moved on. -/
def step (D : Tiles F) (i j : Fin 8) (w : Walk F) : Walk F :=
  ((inner D i j w.1 (accAt w.2 j)).1, accPut w.2 j (inner D i j w.1 (accAt w.2 j)).2)

/-- The walk along row `i` over its first `n` tiles. -/
def walk (D : Tiles F) (i : Fin 8) (w : Walk F) : ℕ → Walk F
  | 0 => w
  | n + 1 => step D i (Fin.ofNat 8 n) (walk D i w n)

/-- The carried values at the start of a row. -/
def carry0 : Carry F := (k0_pay65, k0_pay65, k0_pay65)

/-- The results of a row of tiles: its query gradient and the two heads' row sums. -/
abbrev RowTile (F : FTy → Type) := FVec F S256x128 .bf16 × FVec F S1x256x1 .f32 × FVec F S1x256x1 .f32

/-- The tile on the diagonal. -/
def diag (D : Tiles F) (i : Fin 8) (a : Carry F) (g : AccTile F) : RowTile F × AccTile F :=
  let v2 := k0_pay1; let v19 := k0_pay8
  let v33 := k0_pay61 v2 (D.x5 i) (D.x4 i); let v37 := k0_pay62 v2 (D.x5 i) (D.x4 i)
  let v47 := k0_pay63 (D.ls 0 i) (D.fq 0 i); let v51 := k0_pay64 (D.ls 1 i) (D.fq 1 i)
  let v77 := k0_pay74 (D.vb i) (D.o1 i)
  let v92 := k0_pay76 v19 v33 v47 (D.kb i) (D.vb i) (D.q0 i) (D.o0 i) (D.fk 0 i)
  let v93 := k0_pay77 v19 v47 (D.kb i) (D.q0 i) (D.fk 0 i)
  let v100 := k0_pay78 v51 (D.kb i) (D.q1 i) (D.fk 1 i); let v102 := k0_pay79 v19
  let v108 := k0_pay81 v37 v77 v100 v102; let v109 := k0_pay82 v100 v102
  ((k0_pay10 (k0_pay89 v37 a.1 v77 v92 v100 v102 (D.k0 i) (D.k1 i)),
    k0_pay93 (k0_pay87 a.2.1 v92), k0_pay9 (k0_pay94 a.2.2 v108)),
   k0_pay91 (k0_pay84 v92 g.1 (D.qt0 i)) (k0_pay88 v37 v77 v100 v102) (D.qt1 i),
   k0_pay92 v109 (k0_pay85 v93 g.2.1 (D.ot0 i)) (D.ot1 i),
   k0_pay86 v92 g.2.2.1, k0_pay90 v108 g.2.2.2)

/-- What the rows leave, tile by tile: the query gradient, the row sums, and what the walks add to. -/
abbrev Grads (F : FTy → Type) :=
  ((Fin 8 → FVec F S256x128 .bf16) × (Fin 2 → Fin 8 → FVec F S1x256x1 .f32)) × Acc F

/-- Row `i` of tiles: the walk, then the diagonal tile. -/
def row (D : Tiles F) (i : Fin 8) (g : Grads F) : Grads F :=
  let w := walk D i (carry0, g.2) i.val
  let r := diag D i w.1 (accAt w.2 i)
  ((Function.update g.1.1 i r.1.1, put (put g.1.2 0 i r.1.2.1) 1 i r.1.2.2), accPut w.2 i r.2)

theorem row_of_walk (D : Tiles F) (i : Fin 8) (g : Grads F) (w : Walk F) (h : w = walk D i (carry0, g.2) i.val) :
    row D i g = ((Function.update g.1.1 i (diag D i w.1 (accAt w.2 i)).1.1,
      put (put g.1.2 0 i (diag D i w.1 (accAt w.2 i)).1.2.1) 1 i (diag D i w.1 (accAt w.2 i)).1.2.2),
      accPut w.2 i (diag D i w.1 (accAt w.2 i)).2) := by
  subst h; rfl

/-- The first `n` rows of tiles. -/
def rows (D : Tiles F) (g : Grads F) : ℕ → Grads F
  | 0 => g
  | n + 1 => row D (Fin.ofNat 8 n) (rows D g n)

/-- Tile `t` of every array the first loop writes taken from `D`. -/
def setTile (D T : Tiles F) (t : Fin 8) : Tiles F where
  q0 := Function.update T.q0 t (D.q0 t)
  q1 := Function.update T.q1 t (D.q1 t)
  k0 := Function.update T.k0 t (D.k0 t)
  k1 := Function.update T.k1 t (D.k1 t)
  kb := Function.update T.kb t (D.kb t)
  vb := Function.update T.vb t (D.vb t)
  o0 := Function.update T.o0 t (D.o0 t)
  o1 := Function.update T.o1 t (D.o1 t)
  qt0 := Function.update T.qt0 t (D.qt0 t)
  qt1 := Function.update T.qt1 t (D.qt1 t)
  ot0 := Function.update T.ot0 t (D.ot0 t)
  ot1 := Function.update T.ot1 t (D.ot1 t)
  x4 := T.x4
  x5 := T.x5
  ls := T.ls
  fq := T.fq
  fk := T.fk

/-- The first `n` tiles taken from `D`. -/
def fill (D T : Tiles F) : ℕ → Tiles F
  | 0 => T
  | n + 1 => setTile D (fill D T n) (Fin.ofNat 8 n)

/-- The first `n` of eight values taken from `p`. -/
def fillF {α : Type} (p g : Fin 8 → α) : ℕ → Fin 8 → α
  | 0 => g
  | n + 1 => Function.update (fillF p g n) (Fin.ofNat 8 n) (p (Fin.ofNat 8 n))

theorem ne_of_lt_succ {n : ℕ} (hn : n + 1 ≤ 8) {t : Fin 8} (ht : t.val < n + 1) (e : t ≠ Fin.ofNat 8 n) : t.val < n := by
  have : t.val ≠ n := fun h' => e (Fin.ext (h'.trans (Nat.mod_eq_of_lt (show n < 8 by omega)).symm))
  omega

theorem fillF_of_lt {α : Type} (p g : Fin 8 → α) : ∀ n : ℕ, n ≤ 8 → ∀ t : Fin 8, t.val < n → fillF p g n t = p t
  | 0, _, _, h => absurd h (Nat.not_lt_zero _)
  | n + 1, hn, t, h => by
    by_cases e : t = Fin.ofNat 8 n
    · subst e; exact Function.update_self ..
    · exact (Function.update_of_ne e _ _).trans (fillF_of_lt p g n (by omega) t (ne_of_lt_succ hn h e))

theorem fillF_8 {α : Type} (p g : Fin 8 → α) : fillF p g 8 = p := funext fun t => fillF_of_lt p g 8 le_rfl t t.isLt

theorem fill_eq (D T : Tiles F) : ∀ n, fill D T n = ⟨fillF D.q0 T.q0 n, fillF D.q1 T.q1 n, fillF D.k0 T.k0 n,
    fillF D.k1 T.k1 n, fillF D.kb T.kb n, fillF D.vb T.vb n, fillF D.o0 T.o0 n, fillF D.o1 T.o1 n, fillF D.qt0 T.qt0 n,
    fillF D.qt1 T.qt1 n, fillF D.ot0 T.ot0 n, fillF D.ot1 T.ot1 n, T.x4, T.x5, T.ls, T.fq, T.fk⟩
  | 0 => rfl
  | n + 1 => by rw [fill, fill_eq D T n]; rfl

theorem fill_8 (D T : Tiles F) (h4 : D.x4 = T.x4) (h5 : D.x5 = T.x5) (hl : D.ls = T.ls) (hq : D.fq = T.fq)
    (hk : D.fk = T.fk) : fill D T 8 = D := by
  rw [fill_eq]; simp only [fillF_8, ← h4, ← h5, ← hl, ← hq, ← hk]

/-- The tiles the first loop makes of the query, key, value and output-gradient rows, with the others as given. -/
def prep (X1 X2 X3 X4 X5 : FVec F S2048x128 .f32) (L Q : FVec F S2x2048x1 .f32) (K : FVec F S2x1x2048 .f32) : Tiles F where
  q0 t := k0_pay15 k0_pay1 (rowT (Val := Elt F) (e := .f32) X1 t)
  q1 t := k0_pay16 k0_pay1 (rowT (Val := Elt F) (e := .f32) X1 t)
  k0 t := k0_pay19 k0_pay1 (rowT (Val := Elt F) (e := .f32) X2 t)
  k1 t := k0_pay20 k0_pay1 (rowT (Val := Elt F) (e := .f32) X2 t)
  kb t := k0_pay21 (rowT (Val := Elt F) (e := .f32) X2 t)
  vb t := k0_pay22 (rowT (Val := Elt F) (e := .f32) X3 t)
  o0 t := k0_pay24 k0_pay1 (rowT (Val := Elt F) (e := .f32) X5 t)
  o1 t := k0_pay25 k0_pay1 (rowT (Val := Elt F) (e := .f32) X5 t)
  qt0 t := k0_pay28 k0_pay2 (k0_pay13 (rowT (Val := Elt F) (e := .f32) X1 t))
  qt1 t := k0_pay29 k0_pay2 (k0_pay13 (rowT (Val := Elt F) (e := .f32) X1 t))
  ot0 t := k0_pay3 (k0_pay32 k0_pay2 (rowT (Val := Elt F) (e := .f32) X5 t))
  ot1 t := k0_pay4 (k0_pay33 k0_pay2 (rowT (Val := Elt F) (e := .f32) X5 t))
  x4 := rowT (Val := Elt F) (e := .f32) X4
  x5 := rowT (Val := Elt F) (e := .f32) X5
  ls := sumT (Val := Elt F) (e := .f32) L
  fq := sumT (Val := Elt F) (e := .f32) Q
  fk := lanT (Val := Elt F) (e := .f32) K

theorem row_snd (D : Tiles F) (i : Fin 8) (g g' : Grads F) (h : g.2 = g'.2) : (row D i g).2 = (row D i g').2 := by
  unfold row; rw [h]

theorem rows_snd (D : Tiles F) (g g' : Grads F) (h : g.2 = g'.2) : ∀ n, (rows D g n).2 = (rows D g' n).2
  | 0 => h
  | n + 1 => row_snd D _ _ _ (rows_snd D g g' h n)

/-- The results of the rows are overwritten tile by tile: they do not depend on what was there. -/
theorem rows_fst (D : Tiles F) (g g' : Grads F) (h : g.2 = g'.2) : ∀ n : ℕ, n ≤ 8 → ∀ t : Fin 8, t.val < n →
    (rows D g n).1.1 t = (rows D g' n).1.1 t ∧ ∀ b, (rows D g n).1.2 b t = (rows D g' n).1.2 b t
  | 0, _, _, ht => absurd ht (Nat.not_lt_zero _)
  | n + 1, hn, t, ht => by
    have hs := rows_snd D g g' h n
    by_cases e : t = Fin.ofNat 8 n
    · subst e
      simp only [rows, row]
      rw [Function.update_self, Function.update_self, hs]
      refine ⟨rfl, fun b => ?_⟩
      match b with
      | 0 => rw [put2_zero, put2_zero]
      | 1 => rw [put2_one, put2_one]
    · simp only [rows, row]
      rw [Function.update_of_ne e, Function.update_of_ne e]
      refine ⟨(rows_fst D g g' h n (by omega) t (ne_of_lt_succ hn ht e)).1, fun b => ?_⟩
      rw [put_ne _ _ (.inr e), put_ne _ _ (.inr e), put_ne _ _ (.inr e), put_ne _ _ (.inr e)]
      exact (rows_fst D g g' h n (by omega) t (ne_of_lt_succ hn ht e)).2 b

/-- Before the first row. -/
def start : Grads F := ((fun _ _ => Scalar.ofBits .bf16 0x0000#16, fun _ _ _ => Scalar.ofBits .f32 0x00000000#32),
  colT (Val := Elt F) (e := .f32) (k0_pay5 (F := F)), colT (Val := Elt F) (e := .f32) (k0_pay6 (F := F)),
  lanT (Val := Elt F) (e := .f32) (k0_pay7 (F := F)))

/-- The query gradient of a grid point. -/
def dq (D : Tiles F) : FVec F S2048x128 .bf16 := unrow (Val := Elt F) (e := .bf16) (rows D start 8).1.1
/-- The key gradient of a grid point. -/
def dk (D : Tiles F) : FVec F S2048x128 .bf16 := unrow (Val := Elt F) (e := .bf16) fun t => k0_pay11 ((rows D start 8).2.1 t)
/-- The value gradient of a grid point. -/
def dv (D : Tiles F) : FVec F S2048x128 .bf16 := unrow (Val := Elt F) (e := .bf16) fun t => k0_pay12 ((rows D start 8).2.2.1 t)
/-- The gradient of the gate sums at the keys. -/
def dfr (D : Tiles F) : FVec F S2x1x2048 .f32 := unlan (Val := Elt F) (e := .f32) (rows D start 8).2.2.2
/-- The gradient of the gate sums at the queries. -/
def dfc (D : Tiles F) : FVec F S2x2048x1 .f32 := unsum (Val := Elt F) (e := .f32) (rows D start 8).1.2

theorem eq_dq (D : Tiles F) (X : FVec F S2048x128 .bf16) (g : Grads F) (hg : g.2 = (start (F := F)).2)
    (h : rowT (Val := Elt F) (e := .bf16) X = (rows D g 8).1.1) : X = dq D :=
  row_ext (Val := Elt F) (e := .bf16) fun t =>
    (congrFun h t).trans ((rows_fst D g start hg 8 le_rfl t t.isLt).1.trans (congrFun (rowT_unrow (Val := Elt F) (e := .bf16) _).symm t))

theorem eq_dfc (D : Tiles F) (X : FVec F S2x2048x1 .f32) (g : Grads F) (hg : g.2 = (start (F := F)).2)
    (h : sumT (Val := Elt F) (e := .f32) X = (rows D g 8).1.2) : X = dfc D := by
  rw [← unsum_sumT (Val := Elt F) (e := .f32) X, h]
  exact congrArg (unsum (Val := Elt F) (e := .f32)) (funext fun b => funext fun t => (rows_fst D g start hg 8 le_rfl t t.isLt).2 b)

theorem eq_dk (D : Tiles F) (X : FVec F S2048x128 .bf16) (G : Fin 8 → FVec F S128x256 .f32) (hG : G = (rows D start 8).2.1)
    (h : rowT (Val := Elt F) (e := .bf16) X = fun t => k0_pay11 (G t)) : X = dk D :=
  row_ext (Val := Elt F) (e := .bf16) fun t => by
    rw [h]; unfold dk; rw [rowT_unrow, hG]

theorem eq_dv (D : Tiles F) (X : FVec F S2048x128 .bf16) (G : Fin 8 → FVec F S128x256 .f32) (hG : G = (rows D start 8).2.2.1)
    (h : rowT (Val := Elt F) (e := .bf16) X = fun t => k0_pay12 (G t)) : X = dv D :=
  row_ext (Val := Elt F) (e := .bf16) fun t => by
    rw [h]; unfold dv; rw [rowT_unrow, hG]

theorem eq_dfr (D : Tiles F) (X : FVec F S2x1x2048 .f32) (h : lanT (Val := Elt F) (e := .f32) X = (rows D start 8).2.2.2) :
    X = dfr D := by
  rw [← unlan_lanT (Val := Elt F) (e := .f32) X, h]; rfl

/-! ## The printed offsets are the tiles' -/

theorem trips2 : k0_t2_loop.trips = 8 := by decide +kernel
theorem trips1 : k0_t1_loop.trips = 8 := by decide +kernel
theorem trips5 : k0_t5_loop.trips = 8 := by decide +kernel
theorem trips3 : ∀ i : Fin k0_t2_loop.trips, (k0_t3_loop i).trips = i.val := by decide +kernel
theorem trips4 : ∀ i : Fin k0_t2_loop.trips, (k0_t4_loop i).trips = 0 := by decide +kernel

/-- The query tile of an outer trip. -/
def qi (i : Fin k0_t2_loop.trips) : Fin 8 := ⟨i.val, trips2 ▸ i.isLt⟩
/-- The key tile of an inner trip. -/
def kj {i : Fin k0_t2_loop.trips} (j : Fin (k0_t3_loop i).trips) : Fin 8 :=
  ⟨j.val, by have := j.isLt; have := trips3 i; have := (qi i).isLt; simp only [qi] at this; omega⟩

theorem off1 : ∀ t : Fin k0_t1_loop.trips, k0_off1 t = ![256 * t.val, 0] := by decide +kernel
theorem off2 : ∀ t : Fin k0_t1_loop.trips, k0_off2 t = ![0, 256 * t.val] := by decide +kernel
theorem off3 : ∀ t : Fin k0_t2_loop.trips, k0_off3 t = ![256 * (qi t).val, 0] := by decide +kernel
theorem off4 : ∀ t : Fin k0_t2_loop.trips, k0_off4 t = ![(0 : Fin 2).val, 256 * (qi t).val, 0] := by decide +kernel
theorem off5 : ∀ t : Fin k0_t2_loop.trips, k0_off5 t = ![(1 : Fin 2).val, 256 * (qi t).val, 0] := by decide +kernel
theorem off6 : ∀ (i : Fin k0_t2_loop.trips) (j : Fin (k0_t3_loop i).trips), k0_off6 i j = ![256 * (kj j).val, 0] := by decide +kernel
theorem off7 : ∀ t : Fin k0_t2_loop.trips, k0_off7 t = ![256 * (qi t).val, 0] := by decide +kernel
theorem off8 : ∀ (i : Fin k0_t2_loop.trips) (j : Fin (k0_t3_loop i).trips), k0_off8 i j = ![(0 : Fin 2).val, 0, 256 * (kj j).val] := by decide +kernel
theorem off9 : ∀ (i : Fin k0_t2_loop.trips) (j : Fin (k0_t3_loop i).trips), k0_off9 i j = ![(1 : Fin 2).val, 0, 256 * (kj j).val] := by decide +kernel
theorem off10 : ∀ (i : Fin k0_t2_loop.trips) (j : Fin (k0_t3_loop i).trips), k0_off10 i j = ![0, 256 * (kj j).val] := by decide +kernel
theorem off11 : ∀ t : Fin k0_t2_loop.trips, k0_off11 t = ![0, 256 * (qi t).val] := by decide +kernel
theorem off18 : ∀ t : Fin k0_t2_loop.trips, k0_off18 t = ![(0 : Fin 2).val, 0, 256 * (qi t).val] := by decide +kernel
theorem off19 : ∀ t : Fin k0_t2_loop.trips, k0_off19 t = ![(1 : Fin 2).val, 0, 256 * (qi t).val] := by decide +kernel
theorem off20 : ∀ t : Fin k0_t2_loop.trips, k0_off20 t = ![0, 256 * (qi t).val] := by decide +kernel
theorem off21 : ∀ t : Fin k0_t5_loop.trips, k0_off21 t = ![0, 256 * t.val] := by decide +kernel
theorem off22 : ∀ t : Fin k0_t5_loop.trips, k0_off22 t = ![256 * t.val, 0] := by decide +kernel

end Cert.Kernel20Ideal.Fox

end
-- ==== Proof.FoxRun.lean ====
module

public import proofs.«01_k».proof.Proof.Gen.Kernel20Ideal.Frame
public import proofs.«01_k».proof.Proof.Gen.Kernel20Ideal.Skeleton
public import proofs.«01_k».proof.Proof.FoxStep

@[expose] public section

set_option maxRecDepth 16384

/-!
One trip of each of the loops of the body, run on whole arrays with any contents: what each trip leaves is stated tile by
tile, by the functions of the step module.
-/

noncomputable section

namespace Cert.Kernel20Ideal.Fox

open Cert.Kernel20Ideal Cert.Kernel20Ideal.Gen
open Idealize.ShloMosaic Idealize.ShloMosaic.TcCoe Idealize.ShloMosaic.Tactic
open Cert.StickTile Cert.FoxTile
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

section

variable (i : grid0.Coords)
  (arg1 : Memref sig .tc .vmem S2048x128 .f32) (harg1 : arg1.IsWhole)
  (arg2 : Memref sig .tc .vmem S2048x128 .f32) (harg2 : arg2.IsWhole)
  (arg3 : Memref sig .tc .vmem S2048x128 .f32) (harg3 : arg3.IsWhole)
  (arg4 : Memref sig .tc .vmem S2048x128 .f32) (harg4 : arg4.IsWhole)
  (arg5 : Memref sig .tc .vmem S2048x128 .f32) (harg5 : arg5.IsWhole)
  (arg6 : Memref sig .tc .vmem S2x2048x1 .f32) (harg6 : arg6.IsWhole)
  (arg7 : Memref sig .tc .vmem S2x2048x1 .f32) (harg7 : arg7.IsWhole)
  (arg8 : Memref sig .tc .vmem S2x1x2048 .f32) (harg8 : arg8.IsWhole)
  (arg9 : Memref sig .tc .vmem S2048x128 .bf16) (harg9 : arg9.IsWhole)
  (arg10 : Memref sig .tc .vmem S2048x128 .bf16) (harg10 : arg10.IsWhole)
  (arg11 : Memref sig .tc .vmem S2048x128 .bf16) (harg11 : arg11.IsWhole)
  (arg12 : Memref sig .tc .vmem S2x1x2048 .f32) (harg12 : arg12.IsWhole)
  (arg13 : Memref sig .tc .vmem S2x2048x1 .f32) (harg13 : arg13.IsWhole)
  (arg14 : Memref sig .tc .vmem S2048x128 .bf16) (harg14 : arg14.IsWhole)
  (arg15 : Memref sig .tc .vmem S2048x128 .bf16) (harg15 : arg15.IsWhole)
  (arg16 : Memref sig .tc .vmem S2048x128 .bf16) (harg16 : arg16.IsWhole)
  (arg17 : Memref sig .tc .vmem S2048x128 .bf16) (harg17 : arg17.IsWhole)
  (arg18 : Memref sig .tc .vmem S2048x128 .bf16) (harg18 : arg18.IsWhole)
  (arg19 : Memref sig .tc .vmem S2048x128 .bf16) (harg19 : arg19.IsWhole)
  (arg20 : Memref sig .tc .vmem S2048x128 .bf16) (harg20 : arg20.IsWhole)
  (arg21 : Memref sig .tc .vmem S2048x128 .bf16) (harg21 : arg21.IsWhole)
  (arg22 : Memref sig .tc .vmem S128x2048 .bf16) (harg22 : arg22.IsWhole)
  (arg23 : Memref sig .tc .vmem S128x2048 .bf16) (harg23 : arg23.IsWhole)
  (arg24 : Memref sig .tc .vmem S128x2048 .bf16) (harg24 : arg24.IsWhole)
  (arg25 : Memref sig .tc .vmem S128x2048 .bf16) (harg25 : arg25.IsWhole)
  (arg26 : Memref sig .tc .vmem S128x2048 .f32) (harg26 : arg26.IsWhole)
  (arg27 : Memref sig .tc .vmem S128x2048 .f32) (harg27 : arg27.IsWhole)

variable (𝒱 : Variants) (c : Dev nD) (bd : Option 𝒱.V)

/-- The tiles of the arrays the loops read. -/
def tiles (f4 : BufTy.Contents (Elt F) arg4.view.ty) (f5 : BufTy.Contents (Elt F) arg5.view.ty) (f6 : BufTy.Contents (Elt F) arg6.view.ty) (f7 : BufTy.Contents (Elt F) arg7.view.ty) (f8 : BufTy.Contents (Elt F) arg8.view.ty) (f14 : BufTy.Contents (Elt F) arg14.view.ty) (f15 : BufTy.Contents (Elt F) arg15.view.ty) (f16 : BufTy.Contents (Elt F) arg16.view.ty) (f17 : BufTy.Contents (Elt F) arg17.view.ty) (f18 : BufTy.Contents (Elt F) arg18.view.ty) (f19 : BufTy.Contents (Elt F) arg19.view.ty) (f20 : BufTy.Contents (Elt F) arg20.view.ty) (f21 : BufTy.Contents (Elt F) arg21.view.ty) (f22 : BufTy.Contents (Elt F) arg22.view.ty) (f23 : BufTy.Contents (Elt F) arg23.view.ty) (f24 : BufTy.Contents (Elt F) arg24.view.ty) (f25 : BufTy.Contents (Elt F) arg25.view.ty) : Tiles F where
  q0 := rowT (arg14.view.read (Elt F) f14)
  q1 := rowT (arg15.view.read (Elt F) f15)
  k0 := rowT (arg16.view.read (Elt F) f16)
  k1 := rowT (arg17.view.read (Elt F) f17)
  kb := rowT (arg18.view.read (Elt F) f18)
  vb := rowT (arg19.view.read (Elt F) f19)
  o0 := rowT (arg20.view.read (Elt F) f20)
  o1 := rowT (arg21.view.read (Elt F) f21)
  qt0 := colT (arg22.view.read (Elt F) f22)
  qt1 := colT (arg23.view.read (Elt F) f23)
  ot0 := colT (arg24.view.read (Elt F) f24)
  ot1 := colT (arg25.view.read (Elt F) f25)
  x4 := rowT (arg4.view.read (Elt F) f4)
  x5 := rowT (arg5.view.read (Elt F) f5)
  ls := sumT (arg6.view.read (Elt F) f6)
  fq := sumT (arg7.view.read (Elt F) f7)
  fk := lanT (arg8.view.read (Elt F) f8)

/-- One trip of the inner loop: the arrays read are as they were, tile `j` of what the walk adds to is replaced, the carried
    values are the step's. -/
theorem trip3 (k2 : Fin k0_t2_loop.trips) (v23 : BitVec 32) (f4 : BufTy.Contents (Elt F) arg4.view.ty) (f5 : BufTy.Contents (Elt F) arg5.view.ty) (f6 : BufTy.Contents (Elt F) arg6.view.ty) (f7 : BufTy.Contents (Elt F) arg7.view.ty) (f8 : BufTy.Contents (Elt F) arg8.view.ty) (f14 : BufTy.Contents (Elt F) arg14.view.ty) (f15 : BufTy.Contents (Elt F) arg15.view.ty) (f16 : BufTy.Contents (Elt F) arg16.view.ty) (f17 : BufTy.Contents (Elt F) arg17.view.ty) (f18 : BufTy.Contents (Elt F) arg18.view.ty) (f19 : BufTy.Contents (Elt F) arg19.view.ty) (f20 : BufTy.Contents (Elt F) arg20.view.ty) (f21 : BufTy.Contents (Elt F) arg21.view.ty) (f22 : BufTy.Contents (Elt F) arg22.view.ty) (f23 : BufTy.Contents (Elt F) arg23.view.ty) (f24 : BufTy.Contents (Elt F) arg24.view.ty) (f25 : BufTy.Contents (Elt F) arg25.view.ty) (f26 : BufTy.Contents (Elt F) arg26.view.ty) (f27 : BufTy.Contents (Elt F) arg27.view.ty) (f12 : BufTy.Contents (Elt F) arg12.view.ty)
    (v25 v27 : Vec F S256x128 .f32) (v39 v42 v45 v49 : Vec F S1x256x1 .f32)
    (h25 : v25 = rowT (Val := Elt F) (e := .f32) (arg5.view.read (Elt F) f5) (qi k2)) (h27 : v27 = rowT (Val := Elt F) (e := .f32) (arg4.view.read (Elt F) f4) (qi k2))
    (h39 : v39 = sumT (Val := Elt F) (e := .f32) (arg6.view.read (Elt F) f6) 0 (qi k2)) (h42 : v42 = sumT (Val := Elt F) (e := .f32) (arg6.view.read (Elt F) f6) 1 (qi k2))
    (h45 : v45 = sumT (Val := Elt F) (e := .f32) (arg7.view.read (Elt F) f7) 0 (qi k2)) (h49 : v49 = sumT (Val := Elt F) (e := .f32) (arg7.view.read (Elt F) f7) 1 (qi k2))
    (k : Fin (k0_t3_loop k2).trips) (a : Carry F) (E : Set ℕ) :
    iprop((arg8.view.loc (c : Thread nD τ) ↦[arg8.view.set]{fullShare} f8) ∗ (arg14.view.loc (c : Thread nD τ) ↦[arg14.view.set]{fullShare} f14) ∗ (arg15.view.loc (c : Thread nD τ) ↦[arg15.view.set]{fullShare} f15) ∗ (arg16.view.loc (c : Thread nD τ) ↦[arg16.view.set]{fullShare} f16) ∗ (arg17.view.loc (c : Thread nD τ) ↦[arg17.view.set]{fullShare} f17) ∗ (arg18.view.loc (c : Thread nD τ) ↦[arg18.view.set]{fullShare} f18) ∗ (arg19.view.loc (c : Thread nD τ) ↦[arg19.view.set]{fullShare} f19) ∗ (arg20.view.loc (c : Thread nD τ) ↦[arg20.view.set]{fullShare} f20) ∗ (arg21.view.loc (c : Thread nD τ) ↦[arg21.view.set]{fullShare} f21) ∗ (arg22.view.loc (c : Thread nD τ) ↦[arg22.view.set]{fullShare} f22) ∗ (arg23.view.loc (c : Thread nD τ) ↦[arg23.view.set]{fullShare} f23) ∗ (arg24.view.loc (c : Thread nD τ) ↦[arg24.view.set]{fullShare} f24) ∗ (arg25.view.loc (c : Thread nD τ) ↦[arg25.view.set]{fullShare} f25) ∗ (arg26.view.loc (c : Thread nD τ) ↦[arg26.view.set]{fullShare} f26) ∗ (arg27.view.loc (c : Thread nD τ) ↦[arg27.view.set]{fullShare} f27) ∗ (arg12.view.loc (c : Thread nD τ) ↦[arg12.view.set]{fullShare} f12))
      ⊢ wp (Idealize.ShloMosaic.frame : Set ℕ → sProp 𝕄) (wpE (defs₀ (F := F)) 𝒱 (c : Thread nD τ) bd) E
        (k0_t3_body (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 k0_pay1 0#32 1#32 k2 v23 v25 v27 v39 v42 v45 v49 k a)
        ((fun a' => iprop((arg8.view.loc (c : Thread nD τ) ↦[arg8.view.set]{fullShare} f8) ∗ (arg14.view.loc (c : Thread nD τ) ↦[arg14.view.set]{fullShare} f14) ∗ (arg15.view.loc (c : Thread nD τ) ↦[arg15.view.set]{fullShare} f15) ∗ (arg16.view.loc (c : Thread nD τ) ↦[arg16.view.set]{fullShare} f16) ∗ (arg17.view.loc (c : Thread nD τ) ↦[arg17.view.set]{fullShare} f17) ∗ (arg18.view.loc (c : Thread nD τ) ↦[arg18.view.set]{fullShare} f18) ∗ (arg19.view.loc (c : Thread nD τ) ↦[arg19.view.set]{fullShare} f19) ∗ (arg20.view.loc (c : Thread nD τ) ↦[arg20.view.set]{fullShare} f20) ∗ (arg21.view.loc (c : Thread nD τ) ↦[arg21.view.set]{fullShare} f21) ∗ (arg22.view.loc (c : Thread nD τ) ↦[arg22.view.set]{fullShare} f22) ∗ (arg23.view.loc (c : Thread nD τ) ↦[arg23.view.set]{fullShare} f23) ∗ (arg24.view.loc (c : Thread nD τ) ↦[arg24.view.set]{fullShare} f24) ∗ (arg25.view.loc (c : Thread nD τ) ↦[arg25.view.set]{fullShare} f25)
          ∗ ∃ (f26' : BufTy.Contents (Elt F) arg26.view.ty) (f27' : BufTy.Contents (Elt F) arg27.view.ty) (f12' : BufTy.Contents (Elt F) arg12.view.ty), (arg26.view.loc (c : Thread nD τ) ↦[arg26.view.set]{fullShare} f26') ∗ (arg27.view.loc (c : Thread nD τ) ↦[arg27.view.set]{fullShare} f27') ∗ (arg12.view.loc (c : Thread nD τ) ↦[arg12.view.set]{fullShare} f12')
            ∗ ⌜((a', (colT (arg26.view.read (Elt F) f26'), colT (arg27.view.read (Elt F) f27'), lanT (arg12.view.read (Elt F) f12'))) : Walk F) = step (tiles arg4 arg5 arg6 arg7 arg8 arg14 arg15 arg16 arg17 arg18 arg19 arg20 arg21 arg22 arg23 arg24 arg25 f4 f5 f6 f7 f8 f14 f15 f16 f17 f18 f19 f20 f21 f22 f23 f24 f25) (qi k2) (kj k) (a, (colT (arg26.view.read (Elt F) f26), colT (arg27.view.read (Elt F) f27), lanT (arg12.view.read (Elt F) f12)))⌝) : Carry F → sProp 𝕄)) := by
  subst h25 h27 h39 h42 h45 h49
  unfold k0_t3_body
  simp only [k0_part3_eq_skeleton, k0_part4_eq_skeleton]
  iintro ⟨H8, H14, H15, H16, H17, H18, H19, H20, H21, H22, H23, H24, H25, H26, H27, H12⟩
  sl_exec
  sl_step
  isplitl [H8]; · iexact H8
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  isplitl [H25]; · iexact H25
  iexists _, _, _
  isplitl [H26]; · iexact H26
  isplitl [H27]; · iexact H27
  isplitl [H12]; · iexact H12
  ipureintro
  rw [store_col _ _ (off10 k2 k), store_col _ _ (off10 k2 k), store_lan _ _ (off9 k2 k), store_lan _ _ (off8 k2 k), View.writes_nil]
  repeat (first | delta trip3.sl.v278 | delta trip3.sl.cst_121 | delta trip3.sl.r | delta trip3.sl.r_1 | delta trip3.sl.r_2 | delta trip3.sl.r_3 | delta trip3.sl.r_4 | delta trip3.sl.r_5 | delta trip3.sl.r_6 | delta trip3.sl.r_7 | delta trip3.sl.r_8)
  simp only [load_row _ _ (off6 k2 k), load_row _ _ (off7 k2), load_col _ _ (off10 k2 k), load_col _ _ (off11 k2), load_lan _ _ (off8 k2 k), load_lan _ _ (off9 k2 k), step, inner, tiles]
  rfl

theorem kj_eq {k2 : Fin k0_t2_loop.trips} (k : Fin (k0_t3_loop k2).trips) : kj k = Fin.ofNat 8 k.val :=
  Fin.ext (Nat.mod_eq_of_lt (kj k).isLt).symm

set_option maxHeartbeats 1600000 in
/-- One trip of the outer loop: a row of tiles. -/
theorem trip2 (k2 : Fin k0_t2_loop.trips) (f4 : BufTy.Contents (Elt F) arg4.view.ty) (f5 : BufTy.Contents (Elt F) arg5.view.ty) (f6 : BufTy.Contents (Elt F) arg6.view.ty) (f7 : BufTy.Contents (Elt F) arg7.view.ty) (f8 : BufTy.Contents (Elt F) arg8.view.ty) (f14 : BufTy.Contents (Elt F) arg14.view.ty) (f15 : BufTy.Contents (Elt F) arg15.view.ty) (f16 : BufTy.Contents (Elt F) arg16.view.ty) (f17 : BufTy.Contents (Elt F) arg17.view.ty) (f18 : BufTy.Contents (Elt F) arg18.view.ty) (f19 : BufTy.Contents (Elt F) arg19.view.ty) (f20 : BufTy.Contents (Elt F) arg20.view.ty) (f21 : BufTy.Contents (Elt F) arg21.view.ty) (f22 : BufTy.Contents (Elt F) arg22.view.ty) (f23 : BufTy.Contents (Elt F) arg23.view.ty) (f24 : BufTy.Contents (Elt F) arg24.view.ty) (f25 : BufTy.Contents (Elt F) arg25.view.ty) (f9 : BufTy.Contents (Elt F) arg9.view.ty) (f13 : BufTy.Contents (Elt F) arg13.view.ty) (f26 : BufTy.Contents (Elt F) arg26.view.ty) (f27 : BufTy.Contents (Elt F) arg27.view.ty) (f12 : BufTy.Contents (Elt F) arg12.view.ty) (E : Set ℕ) :
    iprop((arg4.view.loc (c : Thread nD τ) ↦[arg4.view.set]{fullShare} f4) ∗ (arg5.view.loc (c : Thread nD τ) ↦[arg5.view.set]{fullShare} f5) ∗ (arg6.view.loc (c : Thread nD τ) ↦[arg6.view.set]{fullShare} f6) ∗ (arg7.view.loc (c : Thread nD τ) ↦[arg7.view.set]{fullShare} f7) ∗ (arg8.view.loc (c : Thread nD τ) ↦[arg8.view.set]{fullShare} f8) ∗ (arg14.view.loc (c : Thread nD τ) ↦[arg14.view.set]{fullShare} f14) ∗ (arg15.view.loc (c : Thread nD τ) ↦[arg15.view.set]{fullShare} f15) ∗ (arg16.view.loc (c : Thread nD τ) ↦[arg16.view.set]{fullShare} f16) ∗ (arg17.view.loc (c : Thread nD τ) ↦[arg17.view.set]{fullShare} f17) ∗ (arg18.view.loc (c : Thread nD τ) ↦[arg18.view.set]{fullShare} f18) ∗ (arg19.view.loc (c : Thread nD τ) ↦[arg19.view.set]{fullShare} f19) ∗ (arg20.view.loc (c : Thread nD τ) ↦[arg20.view.set]{fullShare} f20) ∗ (arg21.view.loc (c : Thread nD τ) ↦[arg21.view.set]{fullShare} f21) ∗ (arg22.view.loc (c : Thread nD τ) ↦[arg22.view.set]{fullShare} f22) ∗ (arg23.view.loc (c : Thread nD τ) ↦[arg23.view.set]{fullShare} f23) ∗ (arg24.view.loc (c : Thread nD τ) ↦[arg24.view.set]{fullShare} f24) ∗ (arg25.view.loc (c : Thread nD τ) ↦[arg25.view.set]{fullShare} f25) ∗ (arg9.view.loc (c : Thread nD τ) ↦[arg9.view.set]{fullShare} f9) ∗ (arg13.view.loc (c : Thread nD τ) ↦[arg13.view.set]{fullShare} f13) ∗ (arg26.view.loc (c : Thread nD τ) ↦[arg26.view.set]{fullShare} f26) ∗ (arg27.view.loc (c : Thread nD τ) ↦[arg27.view.set]{fullShare} f27) ∗ (arg12.view.loc (c : Thread nD τ) ↦[arg12.view.set]{fullShare} f12))
      ⊢ wp (Idealize.ShloMosaic.frame : Set ℕ → sProp 𝕄) (wpE (defs₀ (F := F)) 𝒱 (c : Thread nD τ) bd) E
        (k0_t2_body (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 k2 ⟨⟩)
        ((fun _ => iprop((arg4.view.loc (c : Thread nD τ) ↦[arg4.view.set]{fullShare} f4) ∗ (arg5.view.loc (c : Thread nD τ) ↦[arg5.view.set]{fullShare} f5) ∗ (arg6.view.loc (c : Thread nD τ) ↦[arg6.view.set]{fullShare} f6) ∗ (arg7.view.loc (c : Thread nD τ) ↦[arg7.view.set]{fullShare} f7) ∗ (arg8.view.loc (c : Thread nD τ) ↦[arg8.view.set]{fullShare} f8) ∗ (arg14.view.loc (c : Thread nD τ) ↦[arg14.view.set]{fullShare} f14) ∗ (arg15.view.loc (c : Thread nD τ) ↦[arg15.view.set]{fullShare} f15) ∗ (arg16.view.loc (c : Thread nD τ) ↦[arg16.view.set]{fullShare} f16) ∗ (arg17.view.loc (c : Thread nD τ) ↦[arg17.view.set]{fullShare} f17) ∗ (arg18.view.loc (c : Thread nD τ) ↦[arg18.view.set]{fullShare} f18) ∗ (arg19.view.loc (c : Thread nD τ) ↦[arg19.view.set]{fullShare} f19) ∗ (arg20.view.loc (c : Thread nD τ) ↦[arg20.view.set]{fullShare} f20) ∗ (arg21.view.loc (c : Thread nD τ) ↦[arg21.view.set]{fullShare} f21) ∗ (arg22.view.loc (c : Thread nD τ) ↦[arg22.view.set]{fullShare} f22) ∗ (arg23.view.loc (c : Thread nD τ) ↦[arg23.view.set]{fullShare} f23) ∗ (arg24.view.loc (c : Thread nD τ) ↦[arg24.view.set]{fullShare} f24) ∗ (arg25.view.loc (c : Thread nD τ) ↦[arg25.view.set]{fullShare} f25)
          ∗ ∃ (f9' : BufTy.Contents (Elt F) arg9.view.ty) (f13' : BufTy.Contents (Elt F) arg13.view.ty) (f26' : BufTy.Contents (Elt F) arg26.view.ty) (f27' : BufTy.Contents (Elt F) arg27.view.ty) (f12' : BufTy.Contents (Elt F) arg12.view.ty), (arg9.view.loc (c : Thread nD τ) ↦[arg9.view.set]{fullShare} f9') ∗ (arg13.view.loc (c : Thread nD τ) ↦[arg13.view.set]{fullShare} f13') ∗ (arg26.view.loc (c : Thread nD τ) ↦[arg26.view.set]{fullShare} f26') ∗ (arg27.view.loc (c : Thread nD τ) ↦[arg27.view.set]{fullShare} f27') ∗ (arg12.view.loc (c : Thread nD τ) ↦[arg12.view.set]{fullShare} f12')
            ∗ ⌜(((rowT (arg9.view.read (Elt F) f9'), sumT (arg13.view.read (Elt F) f13')), (colT (arg26.view.read (Elt F) f26'), colT (arg27.view.read (Elt F) f27'), lanT (arg12.view.read (Elt F) f12'))) : Grads F) = row (tiles arg4 arg5 arg6 arg7 arg8 arg14 arg15 arg16 arg17 arg18 arg19 arg20 arg21 arg22 arg23 arg24 arg25 f4 f5 f6 f7 f8 f14 f15 f16 f17 f18 f19 f20 f21 f22 f23 f24 f25) (qi k2) ((rowT (arg9.view.read (Elt F) f9), sumT (arg13.view.read (Elt F) f13)), (colT (arg26.view.read (Elt F) f26), colT (arg27.view.read (Elt F) f27), lanT (arg12.view.read (Elt F) f12)))⌝) : Unit → sProp 𝕄)) := by
  unfold k0_t2_body
  simp only [k0_part7_eq_skeleton, k0_part8_eq_skeleton, k0_part9_eq_skeleton, k0_part10_eq_skeleton]
  iintro ⟨H4, H5, H6, H7, H8, H14, H15, H16, H17, H18, H19, H20, H21, H22, H23, H24, H25, H9, H13, H26, H27, H12⟩
  sl_exec
  sl_for (fun (k : ℕ) (a : Carry F) => iprop((arg8.view.loc (c : Thread nD τ) ↦[arg8.view.set]{fullShare} f8) ∗ (arg14.view.loc (c : Thread nD τ) ↦[arg14.view.set]{fullShare} f14) ∗ (arg15.view.loc (c : Thread nD τ) ↦[arg15.view.set]{fullShare} f15) ∗ (arg16.view.loc (c : Thread nD τ) ↦[arg16.view.set]{fullShare} f16) ∗ (arg17.view.loc (c : Thread nD τ) ↦[arg17.view.set]{fullShare} f17) ∗ (arg18.view.loc (c : Thread nD τ) ↦[arg18.view.set]{fullShare} f18) ∗ (arg19.view.loc (c : Thread nD τ) ↦[arg19.view.set]{fullShare} f19) ∗ (arg20.view.loc (c : Thread nD τ) ↦[arg20.view.set]{fullShare} f20) ∗ (arg21.view.loc (c : Thread nD τ) ↦[arg21.view.set]{fullShare} f21) ∗ (arg22.view.loc (c : Thread nD τ) ↦[arg22.view.set]{fullShare} f22) ∗ (arg23.view.loc (c : Thread nD τ) ↦[arg23.view.set]{fullShare} f23) ∗ (arg24.view.loc (c : Thread nD τ) ↦[arg24.view.set]{fullShare} f24) ∗ (arg25.view.loc (c : Thread nD τ) ↦[arg25.view.set]{fullShare} f25)
          ∗ ∃ (f26' : BufTy.Contents (Elt F) arg26.view.ty) (f27' : BufTy.Contents (Elt F) arg27.view.ty) (f12' : BufTy.Contents (Elt F) arg12.view.ty), (arg26.view.loc (c : Thread nD τ) ↦[arg26.view.set]{fullShare} f26') ∗ (arg27.view.loc (c : Thread nD τ) ↦[arg27.view.set]{fullShare} f27') ∗ (arg12.view.loc (c : Thread nD τ) ↦[arg12.view.set]{fullShare} f12')
            ∗ ⌜((a, (colT (arg26.view.read (Elt F) f26'), colT (arg27.view.read (Elt F) f27'), lanT (arg12.view.read (Elt F) f12'))) : Walk F) = walk (tiles arg4 arg5 arg6 arg7 arg8 arg14 arg15 arg16 arg17 arg18 arg19 arg20 arg21 arg22 arg23 arg24 arg25 f4 f5 f6 f7 f8 f14 f15 f16 f17 f18 f19 f20 f21 f22 f23 f24 f25) (qi k2) (carry0, (colT (arg26.view.read (Elt F) f26), colT (arg27.view.read (Elt F) f27), lanT (arg12.view.read (Elt F) f12))) k⌝)) $$ [H8 H14 H15 H16 H17 H18 H19 H20 H21 H22 H23 H24 H25 H26 H27 H12]
  case region =>
    intro k a
    iintro ⟨H8, H14, H15, H16, H17, H18, H19, H20, H21, H22, H23, H24, H25, %g26, %g27, %g12, H26, H27, H12, %h⟩
    iapply (wp_wand_r Idealize.ShloMosaic.frame (wpE (defs₀ (F := F)) 𝒱 (c : Thread nD τ) bd) E)
    isplitl [H8 H14 H15 H16 H17 H18 H19 H20 H21 H22 H23 H24 H25 H26 H27 H12]
    · iapply (trip3 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 𝒱 c bd k2 _ f4 f5 f6 f7 f8 f14 f15 f16 f17 f18 f19 f20 f21 f22 f23 f24 f25 g26 g27 g12 _ _ _ _ _ _ (load_row _ _ (off3 k2) _) (load_row _ _ (off3 k2) _) (load_sum _ _ (off4 k2) _) (load_sum _ _ (off5 k2) _) (load_sum _ _ (off4 k2) _) (load_sum _ _ (off5 k2) _) k a E)
      isplitl [H8]; · iexact H8
      isplitl [H14]; · iexact H14
      isplitl [H15]; · iexact H15
      isplitl [H16]; · iexact H16
      isplitl [H17]; · iexact H17
      isplitl [H18]; · iexact H18
      isplitl [H19]; · iexact H19
      isplitl [H20]; · iexact H20
      isplitl [H21]; · iexact H21
      isplitl [H22]; · iexact H22
      isplitl [H23]; · iexact H23
      isplitl [H24]; · iexact H24
      isplitl [H25]; · iexact H25
      isplitl [H26]; · iexact H26
      isplitl [H27]; · iexact H27
      iexact H12
    · iintro %a' ⟨H8, H14, H15, H16, H17, H18, H19, H20, H21, H22, H23, H24, H25, %g26', %g27', %g12', H26, H27, H12, %h'⟩
      isplitl [H8]; · iexact H8
      isplitl [H14]; · iexact H14
      isplitl [H15]; · iexact H15
      isplitl [H16]; · iexact H16
      isplitl [H17]; · iexact H17
      isplitl [H18]; · iexact H18
      isplitl [H19]; · iexact H19
      isplitl [H20]; · iexact H20
      isplitl [H21]; · iexact H21
      isplitl [H22]; · iexact H22
      isplitl [H23]; · iexact H23
      isplitl [H24]; · iexact H24
      isplitl [H25]; · iexact H25
      iexists g26', g27', g12'
      isplitl [H26]; · iexact H26
      isplitl [H27]; · iexact H27
      isplitl [H12]; · iexact H12
      ipureintro
      rw [h', h, kj_eq]; rfl
  · isplitl [H8]; · iexact H8
    isplitl [H14]; · iexact H14
    isplitl [H15]; · iexact H15
    isplitl [H16]; · iexact H16
    isplitl [H17]; · iexact H17
    isplitl [H18]; · iexact H18
    isplitl [H19]; · iexact H19
    isplitl [H20]; · iexact H20
    isplitl [H21]; · iexact H21
    isplitl [H22]; · iexact H22
    isplitl [H23]; · iexact H23
    isplitl [H24]; · iexact H24
    isplitl [H25]; · iexact H25
    iexists f26, f27, f12
    isplitl [H26]; · iexact H26
    isplitl [H27]; · iexact H27
    isplitl [H12]; · iexact H12
    ipureintro; rfl
  · iintro %a ⟨H8, H14, H15, H16, H17, H18, H19, H20, H21, H22, H23, H24, H25, %g26, %g27, %g12, H26, H27, H12, %h⟩
    sl_respell [k0_t2_body]
    sl_for0 (trips4 k2)
    sl_exec
    sl_step
    isplitl [H4]; · iexact H4
    isplitl [H5]; · iexact H5
    isplitl [H6]; · iexact H6
    isplitl [H7]; · iexact H7
    isplitl [H8]; · iexact H8
    isplitl [H14]; · iexact H14
    isplitl [H15]; · iexact H15
    isplitl [H16]; · iexact H16
    isplitl [H17]; · iexact H17
    isplitl [H18]; · iexact H18
    isplitl [H19]; · iexact H19
    isplitl [H20]; · iexact H20
    isplitl [H21]; · iexact H21
    isplitl [H22]; · iexact H22
    isplitl [H23]; · iexact H23
    isplitl [H24]; · iexact H24
    isplitl [H25]; · iexact H25
    iexists _, _, _, _, _
    isplitl [H9]; · iexact H9
    isplitl [H13]; · iexact H13
    isplitl [H26]; · iexact H26
    isplitl [H27]; · iexact H27
    isplitl [H12]; · iexact H12
    ipureintro
    rw [store_col _ _ (off20 k2), store_col _ _ (off20 k2), store_row _ _ (off3 k2), store_lan _ _ (off19 k2), store_lan _ _ (off18 k2), View.writes_nil, store_sum _ _ (off5 k2), store_sum _ _ (off4 k2), View.writes_nil]
    have h' := h.trans (congrArg (walk _ _ _) ((trips3 k2).trans (rfl : k2.val = (qi k2).val)))
    clear h
    rw [row_of_walk _ (qi k2) ((rowT (arg9.view.read (Elt F) f9), sumT (arg13.view.read (Elt F) f13)), (colT (arg26.view.read (Elt F) f26), colT (arg27.view.read (Elt F) f27), lanT (arg12.view.read (Elt F) f12))) _ h']
    repeat (first | delta trip2.sl.v155 | delta trip2.sl.r | delta trip2.sl.r_1 | delta trip2.sl.r_2 | delta trip2.sl.r_3 | delta trip2.sl.r_4 | delta trip2.sl.r_5 | delta trip2.sl.r_6 | delta trip2.sl.r_7 | delta trip2.sl.r_8 | delta trip2.sl.r_9 | delta trip2.sl.r_10 | delta trip2.sl.r_11 | delta trip2.sl.r_12 | delta trip2.sl.r_13 | delta trip2.sl.r_14 | delta trip2.sl.r_15 | delta trip2.sl.r_16 | delta trip2.sl.r_17 | delta trip2.sl.r_18)
    simp only [load_row _ _ (off3 k2), load_row _ _ (off7 k2), load_col _ _ (off20 k2), load_col _ _ (off11 k2), load_lan _ _ (off18 k2), load_lan _ _ (off19 k2), load_sum _ _ (off4 k2), load_sum _ _ (off5 k2), diag, tiles]
    rfl

/-- The tile of a trip of the first loop. -/
def ti (k : Fin k0_t1_loop.trips) : Fin 8 := ⟨k.val, trips1 ▸ k.isLt⟩
/-- The tile of a trip of the last loop. -/
def te (k : Fin k0_t5_loop.trips) : Fin 8 := ⟨k.val, trips5 ▸ k.isLt⟩
theorem qi_eq (k : Fin k0_t2_loop.trips) : qi k = Fin.ofNat 8 k.val := Fin.ext (Nat.mod_eq_of_lt (qi k).isLt).symm
theorem ti_eq (k : Fin k0_t1_loop.trips) : ti k = Fin.ofNat 8 k.val := Fin.ext (Nat.mod_eq_of_lt (ti k).isLt).symm
theorem te_eq (k : Fin k0_t5_loop.trips) : te k = Fin.ofNat 8 k.val := Fin.ext (Nat.mod_eq_of_lt (te k).isLt).symm

/-- One trip of the first loop: a tile of every array made. -/
theorem trip1 (k : Fin k0_t1_loop.trips) (f1 : BufTy.Contents (Elt F) arg1.view.ty) (f2 : BufTy.Contents (Elt F) arg2.view.ty) (f3 : BufTy.Contents (Elt F) arg3.view.ty) (f4 : BufTy.Contents (Elt F) arg4.view.ty) (f5 : BufTy.Contents (Elt F) arg5.view.ty) (f6 : BufTy.Contents (Elt F) arg6.view.ty) (f7 : BufTy.Contents (Elt F) arg7.view.ty) (f8 : BufTy.Contents (Elt F) arg8.view.ty) (f14 : BufTy.Contents (Elt F) arg14.view.ty) (f15 : BufTy.Contents (Elt F) arg15.view.ty) (f16 : BufTy.Contents (Elt F) arg16.view.ty) (f17 : BufTy.Contents (Elt F) arg17.view.ty) (f18 : BufTy.Contents (Elt F) arg18.view.ty) (f19 : BufTy.Contents (Elt F) arg19.view.ty) (f20 : BufTy.Contents (Elt F) arg20.view.ty) (f21 : BufTy.Contents (Elt F) arg21.view.ty) (f22 : BufTy.Contents (Elt F) arg22.view.ty) (f23 : BufTy.Contents (Elt F) arg23.view.ty) (f24 : BufTy.Contents (Elt F) arg24.view.ty) (f25 : BufTy.Contents (Elt F) arg25.view.ty) (E : Set ℕ) :
    iprop((arg1.view.loc (c : Thread nD τ) ↦[arg1.view.set]{fullShare} f1) ∗ (arg2.view.loc (c : Thread nD τ) ↦[arg2.view.set]{fullShare} f2) ∗ (arg3.view.loc (c : Thread nD τ) ↦[arg3.view.set]{fullShare} f3) ∗ (arg5.view.loc (c : Thread nD τ) ↦[arg5.view.set]{fullShare} f5) ∗ (arg14.view.loc (c : Thread nD τ) ↦[arg14.view.set]{fullShare} f14) ∗ (arg15.view.loc (c : Thread nD τ) ↦[arg15.view.set]{fullShare} f15) ∗ (arg16.view.loc (c : Thread nD τ) ↦[arg16.view.set]{fullShare} f16) ∗ (arg17.view.loc (c : Thread nD τ) ↦[arg17.view.set]{fullShare} f17) ∗ (arg18.view.loc (c : Thread nD τ) ↦[arg18.view.set]{fullShare} f18) ∗ (arg19.view.loc (c : Thread nD τ) ↦[arg19.view.set]{fullShare} f19) ∗ (arg20.view.loc (c : Thread nD τ) ↦[arg20.view.set]{fullShare} f20) ∗ (arg21.view.loc (c : Thread nD τ) ↦[arg21.view.set]{fullShare} f21) ∗ (arg22.view.loc (c : Thread nD τ) ↦[arg22.view.set]{fullShare} f22) ∗ (arg23.view.loc (c : Thread nD τ) ↦[arg23.view.set]{fullShare} f23) ∗ (arg24.view.loc (c : Thread nD τ) ↦[arg24.view.set]{fullShare} f24) ∗ (arg25.view.loc (c : Thread nD τ) ↦[arg25.view.set]{fullShare} f25))
      ⊢ wp (Idealize.ShloMosaic.frame : Set ℕ → sProp 𝕄) (wpE (defs₀ (F := F)) 𝒱 (c : Thread nD τ) bd) E
        (k0_t1_body (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 k ⟨⟩)
        ((fun _ => iprop((arg1.view.loc (c : Thread nD τ) ↦[arg1.view.set]{fullShare} f1) ∗ (arg2.view.loc (c : Thread nD τ) ↦[arg2.view.set]{fullShare} f2) ∗ (arg3.view.loc (c : Thread nD τ) ↦[arg3.view.set]{fullShare} f3) ∗ (arg5.view.loc (c : Thread nD τ) ↦[arg5.view.set]{fullShare} f5)
          ∗ ∃ (f14' : BufTy.Contents (Elt F) arg14.view.ty) (f15' : BufTy.Contents (Elt F) arg15.view.ty) (f16' : BufTy.Contents (Elt F) arg16.view.ty) (f17' : BufTy.Contents (Elt F) arg17.view.ty) (f18' : BufTy.Contents (Elt F) arg18.view.ty) (f19' : BufTy.Contents (Elt F) arg19.view.ty) (f20' : BufTy.Contents (Elt F) arg20.view.ty) (f21' : BufTy.Contents (Elt F) arg21.view.ty) (f22' : BufTy.Contents (Elt F) arg22.view.ty) (f23' : BufTy.Contents (Elt F) arg23.view.ty) (f24' : BufTy.Contents (Elt F) arg24.view.ty) (f25' : BufTy.Contents (Elt F) arg25.view.ty), (arg14.view.loc (c : Thread nD τ) ↦[arg14.view.set]{fullShare} f14') ∗ (arg15.view.loc (c : Thread nD τ) ↦[arg15.view.set]{fullShare} f15') ∗ (arg16.view.loc (c : Thread nD τ) ↦[arg16.view.set]{fullShare} f16') ∗ (arg17.view.loc (c : Thread nD τ) ↦[arg17.view.set]{fullShare} f17') ∗ (arg18.view.loc (c : Thread nD τ) ↦[arg18.view.set]{fullShare} f18') ∗ (arg19.view.loc (c : Thread nD τ) ↦[arg19.view.set]{fullShare} f19') ∗ (arg20.view.loc (c : Thread nD τ) ↦[arg20.view.set]{fullShare} f20') ∗ (arg21.view.loc (c : Thread nD τ) ↦[arg21.view.set]{fullShare} f21') ∗ (arg22.view.loc (c : Thread nD τ) ↦[arg22.view.set]{fullShare} f22') ∗ (arg23.view.loc (c : Thread nD τ) ↦[arg23.view.set]{fullShare} f23') ∗ (arg24.view.loc (c : Thread nD τ) ↦[arg24.view.set]{fullShare} f24') ∗ (arg25.view.loc (c : Thread nD τ) ↦[arg25.view.set]{fullShare} f25')
            ∗ ⌜tiles arg4 arg5 arg6 arg7 arg8 arg14 arg15 arg16 arg17 arg18 arg19 arg20 arg21 arg22 arg23 arg24 arg25 f4 f5 f6 f7 f8 f14' f15' f16' f17' f18' f19' f20' f21' f22' f23' f24' f25' = setTile (prep (arg1.view.read (Elt F) f1) (arg2.view.read (Elt F) f2) (arg3.view.read (Elt F) f3) (arg4.view.read (Elt F) f4) (arg5.view.read (Elt F) f5) (arg6.view.read (Elt F) f6) (arg7.view.read (Elt F) f7) (arg8.view.read (Elt F) f8)) (tiles arg4 arg5 arg6 arg7 arg8 arg14 arg15 arg16 arg17 arg18 arg19 arg20 arg21 arg22 arg23 arg24 arg25 f4 f5 f6 f7 f8 f14 f15 f16 f17 f18 f19 f20 f21 f22 f23 f24 f25) (ti k)⌝) : Unit → sProp 𝕄)) := by
  unfold k0_t1_body
  simp only [k0_part1_eq_skeleton, k0_part2_eq_skeleton]
  iintro ⟨H1, H2, H3, H5, H14, H15, H16, H17, H18, H19, H20, H21, H22, H23, H24, H25⟩
  sl_exec
  sl_step
  isplitl [H1]; · iexact H1
  isplitl [H2]; · iexact H2
  isplitl [H3]; · iexact H3
  isplitl [H5]; · iexact H5
  iexists _, _, _, _, _, _, _, _, _, _, _, _
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  isplitl [H25]; · iexact H25
  ipureintro
  have e1 : k0_off1 k = ![256 * (ti k).val, 0] := off1 k
  have e2 : k0_off2 k = ![0, 256 * (ti k).val] := off2 k
  unfold tiles setTile prep
  repeat (first | delta trip1.sl.r | delta trip1.sl.r_1 | delta trip1.sl.r_2 | delta trip1.sl.r_3 | delta trip1.sl.r_4 | delta trip1.sl.r_5 | delta trip1.sl.r_6)
  simp only [store_row _ _ e1, store_col _ _ e2, load_row _ _ e1]

/-- One trip of the last loop: a tile of the key and value gradients turned and rounded. -/
theorem trip5 (k : Fin k0_t5_loop.trips) (f10 : BufTy.Contents (Elt F) arg10.view.ty) (f11 : BufTy.Contents (Elt F) arg11.view.ty) (f26 : BufTy.Contents (Elt F) arg26.view.ty) (f27 : BufTy.Contents (Elt F) arg27.view.ty) (E : Set ℕ) :
    iprop((arg10.view.loc (c : Thread nD τ) ↦[arg10.view.set]{fullShare} f10) ∗ (arg11.view.loc (c : Thread nD τ) ↦[arg11.view.set]{fullShare} f11) ∗ (arg26.view.loc (c : Thread nD τ) ↦[arg26.view.set]{fullShare} f26) ∗ (arg27.view.loc (c : Thread nD τ) ↦[arg27.view.set]{fullShare} f27))
      ⊢ wp (Idealize.ShloMosaic.frame : Set ℕ → sProp 𝕄) (wpE (defs₀ (F := F)) 𝒱 (c : Thread nD τ) bd) E
        (k0_t5_body (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 k ⟨⟩)
        ((fun _ => iprop((arg26.view.loc (c : Thread nD τ) ↦[arg26.view.set]{fullShare} f26) ∗ (arg27.view.loc (c : Thread nD τ) ↦[arg27.view.set]{fullShare} f27)
          ∗ ∃ (f10' : BufTy.Contents (Elt F) arg10.view.ty) (f11' : BufTy.Contents (Elt F) arg11.view.ty), (arg10.view.loc (c : Thread nD τ) ↦[arg10.view.set]{fullShare} f10') ∗ (arg11.view.loc (c : Thread nD τ) ↦[arg11.view.set]{fullShare} f11')
            ∗ ⌜rowT (arg10.view.read (Elt F) f10') = Function.update (rowT (arg10.view.read (Elt F) f10)) (te k) (k0_pay11 (colT (arg26.view.read (Elt F) f26) (te k)))
              ∧ rowT (arg11.view.read (Elt F) f11') = Function.update (rowT (arg11.view.read (Elt F) f11)) (te k) (k0_pay12 (colT (arg27.view.read (Elt F) f27) (te k)))⌝) : Unit → sProp 𝕄)) := by
  unfold k0_t5_body
  iintro ⟨H10, H11, H26, H27⟩
  sl_exec
  sl_step
  isplitl [H26]; · iexact H26
  isplitl [H27]; · iexact H27
  iexists _, _
  isplitl [H10]; · iexact H10
  isplitl [H11]; · iexact H11
  ipureintro
  have e1 : k0_off22 k = ![256 * (te k).val, 0] := off22 k
  have e2 : k0_off21 k = ![0, 256 * (te k).val] := off21 k
  rw [store_row _ _ e1, store_row _ _ e1]
  rw [load_col _ _ e2, load_col _ _ e2]
  exact ⟨rfl, rfl⟩

end

end Cert.Kernel20Ideal.Fox

end
-- ==== Proof.FoxBody.lean ====
module

public import proofs.«01_k».proof.Proof.Gen.Kernel20Ideal.Frame
public import proofs.«01_k».proof.Proof.Gen.Kernel20Ideal.Skeleton
public import proofs.«01_k».proof.Proof.FoxRun

@[expose] public section

set_option maxRecDepth 16384

/-!
The whole body at a grid point: the tiles are made, what the walks add to is cleared, the rows walked and the key and value
gradients turned; from any contents of the scratch and output arrays the outputs are the five gradients.
-/

noncomputable section

namespace Cert.Kernel20Ideal.Fox

open Cert.Kernel20Ideal Cert.Kernel20Ideal.Gen
open Idealize.ShloMosaic Idealize.ShloMosaic.TcCoe Idealize.ShloMosaic.Tactic
open Cert.StickTile Cert.FoxTile
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

section

variable (i : grid0.Coords)
  (arg1 : Memref sig .tc .vmem S2048x128 .f32) (harg1 : arg1.IsWhole)
  (arg2 : Memref sig .tc .vmem S2048x128 .f32) (harg2 : arg2.IsWhole)
  (arg3 : Memref sig .tc .vmem S2048x128 .f32) (harg3 : arg3.IsWhole)
  (arg4 : Memref sig .tc .vmem S2048x128 .f32) (harg4 : arg4.IsWhole)
  (arg5 : Memref sig .tc .vmem S2048x128 .f32) (harg5 : arg5.IsWhole)
  (arg6 : Memref sig .tc .vmem S2x2048x1 .f32) (harg6 : arg6.IsWhole)
  (arg7 : Memref sig .tc .vmem S2x2048x1 .f32) (harg7 : arg7.IsWhole)
  (arg8 : Memref sig .tc .vmem S2x1x2048 .f32) (harg8 : arg8.IsWhole)
  (arg9 : Memref sig .tc .vmem S2048x128 .bf16) (harg9 : arg9.IsWhole)
  (arg10 : Memref sig .tc .vmem S2048x128 .bf16) (harg10 : arg10.IsWhole)
  (arg11 : Memref sig .tc .vmem S2048x128 .bf16) (harg11 : arg11.IsWhole)
  (arg12 : Memref sig .tc .vmem S2x1x2048 .f32) (harg12 : arg12.IsWhole)
  (arg13 : Memref sig .tc .vmem S2x2048x1 .f32) (harg13 : arg13.IsWhole)
  (arg14 : Memref sig .tc .vmem S2048x128 .bf16) (harg14 : arg14.IsWhole)
  (arg15 : Memref sig .tc .vmem S2048x128 .bf16) (harg15 : arg15.IsWhole)
  (arg16 : Memref sig .tc .vmem S2048x128 .bf16) (harg16 : arg16.IsWhole)
  (arg17 : Memref sig .tc .vmem S2048x128 .bf16) (harg17 : arg17.IsWhole)
  (arg18 : Memref sig .tc .vmem S2048x128 .bf16) (harg18 : arg18.IsWhole)
  (arg19 : Memref sig .tc .vmem S2048x128 .bf16) (harg19 : arg19.IsWhole)
  (arg20 : Memref sig .tc .vmem S2048x128 .bf16) (harg20 : arg20.IsWhole)
  (arg21 : Memref sig .tc .vmem S2048x128 .bf16) (harg21 : arg21.IsWhole)
  (arg22 : Memref sig .tc .vmem S128x2048 .bf16) (harg22 : arg22.IsWhole)
  (arg23 : Memref sig .tc .vmem S128x2048 .bf16) (harg23 : arg23.IsWhole)
  (arg24 : Memref sig .tc .vmem S128x2048 .bf16) (harg24 : arg24.IsWhole)
  (arg25 : Memref sig .tc .vmem S128x2048 .bf16) (harg25 : arg25.IsWhole)
  (arg26 : Memref sig .tc .vmem S128x2048 .f32) (harg26 : arg26.IsWhole)
  (arg27 : Memref sig .tc .vmem S128x2048 .f32) (harg27 : arg27.IsWhole)

variable (𝒱 : Variants) (c : Dev nD) (bd : Option 𝒱.V)

set_option maxRecDepth 65536 in
set_option maxHeartbeats 1000000 in
/-- The body: from whole arrays with any contents, the inputs stay and the five outputs are the five gradients. -/
theorem body_run (f1 : BufTy.Contents (Elt F) arg1.view.ty) (f2 : BufTy.Contents (Elt F) arg2.view.ty) (f3 : BufTy.Contents (Elt F) arg3.view.ty) (f4 : BufTy.Contents (Elt F) arg4.view.ty) (f5 : BufTy.Contents (Elt F) arg5.view.ty) (f6 : BufTy.Contents (Elt F) arg6.view.ty) (f7 : BufTy.Contents (Elt F) arg7.view.ty) (f8 : BufTy.Contents (Elt F) arg8.view.ty) (f9 : BufTy.Contents (Elt F) arg9.view.ty) (f10 : BufTy.Contents (Elt F) arg10.view.ty) (f11 : BufTy.Contents (Elt F) arg11.view.ty) (f12 : BufTy.Contents (Elt F) arg12.view.ty) (f13 : BufTy.Contents (Elt F) arg13.view.ty) (f14 : BufTy.Contents (Elt F) arg14.view.ty) (f15 : BufTy.Contents (Elt F) arg15.view.ty) (f16 : BufTy.Contents (Elt F) arg16.view.ty) (f17 : BufTy.Contents (Elt F) arg17.view.ty) (f18 : BufTy.Contents (Elt F) arg18.view.ty) (f19 : BufTy.Contents (Elt F) arg19.view.ty) (f20 : BufTy.Contents (Elt F) arg20.view.ty) (f21 : BufTy.Contents (Elt F) arg21.view.ty) (f22 : BufTy.Contents (Elt F) arg22.view.ty) (f23 : BufTy.Contents (Elt F) arg23.view.ty) (f24 : BufTy.Contents (Elt F) arg24.view.ty) (f25 : BufTy.Contents (Elt F) arg25.view.ty) (f26 : BufTy.Contents (Elt F) arg26.view.ty) (f27 : BufTy.Contents (Elt F) arg27.view.ty) (E : Set ℕ) :
    iprop((arg1.view.loc (c : Thread nD τ) ↦[arg1.view.set]{fullShare} f1) ∗ (arg2.view.loc (c : Thread nD τ) ↦[arg2.view.set]{fullShare} f2) ∗ (arg3.view.loc (c : Thread nD τ) ↦[arg3.view.set]{fullShare} f3) ∗ (arg4.view.loc (c : Thread nD τ) ↦[arg4.view.set]{fullShare} f4) ∗ (arg5.view.loc (c : Thread nD τ) ↦[arg5.view.set]{fullShare} f5) ∗ (arg6.view.loc (c : Thread nD τ) ↦[arg6.view.set]{fullShare} f6) ∗ (arg7.view.loc (c : Thread nD τ) ↦[arg7.view.set]{fullShare} f7) ∗ (arg8.view.loc (c : Thread nD τ) ↦[arg8.view.set]{fullShare} f8) ∗ (arg9.view.loc (c : Thread nD τ) ↦[arg9.view.set]{fullShare} f9) ∗ (arg10.view.loc (c : Thread nD τ) ↦[arg10.view.set]{fullShare} f10) ∗ (arg11.view.loc (c : Thread nD τ) ↦[arg11.view.set]{fullShare} f11) ∗ (arg12.view.loc (c : Thread nD τ) ↦[arg12.view.set]{fullShare} f12) ∗ (arg13.view.loc (c : Thread nD τ) ↦[arg13.view.set]{fullShare} f13) ∗ (arg14.view.loc (c : Thread nD τ) ↦[arg14.view.set]{fullShare} f14) ∗ (arg15.view.loc (c : Thread nD τ) ↦[arg15.view.set]{fullShare} f15) ∗ (arg16.view.loc (c : Thread nD τ) ↦[arg16.view.set]{fullShare} f16) ∗ (arg17.view.loc (c : Thread nD τ) ↦[arg17.view.set]{fullShare} f17) ∗ (arg18.view.loc (c : Thread nD τ) ↦[arg18.view.set]{fullShare} f18) ∗ (arg19.view.loc (c : Thread nD τ) ↦[arg19.view.set]{fullShare} f19) ∗ (arg20.view.loc (c : Thread nD τ) ↦[arg20.view.set]{fullShare} f20) ∗ (arg21.view.loc (c : Thread nD τ) ↦[arg21.view.set]{fullShare} f21) ∗ (arg22.view.loc (c : Thread nD τ) ↦[arg22.view.set]{fullShare} f22) ∗ (arg23.view.loc (c : Thread nD τ) ↦[arg23.view.set]{fullShare} f23) ∗ (arg24.view.loc (c : Thread nD τ) ↦[arg24.view.set]{fullShare} f24) ∗ (arg25.view.loc (c : Thread nD τ) ↦[arg25.view.set]{fullShare} f25) ∗ (arg26.view.loc (c : Thread nD τ) ↦[arg26.view.set]{fullShare} f26) ∗ (arg27.view.loc (c : Thread nD τ) ↦[arg27.view.set]{fullShare} f27))
      ⊢ wp (Idealize.ShloMosaic.frame : Set ℕ → sProp 𝕄) (wpE (defs₀ (F := F)) 𝒱 (c : Thread nD τ) bd) E
        (cc0_fox_bwd (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27)
        ((fun _ => iprop((arg1.view.loc (c : Thread nD τ) ↦[arg1.view.set]{fullShare} f1) ∗ (arg2.view.loc (c : Thread nD τ) ↦[arg2.view.set]{fullShare} f2) ∗ (arg3.view.loc (c : Thread nD τ) ↦[arg3.view.set]{fullShare} f3) ∗ (arg4.view.loc (c : Thread nD τ) ↦[arg4.view.set]{fullShare} f4) ∗ (arg5.view.loc (c : Thread nD τ) ↦[arg5.view.set]{fullShare} f5) ∗ (arg6.view.loc (c : Thread nD τ) ↦[arg6.view.set]{fullShare} f6) ∗ (arg7.view.loc (c : Thread nD τ) ↦[arg7.view.set]{fullShare} f7) ∗ (arg8.view.loc (c : Thread nD τ) ↦[arg8.view.set]{fullShare} f8)
          ∗ ∃ (f9' : BufTy.Contents (Elt F) arg9.view.ty) (f10' : BufTy.Contents (Elt F) arg10.view.ty) (f11' : BufTy.Contents (Elt F) arg11.view.ty) (f12' : BufTy.Contents (Elt F) arg12.view.ty) (f13' : BufTy.Contents (Elt F) arg13.view.ty) (f14' : BufTy.Contents (Elt F) arg14.view.ty) (f15' : BufTy.Contents (Elt F) arg15.view.ty) (f16' : BufTy.Contents (Elt F) arg16.view.ty) (f17' : BufTy.Contents (Elt F) arg17.view.ty) (f18' : BufTy.Contents (Elt F) arg18.view.ty) (f19' : BufTy.Contents (Elt F) arg19.view.ty) (f20' : BufTy.Contents (Elt F) arg20.view.ty) (f21' : BufTy.Contents (Elt F) arg21.view.ty) (f22' : BufTy.Contents (Elt F) arg22.view.ty) (f23' : BufTy.Contents (Elt F) arg23.view.ty) (f24' : BufTy.Contents (Elt F) arg24.view.ty) (f25' : BufTy.Contents (Elt F) arg25.view.ty) (f26' : BufTy.Contents (Elt F) arg26.view.ty) (f27' : BufTy.Contents (Elt F) arg27.view.ty), (arg9.view.loc (c : Thread nD τ) ↦[arg9.view.set]{fullShare} f9') ∗ (arg10.view.loc (c : Thread nD τ) ↦[arg10.view.set]{fullShare} f10') ∗ (arg11.view.loc (c : Thread nD τ) ↦[arg11.view.set]{fullShare} f11') ∗ (arg12.view.loc (c : Thread nD τ) ↦[arg12.view.set]{fullShare} f12') ∗ (arg13.view.loc (c : Thread nD τ) ↦[arg13.view.set]{fullShare} f13') ∗ (arg14.view.loc (c : Thread nD τ) ↦[arg14.view.set]{fullShare} f14') ∗ (arg15.view.loc (c : Thread nD τ) ↦[arg15.view.set]{fullShare} f15') ∗ (arg16.view.loc (c : Thread nD τ) ↦[arg16.view.set]{fullShare} f16') ∗ (arg17.view.loc (c : Thread nD τ) ↦[arg17.view.set]{fullShare} f17') ∗ (arg18.view.loc (c : Thread nD τ) ↦[arg18.view.set]{fullShare} f18') ∗ (arg19.view.loc (c : Thread nD τ) ↦[arg19.view.set]{fullShare} f19') ∗ (arg20.view.loc (c : Thread nD τ) ↦[arg20.view.set]{fullShare} f20') ∗ (arg21.view.loc (c : Thread nD τ) ↦[arg21.view.set]{fullShare} f21') ∗ (arg22.view.loc (c : Thread nD τ) ↦[arg22.view.set]{fullShare} f22') ∗ (arg23.view.loc (c : Thread nD τ) ↦[arg23.view.set]{fullShare} f23') ∗ (arg24.view.loc (c : Thread nD τ) ↦[arg24.view.set]{fullShare} f24') ∗ (arg25.view.loc (c : Thread nD τ) ↦[arg25.view.set]{fullShare} f25') ∗ (arg26.view.loc (c : Thread nD τ) ↦[arg26.view.set]{fullShare} f26') ∗ (arg27.view.loc (c : Thread nD τ) ↦[arg27.view.set]{fullShare} f27')
            ∗ ⌜arg9.view.read (Elt F) f9' = dq (prep (arg1.view.read (Elt F) f1) (arg2.view.read (Elt F) f2) (arg3.view.read (Elt F) f3) (arg4.view.read (Elt F) f4) (arg5.view.read (Elt F) f5) (arg6.view.read (Elt F) f6) (arg7.view.read (Elt F) f7) (arg8.view.read (Elt F) f8))
              ∧ arg10.view.read (Elt F) f10' = dk (prep (arg1.view.read (Elt F) f1) (arg2.view.read (Elt F) f2) (arg3.view.read (Elt F) f3) (arg4.view.read (Elt F) f4) (arg5.view.read (Elt F) f5) (arg6.view.read (Elt F) f6) (arg7.view.read (Elt F) f7) (arg8.view.read (Elt F) f8))
              ∧ arg11.view.read (Elt F) f11' = dv (prep (arg1.view.read (Elt F) f1) (arg2.view.read (Elt F) f2) (arg3.view.read (Elt F) f3) (arg4.view.read (Elt F) f4) (arg5.view.read (Elt F) f5) (arg6.view.read (Elt F) f6) (arg7.view.read (Elt F) f7) (arg8.view.read (Elt F) f8))
              ∧ arg12.view.read (Elt F) f12' = dfr (prep (arg1.view.read (Elt F) f1) (arg2.view.read (Elt F) f2) (arg3.view.read (Elt F) f3) (arg4.view.read (Elt F) f4) (arg5.view.read (Elt F) f5) (arg6.view.read (Elt F) f6) (arg7.view.read (Elt F) f7) (arg8.view.read (Elt F) f8))
              ∧ arg13.view.read (Elt F) f13' = dfc (prep (arg1.view.read (Elt F) f1) (arg2.view.read (Elt F) f2) (arg3.view.read (Elt F) f3) (arg4.view.read (Elt F) f4) (arg5.view.read (Elt F) f5) (arg6.view.read (Elt F) f6) (arg7.view.read (Elt F) f7) (arg8.view.read (Elt F) f8))⌝) : PUnit → sProp 𝕄)) := by
  rw [cc0_fox_bwd_eq_skeleton]
  unfold cc0_fox_bwd_skel
  iintro ⟨H1, H2, H3, H4, H5, H6, H7, H8, H9, H10, H11, H12, H13, H14, H15, H16, H17, H18, H19, H20, H21, H22, H23, H24, H25, H26, H27⟩
  sl_for (fun (k : ℕ) (_ : Unit) => iprop((arg1.view.loc (c : Thread nD τ) ↦[arg1.view.set]{fullShare} f1) ∗ (arg2.view.loc (c : Thread nD τ) ↦[arg2.view.set]{fullShare} f2) ∗ (arg3.view.loc (c : Thread nD τ) ↦[arg3.view.set]{fullShare} f3) ∗ (arg5.view.loc (c : Thread nD τ) ↦[arg5.view.set]{fullShare} f5)
          ∗ ∃ (f14' : BufTy.Contents (Elt F) arg14.view.ty) (f15' : BufTy.Contents (Elt F) arg15.view.ty) (f16' : BufTy.Contents (Elt F) arg16.view.ty) (f17' : BufTy.Contents (Elt F) arg17.view.ty) (f18' : BufTy.Contents (Elt F) arg18.view.ty) (f19' : BufTy.Contents (Elt F) arg19.view.ty) (f20' : BufTy.Contents (Elt F) arg20.view.ty) (f21' : BufTy.Contents (Elt F) arg21.view.ty) (f22' : BufTy.Contents (Elt F) arg22.view.ty) (f23' : BufTy.Contents (Elt F) arg23.view.ty) (f24' : BufTy.Contents (Elt F) arg24.view.ty) (f25' : BufTy.Contents (Elt F) arg25.view.ty), (arg14.view.loc (c : Thread nD τ) ↦[arg14.view.set]{fullShare} f14') ∗ (arg15.view.loc (c : Thread nD τ) ↦[arg15.view.set]{fullShare} f15') ∗ (arg16.view.loc (c : Thread nD τ) ↦[arg16.view.set]{fullShare} f16') ∗ (arg17.view.loc (c : Thread nD τ) ↦[arg17.view.set]{fullShare} f17') ∗ (arg18.view.loc (c : Thread nD τ) ↦[arg18.view.set]{fullShare} f18') ∗ (arg19.view.loc (c : Thread nD τ) ↦[arg19.view.set]{fullShare} f19') ∗ (arg20.view.loc (c : Thread nD τ) ↦[arg20.view.set]{fullShare} f20') ∗ (arg21.view.loc (c : Thread nD τ) ↦[arg21.view.set]{fullShare} f21') ∗ (arg22.view.loc (c : Thread nD τ) ↦[arg22.view.set]{fullShare} f22') ∗ (arg23.view.loc (c : Thread nD τ) ↦[arg23.view.set]{fullShare} f23') ∗ (arg24.view.loc (c : Thread nD τ) ↦[arg24.view.set]{fullShare} f24') ∗ (arg25.view.loc (c : Thread nD τ) ↦[arg25.view.set]{fullShare} f25')
            ∗ ⌜tiles arg4 arg5 arg6 arg7 arg8 arg14 arg15 arg16 arg17 arg18 arg19 arg20 arg21 arg22 arg23 arg24 arg25 f4 f5 f6 f7 f8 f14' f15' f16' f17' f18' f19' f20' f21' f22' f23' f24' f25' = fill (prep (arg1.view.read (Elt F) f1) (arg2.view.read (Elt F) f2) (arg3.view.read (Elt F) f3) (arg4.view.read (Elt F) f4) (arg5.view.read (Elt F) f5) (arg6.view.read (Elt F) f6) (arg7.view.read (Elt F) f7) (arg8.view.read (Elt F) f8)) (tiles arg4 arg5 arg6 arg7 arg8 arg14 arg15 arg16 arg17 arg18 arg19 arg20 arg21 arg22 arg23 arg24 arg25 f4 f5 f6 f7 f8 f14 f15 f16 f17 f18 f19 f20 f21 f22 f23 f24 f25) k⌝)) $$ [H1 H2 H3 H5 H14 H15 H16 H17 H18 H19 H20 H21 H22 H23 H24 H25]
  case region =>
    intro k a
    iintro ⟨H1, H2, H3, H5, %g14, %g15, %g16, %g17, %g18, %g19, %g20, %g21, %g22, %g23, %g24, %g25, H14, H15, H16, H17, H18, H19, H20, H21, H22, H23, H24, H25, %h⟩
    iapply (wp_wand_r Idealize.ShloMosaic.frame (wpE (defs₀ (F := F)) 𝒱 (c : Thread nD τ) bd) E)
    isplitl [H1 H2 H3 H5 H14 H15 H16 H17 H18 H19 H20 H21 H22 H23 H24 H25]
    · iapply (trip1 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 𝒱 c bd k f1 f2 f3 f4 f5 f6 f7 f8 g14 g15 g16 g17 g18 g19 g20 g21 g22 g23 g24 g25 E)
      isplitl [H1]; · iexact H1
      isplitl [H2]; · iexact H2
      isplitl [H3]; · iexact H3
      isplitl [H5]; · iexact H5
      isplitl [H14]; · iexact H14
      isplitl [H15]; · iexact H15
      isplitl [H16]; · iexact H16
      isplitl [H17]; · iexact H17
      isplitl [H18]; · iexact H18
      isplitl [H19]; · iexact H19
      isplitl [H20]; · iexact H20
      isplitl [H21]; · iexact H21
      isplitl [H22]; · iexact H22
      isplitl [H23]; · iexact H23
      isplitl [H24]; · iexact H24
      iexact H25
    · iintro %a' ⟨H1, H2, H3, H5, %k14, %k15, %k16, %k17, %k18, %k19, %k20, %k21, %k22, %k23, %k24, %k25, H14, H15, H16, H17, H18, H19, H20, H21, H22, H23, H24, H25, %h'⟩
      isplitl [H1]; · iexact H1
      isplitl [H2]; · iexact H2
      isplitl [H3]; · iexact H3
      isplitl [H5]; · iexact H5
      iexists k14, k15, k16, k17, k18, k19, k20, k21, k22, k23, k24, k25
      isplitl [H14]; · iexact H14
      isplitl [H15]; · iexact H15
      isplitl [H16]; · iexact H16
      isplitl [H17]; · iexact H17
      isplitl [H18]; · iexact H18
      isplitl [H19]; · iexact H19
      isplitl [H20]; · iexact H20
      isplitl [H21]; · iexact H21
      isplitl [H22]; · iexact H22
      isplitl [H23]; · iexact H23
      isplitl [H24]; · iexact H24
      isplitl [H25]; · iexact H25
      ipureintro
      rw [h', h, ti_eq]; rfl
  · isplitl [H1]; · iexact H1
    isplitl [H2]; · iexact H2
    isplitl [H3]; · iexact H3
    isplitl [H5]; · iexact H5
    iexists f14, f15, f16, f17, f18, f19, f20, f21, f22, f23, f24, f25
    isplitl [H14]; · iexact H14
    isplitl [H15]; · iexact H15
    isplitl [H16]; · iexact H16
    isplitl [H17]; · iexact H17
    isplitl [H18]; · iexact H18
    isplitl [H19]; · iexact H19
    isplitl [H20]; · iexact H20
    isplitl [H21]; · iexact H21
    isplitl [H22]; · iexact H22
    isplitl [H23]; · iexact H23
    isplitl [H24]; · iexact H24
    isplitl [H25]; · iexact H25
    ipureintro; rfl
  iintro %a ⟨H1, H2, H3, H5, %g14, %g15, %g16, %g17, %g18, %g19, %g20, %g21, %g22, %g23, %g24, %g25, H14, H15, H16, H17, H18, H19, H20, H21, H22, H23, H24, H25, %h⟩
  have hT : tiles arg4 arg5 arg6 arg7 arg8 arg14 arg15 arg16 arg17 arg18 arg19 arg20 arg21 arg22 arg23 arg24 arg25 f4 f5 f6 f7 f8 g14 g15 g16 g17 g18 g19 g20 g21 g22 g23 g24 g25 = (prep (arg1.view.read (Elt F) f1) (arg2.view.read (Elt F) f2) (arg3.view.read (Elt F) f3) (arg4.view.read (Elt F) f4) (arg5.view.read (Elt F) f5) (arg6.view.read (Elt F) f6) (arg7.view.read (Elt F) f7) (arg8.view.read (Elt F) f8)) :=
    (h.trans (congrArg (fill _ _) trips1)).trans (fill_8 _ _ rfl rfl rfl rfl rfl)
  clear h
  sl_exec
  sl_for (fun (k : ℕ) (_ : Unit) => iprop((arg4.view.loc (c : Thread nD τ) ↦[arg4.view.set]{fullShare} f4) ∗ (arg5.view.loc (c : Thread nD τ) ↦[arg5.view.set]{fullShare} f5) ∗ (arg6.view.loc (c : Thread nD τ) ↦[arg6.view.set]{fullShare} f6) ∗ (arg7.view.loc (c : Thread nD τ) ↦[arg7.view.set]{fullShare} f7) ∗ (arg8.view.loc (c : Thread nD τ) ↦[arg8.view.set]{fullShare} f8) ∗ (arg14.view.loc (c : Thread nD τ) ↦[arg14.view.set]{fullShare} g14) ∗ (arg15.view.loc (c : Thread nD τ) ↦[arg15.view.set]{fullShare} g15) ∗ (arg16.view.loc (c : Thread nD τ) ↦[arg16.view.set]{fullShare} g16) ∗ (arg17.view.loc (c : Thread nD τ) ↦[arg17.view.set]{fullShare} g17) ∗ (arg18.view.loc (c : Thread nD τ) ↦[arg18.view.set]{fullShare} g18) ∗ (arg19.view.loc (c : Thread nD τ) ↦[arg19.view.set]{fullShare} g19) ∗ (arg20.view.loc (c : Thread nD τ) ↦[arg20.view.set]{fullShare} g20) ∗ (arg21.view.loc (c : Thread nD τ) ↦[arg21.view.set]{fullShare} g21) ∗ (arg22.view.loc (c : Thread nD τ) ↦[arg22.view.set]{fullShare} g22) ∗ (arg23.view.loc (c : Thread nD τ) ↦[arg23.view.set]{fullShare} g23) ∗ (arg24.view.loc (c : Thread nD τ) ↦[arg24.view.set]{fullShare} g24) ∗ (arg25.view.loc (c : Thread nD τ) ↦[arg25.view.set]{fullShare} g25)
          ∗ ∃ (f9' : BufTy.Contents (Elt F) arg9.view.ty) (f13' : BufTy.Contents (Elt F) arg13.view.ty) (f26' : BufTy.Contents (Elt F) arg26.view.ty) (f27' : BufTy.Contents (Elt F) arg27.view.ty) (f12' : BufTy.Contents (Elt F) arg12.view.ty), (arg9.view.loc (c : Thread nD τ) ↦[arg9.view.set]{fullShare} f9') ∗ (arg13.view.loc (c : Thread nD τ) ↦[arg13.view.set]{fullShare} f13') ∗ (arg26.view.loc (c : Thread nD τ) ↦[arg26.view.set]{fullShare} f26') ∗ (arg27.view.loc (c : Thread nD τ) ↦[arg27.view.set]{fullShare} f27') ∗ (arg12.view.loc (c : Thread nD τ) ↦[arg12.view.set]{fullShare} f12')
            ∗ ⌜(((rowT (arg9.view.read (Elt F) f9'), sumT (arg13.view.read (Elt F) f13')), (colT (arg26.view.read (Elt F) f26'), colT (arg27.view.read (Elt F) f27'), lanT (arg12.view.read (Elt F) f12'))) : Grads F) = rows (prep (arg1.view.read (Elt F) f1) (arg2.view.read (Elt F) f2) (arg3.view.read (Elt F) f3) (arg4.view.read (Elt F) f4) (arg5.view.read (Elt F) f5) (arg6.view.read (Elt F) f6) (arg7.view.read (Elt F) f7) (arg8.view.read (Elt F) f8)) ((rowT (arg9.view.read (Elt F) f9), sumT (arg13.view.read (Elt F) f13)), (start (F := F)).2) k⌝)) $$ [H4 H5 H6 H7 H8 H14 H15 H16 H17 H18 H19 H20 H21 H22 H23 H24 H25 H9 H13 H26 H27 H12]
  case region =>
    intro k a
    iintro ⟨H4, H5, H6, H7, H8, H14, H15, H16, H17, H18, H19, H20, H21, H22, H23, H24, H25, %g9, %g13, %g26, %g27, %g12, H9, H13, H26, H27, H12, %h⟩
    iapply (wp_wand_r Idealize.ShloMosaic.frame (wpE (defs₀ (F := F)) 𝒱 (c : Thread nD τ) bd) E)
    isplitl [H4 H5 H6 H7 H8 H14 H15 H16 H17 H18 H19 H20 H21 H22 H23 H24 H25 H9 H13 H26 H27 H12]
    · iapply (trip2 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 𝒱 c bd k f4 f5 f6 f7 f8 g14 g15 g16 g17 g18 g19 g20 g21 g22 g23 g24 g25 g9 g13 g26 g27 g12 E)
      isplitl [H4]; · iexact H4
      isplitl [H5]; · iexact H5
      isplitl [H6]; · iexact H6
      isplitl [H7]; · iexact H7
      isplitl [H8]; · iexact H8
      isplitl [H14]; · iexact H14
      isplitl [H15]; · iexact H15
      isplitl [H16]; · iexact H16
      isplitl [H17]; · iexact H17
      isplitl [H18]; · iexact H18
      isplitl [H19]; · iexact H19
      isplitl [H20]; · iexact H20
      isplitl [H21]; · iexact H21
      isplitl [H22]; · iexact H22
      isplitl [H23]; · iexact H23
      isplitl [H24]; · iexact H24
      isplitl [H25]; · iexact H25
      isplitl [H9]; · iexact H9
      isplitl [H13]; · iexact H13
      isplitl [H26]; · iexact H26
      isplitl [H27]; · iexact H27
      iexact H12
    · iintro %a' ⟨H4, H5, H6, H7, H8, H14, H15, H16, H17, H18, H19, H20, H21, H22, H23, H24, H25, %k9, %k13, %k26, %k27, %k12, H9, H13, H26, H27, H12, %h'⟩
      isplitl [H4]; · iexact H4
      isplitl [H5]; · iexact H5
      isplitl [H6]; · iexact H6
      isplitl [H7]; · iexact H7
      isplitl [H8]; · iexact H8
      isplitl [H14]; · iexact H14
      isplitl [H15]; · iexact H15
      isplitl [H16]; · iexact H16
      isplitl [H17]; · iexact H17
      isplitl [H18]; · iexact H18
      isplitl [H19]; · iexact H19
      isplitl [H20]; · iexact H20
      isplitl [H21]; · iexact H21
      isplitl [H22]; · iexact H22
      isplitl [H23]; · iexact H23
      isplitl [H24]; · iexact H24
      isplitl [H25]; · iexact H25
      iexists k9, k13, k26, k27, k12
      isplitl [H9]; · iexact H9
      isplitl [H13]; · iexact H13
      isplitl [H26]; · iexact H26
      isplitl [H27]; · iexact H27
      isplitl [H12]; · iexact H12
      ipureintro
      rw [h', h, hT, qi_eq]; rfl
  · isplitl [H4]; · iexact H4
    isplitl [H5]; · iexact H5
    isplitl [H6]; · iexact H6
    isplitl [H7]; · iexact H7
    isplitl [H8]; · iexact H8
    isplitl [H14]; · iexact H14
    isplitl [H15]; · iexact H15
    isplitl [H16]; · iexact H16
    isplitl [H17]; · iexact H17
    isplitl [H18]; · iexact H18
    isplitl [H19]; · iexact H19
    isplitl [H20]; · iexact H20
    isplitl [H21]; · iexact H21
    isplitl [H22]; · iexact H22
    isplitl [H23]; · iexact H23
    isplitl [H24]; · iexact H24
    isplitl [H25]; · iexact H25
    iexists _, _, _, _, _
    isplitl [H9]; · iexact H9
    isplitl [H13]; · iexact H13
    isplitl [H26]; · iexact H26
    isplitl [H27]; · iexact H27
    isplitl [H12]; · iexact H12
    ipureintro
    delta body_run.sl.H26_1 body_run.sl.H27_1 body_run.sl.H12_1
    rw [store_all, store_all, store_lanes]; rfl
  iintro %a2 ⟨H4, H5, H6, H7, H8, H14, H15, H16, H17, H18, H19, H20, H21, H22, H23, H24, H25, %g9, %g13, %g26, %g27, %g12, H9, H13, H26, H27, H12, %hG⟩
  sl_for (fun (k : ℕ) (_ : Unit) => iprop((arg26.view.loc (c : Thread nD τ) ↦[arg26.view.set]{fullShare} g26) ∗ (arg27.view.loc (c : Thread nD τ) ↦[arg27.view.set]{fullShare} g27)
          ∗ ∃ (f10' : BufTy.Contents (Elt F) arg10.view.ty) (f11' : BufTy.Contents (Elt F) arg11.view.ty), (arg10.view.loc (c : Thread nD τ) ↦[arg10.view.set]{fullShare} f10') ∗ (arg11.view.loc (c : Thread nD τ) ↦[arg11.view.set]{fullShare} f11')
            ∗ ⌜rowT (arg10.view.read (Elt F) f10') = fillF (fun t => k0_pay11 (colT (arg26.view.read (Elt F) g26) t)) (rowT (arg10.view.read (Elt F) f10)) k
              ∧ rowT (arg11.view.read (Elt F) f11') = fillF (fun t => k0_pay12 (colT (arg27.view.read (Elt F) g27) t)) (rowT (arg11.view.read (Elt F) f11)) k⌝)) $$ [H10 H11 H26 H27]
  case region =>
    intro k a
    iintro ⟨H26, H27, %g10, %g11, H10, H11, %h10, %h11⟩
    iapply (wp_wand_r Idealize.ShloMosaic.frame (wpE (defs₀ (F := F)) 𝒱 (c : Thread nD τ) bd) E)
    isplitl [H10 H11 H26 H27]
    · iapply (trip5 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 𝒱 c bd k g10 g11 g26 g27 E)
      isplitl [H10]; · iexact H10
      isplitl [H11]; · iexact H11
      isplitl [H26]; · iexact H26
      iexact H27
    · iintro %a' ⟨H26, H27, %k10, %k11, H10, H11, %h10', %h11'⟩
      isplitl [H26]; · iexact H26
      isplitl [H27]; · iexact H27
      iexists k10, k11
      isplitl [H10]; · iexact H10
      isplitl [H11]; · iexact H11
      ipureintro
      rw [h10', h10, h11', h11, te_eq]; exact ⟨rfl, rfl⟩
  · isplitl [H26]; · iexact H26
    isplitl [H27]; · iexact H27
    iexists f10, f11
    isplitl [H10]; · iexact H10
    isplitl [H11]; · iexact H11
    ipureintro; exact ⟨rfl, rfl⟩
  iintro %a3 ⟨H26, H27, %g10, %g11, H10, H11, %h10, %h11⟩
  sl_step
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexists g9, g10, g11, g12, g13, g14, g15, g16, g17, g18, g19, g20, g21, g22, g23, g24, g25, g26, g27
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  isplitl [H25]; · iexact H25
  isplitl [H26]; · iexact H26
  isplitl [H27]; · iexact H27
  ipureintro
  have hG' := hG.trans (congrArg (rows _ _) trips2)
  have e2 := (congrArg Prod.snd hG').trans (rows_snd (prep (arg1.view.read (Elt F) f1) (arg2.view.read (Elt F) f2) (arg3.view.read (Elt F) f3) (arg4.view.read (Elt F) f4) (arg5.view.read (Elt F) f5) (arg6.view.read (Elt F) f6) (arg7.view.read (Elt F) f7) (arg8.view.read (Elt F) f8)) ((rowT (arg9.view.read (Elt F) f9), sumT (arg13.view.read (Elt F) f13)), (start (F := F)).2) start rfl 8)
  have h10' := h10.trans ((congrArg (fillF _ _) trips5).trans (fillF_8 _ _))
  have h11' := h11.trans ((congrArg (fillF _ _) trips5).trans (fillF_8 _ _))
  clear h10 h11 hG hT
  refine ⟨?_, ?_, ?_, ?_, ?_⟩
  · exact eq_dq _ _ ((rowT (arg9.view.read (Elt F) f9), sumT (arg13.view.read (Elt F) f13)), (start (F := F)).2) rfl (congrArg (fun g => g.1.1) hG')
  · exact eq_dk _ _ _ (congrArg Prod.fst e2) h10'
  · exact eq_dv _ _ _ (congrArg (fun g => g.2.1) e2) h11'
  · exact eq_dfr _ _ (congrArg (fun g => g.2.2) e2)
  · exact eq_dfc _ _ ((rowT (arg9.view.read (Elt F) f9), sumT (arg13.view.read (Elt F) f13)), (start (F := F)).2) rfl (congrArg (fun g => g.1.2) hG')

end

end Cert.Kernel20Ideal.Fox

end
-- ==== Proof.FoxFrame.lean ====
module

public import proofs.«01_k».proof.Proof.Gen.Kernel20Ideal.Frame
public import proofs.«01_k».proof.Proof.Gen.Kernel20Ideal.Skeleton
public import proofs.«01_k».proof.Proof.FoxBody
public import Idealize.ShloMosaic.Lib.Claim

@[expose] public section

set_option maxRecDepth 16384

/-!
The launch over the grid: every point leaves the five gradients of its blocks; the arguments are unchanged and the counters
are zero at the end.
-/

noncomputable section

namespace Cert.Kernel20Ideal.Fox

open Cert.Kernel20Ideal Cert.Kernel20Ideal.Gen
open Idealize.ShloMosaic Idealize.ShloMosaic.TcCoe Idealize.ShloMosaic.Tactic
open Cert.StickTile Cert.FoxTile
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

section

variable (m : (ℓ : Loc nD τ sig) → Buf (Elt F) ℓ) (ρ : Dev nD → PrngReg)

/-- Window 0's current staging buffer at a point, and its wholeness. -/
abbrev ms0_0 (t : Fin cfg0.N) : Memref sig .tc .vmem S2048x128 .f32 := win0_0.stage (cfg0.slots t 0)
abbrev hs0_0 (t : Fin cfg0.N) : (ms0_0 t).IsWhole := hstage0_0 ((cfg0.slots t 0).cast nbuf0_0)
/-- Window 1's current staging buffer at a point, and its wholeness. -/
abbrev ms0_1 (t : Fin cfg0.N) : Memref sig .tc .vmem S2048x128 .f32 := win0_1.stage (cfg0.slots t 1)
abbrev hs0_1 (t : Fin cfg0.N) : (ms0_1 t).IsWhole := hstage0_1 ((cfg0.slots t 1).cast nbuf0_1)
/-- Window 2's current staging buffer at a point, and its wholeness. -/
abbrev ms0_2 (t : Fin cfg0.N) : Memref sig .tc .vmem S2048x128 .f32 := win0_2.stage (cfg0.slots t 2)
abbrev hs0_2 (t : Fin cfg0.N) : (ms0_2 t).IsWhole := hstage0_2 ((cfg0.slots t 2).cast nbuf0_2)
/-- Window 3's current staging buffer at a point, and its wholeness. -/
abbrev ms0_3 (t : Fin cfg0.N) : Memref sig .tc .vmem S2048x128 .f32 := win0_3.stage (cfg0.slots t 3)
abbrev hs0_3 (t : Fin cfg0.N) : (ms0_3 t).IsWhole := hstage0_3 ((cfg0.slots t 3).cast nbuf0_3)
/-- Window 4's current staging buffer at a point, and its wholeness. -/
abbrev ms0_4 (t : Fin cfg0.N) : Memref sig .tc .vmem S2048x128 .f32 := win0_4.stage (cfg0.slots t 4)
abbrev hs0_4 (t : Fin cfg0.N) : (ms0_4 t).IsWhole := hstage0_4 ((cfg0.slots t 4).cast nbuf0_4)
/-- Window 5's current staging buffer at a point, and its wholeness. -/
abbrev ms0_5 (t : Fin cfg0.N) : Memref sig .tc .vmem S2x2048x1 .f32 := win0_5.stage (cfg0.slots t 5)
abbrev hs0_5 (t : Fin cfg0.N) : (ms0_5 t).IsWhole := hstage0_5 ((cfg0.slots t 5).cast nbuf0_5)
/-- Window 6's current staging buffer at a point, and its wholeness. -/
abbrev ms0_6 (t : Fin cfg0.N) : Memref sig .tc .vmem S2x2048x1 .f32 := win0_6.stage (cfg0.slots t 6)
abbrev hs0_6 (t : Fin cfg0.N) : (ms0_6 t).IsWhole := hstage0_6 ((cfg0.slots t 6).cast nbuf0_6)
/-- Window 7's current staging buffer at a point, and its wholeness. -/
abbrev ms0_7 (t : Fin cfg0.N) : Memref sig .tc .vmem S2x1x2048 .f32 := win0_7.stage (cfg0.slots t 7)
abbrev hs0_7 (t : Fin cfg0.N) : (ms0_7 t).IsWhole := hstage0_7 ((cfg0.slots t 7).cast nbuf0_7)
/-- Window 8's current staging buffer at a point, and its wholeness. -/
abbrev ms0_8 (t : Fin cfg0.N) : Memref sig .tc .vmem S2048x128 .bf16 := win0_8.stage (cfg0.slots t 8)
abbrev hs0_8 (t : Fin cfg0.N) : (ms0_8 t).IsWhole := hstage0_8 ((cfg0.slots t 8).cast nbuf0_8)
/-- Window 9's current staging buffer at a point, and its wholeness. -/
abbrev ms0_9 (t : Fin cfg0.N) : Memref sig .tc .vmem S2048x128 .bf16 := win0_9.stage (cfg0.slots t 9)
abbrev hs0_9 (t : Fin cfg0.N) : (ms0_9 t).IsWhole := hstage0_9 ((cfg0.slots t 9).cast nbuf0_9)
/-- Window 10's current staging buffer at a point, and its wholeness. -/
abbrev ms0_10 (t : Fin cfg0.N) : Memref sig .tc .vmem S2048x128 .bf16 := win0_10.stage (cfg0.slots t 10)
abbrev hs0_10 (t : Fin cfg0.N) : (ms0_10 t).IsWhole := hstage0_10 ((cfg0.slots t 10).cast nbuf0_10)
/-- Window 11's current staging buffer at a point, and its wholeness. -/
abbrev ms0_11 (t : Fin cfg0.N) : Memref sig .tc .vmem S2x1x2048 .f32 := win0_11.stage (cfg0.slots t 11)
abbrev hs0_11 (t : Fin cfg0.N) : (ms0_11 t).IsWhole := hstage0_11 ((cfg0.slots t 11).cast nbuf0_11)
/-- Window 12's current staging buffer at a point, and its wholeness. -/
abbrev ms0_12 (t : Fin cfg0.N) : Memref sig .tc .vmem S2x2048x1 .f32 := win0_12.stage (cfg0.slots t 12)
abbrev hs0_12 (t : Fin cfg0.N) : (ms0_12 t).IsWhole := hstage0_12 ((cfg0.slots t 12).cast nbuf0_12)
/-- Scratch array 0. -/
abbrev scM0_0 : Memref sig .tc .vmem S2048x128 .bf16 := Memref.whole cc0_scratch0
/-- Scratch array 1. -/
abbrev scM0_1 : Memref sig .tc .vmem S2048x128 .bf16 := Memref.whole cc0_scratch1
/-- Scratch array 2. -/
abbrev scM0_2 : Memref sig .tc .vmem S2048x128 .bf16 := Memref.whole cc0_scratch2
/-- Scratch array 3. -/
abbrev scM0_3 : Memref sig .tc .vmem S2048x128 .bf16 := Memref.whole cc0_scratch3
/-- Scratch array 4. -/
abbrev scM0_4 : Memref sig .tc .vmem S2048x128 .bf16 := Memref.whole cc0_scratch4
/-- Scratch array 5. -/
abbrev scM0_5 : Memref sig .tc .vmem S2048x128 .bf16 := Memref.whole cc0_scratch5
/-- Scratch array 6. -/
abbrev scM0_6 : Memref sig .tc .vmem S2048x128 .bf16 := Memref.whole cc0_scratch6
/-- Scratch array 7. -/
abbrev scM0_7 : Memref sig .tc .vmem S2048x128 .bf16 := Memref.whole cc0_scratch7
/-- Scratch array 8. -/
abbrev scM0_8 : Memref sig .tc .vmem S128x2048 .bf16 := Memref.whole cc0_scratch8
/-- Scratch array 9. -/
abbrev scM0_9 : Memref sig .tc .vmem S128x2048 .bf16 := Memref.whole cc0_scratch9
/-- Scratch array 10. -/
abbrev scM0_10 : Memref sig .tc .vmem S128x2048 .bf16 := Memref.whole cc0_scratch10
/-- Scratch array 11. -/
abbrev scM0_11 : Memref sig .tc .vmem S128x2048 .bf16 := Memref.whole cc0_scratch11
/-- Scratch array 12. -/
abbrev scM0_12 : Memref sig .tc .vmem S128x2048 .f32 := Memref.whole cc0_scratch12
/-- Scratch array 13. -/
abbrev scM0_13 : Memref sig .tc .vmem S128x2048 .f32 := Memref.whole cc0_scratch13

/-- The pipeline's invariant with the scratch arrays owned at some contents. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d) ∗ (∃ d, owns (c : Thread nD τ) scM0_5 fullShare d) ∗ (∃ d, owns (c : Thread nD τ) scM0_6 fullShare d) ∗ (∃ d, owns (c : Thread nD τ) scM0_7 fullShare d) ∗ (∃ d, owns (c : Thread nD τ) scM0_8 fullShare d) ∗ (∃ d, owns (c : Thread nD τ) scM0_9 fullShare d) ∗ (∃ d, owns (c : Thread nD τ) scM0_10 fullShare d) ∗ (∃ d, owns (c : Thread nD τ) scM0_11 fullShare d) ∗ (∃ d, owns (c : Thread nD τ) scM0_12 fullShare d) ∗ (∃ d, owns (c : Thread nD τ) scM0_13 fullShare d)) ∗ (∃ r, prngReg c r)) := by
  unfold Pipeline.ΦA; rw [scopedRest0_eq]; simp only [scM0_0, scM0_1, scM0_2, scM0_3, scM0_4, scM0_5, scM0_6, scM0_7, scM0_8, scM0_9, scM0_10, scM0_11, scM0_12, scM0_13, owns_whole]; try rfl

/-- The tiles of the blocks of a point. -/
def D (c : Dev nD) (t : Fin cfg0.N) : Tiles F := prep (iblk m c 0 t) (iblk m c 1 t) (iblk m c 2 t) (iblk m c 3 t) (iblk m c 4 t) (iblk m c 5 t) (iblk m c 6 t) (iblk m c 7 t)

/-- The proof data: inputs at their blocks, outputs at the five gradients. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => dq (D m c t)
    | ⟨9, _⟩ => dk (D m c t)
    | ⟨10, _⟩ => dv (D m c t)
    | ⟨11, _⟩ => dfr (D m c t)
    | ⟨12, _⟩ => dfc (D m c t)
  Φ _ := Pipeline.ΦA spec0 c
  q w := Pipeline.shareOf spec0 w
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = dq (D m c t) := by dsimp only [dats]
theorem after0_9 (c : Dev nD) (t : Fin cfg0.N) : (dats m 0 c).after 9 t = dk (D m c t) := by dsimp only [dats]
theorem after0_10 (c : Dev nD) (t : Fin cfg0.N) : (dats m 0 c).after 10 t = dv (D m c t) := by dsimp only [dats]
theorem after0_11 (c : Dev nD) (t : Fin cfg0.N) : (dats m 0 c).after 11 t = dfr (D m c t) := by dsimp only [dats]
theorem after0_12 (c : Dev nD) (t : Fin cfg0.N) : (dats m 0 c).after 12 t = dfc (D m c t) := by dsimp only [dats]
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d

/-- What the body is called with at a point, and what it returns. -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d)) ∗ (∃ d, owns (c : Thread nD τ) (ms0_1 t) fullShare ((dats m 0 c).before 1 t d)) ∗ (∃ d, owns (c : Thread nD τ) (ms0_2 t) fullShare ((dats m 0 c).before 2 t d)) ∗ (∃ d, owns (c : Thread nD τ) (ms0_3 t) fullShare ((dats m 0 c).before 3 t d)) ∗ (∃ d, owns (c : Thread nD τ) (ms0_4 t) fullShare ((dats m 0 c).before 4 t d)) ∗ (∃ d, owns (c : Thread nD τ) (ms0_5 t) fullShare ((dats m 0 c).before 5 t d)) ∗ (∃ d, owns (c : Thread nD τ) (ms0_6 t) fullShare ((dats m 0 c).before 6 t d)) ∗ (∃ d, owns (c : Thread nD τ) (ms0_7 t) fullShare ((dats m 0 c).before 7 t d)) ∗ (∃ d, owns (c : Thread nD τ) (ms0_8 t) fullShare ((dats m 0 c).before 8 t d)) ∗ (∃ d, owns (c : Thread nD τ) (ms0_9 t) fullShare ((dats m 0 c).before 9 t d)) ∗ (∃ d, owns (c : Thread nD τ) (ms0_10 t) fullShare ((dats m 0 c).before 10 t d)) ∗ (∃ d, owns (c : Thread nD τ) (ms0_11 t) fullShare ((dats m 0 c).before 11 t d)) ∗ (∃ d, owns (c : Thread nD τ) (ms0_12 t) fullShare ((dats m 0 c).before 12 t d)))
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t) ∗ owns (c : Thread nD τ) (ms0_1 t) fullShare ((dats m 0 c).after 1 t) ∗ owns (c : Thread nD τ) (ms0_2 t) fullShare ((dats m 0 c).after 2 t) ∗ owns (c : Thread nD τ) (ms0_3 t) fullShare ((dats m 0 c).after 3 t) ∗ owns (c : Thread nD τ) (ms0_4 t) fullShare ((dats m 0 c).after 4 t) ∗ owns (c : Thread nD τ) (ms0_5 t) fullShare ((dats m 0 c).after 5 t) ∗ owns (c : Thread nD τ) (ms0_6 t) fullShare ((dats m 0 c).after 6 t) ∗ owns (c : Thread nD τ) (ms0_7 t) fullShare ((dats m 0 c).after 7 t) ∗ owns (c : Thread nD τ) (ms0_8 t) fullShare ((dats m 0 c).after 8 t) ∗ owns (c : Thread nD τ) (ms0_9 t) fullShare ((dats m 0 c).after 9 t) ∗ owns (c : Thread nD τ) (ms0_10 t) fullShare ((dats m 0 c).after 10 t) ∗ owns (c : Thread nD τ) (ms0_11 t) fullShare ((dats m 0 c).after 11 t) ∗ owns (c : Thread nD τ) (ms0_12 t) fullShare ((dats m 0 c).after 12 t))

set_option maxHeartbeats 1600000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10, after0_11, after0_12]
  rw [show (dats m 0 c).Φ t.castSucc = Pipeline.ΦA spec0 c from rfl, PhiA0_eq]
  unfold owns
  iintro ⟨⟨⟨⟨%ds0, %f14, -, H14⟩, ⟨%ds1, %f15, -, H15⟩, ⟨%ds2, %f16, -, H16⟩, ⟨%ds3, %f17, -, H17⟩, ⟨%ds4, %f18, -, H18⟩, ⟨%ds5, %f19, -, H19⟩, ⟨%ds6, %f20, -, H20⟩, ⟨%ds7, %f21, -, H21⟩, ⟨%ds8, %f22, -, H22⟩, ⟨%ds9, %f23, -, H23⟩, ⟨%ds10, %f24, -, H24⟩, ⟨%ds11, %f25, -, H25⟩, ⟨%ds12, %f26, -, H26⟩, ⟨%ds13, %f27, -, H27⟩⟩, Hg⟩, Ho, ⟨%d0, %f1, %hf1, H1⟩, ⟨%d1, %f2, %hf2, H2⟩, ⟨%d2, %f3, %hf3, H3⟩, ⟨%d3, %f4, %hf4, H4⟩, ⟨%d4, %f5, %hf5, H5⟩, ⟨%d5, %f6, %hf6, H6⟩, ⟨%d6, %f7, %hf7, H7⟩, ⟨%d7, %f8, %hf8, H8⟩, ⟨%d8, %f9, -, H9⟩, ⟨%d9, %f10, -, H10⟩, ⟨%d10, %f11, -, H11⟩, ⟨%d11, %f12, -, H12⟩, ⟨%d12, %f13, -, H13⟩⟩
  iapply (wp_wand_r Idealize.ShloMosaic.frame (wpE (defs₀ (F := F)) Variants.none (c : Thread nD τ) none) Set.univ)
  isplitl [H1 H2 H3 H4 H5 H6 H7 H8 H9 H10 H11 H12 H13 H14 H15 H16 H17 H18 H19 H20 H21 H22 H23 H24 H25 H26 H27]
  · iapply (body_run (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) scM0_11 (Memref.isWhole_whole _) scM0_12 (Memref.isWhole_whole _) scM0_13 (Memref.isWhole_whole _) Variants.none c none f1 f2 f3 f4 f5 f6 f7 f8 f9 f10 f11 f12 f13 f14 f15 f16 f17 f18 f19 f20 f21 f22 f23 f24 f25 f26 f27 Set.univ)
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]; · iexact H19
    isplitl [H20]; · iexact H20
    isplitl [H21]; · iexact H21
    isplitl [H22]; · iexact H22
    isplitl [H23]; · iexact H23
    isplitl [H24]; · iexact H24
    isplitl [H25]; · iexact H25
    isplitl [H26]; · iexact H26
    iexact H27
  iintro %a ⟨H1, H2, H3, H4, H5, H6, H7, H8, %g9, %g10, %g11, %g12, %g13, %g14, %g15, %g16, %g17, %g18, %g19, %g20, %g21, %g22, %g23, %g24, %g25, %g26, %g27, H9, H10, H11, H12, H13, H14, H15, H16, H17, H18, H19, H20, H21, H22, H23, H24, H25, H26, H27, %h9, %h10, %h11, %h12, %h13⟩
  rw [hf1, hf2, hf3, hf4, hf5, hf6, hf7, hf8] at h9 h10 h11 h12 h13
  isplitl [H14 H15 H16 H17 H18 H19 H20 H21 H22 H23 H24 H25 H26 H27 Hg]
  · isplitl [H14 H15 H16 H17 H18 H19 H20 H21 H22 H23 H24 H25 H26 H27]
    · isplitl [H14]
      · iexists _, _; isplitr; swap; · iexact H14
        ipureintro; rfl
      isplitl [H15]
      · iexists _, _; isplitr; swap; · iexact H15
        ipureintro; rfl
      isplitl [H16]
      · iexists _, _; isplitr; swap; · iexact H16
        ipureintro; rfl
      isplitl [H17]
      · iexists _, _; isplitr; swap; · iexact H17
        ipureintro; rfl
      isplitl [H18]
      · iexists _, _; isplitr; swap; · iexact H18
        ipureintro; rfl
      isplitl [H19]
      · iexists _, _; isplitr; swap; · iexact H19
        ipureintro; rfl
      isplitl [H20]
      · iexists _, _; isplitr; swap; · iexact H20
        ipureintro; rfl
      isplitl [H21]
      · iexists _, _; isplitr; swap; · iexact H21
        ipureintro; rfl
      isplitl [H22]
      · iexists _, _; isplitr; swap; · iexact H22
        ipureintro; rfl
      isplitl [H23]
      · iexists _, _; isplitr; swap; · iexact H23
        ipureintro; rfl
      isplitl [H24]
      · iexists _, _; isplitr; swap; · iexact H24
        ipureintro; rfl
      isplitl [H25]
      · iexists _, _; isplitr; swap; · iexact H25
        ipureintro; rfl
      isplitl [H26]
      · iexists _, _; isplitr; swap; · iexact H26
        ipureintro; rfl
      iexists _, _; isplitr; swap; · iexact H27
      ipureintro; rfl
    iexact Hg
  isplitl [Ho]; · iexact Ho
  isplitl [H1]
  · iexists _; isplitr; swap; · iexact H1
    ipureintro; exact hf1
  isplitl [H2]
  · iexists _; isplitr; swap; · iexact H2
    ipureintro; exact hf2
  isplitl [H3]
  · iexists _; isplitr; swap; · iexact H3
    ipureintro; exact hf3
  isplitl [H4]
  · iexists _; isplitr; swap; · iexact H4
    ipureintro; exact hf4
  isplitl [H5]
  · iexists _; isplitr; swap; · iexact H5
    ipureintro; exact hf5
  isplitl [H6]
  · iexists _; isplitr; swap; · iexact H6
    ipureintro; exact hf6
  isplitl [H7]
  · iexists _; isplitr; swap; · iexact H7
    ipureintro; exact hf7
  isplitl [H8]
  · iexists _; isplitr; swap; · iexact H8
    ipureintro; exact hf8
  isplitl [H9]
  · iexists _; isplitr; swap; · iexact H9
    ipureintro; exact h9
  isplitl [H10]
  · iexists _; isplitr; swap; · iexact H10
    ipureintro; exact h10
  isplitl [H11]
  · iexists _; isplitr; swap; · iexact H11
    ipureintro; exact h11
  isplitl [H12]
  · iexists _; isplitr; swap; · iexact H12
    ipureintro; exact h12
  iexists _; isplitr; swap; · iexact H13
  ipureintro; exact h13

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
/-- The launch: every array as the proof data says, every counter at zero. -/
theorem run_main_quiescent : θ_run defs (onTc (τ := τ) (main (F := F))) (s₀ m ρ) (fun r => (Pipeline.FramePost cfgs (dats m) 0 (V m)) r ∧ r.2.sem = fun _ => 0) :=
  Pipeline.θ_run_frame_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hΦ := fun _ _ => rfl)

/-- The arguments end unchanged and every counter at zero. -/
theorem frame_run : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (frame_of m ρ (dats m) (A_eq m) ((θ_run defs _ _).mono (fun _ h => h.1) (run_main_quiescent m ρ)))
    ((θ_run defs _ _).mono (fun _ h => h.2) (run_main_quiescent m ρ))

end

end Cert.Kernel20Ideal.Fox

end
-- ==== Proof.FoxTwin.lean ====
module

public import proofs.«01_k».proof.Proof.FoxFrame
public import proofs.«01_k».proof.Proof.Gen.Kernel20
public import proofs.«01_k».proof.Proof.Gen.Kernel20Ideal
public import proofs.«01_k».proof.Defs

@[expose] public section

set_option maxHeartbeats 20000000
set_option maxRecDepth 100000

/-!
The forgetting-attention backward kernel before idealization: read with the named constant as the bits it was written
with, the idealized body is the kernel's own, and the frame proved for every interpretation of the floats and of the named
constant is the kernel's frame at the machine's floats.
-/

open Idealize.ShloMosaic

namespace Cert.Proof.FoxTwin

/-- The named constant read as the bits it stands for. -/
@[local instance] def namedBits : Named Bits := ⟨fun _ _ {φ} b => FloatOps.ofBits φ b⟩

/-- The two programs' pipeline bodies are the same. -/
theorem bodies : Cert.Kernel20.defs₀ (F := Bits) = Cert.Kernel20Ideal.defs₀ (F := Bits) := by
  unfold Cert.Kernel20.defs₀ Cert.Kernel20Ideal.defs₀
  refine congrArg Defs.onTc ?_
  funext l a
  match l, a with
  | 0, (t, s) => rfl

theorem procedures : Cert.Kernel20.defs (F := Bits) = Cert.Kernel20Ideal.defs (F := Bits) :=
  congrArg (Pipeline.defs (Cert.Kernel20.pcfgs (F := Bits))) bodies

theorem mains : Cert.Kernel20.main (F := Bits) = Cert.Kernel20Ideal.main (F := Bits) := rfl

/-- The program's arguments end unchanged and every counter at zero. -/
theorem frame_kernel : Cert.quiescent_Kernel20 := fun m ρ _ => by
  have h := Cert.Kernel20Ideal.Fox.frame_run (F := Bits) m ρ
  rw [← procedures, ← mains] at h
  exact h

end Cert.Proof.FoxTwin
-- ==== Proof.FoxReal.lean ====
/- The arithmetic of one tile of the forgetting-attention backward, on reals: what each value the tile computes is, when the
   arrays it reads hold reals. -/
module

public import proofs.«01_k».proof.Proof.FoxStep
public import proofs.«01_k».proof.Proof.StickReal
public import Idealize.ShloMosaic.Lib.Pipeline.ValueKit
public import Idealize.ShloMosaic.Lib.Pointwise

@[expose] public section

set_option maxRecDepth 16384

noncomputable section

namespace Cert.Kernel20Ideal.Fox

open Cert.Kernel20Ideal Cert.Kernel20Ideal.Gen
open Idealize.ShloMosaic Idealize.ShloMosaic.TcCoe
open Cert.Kernel2Ideal.Stick (lift2 lift1 mul_c add_c sub_c exp_c sum_c acc_c nt nn tn All toInt_diff)

/-- A column of reals with a leading axis of size one. -/
abbrev colL {n : ℕ} (c : Fin n → ℝ) : (⟨3, ![1, n, 1]⟩ : Shape).Idx → EReal := fun w => ((c (w 1) : ℝ) : EReal)
/-- A row of reals with two leading axes of size one. -/
abbrev lanL {n : ℕ} (f : Fin n → ℝ) : (⟨3, ![1, 1, n]⟩ : Shape).Idx → EReal := fun w => ((f (w 2) : ℝ) : EReal)

/-- The pairs on and below the diagonal. -/
def Low (p s : Fin 256) : Bool := decide (s ≤ p)
/-- The logits of a tile. -/
def zT (q kb : Fin 256 → Fin 128 → ℝ) (al fk : Fin 256 → ℝ) (p s : Fin 256) : ℝ := nt q kb p s + (al p - fk s)
/-- The weights of a tile: the exponentials of the logits, masked. -/
def eT (M : Fin 256 → Fin 256 → Bool) (z : Fin 256 → Fin 256 → ℝ) (p s : Fin 256) : ℝ := if M p s then Real.exp (z p s) else 0
/-- The gradient of the logits. -/
def sT (e dp : Fin 256 → Fin 256 → ℝ) (d : Fin 256 → ℝ) (p s : Fin 256) : ℝ := e p s * (dp p s - d p)
/-- The two halves of a row, lane by lane. -/
def halves (x : Fin 256 → Fin 256 → ℝ) (p : Fin 256) (l : Fin 128) : ℝ :=
  x p ⟨l.val, by have := l.isLt; omega⟩ + x p ⟨128 + l.val, by have := l.isLt; omega⟩
/-- The column sums, negated. -/
def colneg (x : Fin 256 → Fin 256 → ℝ) (s : Fin 256) : ℝ := -∑ p, x p s
/-- The row sums of a product over the first head's lanes, and over the second's. -/
def dlo (x y : Fin 256 → Fin 128 → ℝ) (p : Fin 256) : ℝ := ∑ l : Fin 128, if l.val < 64 then x p l * y p l else 0
def dhi (x y : Fin 256 → Fin 128 → ℝ) (p : Fin 256) : ℝ := ∑ l : Fin 128, if l.val < 64 then 0 else x p l * y p l

theorem cmp_ge (p s : Fin 256) : IntOp.cmpi CmpIPredicate.sge (IntOp.subi (BitVec.ofNat 32 p.val) (BitVec.ofNat 32 s.val)) 0#32
    = if Low p s then 1#1 else 0#1 := by
  have e := toInt_diff p s
  simp only [IntOp.cmpi, BitVec.sle, e, Low, Fin.le_def]
  by_cases hh : s.val ≤ p.val
  · simp [hh]
  · simp [hh]

/-- The mask of the diagonal tile. -/
abbrev maskL : (⟨2, ![256, 256]⟩ : Shape).Idx → BitVec 1 := fun w => if Low (w 0) (w 1) then 1#1 else 0#1

/-- The exponential of a masked logit: of the constant that stands for minus infinity it is zero. -/
theorem exp_sel (p s : Fin 256) (x : ℝ) :
    Ideal.exp (Scalar.select (if Low p s then 1#1 else 0#1) (x : EReal) (Named.named (F := Ideal) κ "mask" (φ := .f32) 4048155338#32))
      = ((if Low p s then Real.exp x else 0 : ℝ) : EReal) := by
  cases Low p s
  · exact (congrArg Ideal.exp (IdealRules.named_const.ideal_named_scalar _ _ _ _ rfl : Named.named (F := Ideal) κ "mask" (φ := .f32) 4048155338#32 = ⊥)).trans rfl
  · rfl

theorem cmp_lane : ∀ l : Fin 128, IntOp.cmpi CmpIPredicate.slt (BitVec.ofNat 32 l.val) 64#32 = if l.val < 64 then 1#1 else 0#1 := by decide +kernel

theorem sel_lane (l : Fin 128) (x y : EReal) : (Scalar.select (IntOp.cmpi CmpIPredicate.slt (BitVec.ofNat 32 l.val) 64#32) x y : EReal)
    = if l.val < 64 then x else y := by
  rw [cmp_lane]
  by_cases h : l.val < 64
  · rw [if_pos h, if_pos h]; rfl
  · rw [if_neg h, if_neg h]; rfl

theorem low_c (l : Fin 128) (x : ℝ) : (if l.val < 64 then (x : EReal) else 0) = ((if l.val < 64 then x else 0 : ℝ) : EReal) := by
  by_cases h : l.val < 64
  · rw [if_pos h, if_pos h]
  · rw [if_neg h, if_neg h]; rfl
theorem high_c (l : Fin 128) (x : ℝ) : (if l.val < 64 then 0 else (x : EReal)) = ((if l.val < 64 then 0 else x : ℝ) : EReal) := by
  by_cases h : l.val < 64
  · rw [if_pos h, if_pos h]; rfl
  · rw [if_neg h, if_neg h]

variable (kb vb q o k k' : Fin 256 → Fin 128 → ℝ) (qt qt' : Fin 128 → Fin 256 → ℝ) (al fk d c c' : Fin 256 → ℝ)
variable (z e e' dp x x' : Fin 256 → Fin 256 → ℝ) (r g : Fin 256 → Fin 128 → ℝ) (a : Fin 128 → Fin 256 → ℝ)

theorem acc1_c {n : ℕ} (q : ℝ) (f g : Fin n → ℝ) : (q : EReal) + ∑ j, ((f j : ℝ) : EReal) * ((g j : ℝ) : EReal) = ((q + ∑ j, f j * g j : ℝ) : EReal) := by
  rw [Cert.Reals.sum_mul_coe, add_c]

theorem pay34_l : k0_pay34 (F := Ideal) (lift1 al) (lift2 kb) (lift2 q) (lanL fk) = lift2 (eT All (zT q kb al fk)) := by
  funext w
  obtain ⟨p, s, rfl⟩ : ∃ p s, w = ix2 p s := ⟨w 0, w 1, eq_ix2 w⟩
  pointwise [k0_pay34]
  simp only [mul_c, sum_c, sub_c, add_c, exp_c]
  rfl

theorem pay37_l : k0_pay37 (F := Ideal) (lift1 al) (lift2 kb) (lift2 q) (lanL fk) = lift2 (eT All (zT q kb al fk)) := by
  funext w
  obtain ⟨p, s, rfl⟩ : ∃ p s, w = ix2 p s := ⟨w 0, w 1, eq_ix2 w⟩
  pointwise [k0_pay37]
  simp only [mul_c, sum_c, sub_c, add_c, exp_c]
  rfl

theorem pay35_l : k0_pay35 (F := Ideal) (lift1 d) (lift1 al) (lift2 kb) (lift2 vb) (lift2 q) (lift2 o) (lanL fk) = lift2 (sT (eT All (zT q kb al fk)) (nt o vb) d) := by
  funext w
  obtain ⟨p, s, rfl⟩ : ∃ p s, w = ix2 p s := ⟨w 0, w 1, eq_ix2 w⟩
  pointwise [k0_pay35]
  rw [pay34_l]
  simp only [mul_c, sum_c, sub_c, add_c]
  rfl

theorem pay38_l : k0_pay38 (F := Ideal) (lift1 d) (lift1 al) (lift2 kb) (lift2 vb) (lift2 q) (lift2 o) (lanL fk) = lift2 (sT (eT All (zT q kb al fk)) (nt o vb) d) := by
  funext w
  obtain ⟨p, s, rfl⟩ : ∃ p s, w = ix2 p s := ⟨w 0, w 1, eq_ix2 w⟩
  pointwise [k0_pay38]
  rw [pay37_l]
  simp only [mul_c, sum_c, sub_c, add_c]
  rfl

theorem pay36_l : k0_pay36 (F := Ideal) (lift1 al) (lift2 kb) (lift2 q) (lanL fk) = lift2 (eT All (zT q kb al fk)) := by
  funext w
  obtain ⟨p, s, rfl⟩ : ∃ p s, w = ix2 p s := ⟨w 0, w 1, eq_ix2 w⟩
  pointwise [k0_pay36]
  rw [pay34_l]

theorem pay39_l : k0_pay39 (F := Ideal) (lift1 al) (lift2 kb) (lift2 q) (lanL fk) = lift2 (eT All (zT q kb al fk)) := by
  funext w
  obtain ⟨p, s, rfl⟩ : ∃ p s, w = ix2 p s := ⟨w 0, w 1, eq_ix2 w⟩
  pointwise [k0_pay39]
  rw [pay37_l]

theorem pay45_l : k0_pay45 (F := Ideal) (lift2 r) (lift2 x) (lift2 x') (lift2 k) (lift2 k') = lift2 (r + nn x k + nn x' k') := by
  funext w
  obtain ⟨p, s, rfl⟩ : ∃ p s, w = ix2 p s := ⟨w 0, w 1, eq_ix2 w⟩
  pointwise [k0_pay45, k0_pay40, k0_pay44]
  exact acc_c (r p s) (fun j => x p j) (fun j => k j s) (fun j => x' p j) (fun j => k' j s)

theorem pay43_l : k0_pay43 (F := Ideal) (lift2 r) (lift2 x) = lift2 (r + halves x) := by
  funext w
  obtain ⟨p, s, rfl⟩ : ∃ p s, w = ix2 p s := ⟨w 0, w 1, eq_ix2 w⟩
  pointwise [k0_pay43]
  simp only [lift2, add_c]
  exact congrArg (fun y : ℝ => (y : EReal)) (add_assoc _ _ _)

theorem pay67_l : k0_pay67 (F := Ideal) (lift2 r) (lift2 x) = lift2 (r + halves x) := by
  funext w
  obtain ⟨p, s, rfl⟩ : ∃ p s, w = ix2 p s := ⟨w 0, w 1, eq_ix2 w⟩
  pointwise [k0_pay67]
  simp only [lift2, add_c]
  exact congrArg (fun y : ℝ => (y : EReal)) (add_assoc _ _ _)

theorem pay87_l : k0_pay87 (F := Ideal) (lift2 r) (lift2 x) = lift2 (r + halves x) := by
  funext w
  obtain ⟨p, s, rfl⟩ : ∃ p s, w = ix2 p s := ⟨w 0, w 1, eq_ix2 w⟩
  pointwise [k0_pay87]
  simp only [lift2, add_c]
  exact congrArg (fun y : ℝ => (y : EReal)) (add_assoc _ _ _)

theorem pay46_l : k0_pay46 (F := Ideal) (lift2 x) (lift2 x') (lift2 a) (lift2 qt) (lift2 qt') = lift2 (a + tn qt x + tn qt' x') := by
  funext w
  obtain ⟨p, s, rfl⟩ : ∃ p s, w = ix2 p s := ⟨w 0, w 1, eq_ix2 w⟩
  pointwise [k0_pay46, k0_pay40, k0_pay44]
  exact acc_c (a p s) (fun j => qt p j) (fun j => x j s) (fun j => qt' p j) (fun j => x' j s)

theorem pay68_l : k0_pay68 (F := Ideal) (lift2 a) = lift2 a := by
  funext w
  obtain ⟨p, s, rfl⟩ : ∃ p s, w = ix2 p s := ⟨w 0, w 1, eq_ix2 w⟩
  pointwise [k0_pay68]

theorem pay41_l : k0_pay41 (F := Ideal) (lift2 x) (lift2 a) (lift2 qt) = lift2 (a + tn qt x) := by
  funext w
  obtain ⟨p, s, rfl⟩ : ∃ p s, w = ix2 p s := ⟨w 0, w 1, eq_ix2 w⟩
  pointwise [k0_pay41]
  exact acc1_c (a p s) (fun j => qt p j) (fun j => x j s)

theorem pay69_l : k0_pay69 (F := Ideal) (lift2 x) (lift2 a) (lift2 qt) (constant S128x256 .f32 0x00000000#32) = lift2 (a + tn qt x) := by
  funext w
  obtain ⟨p, s, rfl⟩ : ∃ p s, w = ix2 p s := ⟨w 0, w 1, eq_ix2 w⟩
  pointwise [k0_pay69]
  exact acc1_c (a p s) (fun j => qt p j) (fun j => x j s)

theorem pay85_l : k0_pay85 (F := Ideal) (lift2 x) (lift2 a) (lift2 qt) = lift2 (a + tn qt x) := by
  funext w
  obtain ⟨p, s, rfl⟩ : ∃ p s, w = ix2 p s := ⟨w 0, w 1, eq_ix2 w⟩
  pointwise [k0_pay85]
  exact acc1_c (a p s) (fun j => qt p j) (fun j => x j s)

theorem pay92_l : k0_pay92 (F := Ideal) (lift2 x) (lift2 a) (lift2 qt) = lift2 (a + tn qt x) := by
  funext w
  obtain ⟨p, s, rfl⟩ : ∃ p s, w = ix2 p s := ⟨w 0, w 1, eq_ix2 w⟩
  pointwise [k0_pay92]
  exact acc1_c (a p s) (fun j => qt p j) (fun j => x j s)

theorem pay84_l : k0_pay84 (F := Ideal) (lift2 x) (lift2 a) (lift2 qt) = lift2 (a + tn qt x) := by
  funext w
  obtain ⟨p, s, rfl⟩ : ∃ p s, w = ix2 p s := ⟨w 0, w 1, eq_ix2 w⟩
  pointwise [k0_pay84, k0_pay83]
  exact acc1_c (a p s) (fun j => qt p j) (fun j => x j s)

theorem pay91_l : k0_pay91 (F := Ideal) (lift2 a) (lift2 x) (lift2 qt) = lift2 (a + tn qt x) := by
  funext w
  obtain ⟨p, s, rfl⟩ : ∃ p s, w = ix2 p s := ⟨w 0, w 1, eq_ix2 w⟩
  pointwise [k0_pay91]
  exact acc1_c (a p s) (fun j => qt p j) (fun j => x j s)

theorem pay42_l : k0_pay42 (F := Ideal) (lift2 x) (lanL c) = lanL (c + colneg x) := by
  funext w
  obtain ⟨y, p, s, rfl⟩ : ∃ y p s, w = ix3 y p s := ⟨w 0, w 1, w 2, eq_ix3 w⟩
  pointwise [k0_pay42]
  simp only [lift2, sum_c, sub_c]
  exact congrArg (fun y : ℝ => (y : EReal)) (sub_eq_add_neg _ _)

theorem pay66_l : k0_pay66 (F := Ideal) (lift2 x) (lanL c) = lanL (c + colneg x) := by
  funext w
  obtain ⟨y, p, s, rfl⟩ : ∃ y p s, w = ix3 y p s := ⟨w 0, w 1, w 2, eq_ix3 w⟩
  pointwise [k0_pay66]
  simp only [lift2, sum_c, sub_c]
  exact congrArg (fun y : ℝ => (y : EReal)) (sub_eq_add_neg _ _)

theorem pay86_l : k0_pay86 (F := Ideal) (lift2 x) (lanL c) = lanL (c + colneg x) := by
  funext w
  obtain ⟨y, p, s, rfl⟩ : ∃ y p s, w = ix3 y p s := ⟨w 0, w 1, w 2, eq_ix3 w⟩
  pointwise [k0_pay86]
  simp only [lift2, sum_c, sub_c]
  exact congrArg (fun y : ℝ => (y : EReal)) (sub_eq_add_neg _ _)

theorem pay90_l : k0_pay90 (F := Ideal) (lift2 x) (lanL c) = lanL (c + colneg x) := by
  funext w
  obtain ⟨y, p, s, rfl⟩ : ∃ y p s, w = ix3 y p s := ⟨w 0, w 1, w 2, eq_ix3 w⟩
  pointwise [k0_pay90]
  simp only [lift2, sum_c, sub_c]
  exact congrArg (fun y : ℝ => (y : EReal)) (sub_eq_add_neg _ _)

theorem pay65_l : k0_pay65 (F := Ideal) = lift2 0 := by
  funext w
  obtain ⟨p, s, rfl⟩ : ∃ p s, w = ix2 p s := ⟨w 0, w 1, eq_ix2 w⟩
  pointwise [k0_pay65]
  rfl

theorem pay61_l : k0_pay61 (F := Ideal) k0_pay1 (lift2 r) (lift2 g) = lift1 (dlo r g) := by
  funext w
  obtain ⟨p, s, rfl⟩ : ∃ p s, w = ix2 p s := ⟨w 0, w 1, eq_ix2 w⟩
  pointwise [k0_pay61, k0_pay60, k0_pay1]
  refine (Finset.sum_congr rfl fun l _ => (sel_lane l _ _).trans ?_).trans (sum_c _)
  refine Eq.trans ?_ (low_c l _)
  rw [← mul_c]
  rfl

theorem pay62_l : k0_pay62 (F := Ideal) k0_pay1 (lift2 r) (lift2 g) = lift1 (dhi r g) := by
  funext w
  obtain ⟨p, s, rfl⟩ : ∃ p s, w = ix2 p s := ⟨w 0, w 1, eq_ix2 w⟩
  pointwise [k0_pay62, k0_pay60, k0_pay1]
  refine (Finset.sum_congr rfl fun l _ => (sel_lane l _ _).trans ?_).trans (sum_c _)
  refine Eq.trans ?_ (high_c l _)
  rw [← mul_c]
  rfl

theorem pay63_l : k0_pay63 (F := Ideal) (colL c) (colL c') = lift1 fun p => c' p - c p := by
  funext w
  obtain ⟨p, s, rfl⟩ : ∃ p s, w = ix2 p s := ⟨w 0, w 1, eq_ix2 w⟩
  pointwise [k0_pay63]
  rfl

theorem pay64_l : k0_pay64 (F := Ideal) (colL c) (colL c') = lift1 fun p => c' p - c p := by
  funext w
  obtain ⟨p, s, rfl⟩ : ∃ p s, w = ix2 p s := ⟨w 0, w 1, eq_ix2 w⟩
  pointwise [k0_pay64]
  rfl

theorem pay74_l : k0_pay74 (F := Ideal) (lift2 vb) (lift2 o) = lift2 (nt o vb) := by
  funext w
  obtain ⟨p, s, rfl⟩ : ∃ p s, w = ix2 p s := ⟨w 0, w 1, eq_ix2 w⟩
  pointwise [k0_pay74]
  simp only [mul_c, sum_c]
  rfl

theorem pay75_l : k0_pay75 (F := Ideal) k0_pay8 (lift1 al) (lift2 kb) (lift2 q) (lanL fk) = lift2 (eT Low (zT q kb al fk)) := by
  funext w
  obtain ⟨p, s, rfl⟩ : ∃ p s, w = ix2 p s := ⟨w 0, w 1, eq_ix2 w⟩
  pointwise [k0_pay75, k0_pay8]
  rw [cmp_ge]
  simp only [mul_c, sum_c, sub_c, add_c]
  exact exp_sel p s _

theorem pay76_l : k0_pay76 (F := Ideal) k0_pay8 (lift1 d) (lift1 al) (lift2 kb) (lift2 vb) (lift2 q) (lift2 o) (lanL fk) = lift2 (sT (eT Low (zT q kb al fk)) (nt o vb) d) := by
  funext w
  obtain ⟨p, s, rfl⟩ : ∃ p s, w = ix2 p s := ⟨w 0, w 1, eq_ix2 w⟩
  pointwise [k0_pay76]
  rw [pay75_l]
  simp only [mul_c, sum_c, sub_c]
  rfl

theorem pay77_l : k0_pay77 (F := Ideal) k0_pay8 (lift1 al) (lift2 kb) (lift2 q) (lanL fk) = lift2 (eT Low (zT q kb al fk)) := by
  funext w
  obtain ⟨p, s, rfl⟩ : ∃ p s, w = ix2 p s := ⟨w 0, w 1, eq_ix2 w⟩
  pointwise [k0_pay77]
  rw [pay75_l]

theorem pay78_l : k0_pay78 (F := Ideal) (lift1 al) (lift2 kb) (lift2 q) (lanL fk) = lift2 (zT q kb al fk) := by
  funext w
  obtain ⟨p, s, rfl⟩ : ∃ p s, w = ix2 p s := ⟨w 0, w 1, eq_ix2 w⟩
  pointwise [k0_pay78]
  simp only [mul_c, sum_c, sub_c, add_c]
  rfl

theorem pay79_l : k0_pay79 k0_pay8 = maskL := by
  funext w
  obtain ⟨p, s, rfl⟩ : ∃ p s, w = ix2 p s := ⟨w 0, w 1, eq_ix2 w⟩
  pointwise [k0_pay79, k0_pay8]
  exact cmp_ge p s

theorem pay80_l : k0_pay80 (F := Ideal) (lift2 z) maskL = lift2 (eT Low z) := by
  funext w
  obtain ⟨p, s, rfl⟩ : ∃ p s, w = ix2 p s := ⟨w 0, w 1, eq_ix2 w⟩
  pointwise [k0_pay80]
  exact exp_sel p s _

theorem pay81_l : k0_pay81 (F := Ideal) (lift1 d) (lift2 dp) (lift2 z) maskL = lift2 (sT (eT Low z) dp d) := by
  funext w
  obtain ⟨p, s, rfl⟩ : ∃ p s, w = ix2 p s := ⟨w 0, w 1, eq_ix2 w⟩
  pointwise [k0_pay81]
  rw [pay80_l]
  simp only [lift2, mul_c, sub_c]
  rfl

theorem pay82_l : k0_pay82 (F := Ideal) (lift2 z) maskL = lift2 (eT Low z) := by
  funext w
  obtain ⟨p, s, rfl⟩ : ∃ p s, w = ix2 p s := ⟨w 0, w 1, eq_ix2 w⟩
  pointwise [k0_pay82]
  rw [pay80_l]

theorem pay88_l : k0_pay88 (F := Ideal) (lift1 d) (lift2 dp) (lift2 z) maskL = lift2 (sT (eT Low z) dp d) := by
  funext w
  obtain ⟨p, s, rfl⟩ : ∃ p s, w = ix2 p s := ⟨w 0, w 1, eq_ix2 w⟩
  pointwise [k0_pay88]
  rw [pay81_l]

theorem pay89_l : k0_pay89 (F := Ideal) (lift1 d) (lift2 r) (lift2 dp) (lift2 x) (lift2 z) maskL (lift2 k) (lift2 k') = lift2 (r + nn x k + nn (sT (eT Low z) dp d) k') := by
  funext w
  obtain ⟨p, s, rfl⟩ : ∃ p s, w = ix2 p s := ⟨w 0, w 1, eq_ix2 w⟩
  pointwise [k0_pay89, k0_pay83]
  rw [pay88_l]
  exact acc_c (r p s) (fun j => x p j) (fun j => k j s) (fun j => sT (eT Low z) dp d p j) (fun j => k' j s)

theorem pay10_l : k0_pay10 (F := Ideal) (lift2 r) = lift2 r := by
  funext w
  obtain ⟨p, s, rfl⟩ : ∃ p s, w = ix2 p s := ⟨w 0, w 1, eq_ix2 w⟩
  pointwise [k0_pay10]

theorem pay93_l : k0_pay93 (F := Ideal) (lift2 r) = colL fun p => ∑ l, r p l := by
  funext w
  obtain ⟨y, p, s, rfl⟩ : ∃ y p s, w = ix3 y p s := ⟨w 0, w 1, w 2, eq_ix3 w⟩
  pointwise [k0_pay93]
  exact sum_c _

theorem pay94_l : k0_pay94 (F := Ideal) (lift2 r) (lift2 x) = lift1 fun p => ∑ l, (r + halves x) p l := by
  funext w
  obtain ⟨p, s, rfl⟩ : ∃ p s, w = ix2 p s := ⟨w 0, w 1, eq_ix2 w⟩
  pointwise [k0_pay94]
  simp only [lift2, add_c, sum_c]
  exact congrArg (fun y : ℝ => (y : EReal)) (Finset.sum_congr rfl fun l _ => add_assoc _ _ _)

theorem pay9_l : k0_pay9 (F := Ideal) (lift1 c) = colL c := by
  funext w
  obtain ⟨y, p, s, rfl⟩ : ∃ y p s, w = ix3 y p s := ⟨w 0, w 1, w 2, eq_ix3 w⟩
  pointwise [k0_pay9]
  rfl

theorem pay11_l : k0_pay11 (F := Ideal) (lift2 a) = lift2 fun p l => a l p := by
  funext w
  obtain ⟨p, s, rfl⟩ : ∃ p s, w = ix2 p s := ⟨w 0, w 1, eq_ix2 w⟩
  pointwise [k0_pay11]
  rfl

theorem pay12_l : k0_pay12 (F := Ideal) (lift2 a) = lift2 fun p l => a l p := by
  funext w
  obtain ⟨p, s, rfl⟩ : ∃ p s, w = ix2 p s := ⟨w 0, w 1, eq_ix2 w⟩
  pointwise [k0_pay12]
  rfl

end Cert.Kernel20Ideal.Fox

end
-- ==== Proof.FoxWalk.lean ====
/- The walk over the tiles of the forgetting-attention backward, on reals: the gradients it leaves, as sums over tiles. -/
module

public import proofs.«01_k».proof.Proof.FoxReal
public import proofs.«01_k».proof.Proof.StickWalk

@[expose] public section

set_option maxRecDepth 16384

noncomputable section

namespace Cert.Kernel20Ideal.Fox

open Cert.Kernel20Ideal Cert.Kernel20Ideal.Gen
open Idealize.ShloMosaic Idealize.ShloMosaic.TcCoe
open Cert.StickTile Cert.FoxTile
open Cert.Kernel2Ideal.Stick (lift2 lift1 nt nn tn All ofNat_val nn_zero tn_zero)

/-- What the tiles of one head hold, as reals: the scaled query rows, the scaled key rows, the output-gradient rows (other
    head's lanes zero), the key and value rows of both heads, the transposed query and output-gradient columns, the
    log-sum-exps, the gate sums at queries and at keys, and the row sums of the result times its gradient. -/
structure HeadR where
  q : Fin 8 → Fin 256 → Fin 128 → ℝ
  k : Fin 8 → Fin 256 → Fin 128 → ℝ
  o : Fin 8 → Fin 256 → Fin 128 → ℝ
  kb : Fin 8 → Fin 256 → Fin 128 → ℝ
  vb : Fin 8 → Fin 256 → Fin 128 → ℝ
  qt : Fin 8 → Fin 128 → Fin 256 → ℝ
  ot : Fin 8 → Fin 128 → Fin 256 → ℝ
  ls : Fin 8 → Fin 256 → ℝ
  fq : Fin 8 → Fin 256 → ℝ
  fk : Fin 8 → Fin 256 → ℝ
  d : Fin 8 → Fin 256 → ℝ

/-- One of two heads. -/
def two (A B : HeadR) : Fin 2 → HeadR
  | 0 => A
  | 1 => B

/-- The tiles of two heads, with the rows of the result and of its gradient. -/
def liftT (A B : HeadR) (R G : Fin 8 → Fin 256 → Fin 128 → ℝ) : Tiles Ideal where
  q0 t := lift2 (A.q t)
  q1 t := lift2 (B.q t)
  k0 t := lift2 (A.k t)
  k1 t := lift2 (B.k t)
  kb t := lift2 (A.kb t)
  vb t := lift2 (A.vb t)
  o0 t := lift2 (A.o t)
  o1 t := lift2 (B.o t)
  qt0 t := lift2 (A.qt t)
  qt1 t := lift2 (B.qt t)
  ot0 t := lift2 (A.ot t)
  ot1 t := lift2 (B.ot t)
  x4 t := lift2 (R t)
  x5 t := lift2 (G t)
  ls h t := colL ((two A B h).ls t)
  fq h t := colL ((two A B h).fq t)
  fk h t := lanL ((two A B h).fk t)

/-- Row `256 i + p` is at or past column `256 j + s`. -/
def le (i j : Fin 8) (p s : Fin 256) : Bool := decide (256 * j.val + s.val ≤ 256 * i.val + p.val)

theorem le_of_lt {i j : Fin 8} (h : j.val < i.val) : le i j = All := by
  funext p s
  unfold le All
  exact decide_eq_true (by have := s.isLt; omega)

theorem le_self (i : Fin 8) : le i i = Low := by
  funext p s
  unfold le Low
  exact decide_eq_decide.2 (by rw [Fin.le_def]; omega)

theorem le_of_gt {i j : Fin 8} (h : i.val < j.val) (p s : Fin 256) : le i j p s = false := by
  unfold le
  exact decide_eq_false (by have := p.isLt; omega)

/-! Sums of the first few of eight. -/

section
variable {G : Type} [AddCommMonoid G]

/-- The sum of the first `n` of eight. -/
def upg (n : ℕ) (f : Fin 8 → G) : G := ∑ j : Fin 8, if j.val < n then f j else 0

theorem upg_zero (f : Fin 8 → G) : upg 0 f = 0 := by simp [upg]

theorem upg_succ (n : ℕ) (hn : n < 8) (f : Fin 8 → G) : upg (n + 1) f = upg n f + f (Fin.ofNat 8 n) := by
  unfold upg
  have h : ∀ j : Fin 8, (if j.val < n + 1 then f j else 0) = (if j.val < n then f j else 0) + if j = Fin.ofNat 8 n then f j else 0 := fun j => by
    have e : (j = Fin.ofNat 8 n) ↔ j.val = n := by
      rw [Fin.ext_iff]; show j.val = n % 8 ↔ _; rw [Nat.mod_eq_of_lt hn]
    by_cases h1 : j.val < n
    · rw [if_pos h1, if_pos (by omega), if_neg (fun h => by rw [e] at h; omega), add_zero]
    · by_cases h2 : j.val = n
      · rw [if_neg h1, if_pos (by omega), if_pos (e.2 h2), zero_add]
      · rw [if_neg h1, if_neg (by omega), if_neg (fun h => h2 (e.1 h)), add_zero]
  rw [Finset.sum_congr rfl fun j _ => h j, Finset.sum_add_distrib, Finset.sum_ite_eq' Finset.univ (Fin.ofNat 8 n) f, if_pos (Finset.mem_univ _)]

theorem upg_8 (f : Fin 8 → G) : upg 8 f = ∑ i, f i := Finset.sum_congr rfl fun i _ => if_pos i.isLt

theorem upg_all (i : Fin 8) (f : Fin 8 → G) (h : ∀ j : Fin 8, i.val < j.val → f j = 0) : upg (i.val + 1) f = ∑ j, f j := by
  unfold upg
  refine Finset.sum_congr rfl fun j _ => ?_
  by_cases hj : j.val < i.val + 1
  · rw [if_pos hj]
  · rw [if_neg hj, h j (by omega)]

/-- Eight values with the first `n` added to. -/
def plusg (n : ℕ) (d t : Fin 8 → G) (j : Fin 8) : G := d j + if j.val < n then t j else 0

theorem plusg_zero (d t : Fin 8 → G) : plusg 0 d t = d := by funext j; simp [plusg]

theorem plusg_at (n : ℕ) (hn : n < 8) (d t : Fin 8 → G) : plusg n d t (Fin.ofNat 8 n) = d (Fin.ofNat 8 n) := by
  unfold plusg
  rw [ofNat_val hn, if_neg (lt_irrefl n), add_zero]

theorem plusg_succ (n : ℕ) (hn : n < 8) (d t : Fin 8 → G) :
    plusg (n + 1) d t (Fin.ofNat 8 n) = plusg n d t (Fin.ofNat 8 n) + t (Fin.ofNat 8 n) := by
  rw [plusg_at n hn]
  unfold plusg
  rw [ofNat_val hn, if_pos (Nat.lt_succ_self n)]

theorem plusg_ne (n : ℕ) (hn : n < 8) (d t : Fin 8 → G) {j : Fin 8} (h : j ≠ Fin.ofNat 8 n) : plusg (n + 1) d t j = plusg n d t j := by
  have hv : j.val ≠ n := fun h' => h (Fin.ext (h'.trans (ofNat_val hn).symm))
  unfold plusg
  by_cases hl : j.val < n
  · rw [if_pos hl, if_pos (by omega)]
  · rw [if_neg hl, if_neg (by omega)]

theorem plusg_all (i : Fin 8) (d t : Fin 8 → G) (h : ∀ j : Fin 8, i.val < j.val → t j = 0) : plusg (i.val + 1) d t = fun j => d j + t j := by
  funext j
  unfold plusg
  by_cases hj : j.val < i.val + 1
  · rw [if_pos hj]
  · rw [if_neg hj, h j (by omega)]

variable {β : Type} (L : G → β)

theorem plusg_update (n : ℕ) (hn : n < 8) (d t : Fin 8 → G) :
    Function.update (fun j => L (plusg n d t j)) (Fin.ofNat 8 n) (L (plusg n d t (Fin.ofNat 8 n) + t (Fin.ofNat 8 n)))
      = fun j => L (plusg (n + 1) d t j) := by
  funext j
  by_cases h : j = Fin.ofNat 8 n
  · subst h; rw [Function.update_self, plusg_succ n hn]
  · rw [Function.update_of_ne h, plusg_ne n hn d t h]

theorem plusg_put (n : ℕ) (hn : n < 8) (d t : Fin 2 → Fin 8 → G) :
    put (put (fun h j => L (plusg n (d h) (t h) j)) 0 (Fin.ofNat 8 n) (L (plusg n (d 0) (t 0) (Fin.ofNat 8 n) + t 0 (Fin.ofNat 8 n))))
      1 (Fin.ofNat 8 n) (L (plusg n (d 1) (t 1) (Fin.ofNat 8 n) + t 1 (Fin.ofNat 8 n)))
      = fun h j => L (plusg (n + 1) (d h) (t h) j) := by
  funext h j
  by_cases e : j = Fin.ofNat 8 n
  · subst e
    match h with
    | 0 => rw [put2_zero, plusg_succ n hn]
    | 1 => rw [put2_one, plusg_succ n hn]
  · rw [put_ne _ _ (.inr e), put_ne _ _ (.inr e), plusg_ne n hn _ _ e]

end

namespace HeadR
variable (H : HeadR)

/-- The logits. -/
def z (i j : Fin 8) : Fin 256 → Fin 256 → ℝ := zT (H.q i) (H.kb j) (fun p => H.fq i p - H.ls i p) (H.fk j)
/-- The weights. -/
def a (i j : Fin 8) : Fin 256 → Fin 256 → ℝ := eT (le i j) (H.z i j)
/-- The gradient of the logits. -/
def dz (i j : Fin 8) : Fin 256 → Fin 256 → ℝ := sT (H.a i j) (nt (H.o i) (H.vb j)) (H.d i)

end HeadR

/-- What tile `j` adds to the query gradient of row `i`, row `i` to the key and value gradients of tile `j`, and the pair to
    the row sums and to the column sums. -/
def tq (A B : HeadR) (i j : Fin 8) : Fin 256 → Fin 128 → ℝ := nn (A.dz i j) (A.k j) + nn (B.dz i j) (B.k j)
def tk (A B : HeadR) (i j : Fin 8) : Fin 128 → Fin 256 → ℝ := tn (A.qt i) (A.dz i j) + tn (B.qt i) (B.dz i j)
def tv (A B : HeadR) (i j : Fin 8) : Fin 128 → Fin 256 → ℝ := tn (A.ot i) (A.a i j) + tn (B.ot i) (B.a i j)
def tr (A B : HeadR) (h : Fin 2) (i j : Fin 8) : Fin 256 → Fin 128 → ℝ := halves ((two A B h).dz i j)
def tc (A B : HeadR) (h : Fin 2) (i j : Fin 8) : Fin 256 → ℝ := colneg ((two A B h).dz i j)

theorem a_of_gt (H : HeadR) {i j : Fin 8} (h : i.val < j.val) : H.a i j = fun _ _ => 0 := by
  funext p s
  unfold HeadR.a eT
  rw [le_of_gt h]; rfl

theorem dz_of_gt (H : HeadR) {i j : Fin 8} (h : i.val < j.val) : H.dz i j = fun _ _ => 0 := by
  funext p s
  unfold HeadR.dz sT
  rw [a_of_gt H h, zero_mul]

theorem tq_of_gt (A B : HeadR) {i j : Fin 8} (h : i.val < j.val) : tq A B i j = 0 := by
  funext p l
  show nn (A.dz i j) (A.k j) p l + nn (B.dz i j) (B.k j) p l = 0
  rw [dz_of_gt A h, dz_of_gt B h, nn_zero, nn_zero, add_zero]
theorem tk_of_gt (A B : HeadR) {i j : Fin 8} (h : i.val < j.val) : tk A B i j = 0 := by
  funext l s
  show tn (A.qt i) (A.dz i j) l s + tn (B.qt i) (B.dz i j) l s = 0
  rw [dz_of_gt A h, dz_of_gt B h, tn_zero, tn_zero, add_zero]
theorem tv_of_gt (A B : HeadR) {i j : Fin 8} (h : i.val < j.val) : tv A B i j = 0 := by
  funext l s
  show tn (A.ot i) (A.a i j) l s + tn (B.ot i) (B.a i j) l s = 0
  rw [a_of_gt A h, a_of_gt B h, tn_zero, tn_zero, add_zero]
theorem tr_of_gt (A B : HeadR) (e : Fin 2) {i j : Fin 8} (h : i.val < j.val) : tr A B e i j = 0 := by
  funext p l
  unfold tr halves
  rw [dz_of_gt _ h, add_zero]; rfl
theorem tc_of_gt (A B : HeadR) (e : Fin 2) {i j : Fin 8} (h : i.val < j.val) : tc A B e i j = 0 := by
  funext s
  unfold tc colneg
  rw [dz_of_gt _ h, Finset.sum_const_zero, neg_zero]; rfl

/-- The tiles of two heads that go together. -/
structure Pair (A B : HeadR) (R G : Fin 8 → Fin 256 → Fin 128 → ℝ) : Prop where
  kb : A.kb = B.kb
  vb : A.vb = B.vb
  d0 : ∀ i, A.d i = dlo (G i) (R i)
  d1 : ∀ i, B.d i = dhi (G i) (R i)

section
variable {A B : HeadR} {R G : Fin 8 → Fin 256 → Fin 128 → ℝ} (P : Pair A B R G)
include P

/-- One tile left of the diagonal. -/
theorem inner_l (i j : Fin 8) (hj : j.val < i.val) (q r0 r1 : Fin 256 → Fin 128 → ℝ) (dk dv : Fin 128 → Fin 256 → ℝ) (f0 f1 : Fin 256 → ℝ) :
    inner (liftT A B R G) i j (lift2 q, lift2 r0, lift2 r1) (lift2 dk, lift2 dv, lanL f0, lanL f1)
      = ((lift2 (q + tq A B i j), lift2 (r0 + tr A B 0 i j), lift2 (r1 + tr A B 1 i j)),
        lift2 (dk + tk A B i j), lift2 (dv + tv A B i j), lanL (f0 + tc A B 0 i j), lanL (f1 + tc A B 1 i j)) := by
  unfold tq tk tv tr tc two
  simp only [← add_assoc]
  unfold HeadR.dz HeadR.a HeadR.z
  rw [le_of_lt hj, P.d0, P.d1, ← P.kb, ← P.vb]
  unfold inner
  dsimp only [liftT, two]
  simp only [pay61_l, pay62_l, pay63_l, pay64_l, pay35_l, pay36_l, pay38_l, pay39_l, pay45_l, pay43_l, pay67_l, pay46_l, pay68_l, pay41_l, pay69_l,
    pay42_l, pay66_l]

/-- The tile on the diagonal. -/
theorem diag_l (i : Fin 8) (q r0 r1 : Fin 256 → Fin 128 → ℝ) (dk dv : Fin 128 → Fin 256 → ℝ) (f0 f1 : Fin 256 → ℝ) :
    diag (liftT A B R G) i (lift2 q, lift2 r0, lift2 r1) (lift2 dk, lift2 dv, lanL f0, lanL f1)
      = ((lift2 (q + tq A B i i), colL fun p => ∑ l, (r0 + tr A B 0 i i) p l, colL fun p => ∑ l, (r1 + tr A B 1 i i) p l),
        lift2 (dk + tk A B i i), lift2 (dv + tv A B i i), lanL (f0 + tc A B 0 i i), lanL (f1 + tc A B 1 i i)) := by
  unfold tq tk tv tr tc two
  simp only [← add_assoc]
  unfold HeadR.dz HeadR.a HeadR.z
  rw [le_self, P.d0, P.d1, ← P.kb, ← P.vb]
  unfold diag
  dsimp only [liftT, two]
  simp only [pay61_l, pay62_l, pay63_l, pay64_l, pay74_l, pay76_l, pay77_l, pay78_l, pay79_l, pay81_l, pay82_l, pay89_l, pay10_l, pay87_l, pay93_l,
    pay94_l, pay9_l, pay84_l, pay88_l, pay91_l, pay85_l, pay92_l, pay86_l, pay90_l]

/-- The walk along row `i`. -/
theorem walk_l (i : Fin 8) (dk dv : Fin 8 → Fin 128 → Fin 256 → ℝ) (df : Fin 2 → Fin 8 → Fin 256 → ℝ) : ∀ n : ℕ, n ≤ i.val →
    walk (liftT A B R G) i (carry0, fun j => lift2 (dk j), fun j => lift2 (dv j), fun h j => lanL (df h j)) n
      = ((lift2 (upg n (tq A B i)), lift2 (upg n (tr A B 0 i)), lift2 (upg n (tr A B 1 i))),
        fun j => lift2 (plusg n dk (tk A B i) j), fun j => lift2 (plusg n dv (tv A B i) j), fun h j => lanL (plusg n (df h) (tc A B h i) j))
  | 0, _ => by
    simp only [plusg_zero, upg_zero]
    rw [walk]
    unfold carry0
    rw [pay65_l]
  | n + 1, hn => by
    have hi := i.isLt
    have h8 : n < 8 := by omega
    have hv := ofNat_val h8
    rw [walk, walk_l i dk dv df n (by omega)]
    unfold step accAt accPut
    dsimp only
    rw [inner_l P i (Fin.ofNat 8 n) (by omega)]
    dsimp only
    rw [plusg_update (β := FVec Ideal S128x256 .f32) (fun x => lift2 x) n h8 dk (tk A B i), plusg_update (β := FVec Ideal S128x256 .f32) (fun x => lift2 x) n h8 dv (tv A B i),
      plusg_put (β := FVec Ideal S1x1x256 .f32) (fun x => lanL x) n h8 df (fun h => tc A B h i), upg_succ n h8, upg_succ n h8, upg_succ n h8]

/-- One row of tiles. -/
theorem row_l (i : Fin 8) (g : (Fin 8 → FVec Ideal S256x128 .bf16) × (Fin 2 → Fin 8 → FVec Ideal S1x256x1 .f32)) (dk dv : Fin 8 → Fin 128 → Fin 256 → ℝ) (df : Fin 2 → Fin 8 → Fin 256 → ℝ) :
    row (liftT A B R G) i (g, fun j => lift2 (dk j), fun j => lift2 (dv j), fun h j => lanL (df h j))
      = ((Function.update g.1 i (lift2 (∑ j, tq A B i j)),
          put (put g.2 0 i (colL fun p => ∑ l, (∑ j, tr A B 0 i j) p l)) 1 i (colL fun p => ∑ l, (∑ j, tr A B 1 i j) p l)),
        fun j => lift2 (dk j + tk A B i j), fun j => lift2 (dv j + tv A B i j), fun h j => lanL (df h j + tc A B h i j)) := by
  have hi : Fin.ofNat 8 i.val = i := Fin.ext (ofNat_val i.isLt)
  rw [row_of_walk (liftT A B R G) i _ _ (walk_l P i dk dv df i.val le_rfl).symm]
  unfold accAt accPut
  dsimp only
  rw [diag_l P]
  dsimp only
  have hk := plusg_update (β := FVec Ideal S128x256 .f32) (fun x => lift2 x) i.val i.isLt dk (tk A B i)
  have hw := plusg_update (β := FVec Ideal S128x256 .f32) (fun x => lift2 x) i.val i.isLt dv (tv A B i)
  have hf := plusg_put (β := FVec Ideal S1x1x256 .f32) (fun x => lanL x) i.val i.isLt df (fun h => tc A B h i)
  have hq := upg_succ i.val i.isLt (tq A B i)
  have h0 := upg_succ i.val i.isLt (tr A B 0 i)
  have h1 := upg_succ i.val i.isLt (tr A B 1 i)
  rw [hi] at hk hw hf hq h0 h1
  rw [hk, hw, hf, ← hq, ← h0, ← h1, plusg_all i dk _ fun j hj => tk_of_gt A B hj, plusg_all i dv _ fun j hj => tv_of_gt A B hj,
    upg_all i _ fun j hj => tq_of_gt A B hj, upg_all i _ fun j hj => tr_of_gt A B 0 hj, upg_all i _ fun j hj => tr_of_gt A B 1 hj]
  have hc : (fun h j => lanL (plusg (i.val + 1) (df h) (tc A B h i) j) : Fin 2 → Fin 8 → FVec Ideal S1x1x256 .f32) = fun h j => lanL (df h j + tc A B h i j) := by
    funext h j
    rw [plusg_all i (df h) _ fun j hj => tc_of_gt A B h hj]
  rw [hc]

/-- The row sums of head `h` at row `i`. -/
def rsum (A B : HeadR) (h : Fin 2) (i : Fin 8) (p : Fin 256) : ℝ := ∑ l, (∑ j, tr A B h i j) p l

/-- All rows: what the first `n` leave. -/
theorem rows_l (g : (Fin 8 → FVec Ideal S256x128 .bf16) × (Fin 2 → Fin 8 → FVec Ideal S1x256x1 .f32)) : ∀ n : ℕ, n ≤ 8 →
    (rows (liftT A B R G) (g, fun _ => lift2 0, fun _ => lift2 0, fun _ _ => lanL 0) n).2
      = (fun j => lift2 (upg n fun i => tk A B i j), fun j => lift2 (upg n fun i => tv A B i j), fun h j => lanL (upg n fun i => tc A B h i j))
    ∧ ∀ t : Fin 8, t.val < n → (rows (liftT A B R G) (g, fun _ => lift2 0, fun _ => lift2 0, fun _ _ => lanL 0) n).1.1 t = lift2 (∑ j, tq A B t j)
      ∧ ∀ h, (rows (liftT A B R G) (g, fun _ => lift2 0, fun _ => lift2 0, fun _ _ => lanL 0) n).1.2 h t = colL (rsum A B h t)
  | 0, _ => ⟨by rw [rows]; simp only [upg_zero], fun t h => absurd h (Nat.not_lt_zero _)⟩
  | n + 1, hn => by
    have h8 : n < 8 := by omega
    obtain ⟨h1, h2⟩ := rows_l g n (by omega)
    have hp : rows (liftT A B R G) (g, fun _ => lift2 0, fun _ => lift2 0, fun _ _ => lanL 0) n
        = ((rows (liftT A B R G) (g, fun _ => lift2 0, fun _ => lift2 0, fun _ _ => lanL 0) n).1,
          fun j => lift2 (upg n fun i => tk A B i j), fun j => lift2 (upg n fun i => tv A B i j), fun h j => lanL (upg n fun i => tc A B h i j)) := by
      rw [← h1]
    have hr := row_l P (Fin.ofNat 8 n) (rows (liftT A B R G) (g, fun _ => lift2 0, fun _ => lift2 0, fun _ _ => lanL 0) n).1
      (fun j => upg n fun i => tk A B i j) (fun j => upg n fun i => tv A B i j) (fun h j => upg n fun i => tc A B h i j)
    rw [rows, hp, hr]
    refine ⟨?_, fun t ht => ?_⟩
    · simp only [upg_succ n h8]
    · by_cases e : t = Fin.ofNat 8 n
      · subst e
        refine ⟨Function.update_self .., fun h => ?_⟩
        match h with
        | 0 => dsimp only; rw [put2_zero]; rfl
        | 1 => dsimp only; rw [put2_one]; rfl
      · have h3 := h2 t (ne_of_lt_succ hn ht e)
        refine ⟨(Function.update_of_ne e _ _).trans h3.1, fun h => ?_⟩
        exact (put_ne _ _ (.inr e)).trans ((put_ne _ _ (.inr e)).trans (h3.2 h))

omit P

theorem start_l : (start (F := Ideal)).2 = (fun _ => lift2 0, fun _ => lift2 0, fun _ _ => lanL 0) := by
  have h5 : k0_pay5 (F := Ideal) = fun _ => (((0 : ℝ) : EReal)) := by
    funext w
    obtain ⟨p, s, rfl⟩ : ∃ p s, w = ix2 p s := ⟨w 0, w 1, eq_ix2 w⟩
    pointwise [k0_pay5]
    rfl
  have h6 : k0_pay6 (F := Ideal) = fun _ => (((0 : ℝ) : EReal)) := by
    funext w
    obtain ⟨p, s, rfl⟩ : ∃ p s, w = ix2 p s := ⟨w 0, w 1, eq_ix2 w⟩
    pointwise [k0_pay6]
    rfl
  have h7 : k0_pay7 (F := Ideal) = fun _ => (((0 : ℝ) : EReal)) := by
    funext w
    obtain ⟨y, p, s, rfl⟩ : ∃ y p s, w = ix3 y p s := ⟨w 0, w 1, w 2, eq_ix3 w⟩
    pointwise [k0_pay7]
    rfl
  unfold start
  rw [h5, h6, h7]
  rfl

include P

/-- The gradients of a grid point whose tiles hold reals. -/
theorem rows8_l : rows (liftT A B R G) start 8 = ((fun t => lift2 (∑ j, tq A B t j), fun h t => colL (rsum A B h t)),
      fun j => lift2 (∑ i, tk A B i j), fun j => lift2 (∑ i, tv A B i j), fun h j => lanL (∑ i, tc A B h i j)) := by
  have h := rows_l P (start (F := Ideal)).1 8 le_rfl
  have hs : ((start (F := Ideal)).1, (fun _ => lift2 0 : Fin 8 → FVec Ideal S128x256 .f32), (fun _ => lift2 0 : Fin 8 → FVec Ideal S128x256 .f32), (fun _ _ => lanL 0 : Fin 2 → Fin 8 → FVec Ideal S1x1x256 .f32))
      = start (F := Ideal) := Prod.ext rfl start_l.symm
  rw [hs] at h
  simp only [upg_8] at h
  exact Prod.ext (Prod.ext (funext fun t => (h.2 t t.isLt).1) (funext fun b => funext fun t => (h.2 t t.isLt).2 b)) h.1

end

end Cert.Kernel20Ideal.Fox

end
-- ==== Proof.FoxMax.lean ====
/- The largest of a row of reals, some of them masked off, is a real. -/
module

public import Idealize.ShloMosaic.Lib.Pointwise

@[expose] public section

noncomputable section

namespace Cert.FoxMax

open Idealize.ShloMosaic

theorem real_of_bounds (x : EReal) (h1 : x < ⊤) (h2 : ⊥ < x) : ∃ r : ℝ, x = (r : EReal) :=
  ⟨x.toReal, (EReal.coe_toReal h1.ne h2.ne').symm⟩

theorem fold_real {n : ℕ} (v : Fin n → EReal) (ht : ∀ k, v k < ⊤) (k : Fin n) (hk : ⊥ < v k) :
    ∃ r : ℝ, Finset.univ.fold max (⊥ : EReal) v = (r : EReal) :=
  real_of_bounds _ ((Finset.fold_max_lt _).2 ⟨bot_lt_top, fun j _ => ht j⟩) ((Finset.lt_fold_max _).2 (.inr ⟨k, Finset.mem_univ _, hk⟩))

/-- The largest entry along the last axis. -/
theorem row_max {a b n : ℕ} {u : Shape} (v : (⟨3, ![a, b, n]⟩ : Shape).Idx → EReal) (init : u.Idx → EReal)
    (h : (⟨3, ![a, b, n]⟩ : Shape).ReducesTo [2] ⟨2, ![a, b]⟩) (hu : 0 < u.numel) (h0 : init (Shape.Idx.first hu) = ⊥)
    (i : Fin a) (t : Fin b) (ht : ∀ k, v (ix3 i t k) < ⊤) (k : Fin n) (hk : ⊥ < v (ix3 i t k)) :
    ∃ r : ℝ, Host.reduce (FloatOps.maximumf (F := Ideal) (φ := .f32)) v init h hu (ix2 i t) = (r : EReal) := by
  have e : Host.reduce (FloatOps.maximumf (F := Ideal) (φ := .f32)) v init h hu (ix2 i t)
      = (Finset.univ.filter fun w => h.drop w = ix2 i t).fold max (⊥ : EReal) v := by
    rw [← h0]; exact Host.reduce_eq_fold (α := EReal) max v init h hu (ix2 i t)
  rw [e, h.fold_fiber_r3_a2 (ix2 i t) max ⊥ v]
  exact fold_real _ (fun k => ht k) k hk

end Cert.FoxMax

end
-- ==== Proof.FoxRef.lean ====
/- The reference of the forgetting-attention backward, on reals: each of its stages, when the arguments hold reals. -/
module

public import proofs.«01_k».proof.Proof.StickRef
public import proofs.«01_k».proof.Proof.FoxMax
public import proofs.«01_k».proof.Proof.Norm
public import proofs.«01_k».proof.Proof.Gen.Reference20Ideal.Read

@[expose] public section

set_option maxRecDepth 16384

noncomputable section

namespace Cert.Reference20Ideal.Fox

open Cert.Reference20Ideal Cert.Reference20Ideal.Read
open Idealize.ShloMosaic Idealize.ShloMosaic.TcCoe
open Cert.Kernel2Ideal.Stick (lift2 mul_c add_c sub_c exp_c sum_c)
open Cert.Reference2Ideal.Stick (lift3 neg_c ofBits_eighth)

theorem div_c (a b : ℝ) (h : b ≠ 0) : Ideal.div (a : EReal) (b : EReal) = ((a / b : ℝ) : EReal) := by
  rw [Ideal.div_coe h, ← EReal.coe_mul, mul_one_div]

theorem ofBits_ninf : Ideal.ofBits .f32 4286578688#32 = ⊥ := by
  simp only [Ideal.ofBits, Ideal.ieee]
  norm_num [BitVec.extractLsb', Nat.shiftRight_eq_div_pow]

theorem cmp_le (t s : Fin 2048) : IntOp.cmpi CmpIPredicate.sle (BitVec.ofNat 32 s.val) (BitVec.ofNat 32 t.val) = if s ≤ t then 1#1 else 0#1 := by
  have ht := t.isLt
  have hs := s.isLt
  have e : ∀ n : ℕ, n < 2048 → (BitVec.ofNat 32 n).toInt = n := fun n hn => by
    rw [BitVec.toInt_ofNat']
    simp only [Int.bmod]
    omega
  simp only [IntOp.cmpi, BitVec.sle, e _ ht, e _ hs, Fin.le_def]
  by_cases hh : s.val ≤ t.val
  · simp [hh]
  · simp [hh]

theorem sel_le (t s : Fin 2048) (x y : EReal) : (Scalar.select (IntOp.cmpi CmpIPredicate.sle (BitVec.ofNat 32 s.val) (BitVec.ofNat 32 t.val)) x y : EReal)
    = if s ≤ t then x else y := by
  rw [cmp_le]
  by_cases h : s ≤ t
  · rw [if_pos h, if_pos h]; rfl
  · rw [if_neg h, if_neg h]; rfl

/-- Lane `l` of head `h`. -/
def lane (h : Fin 16) (l : Fin 64) : ℕ := h.val * 64 + l.val

theorem lane_lt (h : Fin 16) (l : Fin 64) : lane h l < 1024 := by unfold lane; have := h.isLt; have := l.isLt; omega

variable (X : Fin 2048 → Fin 3200 → ℝ) (f : Fin 16 → Fin 2048 → ℝ) (Y : Fin 2048 → Fin 1024 → ℝ)

/-- The query, key, value and output gradient of a head. -/
def q (h : Fin 16) (t : Fin 2048) (l : Fin 64) : ℝ := X t ⟨lane h l, by have := lane_lt h l; omega⟩
def k (h : Fin 16) (s : Fin 2048) (l : Fin 64) : ℝ := X s ⟨1024 + lane h l, by have := lane_lt h l; omega⟩
def v (h : Fin 16) (s : Fin 2048) (l : Fin 64) : ℝ := X s ⟨2048 + lane h l, by have := lane_lt h l; omega⟩
def o (h : Fin 16) (t : Fin 2048) (l : Fin 64) : ℝ := Y t ⟨lane h l, lane_lt h l⟩

/-- The scores with the gates between. -/
def z (h : Fin 16) (t s : Fin 2048) : ℝ := ((∑ l, q X h t l * (1 / 8) * k X h s l) + f h t) - f h s
/-- The weights before they are normalised, their total, and the weights. -/
def W (h : Fin 16) (t s : Fin 2048) : ℝ := if s ≤ t then Real.exp (z X f h t s) else 0
def L (h : Fin 16) (t : Fin 2048) : ℝ := ∑ s, W X f h t s
def P (h : Fin 16) (t s : Fin 2048) : ℝ := W X f h t s / L X f h t
/-- The gradient of the weights, its mean, and the gradient of the scores. -/
def dp (h : Fin 16) (t s : Fin 2048) : ℝ := ∑ l, o Y h t l * v X h s l
def dm (h : Fin 16) (t : Fin 2048) : ℝ := ∑ s, P X f h t s * dp X Y h t s
def ds (h : Fin 16) (t s : Fin 2048) : ℝ := P X f h t s * (dp X Y h t s - dm X f Y h t)

theorem L_pos (h : Fin 16) (t : Fin 2048) : 0 < L X f h t := by
  refine Finset.sum_pos' (fun s _ => ?_) ⟨t, Finset.mem_univ _, ?_⟩
  · unfold W; split
    · exact (Real.exp_pos _).le
    · exact le_rfl
  · unfold W; rw [if_pos le_rfl]; exact Real.exp_pos _

theorem v15_l : val_main_v15 (F := Ideal) (lift2 X) (lift2 f) = lift3 (z X f) := by
  funext w
  obtain ⟨h, t, s, rfl⟩ : ∃ h t s, w = ix3 h t s := ⟨w 0, w 1, w 2, eq_ix3 w⟩
  pointwise [val_main_v15, val_main_v14, val_main_v13, val_main_v12, val_main_v11, val_main_v10, val_main_v9, val_main_v8, val_main_v7, val_main_cst, val_main_v5, val_main_v4, val_main_v2, val_main_v1, val_main_v0]
  rw [ofBits_eighth]
  simp only [mul_c, sum_c, add_c, sub_c]
  rfl

theorem v22_l (h : Fin 16) (t s : Fin 2048) : val_main_v22_0 (F := Ideal) (lift2 X) (lift2 f) (ix3 h t s) = if s ≤ t then ((z X f h t s : ℝ) : EReal) else ⊥ := by
  pointwise [val_main_v22_0, val_main_v22_1, val_main_v21, val_main_v20, val_main_v19, val_main_v18, val_main_v17, val_main_v16, val_main_call0_v2, val_main_call0_v0, val_main_cst_0]
  rw [v15_l]
  refine (sel_le t s _ _).trans ?_
  exact if_congr Iff.rfl rfl ofBits_ninf

theorem v23_real (h : Fin 16) (t : Fin 2048) : ∃ r : ℝ, val_main_v23 (F := Ideal) (lift2 X) (lift2 f) (ix2 h t) = (r : EReal) := by
  unfold val_main_v23
  refine Cert.FoxMax.row_max _ _ _ _ ofBits_ninf h t (fun s => ?_) t ?_
  · rw [v22_l]; split
    · exact EReal.coe_lt_top _
    · exact bot_lt_top
  · rw [v22_l, if_pos le_rfl]; exact EReal.bot_lt_coe _

theorem max_at {s : Shape} (a b : s.Idx → EReal) (i : s.Idx) : maximumf (F := Ideal) (φ := .f32) a b i = max (a i) (b i) := rfl

theorem v30_real : ∃ M : Fin 16 → Fin 2048 → ℝ, val_main_v30 (F := Ideal) (lift2 X) (lift2 f) = lift2 M := by
  have h : ∀ w : Fin 16 × Fin 2048, ∃ r : ℝ, val_main_v30 (F := Ideal) (lift2 X) (lift2 f) (ix2 w.1 w.2) = (r : EReal) := fun w => by
    obtain ⟨r, hr⟩ := v23_real X f w.1 w.2
    refine ⟨r, ?_⟩
    have h29 : val_main_v29 (F := Ideal) (ix2 w.1 w.2) = (⊥ : EReal) := by
      pointwise [val_main_v29, val_main_cst_3]
      exact ofBits_ninf
    unfold val_main_v30
    rw [max_at, hr, h29]
    exact max_eq_right bot_le
  obtain ⟨M, hM⟩ := Classical.axiom_of_choice h
  refine ⟨fun a b => M (a, b), funext fun w => ?_⟩
  obtain ⟨a, b, rfl⟩ : ∃ a b, w = ix2 a b := ⟨w 0, w 1, eq_ix2 w⟩
  exact hM (a, b)

section
variable (M : Fin 16 → Fin 2048 → ℝ) (hM : val_main_v30 (F := Ideal) (lift2 X) (lift2 f) = lift2 M)
include hM

theorem v43_l : val_main_v43 (F := Ideal) (lift2 X) (lift2 f) = lift3 fun h t s => W X f h t s * Real.exp (-M h t) := by
  funext w
  obtain ⟨h, t, s, rfl⟩ : ∃ h t s, w = ix3 h t s := ⟨w 0, w 1, w 2, eq_ix3 w⟩
  pointwise [val_main_v43, val_main_v42, val_main_v41, val_main_v40]
  rw [hM, v22_l]
  by_cases hs : s ≤ t
  · rw [if_pos hs]
    show Ideal.exp (((z X f h t s : ℝ) : EReal) - ((M h t : ℝ) : EReal)) = ((W X f h t s * Real.exp (-M h t) : ℝ) : EReal)
    unfold W
    rw [sub_c, exp_c, if_pos hs, ← Real.exp_add, sub_eq_add_neg]
  · rw [if_neg hs, EReal.bot_sub]
    show (0 : EReal) = ((W X f h t s * Real.exp (-M h t) : ℝ) : EReal)
    unfold W
    rw [if_neg hs, zero_mul]; rfl

theorem v44_l : val_main_v44 (F := Ideal) (lift2 X) (lift2 f) = lift2 fun h t => L X f h t * Real.exp (-M h t) := by
  funext w
  obtain ⟨h, t, rfl⟩ : ∃ h t, w = ix2 h t := ⟨w 0, w 1, eq_ix2 w⟩
  pointwise [val_main_v44, val_main_cst_9]
  rw [v43_l X f M hM]
  simp only [sum_c]
  refine congrArg (fun r : ℝ => (r : EReal)) ?_
  show ∑ s, W X f h t s * Real.exp (-M h t) = (∑ s, W X f h t s) * Real.exp (-M h t)
  rw [Finset.sum_mul]

theorem v47_l : val_main_v47 (F := Ideal) (lift2 X) (lift2 f) = lift3 (P X f) := by
  funext w
  obtain ⟨h, t, s, rfl⟩ : ∃ h t s, w = ix3 h t s := ⟨w 0, w 1, w 2, eq_ix3 w⟩
  pointwise [val_main_v47, val_main_v46, val_main_v45]
  rw [v43_l X f M hM, v44_l X f M hM]
  have hL := L_pos X f h t
  have hE := Real.exp_pos (-M h t)
  refine (div_c _ _ (by positivity)).trans (congrArg (fun r : ℝ => (r : EReal)) ?_)
  exact mul_div_mul_right _ _ hE.ne'

theorem v50_l : val_main_v50 (F := Ideal) (lift2 X) (lift2 f)
    = fun w => ((1 / (L X f (w 0) (w 1) * Real.exp (-M (w 0) (w 1)) * (L X f (w 0) (w 1) * Real.exp (-M (w 0) (w 1)))) : ℝ) : EReal) := by
  funext w
  obtain ⟨h, t, s, rfl⟩ : ∃ h t s, w = ix3 h t s := ⟨w 0, w 1, w 2, eq_ix3 w⟩
  pointwise [val_main_v50, val_main_v49, val_main_v48, val_main_v45, val_main_cst_10]
  rw [v44_l X f M hM, mul_c]
  have hL := L_pos X f h t
  have hE := Real.exp_pos (-M h t)
  exact div_c 1 (L X f h t * Real.exp (-M h t) * (L X f h t * Real.exp (-M h t))) (by positivity)

end

theorem v55_l : val_main_v55 (F := Ideal) (lift2 X) (lift2 Y) = lift3 (dp X Y) := by
  funext w
  obtain ⟨h, t, s, rfl⟩ : ∃ h t s, w = ix3 h t s := ⟨w 0, w 1, w 2, eq_ix3 w⟩
  pointwise [val_main_v55, val_main_v54, val_main_v53, val_main_v6, val_main_v3, val_main_v0]
  simp only [mul_c, sum_c]
  rfl

section
variable (M : Fin 16 → Fin 2048 → ℝ) (hM : val_main_v30 (F := Ideal) (lift2 X) (lift2 f) = lift2 M)
include hM

/-- The mean of the gradients, divided once more by the total. -/
theorem v66_l : val_main_v66 (F := Ideal) (lift2 X) (lift2 f) (lift2 Y) = lift2 fun h t => -(dm X f Y h t / (L X f h t * Real.exp (-M h t))) := by
  funext w
  obtain ⟨h, t, rfl⟩ : ∃ h t, w = ix2 h t := ⟨w 0, w 1, eq_ix2 w⟩
  pointwise [val_main_v66, val_main_v63, val_main_v62, val_main_v61, val_main_v60, val_main_v59, val_main_v58, val_main_cst_11, val_main_cst_12]
  rw [v43_l X f M hM, v50_l X f M hM, v55_l]
  simp only [mul_c, sum_c, neg_c, Fin.sum_univ_one]
  have hL := L_pos X f h t
  have hE := Real.exp_pos (-M h t)
  refine congrArg (fun r : ℝ => (r : EReal)) ?_
  show -∑ s, dp X Y h t s * (1 / (L X f h t * Real.exp (-M h t) * (L X f h t * Real.exp (-M h t)))) * (W X f h t s * Real.exp (-M h t))
    = -((∑ s, W X f h t s / L X f h t * dp X Y h t s) / (L X f h t * Real.exp (-M h t)))
  rw [Finset.sum_div]
  refine congrArg (fun r : ℝ => -r) (Finset.sum_congr rfl fun s _ => ?_)
  generalize Real.exp (-M h t) = E at hE
  field_simp

theorem v70_l : val_main_v70 (F := Ideal) (lift2 X) (lift2 f) (lift2 Y) = lift3 (ds X f Y) := by
  funext w
  obtain ⟨h, t, s, rfl⟩ : ∃ h t s, w = ix3 h t s := ⟨w 0, w 1, w 2, eq_ix3 w⟩
  pointwise [val_main_v70, val_main_v69, val_main_v68, val_main_v67, val_main_v65, val_main_v64, val_main_v45, val_main_v22_1, val_main_v21, val_main_v20, val_main_v19, val_main_v18, val_main_v17, val_main_v16, val_main_call1_v0, val_main_call1_cst]
  rw [v43_l X f M hM, v44_l X f M hM, v55_l, v66_l X f Y M hM]
  refine (sel_le t s _ _).trans ?_
  have hL := L_pos X f h t
  have hE := Real.exp_pos (-M h t)
  show _ = ((ds X f Y h t s : ℝ) : EReal)
  by_cases hs : s ≤ t
  · rw [if_pos hs, div_c _ _ (by positivity), add_c, mul_c]
    refine congrArg (fun r : ℝ => (r : EReal)) ?_
    show (dp X Y h t s / (L X f h t * Real.exp (-M h t)) + -(dm X f Y h t / (L X f h t * Real.exp (-M h t)))) * (W X f h t s * Real.exp (-M h t))
      = W X f h t s / L X f h t * (dp X Y h t s - dm X f Y h t)
    generalize Real.exp (-M h t) = E at hE
    field_simp
    ring
  · rw [if_neg hs]
    unfold ds P W
    rw [if_neg hs, zero_div, zero_mul]
    rfl

end

/-- The head of a column. -/
def hd (c : Fin 1024) : Fin 16 := ⟨c.val / 64, by have := c.isLt; omega⟩
/-- Its lane. -/
def ln (c : Fin 1024) : Fin 64 := ⟨c.val % 64, Nat.mod_lt _ (by decide)⟩

theorem lane_hd (c : Fin 1024) : lane (hd c) (ln c) = c.val := by unfold lane hd ln; show c.val / 64 * 64 + c.val % 64 = c.val; omega

theorem v70_r : val_main_v70 (F := Ideal) (lift2 X) (lift2 f) (lift2 Y) = lift3 (ds X f Y) := by
  obtain ⟨M, hM⟩ := v30_real X f
  exact v70_l X f Y M hM
theorem v47_r : val_main_v47 (F := Ideal) (lift2 X) (lift2 f) = lift3 (P X f) := by
  obtain ⟨M, hM⟩ := v30_real X f
  exact v47_l X f M hM

theorem v85_l : val_main_v85 (F := Ideal) (lift2 X) (lift2 f) (lift2 Y) = lift2 fun t c => (∑ s, ds X f Y (hd c) t s * k X (hd c) s (ln c)) * (1 / 8) := by
  funext w
  obtain ⟨t, c, rfl⟩ : ∃ t c, w = ix2 t c := ⟨w 0, w 1, eq_ix2 w⟩
  pointwise [val_main_v85, val_main_v84, val_main_v83, val_main_v82, val_main_v81, val_main_v80, val_main_cst_17, val_main_v5, val_main_v2, val_main_v0]
  rw [v70_r, ofBits_eighth]
  simp only [mul_c, sum_c]
  have e : ∀ s, k X (hd c) s (ln c) = X s ⟨1024 + c.val, by have := c.isLt; omega⟩ := fun s => congrArg (X s) (Fin.ext (congrArg (1024 + ·) (lane_hd c)))
  refine congrArg (fun r : ℝ => (r : EReal)) ?_
  show _ = (∑ s, ds X f Y (hd c) t s * k X (hd c) s (ln c)) * (1 / 8)
  simp only [e]
  rfl

theorem v87_l : val_main_v87 (F := Ideal) (lift2 X) (lift2 f) (lift2 Y) = lift2 fun s c => ∑ t, ds X f Y (hd c) t s * (q X (hd c) t (ln c) * (1 / 8)) := by
  funext w
  obtain ⟨s, c, rfl⟩ : ∃ t c, w = ix2 t c := ⟨w 0, w 1, eq_ix2 w⟩
  pointwise [val_main_v87, val_main_v86, val_main_v79, val_main_v78, val_main_v8, val_main_v7, val_main_cst, val_main_v4, val_main_v1, val_main_v0]
  rw [v70_r, ofBits_eighth]
  simp only [mul_c, sum_c]
  have e : ∀ t, q X (hd c) t (ln c) = X t ⟨c.val, by have := c.isLt; omega⟩ := fun t => congrArg (X t) (Fin.ext (lane_hd c))
  refine congrArg (fun r : ℝ => (r : EReal)) ?_
  show _ = ∑ t, ds X f Y (hd c) t s * (q X (hd c) t (ln c) * (1 / 8))
  simp only [e]
  rfl

theorem v89_l : val_main_v89 (F := Ideal) (lift2 X) (lift2 f) (lift2 Y) = lift2 fun s c => ∑ t, o Y (hd c) t (ln c) * P X f (hd c) t s := by
  funext w
  obtain ⟨s, c, rfl⟩ : ∃ t c, w = ix2 t c := ⟨w 0, w 1, eq_ix2 w⟩
  pointwise [val_main_v89, val_main_v88, val_main_v57, val_main_v56, val_main_v54, val_main_v53]
  rw [v47_r]
  simp only [mul_c, sum_c]
  have e : ∀ t, o Y (hd c) t (ln c) = Y t ⟨c.val, by have := c.isLt; omega⟩ := fun t => congrArg (Y t) (Fin.ext (lane_hd c))
  refine congrArg (fun r : ℝ => (r : EReal)) ?_
  show _ = ∑ t, o Y (hd c) t (ln c) * P X f (hd c) t s
  simp only [e]
  rfl

theorem v90_l : val_main_v90 (F := Ideal) (lift2 X) (lift2 f) (lift2 Y) = lift3 fun h _ s => -∑ t, ds X f Y h t s := by
  funext w
  obtain ⟨h, y, s, rfl⟩ : ∃ h y s, w = ix3 h y s := ⟨w 0, w 1, w 2, eq_ix3 w⟩
  pointwise [val_main_v90, val_main_v74, val_main_v73, val_main_v72, val_main_v71, val_main_cst_13, val_main_cst_14]
  rw [v70_r]
  simp only [neg_c, sum_c, Fin.sum_univ_one]
  refine congrArg (fun r : ℝ => (r : EReal)) ?_
  exact Finset.sum_neg_distrib _

theorem v91_l : val_main_v91 (F := Ideal) (lift2 X) (lift2 f) (lift2 Y) = lift3 fun h t _ => ∑ s, ds X f Y h t s := by
  funext w
  obtain ⟨h, t, y, rfl⟩ : ∃ h y s, w = ix3 h y s := ⟨w 0, w 1, w 2, eq_ix3 w⟩
  pointwise [val_main_v91, val_main_v77, val_main_v76, val_main_v75, val_main_cst_15, val_main_cst_16]
  rw [v70_r]
  simp only [sum_c, Fin.sum_univ_one]
  rfl

end Cert.Reference20Ideal.Fox

end
-- ==== Proof.FoxMatch.lean ====
/- The sums over tiles of the forgetting-attention backward are the reference's sums over rows: the two programs on reals. -/
module

public import proofs.«01_k».proof.Proof.FoxWalk
public import proofs.«01_k».proof.Proof.FoxRef
public import proofs.«01_k».proof.Proof.StickMatch

@[expose] public section

set_option maxRecDepth 16384

noncomputable section

namespace Cert.FoxMatch

open Cert.Kernel2Ideal.Stick (nt nn tn)
open Cert.Kernel20Ideal.Fox (HeadR two tq tk tv tr tc rsum halves colneg dlo dhi zT eT sT le Pair)
open Cert.Reference20Ideal.Fox
open Cert.StickMatch (rw' flat low_half high_half)

variable (X : Fin 2048 → Fin 3200 → ℝ) (f : Fin 16 → Fin 2048 → ℝ) (Y : Fin 2048 → Fin 1024 → ℝ)

/-- The log-sum-exps of the scores, and the forward's result. -/
def lse (h : Fin 16) (t : Fin 2048) : ℝ := Real.log (L X f h t)
def fwd (t : Fin 2048) (c : Fin 1024) : ℝ := ∑ s, v X (hd c) s (ln c) * P X f (hd c) t s

/-- What the tiles of a head have to do with the reference's head `h`. -/
structure Is (H : HeadR) (h : Fin 16) : Prop where
  hz : ∀ i j p s, H.z i j p s = z X f h (rw' i p) (rw' j s) - lse X f h (rw' i p)
  hda : ∀ i j p s, nt (H.o i) (H.vb j) p s = dp X Y h (rw' i p) (rw' j s)
  hd : ∀ i p, H.d i p = dm X f Y h (rw' i p)

section
variable {X f Y} {H : HeadR} {h : Fin 16} (I : Is X f Y H h)
include I

theorem a_eq (i j : Fin 8) (p s : Fin 256) : H.a i j p s = P X f h (rw' i p) (rw' j s) := by
  unfold HeadR.a eT P W
  have hle : (le i j p s = true) ↔ rw' j s ≤ rw' i p := by unfold le; rw [decide_eq_true_iff]; rfl
  by_cases hs : rw' j s ≤ rw' i p
  · rw [if_pos (hle.2 hs), if_pos hs, I.hz, Real.exp_sub]
    unfold lse
    rw [Real.exp_log (L_pos X f h _)]
  · rw [if_neg (fun c => hs (hle.1 c)), if_neg hs, zero_div]

theorem dz_eq (i j : Fin 8) (p s : Fin 256) : H.dz i j p s = ds X f Y h (rw' i p) (rw' j s) := by
  unfold HeadR.dz sT ds
  rw [a_eq I, I.hda, I.hd]

end

/-- The tiles of the first of two heads: the other head's lanes zero. -/
def fst (Q K V R O : Fin 2048 → Fin 128 → ℝ) (ls fq : Fin 2048 → ℝ) : HeadR where
  q i p l := if l.val < 64 then Q (rw' i p) l * (1 / 8) else 0
  k i p l := if l.val < 64 then K (rw' i p) l * (1 / 8) else 0
  o i p l := if l.val < 64 then O (rw' i p) l else 0
  kb i p l := K (rw' i p) l
  vb i p l := V (rw' i p) l
  qt i l p := if l.val < 64 then Q (rw' i p) l * (1 / 8) else 0
  ot i l p := if l.val < 64 then O (rw' i p) l else 0
  ls i p := ls (rw' i p)
  fq i p := fq (rw' i p)
  fk i p := fq (rw' i p)
  d i := dlo (fun p l => O (rw' i p) l) (fun p l => R (rw' i p) l)

/-- The tiles of the second. -/
def snd (Q K V R O : Fin 2048 → Fin 128 → ℝ) (ls fq : Fin 2048 → ℝ) : HeadR where
  q i p l := if l.val < 64 then 0 else Q (rw' i p) l * (1 / 8)
  k i p l := if l.val < 64 then 0 else K (rw' i p) l * (1 / 8)
  o i p l := if l.val < 64 then 0 else O (rw' i p) l
  kb i p l := K (rw' i p) l
  vb i p l := V (rw' i p) l
  qt i l p := if l.val < 64 then 0 else Q (rw' i p) l * (1 / 8)
  ot i l p := if l.val < 64 then 0 else O (rw' i p) l
  ls i p := ls (rw' i p)
  fq i p := fq (rw' i p)
  fk i p := fq (rw' i p)
  d i := dhi (fun p l => O (rw' i p) l) (fun p l => R (rw' i p) l)

/-- The two go together. -/
theorem pair (Q K V R O : Fin 2048 → Fin 128 → ℝ) (l0 l1 f0 f1 : Fin 2048 → ℝ) :
    Pair (fst Q K V R O l0 f0) (snd Q K V R O l1 f1) (fun i p l => R (rw' i p) l) (fun i p l => O (rw' i p) l) :=
  ⟨rfl, rfl, fun _ => rfl, fun _ => rfl⟩

/-- Lane `l` of the first head and of the second, among the lanes of the pair. -/
def la (l : Fin 64) : Fin 128 := ⟨l.val, by have := l.isLt; omega⟩
def lb (l : Fin 64) : Fin 128 := ⟨64 + l.val, by have := l.isLt; omega⟩

variable (n : ℕ) (hn : n < 8)

/-- The columns of a pair of heads. -/
def cc (l : Fin 128) : Fin 1024 := ⟨128 * n + l.val, by have := l.isLt; omega⟩
def colQ (t : Fin 2048) (l : Fin 128) : ℝ := X t ⟨128 * n + l.val, by have := l.isLt; omega⟩
def colK (t : Fin 2048) (l : Fin 128) : ℝ := X t ⟨1024 + (128 * n + l.val), by have := l.isLt; omega⟩
def colV (t : Fin 2048) (l : Fin 128) : ℝ := X t ⟨2048 + (128 * n + l.val), by have := l.isLt; omega⟩
def colO (t : Fin 2048) (l : Fin 128) : ℝ := Y t (cc n hn l)
def colR (t : Fin 2048) (l : Fin 128) : ℝ := fwd X f t (cc n hn l)

/-- The two heads of pair `n`. -/
def h0 : Fin 16 := ⟨2 * n, by omega⟩
def h1 : Fin 16 := ⟨2 * n + 1, by omega⟩

theorem hd_low (l : Fin 128) (hl : l.val < 64) : hd (cc n hn l) = h0 n hn := Fin.ext (by show (128 * n + l.val) / 64 = 2 * n; omega)
theorem hd_high (l : Fin 128) (hl : ¬ l.val < 64) : hd (cc n hn l) = h1 n hn := Fin.ext (by have := l.isLt; show (128 * n + l.val) / 64 = 2 * n + 1; omega)

theorem q_col (t : Fin 2048) (l : Fin 128) : colQ X n hn t l = q X (hd (cc n hn l)) t (ln (cc n hn l)) :=
  congrArg (X t) (Fin.ext (lane_hd (cc n hn l)).symm)
theorem k_col (t : Fin 2048) (l : Fin 128) : colK X n hn t l = k X (hd (cc n hn l)) t (ln (cc n hn l)) :=
  congrArg (X t) (Fin.ext (congrArg (1024 + ·) (lane_hd (cc n hn l)).symm))
theorem v_col (t : Fin 2048) (l : Fin 128) : colV X n hn t l = v X (hd (cc n hn l)) t (ln (cc n hn l)) :=
  congrArg (X t) (Fin.ext (congrArg (2048 + ·) (lane_hd (cc n hn l)).symm))
theorem o_col (t : Fin 2048) (l : Fin 128) : colO Y n hn t l = o Y (hd (cc n hn l)) t (ln (cc n hn l)) :=
  congrArg (Y t) (Fin.ext (lane_hd (cc n hn l)).symm)

theorem hd_la (l : Fin 64) : hd (cc n hn (la l)) = h0 n hn := hd_low n hn _ l.isLt
theorem hd_lb (l : Fin 64) : hd (cc n hn (lb l)) = h1 n hn := hd_high n hn _ (by show ¬ (64 + l.val < 64); omega)
theorem ln_la (l : Fin 64) : ln (cc n hn (la l)) = l := Fin.ext (by have := l.isLt; show (128 * n + l.val) % 64 = l.val; omega)
theorem ln_lb (l : Fin 64) : ln (cc n hn (lb l)) = l := Fin.ext (by have := l.isLt; show (128 * n + (64 + l.val)) % 64 = l.val; omega)

/-- The mean of the gradients, from the forward's result. -/
theorem dm_fwd (h : Fin 16) (t : Fin 2048) : ∑ l, o Y h t l * (∑ s, v X h s l * P X f h t s) = dm X f Y h t := by
  unfold dm dp
  simp only [Finset.mul_sum]
  rw [Finset.sum_comm]
  refine Finset.sum_congr rfl fun s _ => Finset.sum_congr rfl fun l _ => ?_
  ring

/-- The pair's first and second head. -/
def A : HeadR := fst (colQ X n hn) (colK X n hn) (colV X n hn) (colR X f n hn) (colO Y n hn) (lse X f (h0 n hn)) (f (h0 n hn))
def B : HeadR := snd (colQ X n hn) (colK X n hn) (colV X n hn) (colR X f n hn) (colO Y n hn) (lse X f (h1 n hn)) (f (h1 n hn))

theorem is_A : Is X f Y (A X f Y n hn) (h0 n hn) where
  hz i j p s := by
    show (∑ l : Fin 128, (if l.val < 64 then colQ X n hn (rw' i p) l * (1 / 8) else 0) * colK X n hn (rw' j s) l)
      + ((f (h0 n hn) (rw' i p) - lse X f (h0 n hn) (rw' i p)) - f (h0 n hn) (rw' j s)) = _
    simp only [ite_mul, zero_mul]
    rw [low_half fun l => colQ X n hn (rw' i p) l * (1 / 8) * colK X n hn (rw' j s) l]
    have e : ∀ l : Fin 64, colQ X n hn (rw' i p) (la l) * (1 / 8) * colK X n hn (rw' j s) (la l) = q X (h0 n hn) (rw' i p) l * (1 / 8) * k X (h0 n hn) (rw' j s) l := fun l => by
      rw [q_col, k_col, hd_la, ln_la]
    refine (congrArg (· + _) (Finset.sum_congr rfl fun l _ => e l)).trans ?_
    unfold z
    ring
  hda i j p s := by
    show ∑ l : Fin 128, (if l.val < 64 then colO Y n hn (rw' i p) l else 0) * colV X n hn (rw' j s) l = _
    simp only [ite_mul, zero_mul]
    rw [low_half fun l => colO Y n hn (rw' i p) l * colV X n hn (rw' j s) l]
    refine Finset.sum_congr rfl fun l _ => ?_
    show colO Y n hn (rw' i p) (la l) * colV X n hn (rw' j s) (la l) = _
    rw [o_col, v_col, hd_la, ln_la]
  hd i p := by
    show (∑ l : Fin 128, if l.val < 64 then colO Y n hn (rw' i p) l * colR X f n hn (rw' i p) l else 0) = _
    rw [low_half fun l => colO Y n hn (rw' i p) l * colR X f n hn (rw' i p) l, ← dm_fwd]
    refine Finset.sum_congr rfl fun l _ => ?_
    show colO Y n hn (rw' i p) (la l) * fwd X f (rw' i p) (cc n hn (la l)) = _
    unfold fwd
    rw [o_col, hd_la, ln_la]

theorem is_B : Is X f Y (B X f Y n hn) (h1 n hn) where
  hz i j p s := by
    show (∑ l : Fin 128, (if l.val < 64 then 0 else colQ X n hn (rw' i p) l * (1 / 8)) * colK X n hn (rw' j s) l)
      + ((f (h1 n hn) (rw' i p) - lse X f (h1 n hn) (rw' i p)) - f (h1 n hn) (rw' j s)) = _
    simp only [ite_mul, zero_mul]
    rw [high_half fun l => colQ X n hn (rw' i p) l * (1 / 8) * colK X n hn (rw' j s) l]
    have e : ∀ l : Fin 64, colQ X n hn (rw' i p) (lb l) * (1 / 8) * colK X n hn (rw' j s) (lb l) = q X (h1 n hn) (rw' i p) l * (1 / 8) * k X (h1 n hn) (rw' j s) l := fun l => by
      rw [q_col, k_col, hd_lb, ln_lb]
    refine (congrArg (· + _) (Finset.sum_congr rfl fun l _ => e l)).trans ?_
    unfold z
    ring
  hda i j p s := by
    show ∑ l : Fin 128, (if l.val < 64 then 0 else colO Y n hn (rw' i p) l) * colV X n hn (rw' j s) l = _
    simp only [ite_mul, zero_mul]
    rw [high_half fun l => colO Y n hn (rw' i p) l * colV X n hn (rw' j s) l]
    refine Finset.sum_congr rfl fun l _ => ?_
    show colO Y n hn (rw' i p) (lb l) * colV X n hn (rw' j s) (lb l) = _
    rw [o_col, v_col, hd_lb, ln_lb]
  hd i p := by
    show (∑ l : Fin 128, if l.val < 64 then 0 else colO Y n hn (rw' i p) l * colR X f n hn (rw' i p) l) = _
    rw [high_half fun l => colO Y n hn (rw' i p) l * colR X f n hn (rw' i p) l, ← dm_fwd]
    refine Finset.sum_congr rfl fun l _ => ?_
    show colO Y n hn (rw' i p) (lb l) * fwd X f (rw' i p) (cc n hn (lb l)) = _
    unfold fwd
    rw [o_col, hd_lb, ln_lb]

theorem tq_sum (i : Fin 8) (p : Fin 256) (l : Fin 128) : (∑ j, tq (A X f Y n hn) (B X f Y n hn) i j) p l
    = (∑ s, ds X f Y (hd (cc n hn l)) (rw' i p) s * k X (hd (cc n hn l)) s (ln (cc n hn l))) * (1 / 8) := by
  rw [Finset.sum_mul, flat, Finset.sum_apply, Finset.sum_apply]
  refine Finset.sum_congr rfl fun j _ => ?_
  unfold tq nn
  rw [Pi.add_apply, Pi.add_apply, ← Finset.sum_add_distrib]
  refine Finset.sum_congr rfl fun s _ => ?_
  rw [dz_eq (is_A X f Y n hn), dz_eq (is_B X f Y n hn), ← k_col]
  show _ * (if l.val < 64 then colK X n hn (rw' j s) l * (1 / 8) else 0) + _ * (if l.val < 64 then 0 else colK X n hn (rw' j s) l * (1 / 8)) = _
  by_cases hl : l.val < 64
  · rw [if_pos hl, if_pos hl, hd_low n hn l hl]; ring
  · rw [if_neg hl, if_neg hl, hd_high n hn l hl]; ring

theorem tk_sum (j : Fin 8) (l : Fin 128) (s : Fin 256) : (∑ i, tk (A X f Y n hn) (B X f Y n hn) i j) l s
    = ∑ t, ds X f Y (hd (cc n hn l)) t (rw' j s) * (q X (hd (cc n hn l)) t (ln (cc n hn l)) * (1 / 8)) := by
  rw [flat, Finset.sum_apply, Finset.sum_apply]
  refine Finset.sum_congr rfl fun i _ => ?_
  unfold tk tn
  rw [Pi.add_apply, Pi.add_apply, ← Finset.sum_add_distrib]
  refine Finset.sum_congr rfl fun p _ => ?_
  rw [dz_eq (is_A X f Y n hn), dz_eq (is_B X f Y n hn), ← q_col]
  show (if l.val < 64 then colQ X n hn (rw' i p) l * (1 / 8) else 0) * _ + (if l.val < 64 then 0 else colQ X n hn (rw' i p) l * (1 / 8)) * _ = _
  by_cases hl : l.val < 64
  · rw [if_pos hl, if_pos hl, hd_low n hn l hl]; ring
  · rw [if_neg hl, if_neg hl, hd_high n hn l hl]; ring

theorem tv_sum (j : Fin 8) (l : Fin 128) (s : Fin 256) : (∑ i, tv (A X f Y n hn) (B X f Y n hn) i j) l s
    = ∑ t, o Y (hd (cc n hn l)) t (ln (cc n hn l)) * P X f (hd (cc n hn l)) t (rw' j s) := by
  rw [flat, Finset.sum_apply, Finset.sum_apply]
  refine Finset.sum_congr rfl fun i _ => ?_
  unfold tv tn
  rw [Pi.add_apply, Pi.add_apply, ← Finset.sum_add_distrib]
  refine Finset.sum_congr rfl fun p _ => ?_
  rw [a_eq (is_A X f Y n hn), a_eq (is_B X f Y n hn), ← o_col]
  show (if l.val < 64 then colO Y n hn (rw' i p) l else 0) * _ + (if l.val < 64 then 0 else colO Y n hn (rw' i p) l) * _ = _
  by_cases hl : l.val < 64
  · rw [if_pos hl, if_pos hl, hd_low n hn l hl]; ring
  · rw [if_neg hl, if_neg hl, hd_high n hn l hl]; ring

/-- Head `e` of pair `n`. -/
def he (e : Fin 2) : Fin 16 := ⟨2 * n + e.val, by have := e.isLt; omega⟩

theorem is_two : ∀ e : Fin 2, Is X f Y (two (A X f Y n hn) (B X f Y n hn) e) (he n hn e)
  | 0 => is_A X f Y n hn
  | 1 => is_B X f Y n hn

theorem halves_sum (x : Fin 256 → Fin 256 → ℝ) (p : Fin 256) : ∑ l, halves x p l = ∑ s, x p s := by
  unfold halves
  rw [Finset.sum_add_distrib]
  exact (Fin.sum_univ_add (a := 128) (b := 128) fun s : Fin (128 + 128) => x p s).symm

theorem rsum_eq (e : Fin 2) (i : Fin 8) (p : Fin 256) : rsum (A X f Y n hn) (B X f Y n hn) e i p = ∑ s, ds X f Y (he n hn e) (rw' i p) s := by
  unfold rsum
  simp only [Finset.sum_apply]
  rw [Finset.sum_comm, flat]
  refine Finset.sum_congr rfl fun j _ => ?_
  unfold tr
  rw [halves_sum]
  exact Finset.sum_congr rfl fun s _ => dz_eq (is_two X f Y n hn e) i j p s

theorem csum_eq (e : Fin 2) (j : Fin 8) (s : Fin 256) : (∑ i, tc (A X f Y n hn) (B X f Y n hn) e i j) s = -∑ t, ds X f Y (he n hn e) t (rw' j s) := by
  rw [Finset.sum_apply, flat, ← Finset.sum_neg_distrib]
  refine Finset.sum_congr rfl fun i _ => ?_
  unfold tc colneg
  exact congrArg (fun r : ℝ => -r) (Finset.sum_congr rfl fun p _ => dz_eq (is_two X f Y n hn e) i j p s)

end Cert.FoxMatch

end
-- ==== Proof.FoxPrep.lean ====
/- The tiles that the forgetting-attention backward prepares, on reals: two heads side by side, each with the other's lanes zero. -/
module

public import proofs.«01_k».proof.Proof.FoxMatch
public import proofs.«01_k».proof.Proof.StickPrep

@[expose] public section

set_option maxRecDepth 16384

noncomputable section

namespace Cert.Kernel20Ideal.Fox

open Cert.Kernel20Ideal Cert.Kernel20Ideal.Gen
open Idealize.ShloMosaic Idealize.ShloMosaic.TcCoe
open Cert.StickTile Cert.FoxTile
open Cert.Reference2Ideal.Stick (lift3 ofBits_eighth)
open Cert.Kernel2Ideal.Stick (lift2 mul_c rowT_l sumT_l)
open Cert.StickMatch (rw')
open Cert.FoxMatch (fst snd)

variable (x : Fin 256 → Fin 128 → ℝ)

theorem pay15_l : k0_pay15 (F := Ideal) k0_pay1 (lift2 x) = lift2 fun p l => if l.val < 64 then x p l * (1 / 8) else 0 := by
  funext w
  obtain ⟨p, l, rfl⟩ : ∃ p l, w = ix2 p l := ⟨w 0, w 1, eq_ix2 w⟩
  pointwise [k0_pay13, k0_pay14, k0_pay15, k0_pay1]
  rw [ofBits_eighth]
  refine (sel_lane l _ _).trans ?_
  rw [mul_c]
  exact low_c l _

theorem pay16_l : k0_pay16 (F := Ideal) k0_pay1 (lift2 x) = lift2 fun p l => if l.val < 64 then 0 else x p l * (1 / 8) := by
  funext w
  obtain ⟨p, l, rfl⟩ : ∃ p l, w = ix2 p l := ⟨w 0, w 1, eq_ix2 w⟩
  pointwise [k0_pay13, k0_pay14, k0_pay16, k0_pay1]
  rw [ofBits_eighth]
  refine (sel_lane l _ _).trans ?_
  rw [mul_c]
  exact high_c l _

theorem pay19_l : k0_pay19 (F := Ideal) k0_pay1 (lift2 x) = lift2 fun p l => if l.val < 64 then x p l * (1 / 8) else 0 := by
  funext w
  obtain ⟨p, l, rfl⟩ : ∃ p l, w = ix2 p l := ⟨w 0, w 1, eq_ix2 w⟩
  pointwise [k0_pay17, k0_pay18, k0_pay19, k0_pay1]
  rw [ofBits_eighth]
  refine (sel_lane l _ _).trans ?_
  rw [mul_c]
  exact low_c l _

theorem pay20_l : k0_pay20 (F := Ideal) k0_pay1 (lift2 x) = lift2 fun p l => if l.val < 64 then 0 else x p l * (1 / 8) := by
  funext w
  obtain ⟨p, l, rfl⟩ : ∃ p l, w = ix2 p l := ⟨w 0, w 1, eq_ix2 w⟩
  pointwise [k0_pay17, k0_pay18, k0_pay20, k0_pay1]
  rw [ofBits_eighth]
  refine (sel_lane l _ _).trans ?_
  rw [mul_c]
  exact high_c l _

theorem pay24_l : k0_pay24 (F := Ideal) k0_pay1 (lift2 x) = lift2 fun p l => if l.val < 64 then x p l else 0 := by
  funext w
  obtain ⟨p, l, rfl⟩ : ∃ p l, w = ix2 p l := ⟨w 0, w 1, eq_ix2 w⟩
  pointwise [k0_pay23, k0_pay24, k0_pay1]
  refine (sel_lane l _ _).trans ?_
  exact low_c l _

theorem pay25_l : k0_pay25 (F := Ideal) k0_pay1 (lift2 x) = lift2 fun p l => if l.val < 64 then 0 else x p l := by
  funext w
  obtain ⟨p, l, rfl⟩ : ∃ p l, w = ix2 p l := ⟨w 0, w 1, eq_ix2 w⟩
  pointwise [k0_pay23, k0_pay25, k0_pay1]
  refine (sel_lane l _ _).trans ?_
  exact high_c l _

theorem pay28_l : k0_pay28 (F := Ideal) k0_pay2 (k0_pay13 (lift2 x)) = lift2 fun l p => if l.val < 64 then x p l * (1 / 8) else 0 := by
  funext w
  obtain ⟨l, p, rfl⟩ : ∃ l p, w = ix2 l p := ⟨w 0, w 1, eq_ix2 w⟩
  pointwise [k0_pay13, k0_pay26, k0_pay27, k0_pay28, k0_pay2]
  rw [ofBits_eighth]
  refine (sel_lane l _ _).trans ?_
  rw [mul_c]
  exact low_c l _

theorem pay29_l : k0_pay29 (F := Ideal) k0_pay2 (k0_pay13 (lift2 x)) = lift2 fun l p => if l.val < 64 then 0 else x p l * (1 / 8) := by
  funext w
  obtain ⟨l, p, rfl⟩ : ∃ l p, w = ix2 l p := ⟨w 0, w 1, eq_ix2 w⟩
  pointwise [k0_pay13, k0_pay26, k0_pay27, k0_pay29, k0_pay2]
  rw [ofBits_eighth]
  refine (sel_lane l _ _).trans ?_
  rw [mul_c]
  exact high_c l _

theorem pay32_l : k0_pay3 (k0_pay32 (F := Ideal) k0_pay2 (lift2 x)) = lift2 fun l p => if l.val < 64 then x p l else 0 := by
  funext w
  obtain ⟨l, p, rfl⟩ : ∃ l p, w = ix2 l p := ⟨w 0, w 1, eq_ix2 w⟩
  pointwise [k0_pay3, k0_pay30, k0_pay31, k0_pay32, k0_pay2]
  refine (sel_lane l _ _).trans ?_
  exact low_c l _

theorem pay33_l : k0_pay4 (k0_pay33 (F := Ideal) k0_pay2 (lift2 x)) = lift2 fun l p => if l.val < 64 then 0 else x p l := by
  funext w
  obtain ⟨l, p, rfl⟩ : ∃ l p, w = ix2 l p := ⟨w 0, w 1, eq_ix2 w⟩
  pointwise [k0_pay4, k0_pay30, k0_pay31, k0_pay33, k0_pay2]
  refine (sel_lane l _ _).trans ?_
  exact high_c l _

theorem pay21_l : k0_pay21 (F := Ideal) (lift2 x) = lift2 x := by
  funext w
  pointwise [k0_pay21]

theorem pay22_l : k0_pay22 (F := Ideal) (lift2 x) = lift2 x := by
  funext w
  pointwise [k0_pay22]

theorem lanT_l (c : Fin 2 → Fin 2048 → ℝ) (h : Fin 2) (t : Fin 8) :
    lanT (Val := Elt Ideal) (e := .f32) (fun w => ((c (w 0) (w 2) : ℝ) : EReal)) h t = lanL fun p => c h (rw' t p) := by
  funext w
  have h0 : (w 0).val < 1 := (w 0).isLt
  refine congrArg (fun r : ℝ => (r : EReal)) (congrArg₂ c (Fin.ext ?_) (Fin.ext ?_))
  · show h.val + 1 * (w 0).val = h.val; omega
  · show 256 * t.val + 1 * (w 2).val = 256 * t.val + (w 2).val; omega

/-- The tiles prepared from real blocks are those of the two heads. -/
theorem prep_l (Q K V R O : Fin 2048 → Fin 128 → ℝ) (ls fq : Fin 2 → Fin 2048 → ℝ) :
    prep (F := Ideal) (lift2 Q) (lift2 K) (lift2 V) (lift2 R) (lift2 O) (fun w => ((ls (w 0) (w 1) : ℝ) : EReal))
        (fun w => ((fq (w 0) (w 1) : ℝ) : EReal)) (fun w => ((fq (w 0) (w 2) : ℝ) : EReal))
      = liftT (fst Q K V R O (ls 0) (fq 0)) (snd Q K V R O (ls 1) (fq 1)) (fun i p l => R (rw' i p) l) (fun i p l => O (rw' i p) l) := by
  have s1 : ∀ (c : Fin 2 → Fin 2048 → ℝ) h, sumT (Val := Elt Ideal) (e := .f32) (fun w => ((c (w 0) (w 1) : ℝ) : EReal)) h = fun t => colL fun p => c h (rw' t p) :=
    fun c h => funext fun t => sumT_l c h t
  have e1 : sumT (Val := Elt Ideal) (e := .f32) (fun w => ((ls (w 0) (w 1) : ℝ) : EReal))
      = fun h t => colL ((two (fst Q K V R O (ls 0) (fq 0)) (snd Q K V R O (ls 1) (fq 1)) h).ls t) := by
    funext h
    match h with
    | 0 => exact s1 ls 0
    | 1 => exact s1 ls 1
  have e2 : sumT (Val := Elt Ideal) (e := .f32) (fun w => ((fq (w 0) (w 1) : ℝ) : EReal))
      = fun h t => colL ((two (fst Q K V R O (ls 0) (fq 0)) (snd Q K V R O (ls 1) (fq 1)) h).fq t) := by
    funext h
    match h with
    | 0 => exact s1 fq 0
    | 1 => exact s1 fq 1
  have e3 : lanT (Val := Elt Ideal) (e := .f32) (fun w => ((fq (w 0) (w 2) : ℝ) : EReal))
      = fun h t => lanL ((two (fst Q K V R O (ls 0) (fq 0)) (snd Q K V R O (ls 1) (fq 1)) h).fk t) := by
    funext h t
    match h with
    | 0 => exact lanT_l fq 0 t
    | 1 => exact lanT_l fq 1 t
  have e4 : ∀ Z : Fin 2048 → Fin 128 → ℝ, rowT (Val := Elt Ideal) (e := .f32) (lift2 Z) = fun t => lift2 fun p l => Z (rw' t p) l := fun Z => funext fun t => rowT_l Z t
  unfold prep liftT
  rw [e1, e2, e3]
  simp only [e4, pay15_l, pay16_l, pay19_l, pay20_l, pay21_l, pay22_l, pay24_l, pay25_l, pay28_l, pay29_l, pay32_l, pay33_l]
  rfl

end Cert.Kernel20Ideal.Fox

end
-- ==== Proof.FoxHost.lean ====
/- The forward's result and the log-sum-exps that the host hands to the forgetting-attention backward, on reals. -/
module

public import proofs.«01_k».proof.Proof.FoxRef
public import proofs.«01_k».proof.Proof.Gen.Kernel20Ideal.Frame

@[expose] public section

set_option maxRecDepth 16384

noncomputable section

namespace Cert.Kernel20Ideal.Fox

open Cert.Kernel20Ideal Cert.Kernel20Ideal.Gen
open Idealize.ShloMosaic Idealize.ShloMosaic.TcCoe Idealize.ShloMosaic.Tactic
open Cert.Reference2Ideal.Stick (lift3)
open Cert.Reference20Ideal.Fox (z W L P v hd ln lane_hd v22_l v23_real L_pos div_c)
open Cert.Kernel2Ideal.Stick (lift2 mul_c add_c sub_c exp_c sum_c)

variable {F : FTy → Type} [FloatOps F] [Named F]
variable (x : (⟨S2048x3200, .f32⟩ : BufTy).Contents (Elt F)) (g : (⟨S16x2048, .f32⟩ : BufTy).Contents (Elt F))

/-- The masked scores and the largest of each row. -/
def hw : (⟨S16x2048x2048, .f32⟩ : BufTy).Contents (Elt F) := Cert.Reference20Ideal.Read.val_main_v22_0 x g
def hm : (⟨S16x2048, .f32⟩ : BufTy).Contents (Elt F) := Cert.Reference20Ideal.Read.val_main_v23 x g
def hmc : (⟨S16x2048x1, .f32⟩ : BufTy).Contents (Elt F) := broadcastInDim S16x2048x1 ![0, 1] bcast_S16x2048_S16x2048x1_0_1 (hm x g)

/-- The exponentials and their totals. -/
def hexp : (⟨S16x2048x2048, .f32⟩ : BufTy).Contents (Elt F) :=
  Host.exp (subf (hw x g) (broadcastInDim S16x2048x2048 ![0, 1, 2] bcast_S16x2048x1_S16x2048x2048_0_1_2 (hmc x g)))
def htot : (⟨S16x2048x1, .f32⟩ : BufTy).Contents (Elt F) :=
  broadcastInDim S16x2048x1 ![0, 1] bcast_S16x2048_S16x2048x1_0_1 (Host.reduceAdd (hexp x g) (constant (F := F) S_ .f32 0x00000000#32) reducesTo_S16x2048x2048_S16x2048_d2 h_S_)

/-- The weights. -/
def hp : (⟨S16x2048x2048, .f32⟩ : BufTy).Contents (Elt F) :=
  Host.divf (hexp x g) (broadcastInDim S16x2048x2048 ![0, 1, 2] bcast_S16x2048x1_S16x2048x2048_0_1_2 (htot x g))

/-- The values, head by head. -/
def hv : (⟨S2048x16x64, .f32⟩ : BufTy).Contents (Elt F) :=
  shapeCast S2048x16x64 (extractStridedSlice S2048x1024 ![0, 2048] (extractStridedSlice S2048x3072 ![0, 0] x slices_S2048x3200_S2048x3072_0_0) slices_S2048x3072_S2048x1024_0_2048) shapeCasts_S2048x1024_S2048x16x64

/-- The forward's result. -/
def ho : (⟨S2048x1024, .f32⟩ : BufTy).Contents (Elt F) :=
  shapeCast S2048x1024 (transpose S2048x16x64 [2, 0, 1] (Host.dotGeneral dot_S2048x16x64_S16x2048x2048_S16x64x2048_0_2_2_1_1_0 none (hv x) (hp x g)) transposes_S16x64x2048_S2048x16x64_2_0_1) shapeCasts_S2048x16x64_S2048x1024

/-- The log-sum-exps. -/
def hl : (⟨S16x2048x1, .f32⟩ : BufTy).Contents (Elt F) := addf (hmc x g) (Host.log (htot x g))

variable (m : (ℓ : Loc nD τ sig) → Buf (Elt F) ℓ)

set_option maxHeartbeats 20000000 in
theorem V_main_v34 (c : Dev nD) : V m c main_v34 = ho (m ((c : Thread nD τ).loc main_arg0)) (m ((c : Thread nD τ).loc main_arg1)) := by
  unfold_abbrev_sides
  simp only [List.flatten_cons, List.flatten_nil, List.append_nil, List.cons_append, List.nil_append]
  after_results
  rfl

set_option maxHeartbeats 20000000 in
theorem V_main_v36 (c : Dev nD) : V m c main_v36 = hl (m ((c : Thread nD τ).loc main_arg0)) (m ((c : Thread nD τ).loc main_arg1)) := by
  unfold_abbrev_sides
  simp only [List.flatten_cons, List.flatten_nil, List.append_nil, List.cons_append, List.nil_append]
  after_results
  rfl

set_option maxHeartbeats 20000000 in
theorem V_main_v37 (c : Dev nD) : V m c main_v37 = broadcastInDim S16x2048x1 ![0, 1] bcast_S16x2048_S16x2048x1_0_1 (m ((c : Thread nD τ).loc main_arg1)) := by
  unfold_abbrev_sides
  simp only [List.flatten_cons, List.flatten_nil, List.append_nil, List.cons_append, List.nil_append]
  after_results

set_option maxHeartbeats 20000000 in
theorem V_main_v38 (c : Dev nD) : V m c main_v38 = broadcastInDim S16x1x2048 ![0, 2] bcast_S16x2048_S16x1x2048_0_2 (m ((c : Thread nD τ).loc main_arg1)) := by
  unfold_abbrev_sides
  simp only [List.flatten_cons, List.flatten_nil, List.append_nil, List.cons_append, List.nil_append]
  after_results

variable (X : Fin 2048 → Fin 3200 → ℝ) (f : Fin 16 → Fin 2048 → ℝ)

theorem hm_real : ∃ M : Fin 16 → Fin 2048 → ℝ, hm (F := Ideal) (lift2 X) (lift2 f) = lift2 M := by
  obtain ⟨M, hM⟩ := Classical.axiom_of_choice fun w : Fin 16 × Fin 2048 => v23_real X f w.1 w.2
  refine ⟨fun a b => M (a, b), funext fun w => ?_⟩
  obtain ⟨a, b, rfl⟩ : ∃ a b, w = ix2 a b := ⟨w 0, w 1, eq_ix2 w⟩
  exact hM (a, b)

theorem add_at {s : Shape} (a b : FVec Ideal s .f32) (i : s.Idx) : addf (F := Ideal) (φ := .f32) a b i = a i + b i := rfl

theorem log_c (r : ℝ) (h : 0 < r) : Ideal.log (r : EReal) = ((Real.log r : ℝ) : EReal) := by
  show (if r ≤ 0 then (⊥ : EReal) else ((Real.log r : ℝ) : EReal)) = _
  rw [if_neg h.not_ge]

section
variable (M : Fin 16 → Fin 2048 → ℝ) (hM : hm (F := Ideal) (lift2 X) (lift2 f) = lift2 M)
include hM

theorem hexp_l : hexp (F := Ideal) (lift2 X) (lift2 f) = lift3 fun h t s => W X f h t s * Real.exp (-M h t) := by
  funext w
  obtain ⟨h, t, s, rfl⟩ : ∃ h t s, w = ix3 h t s := ⟨w 0, w 1, w 2, eq_ix3 w⟩
  pointwise [hexp, hmc]
  unfold hw
  rw [hM, v22_l]
  by_cases hs : s ≤ t
  · rw [if_pos hs]
    show Ideal.exp (((z X f h t s : ℝ) : EReal) - ((M h t : ℝ) : EReal)) = ((W X f h t s * Real.exp (-M h t) : ℝ) : EReal)
    unfold W
    rw [sub_c, exp_c, if_pos hs, ← Real.exp_add, sub_eq_add_neg]
  · rw [if_neg hs, EReal.bot_sub]
    show (0 : EReal) = ((W X f h t s * Real.exp (-M h t) : ℝ) : EReal)
    unfold W
    rw [if_neg hs, zero_mul]; rfl

theorem htot_l : htot (F := Ideal) (lift2 X) (lift2 f) = lift3 fun h t _ => L X f h t * Real.exp (-M h t) := by
  funext w
  obtain ⟨h, t, y, rfl⟩ : ∃ h t s, w = ix3 h t s := ⟨w 0, w 1, w 2, eq_ix3 w⟩
  pointwise [htot]
  rw [hexp_l X f M hM]
  simp only [sum_c]
  refine congrArg (fun r : ℝ => (r : EReal)) ?_
  show ∑ s, W X f h t s * Real.exp (-M h t) = (∑ s, W X f h t s) * Real.exp (-M h t)
  rw [Finset.sum_mul]

theorem hp_l : hp (F := Ideal) (lift2 X) (lift2 f) = lift3 (P X f) := by
  funext w
  obtain ⟨h, t, s, rfl⟩ : ∃ h t s, w = ix3 h t s := ⟨w 0, w 1, w 2, eq_ix3 w⟩
  pointwise [hp]
  rw [hexp_l X f M hM, htot_l X f M hM]
  have hL := L_pos X f h t
  have hE := Real.exp_pos (-M h t)
  refine (div_c _ _ (by positivity)).trans (congrArg (fun r : ℝ => (r : EReal)) ?_)
  exact mul_div_mul_right _ _ hE.ne'

theorem hl_M : hl (F := Ideal) (lift2 X) (lift2 f) = fun w => ((Real.log (L X f (w 0) (w 1)) : ℝ) : EReal) := by
  funext w
  obtain ⟨h, t, y, rfl⟩ : ∃ h t s, w = ix3 h t s := ⟨w 0, w 1, w 2, eq_ix3 w⟩
  have hL := L_pos X f h t
  have hE := Real.exp_pos (-M h t)
  have h1 : hmc (F := Ideal) (lift2 X) (lift2 f) (ix3 h t y) = ((M h t : ℝ) : EReal) := by
    pointwise [hmc]
    rw [hM]
    rfl
  have h2 : Host.log (F := Ideal) (φ := .f32) (htot (F := Ideal) (lift2 X) (lift2 f)) (ix3 h t y) = ((Real.log (L X f h t * Real.exp (-M h t)) : ℝ) : EReal) := by
    rw [htot_l X f M hM]
    exact log_c _ (by positivity)
  unfold hl
  rw [add_at, h1, h2, add_c, Real.log_mul hL.ne' hE.ne', Real.log_exp]
  refine congrArg (fun r : ℝ => (r : EReal)) ?_
  show M h t + (Real.log (L X f h t) + -M h t) = Real.log (L X f h t)
  ring

end

theorem hl_l : hl (F := Ideal) (lift2 X) (lift2 f) = fun w => ((Real.log (L X f (w 0) (w 1)) : ℝ) : EReal) := by
  obtain ⟨M, hM⟩ := hm_real X f
  exact hl_M X f M hM

theorem ho_l : ho (F := Ideal) (lift2 X) (lift2 f) = lift2 fun t c => ∑ s, v X (hd c) s (ln c) * P X f (hd c) t s := by
  obtain ⟨M, hM⟩ := hm_real X f
  funext w
  obtain ⟨t, c, rfl⟩ : ∃ t c, w = ix2 t c := ⟨w 0, w 1, eq_ix2 w⟩
  pointwise [ho, hv]
  rw [hp_l X f M hM]
  simp only [mul_c, sum_c]
  have e : ∀ s, v X (hd c) s (ln c) = X s ⟨2048 + c.val, by have := c.isLt; omega⟩ := fun s => congrArg (X s) (Fin.ext (congrArg (2048 + ·) (lane_hd c)))
  refine congrArg (fun r : ℝ => (r : EReal)) ?_
  show _ = ∑ s, v X (hd c) s (ln c) * P X f (hd c) t s
  simp only [e]
  rfl

end Cert.Kernel20Ideal.Fox

end
-- ==== Proof.FoxGrad.lean ====
/- The forgetting-attention backward: the arrays the run leaves, and the reference's. -/
module

public import proofs.«01_k».proof.Defs
public import proofs.«01_k».proof.Proof.FoxPrep
public import proofs.«01_k».proof.Proof.FoxHost
public import proofs.«01_k».proof.Proof.FoxFrame
public import proofs.«01_k».proof.Proof.StickGrad
public import proofs.«01_k».proof.Proof.Reals
public import proofs.«01_k».proof.Proof.Gen.Reference20Ideal
public import proofs.«01_k».proof.Proof.Gen.Pre_finite20
public import Idealize.ShloMosaic.Lib.Pipeline.ValueKit
public import Idealize.ShloMosaic.Lib.Pointwise
public import Idealize.ShloMosaic.Lib.Quiescent

@[expose] public section

set_option maxRecDepth 16384

noncomputable section

open Idealize.ShloMosaic Idealize.ShloMosaic.TcCoe Idealize.SL.Sem
open Idealize.ShloMosaic.Pipeline (Dat)

namespace Cert.Kernel20Ideal.Fox

open Cert.Kernel20Ideal Cert.Kernel20Ideal.Gen Cert.StickTile Cert.FoxTile
open Cert.Reference2Ideal.Stick (lift3)
open Cert.Reference20Ideal.Fox (q k v o ds P L hd ln)
open Cert.Kernel2Ideal.Stick (lift2 unrow_at rw_div)
open Cert.StickMatch (rw')
open Cert.FoxMatch (colQ colK colV colO colR cc he lse fwd tq_sum tk_sum tv_sum rsum_eq csum_eq)

variable (m : (ℓ : Loc nD τ sig) → Buf (Elt Ideal) ℓ)

theorem idx : ∀ t : Fin grid0.N, (win0_0.index t = ![0, (grid0.coords t 0).val] ∧ win0_1.index t = ![0, 8 + (grid0.coords t 0).val]
    ∧ win0_2.index t = ![0, 16 + (grid0.coords t 0).val] ∧ win0_3.index t = ![0, (grid0.coords t 0).val]
    ∧ win0_4.index t = ![0, (grid0.coords t 0).val] ∧ win0_5.index t = ![(grid0.coords t 0).val, 0, 0])
    ∧ (win0_6.index t = ![(grid0.coords t 0).val, 0, 0] ∧ win0_7.index t = ![(grid0.coords t 0).val, 0, 0])
    ∧ win0_8.index t = ![0, (grid0.coords t 0).val] ∧ win0_9.index t = ![0, (grid0.coords t 0).val]
    ∧ win0_10.index t = ![0, (grid0.coords t 0).val] ∧ win0_11.index t = ![(grid0.coords t 0).val, 0, 0]
    ∧ win0_12.index t = ![(grid0.coords t 0).val, 0, 0] := by decide +kernel

/-- The pair of heads of a grid point. -/
abbrev pr (t : Fin cfg0.N) : ℕ := (grid0.coords t 0).val
theorem pr_lt (t : Fin cfg0.N) : pr t < 8 := (grid0.coords t 0).isLt

variable (X : Fin 2048 → Fin 3200 → ℝ) (f : Fin 16 → Fin 2048 → ℝ) (Y : Fin 2048 → Fin 1024 → ℝ) (c : Dev nD)
variable (hX : m ((c : Thread nD τ).loc main_arg0) = lift2 X) (hf : m ((c : Thread nD τ).loc main_arg1) = lift2 f)
variable (hY : m ((c : Thread nD τ).loc main_arg2) = lift2 Y)

include hX in
theorem iblk0 (t : Fin cfg0.N) : iblk m c 0 t = lift2 (colQ X (pr t) (pr_lt t)) := by
  funext w
  obtain ⟨p, l, rfl⟩ : ∃ p l, w = ix2 p l := ⟨w 0, w 1, eq_ix2 w⟩
  have hV : V m c main_arg0 = lift2 X := (V_main_arg0 m c).trans hX
  have e1 : iblk m c 0 t (ix2 p l) = V m c main_arg0 (ix2 p ⟨128 * pr t + l.val, by have := l.isLt; have := pr_lt t; omega⟩) := by
    blk_point [iblk, idx t]
    all_goals (simp only [pr]; omega)
  rw [e1, hV]
  rfl

include hX in
theorem iblk1 (t : Fin cfg0.N) : iblk m c 1 t = lift2 (colK X (pr t) (pr_lt t)) := by
  funext w
  obtain ⟨p, l, rfl⟩ : ∃ p l, w = ix2 p l := ⟨w 0, w 1, eq_ix2 w⟩
  have hV : V m c main_arg0 = lift2 X := (V_main_arg0 m c).trans hX
  have e1 : iblk m c 1 t (ix2 p l) = V m c main_arg0 (ix2 p ⟨1024 + (128 * pr t + l.val), by have := l.isLt; have := pr_lt t; omega⟩) := by
    blk_point [iblk, idx t]
    all_goals (simp only [pr]; omega)
  rw [e1, hV]
  rfl

include hX in
theorem iblk2 (t : Fin cfg0.N) : iblk m c 2 t = lift2 (colV X (pr t) (pr_lt t)) := by
  funext w
  obtain ⟨p, l, rfl⟩ : ∃ p l, w = ix2 p l := ⟨w 0, w 1, eq_ix2 w⟩
  have hV : V m c main_arg0 = lift2 X := (V_main_arg0 m c).trans hX
  have e1 : iblk m c 2 t (ix2 p l) = V m c main_arg0 (ix2 p ⟨2048 + (128 * pr t + l.val), by have := l.isLt; have := pr_lt t; omega⟩) := by
    blk_point [iblk, idx t]
    all_goals (simp only [pr]; omega)
  rw [e1, hV]
  rfl

include hX hf in
theorem iblk3 (t : Fin cfg0.N) : iblk m c 3 t = lift2 (colR X f (pr t) (pr_lt t)) := by
  funext w
  obtain ⟨p, l, rfl⟩ : ∃ p l, w = ix2 p l := ⟨w 0, w 1, eq_ix2 w⟩
  have hV : V m c main_v34 = lift2 (fwd X f) := (V_main_v34 m c).trans ((congrArg₂ ho hX hf).trans (ho_l X f))
  have e1 : iblk m c 3 t (ix2 p l) = V m c main_v34 (ix2 p ⟨128 * pr t + l.val, by have := l.isLt; have := pr_lt t; omega⟩) := by
    blk_point [iblk, idx t]
    all_goals (simp only [pr]; omega)
  rw [e1, hV]
  rfl

include hY in
theorem iblk4 (t : Fin cfg0.N) : iblk m c 4 t = lift2 (colO Y (pr t) (pr_lt t)) := by
  funext w
  obtain ⟨p, l, rfl⟩ : ∃ p l, w = ix2 p l := ⟨w 0, w 1, eq_ix2 w⟩
  have hV : V m c main_arg2 = lift2 Y := (V_main_arg2 m c).trans hY
  have e1 : iblk m c 4 t (ix2 p l) = V m c main_arg2 (ix2 p ⟨128 * pr t + l.val, by have := l.isLt; have := pr_lt t; omega⟩) := by
    blk_point [iblk, idx t]
    all_goals (simp only [pr]; omega)
  rw [e1, hV]
  rfl

include hX hf in
theorem V_lse : V m c main_v36 = fun w => ((lse X f (w 0) (w 1) : ℝ) : EReal) :=
  (V_main_v36 m c).trans ((congrArg₂ hl hX hf).trans (hl_l X f))

theorem read5 (Z : (⟨S16x2048x1, .f32⟩ : BufTy).Contents (Elt Ideal)) (t : Fin cfg0.N) (e : Fin 2) (p : Fin 2048) (l : Fin 1) :
    ((cfg0.win 5).blk t).view.read (Elt Ideal) Z (ix3 e p l) = Z (ix3 (⟨2 * pr t + e.val, by have := e.isLt; have := pr_lt t; omega⟩ : Fin 16) p l) := by
  blk_point [idx t]
  all_goals (simp only [pr]; omega)

include hX hf in
theorem iblk5 (t : Fin cfg0.N) : iblk m c 5 t = fun w => ((lse X f (he (pr t) (pr_lt t) (w 0)) (w 1) : ℝ) : EReal) := by
  funext w
  obtain ⟨e, p, l, rfl⟩ : ∃ e p l, w = ix3 e p l := ⟨w 0, w 1, w 2, eq_ix3 w⟩
  exact (read5 (V m c main_v36) t e p l).trans (congrFun (V_lse m X f c hX hf) _)

theorem fcol_l : broadcastInDim S16x2048x1 ![0, 1] bcast_S16x2048_S16x2048x1_0_1 (lift2 f) = fun w => ((f (w 0) (w 1) : ℝ) : EReal) := by
  funext w
  obtain ⟨h, t, y, rfl⟩ : ∃ h t y, w = ix3 h t y := ⟨w 0, w 1, w 2, eq_ix3 w⟩
  pointwise []
  rfl

theorem frow_l : broadcastInDim S16x1x2048 ![0, 2] bcast_S16x2048_S16x1x2048_0_2 (lift2 f) = fun w => ((f (w 0) (w 2) : ℝ) : EReal) := by
  funext w
  obtain ⟨h, y, t, rfl⟩ : ∃ h y t, w = ix3 h y t := ⟨w 0, w 1, w 2, eq_ix3 w⟩
  pointwise []
  rfl

include hf in
theorem iblk6 (t : Fin cfg0.N) : iblk m c 6 t = fun w => ((f (he (pr t) (pr_lt t) (w 0)) (w 1) : ℝ) : EReal) := by
  funext w
  obtain ⟨e, p, l, rfl⟩ : ∃ e p l, w = ix3 e p l := ⟨w 0, w 1, w 2, eq_ix3 w⟩
  have hV : V m c main_v37 = fun w => ((f (w 0) (w 1) : ℝ) : EReal) := (V_main_v37 m c).trans ((congrArg _ hf).trans (fcol_l f))
  have e1 : iblk m c 6 t (ix3 e p l) = V m c main_v37 (ix3 (⟨2 * pr t + e.val, by have := e.isLt; have := pr_lt t; omega⟩ : Fin 16) p l) := by
    blk_point [iblk, idx t]
    all_goals (simp only [pr]; omega)
  rw [e1, hV]
  rfl

include hf in
theorem iblk7 (t : Fin cfg0.N) : iblk m c 7 t = fun w => ((f (he (pr t) (pr_lt t) (w 0)) (w 2) : ℝ) : EReal) := by
  funext w
  obtain ⟨e, p, l, rfl⟩ : ∃ e p l, w = ix3 e p l := ⟨w 0, w 1, w 2, eq_ix3 w⟩
  have hV : V m c main_v38 = fun w => ((f (w 0) (w 2) : ℝ) : EReal) := (V_main_v38 m c).trans ((congrArg _ hf).trans (frow_l f))
  have e1 : iblk m c 7 t (ix3 e p l) = V m c main_v38 (ix3 (⟨2 * pr t + e.val, by have := e.isLt; have := pr_lt t; omega⟩ : Fin 16) p l) := by
    blk_point [iblk, idx t]
    all_goals (simp only [pr]; omega)
  rw [e1, hV]
  rfl

/-- The five gradients. -/
def Gq : Vec Ideal S2048x1024 .f32 := lift2 fun t c => (∑ s, ds X f Y (hd c) t s * k X (hd c) s (ln c)) * (1 / 8)
def Gk : Vec Ideal S2048x1024 .f32 := lift2 fun s c => ∑ t, ds X f Y (hd c) t s * (q X (hd c) t (ln c) * (1 / 8))
def Gv : Vec Ideal S2048x1024 .f32 := lift2 fun s c => ∑ t, o Y (hd c) t (ln c) * P X f (hd c) t s
def Gr : Vec Ideal S16x1x2048 .f32 := lift3 fun h _ s => -∑ t, ds X f Y h t s
def Gc : Vec Ideal S16x2048x1 .f32 := lift3 fun h t _ => ∑ s, ds X f Y h t s

/-- The pair of heads of a grid point, in tiles. -/
abbrev HA (t : Fin cfg0.N) : HeadR := Cert.FoxMatch.A X f Y (pr t) (pr_lt t)
abbrev HB (t : Fin cfg0.N) : HeadR := Cert.FoxMatch.B X f Y (pr t) (pr_lt t)

/-- The two go together. -/
theorem hp_AB (t : Fin cfg0.N) : Pair (HA X f Y t) (HB X f Y t) (fun i p l => colR X f (pr t) (pr_lt t) (rw' i p) l) (fun i p l => colO Y (pr t) (pr_lt t) (rw' i p) l) :=
  Cert.FoxMatch.pair _ _ _ _ _ _ _ _ _

include hX hf hY in
theorem D_l (t : Fin cfg0.N) : D m c t = liftT (HA X f Y t) (HB X f Y t)
    (fun i p l => colR X f (pr t) (pr_lt t) (rw' i p) l) (fun i p l => colO Y (pr t) (pr_lt t) (rw' i p) l) := by
  unfold D
  rw [iblk0 m X c hX, iblk1 m X c hX, iblk2 m X c hX, iblk3 m X f c hX hf, iblk4 m Y c hY, iblk5 m X f c hX hf, iblk6 m f c hf, iblk7 m f c hf]
  exact prep_l _ _ _ _ _ (fun e => lse X f (he (pr t) (pr_lt t) e)) (fun e => f (he (pr t) (pr_lt t) e))

include hX hf hY in
theorem dq_l (t : Fin cfg0.N) (r : Fin 2048) (l : Fin 128) : dq (D m c t) (ix2 r l) = Gq X f Y (ix2 r (cc (pr t) (pr_lt t) l)) := by
  rw [D_l m X f Y c hX hf hY]
  unfold dq
  rw [rows8_l (hp_AB X f Y t)]
  refine (unrow_at _ r l).trans ((congrArg (fun r : ℝ => (r : EReal)) (tq_sum X f Y (pr t) (pr_lt t) ⟨r.val / 256, by have := r.isLt; omega⟩ ⟨r.val % 256, by omega⟩ l)).trans ?_)
  rw [rw_div r]
  rfl

include hX hf hY in
theorem dk_l (t : Fin cfg0.N) (r : Fin 2048) (l : Fin 128) : dk (D m c t) (ix2 r l) = Gk X f Y (ix2 r (cc (pr t) (pr_lt t) l)) := by
  rw [D_l m X f Y c hX hf hY]
  unfold dk
  rw [rows8_l (hp_AB X f Y t)]
  simp only [pay11_l]
  refine (unrow_at _ r l).trans ((congrArg (fun r : ℝ => (r : EReal)) (tk_sum X f Y (pr t) (pr_lt t) ⟨r.val / 256, by have := r.isLt; omega⟩ l ⟨r.val % 256, by omega⟩)).trans ?_)
  rw [rw_div r]
  rfl

include hX hf hY in
theorem dv_l (t : Fin cfg0.N) (r : Fin 2048) (l : Fin 128) : dv (D m c t) (ix2 r l) = Gv X f Y (ix2 r (cc (pr t) (pr_lt t) l)) := by
  rw [D_l m X f Y c hX hf hY]
  unfold dv
  rw [rows8_l (hp_AB X f Y t)]
  simp only [pay12_l]
  refine (unrow_at _ r l).trans ((congrArg (fun r : ℝ => (r : EReal)) (tv_sum X f Y (pr t) (pr_lt t) ⟨r.val / 256, by have := r.isLt; omega⟩ l ⟨r.val % 256, by omega⟩)).trans ?_)
  rw [rw_div r]
  rfl

theorem unlan_at (T : Fin 2 → Fin 8 → (⟨3, ![1, 1, 256]⟩ : Shape).Idx → Elt Ideal .f32) (e : Fin 2) (y : Fin 1) (r : Fin 2048) :
    unlan (Val := Elt Ideal) (e := .f32) T (ix3 e y r) = T e ⟨r.val / 256, by have := r.isLt; omega⟩ (ix3 0 0 ⟨r.val % 256, by omega⟩) := rfl

theorem unsum_at (T : Fin 2 → Fin 8 → (⟨3, ![1, 256, 1]⟩ : Shape).Idx → Elt Ideal .f32) (e : Fin 2) (r : Fin 2048) (y : Fin 1) :
    unsum (Val := Elt Ideal) (e := .f32) T (ix3 e r y) = T e ⟨r.val / 256, by have := r.isLt; omega⟩ (ix3 0 ⟨r.val % 256, by omega⟩ 0) := rfl

include hX hf hY in
theorem dfr_l (t : Fin cfg0.N) (e : Fin 2) (y : Fin 1) (r : Fin 2048) : dfr (D m c t) (ix3 e y r) = Gr X f Y (ix3 (he (pr t) (pr_lt t) e) y r) := by
  rw [D_l m X f Y c hX hf hY]
  unfold dfr
  rw [rows8_l (hp_AB X f Y t)]
  refine (unlan_at _ e y r).trans ((congrArg (fun r : ℝ => (r : EReal)) (csum_eq X f Y (pr t) (pr_lt t) e ⟨r.val / 256, by have := r.isLt; omega⟩ ⟨r.val % 256, by omega⟩)).trans ?_)
  rw [rw_div r]
  rfl

include hX hf hY in
theorem dfc_l (t : Fin cfg0.N) (e : Fin 2) (r : Fin 2048) (y : Fin 1) : dfc (D m c t) (ix3 e r y) = Gc X f Y (ix3 (he (pr t) (pr_lt t) e) r y) := by
  rw [D_l m X f Y c hX hf hY]
  unfold dfc
  rw [rows8_l (hp_AB X f Y t)]
  refine (unsum_at _ e r y).trans ((congrArg (fun r : ℝ => (r : EReal)) (rsum_eq X f Y (pr t) (pr_lt t) e ⟨r.val / 256, by have := r.isLt; omega⟩ ⟨r.val % 256, by omega⟩)).trans ?_)
  rw [rw_div r]
  rfl

include hX hf hY in
theorem final8 : (dats m 0 c).arrAt 8 cfg0.N = Gq X f Y := by
  refine (dats m 0 c).arrAt_eq_of_covers 8 _ (by decide +kernel) fun t hf' y => ?_
  obtain ⟨r, l, rfl⟩ : ∃ r l, y = ix2 r l := ⟨y 0, y 1, eq_ix2 y⟩
  blk_simp
  rw [after0_8]
  refine (dq_l m X f Y c hX hf hY t r l).trans ?_
  blk_point [idx t]
  show 128 * (grid0.coords t 0).val + l.val = _
  omega

include hX hf hY in
theorem final9 : (dats m 0 c).arrAt 9 cfg0.N = Gk X f Y := by
  refine (dats m 0 c).arrAt_eq_of_covers 9 _ (by decide +kernel) fun t hf' y => ?_
  obtain ⟨r, l, rfl⟩ : ∃ r l, y = ix2 r l := ⟨y 0, y 1, eq_ix2 y⟩
  blk_simp
  rw [after0_9]
  refine (dk_l m X f Y c hX hf hY t r l).trans ?_
  blk_point [idx t]
  show 128 * (grid0.coords t 0).val + l.val = _
  omega

include hX hf hY in
theorem final10 : (dats m 0 c).arrAt 10 cfg0.N = Gv X f Y := by
  refine (dats m 0 c).arrAt_eq_of_covers 10 _ (by decide +kernel) fun t hf' y => ?_
  obtain ⟨r, l, rfl⟩ : ∃ r l, y = ix2 r l := ⟨y 0, y 1, eq_ix2 y⟩
  blk_simp
  rw [after0_10]
  refine (dv_l m X f Y c hX hf hY t r l).trans ?_
  blk_point [idx t]
  show 128 * (grid0.coords t 0).val + l.val = _
  omega

include hX hf hY in
theorem final11 : (dats m 0 c).arrAt 11 cfg0.N = Gr X f Y := by
  refine (dats m 0 c).arrAt_eq_of_covers 11 _ (by decide +kernel) fun t hf' y => ?_
  obtain ⟨e, r, l, rfl⟩ : ∃ e r l, y = ix3 e r l := ⟨y 0, y 1, y 2, eq_ix3 y⟩
  blk_simp
  rw [after0_11]
  refine (dfr_l m X f Y c hX hf hY t e r l).trans ?_
  blk_point [idx t]
  show 2 * (grid0.coords t 0).val + e.val = _
  omega

include hX hf hY in
theorem final12 : (dats m 0 c).arrAt 12 cfg0.N = Gc X f Y := by
  refine (dats m 0 c).arrAt_eq_of_covers 12 _ (by decide +kernel) fun t hf' y => ?_
  obtain ⟨e, r, l, rfl⟩ : ∃ e r l, y = ix3 e r l := ⟨y 0, y 1, y 2, eq_ix3 y⟩
  blk_simp
  rw [after0_12]
  refine (dfc_l m X f Y c hX hf hY t e r l).trans ?_
  blk_point [idx t]
  show 2 * (grid0.coords t 0).val + e.val = _
  omega

/-- The run with the five gradients named. -/
theorem run_blocks (ρ : Dev nD → PrngReg) : θ_run defs (onTc (τ := τ) (main (F := Ideal))) ⟨m, fun _ => 0, ρ⟩ fun r => ∀ c : Dev nD,
      r.2.mem ((c.tc : Thread nD τ).loc main_v39_0) = (dats m 0 c).arrAt 8 cfg0.N
      ∧ r.2.mem ((c.tc : Thread nD τ).loc main_v39_1) = (dats m 0 c).arrAt 9 cfg0.N
      ∧ r.2.mem ((c.tc : Thread nD τ).loc main_v39_2) = (dats m 0 c).arrAt 10 cfg0.N
      ∧ r.2.mem ((c.tc : Thread nD τ).loc main_v39_3) = (dats m 0 c).arrAt 11 cfg0.N
      ∧ r.2.mem ((c.tc : Thread nD τ).loc main_v39_4) = (dats m 0 c).arrAt 12 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun r h c => ⟨(h.1.1 c).1 8, (h.1.1 c).1 9, (h.1.1 c).1 10, (h.1.1 c).1 11, (h.1.1 c).1 12, h.2.1 c⟩)
    (θ_run_and (run_main_quiescent m ρ) (frame_run m ρ))

end Cert.Kernel20Ideal.Fox

namespace Cert.Proof.Fox

open Cert.Kernel2Ideal.Stick (lift2)
open Cert.Kernel20Ideal.Fox (Gq Gk Gv Gr Gc)
open Cert.Proof.Stick (lift_of)

/-- The precondition says that every argument is real, element by element. -/
theorem real_of_pre (x : Vec Ideal Cert.Kernel20Ideal.S2048x3200 .f32) (f : Vec Ideal Cert.Kernel20Ideal.S16x2048 .f32)
    (y : Vec Ideal Cert.Kernel20Ideal.S2048x1024 .f32) (h : Cert.Pre_finite20.fn (F := Ideal) x f y = fun _ => 1#1) :
    (∀ i, ∃ r : ℝ, x i = (r : EReal)) ∧ (∀ i, ∃ r : ℝ, f i = (r : EReal)) ∧ (∀ i, ∃ r : ℝ, y i = (r : EReal)) := by
  have hh := congrFun h (fun a => a.elim0)
  haveI : Subsingleton Cert.Pre_finite20.S_.Idx := ⟨fun a b => funext fun k => k.elim0⟩
  unfold Cert.Pre_finite20.fn at hh
  obtain ⟨hh, h2⟩ := IntOp.andi_eq_one.1 hh
  obtain ⟨h0, h1⟩ := IntOp.andi_eq_one.1 hh
  exact ⟨fun i => Cert.Reals.real_of_cmp _ (Host.reduce_andi_all _ _ _ _ _ h0 i),
    fun i => Cert.Reals.real_of_cmp _ (Host.reduce_andi_all _ _ _ _ _ h1 i),
    fun i => Cert.Reals.real_of_cmp _ (Host.reduce_andi_all _ _ _ _ _ h2 i)⟩

theorem algebraic : Cert.algebraic_Kernel20Ideal_Reference20Ideal_pre_finite20 := by
  intro m ρ m' ρ' hpre hagree
  have hX : ∀ c : Dev Cert.Kernel20Ideal.nD, ∃ X : Fin 2048 → Fin 3200 → ℝ, m ((c.tc : Thread Cert.Kernel20Ideal.nD Cert.Kernel20Ideal.τ).loc Cert.Kernel20Ideal.main_arg0) = lift2 X :=
    fun c => lift_of _ (real_of_pre _ _ _ (hpre c)).1
  have hf : ∀ c : Dev Cert.Kernel20Ideal.nD, ∃ f : Fin 16 → Fin 2048 → ℝ, m ((c.tc : Thread Cert.Kernel20Ideal.nD Cert.Kernel20Ideal.τ).loc Cert.Kernel20Ideal.main_arg1) = lift2 f :=
    fun c => lift_of _ (real_of_pre _ _ _ (hpre c)).2.1
  have hY : ∀ c : Dev Cert.Kernel20Ideal.nD, ∃ Y : Fin 2048 → Fin 1024 → ℝ, m ((c.tc : Thread Cert.Kernel20Ideal.nD Cert.Kernel20Ideal.τ).loc Cert.Kernel20Ideal.main_arg2) = lift2 Y :=
    fun c => lift_of _ (real_of_pre _ _ _ (hpre c)).2.2
  obtain ⟨X, hX⟩ := Classical.axiom_of_choice hX
  obtain ⟨f, hf⟩ := Classical.axiom_of_choice hf
  obtain ⟨Y, hY⟩ := Classical.axiom_of_choice hY
  refine ⟨fun c => Gq (X c) (f c) (Y c), fun c => Gk (X c) (f c) (Y c), fun c => Gv (X c) (f c) (Y c), fun c => Gr (X c) (f c) (Y c), fun c => Gc (X c) (f c) (Y c), ?_, ?_⟩
  · exact (θ_run Cert.Kernel20Ideal.defs _ _).mono
      (fun _ h c => ⟨(h c).1.trans (Cert.Kernel20Ideal.Fox.final8 m _ _ _ c (hX c) (hf c) (hY c)),
        (h c).2.1.trans (Cert.Kernel20Ideal.Fox.final9 m _ _ _ c (hX c) (hf c) (hY c)),
        (h c).2.2.1.trans (Cert.Kernel20Ideal.Fox.final10 m _ _ _ c (hX c) (hf c) (hY c)),
        (h c).2.2.2.1.trans (Cert.Kernel20Ideal.Fox.final11 m _ _ _ c (hX c) (hf c) (hY c)),
        (h c).2.2.2.2.1.trans (Cert.Kernel20Ideal.Fox.final12 m _ _ _ c (hX c) (hf c) (hY c)),
        (h c).2.2.2.2.2⟩)
      (Cert.Kernel20Ideal.Fox.run_blocks m ρ)
  · refine (θ_run Cert.Reference20Ideal.defs _ _).mono (fun _ h c => ?_) (Cert.Reference20Ideal.Value.run (F := Ideal) m' ρ')
    have e0 := (hagree c).1.trans (hX c)
    have e1 := (hagree c).2.1.trans (hf c)
    have e2 := (hagree c).2.2.trans (hY c)
    refine ⟨(h c).1.trans ((Cert.Reference20Ideal.Read.val_main_v85_eq _ _).trans ?_),
      (h c).2.1.trans ((Cert.Reference20Ideal.Read.val_main_v87_eq _ _).trans ?_),
      (h c).2.2.1.trans ((Cert.Reference20Ideal.Read.val_main_v89_eq _ _).trans ?_),
      (h c).2.2.2.1.trans ((Cert.Reference20Ideal.Read.val_main_v90_eq _ _).trans ?_),
      (h c).2.2.2.2.1.trans ((Cert.Reference20Ideal.Read.val_main_v91_eq _ _).trans ?_),
      (h c).2.2.2.2.2⟩
    · rw [e0, e1, e2]; exact Cert.Reference20Ideal.Fox.v85_l _ _ _
    · rw [e0, e1, e2]; exact Cert.Reference20Ideal.Fox.v87_l _ _ _
    · rw [e0, e1, e2]; exact Cert.Reference20Ideal.Fox.v89_l _ _ _
    · rw [e0, e1, e2]; exact Cert.Reference20Ideal.Fox.v90_l _ _ _
    · rw [e0, e1, e2]; exact Cert.Reference20Ideal.Fox.v91_l _ _ _

theorem frame_reference : Cert.quiescent_Reference20Ideal := fun m ρ _ =>
  (θ_run Cert.Reference20Ideal.defs _ _).mono (fun r h => ⟨fun c => (h c).2.2.2.2.2,
      Idealize.ShloMosaic.sem_eq_zero_of_no_sems (by decide) r.2⟩)
    (Cert.Reference20Ideal.Value.run (F := Ideal) m ρ)

theorem frame_reference_pre : Cert.quiescent_Reference20Ideal_pre_finite20 := fun m ρ _ =>
  frame_reference m ρ trivial

end Cert.Proof.Fox

end
-- ==== Proof.lean ====
/- The claims of the statement: each program's frame, that its idealization keeps it, and that it computes its reference over
   the reals. The mathematics is in the modules imported below. -/
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Kernel2
public import proofs.«01_k».proof.Proof.Gen.Kernel2.Frame
public import proofs.«01_k».proof.Proof.Gen.Kernel2Ideal
public import proofs.«01_k».proof.Proof.Gen.Kernel2Ideal.Frame
public import proofs.«01_k».proof.Proof.Gen.Reference2Ideal
public import proofs.«01_k».proof.Proof.Gen.Reference2Ideal.Run
public import proofs.«01_k».proof.Proof.Gen.Reference2Ideal.Read
public import proofs.«01_k».proof.Proof.Gen.Kernel3
public import proofs.«01_k».proof.Proof.Gen.Kernel3.Frame
public import proofs.«01_k».proof.Proof.Gen.Kernel3Ideal
public import proofs.«01_k».proof.Proof.Gen.Kernel3Ideal.Frame
public import proofs.«01_k».proof.Proof.Gen.Reference3Ideal
public import proofs.«01_k».proof.Proof.Gen.Kernel4
public import proofs.«01_k».proof.Proof.Gen.Kernel4.Frame
public import proofs.«01_k».proof.Proof.Gen.Kernel4Ideal
public import proofs.«01_k».proof.Proof.Gen.Kernel4Ideal.Frame
public import proofs.«01_k».proof.Proof.Gen.Reference4Ideal
public import proofs.«01_k».proof.Proof.Gen.Kernel5
public import proofs.«01_k».proof.Proof.Gen.Kernel5.Frame
public import proofs.«01_k».proof.Proof.Gen.Kernel5Ideal
public import proofs.«01_k».proof.Proof.Gen.Kernel5Ideal.Frame
public import proofs.«01_k».proof.Proof.Gen.Reference5Ideal
public import proofs.«01_k».proof.Proof.Gen.Kernel6
public import proofs.«01_k».proof.Proof.Gen.Kernel6.Frame
public import proofs.«01_k».proof.Proof.Gen.Kernel6Ideal
public import proofs.«01_k».proof.Proof.Gen.Kernel6Ideal.Frame
public import proofs.«01_k».proof.Proof.Gen.Reference6Ideal
public import proofs.«01_k».proof.Proof.Gen.Kernel7
public import proofs.«01_k».proof.Proof.Gen.Kernel7.Frame
public import proofs.«01_k».proof.Proof.Gen.Kernel7Ideal
public import proofs.«01_k».proof.Proof.Gen.Kernel7Ideal.Frame
public import proofs.«01_k».proof.Proof.Gen.Reference7Ideal
public import proofs.«01_k».proof.Proof.Gen.Kernel8
public import proofs.«01_k».proof.Proof.Gen.Kernel8.Frame
public import proofs.«01_k».proof.Proof.Gen.Kernel8Ideal
public import proofs.«01_k».proof.Proof.Gen.Kernel8Ideal.Frame
public import proofs.«01_k».proof.Proof.Gen.Reference8Ideal
public import proofs.«01_k».proof.Proof.Gen.Kernel9
public import proofs.«01_k».proof.Proof.Gen.Kernel9.Frame
public import proofs.«01_k».proof.Proof.Gen.Kernel9Ideal
public import proofs.«01_k».proof.Proof.Gen.Kernel9Ideal.Frame
public import proofs.«01_k».proof.Proof.Gen.Reference9Ideal
public import proofs.«01_k».proof.Proof.Gen.Kernel10
public import proofs.«01_k».proof.Proof.Gen.Kernel10.Frame
public import proofs.«01_k».proof.Proof.Gen.Kernel10Ideal
public import proofs.«01_k».proof.Proof.Gen.Kernel10Ideal.Frame
public import proofs.«01_k».proof.Proof.Gen.Reference10Ideal
public import proofs.«01_k».proof.Proof.Gen.Kernel11
public import proofs.«01_k».proof.Proof.Gen.Kernel11.Frame
public import proofs.«01_k».proof.Proof.Gen.Kernel11Ideal
public import proofs.«01_k».proof.Proof.Gen.Kernel11Ideal.Frame
public import proofs.«01_k».proof.Proof.Gen.Reference11Ideal
public import proofs.«01_k».proof.Proof.Gen.Kernel12
public import proofs.«01_k».proof.Proof.Gen.Kernel12.Frame
public import proofs.«01_k».proof.Proof.Gen.Kernel12Ideal
public import proofs.«01_k».proof.Proof.Gen.Kernel12Ideal.Frame
public import proofs.«01_k».proof.Proof.Gen.Reference12Ideal
public import proofs.«01_k».proof.Proof.Gen.Kernel13
public import proofs.«01_k».proof.Proof.Gen.Kernel13.Frame
public import proofs.«01_k».proof.Proof.Gen.Kernel13Ideal
public import proofs.«01_k».proof.Proof.Gen.Kernel13Ideal.Frame
public import proofs.«01_k».proof.Proof.Gen.Reference13Ideal
public import proofs.«01_k».proof.Proof.Gen.Kernel14
public import proofs.«01_k».proof.Proof.Gen.Kernel14.Frame
public import proofs.«01_k».proof.Proof.Gen.Kernel14Ideal
public import proofs.«01_k».proof.Proof.Gen.Kernel14Ideal.Frame
public import proofs.«01_k».proof.Proof.Gen.Reference14Ideal
public import proofs.«01_k».proof.Proof.Gen.Kernel15
public import proofs.«01_k».proof.Proof.Gen.Kernel15.Frame
public import proofs.«01_k».proof.Proof.Gen.Kernel15Ideal
public import proofs.«01_k».proof.Proof.Gen.Kernel15Ideal.Frame
public import proofs.«01_k».proof.Proof.Gen.Reference15Ideal
public import proofs.«01_k».proof.Proof.Gen.Kernel16
public import proofs.«01_k».proof.Proof.Gen.Kernel16.Frame
public import proofs.«01_k».proof.Proof.Gen.Kernel16Ideal
public import proofs.«01_k».proof.Proof.Gen.Kernel16Ideal.Frame
public import proofs.«01_k».proof.Proof.Gen.Reference16Ideal
public import proofs.«01_k».proof.Proof.Gen.Kernel17
public import proofs.«01_k».proof.Proof.Gen.Kernel17.Frame
public import proofs.«01_k».proof.Proof.Gen.Kernel17Ideal
public import proofs.«01_k».proof.Proof.Gen.Kernel17Ideal.Frame
public import proofs.«01_k».proof.Proof.Gen.Reference17Ideal
public import proofs.«01_k».proof.Proof.Gen.Kernel18
public import proofs.«01_k».proof.Proof.Gen.Kernel18.Frame
public import proofs.«01_k».proof.Proof.Gen.Kernel18Ideal
public import proofs.«01_k».proof.Proof.Gen.Kernel18Ideal.Frame
public import proofs.«01_k».proof.Proof.Gen.Reference18Ideal
public import proofs.«01_k».proof.Proof.Gen.Kernel19
public import proofs.«01_k».proof.Proof.Gen.Kernel19.Frame
public import proofs.«01_k».proof.Proof.Gen.Kernel19Ideal
public import proofs.«01_k».proof.Proof.Gen.Kernel19Ideal.Frame
public import proofs.«01_k».proof.Proof.Gen.Reference19Ideal
public import proofs.«01_k».proof.Proof.Gen.Kernel20
public import proofs.«01_k».proof.Proof.Gen.Kernel20Ideal
public import proofs.«01_k».proof.Proof.Gen.Reference20Ideal
public import proofs.«01_k».proof.Proof.Gen.Pre_finite
public import proofs.«01_k».proof.Proof.Gen.Pre_finite2
public import proofs.«01_k».proof.Proof.Gen.Pre_finite14
public import proofs.«01_k».proof.Proof.Gen.Pre_finite15
public import proofs.«01_k».proof.Proof.Gen.Pre_finite16
public import proofs.«01_k».proof.Proof.Gen.Pre_finite18
public import proofs.«01_k».proof.Proof.Gen.Pre_finite20
public import proofs.«01_k».proof.Proof.GateGrad
public import proofs.«01_k».proof.Proof.StickTwin
public import proofs.«01_k».proof.Proof.StickGrad
public import proofs.«01_k».proof.Proof.FfnInDw
public import proofs.«01_k».proof.Proof.FfnOutDw
public import proofs.«01_k».proof.Proof.QkvDw
public import proofs.«01_k».proof.Proof.QkvfDw
public import proofs.«01_k».proof.Proof.WoDw
public import proofs.«01_k».proof.Proof.WoDx
public import proofs.«01_k».proof.Proof.FfnInFwd
public import proofs.«01_k».proof.Proof.FfnOutFwd
public import proofs.«01_k».proof.Proof.QkvFwd
public import proofs.«01_k».proof.Proof.QkvfFwd
public import proofs.«01_k».proof.Proof.WoFwd
public import proofs.«01_k».proof.Proof.FfnInDx
public import proofs.«01_k».proof.Proof.QkvDx
public import proofs.«01_k».proof.Proof.QkvfDx
public import proofs.«01_k».proof.Proof.NormFwd
public import proofs.«01_k».proof.Proof.FinalLoss
public import proofs.«01_k».proof.Proof.AdamSmall
public import proofs.«01_k».proof.Proof.FoxTwin
public import proofs.«01_k».proof.Proof.FoxGrad
public import Idealize.ShloMosaic.Adequacy
public import Idealize.ShloMosaic.Init

@[expose] public section

noncomputable section

namespace Cert.Proof

open Idealize.ShloMosaic Idealize.SL.Sem

/-- Every claim, in the order in which they are stated. -/
theorem claim : Cert.Claim := ⟨Cert.Kernel.Gen.facts, Cert.KernelIdeal.Gen.facts, Cert.ReferenceIdeal.Gen.facts,
    Cert.Kernel2.Gen.facts, Cert.Kernel2Ideal.Gen.facts, Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Kernel5.Gen.facts, Cert.Kernel5Ideal.Gen.facts, Cert.Reference5Ideal.Gen.facts,
    Cert.Kernel6.Gen.facts, Cert.Kernel6Ideal.Gen.facts, Cert.Reference6Ideal.Gen.facts,
    Cert.Kernel7.Gen.facts, Cert.Kernel7Ideal.Gen.facts, Cert.Reference7Ideal.Gen.facts,
    Cert.Kernel8.Gen.facts, Cert.Kernel8Ideal.Gen.facts, Cert.Reference8Ideal.Gen.facts,
    Cert.Kernel9.Gen.facts, Cert.Kernel9Ideal.Gen.facts, Cert.Reference9Ideal.Gen.facts,
    Cert.Kernel10.Gen.facts, Cert.Kernel10Ideal.Gen.facts, Cert.Reference10Ideal.Gen.facts,
    Cert.Kernel11.Gen.facts, Cert.Kernel11Ideal.Gen.facts, Cert.Reference11Ideal.Gen.facts,
    Cert.Kernel12.Gen.facts, Cert.Kernel12Ideal.Gen.facts, Cert.Reference12Ideal.Gen.facts,
    Cert.Kernel13.Gen.facts, Cert.Kernel13Ideal.Gen.facts, Cert.Reference13Ideal.Gen.facts,
    Cert.Kernel14.Gen.facts, Cert.Kernel14Ideal.Gen.facts, Cert.Reference14Ideal.Gen.facts,
    Cert.Kernel15.Gen.facts, Cert.Kernel15Ideal.Gen.facts, Cert.Reference15Ideal.Gen.facts,
    Cert.Kernel16.Gen.facts, Cert.Kernel16Ideal.Gen.facts, Cert.Reference16Ideal.Gen.facts,
    Cert.Kernel17.Gen.facts, Cert.Kernel17Ideal.Gen.facts, Cert.Reference17Ideal.Gen.facts,
    Cert.Kernel18.Gen.facts, Cert.Kernel18Ideal.Gen.facts, Cert.Reference18Ideal.Gen.facts,
    Cert.Kernel19.Gen.facts, Cert.Kernel19Ideal.Gen.facts, Cert.Reference19Ideal.Gen.facts,
    Cert.Kernel20.Gen.facts, Cert.Kernel20Ideal.Gen.facts, Cert.Reference20Ideal.Gen.facts,
    Cert.Pre_finite.Gen.facts, Cert.Pre_finite2.Gen.facts,
    Cert.Pre_finite14.Gen.facts, Cert.Pre_finite15.Gen.facts, Cert.Pre_finite16.Gen.facts, Cert.Pre_finite18.Gen.facts,
    Cert.Pre_finite20.Gen.facts, by
  exact ⟨fun m ρ _ => Cert.Kernel.Gen.frame m ρ, fun m ρ _ => Cert.KernelIdeal.Gen.frame m ρ,
    fun m ρ _ => Cert.KernelIdeal.Gen.frame m ρ, GateGrad.frame_reference, GateGrad.frame_reference_pre,
    StickTwin.frame_kernel, fun m ρ _ => Cert.Kernel2Ideal.Stick.frame_run m ρ,
    fun m ρ _ => Cert.Kernel2Ideal.Stick.frame_run m ρ, Stick.frame_reference, Stick.frame_reference_pre,
    fun m ρ _ => Cert.Kernel3.Gen.frame m ρ, fun m ρ _ => Cert.Kernel3Ideal.Gen.frame m ρ, FfnInDw.frame_reference,
    fun m ρ _ => Cert.Kernel4.Gen.frame m ρ, fun m ρ _ => Cert.Kernel4Ideal.Gen.frame m ρ, FfnOutDw.frame_reference,
    fun m ρ _ => Cert.Kernel5.Gen.frame m ρ, fun m ρ _ => Cert.Kernel5Ideal.Gen.frame m ρ, QkvDw.frame_reference,
    fun m ρ _ => Cert.Kernel6.Gen.frame m ρ, fun m ρ _ => Cert.Kernel6Ideal.Gen.frame m ρ, QkvfDw.frame_reference,
    fun m ρ _ => Cert.Kernel7.Gen.frame m ρ, fun m ρ _ => Cert.Kernel7Ideal.Gen.frame m ρ, WoDw.frame_reference,
    fun m ρ _ => Cert.Kernel8.Gen.frame m ρ, fun m ρ _ => Cert.Kernel8Ideal.Gen.frame m ρ, WoDx.frame_reference,
    fun m ρ _ => Cert.Kernel9.Gen.frame m ρ, fun m ρ _ => Cert.Kernel9Ideal.Gen.frame m ρ, FfnInFwd.frame_reference,
    fun m ρ _ => Cert.Kernel10.Gen.frame m ρ, fun m ρ _ => Cert.Kernel10Ideal.Gen.frame m ρ, FfnOutFwd.frame_reference,
    fun m ρ _ => Cert.Kernel11.Gen.frame m ρ, fun m ρ _ => Cert.Kernel11Ideal.Gen.frame m ρ, QkvFwd.frame_reference,
    fun m ρ _ => Cert.Kernel12.Gen.frame m ρ, fun m ρ _ => Cert.Kernel12Ideal.Gen.frame m ρ, QkvfFwd.frame_reference,
    fun m ρ _ => Cert.Kernel13.Gen.frame m ρ, fun m ρ _ => Cert.Kernel13Ideal.Gen.frame m ρ, WoFwd.frame_reference,
    fun m ρ _ => Cert.Kernel14.Gen.frame m ρ, fun m ρ _ => Cert.Kernel14Ideal.Gen.frame m ρ,
      fun m ρ _ => Cert.Kernel14Ideal.Gen.frame m ρ, FfnInDx.frame_reference, FfnInDx.frame_reference_pre,
    fun m ρ _ => Cert.Kernel15.Gen.frame m ρ, fun m ρ _ => Cert.Kernel15Ideal.Gen.frame m ρ,
      fun m ρ _ => Cert.Kernel15Ideal.Gen.frame m ρ, QkvDx.frame_reference, QkvDx.frame_reference_pre,
    fun m ρ _ => Cert.Kernel16.Gen.frame m ρ, fun m ρ _ => Cert.Kernel16Ideal.Gen.frame m ρ,
      fun m ρ _ => Cert.Kernel16Ideal.Gen.frame m ρ, QkvfDx.frame_reference, QkvfDx.frame_reference_pre,
    fun m ρ _ => Cert.Kernel17.Gen.frame m ρ, fun m ρ _ => Cert.Kernel17Ideal.Gen.frame m ρ,
      NormFwd.frame_reference,
    fun m ρ _ => Cert.Kernel18.Gen.frame m ρ, fun m ρ _ => Cert.Kernel18Ideal.Gen.frame m ρ,
      fun m ρ _ => Cert.Kernel18Ideal.Gen.frame m ρ, FinalLoss.frame_reference, FinalLoss.frame_reference_pre,
    fun m ρ _ => Cert.Kernel19.Gen.frame m ρ, fun m ρ _ => Cert.Kernel19Ideal.Gen.frame m ρ,
      AdamSmall.frame_reference,
    FoxTwin.frame_kernel, fun m ρ _ => Cert.Kernel20Ideal.Fox.frame_run m ρ,
      fun m ρ _ => Cert.Kernel20Ideal.Fox.frame_run m ρ, Fox.frame_reference, Fox.frame_reference_pre,
    trivial, GateGrad.algebraic, trivial, Stick.algebraic,
    trivial, FfnInDw.algebraic, trivial, FfnOutDw.algebraic, trivial, QkvDw.algebraic, trivial, QkvfDw.algebraic,
    trivial, WoDw.algebraic, trivial, WoDx.algebraic, trivial, FfnInFwd.algebraic, trivial, FfnOutFwd.algebraic,
    trivial, QkvFwd.algebraic, trivial, QkvfFwd.algebraic, trivial, WoFwd.algebraic,
    trivial, FfnInDx.algebraic, trivial, QkvDx.algebraic, trivial, QkvfDx.algebraic, trivial, NormFwd.algebraic,
    trivial, FinalLoss.algebraic, trivial, AdamSmall.algebraic,
    IdealRules.named_const.statement Cert.Kernel20Ideal.κ "mask" .f32 0xF149F2CA#32 ⊥ rfl, Fox.algebraic⟩⟩

end Cert.Proof

end
